-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Dff2 (m : (ℓ : Loc Cert.Dff2.nD Cert.Dff2.τ Cert.Dff2.sig) → Buf (Elt Bits) ℓ) : Prop :=
  True

def Pre_Dff2Ideal (m : (ℓ : Loc Cert.Dff2Ideal.nD Cert.Dff2Ideal.τ Cert.Dff2Ideal.sig) → Buf (Elt Ideal) ℓ) : Prop :=
  True

def Pre_Dff2ReferenceIdeal (m : (ℓ : Loc Cert.Dff2ReferenceIdeal.nD Cert.Dff2ReferenceIdeal.τ Cert.Dff2ReferenceIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2ReferenceIdeal (m : (ℓ : Loc Cert.Dw2ReferenceIdeal.nD Cert.Dw2ReferenceIdeal.τ Cert.Dw2ReferenceIdeal.sig) → Buf (Elt Ideal) ℓ) : Prop :=
  True

def Pre_Dw1 (m : (ℓ : Loc Cert.Dw1.nD Cert.Dw1.τ Cert.Dw1.sig) → Buf (Elt Bits) ℓ) : Prop :=
  True

def Pre_Dw1Ideal (m : (ℓ : Loc Cert.Dw1Ideal.nD Cert.Dw1Ideal.τ Cert.Dw1Ideal.sig) → Buf (Elt Ideal) ℓ) : Prop :=
  True

def Pre_Dw1ReferenceIdeal (m : (ℓ : Loc Cert.Dw1ReferenceIdeal.nD Cert.Dw1ReferenceIdeal.τ Cert.Dw1ReferenceIdeal.sig) → Buf (Elt Ideal) ℓ) : Prop :=
  True

def Pre_Dnorm2 (m : (ℓ : Loc Cert.Dnorm2.nD Cert.Dnorm2.τ Cert.Dnorm2.sig) → Buf (Elt Bits) ℓ) : Prop :=
  True

def Pre_Dnorm2Ideal (m : (ℓ : Loc Cert.Dnorm2Ideal.nD Cert.Dnorm2Ideal.τ Cert.Dnorm2Ideal.sig) → Buf (Elt Ideal) ℓ) : Prop :=
  True

def Pre_Dnorm2ReferenceIdeal (m : (ℓ : Loc Cert.Dnorm2ReferenceIdeal.nD Cert.Dnorm2ReferenceIdeal.τ Cert.Dnorm2ReferenceIdeal.sig) → Buf (Elt Ideal) ℓ) : Prop :=
  True

def Pre_Dple (m : (ℓ : Loc Cert.Dple.nD Cert.Dple.τ Cert.Dple.sig) → Buf (Elt Bits) ℓ) : Prop :=
  True

def Pre_DpleIdeal (m : (ℓ : Loc Cert.DpleIdeal.nD Cert.DpleIdeal.τ Cert.DpleIdeal.sig) → Buf (Elt Ideal) ℓ) : Prop :=
  True

def Pre_DpleReferenceIdeal (m : (ℓ : Loc Cert.DpleReferenceIdeal.nD Cert.DpleReferenceIdeal.τ Cert.DpleReferenceIdeal.sig) → Buf (Elt Ideal) ℓ) : Prop :=
  True

def Pre_Dwg (m : (ℓ : Loc Cert.Dwg.nD Cert.Dwg.τ Cert.Dwg.sig) → Buf (Elt Bits) ℓ) : Prop :=
  True

def Pre_DwgIdeal (m : (ℓ : Loc Cert.DwgIdeal.nD Cert.DwgIdeal.τ Cert.DwgIdeal.sig) → Buf (Elt Ideal) ℓ) : Prop :=
  True

def Pre_DwgReferenceIdeal (m : (ℓ : Loc Cert.DwgReferenceIdeal.nD Cert.DwgReferenceIdeal.τ Cert.DwgReferenceIdeal.sig) → Buf (Elt Ideal) ℓ) : Prop :=
  True

def Pre_Dwp (m : (ℓ : Loc Cert.Dwp.nD Cert.Dwp.τ Cert.Dwp.sig) → Buf (Elt Bits) ℓ) : Prop :=
  True

def Pre_DwpIdeal (m : (ℓ : Loc Cert.DwpIdeal.nD Cert.DwpIdeal.τ Cert.DwpIdeal.sig) → Buf (Elt Ideal) ℓ) : Prop :=
  True

def Pre_DwpReferenceIdeal (m : (ℓ : Loc Cert.DwpReferenceIdeal.nD Cert.DwpReferenceIdeal.τ Cert.DwpReferenceIdeal.sig) → Buf (Elt Ideal) ℓ) : Prop :=
  True

def Pre_Dout (m : (ℓ : Loc Cert.Dout.nD Cert.Dout.τ Cert.Dout.sig) → Buf (Elt Bits) ℓ) : Prop :=
  True

def Pre_DoutIdeal (m : (ℓ : Loc Cert.DoutIdeal.nD Cert.DoutIdeal.τ Cert.DoutIdeal.sig) → Buf (Elt Ideal) ℓ) : Prop :=
  True

def Pre_DoutReferenceIdeal (m : (ℓ : Loc Cert.DoutReferenceIdeal.nD Cert.DoutReferenceIdeal.τ Cert.DoutReferenceIdeal.sig) → Buf (Elt Ideal) ℓ) : Prop :=
  True

def Pre_Dwo (m : (ℓ : Loc Cert.Dwo.nD Cert.Dwo.τ Cert.Dwo.sig) → Buf (Elt Bits) ℓ) : Prop :=
  True

def Pre_DwoIdeal (m : (ℓ : Loc Cert.DwoIdeal.nD Cert.DwoIdeal.τ Cert.DwoIdeal.sig) → Buf (Elt Ideal) ℓ) : Prop :=
  True

def Pre_DwoReferenceIdeal (m : (ℓ : Loc Cert.DwoReferenceIdeal.nD Cert.DwoReferenceIdeal.τ Cert.DwoReferenceIdeal.sig) → Buf (Elt Ideal) ℓ) : Prop :=
  True

def Pre_Dwi (m : (ℓ : Loc Cert.Dwi.nD Cert.Dwi.τ Cert.Dwi.sig) → Buf (Elt Bits) ℓ) : Prop :=
  True

def Pre_DwiIdeal (m : (ℓ : Loc Cert.DwiIdeal.nD Cert.DwiIdeal.τ Cert.DwiIdeal.sig) → Buf (Elt Ideal) ℓ) : Prop :=
  True

def Pre_DwiReferenceIdeal (m : (ℓ : Loc Cert.DwiReferenceIdeal.nD Cert.DwiReferenceIdeal.τ Cert.DwiReferenceIdeal.sig) → Buf (Elt Ideal) ℓ) : Prop :=
  True

def Pre_Dnorm1 (m : (ℓ : Loc Cert.Dnorm1.nD Cert.Dnorm1.τ Cert.Dnorm1.sig) → Buf (Elt Bits) ℓ) : Prop :=
  True

def Pre_Dnorm1Ideal (m : (ℓ : Loc Cert.Dnorm1Ideal.nD Cert.Dnorm1Ideal.τ Cert.Dnorm1Ideal.sig) → Buf (Elt Ideal) ℓ) : Prop :=
  True

def Pre_Dnorm1ReferenceIdeal (m : (ℓ : Loc Cert.Dnorm1ReferenceIdeal.nD Cert.Dnorm1ReferenceIdeal.τ Cert.Dnorm1ReferenceIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2ReferenceIdeal (m : (ℓ : Loc Cert.Ff2ReferenceIdeal.nD Cert.Ff2ReferenceIdeal.τ Cert.Ff2ReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguIdeal_finite16 [hPre_finite16 : Cert.Pre_finite16.Facts] (m : (ℓ : Loc Cert.SguIdeal.nD Cert.SguIdeal.τ Cert.SguIdeal.sig) → Buf (Elt Ideal) ℓ) : Prop :=
  ∀ c : Dev Cert.SguIdeal.nD,
    (Cert.Pre_finite16.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4))).1 = (fun _ => 1#1)
    ∧ (Cert.Pre_finite16.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4))).2 = (fun _ => 1#1)

def Pre_SguReferenceIdeal (m : (ℓ : Loc Cert.SguReferenceIdeal.nD Cert.SguReferenceIdeal.τ Cert.SguReferenceIdeal.sig) → Buf (Elt Ideal) ℓ) : Prop :=
  True

def Pre_SguReferenceIdeal_finite16 [hPre_finite16 : Cert.Pre_finite16.Facts] (m : (ℓ : Loc Cert.SguReferenceIdeal.nD Cert.SguReferenceIdeal.τ Cert.SguReferenceIdeal.sig) → Buf (Elt Ideal) ℓ) : Prop :=
  ∀ c : Dev Cert.SguReferenceIdeal.nD,
    (Cert.Pre_finite16.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4))).1 = (fun _ => 1#1)
    ∧ (Cert.Pre_finite16.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4))).2 = (fun _ => 1#1)

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInReferenceIdeal (m : (ℓ : Loc Cert.NormInReferenceIdeal.nD Cert.NormInReferenceIdeal.τ Cert.NormInReferenceIdeal.sig) → Buf (Elt Ideal) ℓ) : Prop :=
  True

def Pre_NormFf (m : (ℓ : Loc Cert.NormFf.nD Cert.NormFf.τ Cert.NormFf.sig) → Buf (Elt Bits) ℓ) : Prop :=
  True

def Pre_NormFfIdeal (m : (ℓ : Loc Cert.NormFfIdeal.nD Cert.NormFfIdeal.τ Cert.NormFfIdeal.sig) → Buf (Elt Ideal) ℓ) : Prop :=
  True

def Pre_NormFfReferenceIdeal (m : (ℓ : Loc Cert.NormFfReferenceIdeal.nD Cert.NormFfReferenceIdeal.τ Cert.NormFfReferenceIdeal.sig) → Buf (Elt Ideal) ℓ) : Prop :=
  True

def Pre_NormGate (m : (ℓ : Loc Cert.NormGate.nD Cert.NormGate.τ Cert.NormGate.sig) → Buf (Elt Bits) ℓ) : Prop :=
  True

def Pre_NormGateIdeal (m : (ℓ : Loc Cert.NormGateIdeal.nD Cert.NormGateIdeal.τ Cert.NormGateIdeal.sig) → Buf (Elt Ideal) ℓ) : Prop :=
  True

def Pre_NormGateReferenceIdeal (m : (ℓ : Loc Cert.NormGateReferenceIdeal.nD Cert.NormGateReferenceIdeal.τ Cert.NormGateReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormReferenceIdeal (m : (ℓ : Loc Cert.AdamNormReferenceIdeal.nD Cert.AdamNormReferenceIdeal.τ Cert.AdamNormReferenceIdeal.sig) → Buf (Elt Ideal) ℓ) : Prop :=
  True

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_AdamHeadReferenceIdeal (m : (ℓ : Loc Cert.AdamHeadReferenceIdeal.nD Cert.AdamHeadReferenceIdeal.τ Cert.AdamHeadReferenceIdeal.sig) → Buf (Elt Ideal) ℓ) : Prop :=
  True

def Pre_AdamSguNorm (m : (ℓ : Loc Cert.AdamSguNorm.nD Cert.AdamSguNorm.τ Cert.AdamSguNorm.sig) → Buf (Elt Bits) ℓ) : Prop :=
  True

def Pre_AdamSguNormIdeal (m : (ℓ : Loc Cert.AdamSguNormIdeal.nD Cert.AdamSguNormIdeal.τ Cert.AdamSguNormIdeal.sig) → Buf (Elt Ideal) ℓ) : Prop :=
  True

def Pre_AdamSguNormReferenceIdeal (m : (ℓ : Loc Cert.AdamSguNormReferenceIdeal.nD Cert.AdamSguNormReferenceIdeal.τ Cert.AdamSguNormReferenceIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvReferenceIdeal (m : (ℓ : Loc Cert.AdamConvReferenceIdeal.nD Cert.AdamConvReferenceIdeal.τ Cert.AdamConvReferenceIdeal.sig) → Buf (Elt Ideal) ℓ) : Prop :=
  True

def Pre_AdamSguW (m : (ℓ : Loc Cert.AdamSguW.nD Cert.AdamSguW.τ Cert.AdamSguW.sig) → Buf (Elt Bits) ℓ) : Prop :=
  True

def Pre_AdamSguWIdeal (m : (ℓ : Loc Cert.AdamSguWIdeal.nD Cert.AdamSguWIdeal.τ Cert.AdamSguWIdeal.sig) → Buf (Elt Ideal) ℓ) : Prop :=
  True

def Pre_AdamSguWReferenceIdeal (m : (ℓ : Loc Cert.AdamSguWReferenceIdeal.nD Cert.AdamSguWReferenceIdeal.τ Cert.AdamSguWReferenceIdeal.sig) → Buf (Elt Ideal) ℓ) : Prop :=
  True

def Pre_AdamSguB (m : (ℓ : Loc Cert.AdamSguB.nD Cert.AdamSguB.τ Cert.AdamSguB.sig) → Buf (Elt Bits) ℓ) : Prop :=
  True

def Pre_AdamSguBIdeal (m : (ℓ : Loc Cert.AdamSguBIdeal.nD Cert.AdamSguBIdeal.τ Cert.AdamSguBIdeal.sig) → Buf (Elt Ideal) ℓ) : Prop :=
  True

def Pre_AdamSguBReferenceIdeal (m : (ℓ : Loc Cert.AdamSguBReferenceIdeal.nD Cert.AdamSguBReferenceIdeal.τ Cert.AdamSguBReferenceIdeal.sig) → Buf (Elt Ideal) ℓ) : Prop :=
  True

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdIdeal_finite27 [hPre_finite27 : Cert.Pre_finite27.Facts] (m : (ℓ : Loc Cert.SguFwdIdeal.nD Cert.SguFwdIdeal.τ Cert.SguFwdIdeal.sig) → Buf (Elt Ideal) ℓ) : Prop :=
  ∀ c : Dev Cert.SguFwdIdeal.nD,
    (Cert.Pre_finite27.fn (F := Ideal) (m ((c.tc : Thread Cert.SguFwdIdeal.nD Cert.SguFwdIdeal.τ).loc Cert.SguFwdIdeal.main_arg0)) (m ((c.tc : Thread Cert.SguFwdIdeal.nD Cert.SguFwdIdeal.τ).loc Cert.SguFwdIdeal.main_arg1)) (m ((c.tc : Thread Cert.SguFwdIdeal.nD Cert.SguFwdIdeal.τ).loc Cert.SguFwdIdeal.main_arg2)) (m ((c.tc : Thread Cert.SguFwdIdeal.nD Cert.SguFwdIdeal.τ).loc Cert.SguFwdIdeal.main_arg3)) (m ((c.tc : Thread Cert.SguFwdIdeal.nD Cert.SguFwdIdeal.τ).loc Cert.SguFwdIdeal.main_arg4))) = (fun _ => 1#1)

def Pre_SguFwdReferenceIdeal (m : (ℓ : Loc Cert.SguFwdReferenceIdeal.nD Cert.SguFwdReferenceIdeal.τ Cert.SguFwdReferenceIdeal.sig) → Buf (Elt Ideal) ℓ) : Prop :=
  True

def Pre_SguFwdReferenceIdeal_finite27 [hPre_finite27 : Cert.Pre_finite27.Facts] (m : (ℓ : Loc Cert.SguFwdReferenceIdeal.nD Cert.SguFwdReferenceIdeal.τ Cert.SguFwdReferenceIdeal.sig) → Buf (Elt Ideal) ℓ) : Prop :=
  ∀ c : Dev Cert.SguFwdReferenceIdeal.nD,
    (Cert.Pre_finite27.fn (F := Ideal) (m ((c.tc : Thread Cert.SguFwdReferenceIdeal.nD Cert.SguFwdReferenceIdeal.τ).loc Cert.SguFwdReferenceIdeal.main_arg0)) (m ((c.tc : Thread Cert.SguFwdReferenceIdeal.nD Cert.SguFwdReferenceIdeal.τ).loc Cert.SguFwdReferenceIdeal.main_arg1)) (m ((c.tc : Thread Cert.SguFwdReferenceIdeal.nD Cert.SguFwdReferenceIdeal.τ).loc Cert.SguFwdReferenceIdeal.main_arg2)) (m ((c.tc : Thread Cert.SguFwdReferenceIdeal.nD Cert.SguFwdReferenceIdeal.τ).loc Cert.SguFwdReferenceIdeal.main_arg3)) (m ((c.tc : Thread Cert.SguFwdReferenceIdeal.nD Cert.SguFwdReferenceIdeal.τ).loc Cert.SguFwdReferenceIdeal.main_arg4))) = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdReferenceIdeal (m : (ℓ : Loc Cert.ConvFwdReferenceIdeal.nD Cert.ConvFwdReferenceIdeal.τ Cert.ConvFwdReferenceIdeal.sig) → Buf (Elt Ideal) ℓ) : Prop :=
  True

def Pre_AdamBig (m : (ℓ : Loc Cert.AdamBig.nD Cert.AdamBig.τ Cert.AdamBig.sig) → Buf (Elt Bits) ℓ) : Prop :=
  True

def Pre_AdamBigIdeal (m : (ℓ : Loc Cert.AdamBigIdeal.nD Cert.AdamBigIdeal.τ Cert.AdamBigIdeal.sig) → Buf (Elt Ideal) ℓ) : Prop :=
  True

def Pre_AdamBigReferenceIdeal (m : (ℓ : Loc Cert.AdamBigReferenceIdeal.nD Cert.AdamBigReferenceIdeal.τ Cert.AdamBigReferenceIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_Dff2 [hDff2 : Cert.Dff2.Facts] : Prop :=
  ∀ (m : (ℓ : Loc Cert.Dff2.nD Cert.Dff2.τ Cert.Dff2.sig) → Buf (Elt Bits) ℓ) (g : Dev Cert.Dff2.nD → PrngReg), Pre_Dff2 m →
    θ_run (Cert.Dff2.defs (F := Bits)) (onTc (τ := Cert.Dff2.τ) (Cert.Dff2.main (F := Bits))) ⟨m, fun _ => 0, g⟩ (fun r => (∀ c : Dev Cert.Dff2.nD,
      r.2.mem ((c.tc : Thread Cert.Dff2.nD Cert.Dff2.τ).loc Cert.Dff2.main_arg0) = m ((c.tc : Thread Cert.Dff2.nD Cert.Dff2.τ).loc Cert.Dff2.main_arg0)
      ∧ r.2.mem ((c.tc : Thread Cert.Dff2.nD Cert.Dff2.τ).loc Cert.Dff2.main_arg1) = m ((c.tc : Thread Cert.Dff2.nD Cert.Dff2.τ).loc Cert.Dff2.main_arg1)
      ∧ r.2.mem ((c.tc : Thread Cert.Dff2.nD Cert.Dff2.τ).loc Cert.Dff2.main_arg2) = m ((c.tc : Thread Cert.Dff2.nD Cert.Dff2.τ).loc Cert.Dff2.main_arg2))
      ∧ r.2.sem = fun _ => 0)

def quiescent_Dff2Ideal [hDff2Ideal : Cert.Dff2Ideal.Facts] : Prop :=
  ∀ (m : (ℓ : Loc Cert.Dff2Ideal.nD Cert.Dff2Ideal.τ Cert.Dff2Ideal.sig) → Buf (Elt Ideal) ℓ) (g : Dev Cert.Dff2Ideal.nD → PrngReg), Pre_Dff2Ideal m →
    θ_run (Cert.Dff2Ideal.defs (F := Ideal)) (onTc (τ := Cert.Dff2Ideal.τ) (Cert.Dff2Ideal.main (F := Ideal))) ⟨m, fun _ => 0, g⟩ (fun r => (∀ c : Dev Cert.Dff2Ideal.nD,
      r.2.mem ((c.tc : Thread Cert.Dff2Ideal.nD Cert.Dff2Ideal.τ).loc Cert.Dff2Ideal.main_arg0) = m ((c.tc : Thread Cert.Dff2Ideal.nD Cert.Dff2Ideal.τ).loc Cert.Dff2Ideal.main_arg0)
      ∧ r.2.mem ((c.tc : Thread Cert.Dff2Ideal.nD Cert.Dff2Ideal.τ).loc Cert.Dff2Ideal.main_arg1) = m ((c.tc : Thread Cert.Dff2Ideal.nD Cert.Dff2Ideal.τ).loc Cert.Dff2Ideal.main_arg1)
      ∧ r.2.mem ((c.tc : Thread Cert.Dff2Ideal.nD Cert.Dff2Ideal.τ).loc Cert.Dff2Ideal.main_arg2) = m ((c.tc : Thread Cert.Dff2Ideal.nD Cert.Dff2Ideal.τ).loc Cert.Dff2Ideal.main_arg2))
      ∧ r.2.sem = fun _ => 0)

def quiescent_Dff2ReferenceIdeal [hDff2ReferenceIdeal : Cert.Dff2ReferenceIdeal.Facts] : Prop :=
  ∀ (m : (ℓ : Loc Cert.Dff2ReferenceIdeal.nD Cert.Dff2ReferenceIdeal.τ Cert.Dff2ReferenceIdeal.sig) → Buf (Elt Ideal) ℓ) (g : Dev Cert.Dff2ReferenceIdeal.nD → PrngReg), Pre_Dff2ReferenceIdeal m →
    θ_run (Cert.Dff2ReferenceIdeal.defs (F := Ideal)) (onTc (τ := Cert.Dff2ReferenceIdeal.τ) (Cert.Dff2ReferenceIdeal.main (F := Ideal))) ⟨m, fun _ => 0, g⟩ (fun r => (∀ c : Dev Cert.Dff2ReferenceIdeal.nD,
      r.2.mem ((c.tc : Thread Cert.Dff2ReferenceIdeal.nD Cert.Dff2ReferenceIdeal.τ).loc Cert.Dff2ReferenceIdeal.main_arg0) = m ((c.tc : Thread Cert.Dff2ReferenceIdeal.nD Cert.Dff2ReferenceIdeal.τ).loc Cert.Dff2ReferenceIdeal.main_arg0)
      ∧ r.2.mem ((c.tc : Thread Cert.Dff2ReferenceIdeal.nD Cert.Dff2ReferenceIdeal.τ).loc Cert.Dff2ReferenceIdeal.main_arg1) = m ((c.tc : Thread Cert.Dff2ReferenceIdeal.nD Cert.Dff2ReferenceIdeal.τ).loc Cert.Dff2ReferenceIdeal.main_arg1)
      ∧ r.2.mem ((c.tc : Thread Cert.Dff2ReferenceIdeal.nD Cert.Dff2ReferenceIdeal.τ).loc Cert.Dff2ReferenceIdeal.main_arg2) = m ((c.tc : Thread Cert.Dff2ReferenceIdeal.nD Cert.Dff2ReferenceIdeal.τ).loc Cert.Dff2ReferenceIdeal.main_arg2))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1)
      ∧ r.2.mem ((c.tc : Thread Cert.Dw2.nD Cert.Dw2.τ).loc Cert.Dw2.main_arg2) = m ((c.tc : Thread Cert.Dw2.nD Cert.Dw2.τ).loc Cert.Dw2.main_arg2))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
      ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2))
      ∧ r.2.sem = fun _ => 0)

def quiescent_Dw2ReferenceIdeal [hDw2ReferenceIdeal : Cert.Dw2ReferenceIdeal.Facts] : Prop :=
  ∀ (m : (ℓ : Loc Cert.Dw2ReferenceIdeal.nD Cert.Dw2ReferenceIdeal.τ Cert.Dw2ReferenceIdeal.sig) → Buf (Elt Ideal) ℓ) (g : Dev Cert.Dw2ReferenceIdeal.nD → PrngReg), Pre_Dw2ReferenceIdeal m →
    θ_run (Cert.Dw2ReferenceIdeal.defs (F := Ideal)) (onTc (τ := Cert.Dw2ReferenceIdeal.τ) (Cert.Dw2ReferenceIdeal.main (F := Ideal))) ⟨m, fun _ => 0, g⟩ (fun r => (∀ c : Dev Cert.Dw2ReferenceIdeal.nD,
      r.2.mem ((c.tc : Thread Cert.Dw2ReferenceIdeal.nD Cert.Dw2ReferenceIdeal.τ).loc Cert.Dw2ReferenceIdeal.main_arg0) = m ((c.tc : Thread Cert.Dw2ReferenceIdeal.nD Cert.Dw2ReferenceIdeal.τ).loc Cert.Dw2ReferenceIdeal.main_arg0)
      ∧ r.2.mem ((c.tc : Thread Cert.Dw2ReferenceIdeal.nD Cert.Dw2ReferenceIdeal.τ).loc Cert.Dw2ReferenceIdeal.main_arg1) = m ((c.tc : Thread Cert.Dw2ReferenceIdeal.nD Cert.Dw2ReferenceIdeal.τ).loc Cert.Dw2ReferenceIdeal.main_arg1)
      ∧ r.2.mem ((c.tc : Thread Cert.Dw2ReferenceIdeal.nD Cert.Dw2ReferenceIdeal.τ).loc Cert.Dw2ReferenceIdeal.main_arg2) = m ((c.tc : Thread Cert.Dw2ReferenceIdeal.nD Cert.Dw2ReferenceIdeal.τ).loc Cert.Dw2ReferenceIdeal.main_arg2))
      ∧ r.2.sem = fun _ => 0)

def quiescent_Dw1 [hDw1 : Cert.Dw1.Facts] : Prop :=
  ∀ (m : (ℓ : Loc Cert.Dw1.nD Cert.Dw1.τ Cert.Dw1.sig) → Buf (Elt Bits) ℓ) (g : Dev Cert.Dw1.nD → PrngReg), Pre_Dw1 m →
    θ_run (Cert.Dw1.defs (F := Bits)) (onTc (τ := Cert.Dw1.τ) (Cert.Dw1.main (F := Bits))) ⟨m, fun _ => 0, g⟩ (fun r => (∀ c : Dev Cert.Dw1.nD,
      r.2.mem ((c.tc : Thread Cert.Dw1.nD Cert.Dw1.τ).loc Cert.Dw1.main_arg0) = m ((c.tc : Thread Cert.Dw1.nD Cert.Dw1.τ).loc Cert.Dw1.main_arg0)
      ∧ r.2.mem ((c.tc : Thread Cert.Dw1.nD Cert.Dw1.τ).loc Cert.Dw1.main_arg1) = m ((c.tc : Thread Cert.Dw1.nD Cert.Dw1.τ).loc Cert.Dw1.main_arg1)
      ∧ r.2.mem ((c.tc : Thread Cert.Dw1.nD Cert.Dw1.τ).loc Cert.Dw1.main_arg2) = m ((c.tc : Thread Cert.Dw1.nD Cert.Dw1.τ).loc Cert.Dw1.main_arg2)
      ∧ r.2.mem ((c.tc : Thread Cert.Dw1.nD Cert.Dw1.τ).loc Cert.Dw1.main_arg3) = m ((c.tc : Thread Cert.Dw1.nD Cert.Dw1.τ).loc Cert.Dw1.main_arg3))
      ∧ r.2.sem = fun _ => 0)

def quiescent_Dw1Ideal [hDw1Ideal : Cert.Dw1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg), Pre_Dw1Ideal m →
    θ_run (Cert.Dw1Ideal.defs (F := Ideal)) (onTc (τ := Cert.Dw1Ideal.τ) (Cert.Dw1Ideal.main (F := Ideal))) ⟨m, fun _ => 0, g⟩ (fun r => (∀ c : Dev Cert.Dw1Ideal.nD,
      r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
      ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1)
      ∧ r.2.mem ((c.tc : Thread Cert.Dw1Ideal.nD Cert.Dw1Ideal.τ).loc Cert.Dw1Ideal.main_arg2) = m ((c.tc : Thread Cert.Dw1Ideal.nD Cert.Dw1Ideal.τ).loc Cert.Dw1Ideal.main_arg2)
      ∧ r.2.mem ((c.tc : Thread Cert.Dw1Ideal.nD Cert.Dw1Ideal.τ).loc Cert.Dw1Ideal.main_arg3) = m ((c.tc : Thread Cert.Dw1Ideal.nD Cert.Dw1Ideal.τ).loc Cert.Dw1Ideal.main_arg3))
      ∧ r.2.sem = fun _ => 0)

def quiescent_Dw1ReferenceIdeal [hDw1ReferenceIdeal : Cert.Dw1ReferenceIdeal.Facts] : Prop :=
  ∀ (m : (ℓ : Loc Cert.Dw1ReferenceIdeal.nD Cert.Dw1ReferenceIdeal.τ Cert.Dw1ReferenceIdeal.sig) → Buf (Elt Ideal) ℓ) (g : Dev Cert.Dw1ReferenceIdeal.nD → PrngReg), Pre_Dw1ReferenceIdeal m →
    θ_run (Cert.Dw1ReferenceIdeal.defs (F := Ideal)) (onTc (τ := Cert.Dw1ReferenceIdeal.τ) (Cert.Dw1ReferenceIdeal.main (F := Ideal))) ⟨m, fun _ => 0, g⟩ (fun r => (∀ c : Dev Cert.Dw1ReferenceIdeal.nD,
      r.2.mem ((c.tc : Thread Cert.Dw1ReferenceIdeal.nD Cert.Dw1ReferenceIdeal.τ).loc Cert.Dw1ReferenceIdeal.main_arg0) = m ((c.tc : Thread Cert.Dw1ReferenceIdeal.nD Cert.Dw1ReferenceIdeal.τ).loc Cert.Dw1ReferenceIdeal.main_arg0)
      ∧ r.2.mem ((c.tc : Thread Cert.Dw1ReferenceIdeal.nD Cert.Dw1ReferenceIdeal.τ).loc Cert.Dw1ReferenceIdeal.main_arg1) = m ((c.tc : Thread Cert.Dw1ReferenceIdeal.nD Cert.Dw1ReferenceIdeal.τ).loc Cert.Dw1ReferenceIdeal.main_arg1)
      ∧ r.2.mem ((c.tc : Thread Cert.Dw1ReferenceIdeal.nD Cert.Dw1ReferenceIdeal.τ).loc Cert.Dw1ReferenceIdeal.main_arg2) = m ((c.tc : Thread Cert.Dw1ReferenceIdeal.nD Cert.Dw1ReferenceIdeal.τ).loc Cert.Dw1ReferenceIdeal.main_arg2)
      ∧ r.2.mem ((c.tc : Thread Cert.Dw1ReferenceIdeal.nD Cert.Dw1ReferenceIdeal.τ).loc Cert.Dw1ReferenceIdeal.main_arg3) = m ((c.tc : Thread Cert.Dw1ReferenceIdeal.nD Cert.Dw1ReferenceIdeal.τ).loc Cert.Dw1ReferenceIdeal.main_arg3))
      ∧ r.2.sem = fun _ => 0)

def quiescent_Dnorm2 [hDnorm2 : Cert.Dnorm2.Facts] : Prop :=
  ∀ (m : (ℓ : Loc Cert.Dnorm2.nD Cert.Dnorm2.τ Cert.Dnorm2.sig) → Buf (Elt Bits) ℓ) (g : Dev Cert.Dnorm2.nD → PrngReg), Pre_Dnorm2 m →
    θ_run (Cert.Dnorm2.defs (F := Bits)) (onTc (τ := Cert.Dnorm2.τ) (Cert.Dnorm2.main (F := Bits))) ⟨m, fun _ => 0, g⟩ (fun r => (∀ c : Dev Cert.Dnorm2.nD,
      r.2.mem ((c.tc : Thread Cert.Dnorm2.nD Cert.Dnorm2.τ).loc Cert.Dnorm2.main_arg0) = m ((c.tc : Thread Cert.Dnorm2.nD Cert.Dnorm2.τ).loc Cert.Dnorm2.main_arg0)
      ∧ r.2.mem ((c.tc : Thread Cert.Dnorm2.nD Cert.Dnorm2.τ).loc Cert.Dnorm2.main_arg1) = m ((c.tc : Thread Cert.Dnorm2.nD Cert.Dnorm2.τ).loc Cert.Dnorm2.main_arg1)
      ∧ r.2.mem ((c.tc : Thread Cert.Dnorm2.nD Cert.Dnorm2.τ).loc Cert.Dnorm2.main_arg2) = m ((c.tc : Thread Cert.Dnorm2.nD Cert.Dnorm2.τ).loc Cert.Dnorm2.main_arg2)
      ∧ r.2.mem ((c.tc : Thread Cert.Dnorm2.nD Cert.Dnorm2.τ).loc Cert.Dnorm2.main_arg3) = m ((c.tc : Thread Cert.Dnorm2.nD Cert.Dnorm2.τ).loc Cert.Dnorm2.main_arg3)
      ∧ r.2.mem ((c.tc : Thread Cert.Dnorm2.nD Cert.Dnorm2.τ).loc Cert.Dnorm2.main_arg4) = m ((c.tc : Thread Cert.Dnorm2.nD Cert.Dnorm2.τ).loc Cert.Dnorm2.main_arg4))
      ∧ r.2.sem = fun _ => 0)

def quiescent_Dnorm2Ideal [hDnorm2Ideal : Cert.Dnorm2Ideal.Facts] : Prop :=
  ∀ (m : (ℓ : Loc Cert.Dnorm2Ideal.nD Cert.Dnorm2Ideal.τ Cert.Dnorm2Ideal.sig) → Buf (Elt Ideal) ℓ) (g : Dev Cert.Dnorm2Ideal.nD → PrngReg), Pre_Dnorm2Ideal m →
    θ_run (Cert.Dnorm2Ideal.defs (F := Ideal)) (onTc (τ := Cert.Dnorm2Ideal.τ) (Cert.Dnorm2Ideal.main (F := Ideal))) ⟨m, fun _ => 0, g⟩ (fun r => (∀ c : Dev Cert.Dnorm2Ideal.nD,
      r.2.mem ((c.tc : Thread Cert.Dnorm2Ideal.nD Cert.Dnorm2Ideal.τ).loc Cert.Dnorm2Ideal.main_arg0) = m ((c.tc : Thread Cert.Dnorm2Ideal.nD Cert.Dnorm2Ideal.τ).loc Cert.Dnorm2Ideal.main_arg0)
      ∧ r.2.mem ((c.tc : Thread Cert.Dnorm2Ideal.nD Cert.Dnorm2Ideal.τ).loc Cert.Dnorm2Ideal.main_arg1) = m ((c.tc : Thread Cert.Dnorm2Ideal.nD Cert.Dnorm2Ideal.τ).loc Cert.Dnorm2Ideal.main_arg1)
      ∧ r.2.mem ((c.tc : Thread Cert.Dnorm2Ideal.nD Cert.Dnorm2Ideal.τ).loc Cert.Dnorm2Ideal.main_arg2) = m ((c.tc : Thread Cert.Dnorm2Ideal.nD Cert.Dnorm2Ideal.τ).loc Cert.Dnorm2Ideal.main_arg2)
      ∧ r.2.mem ((c.tc : Thread Cert.Dnorm2Ideal.nD Cert.Dnorm2Ideal.τ).loc Cert.Dnorm2Ideal.main_arg3) = m ((c.tc : Thread Cert.Dnorm2Ideal.nD Cert.Dnorm2Ideal.τ).loc Cert.Dnorm2Ideal.main_arg3)
      ∧ r.2.mem ((c.tc : Thread Cert.Dnorm2Ideal.nD Cert.Dnorm2Ideal.τ).loc Cert.Dnorm2Ideal.main_arg4) = m ((c.tc : Thread Cert.Dnorm2Ideal.nD Cert.Dnorm2Ideal.τ).loc Cert.Dnorm2Ideal.main_arg4))
      ∧ r.2.sem = fun _ => 0)

def quiescent_Dnorm2ReferenceIdeal [hDnorm2ReferenceIdeal : Cert.Dnorm2ReferenceIdeal.Facts] : Prop :=
  ∀ (m : (ℓ : Loc Cert.Dnorm2ReferenceIdeal.nD Cert.Dnorm2ReferenceIdeal.τ Cert.Dnorm2ReferenceIdeal.sig) → Buf (Elt Ideal) ℓ) (g : Dev Cert.Dnorm2ReferenceIdeal.nD → PrngReg), Pre_Dnorm2ReferenceIdeal m →
    θ_run (Cert.Dnorm2ReferenceIdeal.defs (F := Ideal)) (onTc (τ := Cert.Dnorm2ReferenceIdeal.τ) (Cert.Dnorm2ReferenceIdeal.main (F := Ideal))) ⟨m, fun _ => 0, g⟩ (fun r => (∀ c : Dev Cert.Dnorm2ReferenceIdeal.nD,
      r.2.mem ((c.tc : Thread Cert.Dnorm2ReferenceIdeal.nD Cert.Dnorm2ReferenceIdeal.τ).loc Cert.Dnorm2ReferenceIdeal.main_arg0) = m ((c.tc : Thread Cert.Dnorm2ReferenceIdeal.nD Cert.Dnorm2ReferenceIdeal.τ).loc Cert.Dnorm2ReferenceIdeal.main_arg0)
      ∧ r.2.mem ((c.tc : Thread Cert.Dnorm2ReferenceIdeal.nD Cert.Dnorm2ReferenceIdeal.τ).loc Cert.Dnorm2ReferenceIdeal.main_arg1) = m ((c.tc : Thread Cert.Dnorm2ReferenceIdeal.nD Cert.Dnorm2ReferenceIdeal.τ).loc Cert.Dnorm2ReferenceIdeal.main_arg1)
      ∧ r.2.mem ((c.tc : Thread Cert.Dnorm2ReferenceIdeal.nD Cert.Dnorm2ReferenceIdeal.τ).loc Cert.Dnorm2ReferenceIdeal.main_arg2) = m ((c.tc : Thread Cert.Dnorm2ReferenceIdeal.nD Cert.Dnorm2ReferenceIdeal.τ).loc Cert.Dnorm2ReferenceIdeal.main_arg2)
      ∧ r.2.mem ((c.tc : Thread Cert.Dnorm2ReferenceIdeal.nD Cert.Dnorm2ReferenceIdeal.τ).loc Cert.Dnorm2ReferenceIdeal.main_arg3) = m ((c.tc : Thread Cert.Dnorm2ReferenceIdeal.nD Cert.Dnorm2ReferenceIdeal.τ).loc Cert.Dnorm2ReferenceIdeal.main_arg3)
      ∧ r.2.mem ((c.tc : Thread Cert.Dnorm2ReferenceIdeal.nD Cert.Dnorm2ReferenceIdeal.τ).loc Cert.Dnorm2ReferenceIdeal.main_arg4) = m ((c.tc : Thread Cert.Dnorm2ReferenceIdeal.nD Cert.Dnorm2ReferenceIdeal.τ).loc Cert.Dnorm2ReferenceIdeal.main_arg4))
      ∧ r.2.sem = fun _ => 0)

def quiescent_Dple [hDple : Cert.Dple.Facts] : Prop :=
  ∀ (m : (ℓ : Loc Cert.Dple.nD Cert.Dple.τ Cert.Dple.sig) → Buf (Elt Bits) ℓ) (g : Dev Cert.Dple.nD → PrngReg), Pre_Dple m →
    θ_run (Cert.Dple.defs (F := Bits)) (onTc (τ := Cert.Dple.τ) (Cert.Dple.main (F := Bits))) ⟨m, fun _ => 0, g⟩ (fun r => (∀ c : Dev Cert.Dple.nD,
      r.2.mem ((c.tc : Thread Cert.Dple.nD Cert.Dple.τ).loc Cert.Dple.main_arg0) = m ((c.tc : Thread Cert.Dple.nD Cert.Dple.τ).loc Cert.Dple.main_arg0)
      ∧ r.2.mem ((c.tc : Thread Cert.Dple.nD Cert.Dple.τ).loc Cert.Dple.main_arg1) = m ((c.tc : Thread Cert.Dple.nD Cert.Dple.τ).loc Cert.Dple.main_arg1)
      ∧ r.2.mem ((c.tc : Thread Cert.Dple.nD Cert.Dple.τ).loc Cert.Dple.main_arg2) = m ((c.tc : Thread Cert.Dple.nD Cert.Dple.τ).loc Cert.Dple.main_arg2)
      ∧ r.2.mem ((c.tc : Thread Cert.Dple.nD Cert.Dple.τ).loc Cert.Dple.main_arg3) = m ((c.tc : Thread Cert.Dple.nD Cert.Dple.τ).loc Cert.Dple.main_arg3)
      ∧ r.2.mem ((c.tc : Thread Cert.Dple.nD Cert.Dple.τ).loc Cert.Dple.main_arg4) = m ((c.tc : Thread Cert.Dple.nD Cert.Dple.τ).loc Cert.Dple.main_arg4))
      ∧ r.2.sem = fun _ => 0)

def quiescent_DpleIdeal [hDpleIdeal : Cert.DpleIdeal.Facts] : Prop :=
  ∀ (m : (ℓ : Loc Cert.DpleIdeal.nD Cert.DpleIdeal.τ Cert.DpleIdeal.sig) → Buf (Elt Ideal) ℓ) (g : Dev Cert.DpleIdeal.nD → PrngReg), Pre_DpleIdeal m →
    θ_run (Cert.DpleIdeal.defs (F := Ideal)) (onTc (τ := Cert.DpleIdeal.τ) (Cert.DpleIdeal.main (F := Ideal))) ⟨m, fun _ => 0, g⟩ (fun r => (∀ c : Dev Cert.DpleIdeal.nD,
      r.2.mem ((c.tc : Thread Cert.DpleIdeal.nD Cert.DpleIdeal.τ).loc Cert.DpleIdeal.main_arg0) = m ((c.tc : Thread Cert.DpleIdeal.nD Cert.DpleIdeal.τ).loc Cert.DpleIdeal.main_arg0)
      ∧ r.2.mem ((c.tc : Thread Cert.DpleIdeal.nD Cert.DpleIdeal.τ).loc Cert.DpleIdeal.main_arg1) = m ((c.tc : Thread Cert.DpleIdeal.nD Cert.DpleIdeal.τ).loc Cert.DpleIdeal.main_arg1)
      ∧ r.2.mem ((c.tc : Thread Cert.DpleIdeal.nD Cert.DpleIdeal.τ).loc Cert.DpleIdeal.main_arg2) = m ((c.tc : Thread Cert.DpleIdeal.nD Cert.DpleIdeal.τ).loc Cert.DpleIdeal.main_arg2)
      ∧ r.2.mem ((c.tc : Thread Cert.DpleIdeal.nD Cert.DpleIdeal.τ).loc Cert.DpleIdeal.main_arg3) = m ((c.tc : Thread Cert.DpleIdeal.nD Cert.DpleIdeal.τ).loc Cert.DpleIdeal.main_arg3)
      ∧ r.2.mem ((c.tc : Thread Cert.DpleIdeal.nD Cert.DpleIdeal.τ).loc Cert.DpleIdeal.main_arg4) = m ((c.tc : Thread Cert.DpleIdeal.nD Cert.DpleIdeal.τ).loc Cert.DpleIdeal.main_arg4))
      ∧ r.2.sem = fun _ => 0)

def quiescent_DpleReferenceIdeal [hDpleReferenceIdeal : Cert.DpleReferenceIdeal.Facts] : Prop :=
  ∀ (m : (ℓ : Loc Cert.DpleReferenceIdeal.nD Cert.DpleReferenceIdeal.τ Cert.DpleReferenceIdeal.sig) → Buf (Elt Ideal) ℓ) (g : Dev Cert.DpleReferenceIdeal.nD → PrngReg), Pre_DpleReferenceIdeal m →
    θ_run (Cert.DpleReferenceIdeal.defs (F := Ideal)) (onTc (τ := Cert.DpleReferenceIdeal.τ) (Cert.DpleReferenceIdeal.main (F := Ideal))) ⟨m, fun _ => 0, g⟩ (fun r => (∀ c : Dev Cert.DpleReferenceIdeal.nD,
      r.2.mem ((c.tc : Thread Cert.DpleReferenceIdeal.nD Cert.DpleReferenceIdeal.τ).loc Cert.DpleReferenceIdeal.main_arg0) = m ((c.tc : Thread Cert.DpleReferenceIdeal.nD Cert.DpleReferenceIdeal.τ).loc Cert.DpleReferenceIdeal.main_arg0)
      ∧ r.2.mem ((c.tc : Thread Cert.DpleReferenceIdeal.nD Cert.DpleReferenceIdeal.τ).loc Cert.DpleReferenceIdeal.main_arg1) = m ((c.tc : Thread Cert.DpleReferenceIdeal.nD Cert.DpleReferenceIdeal.τ).loc Cert.DpleReferenceIdeal.main_arg1)
      ∧ r.2.mem ((c.tc : Thread Cert.DpleReferenceIdeal.nD Cert.DpleReferenceIdeal.τ).loc Cert.DpleReferenceIdeal.main_arg2) = m ((c.tc : Thread Cert.DpleReferenceIdeal.nD Cert.DpleReferenceIdeal.τ).loc Cert.DpleReferenceIdeal.main_arg2)
      ∧ r.2.mem ((c.tc : Thread Cert.DpleReferenceIdeal.nD Cert.DpleReferenceIdeal.τ).loc Cert.DpleReferenceIdeal.main_arg3) = m ((c.tc : Thread Cert.DpleReferenceIdeal.nD Cert.DpleReferenceIdeal.τ).loc Cert.DpleReferenceIdeal.main_arg3)
      ∧ r.2.mem ((c.tc : Thread Cert.DpleReferenceIdeal.nD Cert.DpleReferenceIdeal.τ).loc Cert.DpleReferenceIdeal.main_arg4) = m ((c.tc : Thread Cert.DpleReferenceIdeal.nD Cert.DpleReferenceIdeal.τ).loc Cert.DpleReferenceIdeal.main_arg4))
      ∧ r.2.sem = fun _ => 0)

def quiescent_Dwg [hDwg : Cert.Dwg.Facts] : Prop :=
  ∀ (m : (ℓ : Loc Cert.Dwg.nD Cert.Dwg.τ Cert.Dwg.sig) → Buf (Elt Bits) ℓ) (g : Dev Cert.Dwg.nD → PrngReg), Pre_Dwg m →
    θ_run (Cert.Dwg.defs (F := Bits)) (onTc (τ := Cert.Dwg.τ) (Cert.Dwg.main (F := Bits))) ⟨m, fun _ => 0, g⟩ (fun r => (∀ c : Dev Cert.Dwg.nD,
      r.2.mem ((c.tc : Thread Cert.Dwg.nD Cert.Dwg.τ).loc Cert.Dwg.main_arg0) = m ((c.tc : Thread Cert.Dwg.nD Cert.Dwg.τ).loc Cert.Dwg.main_arg0)
      ∧ r.2.mem ((c.tc : Thread Cert.Dwg.nD Cert.Dwg.τ).loc Cert.Dwg.main_arg1) = m ((c.tc : Thread Cert.Dwg.nD Cert.Dwg.τ).loc Cert.Dwg.main_arg1)
      ∧ r.2.mem ((c.tc : Thread Cert.Dwg.nD Cert.Dwg.τ).loc Cert.Dwg.main_arg2) = m ((c.tc : Thread Cert.Dwg.nD Cert.Dwg.τ).loc Cert.Dwg.main_arg2)
      ∧ r.2.mem ((c.tc : Thread Cert.Dwg.nD Cert.Dwg.τ).loc Cert.Dwg.main_arg3) = m ((c.tc : Thread Cert.Dwg.nD Cert.Dwg.τ).loc Cert.Dwg.main_arg3))
      ∧ r.2.sem = fun _ => 0)

def quiescent_DwgIdeal [hDwgIdeal : Cert.DwgIdeal.Facts] : Prop :=
  ∀ (m : (ℓ : Loc Cert.DwgIdeal.nD Cert.DwgIdeal.τ Cert.DwgIdeal.sig) → Buf (Elt Ideal) ℓ) (g : Dev Cert.DwgIdeal.nD → PrngReg), Pre_DwgIdeal m →
    θ_run (Cert.DwgIdeal.defs (F := Ideal)) (onTc (τ := Cert.DwgIdeal.τ) (Cert.DwgIdeal.main (F := Ideal))) ⟨m, fun _ => 0, g⟩ (fun r => (∀ c : Dev Cert.DwgIdeal.nD,
      r.2.mem ((c.tc : Thread Cert.DwgIdeal.nD Cert.DwgIdeal.τ).loc Cert.DwgIdeal.main_arg0) = m ((c.tc : Thread Cert.DwgIdeal.nD Cert.DwgIdeal.τ).loc Cert.DwgIdeal.main_arg0)
      ∧ r.2.mem ((c.tc : Thread Cert.DwgIdeal.nD Cert.DwgIdeal.τ).loc Cert.DwgIdeal.main_arg1) = m ((c.tc : Thread Cert.DwgIdeal.nD Cert.DwgIdeal.τ).loc Cert.DwgIdeal.main_arg1)
      ∧ r.2.mem ((c.tc : Thread Cert.DwgIdeal.nD Cert.DwgIdeal.τ).loc Cert.DwgIdeal.main_arg2) = m ((c.tc : Thread Cert.DwgIdeal.nD Cert.DwgIdeal.τ).loc Cert.DwgIdeal.main_arg2)
      ∧ r.2.mem ((c.tc : Thread Cert.DwgIdeal.nD Cert.DwgIdeal.τ).loc Cert.DwgIdeal.main_arg3) = m ((c.tc : Thread Cert.DwgIdeal.nD Cert.DwgIdeal.τ).loc Cert.DwgIdeal.main_arg3))
      ∧ r.2.sem = fun _ => 0)

def quiescent_DwgReferenceIdeal [hDwgReferenceIdeal : Cert.DwgReferenceIdeal.Facts] : Prop :=
  ∀ (m : (ℓ : Loc Cert.DwgReferenceIdeal.nD Cert.DwgReferenceIdeal.τ Cert.DwgReferenceIdeal.sig) → Buf (Elt Ideal) ℓ) (g : Dev Cert.DwgReferenceIdeal.nD → PrngReg), Pre_DwgReferenceIdeal m →
    θ_run (Cert.DwgReferenceIdeal.defs (F := Ideal)) (onTc (τ := Cert.DwgReferenceIdeal.τ) (Cert.DwgReferenceIdeal.main (F := Ideal))) ⟨m, fun _ => 0, g⟩ (fun r => (∀ c : Dev Cert.DwgReferenceIdeal.nD,
      r.2.mem ((c.tc : Thread Cert.DwgReferenceIdeal.nD Cert.DwgReferenceIdeal.τ).loc Cert.DwgReferenceIdeal.main_arg0) = m ((c.tc : Thread Cert.DwgReferenceIdeal.nD Cert.DwgReferenceIdeal.τ).loc Cert.DwgReferenceIdeal.main_arg0)
      ∧ r.2.mem ((c.tc : Thread Cert.DwgReferenceIdeal.nD Cert.DwgReferenceIdeal.τ).loc Cert.DwgReferenceIdeal.main_arg1) = m ((c.tc : Thread Cert.DwgReferenceIdeal.nD Cert.DwgReferenceIdeal.τ).loc Cert.DwgReferenceIdeal.main_arg1)
      ∧ r.2.mem ((c.tc : Thread Cert.DwgReferenceIdeal.nD Cert.DwgReferenceIdeal.τ).loc Cert.DwgReferenceIdeal.main_arg2) = m ((c.tc : Thread Cert.DwgReferenceIdeal.nD Cert.DwgReferenceIdeal.τ).loc Cert.DwgReferenceIdeal.main_arg2)
      ∧ r.2.mem ((c.tc : Thread Cert.DwgReferenceIdeal.nD Cert.DwgReferenceIdeal.τ).loc Cert.DwgReferenceIdeal.main_arg3) = m ((c.tc : Thread Cert.DwgReferenceIdeal.nD Cert.DwgReferenceIdeal.τ).loc Cert.DwgReferenceIdeal.main_arg3))
      ∧ r.2.sem = fun _ => 0)

def quiescent_Dwp [hDwp : Cert.Dwp.Facts] : Prop :=
  ∀ (m : (ℓ : Loc Cert.Dwp.nD Cert.Dwp.τ Cert.Dwp.sig) → Buf (Elt Bits) ℓ) (g : Dev Cert.Dwp.nD → PrngReg), Pre_Dwp m →
    θ_run (Cert.Dwp.defs (F := Bits)) (onTc (τ := Cert.Dwp.τ) (Cert.Dwp.main (F := Bits))) ⟨m, fun _ => 0, g⟩ (fun r => (∀ c : Dev Cert.Dwp.nD,
      r.2.mem ((c.tc : Thread Cert.Dwp.nD Cert.Dwp.τ).loc Cert.Dwp.main_arg0) = m ((c.tc : Thread Cert.Dwp.nD Cert.Dwp.τ).loc Cert.Dwp.main_arg0)
      ∧ r.2.mem ((c.tc : Thread Cert.Dwp.nD Cert.Dwp.τ).loc Cert.Dwp.main_arg1) = m ((c.tc : Thread Cert.Dwp.nD Cert.Dwp.τ).loc Cert.Dwp.main_arg1)
      ∧ r.2.mem ((c.tc : Thread Cert.Dwp.nD Cert.Dwp.τ).loc Cert.Dwp.main_arg2) = m ((c.tc : Thread Cert.Dwp.nD Cert.Dwp.τ).loc Cert.Dwp.main_arg2))
      ∧ r.2.sem = fun _ => 0)

def quiescent_DwpIdeal [hDwpIdeal : Cert.DwpIdeal.Facts] : Prop :=
  ∀ (m : (ℓ : Loc Cert.DwpIdeal.nD Cert.DwpIdeal.τ Cert.DwpIdeal.sig) → Buf (Elt Ideal) ℓ) (g : Dev Cert.DwpIdeal.nD → PrngReg), Pre_DwpIdeal m →
    θ_run (Cert.DwpIdeal.defs (F := Ideal)) (onTc (τ := Cert.DwpIdeal.τ) (Cert.DwpIdeal.main (F := Ideal))) ⟨m, fun _ => 0, g⟩ (fun r => (∀ c : Dev Cert.DwpIdeal.nD,
      r.2.mem ((c.tc : Thread Cert.DwpIdeal.nD Cert.DwpIdeal.τ).loc Cert.DwpIdeal.main_arg0) = m ((c.tc : Thread Cert.DwpIdeal.nD Cert.DwpIdeal.τ).loc Cert.DwpIdeal.main_arg0)
      ∧ r.2.mem ((c.tc : Thread Cert.DwpIdeal.nD Cert.DwpIdeal.τ).loc Cert.DwpIdeal.main_arg1) = m ((c.tc : Thread Cert.DwpIdeal.nD Cert.DwpIdeal.τ).loc Cert.DwpIdeal.main_arg1)
      ∧ r.2.mem ((c.tc : Thread Cert.DwpIdeal.nD Cert.DwpIdeal.τ).loc Cert.DwpIdeal.main_arg2) = m ((c.tc : Thread Cert.DwpIdeal.nD Cert.DwpIdeal.τ).loc Cert.DwpIdeal.main_arg2))
      ∧ r.2.sem = fun _ => 0)

def quiescent_DwpReferenceIdeal [hDwpReferenceIdeal : Cert.DwpReferenceIdeal.Facts] : Prop :=
  ∀ (m : (ℓ : Loc Cert.DwpReferenceIdeal.nD Cert.DwpReferenceIdeal.τ Cert.DwpReferenceIdeal.sig) → Buf (Elt Ideal) ℓ) (g : Dev Cert.DwpReferenceIdeal.nD → PrngReg), Pre_DwpReferenceIdeal m →
    θ_run (Cert.DwpReferenceIdeal.defs (F := Ideal)) (onTc (τ := Cert.DwpReferenceIdeal.τ) (Cert.DwpReferenceIdeal.main (F := Ideal))) ⟨m, fun _ => 0, g⟩ (fun r => (∀ c : Dev Cert.DwpReferenceIdeal.nD,
      r.2.mem ((c.tc : Thread Cert.DwpReferenceIdeal.nD Cert.DwpReferenceIdeal.τ).loc Cert.DwpReferenceIdeal.main_arg0) = m ((c.tc : Thread Cert.DwpReferenceIdeal.nD Cert.DwpReferenceIdeal.τ).loc Cert.DwpReferenceIdeal.main_arg0)
      ∧ r.2.mem ((c.tc : Thread Cert.DwpReferenceIdeal.nD Cert.DwpReferenceIdeal.τ).loc Cert.DwpReferenceIdeal.main_arg1) = m ((c.tc : Thread Cert.DwpReferenceIdeal.nD Cert.DwpReferenceIdeal.τ).loc Cert.DwpReferenceIdeal.main_arg1)
      ∧ r.2.mem ((c.tc : Thread Cert.DwpReferenceIdeal.nD Cert.DwpReferenceIdeal.τ).loc Cert.DwpReferenceIdeal.main_arg2) = m ((c.tc : Thread Cert.DwpReferenceIdeal.nD Cert.DwpReferenceIdeal.τ).loc Cert.DwpReferenceIdeal.main_arg2))
      ∧ r.2.sem = fun _ => 0)

def quiescent_Dout [hDout : Cert.Dout.Facts] : Prop :=
  ∀ (m : (ℓ : Loc Cert.Dout.nD Cert.Dout.τ Cert.Dout.sig) → Buf (Elt Bits) ℓ) (g : Dev Cert.Dout.nD → PrngReg), Pre_Dout m →
    θ_run (Cert.Dout.defs (F := Bits)) (onTc (τ := Cert.Dout.τ) (Cert.Dout.main (F := Bits))) ⟨m, fun _ => 0, g⟩ (fun r => (∀ c : Dev Cert.Dout.nD,
      r.2.mem ((c.tc : Thread Cert.Dout.nD Cert.Dout.τ).loc Cert.Dout.main_arg0) = m ((c.tc : Thread Cert.Dout.nD Cert.Dout.τ).loc Cert.Dout.main_arg0)
      ∧ r.2.mem ((c.tc : Thread Cert.Dout.nD Cert.Dout.τ).loc Cert.Dout.main_arg1) = m ((c.tc : Thread Cert.Dout.nD Cert.Dout.τ).loc Cert.Dout.main_arg1)
      ∧ r.2.mem ((c.tc : Thread Cert.Dout.nD Cert.Dout.τ).loc Cert.Dout.main_arg2) = m ((c.tc : Thread Cert.Dout.nD Cert.Dout.τ).loc Cert.Dout.main_arg2))
      ∧ r.2.sem = fun _ => 0)

def quiescent_DoutIdeal [hDoutIdeal : Cert.DoutIdeal.Facts] : Prop :=
  ∀ (m : (ℓ : Loc Cert.DoutIdeal.nD Cert.DoutIdeal.τ Cert.DoutIdeal.sig) → Buf (Elt Ideal) ℓ) (g : Dev Cert.DoutIdeal.nD → PrngReg), Pre_DoutIdeal m →
    θ_run (Cert.DoutIdeal.defs (F := Ideal)) (onTc (τ := Cert.DoutIdeal.τ) (Cert.DoutIdeal.main (F := Ideal))) ⟨m, fun _ => 0, g⟩ (fun r => (∀ c : Dev Cert.DoutIdeal.nD,
      r.2.mem ((c.tc : Thread Cert.DoutIdeal.nD Cert.DoutIdeal.τ).loc Cert.DoutIdeal.main_arg0) = m ((c.tc : Thread Cert.DoutIdeal.nD Cert.DoutIdeal.τ).loc Cert.DoutIdeal.main_arg0)
      ∧ r.2.mem ((c.tc : Thread Cert.DoutIdeal.nD Cert.DoutIdeal.τ).loc Cert.DoutIdeal.main_arg1) = m ((c.tc : Thread Cert.DoutIdeal.nD Cert.DoutIdeal.τ).loc Cert.DoutIdeal.main_arg1)
      ∧ r.2.mem ((c.tc : Thread Cert.DoutIdeal.nD Cert.DoutIdeal.τ).loc Cert.DoutIdeal.main_arg2) = m ((c.tc : Thread Cert.DoutIdeal.nD Cert.DoutIdeal.τ).loc Cert.DoutIdeal.main_arg2))
      ∧ r.2.sem = fun _ => 0)

def quiescent_DoutReferenceIdeal [hDoutReferenceIdeal : Cert.DoutReferenceIdeal.Facts] : Prop :=
  ∀ (m : (ℓ : Loc Cert.DoutReferenceIdeal.nD Cert.DoutReferenceIdeal.τ Cert.DoutReferenceIdeal.sig) → Buf (Elt Ideal) ℓ) (g : Dev Cert.DoutReferenceIdeal.nD → PrngReg), Pre_DoutReferenceIdeal m →
    θ_run (Cert.DoutReferenceIdeal.defs (F := Ideal)) (onTc (τ := Cert.DoutReferenceIdeal.τ) (Cert.DoutReferenceIdeal.main (F := Ideal))) ⟨m, fun _ => 0, g⟩ (fun r => (∀ c : Dev Cert.DoutReferenceIdeal.nD,
      r.2.mem ((c.tc : Thread Cert.DoutReferenceIdeal.nD Cert.DoutReferenceIdeal.τ).loc Cert.DoutReferenceIdeal.main_arg0) = m ((c.tc : Thread Cert.DoutReferenceIdeal.nD Cert.DoutReferenceIdeal.τ).loc Cert.DoutReferenceIdeal.main_arg0)
      ∧ r.2.mem ((c.tc : Thread Cert.DoutReferenceIdeal.nD Cert.DoutReferenceIdeal.τ).loc Cert.DoutReferenceIdeal.main_arg1) = m ((c.tc : Thread Cert.DoutReferenceIdeal.nD Cert.DoutReferenceIdeal.τ).loc Cert.DoutReferenceIdeal.main_arg1)
      ∧ r.2.mem ((c.tc : Thread Cert.DoutReferenceIdeal.nD Cert.DoutReferenceIdeal.τ).loc Cert.DoutReferenceIdeal.main_arg2) = m ((c.tc : Thread Cert.DoutReferenceIdeal.nD Cert.DoutReferenceIdeal.τ).loc Cert.DoutReferenceIdeal.main_arg2))
      ∧ r.2.sem = fun _ => 0)

def quiescent_Dwo [hDwo : Cert.Dwo.Facts] : Prop :=
  ∀ (m : (ℓ : Loc Cert.Dwo.nD Cert.Dwo.τ Cert.Dwo.sig) → Buf (Elt Bits) ℓ) (g : Dev Cert.Dwo.nD → PrngReg), Pre_Dwo m →
    θ_run (Cert.Dwo.defs (F := Bits)) (onTc (τ := Cert.Dwo.τ) (Cert.Dwo.main (F := Bits))) ⟨m, fun _ => 0, g⟩ (fun r => (∀ c : Dev Cert.Dwo.nD,
      r.2.mem ((c.tc : Thread Cert.Dwo.nD Cert.Dwo.τ).loc Cert.Dwo.main_arg0) = m ((c.tc : Thread Cert.Dwo.nD Cert.Dwo.τ).loc Cert.Dwo.main_arg0)
      ∧ r.2.mem ((c.tc : Thread Cert.Dwo.nD Cert.Dwo.τ).loc Cert.Dwo.main_arg1) = m ((c.tc : Thread Cert.Dwo.nD Cert.Dwo.τ).loc Cert.Dwo.main_arg1)
      ∧ r.2.mem ((c.tc : Thread Cert.Dwo.nD Cert.Dwo.τ).loc Cert.Dwo.main_arg2) = m ((c.tc : Thread Cert.Dwo.nD Cert.Dwo.τ).loc Cert.Dwo.main_arg2))
      ∧ r.2.sem = fun _ => 0)

def quiescent_DwoIdeal [hDwoIdeal : Cert.DwoIdeal.Facts] : Prop :=
  ∀ (m : (ℓ : Loc Cert.DwoIdeal.nD Cert.DwoIdeal.τ Cert.DwoIdeal.sig) → Buf (Elt Ideal) ℓ) (g : Dev Cert.DwoIdeal.nD → PrngReg), Pre_DwoIdeal m →
    θ_run (Cert.DwoIdeal.defs (F := Ideal)) (onTc (τ := Cert.DwoIdeal.τ) (Cert.DwoIdeal.main (F := Ideal))) ⟨m, fun _ => 0, g⟩ (fun r => (∀ c : Dev Cert.DwoIdeal.nD,
      r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
      ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1)
      ∧ r.2.mem ((c.tc : Thread Cert.DwoIdeal.nD Cert.DwoIdeal.τ).loc Cert.DwoIdeal.main_arg2) = m ((c.tc : Thread Cert.DwoIdeal.nD Cert.DwoIdeal.τ).loc Cert.DwoIdeal.main_arg2))
      ∧ r.2.sem = fun _ => 0)

def quiescent_DwoReferenceIdeal [hDwoReferenceIdeal : Cert.DwoReferenceIdeal.Facts] : Prop :=
  ∀ (m : (ℓ : Loc Cert.DwoReferenceIdeal.nD Cert.DwoReferenceIdeal.τ Cert.DwoReferenceIdeal.sig) → Buf (Elt Ideal) ℓ) (g : Dev Cert.DwoReferenceIdeal.nD → PrngReg), Pre_DwoReferenceIdeal m →
    θ_run (Cert.DwoReferenceIdeal.defs (F := Ideal)) (onTc (τ := Cert.DwoReferenceIdeal.τ) (Cert.DwoReferenceIdeal.main (F := Ideal))) ⟨m, fun _ => 0, g⟩ (fun r => (∀ c : Dev Cert.DwoReferenceIdeal.nD,
      r.2.mem ((c.tc : Thread Cert.DwoReferenceIdeal.nD Cert.DwoReferenceIdeal.τ).loc Cert.DwoReferenceIdeal.main_arg0) = m ((c.tc : Thread Cert.DwoReferenceIdeal.nD Cert.DwoReferenceIdeal.τ).loc Cert.DwoReferenceIdeal.main_arg0)
      ∧ r.2.mem ((c.tc : Thread Cert.DwoReferenceIdeal.nD Cert.DwoReferenceIdeal.τ).loc Cert.DwoReferenceIdeal.main_arg1) = m ((c.tc : Thread Cert.DwoReferenceIdeal.nD Cert.DwoReferenceIdeal.τ).loc Cert.DwoReferenceIdeal.main_arg1)
      ∧ r.2.mem ((c.tc : Thread Cert.DwoReferenceIdeal.nD Cert.DwoReferenceIdeal.τ).loc Cert.DwoReferenceIdeal.main_arg2) = m ((c.tc : Thread Cert.DwoReferenceIdeal.nD Cert.DwoReferenceIdeal.τ).loc Cert.DwoReferenceIdeal.main_arg2))
      ∧ r.2.sem = fun _ => 0)

def quiescent_Dwi [hDwi : Cert.Dwi.Facts] : Prop :=
  ∀ (m : (ℓ : Loc Cert.Dwi.nD Cert.Dwi.τ Cert.Dwi.sig) → Buf (Elt Bits) ℓ) (g : Dev Cert.Dwi.nD → PrngReg), Pre_Dwi m →
    θ_run (Cert.Dwi.defs (F := Bits)) (onTc (τ := Cert.Dwi.τ) (Cert.Dwi.main (F := Bits))) ⟨m, fun _ => 0, g⟩ (fun r => (∀ c : Dev Cert.Dwi.nD,
      r.2.mem ((c.tc : Thread Cert.Dwi.nD Cert.Dwi.τ).loc Cert.Dwi.main_arg0) = m ((c.tc : Thread Cert.Dwi.nD Cert.Dwi.τ).loc Cert.Dwi.main_arg0)
      ∧ r.2.mem ((c.tc : Thread Cert.Dwi.nD Cert.Dwi.τ).loc Cert.Dwi.main_arg1) = m ((c.tc : Thread Cert.Dwi.nD Cert.Dwi.τ).loc Cert.Dwi.main_arg1)
      ∧ r.2.mem ((c.tc : Thread Cert.Dwi.nD Cert.Dwi.τ).loc Cert.Dwi.main_arg2) = m ((c.tc : Thread Cert.Dwi.nD Cert.Dwi.τ).loc Cert.Dwi.main_arg2)
      ∧ r.2.mem ((c.tc : Thread Cert.Dwi.nD Cert.Dwi.τ).loc Cert.Dwi.main_arg3) = m ((c.tc : Thread Cert.Dwi.nD Cert.Dwi.τ).loc Cert.Dwi.main_arg3))
      ∧ r.2.sem = fun _ => 0)

def quiescent_DwiIdeal [hDwiIdeal : Cert.DwiIdeal.Facts] : Prop :=
  ∀ (m : (ℓ : Loc Cert.DwiIdeal.nD Cert.DwiIdeal.τ Cert.DwiIdeal.sig) → Buf (Elt Ideal) ℓ) (g : Dev Cert.DwiIdeal.nD → PrngReg), Pre_DwiIdeal m →
    θ_run (Cert.DwiIdeal.defs (F := Ideal)) (onTc (τ := Cert.DwiIdeal.τ) (Cert.DwiIdeal.main (F := Ideal))) ⟨m, fun _ => 0, g⟩ (fun r => (∀ c : Dev Cert.DwiIdeal.nD,
      r.2.mem ((c.tc : Thread Cert.DwiIdeal.nD Cert.DwiIdeal.τ).loc Cert.DwiIdeal.main_arg0) = m ((c.tc : Thread Cert.DwiIdeal.nD Cert.DwiIdeal.τ).loc Cert.DwiIdeal.main_arg0)
      ∧ r.2.mem ((c.tc : Thread Cert.DwiIdeal.nD Cert.DwiIdeal.τ).loc Cert.DwiIdeal.main_arg1) = m ((c.tc : Thread Cert.DwiIdeal.nD Cert.DwiIdeal.τ).loc Cert.DwiIdeal.main_arg1)
      ∧ r.2.mem ((c.tc : Thread Cert.DwiIdeal.nD Cert.DwiIdeal.τ).loc Cert.DwiIdeal.main_arg2) = m ((c.tc : Thread Cert.DwiIdeal.nD Cert.DwiIdeal.τ).loc Cert.DwiIdeal.main_arg2)
      ∧ r.2.mem ((c.tc : Thread Cert.DwiIdeal.nD Cert.DwiIdeal.τ).loc Cert.DwiIdeal.main_arg3) = m ((c.tc : Thread Cert.DwiIdeal.nD Cert.DwiIdeal.τ).loc Cert.DwiIdeal.main_arg3))
      ∧ r.2.sem = fun _ => 0)

def quiescent_DwiReferenceIdeal [hDwiReferenceIdeal : Cert.DwiReferenceIdeal.Facts] : Prop :=
  ∀ (m : (ℓ : Loc Cert.DwiReferenceIdeal.nD Cert.DwiReferenceIdeal.τ Cert.DwiReferenceIdeal.sig) → Buf (Elt Ideal) ℓ) (g : Dev Cert.DwiReferenceIdeal.nD → PrngReg), Pre_DwiReferenceIdeal m →
    θ_run (Cert.DwiReferenceIdeal.defs (F := Ideal)) (onTc (τ := Cert.DwiReferenceIdeal.τ) (Cert.DwiReferenceIdeal.main (F := Ideal))) ⟨m, fun _ => 0, g⟩ (fun r => (∀ c : Dev Cert.DwiReferenceIdeal.nD,
      r.2.mem ((c.tc : Thread Cert.DwiReferenceIdeal.nD Cert.DwiReferenceIdeal.τ).loc Cert.DwiReferenceIdeal.main_arg0) = m ((c.tc : Thread Cert.DwiReferenceIdeal.nD Cert.DwiReferenceIdeal.τ).loc Cert.DwiReferenceIdeal.main_arg0)
      ∧ r.2.mem ((c.tc : Thread Cert.DwiReferenceIdeal.nD Cert.DwiReferenceIdeal.τ).loc Cert.DwiReferenceIdeal.main_arg1) = m ((c.tc : Thread Cert.DwiReferenceIdeal.nD Cert.DwiReferenceIdeal.τ).loc Cert.DwiReferenceIdeal.main_arg1)
      ∧ r.2.mem ((c.tc : Thread Cert.DwiReferenceIdeal.nD Cert.DwiReferenceIdeal.τ).loc Cert.DwiReferenceIdeal.main_arg2) = m ((c.tc : Thread Cert.DwiReferenceIdeal.nD Cert.DwiReferenceIdeal.τ).loc Cert.DwiReferenceIdeal.main_arg2)
      ∧ r.2.mem ((c.tc : Thread Cert.DwiReferenceIdeal.nD Cert.DwiReferenceIdeal.τ).loc Cert.DwiReferenceIdeal.main_arg3) = m ((c.tc : Thread Cert.DwiReferenceIdeal.nD Cert.DwiReferenceIdeal.τ).loc Cert.DwiReferenceIdeal.main_arg3))
      ∧ r.2.sem = fun _ => 0)

def quiescent_Dnorm1 [hDnorm1 : Cert.Dnorm1.Facts] : Prop :=
  ∀ (m : (ℓ : Loc Cert.Dnorm1.nD Cert.Dnorm1.τ Cert.Dnorm1.sig) → Buf (Elt Bits) ℓ) (g : Dev Cert.Dnorm1.nD → PrngReg), Pre_Dnorm1 m →
    θ_run (Cert.Dnorm1.defs (F := Bits)) (onTc (τ := Cert.Dnorm1.τ) (Cert.Dnorm1.main (F := Bits))) ⟨m, fun _ => 0, g⟩ (fun r => (∀ c : Dev Cert.Dnorm1.nD,
      r.2.mem ((c.tc : Thread Cert.Dnorm1.nD Cert.Dnorm1.τ).loc Cert.Dnorm1.main_arg0) = m ((c.tc : Thread Cert.Dnorm1.nD Cert.Dnorm1.τ).loc Cert.Dnorm1.main_arg0)
      ∧ r.2.mem ((c.tc : Thread Cert.Dnorm1.nD Cert.Dnorm1.τ).loc Cert.Dnorm1.main_arg1) = m ((c.tc : Thread Cert.Dnorm1.nD Cert.Dnorm1.τ).loc Cert.Dnorm1.main_arg1)
      ∧ r.2.mem ((c.tc : Thread Cert.Dnorm1.nD Cert.Dnorm1.τ).loc Cert.Dnorm1.main_arg2) = m ((c.tc : Thread Cert.Dnorm1.nD Cert.Dnorm1.τ).loc Cert.Dnorm1.main_arg2)
      ∧ r.2.mem ((c.tc : Thread Cert.Dnorm1.nD Cert.Dnorm1.τ).loc Cert.Dnorm1.main_arg3) = m ((c.tc : Thread Cert.Dnorm1.nD Cert.Dnorm1.τ).loc Cert.Dnorm1.main_arg3)
      ∧ r.2.mem ((c.tc : Thread Cert.Dnorm1.nD Cert.Dnorm1.τ).loc Cert.Dnorm1.main_arg4) = m ((c.tc : Thread Cert.Dnorm1.nD Cert.Dnorm1.τ).loc Cert.Dnorm1.main_arg4))
      ∧ r.2.sem = fun _ => 0)

def quiescent_Dnorm1Ideal [hDnorm1Ideal : Cert.Dnorm1Ideal.Facts] : Prop :=
  ∀ (m : (ℓ : Loc Cert.Dnorm1Ideal.nD Cert.Dnorm1Ideal.τ Cert.Dnorm1Ideal.sig) → Buf (Elt Ideal) ℓ) (g : Dev Cert.Dnorm1Ideal.nD → PrngReg), Pre_Dnorm1Ideal m →
    θ_run (Cert.Dnorm1Ideal.defs (F := Ideal)) (onTc (τ := Cert.Dnorm1Ideal.τ) (Cert.Dnorm1Ideal.main (F := Ideal))) ⟨m, fun _ => 0, g⟩ (fun r => (∀ c : Dev Cert.Dnorm1Ideal.nD,
      r.2.mem ((c.tc : Thread Cert.Dnorm1Ideal.nD Cert.Dnorm1Ideal.τ).loc Cert.Dnorm1Ideal.main_arg0) = m ((c.tc : Thread Cert.Dnorm1Ideal.nD Cert.Dnorm1Ideal.τ).loc Cert.Dnorm1Ideal.main_arg0)
      ∧ r.2.mem ((c.tc : Thread Cert.Dnorm1Ideal.nD Cert.Dnorm1Ideal.τ).loc Cert.Dnorm1Ideal.main_arg1) = m ((c.tc : Thread Cert.Dnorm1Ideal.nD Cert.Dnorm1Ideal.τ).loc Cert.Dnorm1Ideal.main_arg1)
      ∧ r.2.mem ((c.tc : Thread Cert.Dnorm1Ideal.nD Cert.Dnorm1Ideal.τ).loc Cert.Dnorm1Ideal.main_arg2) = m ((c.tc : Thread Cert.Dnorm1Ideal.nD Cert.Dnorm1Ideal.τ).loc Cert.Dnorm1Ideal.main_arg2)
      ∧ r.2.mem ((c.tc : Thread Cert.Dnorm1Ideal.nD Cert.Dnorm1Ideal.τ).loc Cert.Dnorm1Ideal.main_arg3) = m ((c.tc : Thread Cert.Dnorm1Ideal.nD Cert.Dnorm1Ideal.τ).loc Cert.Dnorm1Ideal.main_arg3)
      ∧ r.2.mem ((c.tc : Thread Cert.Dnorm1Ideal.nD Cert.Dnorm1Ideal.τ).loc Cert.Dnorm1Ideal.main_arg4) = m ((c.tc : Thread Cert.Dnorm1Ideal.nD Cert.Dnorm1Ideal.τ).loc Cert.Dnorm1Ideal.main_arg4))
      ∧ r.2.sem = fun _ => 0)

def quiescent_Dnorm1ReferenceIdeal [hDnorm1ReferenceIdeal : Cert.Dnorm1ReferenceIdeal.Facts] : Prop :=
  ∀ (m : (ℓ : Loc Cert.Dnorm1ReferenceIdeal.nD Cert.Dnorm1ReferenceIdeal.τ Cert.Dnorm1ReferenceIdeal.sig) → Buf (Elt Ideal) ℓ) (g : Dev Cert.Dnorm1ReferenceIdeal.nD → PrngReg), Pre_Dnorm1ReferenceIdeal m →
    θ_run (Cert.Dnorm1ReferenceIdeal.defs (F := Ideal)) (onTc (τ := Cert.Dnorm1ReferenceIdeal.τ) (Cert.Dnorm1ReferenceIdeal.main (F := Ideal))) ⟨m, fun _ => 0, g⟩ (fun r => (∀ c : Dev Cert.Dnorm1ReferenceIdeal.nD,
      r.2.mem ((c.tc : Thread Cert.Dnorm1ReferenceIdeal.nD Cert.Dnorm1ReferenceIdeal.τ).loc Cert.Dnorm1ReferenceIdeal.main_arg0) = m ((c.tc : Thread Cert.Dnorm1ReferenceIdeal.nD Cert.Dnorm1ReferenceIdeal.τ).loc Cert.Dnorm1ReferenceIdeal.main_arg0)
      ∧ r.2.mem ((c.tc : Thread Cert.Dnorm1ReferenceIdeal.nD Cert.Dnorm1ReferenceIdeal.τ).loc Cert.Dnorm1ReferenceIdeal.main_arg1) = m ((c.tc : Thread Cert.Dnorm1ReferenceIdeal.nD Cert.Dnorm1ReferenceIdeal.τ).loc Cert.Dnorm1ReferenceIdeal.main_arg1)
      ∧ r.2.mem ((c.tc : Thread Cert.Dnorm1ReferenceIdeal.nD Cert.Dnorm1ReferenceIdeal.τ).loc Cert.Dnorm1ReferenceIdeal.main_arg2) = m ((c.tc : Thread Cert.Dnorm1ReferenceIdeal.nD Cert.Dnorm1ReferenceIdeal.τ).loc Cert.Dnorm1ReferenceIdeal.main_arg2)
      ∧ r.2.mem ((c.tc : Thread Cert.Dnorm1ReferenceIdeal.nD Cert.Dnorm1ReferenceIdeal.τ).loc Cert.Dnorm1ReferenceIdeal.main_arg3) = m ((c.tc : Thread Cert.Dnorm1ReferenceIdeal.nD Cert.Dnorm1ReferenceIdeal.τ).loc Cert.Dnorm1ReferenceIdeal.main_arg3)
      ∧ r.2.mem ((c.tc : Thread Cert.Dnorm1ReferenceIdeal.nD Cert.Dnorm1ReferenceIdeal.τ).loc Cert.Dnorm1ReferenceIdeal.main_arg4) = m ((c.tc : Thread Cert.Dnorm1ReferenceIdeal.nD Cert.Dnorm1ReferenceIdeal.τ).loc Cert.Dnorm1ReferenceIdeal.main_arg4))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ r.2.sem = fun _ => 0)

def quiescent_Ff2ReferenceIdeal [hFf2ReferenceIdeal : Cert.Ff2ReferenceIdeal.Facts] : Prop :=
  ∀ (m : (ℓ : Loc Cert.Ff2ReferenceIdeal.nD Cert.Ff2ReferenceIdeal.τ Cert.Ff2ReferenceIdeal.sig) → Buf (Elt Ideal) ℓ) (g : Dev Cert.Ff2ReferenceIdeal.nD → PrngReg), Pre_Ff2ReferenceIdeal m →
    θ_run (Cert.Ff2ReferenceIdeal.defs (F := Ideal)) (onTc (τ := Cert.Ff2ReferenceIdeal.τ) (Cert.Ff2ReferenceIdeal.main (F := Ideal))) ⟨m, fun _ => 0, g⟩ (fun r => (∀ c : Dev Cert.Ff2ReferenceIdeal.nD,
      r.2.mem ((c.tc : Thread Cert.Ff2ReferenceIdeal.nD Cert.Ff2ReferenceIdeal.τ).loc Cert.Ff2ReferenceIdeal.main_arg0) = m ((c.tc : Thread Cert.Ff2ReferenceIdeal.nD Cert.Ff2ReferenceIdeal.τ).loc Cert.Ff2ReferenceIdeal.main_arg0)
      ∧ r.2.mem ((c.tc : Thread Cert.Ff2ReferenceIdeal.nD Cert.Ff2ReferenceIdeal.τ).loc Cert.Ff2ReferenceIdeal.main_arg1) = m ((c.tc : Thread Cert.Ff2ReferenceIdeal.nD Cert.Ff2ReferenceIdeal.τ).loc Cert.Ff2ReferenceIdeal.main_arg1)
      ∧ r.2.mem ((c.tc : Thread Cert.Ff2ReferenceIdeal.nD Cert.Ff2ReferenceIdeal.τ).loc Cert.Ff2ReferenceIdeal.main_arg2) = m ((c.tc : Thread Cert.Ff2ReferenceIdeal.nD Cert.Ff2ReferenceIdeal.τ).loc Cert.Ff2ReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguIdeal_pre_finite16 [hSguIdeal : Cert.SguIdeal.Facts] [hPre_finite16 : Cert.Pre_finite16.Facts] : Prop :=
  ∀ (m : (ℓ : Loc Cert.SguIdeal.nD Cert.SguIdeal.τ Cert.SguIdeal.sig) → Buf (Elt Ideal) ℓ) (g : Dev Cert.SguIdeal.nD → PrngReg), Pre_SguIdeal_finite16 m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4))
      ∧ r.2.sem = fun _ => 0)

def quiescent_SguReferenceIdeal_pre_finite16 [hSguReferenceIdeal : Cert.SguReferenceIdeal.Facts] [hPre_finite16 : Cert.Pre_finite16.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal_finite16 m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2))
      ∧ r.2.sem = fun _ => 0)

def quiescent_NormInReferenceIdeal [hNormInReferenceIdeal : Cert.NormInReferenceIdeal.Facts] : Prop :=
  ∀ (m : (ℓ : Loc Cert.NormInReferenceIdeal.nD Cert.NormInReferenceIdeal.τ Cert.NormInReferenceIdeal.sig) → Buf (Elt Ideal) ℓ) (g : Dev Cert.NormInReferenceIdeal.nD → PrngReg), Pre_NormInReferenceIdeal m →
    θ_run (Cert.NormInReferenceIdeal.defs (F := Ideal)) (onTc (τ := Cert.NormInReferenceIdeal.τ) (Cert.NormInReferenceIdeal.main (F := Ideal))) ⟨m, fun _ => 0, g⟩ (fun r => (∀ c : Dev Cert.NormInReferenceIdeal.nD,
      r.2.mem ((c.tc : Thread Cert.NormInReferenceIdeal.nD Cert.NormInReferenceIdeal.τ).loc Cert.NormInReferenceIdeal.main_arg0) = m ((c.tc : Thread Cert.NormInReferenceIdeal.nD Cert.NormInReferenceIdeal.τ).loc Cert.NormInReferenceIdeal.main_arg0)
      ∧ r.2.mem ((c.tc : Thread Cert.NormInReferenceIdeal.nD Cert.NormInReferenceIdeal.τ).loc Cert.NormInReferenceIdeal.main_arg1) = m ((c.tc : Thread Cert.NormInReferenceIdeal.nD Cert.NormInReferenceIdeal.τ).loc Cert.NormInReferenceIdeal.main_arg1)
      ∧ r.2.mem ((c.tc : Thread Cert.NormInReferenceIdeal.nD Cert.NormInReferenceIdeal.τ).loc Cert.NormInReferenceIdeal.main_arg2) = m ((c.tc : Thread Cert.NormInReferenceIdeal.nD Cert.NormInReferenceIdeal.τ).loc Cert.NormInReferenceIdeal.main_arg2))
      ∧ r.2.sem = fun _ => 0)

def quiescent_NormFf [hNormFf : Cert.NormFf.Facts] : Prop :=
  ∀ (m : (ℓ : Loc Cert.NormFf.nD Cert.NormFf.τ Cert.NormFf.sig) → Buf (Elt Bits) ℓ) (g : Dev Cert.NormFf.nD → PrngReg), Pre_NormFf m →
    θ_run (Cert.NormFf.defs (F := Bits)) (onTc (τ := Cert.NormFf.τ) (Cert.NormFf.main (F := Bits))) ⟨m, fun _ => 0, g⟩ (fun r => (∀ c : Dev Cert.NormFf.nD,
      r.2.mem ((c.tc : Thread Cert.NormFf.nD Cert.NormFf.τ).loc Cert.NormFf.main_arg0) = m ((c.tc : Thread Cert.NormFf.nD Cert.NormFf.τ).loc Cert.NormFf.main_arg0)
      ∧ r.2.mem ((c.tc : Thread Cert.NormFf.nD Cert.NormFf.τ).loc Cert.NormFf.main_arg1) = m ((c.tc : Thread Cert.NormFf.nD Cert.NormFf.τ).loc Cert.NormFf.main_arg1)
      ∧ r.2.mem ((c.tc : Thread Cert.NormFf.nD Cert.NormFf.τ).loc Cert.NormFf.main_arg2) = m ((c.tc : Thread Cert.NormFf.nD Cert.NormFf.τ).loc Cert.NormFf.main_arg2))
      ∧ r.2.sem = fun _ => 0)

def quiescent_NormFfIdeal [hNormFfIdeal : Cert.NormFfIdeal.Facts] : Prop :=
  ∀ (m : (ℓ : Loc Cert.NormFfIdeal.nD Cert.NormFfIdeal.τ Cert.NormFfIdeal.sig) → Buf (Elt Ideal) ℓ) (g : Dev Cert.NormFfIdeal.nD → PrngReg), Pre_NormFfIdeal m →
    θ_run (Cert.NormFfIdeal.defs (F := Ideal)) (onTc (τ := Cert.NormFfIdeal.τ) (Cert.NormFfIdeal.main (F := Ideal))) ⟨m, fun _ => 0, g⟩ (fun r => (∀ c : Dev Cert.NormFfIdeal.nD,
      r.2.mem ((c.tc : Thread Cert.NormFfIdeal.nD Cert.NormFfIdeal.τ).loc Cert.NormFfIdeal.main_arg0) = m ((c.tc : Thread Cert.NormFfIdeal.nD Cert.NormFfIdeal.τ).loc Cert.NormFfIdeal.main_arg0)
      ∧ r.2.mem ((c.tc : Thread Cert.NormFfIdeal.nD Cert.NormFfIdeal.τ).loc Cert.NormFfIdeal.main_arg1) = m ((c.tc : Thread Cert.NormFfIdeal.nD Cert.NormFfIdeal.τ).loc Cert.NormFfIdeal.main_arg1)
      ∧ r.2.mem ((c.tc : Thread Cert.NormFfIdeal.nD Cert.NormFfIdeal.τ).loc Cert.NormFfIdeal.main_arg2) = m ((c.tc : Thread Cert.NormFfIdeal.nD Cert.NormFfIdeal.τ).loc Cert.NormFfIdeal.main_arg2))
      ∧ r.2.sem = fun _ => 0)

def quiescent_NormFfReferenceIdeal [hNormFfReferenceIdeal : Cert.NormFfReferenceIdeal.Facts] : Prop :=
  ∀ (m : (ℓ : Loc Cert.NormFfReferenceIdeal.nD Cert.NormFfReferenceIdeal.τ Cert.NormFfReferenceIdeal.sig) → Buf (Elt Ideal) ℓ) (g : Dev Cert.NormFfReferenceIdeal.nD → PrngReg), Pre_NormFfReferenceIdeal m →
    θ_run (Cert.NormFfReferenceIdeal.defs (F := Ideal)) (onTc (τ := Cert.NormFfReferenceIdeal.τ) (Cert.NormFfReferenceIdeal.main (F := Ideal))) ⟨m, fun _ => 0, g⟩ (fun r => (∀ c : Dev Cert.NormFfReferenceIdeal.nD,
      r.2.mem ((c.tc : Thread Cert.NormFfReferenceIdeal.nD Cert.NormFfReferenceIdeal.τ).loc Cert.NormFfReferenceIdeal.main_arg0) = m ((c.tc : Thread Cert.NormFfReferenceIdeal.nD Cert.NormFfReferenceIdeal.τ).loc Cert.NormFfReferenceIdeal.main_arg0)
      ∧ r.2.mem ((c.tc : Thread Cert.NormFfReferenceIdeal.nD Cert.NormFfReferenceIdeal.τ).loc Cert.NormFfReferenceIdeal.main_arg1) = m ((c.tc : Thread Cert.NormFfReferenceIdeal.nD Cert.NormFfReferenceIdeal.τ).loc Cert.NormFfReferenceIdeal.main_arg1)
      ∧ r.2.mem ((c.tc : Thread Cert.NormFfReferenceIdeal.nD Cert.NormFfReferenceIdeal.τ).loc Cert.NormFfReferenceIdeal.main_arg2) = m ((c.tc : Thread Cert.NormFfReferenceIdeal.nD Cert.NormFfReferenceIdeal.τ).loc Cert.NormFfReferenceIdeal.main_arg2))
      ∧ r.2.sem = fun _ => 0)

def quiescent_NormGate [hNormGate : Cert.NormGate.Facts] : Prop :=
  ∀ (m : (ℓ : Loc Cert.NormGate.nD Cert.NormGate.τ Cert.NormGate.sig) → Buf (Elt Bits) ℓ) (g : Dev Cert.NormGate.nD → PrngReg), Pre_NormGate m →
    θ_run (Cert.NormGate.defs (F := Bits)) (onTc (τ := Cert.NormGate.τ) (Cert.NormGate.main (F := Bits))) ⟨m, fun _ => 0, g⟩ (fun r => (∀ c : Dev Cert.NormGate.nD,
      r.2.mem ((c.tc : Thread Cert.NormGate.nD Cert.NormGate.τ).loc Cert.NormGate.main_arg0) = m ((c.tc : Thread Cert.NormGate.nD Cert.NormGate.τ).loc Cert.NormGate.main_arg0)
      ∧ r.2.mem ((c.tc : Thread Cert.NormGate.nD Cert.NormGate.τ).loc Cert.NormGate.main_arg1) = m ((c.tc : Thread Cert.NormGate.nD Cert.NormGate.τ).loc Cert.NormGate.main_arg1)
      ∧ r.2.mem ((c.tc : Thread Cert.NormGate.nD Cert.NormGate.τ).loc Cert.NormGate.main_arg2) = m ((c.tc : Thread Cert.NormGate.nD Cert.NormGate.τ).loc Cert.NormGate.main_arg2))
      ∧ r.2.sem = fun _ => 0)

def quiescent_NormGateIdeal [hNormGateIdeal : Cert.NormGateIdeal.Facts] : Prop :=
  ∀ (m : (ℓ : Loc Cert.NormGateIdeal.nD Cert.NormGateIdeal.τ Cert.NormGateIdeal.sig) → Buf (Elt Ideal) ℓ) (g : Dev Cert.NormGateIdeal.nD → PrngReg), Pre_NormGateIdeal m →
    θ_run (Cert.NormGateIdeal.defs (F := Ideal)) (onTc (τ := Cert.NormGateIdeal.τ) (Cert.NormGateIdeal.main (F := Ideal))) ⟨m, fun _ => 0, g⟩ (fun r => (∀ c : Dev Cert.NormGateIdeal.nD,
      r.2.mem ((c.tc : Thread Cert.NormGateIdeal.nD Cert.NormGateIdeal.τ).loc Cert.NormGateIdeal.main_arg0) = m ((c.tc : Thread Cert.NormGateIdeal.nD Cert.NormGateIdeal.τ).loc Cert.NormGateIdeal.main_arg0)
      ∧ r.2.mem ((c.tc : Thread Cert.NormGateIdeal.nD Cert.NormGateIdeal.τ).loc Cert.NormGateIdeal.main_arg1) = m ((c.tc : Thread Cert.NormGateIdeal.nD Cert.NormGateIdeal.τ).loc Cert.NormGateIdeal.main_arg1)
      ∧ r.2.mem ((c.tc : Thread Cert.NormGateIdeal.nD Cert.NormGateIdeal.τ).loc Cert.NormGateIdeal.main_arg2) = m ((c.tc : Thread Cert.NormGateIdeal.nD Cert.NormGateIdeal.τ).loc Cert.NormGateIdeal.main_arg2))
      ∧ r.2.sem = fun _ => 0)

def quiescent_NormGateReferenceIdeal [hNormGateReferenceIdeal : Cert.NormGateReferenceIdeal.Facts] : Prop :=
  ∀ (m : (ℓ : Loc Cert.NormGateReferenceIdeal.nD Cert.NormGateReferenceIdeal.τ Cert.NormGateReferenceIdeal.sig) → Buf (Elt Ideal) ℓ) (g : Dev Cert.NormGateReferenceIdeal.nD → PrngReg), Pre_NormGateReferenceIdeal m →
    θ_run (Cert.NormGateReferenceIdeal.defs (F := Ideal)) (onTc (τ := Cert.NormGateReferenceIdeal.τ) (Cert.NormGateReferenceIdeal.main (F := Ideal))) ⟨m, fun _ => 0, g⟩ (fun r => (∀ c : Dev Cert.NormGateReferenceIdeal.nD,
      r.2.mem ((c.tc : Thread Cert.NormGateReferenceIdeal.nD Cert.NormGateReferenceIdeal.τ).loc Cert.NormGateReferenceIdeal.main_arg0) = m ((c.tc : Thread Cert.NormGateReferenceIdeal.nD Cert.NormGateReferenceIdeal.τ).loc Cert.NormGateReferenceIdeal.main_arg0)
      ∧ r.2.mem ((c.tc : Thread Cert.NormGateReferenceIdeal.nD Cert.NormGateReferenceIdeal.τ).loc Cert.NormGateReferenceIdeal.main_arg1) = m ((c.tc : Thread Cert.NormGateReferenceIdeal.nD Cert.NormGateReferenceIdeal.τ).loc Cert.NormGateReferenceIdeal.main_arg1)
      ∧ r.2.mem ((c.tc : Thread Cert.NormGateReferenceIdeal.nD Cert.NormGateReferenceIdeal.τ).loc Cert.NormGateReferenceIdeal.main_arg2) = m ((c.tc : Thread Cert.NormGateReferenceIdeal.nD Cert.NormGateReferenceIdeal.τ).loc Cert.NormGateReferenceIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormReferenceIdeal [hAdamNormReferenceIdeal : Cert.AdamNormReferenceIdeal.Facts] : Prop :=
  ∀ (m : (ℓ : Loc Cert.AdamNormReferenceIdeal.nD Cert.AdamNormReferenceIdeal.τ Cert.AdamNormReferenceIdeal.sig) → Buf (Elt Ideal) ℓ) (g : Dev Cert.AdamNormReferenceIdeal.nD → PrngReg), Pre_AdamNormReferenceIdeal m →
    θ_run (Cert.AdamNormReferenceIdeal.defs (F := Ideal)) (onTc (τ := Cert.AdamNormReferenceIdeal.τ) (Cert.AdamNormReferenceIdeal.main (F := Ideal))) ⟨m, fun _ => 0, g⟩ (fun r => (∀ c : Dev Cert.AdamNormReferenceIdeal.nD,
      r.2.mem ((c.tc : Thread Cert.AdamNormReferenceIdeal.nD Cert.AdamNormReferenceIdeal.τ).loc Cert.AdamNormReferenceIdeal.main_arg0) = m ((c.tc : Thread Cert.AdamNormReferenceIdeal.nD Cert.AdamNormReferenceIdeal.τ).loc Cert.AdamNormReferenceIdeal.main_arg0)
      ∧ r.2.mem ((c.tc : Thread Cert.AdamNormReferenceIdeal.nD Cert.AdamNormReferenceIdeal.τ).loc Cert.AdamNormReferenceIdeal.main_arg1) = m ((c.tc : Thread Cert.AdamNormReferenceIdeal.nD Cert.AdamNormReferenceIdeal.τ).loc Cert.AdamNormReferenceIdeal.main_arg1)
      ∧ r.2.mem ((c.tc : Thread Cert.AdamNormReferenceIdeal.nD Cert.AdamNormReferenceIdeal.τ).loc Cert.AdamNormReferenceIdeal.main_arg2) = m ((c.tc : Thread Cert.AdamNormReferenceIdeal.nD Cert.AdamNormReferenceIdeal.τ).loc Cert.AdamNormReferenceIdeal.main_arg2)
      ∧ r.2.mem ((c.tc : Thread Cert.AdamNormReferenceIdeal.nD Cert.AdamNormReferenceIdeal.τ).loc Cert.AdamNormReferenceIdeal.main_arg3) = m ((c.tc : Thread Cert.AdamNormReferenceIdeal.nD Cert.AdamNormReferenceIdeal.τ).loc Cert.AdamNormReferenceIdeal.main_arg3))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ r.2.sem = fun _ => 0)

def quiescent_AdamHeadReferenceIdeal [hAdamHeadReferenceIdeal : Cert.AdamHeadReferenceIdeal.Facts] : Prop :=
  ∀ (m : (ℓ : Loc Cert.AdamHeadReferenceIdeal.nD Cert.AdamHeadReferenceIdeal.τ Cert.AdamHeadReferenceIdeal.sig) → Buf (Elt Ideal) ℓ) (g : Dev Cert.AdamHeadReferenceIdeal.nD → PrngReg), Pre_AdamHeadReferenceIdeal m →
    θ_run (Cert.AdamHeadReferenceIdeal.defs (F := Ideal)) (onTc (τ := Cert.AdamHeadReferenceIdeal.τ) (Cert.AdamHeadReferenceIdeal.main (F := Ideal))) ⟨m, fun _ => 0, g⟩ (fun r => (∀ c : Dev Cert.AdamHeadReferenceIdeal.nD,
      r.2.mem ((c.tc : Thread Cert.AdamHeadReferenceIdeal.nD Cert.AdamHeadReferenceIdeal.τ).loc Cert.AdamHeadReferenceIdeal.main_arg0) = m ((c.tc : Thread Cert.AdamHeadReferenceIdeal.nD Cert.AdamHeadReferenceIdeal.τ).loc Cert.AdamHeadReferenceIdeal.main_arg0)
      ∧ r.2.mem ((c.tc : Thread Cert.AdamHeadReferenceIdeal.nD Cert.AdamHeadReferenceIdeal.τ).loc Cert.AdamHeadReferenceIdeal.main_arg1) = m ((c.tc : Thread Cert.AdamHeadReferenceIdeal.nD Cert.AdamHeadReferenceIdeal.τ).loc Cert.AdamHeadReferenceIdeal.main_arg1)
      ∧ r.2.mem ((c.tc : Thread Cert.AdamHeadReferenceIdeal.nD Cert.AdamHeadReferenceIdeal.τ).loc Cert.AdamHeadReferenceIdeal.main_arg2) = m ((c.tc : Thread Cert.AdamHeadReferenceIdeal.nD Cert.AdamHeadReferenceIdeal.τ).loc Cert.AdamHeadReferenceIdeal.main_arg2)
      ∧ r.2.mem ((c.tc : Thread Cert.AdamHeadReferenceIdeal.nD Cert.AdamHeadReferenceIdeal.τ).loc Cert.AdamHeadReferenceIdeal.main_arg3) = m ((c.tc : Thread Cert.AdamHeadReferenceIdeal.nD Cert.AdamHeadReferenceIdeal.τ).loc Cert.AdamHeadReferenceIdeal.main_arg3))
      ∧ r.2.sem = fun _ => 0)

def quiescent_AdamSguNorm [hAdamSguNorm : Cert.AdamSguNorm.Facts] : Prop :=
  ∀ (m : (ℓ : Loc Cert.AdamSguNorm.nD Cert.AdamSguNorm.τ Cert.AdamSguNorm.sig) → Buf (Elt Bits) ℓ) (g : Dev Cert.AdamSguNorm.nD → PrngReg), Pre_AdamSguNorm m →
    θ_run (Cert.AdamSguNorm.defs (F := Bits)) (onTc (τ := Cert.AdamSguNorm.τ) (Cert.AdamSguNorm.main (F := Bits))) ⟨m, fun _ => 0, g⟩ (fun r => (∀ c : Dev Cert.AdamSguNorm.nD,
      r.2.mem ((c.tc : Thread Cert.AdamSguNorm.nD Cert.AdamSguNorm.τ).loc Cert.AdamSguNorm.main_arg0) = m ((c.tc : Thread Cert.AdamSguNorm.nD Cert.AdamSguNorm.τ).loc Cert.AdamSguNorm.main_arg0)
      ∧ r.2.mem ((c.tc : Thread Cert.AdamSguNorm.nD Cert.AdamSguNorm.τ).loc Cert.AdamSguNorm.main_arg1) = m ((c.tc : Thread Cert.AdamSguNorm.nD Cert.AdamSguNorm.τ).loc Cert.AdamSguNorm.main_arg1)
      ∧ r.2.mem ((c.tc : Thread Cert.AdamSguNorm.nD Cert.AdamSguNorm.τ).loc Cert.AdamSguNorm.main_arg2) = m ((c.tc : Thread Cert.AdamSguNorm.nD Cert.AdamSguNorm.τ).loc Cert.AdamSguNorm.main_arg2)
      ∧ r.2.mem ((c.tc : Thread Cert.AdamSguNorm.nD Cert.AdamSguNorm.τ).loc Cert.AdamSguNorm.main_arg3) = m ((c.tc : Thread Cert.AdamSguNorm.nD Cert.AdamSguNorm.τ).loc Cert.AdamSguNorm.main_arg3))
      ∧ r.2.sem = fun _ => 0)

def quiescent_AdamSguNormIdeal [hAdamSguNormIdeal : Cert.AdamSguNormIdeal.Facts] : Prop :=
  ∀ (m : (ℓ : Loc Cert.AdamSguNormIdeal.nD Cert.AdamSguNormIdeal.τ Cert.AdamSguNormIdeal.sig) → Buf (Elt Ideal) ℓ) (g : Dev Cert.AdamSguNormIdeal.nD → PrngReg), Pre_AdamSguNormIdeal m →
    θ_run (Cert.AdamSguNormIdeal.defs (F := Ideal)) (onTc (τ := Cert.AdamSguNormIdeal.τ) (Cert.AdamSguNormIdeal.main (F := Ideal))) ⟨m, fun _ => 0, g⟩ (fun r => (∀ c : Dev Cert.AdamSguNormIdeal.nD,
      r.2.mem ((c.tc : Thread Cert.AdamSguNormIdeal.nD Cert.AdamSguNormIdeal.τ).loc Cert.AdamSguNormIdeal.main_arg0) = m ((c.tc : Thread Cert.AdamSguNormIdeal.nD Cert.AdamSguNormIdeal.τ).loc Cert.AdamSguNormIdeal.main_arg0)
      ∧ r.2.mem ((c.tc : Thread Cert.AdamSguNormIdeal.nD Cert.AdamSguNormIdeal.τ).loc Cert.AdamSguNormIdeal.main_arg1) = m ((c.tc : Thread Cert.AdamSguNormIdeal.nD Cert.AdamSguNormIdeal.τ).loc Cert.AdamSguNormIdeal.main_arg1)
      ∧ r.2.mem ((c.tc : Thread Cert.AdamSguNormIdeal.nD Cert.AdamSguNormIdeal.τ).loc Cert.AdamSguNormIdeal.main_arg2) = m ((c.tc : Thread Cert.AdamSguNormIdeal.nD Cert.AdamSguNormIdeal.τ).loc Cert.AdamSguNormIdeal.main_arg2)
      ∧ r.2.mem ((c.tc : Thread Cert.AdamSguNormIdeal.nD Cert.AdamSguNormIdeal.τ).loc Cert.AdamSguNormIdeal.main_arg3) = m ((c.tc : Thread Cert.AdamSguNormIdeal.nD Cert.AdamSguNormIdeal.τ).loc Cert.AdamSguNormIdeal.main_arg3))
      ∧ r.2.sem = fun _ => 0)

def quiescent_AdamSguNormReferenceIdeal [hAdamSguNormReferenceIdeal : Cert.AdamSguNormReferenceIdeal.Facts] : Prop :=
  ∀ (m : (ℓ : Loc Cert.AdamSguNormReferenceIdeal.nD Cert.AdamSguNormReferenceIdeal.τ Cert.AdamSguNormReferenceIdeal.sig) → Buf (Elt Ideal) ℓ) (g : Dev Cert.AdamSguNormReferenceIdeal.nD → PrngReg), Pre_AdamSguNormReferenceIdeal m →
    θ_run (Cert.AdamSguNormReferenceIdeal.defs (F := Ideal)) (onTc (τ := Cert.AdamSguNormReferenceIdeal.τ) (Cert.AdamSguNormReferenceIdeal.main (F := Ideal))) ⟨m, fun _ => 0, g⟩ (fun r => (∀ c : Dev Cert.AdamSguNormReferenceIdeal.nD,
      r.2.mem ((c.tc : Thread Cert.AdamSguNormReferenceIdeal.nD Cert.AdamSguNormReferenceIdeal.τ).loc Cert.AdamSguNormReferenceIdeal.main_arg0) = m ((c.tc : Thread Cert.AdamSguNormReferenceIdeal.nD Cert.AdamSguNormReferenceIdeal.τ).loc Cert.AdamSguNormReferenceIdeal.main_arg0)
      ∧ r.2.mem ((c.tc : Thread Cert.AdamSguNormReferenceIdeal.nD Cert.AdamSguNormReferenceIdeal.τ).loc Cert.AdamSguNormReferenceIdeal.main_arg1) = m ((c.tc : Thread Cert.AdamSguNormReferenceIdeal.nD Cert.AdamSguNormReferenceIdeal.τ).loc Cert.AdamSguNormReferenceIdeal.main_arg1)
      ∧ r.2.mem ((c.tc : Thread Cert.AdamSguNormReferenceIdeal.nD Cert.AdamSguNormReferenceIdeal.τ).loc Cert.AdamSguNormReferenceIdeal.main_arg2) = m ((c.tc : Thread Cert.AdamSguNormReferenceIdeal.nD Cert.AdamSguNormReferenceIdeal.τ).loc Cert.AdamSguNormReferenceIdeal.main_arg2)
      ∧ r.2.mem ((c.tc : Thread Cert.AdamSguNormReferenceIdeal.nD Cert.AdamSguNormReferenceIdeal.τ).loc Cert.AdamSguNormReferenceIdeal.main_arg3) = m ((c.tc : Thread Cert.AdamSguNormReferenceIdeal.nD Cert.AdamSguNormReferenceIdeal.τ).loc Cert.AdamSguNormReferenceIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvReferenceIdeal [hAdamConvReferenceIdeal : Cert.AdamConvReferenceIdeal.Facts] : Prop :=
  ∀ (m : (ℓ : Loc Cert.AdamConvReferenceIdeal.nD Cert.AdamConvReferenceIdeal.τ Cert.AdamConvReferenceIdeal.sig) → Buf (Elt Ideal) ℓ) (g : Dev Cert.AdamConvReferenceIdeal.nD → PrngReg), Pre_AdamConvReferenceIdeal m →
    θ_run (Cert.AdamConvReferenceIdeal.defs (F := Ideal)) (onTc (τ := Cert.AdamConvReferenceIdeal.τ) (Cert.AdamConvReferenceIdeal.main (F := Ideal))) ⟨m, fun _ => 0, g⟩ (fun r => (∀ c : Dev Cert.AdamConvReferenceIdeal.nD,
      r.2.mem ((c.tc : Thread Cert.AdamConvReferenceIdeal.nD Cert.AdamConvReferenceIdeal.τ).loc Cert.AdamConvReferenceIdeal.main_arg0) = m ((c.tc : Thread Cert.AdamConvReferenceIdeal.nD Cert.AdamConvReferenceIdeal.τ).loc Cert.AdamConvReferenceIdeal.main_arg0)
      ∧ r.2.mem ((c.tc : Thread Cert.AdamConvReferenceIdeal.nD Cert.AdamConvReferenceIdeal.τ).loc Cert.AdamConvReferenceIdeal.main_arg1) = m ((c.tc : Thread Cert.AdamConvReferenceIdeal.nD Cert.AdamConvReferenceIdeal.τ).loc Cert.AdamConvReferenceIdeal.main_arg1)
      ∧ r.2.mem ((c.tc : Thread Cert.AdamConvReferenceIdeal.nD Cert.AdamConvReferenceIdeal.τ).loc Cert.AdamConvReferenceIdeal.main_arg2) = m ((c.tc : Thread Cert.AdamConvReferenceIdeal.nD Cert.AdamConvReferenceIdeal.τ).loc Cert.AdamConvReferenceIdeal.main_arg2)
      ∧ r.2.mem ((c.tc : Thread Cert.AdamConvReferenceIdeal.nD Cert.AdamConvReferenceIdeal.τ).loc Cert.AdamConvReferenceIdeal.main_arg3) = m ((c.tc : Thread Cert.AdamConvReferenceIdeal.nD Cert.AdamConvReferenceIdeal.τ).loc Cert.AdamConvReferenceIdeal.main_arg3))
      ∧ r.2.sem = fun _ => 0)

def quiescent_AdamSguW [hAdamSguW : Cert.AdamSguW.Facts] : Prop :=
  ∀ (m : (ℓ : Loc Cert.AdamSguW.nD Cert.AdamSguW.τ Cert.AdamSguW.sig) → Buf (Elt Bits) ℓ) (g : Dev Cert.AdamSguW.nD → PrngReg), Pre_AdamSguW m →
    θ_run (Cert.AdamSguW.defs (F := Bits)) (onTc (τ := Cert.AdamSguW.τ) (Cert.AdamSguW.main (F := Bits))) ⟨m, fun _ => 0, g⟩ (fun r => (∀ c : Dev Cert.AdamSguW.nD,
      r.2.mem ((c.tc : Thread Cert.AdamSguW.nD Cert.AdamSguW.τ).loc Cert.AdamSguW.main_arg0) = m ((c.tc : Thread Cert.AdamSguW.nD Cert.AdamSguW.τ).loc Cert.AdamSguW.main_arg0)
      ∧ r.2.mem ((c.tc : Thread Cert.AdamSguW.nD Cert.AdamSguW.τ).loc Cert.AdamSguW.main_arg1) = m ((c.tc : Thread Cert.AdamSguW.nD Cert.AdamSguW.τ).loc Cert.AdamSguW.main_arg1)
      ∧ r.2.mem ((c.tc : Thread Cert.AdamSguW.nD Cert.AdamSguW.τ).loc Cert.AdamSguW.main_arg2) = m ((c.tc : Thread Cert.AdamSguW.nD Cert.AdamSguW.τ).loc Cert.AdamSguW.main_arg2)
      ∧ r.2.mem ((c.tc : Thread Cert.AdamSguW.nD Cert.AdamSguW.τ).loc Cert.AdamSguW.main_arg3) = m ((c.tc : Thread Cert.AdamSguW.nD Cert.AdamSguW.τ).loc Cert.AdamSguW.main_arg3))
      ∧ r.2.sem = fun _ => 0)

def quiescent_AdamSguWIdeal [hAdamSguWIdeal : Cert.AdamSguWIdeal.Facts] : Prop :=
  ∀ (m : (ℓ : Loc Cert.AdamSguWIdeal.nD Cert.AdamSguWIdeal.τ Cert.AdamSguWIdeal.sig) → Buf (Elt Ideal) ℓ) (g : Dev Cert.AdamSguWIdeal.nD → PrngReg), Pre_AdamSguWIdeal m →
    θ_run (Cert.AdamSguWIdeal.defs (F := Ideal)) (onTc (τ := Cert.AdamSguWIdeal.τ) (Cert.AdamSguWIdeal.main (F := Ideal))) ⟨m, fun _ => 0, g⟩ (fun r => (∀ c : Dev Cert.AdamSguWIdeal.nD,
      r.2.mem ((c.tc : Thread Cert.AdamSguWIdeal.nD Cert.AdamSguWIdeal.τ).loc Cert.AdamSguWIdeal.main_arg0) = m ((c.tc : Thread Cert.AdamSguWIdeal.nD Cert.AdamSguWIdeal.τ).loc Cert.AdamSguWIdeal.main_arg0)
      ∧ r.2.mem ((c.tc : Thread Cert.AdamSguWIdeal.nD Cert.AdamSguWIdeal.τ).loc Cert.AdamSguWIdeal.main_arg1) = m ((c.tc : Thread Cert.AdamSguWIdeal.nD Cert.AdamSguWIdeal.τ).loc Cert.AdamSguWIdeal.main_arg1)
      ∧ r.2.mem ((c.tc : Thread Cert.AdamSguWIdeal.nD Cert.AdamSguWIdeal.τ).loc Cert.AdamSguWIdeal.main_arg2) = m ((c.tc : Thread Cert.AdamSguWIdeal.nD Cert.AdamSguWIdeal.τ).loc Cert.AdamSguWIdeal.main_arg2)
      ∧ r.2.mem ((c.tc : Thread Cert.AdamSguWIdeal.nD Cert.AdamSguWIdeal.τ).loc Cert.AdamSguWIdeal.main_arg3) = m ((c.tc : Thread Cert.AdamSguWIdeal.nD Cert.AdamSguWIdeal.τ).loc Cert.AdamSguWIdeal.main_arg3))
      ∧ r.2.sem = fun _ => 0)

def quiescent_AdamSguWReferenceIdeal [hAdamSguWReferenceIdeal : Cert.AdamSguWReferenceIdeal.Facts] : Prop :=
  ∀ (m : (ℓ : Loc Cert.AdamSguWReferenceIdeal.nD Cert.AdamSguWReferenceIdeal.τ Cert.AdamSguWReferenceIdeal.sig) → Buf (Elt Ideal) ℓ) (g : Dev Cert.AdamSguWReferenceIdeal.nD → PrngReg), Pre_AdamSguWReferenceIdeal m →
    θ_run (Cert.AdamSguWReferenceIdeal.defs (F := Ideal)) (onTc (τ := Cert.AdamSguWReferenceIdeal.τ) (Cert.AdamSguWReferenceIdeal.main (F := Ideal))) ⟨m, fun _ => 0, g⟩ (fun r => (∀ c : Dev Cert.AdamSguWReferenceIdeal.nD,
      r.2.mem ((c.tc : Thread Cert.AdamSguWReferenceIdeal.nD Cert.AdamSguWReferenceIdeal.τ).loc Cert.AdamSguWReferenceIdeal.main_arg0) = m ((c.tc : Thread Cert.AdamSguWReferenceIdeal.nD Cert.AdamSguWReferenceIdeal.τ).loc Cert.AdamSguWReferenceIdeal.main_arg0)
      ∧ r.2.mem ((c.tc : Thread Cert.AdamSguWReferenceIdeal.nD Cert.AdamSguWReferenceIdeal.τ).loc Cert.AdamSguWReferenceIdeal.main_arg1) = m ((c.tc : Thread Cert.AdamSguWReferenceIdeal.nD Cert.AdamSguWReferenceIdeal.τ).loc Cert.AdamSguWReferenceIdeal.main_arg1)
      ∧ r.2.mem ((c.tc : Thread Cert.AdamSguWReferenceIdeal.nD Cert.AdamSguWReferenceIdeal.τ).loc Cert.AdamSguWReferenceIdeal.main_arg2) = m ((c.tc : Thread Cert.AdamSguWReferenceIdeal.nD Cert.AdamSguWReferenceIdeal.τ).loc Cert.AdamSguWReferenceIdeal.main_arg2)
      ∧ r.2.mem ((c.tc : Thread Cert.AdamSguWReferenceIdeal.nD Cert.AdamSguWReferenceIdeal.τ).loc Cert.AdamSguWReferenceIdeal.main_arg3) = m ((c.tc : Thread Cert.AdamSguWReferenceIdeal.nD Cert.AdamSguWReferenceIdeal.τ).loc Cert.AdamSguWReferenceIdeal.main_arg3))
      ∧ r.2.sem = fun _ => 0)

def quiescent_AdamSguB [hAdamSguB : Cert.AdamSguB.Facts] : Prop :=
  ∀ (m : (ℓ : Loc Cert.AdamSguB.nD Cert.AdamSguB.τ Cert.AdamSguB.sig) → Buf (Elt Bits) ℓ) (g : Dev Cert.AdamSguB.nD → PrngReg), Pre_AdamSguB m →
    θ_run (Cert.AdamSguB.defs (F := Bits)) (onTc (τ := Cert.AdamSguB.τ) (Cert.AdamSguB.main (F := Bits))) ⟨m, fun _ => 0, g⟩ (fun r => (∀ c : Dev Cert.AdamSguB.nD,
      r.2.mem ((c.tc : Thread Cert.AdamSguB.nD Cert.AdamSguB.τ).loc Cert.AdamSguB.main_arg0) = m ((c.tc : Thread Cert.AdamSguB.nD Cert.AdamSguB.τ).loc Cert.AdamSguB.main_arg0)
      ∧ r.2.mem ((c.tc : Thread Cert.AdamSguB.nD Cert.AdamSguB.τ).loc Cert.AdamSguB.main_arg1) = m ((c.tc : Thread Cert.AdamSguB.nD Cert.AdamSguB.τ).loc Cert.AdamSguB.main_arg1)
      ∧ r.2.mem ((c.tc : Thread Cert.AdamSguB.nD Cert.AdamSguB.τ).loc Cert.AdamSguB.main_arg2) = m ((c.tc : Thread Cert.AdamSguB.nD Cert.AdamSguB.τ).loc Cert.AdamSguB.main_arg2)
      ∧ r.2.mem ((c.tc : Thread Cert.AdamSguB.nD Cert.AdamSguB.τ).loc Cert.AdamSguB.main_arg3) = m ((c.tc : Thread Cert.AdamSguB.nD Cert.AdamSguB.τ).loc Cert.AdamSguB.main_arg3))
      ∧ r.2.sem = fun _ => 0)

def quiescent_AdamSguBIdeal [hAdamSguBIdeal : Cert.AdamSguBIdeal.Facts] : Prop :=
  ∀ (m : (ℓ : Loc Cert.AdamSguBIdeal.nD Cert.AdamSguBIdeal.τ Cert.AdamSguBIdeal.sig) → Buf (Elt Ideal) ℓ) (g : Dev Cert.AdamSguBIdeal.nD → PrngReg), Pre_AdamSguBIdeal m →
    θ_run (Cert.AdamSguBIdeal.defs (F := Ideal)) (onTc (τ := Cert.AdamSguBIdeal.τ) (Cert.AdamSguBIdeal.main (F := Ideal))) ⟨m, fun _ => 0, g⟩ (fun r => (∀ c : Dev Cert.AdamSguBIdeal.nD,
      r.2.mem ((c.tc : Thread Cert.AdamSguBIdeal.nD Cert.AdamSguBIdeal.τ).loc Cert.AdamSguBIdeal.main_arg0) = m ((c.tc : Thread Cert.AdamSguBIdeal.nD Cert.AdamSguBIdeal.τ).loc Cert.AdamSguBIdeal.main_arg0)
      ∧ r.2.mem ((c.tc : Thread Cert.AdamSguBIdeal.nD Cert.AdamSguBIdeal.τ).loc Cert.AdamSguBIdeal.main_arg1) = m ((c.tc : Thread Cert.AdamSguBIdeal.nD Cert.AdamSguBIdeal.τ).loc Cert.AdamSguBIdeal.main_arg1)
      ∧ r.2.mem ((c.tc : Thread Cert.AdamSguBIdeal.nD Cert.AdamSguBIdeal.τ).loc Cert.AdamSguBIdeal.main_arg2) = m ((c.tc : Thread Cert.AdamSguBIdeal.nD Cert.AdamSguBIdeal.τ).loc Cert.AdamSguBIdeal.main_arg2)
      ∧ r.2.mem ((c.tc : Thread Cert.AdamSguBIdeal.nD Cert.AdamSguBIdeal.τ).loc Cert.AdamSguBIdeal.main_arg3) = m ((c.tc : Thread Cert.AdamSguBIdeal.nD Cert.AdamSguBIdeal.τ).loc Cert.AdamSguBIdeal.main_arg3))
      ∧ r.2.sem = fun _ => 0)

def quiescent_AdamSguBReferenceIdeal [hAdamSguBReferenceIdeal : Cert.AdamSguBReferenceIdeal.Facts] : Prop :=
  ∀ (m : (ℓ : Loc Cert.AdamSguBReferenceIdeal.nD Cert.AdamSguBReferenceIdeal.τ Cert.AdamSguBReferenceIdeal.sig) → Buf (Elt Ideal) ℓ) (g : Dev Cert.AdamSguBReferenceIdeal.nD → PrngReg), Pre_AdamSguBReferenceIdeal m →
    θ_run (Cert.AdamSguBReferenceIdeal.defs (F := Ideal)) (onTc (τ := Cert.AdamSguBReferenceIdeal.τ) (Cert.AdamSguBReferenceIdeal.main (F := Ideal))) ⟨m, fun _ => 0, g⟩ (fun r => (∀ c : Dev Cert.AdamSguBReferenceIdeal.nD,
      r.2.mem ((c.tc : Thread Cert.AdamSguBReferenceIdeal.nD Cert.AdamSguBReferenceIdeal.τ).loc Cert.AdamSguBReferenceIdeal.main_arg0) = m ((c.tc : Thread Cert.AdamSguBReferenceIdeal.nD Cert.AdamSguBReferenceIdeal.τ).loc Cert.AdamSguBReferenceIdeal.main_arg0)
      ∧ r.2.mem ((c.tc : Thread Cert.AdamSguBReferenceIdeal.nD Cert.AdamSguBReferenceIdeal.τ).loc Cert.AdamSguBReferenceIdeal.main_arg1) = m ((c.tc : Thread Cert.AdamSguBReferenceIdeal.nD Cert.AdamSguBReferenceIdeal.τ).loc Cert.AdamSguBReferenceIdeal.main_arg1)
      ∧ r.2.mem ((c.tc : Thread Cert.AdamSguBReferenceIdeal.nD Cert.AdamSguBReferenceIdeal.τ).loc Cert.AdamSguBReferenceIdeal.main_arg2) = m ((c.tc : Thread Cert.AdamSguBReferenceIdeal.nD Cert.AdamSguBReferenceIdeal.τ).loc Cert.AdamSguBReferenceIdeal.main_arg2)
      ∧ r.2.mem ((c.tc : Thread Cert.AdamSguBReferenceIdeal.nD Cert.AdamSguBReferenceIdeal.τ).loc Cert.AdamSguBReferenceIdeal.main_arg3) = m ((c.tc : Thread Cert.AdamSguBReferenceIdeal.nD Cert.AdamSguBReferenceIdeal.τ).loc Cert.AdamSguBReferenceIdeal.main_arg3))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdIdeal_pre_finite27 [hSguFwdIdeal : Cert.SguFwdIdeal.Facts] [hPre_finite27 : Cert.Pre_finite27.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal_finite27 m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdReferenceIdeal [hSguFwdReferenceIdeal : Cert.SguFwdReferenceIdeal.Facts] : Prop :=
  ∀ (m : (ℓ : Loc Cert.SguFwdReferenceIdeal.nD Cert.SguFwdReferenceIdeal.τ Cert.SguFwdReferenceIdeal.sig) → Buf (Elt Ideal) ℓ) (g : Dev Cert.SguFwdReferenceIdeal.nD → PrngReg), Pre_SguFwdReferenceIdeal m →
    θ_run (Cert.SguFwdReferenceIdeal.defs (F := Ideal)) (onTc (τ := Cert.SguFwdReferenceIdeal.τ) (Cert.SguFwdReferenceIdeal.main (F := Ideal))) ⟨m, fun _ => 0, g⟩ (fun r => (∀ c : Dev Cert.SguFwdReferenceIdeal.nD,
      r.2.mem ((c.tc : Thread Cert.SguFwdReferenceIdeal.nD Cert.SguFwdReferenceIdeal.τ).loc Cert.SguFwdReferenceIdeal.main_arg0) = m ((c.tc : Thread Cert.SguFwdReferenceIdeal.nD Cert.SguFwdReferenceIdeal.τ).loc Cert.SguFwdReferenceIdeal.main_arg0)
      ∧ r.2.mem ((c.tc : Thread Cert.SguFwdReferenceIdeal.nD Cert.SguFwdReferenceIdeal.τ).loc Cert.SguFwdReferenceIdeal.main_arg1) = m ((c.tc : Thread Cert.SguFwdReferenceIdeal.nD Cert.SguFwdReferenceIdeal.τ).loc Cert.SguFwdReferenceIdeal.main_arg1)
      ∧ r.2.mem ((c.tc : Thread Cert.SguFwdReferenceIdeal.nD Cert.SguFwdReferenceIdeal.τ).loc Cert.SguFwdReferenceIdeal.main_arg2) = m ((c.tc : Thread Cert.SguFwdReferenceIdeal.nD Cert.SguFwdReferenceIdeal.τ).loc Cert.SguFwdReferenceIdeal.main_arg2)
      ∧ r.2.mem ((c.tc : Thread Cert.SguFwdReferenceIdeal.nD Cert.SguFwdReferenceIdeal.τ).loc Cert.SguFwdReferenceIdeal.main_arg3) = m ((c.tc : Thread Cert.SguFwdReferenceIdeal.nD Cert.SguFwdReferenceIdeal.τ).loc Cert.SguFwdReferenceIdeal.main_arg3)
      ∧ r.2.mem ((c.tc : Thread Cert.SguFwdReferenceIdeal.nD Cert.SguFwdReferenceIdeal.τ).loc Cert.SguFwdReferenceIdeal.main_arg4) = m ((c.tc : Thread Cert.SguFwdReferenceIdeal.nD Cert.SguFwdReferenceIdeal.τ).loc Cert.SguFwdReferenceIdeal.main_arg4))
      ∧ r.2.sem = fun _ => 0)

def quiescent_SguFwdReferenceIdeal_pre_finite27 [hSguFwdReferenceIdeal : Cert.SguFwdReferenceIdeal.Facts] [hPre_finite27 : Cert.Pre_finite27.Facts] : Prop :=
  ∀ (m : (ℓ : Loc Cert.SguFwdReferenceIdeal.nD Cert.SguFwdReferenceIdeal.τ Cert.SguFwdReferenceIdeal.sig) → Buf (Elt Ideal) ℓ) (g : Dev Cert.SguFwdReferenceIdeal.nD → PrngReg), Pre_SguFwdReferenceIdeal_finite27 m →
    θ_run (Cert.SguFwdReferenceIdeal.defs (F := Ideal)) (onTc (τ := Cert.SguFwdReferenceIdeal.τ) (Cert.SguFwdReferenceIdeal.main (F := Ideal))) ⟨m, fun _ => 0, g⟩ (fun r => (∀ c : Dev Cert.SguFwdReferenceIdeal.nD,
      r.2.mem ((c.tc : Thread Cert.SguFwdReferenceIdeal.nD Cert.SguFwdReferenceIdeal.τ).loc Cert.SguFwdReferenceIdeal.main_arg0) = m ((c.tc : Thread Cert.SguFwdReferenceIdeal.nD Cert.SguFwdReferenceIdeal.τ).loc Cert.SguFwdReferenceIdeal.main_arg0)
      ∧ r.2.mem ((c.tc : Thread Cert.SguFwdReferenceIdeal.nD Cert.SguFwdReferenceIdeal.τ).loc Cert.SguFwdReferenceIdeal.main_arg1) = m ((c.tc : Thread Cert.SguFwdReferenceIdeal.nD Cert.SguFwdReferenceIdeal.τ).loc Cert.SguFwdReferenceIdeal.main_arg1)
      ∧ r.2.mem ((c.tc : Thread Cert.SguFwdReferenceIdeal.nD Cert.SguFwdReferenceIdeal.τ).loc Cert.SguFwdReferenceIdeal.main_arg2) = m ((c.tc : Thread Cert.SguFwdReferenceIdeal.nD Cert.SguFwdReferenceIdeal.τ).loc Cert.SguFwdReferenceIdeal.main_arg2)
      ∧ r.2.mem ((c.tc : Thread Cert.SguFwdReferenceIdeal.nD Cert.SguFwdReferenceIdeal.τ).loc Cert.SguFwdReferenceIdeal.main_arg3) = m ((c.tc : Thread Cert.SguFwdReferenceIdeal.nD Cert.SguFwdReferenceIdeal.τ).loc Cert.SguFwdReferenceIdeal.main_arg3)
      ∧ r.2.mem ((c.tc : Thread Cert.SguFwdReferenceIdeal.nD Cert.SguFwdReferenceIdeal.τ).loc Cert.SguFwdReferenceIdeal.main_arg4) = m ((c.tc : Thread Cert.SguFwdReferenceIdeal.nD Cert.SguFwdReferenceIdeal.τ).loc Cert.SguFwdReferenceIdeal.main_arg4))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdReferenceIdeal [hConvFwdReferenceIdeal : Cert.ConvFwdReferenceIdeal.Facts] : Prop :=
  ∀ (m : (ℓ : Loc Cert.ConvFwdReferenceIdeal.nD Cert.ConvFwdReferenceIdeal.τ Cert.ConvFwdReferenceIdeal.sig) → Buf (Elt Ideal) ℓ) (g : Dev Cert.ConvFwdReferenceIdeal.nD → PrngReg), Pre_ConvFwdReferenceIdeal m →
    θ_run (Cert.ConvFwdReferenceIdeal.defs (F := Ideal)) (onTc (τ := Cert.ConvFwdReferenceIdeal.τ) (Cert.ConvFwdReferenceIdeal.main (F := Ideal))) ⟨m, fun _ => 0, g⟩ (fun r => (∀ c : Dev Cert.ConvFwdReferenceIdeal.nD,
      r.2.mem ((c.tc : Thread Cert.ConvFwdReferenceIdeal.nD Cert.ConvFwdReferenceIdeal.τ).loc Cert.ConvFwdReferenceIdeal.main_arg0) = m ((c.tc : Thread Cert.ConvFwdReferenceIdeal.nD Cert.ConvFwdReferenceIdeal.τ).loc Cert.ConvFwdReferenceIdeal.main_arg0)
      ∧ r.2.mem ((c.tc : Thread Cert.ConvFwdReferenceIdeal.nD Cert.ConvFwdReferenceIdeal.τ).loc Cert.ConvFwdReferenceIdeal.main_arg1) = m ((c.tc : Thread Cert.ConvFwdReferenceIdeal.nD Cert.ConvFwdReferenceIdeal.τ).loc Cert.ConvFwdReferenceIdeal.main_arg1))
      ∧ r.2.sem = fun _ => 0)

def quiescent_AdamBig [hAdamBig : Cert.AdamBig.Facts] : Prop :=
  ∀ (m : (ℓ : Loc Cert.AdamBig.nD Cert.AdamBig.τ Cert.AdamBig.sig) → Buf (Elt Bits) ℓ) (g : Dev Cert.AdamBig.nD → PrngReg), Pre_AdamBig m →
    θ_run (Cert.AdamBig.defs (F := Bits)) (onTc (τ := Cert.AdamBig.τ) (Cert.AdamBig.main (F := Bits))) ⟨m, fun _ => 0, g⟩ (fun r => (∀ c : Dev Cert.AdamBig.nD,
      r.2.mem ((c.tc : Thread Cert.AdamBig.nD Cert.AdamBig.τ).loc Cert.AdamBig.main_arg0) = m ((c.tc : Thread Cert.AdamBig.nD Cert.AdamBig.τ).loc Cert.AdamBig.main_arg0)
      ∧ r.2.mem ((c.tc : Thread Cert.AdamBig.nD Cert.AdamBig.τ).loc Cert.AdamBig.main_arg1) = m ((c.tc : Thread Cert.AdamBig.nD Cert.AdamBig.τ).loc Cert.AdamBig.main_arg1)
      ∧ r.2.mem ((c.tc : Thread Cert.AdamBig.nD Cert.AdamBig.τ).loc Cert.AdamBig.main_arg2) = m ((c.tc : Thread Cert.AdamBig.nD Cert.AdamBig.τ).loc Cert.AdamBig.main_arg2)
      ∧ r.2.mem ((c.tc : Thread Cert.AdamBig.nD Cert.AdamBig.τ).loc Cert.AdamBig.main_arg3) = m ((c.tc : Thread Cert.AdamBig.nD Cert.AdamBig.τ).loc Cert.AdamBig.main_arg3)
      ∧ r.2.mem ((c.tc : Thread Cert.AdamBig.nD Cert.AdamBig.τ).loc Cert.AdamBig.main_arg4) = m ((c.tc : Thread Cert.AdamBig.nD Cert.AdamBig.τ).loc Cert.AdamBig.main_arg4)
      ∧ r.2.mem ((c.tc : Thread Cert.AdamBig.nD Cert.AdamBig.τ).loc Cert.AdamBig.main_arg5) = m ((c.tc : Thread Cert.AdamBig.nD Cert.AdamBig.τ).loc Cert.AdamBig.main_arg5)
      ∧ r.2.mem ((c.tc : Thread Cert.AdamBig.nD Cert.AdamBig.τ).loc Cert.AdamBig.main_arg6) = m ((c.tc : Thread Cert.AdamBig.nD Cert.AdamBig.τ).loc Cert.AdamBig.main_arg6)
      ∧ r.2.mem ((c.tc : Thread Cert.AdamBig.nD Cert.AdamBig.τ).loc Cert.AdamBig.main_arg7) = m ((c.tc : Thread Cert.AdamBig.nD Cert.AdamBig.τ).loc Cert.AdamBig.main_arg7)
      ∧ r.2.mem ((c.tc : Thread Cert.AdamBig.nD Cert.AdamBig.τ).loc Cert.AdamBig.main_arg8) = m ((c.tc : Thread Cert.AdamBig.nD Cert.AdamBig.τ).loc Cert.AdamBig.main_arg8)
      ∧ r.2.mem ((c.tc : Thread Cert.AdamBig.nD Cert.AdamBig.τ).loc Cert.AdamBig.main_arg9) = m ((c.tc : Thread Cert.AdamBig.nD Cert.AdamBig.τ).loc Cert.AdamBig.main_arg9)
      ∧ r.2.mem ((c.tc : Thread Cert.AdamBig.nD Cert.AdamBig.τ).loc Cert.AdamBig.main_arg10) = m ((c.tc : Thread Cert.AdamBig.nD Cert.AdamBig.τ).loc Cert.AdamBig.main_arg10)
      ∧ r.2.mem ((c.tc : Thread Cert.AdamBig.nD Cert.AdamBig.τ).loc Cert.AdamBig.main_arg11) = m ((c.tc : Thread Cert.AdamBig.nD Cert.AdamBig.τ).loc Cert.AdamBig.main_arg11)
      ∧ r.2.mem ((c.tc : Thread Cert.AdamBig.nD Cert.AdamBig.τ).loc Cert.AdamBig.main_arg12) = m ((c.tc : Thread Cert.AdamBig.nD Cert.AdamBig.τ).loc Cert.AdamBig.main_arg12)
      ∧ r.2.mem ((c.tc : Thread Cert.AdamBig.nD Cert.AdamBig.τ).loc Cert.AdamBig.main_arg13) = m ((c.tc : Thread Cert.AdamBig.nD Cert.AdamBig.τ).loc Cert.AdamBig.main_arg13)
      ∧ r.2.mem ((c.tc : Thread Cert.AdamBig.nD Cert.AdamBig.τ).loc Cert.AdamBig.main_arg14) = m ((c.tc : Thread Cert.AdamBig.nD Cert.AdamBig.τ).loc Cert.AdamBig.main_arg14)
      ∧ r.2.mem ((c.tc : Thread Cert.AdamBig.nD Cert.AdamBig.τ).loc Cert.AdamBig.main_arg15) = m ((c.tc : Thread Cert.AdamBig.nD Cert.AdamBig.τ).loc Cert.AdamBig.main_arg15)
      ∧ r.2.mem ((c.tc : Thread Cert.AdamBig.nD Cert.AdamBig.τ).loc Cert.AdamBig.main_arg16) = m ((c.tc : Thread Cert.AdamBig.nD Cert.AdamBig.τ).loc Cert.AdamBig.main_arg16)
      ∧ r.2.mem ((c.tc : Thread Cert.AdamBig.nD Cert.AdamBig.τ).loc Cert.AdamBig.main_arg17) = m ((c.tc : Thread Cert.AdamBig.nD Cert.AdamBig.τ).loc Cert.AdamBig.main_arg17)
      ∧ r.2.mem ((c.tc : Thread Cert.AdamBig.nD Cert.AdamBig.τ).loc Cert.AdamBig.main_arg18) = m ((c.tc : Thread Cert.AdamBig.nD Cert.AdamBig.τ).loc Cert.AdamBig.main_arg18)
      ∧ r.2.mem ((c.tc : Thread Cert.AdamBig.nD Cert.AdamBig.τ).loc Cert.AdamBig.main_arg19) = m ((c.tc : Thread Cert.AdamBig.nD Cert.AdamBig.τ).loc Cert.AdamBig.main_arg19)
      ∧ r.2.mem ((c.tc : Thread Cert.AdamBig.nD Cert.AdamBig.τ).loc Cert.AdamBig.main_arg20) = m ((c.tc : Thread Cert.AdamBig.nD Cert.AdamBig.τ).loc Cert.AdamBig.main_arg20)
      ∧ r.2.mem ((c.tc : Thread Cert.AdamBig.nD Cert.AdamBig.τ).loc Cert.AdamBig.main_arg21) = m ((c.tc : Thread Cert.AdamBig.nD Cert.AdamBig.τ).loc Cert.AdamBig.main_arg21)
      ∧ r.2.mem ((c.tc : Thread Cert.AdamBig.nD Cert.AdamBig.τ).loc Cert.AdamBig.main_arg22) = m ((c.tc : Thread Cert.AdamBig.nD Cert.AdamBig.τ).loc Cert.AdamBig.main_arg22)
      ∧ r.2.mem ((c.tc : Thread Cert.AdamBig.nD Cert.AdamBig.τ).loc Cert.AdamBig.main_arg23) = m ((c.tc : Thread Cert.AdamBig.nD Cert.AdamBig.τ).loc Cert.AdamBig.main_arg23)
      ∧ r.2.mem ((c.tc : Thread Cert.AdamBig.nD Cert.AdamBig.τ).loc Cert.AdamBig.main_arg24) = m ((c.tc : Thread Cert.AdamBig.nD Cert.AdamBig.τ).loc Cert.AdamBig.main_arg24)
      ∧ r.2.mem ((c.tc : Thread Cert.AdamBig.nD Cert.AdamBig.τ).loc Cert.AdamBig.main_arg25) = m ((c.tc : Thread Cert.AdamBig.nD Cert.AdamBig.τ).loc Cert.AdamBig.main_arg25)
      ∧ r.2.mem ((c.tc : Thread Cert.AdamBig.nD Cert.AdamBig.τ).loc Cert.AdamBig.main_arg26) = m ((c.tc : Thread Cert.AdamBig.nD Cert.AdamBig.τ).loc Cert.AdamBig.main_arg26)
      ∧ r.2.mem ((c.tc : Thread Cert.AdamBig.nD Cert.AdamBig.τ).loc Cert.AdamBig.main_arg27) = m ((c.tc : Thread Cert.AdamBig.nD Cert.AdamBig.τ).loc Cert.AdamBig.main_arg27)
      ∧ r.2.mem ((c.tc : Thread Cert.AdamBig.nD Cert.AdamBig.τ).loc Cert.AdamBig.main_arg28) = m ((c.tc : Thread Cert.AdamBig.nD Cert.AdamBig.τ).loc Cert.AdamBig.main_arg28)
      ∧ r.2.mem ((c.tc : Thread Cert.AdamBig.nD Cert.AdamBig.τ).loc Cert.AdamBig.main_arg29) = m ((c.tc : Thread Cert.AdamBig.nD Cert.AdamBig.τ).loc Cert.AdamBig.main_arg29)
      ∧ r.2.mem ((c.tc : Thread Cert.AdamBig.nD Cert.AdamBig.τ).loc Cert.AdamBig.main_arg30) = m ((c.tc : Thread Cert.AdamBig.nD Cert.AdamBig.τ).loc Cert.AdamBig.main_arg30)
      ∧ r.2.mem ((c.tc : Thread Cert.AdamBig.nD Cert.AdamBig.τ).loc Cert.AdamBig.main_arg31) = m ((c.tc : Thread Cert.AdamBig.nD Cert.AdamBig.τ).loc Cert.AdamBig.main_arg31)
      ∧ r.2.mem ((c.tc : Thread Cert.AdamBig.nD Cert.AdamBig.τ).loc Cert.AdamBig.main_arg32) = m ((c.tc : Thread Cert.AdamBig.nD Cert.AdamBig.τ).loc Cert.AdamBig.main_arg32)
      ∧ r.2.mem ((c.tc : Thread Cert.AdamBig.nD Cert.AdamBig.τ).loc Cert.AdamBig.main_arg33) = m ((c.tc : Thread Cert.AdamBig.nD Cert.AdamBig.τ).loc Cert.AdamBig.main_arg33)
      ∧ r.2.mem ((c.tc : Thread Cert.AdamBig.nD Cert.AdamBig.τ).loc Cert.AdamBig.main_arg34) = m ((c.tc : Thread Cert.AdamBig.nD Cert.AdamBig.τ).loc Cert.AdamBig.main_arg34)
      ∧ r.2.mem ((c.tc : Thread Cert.AdamBig.nD Cert.AdamBig.τ).loc Cert.AdamBig.main_arg35) = m ((c.tc : Thread Cert.AdamBig.nD Cert.AdamBig.τ).loc Cert.AdamBig.main_arg35)
      ∧ r.2.mem ((c.tc : Thread Cert.AdamBig.nD Cert.AdamBig.τ).loc Cert.AdamBig.main_arg36) = m ((c.tc : Thread Cert.AdamBig.nD Cert.AdamBig.τ).loc Cert.AdamBig.main_arg36)
      ∧ r.2.mem ((c.tc : Thread Cert.AdamBig.nD Cert.AdamBig.τ).loc Cert.AdamBig.main_arg37) = m ((c.tc : Thread Cert.AdamBig.nD Cert.AdamBig.τ).loc Cert.AdamBig.main_arg37)
      ∧ r.2.mem ((c.tc : Thread Cert.AdamBig.nD Cert.AdamBig.τ).loc Cert.AdamBig.main_arg38) = m ((c.tc : Thread Cert.AdamBig.nD Cert.AdamBig.τ).loc Cert.AdamBig.main_arg38)
      ∧ r.2.mem ((c.tc : Thread Cert.AdamBig.nD Cert.AdamBig.τ).loc Cert.AdamBig.main_arg39) = m ((c.tc : Thread Cert.AdamBig.nD Cert.AdamBig.τ).loc Cert.AdamBig.main_arg39)
      ∧ r.2.mem ((c.tc : Thread Cert.AdamBig.nD Cert.AdamBig.τ).loc Cert.AdamBig.main_arg40) = m ((c.tc : Thread Cert.AdamBig.nD Cert.AdamBig.τ).loc Cert.AdamBig.main_arg40)
      ∧ r.2.mem ((c.tc : Thread Cert.AdamBig.nD Cert.AdamBig.τ).loc Cert.AdamBig.main_arg41) = m ((c.tc : Thread Cert.AdamBig.nD Cert.AdamBig.τ).loc Cert.AdamBig.main_arg41)
      ∧ r.2.mem ((c.tc : Thread Cert.AdamBig.nD Cert.AdamBig.τ).loc Cert.AdamBig.main_arg42) = m ((c.tc : Thread Cert.AdamBig.nD Cert.AdamBig.τ).loc Cert.AdamBig.main_arg42)
      ∧ r.2.mem ((c.tc : Thread Cert.AdamBig.nD Cert.AdamBig.τ).loc Cert.AdamBig.main_arg43) = m ((c.tc : Thread Cert.AdamBig.nD Cert.AdamBig.τ).loc Cert.AdamBig.main_arg43)
      ∧ r.2.mem ((c.tc : Thread Cert.AdamBig.nD Cert.AdamBig.τ).loc Cert.AdamBig.main_arg44) = m ((c.tc : Thread Cert.AdamBig.nD Cert.AdamBig.τ).loc Cert.AdamBig.main_arg44)
      ∧ r.2.mem ((c.tc : Thread Cert.AdamBig.nD Cert.AdamBig.τ).loc Cert.AdamBig.main_arg45) = m ((c.tc : Thread Cert.AdamBig.nD Cert.AdamBig.τ).loc Cert.AdamBig.main_arg45)
      ∧ r.2.mem ((c.tc : Thread Cert.AdamBig.nD Cert.AdamBig.τ).loc Cert.AdamBig.main_arg46) = m ((c.tc : Thread Cert.AdamBig.nD Cert.AdamBig.τ).loc Cert.AdamBig.main_arg46)
      ∧ r.2.mem ((c.tc : Thread Cert.AdamBig.nD Cert.AdamBig.τ).loc Cert.AdamBig.main_arg47) = m ((c.tc : Thread Cert.AdamBig.nD Cert.AdamBig.τ).loc Cert.AdamBig.main_arg47))
      ∧ r.2.sem = fun _ => 0)

def quiescent_AdamBigIdeal [hAdamBigIdeal : Cert.AdamBigIdeal.Facts] : Prop :=
  ∀ (m : (ℓ : Loc Cert.AdamBigIdeal.nD Cert.AdamBigIdeal.τ Cert.AdamBigIdeal.sig) → Buf (Elt Ideal) ℓ) (g : Dev Cert.AdamBigIdeal.nD → PrngReg), Pre_AdamBigIdeal m →
    θ_run (Cert.AdamBigIdeal.defs (F := Ideal)) (onTc (τ := Cert.AdamBigIdeal.τ) (Cert.AdamBigIdeal.main (F := Ideal))) ⟨m, fun _ => 0, g⟩ (fun r => (∀ c : Dev Cert.AdamBigIdeal.nD,
      r.2.mem ((c.tc : Thread Cert.AdamBigIdeal.nD Cert.AdamBigIdeal.τ).loc Cert.AdamBigIdeal.main_arg0) = m ((c.tc : Thread Cert.AdamBigIdeal.nD Cert.AdamBigIdeal.τ).loc Cert.AdamBigIdeal.main_arg0)
      ∧ r.2.mem ((c.tc : Thread Cert.AdamBigIdeal.nD Cert.AdamBigIdeal.τ).loc Cert.AdamBigIdeal.main_arg1) = m ((c.tc : Thread Cert.AdamBigIdeal.nD Cert.AdamBigIdeal.τ).loc Cert.AdamBigIdeal.main_arg1)
      ∧ r.2.mem ((c.tc : Thread Cert.AdamBigIdeal.nD Cert.AdamBigIdeal.τ).loc Cert.AdamBigIdeal.main_arg2) = m ((c.tc : Thread Cert.AdamBigIdeal.nD Cert.AdamBigIdeal.τ).loc Cert.AdamBigIdeal.main_arg2)
      ∧ r.2.mem ((c.tc : Thread Cert.AdamBigIdeal.nD Cert.AdamBigIdeal.τ).loc Cert.AdamBigIdeal.main_arg3) = m ((c.tc : Thread Cert.AdamBigIdeal.nD Cert.AdamBigIdeal.τ).loc Cert.AdamBigIdeal.main_arg3)
      ∧ r.2.mem ((c.tc : Thread Cert.AdamBigIdeal.nD Cert.AdamBigIdeal.τ).loc Cert.AdamBigIdeal.main_arg4) = m ((c.tc : Thread Cert.AdamBigIdeal.nD Cert.AdamBigIdeal.τ).loc Cert.AdamBigIdeal.main_arg4)
      ∧ r.2.mem ((c.tc : Thread Cert.AdamBigIdeal.nD Cert.AdamBigIdeal.τ).loc Cert.AdamBigIdeal.main_arg5) = m ((c.tc : Thread Cert.AdamBigIdeal.nD Cert.AdamBigIdeal.τ).loc Cert.AdamBigIdeal.main_arg5)
      ∧ r.2.mem ((c.tc : Thread Cert.AdamBigIdeal.nD Cert.AdamBigIdeal.τ).loc Cert.AdamBigIdeal.main_arg6) = m ((c.tc : Thread Cert.AdamBigIdeal.nD Cert.AdamBigIdeal.τ).loc Cert.AdamBigIdeal.main_arg6)
      ∧ r.2.mem ((c.tc : Thread Cert.AdamBigIdeal.nD Cert.AdamBigIdeal.τ).loc Cert.AdamBigIdeal.main_arg7) = m ((c.tc : Thread Cert.AdamBigIdeal.nD Cert.AdamBigIdeal.τ).loc Cert.AdamBigIdeal.main_arg7)
      ∧ r.2.mem ((c.tc : Thread Cert.AdamBigIdeal.nD Cert.AdamBigIdeal.τ).loc Cert.AdamBigIdeal.main_arg8) = m ((c.tc : Thread Cert.AdamBigIdeal.nD Cert.AdamBigIdeal.τ).loc Cert.AdamBigIdeal.main_arg8)
      ∧ r.2.mem ((c.tc : Thread Cert.AdamBigIdeal.nD Cert.AdamBigIdeal.τ).loc Cert.AdamBigIdeal.main_arg9) = m ((c.tc : Thread Cert.AdamBigIdeal.nD Cert.AdamBigIdeal.τ).loc Cert.AdamBigIdeal.main_arg9)
      ∧ r.2.mem ((c.tc : Thread Cert.AdamBigIdeal.nD Cert.AdamBigIdeal.τ).loc Cert.AdamBigIdeal.main_arg10) = m ((c.tc : Thread Cert.AdamBigIdeal.nD Cert.AdamBigIdeal.τ).loc Cert.AdamBigIdeal.main_arg10)
      ∧ r.2.mem ((c.tc : Thread Cert.AdamBigIdeal.nD Cert.AdamBigIdeal.τ).loc Cert.AdamBigIdeal.main_arg11) = m ((c.tc : Thread Cert.AdamBigIdeal.nD Cert.AdamBigIdeal.τ).loc Cert.AdamBigIdeal.main_arg11)
      ∧ r.2.mem ((c.tc : Thread Cert.AdamBigIdeal.nD Cert.AdamBigIdeal.τ).loc Cert.AdamBigIdeal.main_arg12) = m ((c.tc : Thread Cert.AdamBigIdeal.nD Cert.AdamBigIdeal.τ).loc Cert.AdamBigIdeal.main_arg12)
      ∧ r.2.mem ((c.tc : Thread Cert.AdamBigIdeal.nD Cert.AdamBigIdeal.τ).loc Cert.AdamBigIdeal.main_arg13) = m ((c.tc : Thread Cert.AdamBigIdeal.nD Cert.AdamBigIdeal.τ).loc Cert.AdamBigIdeal.main_arg13)
      ∧ r.2.mem ((c.tc : Thread Cert.AdamBigIdeal.nD Cert.AdamBigIdeal.τ).loc Cert.AdamBigIdeal.main_arg14) = m ((c.tc : Thread Cert.AdamBigIdeal.nD Cert.AdamBigIdeal.τ).loc Cert.AdamBigIdeal.main_arg14)
      ∧ r.2.mem ((c.tc : Thread Cert.AdamBigIdeal.nD Cert.AdamBigIdeal.τ).loc Cert.AdamBigIdeal.main_arg15) = m ((c.tc : Thread Cert.AdamBigIdeal.nD Cert.AdamBigIdeal.τ).loc Cert.AdamBigIdeal.main_arg15)
      ∧ r.2.mem ((c.tc : Thread Cert.AdamBigIdeal.nD Cert.AdamBigIdeal.τ).loc Cert.AdamBigIdeal.main_arg16) = m ((c.tc : Thread Cert.AdamBigIdeal.nD Cert.AdamBigIdeal.τ).loc Cert.AdamBigIdeal.main_arg16)
      ∧ r.2.mem ((c.tc : Thread Cert.AdamBigIdeal.nD Cert.AdamBigIdeal.τ).loc Cert.AdamBigIdeal.main_arg17) = m ((c.tc : Thread Cert.AdamBigIdeal.nD Cert.AdamBigIdeal.τ).loc Cert.AdamBigIdeal.main_arg17)
      ∧ r.2.mem ((c.tc : Thread Cert.AdamBigIdeal.nD Cert.AdamBigIdeal.τ).loc Cert.AdamBigIdeal.main_arg18) = m ((c.tc : Thread Cert.AdamBigIdeal.nD Cert.AdamBigIdeal.τ).loc Cert.AdamBigIdeal.main_arg18)
      ∧ r.2.mem ((c.tc : Thread Cert.AdamBigIdeal.nD Cert.AdamBigIdeal.τ).loc Cert.AdamBigIdeal.main_arg19) = m ((c.tc : Thread Cert.AdamBigIdeal.nD Cert.AdamBigIdeal.τ).loc Cert.AdamBigIdeal.main_arg19)
      ∧ r.2.mem ((c.tc : Thread Cert.AdamBigIdeal.nD Cert.AdamBigIdeal.τ).loc Cert.AdamBigIdeal.main_arg20) = m ((c.tc : Thread Cert.AdamBigIdeal.nD Cert.AdamBigIdeal.τ).loc Cert.AdamBigIdeal.main_arg20)
      ∧ r.2.mem ((c.tc : Thread Cert.AdamBigIdeal.nD Cert.AdamBigIdeal.τ).loc Cert.AdamBigIdeal.main_arg21) = m ((c.tc : Thread Cert.AdamBigIdeal.nD Cert.AdamBigIdeal.τ).loc Cert.AdamBigIdeal.main_arg21)
      ∧ r.2.mem ((c.tc : Thread Cert.AdamBigIdeal.nD Cert.AdamBigIdeal.τ).loc Cert.AdamBigIdeal.main_arg22) = m ((c.tc : Thread Cert.AdamBigIdeal.nD Cert.AdamBigIdeal.τ).loc Cert.AdamBigIdeal.main_arg22)
      ∧ r.2.mem ((c.tc : Thread Cert.AdamBigIdeal.nD Cert.AdamBigIdeal.τ).loc Cert.AdamBigIdeal.main_arg23) = m ((c.tc : Thread Cert.AdamBigIdeal.nD Cert.AdamBigIdeal.τ).loc Cert.AdamBigIdeal.main_arg23)
      ∧ r.2.mem ((c.tc : Thread Cert.AdamBigIdeal.nD Cert.AdamBigIdeal.τ).loc Cert.AdamBigIdeal.main_arg24) = m ((c.tc : Thread Cert.AdamBigIdeal.nD Cert.AdamBigIdeal.τ).loc Cert.AdamBigIdeal.main_arg24)
      ∧ r.2.mem ((c.tc : Thread Cert.AdamBigIdeal.nD Cert.AdamBigIdeal.τ).loc Cert.AdamBigIdeal.main_arg25) = m ((c.tc : Thread Cert.AdamBigIdeal.nD Cert.AdamBigIdeal.τ).loc Cert.AdamBigIdeal.main_arg25)
      ∧ r.2.mem ((c.tc : Thread Cert.AdamBigIdeal.nD Cert.AdamBigIdeal.τ).loc Cert.AdamBigIdeal.main_arg26) = m ((c.tc : Thread Cert.AdamBigIdeal.nD Cert.AdamBigIdeal.τ).loc Cert.AdamBigIdeal.main_arg26)
      ∧ r.2.mem ((c.tc : Thread Cert.AdamBigIdeal.nD Cert.AdamBigIdeal.τ).loc Cert.AdamBigIdeal.main_arg27) = m ((c.tc : Thread Cert.AdamBigIdeal.nD Cert.AdamBigIdeal.τ).loc Cert.AdamBigIdeal.main_arg27)
      ∧ r.2.mem ((c.tc : Thread Cert.AdamBigIdeal.nD Cert.AdamBigIdeal.τ).loc Cert.AdamBigIdeal.main_arg28) = m ((c.tc : Thread Cert.AdamBigIdeal.nD Cert.AdamBigIdeal.τ).loc Cert.AdamBigIdeal.main_arg28)
      ∧ r.2.mem ((c.tc : Thread Cert.AdamBigIdeal.nD Cert.AdamBigIdeal.τ).loc Cert.AdamBigIdeal.main_arg29) = m ((c.tc : Thread Cert.AdamBigIdeal.nD Cert.AdamBigIdeal.τ).loc Cert.AdamBigIdeal.main_arg29)
      ∧ r.2.mem ((c.tc : Thread Cert.AdamBigIdeal.nD Cert.AdamBigIdeal.τ).loc Cert.AdamBigIdeal.main_arg30) = m ((c.tc : Thread Cert.AdamBigIdeal.nD Cert.AdamBigIdeal.τ).loc Cert.AdamBigIdeal.main_arg30)
      ∧ r.2.mem ((c.tc : Thread Cert.AdamBigIdeal.nD Cert.AdamBigIdeal.τ).loc Cert.AdamBigIdeal.main_arg31) = m ((c.tc : Thread Cert.AdamBigIdeal.nD Cert.AdamBigIdeal.τ).loc Cert.AdamBigIdeal.main_arg31)
      ∧ r.2.mem ((c.tc : Thread Cert.AdamBigIdeal.nD Cert.AdamBigIdeal.τ).loc Cert.AdamBigIdeal.main_arg32) = m ((c.tc : Thread Cert.AdamBigIdeal.nD Cert.AdamBigIdeal.τ).loc Cert.AdamBigIdeal.main_arg32)
      ∧ r.2.mem ((c.tc : Thread Cert.AdamBigIdeal.nD Cert.AdamBigIdeal.τ).loc Cert.AdamBigIdeal.main_arg33) = m ((c.tc : Thread Cert.AdamBigIdeal.nD Cert.AdamBigIdeal.τ).loc Cert.AdamBigIdeal.main_arg33)
      ∧ r.2.mem ((c.tc : Thread Cert.AdamBigIdeal.nD Cert.AdamBigIdeal.τ).loc Cert.AdamBigIdeal.main_arg34) = m ((c.tc : Thread Cert.AdamBigIdeal.nD Cert.AdamBigIdeal.τ).loc Cert.AdamBigIdeal.main_arg34)
      ∧ r.2.mem ((c.tc : Thread Cert.AdamBigIdeal.nD Cert.AdamBigIdeal.τ).loc Cert.AdamBigIdeal.main_arg35) = m ((c.tc : Thread Cert.AdamBigIdeal.nD Cert.AdamBigIdeal.τ).loc Cert.AdamBigIdeal.main_arg35)
      ∧ r.2.mem ((c.tc : Thread Cert.AdamBigIdeal.nD Cert.AdamBigIdeal.τ).loc Cert.AdamBigIdeal.main_arg36) = m ((c.tc : Thread Cert.AdamBigIdeal.nD Cert.AdamBigIdeal.τ).loc Cert.AdamBigIdeal.main_arg36)
      ∧ r.2.mem ((c.tc : Thread Cert.AdamBigIdeal.nD Cert.AdamBigIdeal.τ).loc Cert.AdamBigIdeal.main_arg37) = m ((c.tc : Thread Cert.AdamBigIdeal.nD Cert.AdamBigIdeal.τ).loc Cert.AdamBigIdeal.main_arg37)
      ∧ r.2.mem ((c.tc : Thread Cert.AdamBigIdeal.nD Cert.AdamBigIdeal.τ).loc Cert.AdamBigIdeal.main_arg38) = m ((c.tc : Thread Cert.AdamBigIdeal.nD Cert.AdamBigIdeal.τ).loc Cert.AdamBigIdeal.main_arg38)
      ∧ r.2.mem ((c.tc : Thread Cert.AdamBigIdeal.nD Cert.AdamBigIdeal.τ).loc Cert.AdamBigIdeal.main_arg39) = m ((c.tc : Thread Cert.AdamBigIdeal.nD Cert.AdamBigIdeal.τ).loc Cert.AdamBigIdeal.main_arg39)
      ∧ r.2.mem ((c.tc : Thread Cert.AdamBigIdeal.nD Cert.AdamBigIdeal.τ).loc Cert.AdamBigIdeal.main_arg40) = m ((c.tc : Thread Cert.AdamBigIdeal.nD Cert.AdamBigIdeal.τ).loc Cert.AdamBigIdeal.main_arg40)
      ∧ r.2.mem ((c.tc : Thread Cert.AdamBigIdeal.nD Cert.AdamBigIdeal.τ).loc Cert.AdamBigIdeal.main_arg41) = m ((c.tc : Thread Cert.AdamBigIdeal.nD Cert.AdamBigIdeal.τ).loc Cert.AdamBigIdeal.main_arg41)
      ∧ r.2.mem ((c.tc : Thread Cert.AdamBigIdeal.nD Cert.AdamBigIdeal.τ).loc Cert.AdamBigIdeal.main_arg42) = m ((c.tc : Thread Cert.AdamBigIdeal.nD Cert.AdamBigIdeal.τ).loc Cert.AdamBigIdeal.main_arg42)
      ∧ r.2.mem ((c.tc : Thread Cert.AdamBigIdeal.nD Cert.AdamBigIdeal.τ).loc Cert.AdamBigIdeal.main_arg43) = m ((c.tc : Thread Cert.AdamBigIdeal.nD Cert.AdamBigIdeal.τ).loc Cert.AdamBigIdeal.main_arg43)
      ∧ r.2.mem ((c.tc : Thread Cert.AdamBigIdeal.nD Cert.AdamBigIdeal.τ).loc Cert.AdamBigIdeal.main_arg44) = m ((c.tc : Thread Cert.AdamBigIdeal.nD Cert.AdamBigIdeal.τ).loc Cert.AdamBigIdeal.main_arg44)
      ∧ r.2.mem ((c.tc : Thread Cert.AdamBigIdeal.nD Cert.AdamBigIdeal.τ).loc Cert.AdamBigIdeal.main_arg45) = m ((c.tc : Thread Cert.AdamBigIdeal.nD Cert.AdamBigIdeal.τ).loc Cert.AdamBigIdeal.main_arg45)
      ∧ r.2.mem ((c.tc : Thread Cert.AdamBigIdeal.nD Cert.AdamBigIdeal.τ).loc Cert.AdamBigIdeal.main_arg46) = m ((c.tc : Thread Cert.AdamBigIdeal.nD Cert.AdamBigIdeal.τ).loc Cert.AdamBigIdeal.main_arg46)
      ∧ r.2.mem ((c.tc : Thread Cert.AdamBigIdeal.nD Cert.AdamBigIdeal.τ).loc Cert.AdamBigIdeal.main_arg47) = m ((c.tc : Thread Cert.AdamBigIdeal.nD Cert.AdamBigIdeal.τ).loc Cert.AdamBigIdeal.main_arg47))
      ∧ r.2.sem = fun _ => 0)

def quiescent_AdamBigReferenceIdeal [hAdamBigReferenceIdeal : Cert.AdamBigReferenceIdeal.Facts] : Prop :=
  ∀ (m : (ℓ : Loc Cert.AdamBigReferenceIdeal.nD Cert.AdamBigReferenceIdeal.τ Cert.AdamBigReferenceIdeal.sig) → Buf (Elt Ideal) ℓ) (g : Dev Cert.AdamBigReferenceIdeal.nD → PrngReg), Pre_AdamBigReferenceIdeal m →
    θ_run (Cert.AdamBigReferenceIdeal.defs (F := Ideal)) (onTc (τ := Cert.AdamBigReferenceIdeal.τ) (Cert.AdamBigReferenceIdeal.main (F := Ideal))) ⟨m, fun _ => 0, g⟩ (fun r => (∀ c : Dev Cert.AdamBigReferenceIdeal.nD,
      r.2.mem ((c.tc : Thread Cert.AdamBigReferenceIdeal.nD Cert.AdamBigReferenceIdeal.τ).loc Cert.AdamBigReferenceIdeal.main_arg0) = m ((c.tc : Thread Cert.AdamBigReferenceIdeal.nD Cert.AdamBigReferenceIdeal.τ).loc Cert.AdamBigReferenceIdeal.main_arg0)
      ∧ r.2.mem ((c.tc : Thread Cert.AdamBigReferenceIdeal.nD Cert.AdamBigReferenceIdeal.τ).loc Cert.AdamBigReferenceIdeal.main_arg1) = m ((c.tc : Thread Cert.AdamBigReferenceIdeal.nD Cert.AdamBigReferenceIdeal.τ).loc Cert.AdamBigReferenceIdeal.main_arg1)
      ∧ r.2.mem ((c.tc : Thread Cert.AdamBigReferenceIdeal.nD Cert.AdamBigReferenceIdeal.τ).loc Cert.AdamBigReferenceIdeal.main_arg2) = m ((c.tc : Thread Cert.AdamBigReferenceIdeal.nD Cert.AdamBigReferenceIdeal.τ).loc Cert.AdamBigReferenceIdeal.main_arg2)
      ∧ r.2.mem ((c.tc : Thread Cert.AdamBigReferenceIdeal.nD Cert.AdamBigReferenceIdeal.τ).loc Cert.AdamBigReferenceIdeal.main_arg3) = m ((c.tc : Thread Cert.AdamBigReferenceIdeal.nD Cert.AdamBigReferenceIdeal.τ).loc Cert.AdamBigReferenceIdeal.main_arg3)
      ∧ r.2.mem ((c.tc : Thread Cert.AdamBigReferenceIdeal.nD Cert.AdamBigReferenceIdeal.τ).loc Cert.AdamBigReferenceIdeal.main_arg4) = m ((c.tc : Thread Cert.AdamBigReferenceIdeal.nD Cert.AdamBigReferenceIdeal.τ).loc Cert.AdamBigReferenceIdeal.main_arg4)
      ∧ r.2.mem ((c.tc : Thread Cert.AdamBigReferenceIdeal.nD Cert.AdamBigReferenceIdeal.τ).loc Cert.AdamBigReferenceIdeal.main_arg5) = m ((c.tc : Thread Cert.AdamBigReferenceIdeal.nD Cert.AdamBigReferenceIdeal.τ).loc Cert.AdamBigReferenceIdeal.main_arg5)
      ∧ r.2.mem ((c.tc : Thread Cert.AdamBigReferenceIdeal.nD Cert.AdamBigReferenceIdeal.τ).loc Cert.AdamBigReferenceIdeal.main_arg6) = m ((c.tc : Thread Cert.AdamBigReferenceIdeal.nD Cert.AdamBigReferenceIdeal.τ).loc Cert.AdamBigReferenceIdeal.main_arg6)
      ∧ r.2.mem ((c.tc : Thread Cert.AdamBigReferenceIdeal.nD Cert.AdamBigReferenceIdeal.τ).loc Cert.AdamBigReferenceIdeal.main_arg7) = m ((c.tc : Thread Cert.AdamBigReferenceIdeal.nD Cert.AdamBigReferenceIdeal.τ).loc Cert.AdamBigReferenceIdeal.main_arg7)
      ∧ r.2.mem ((c.tc : Thread Cert.AdamBigReferenceIdeal.nD Cert.AdamBigReferenceIdeal.τ).loc Cert.AdamBigReferenceIdeal.main_arg8) = m ((c.tc : Thread Cert.AdamBigReferenceIdeal.nD Cert.AdamBigReferenceIdeal.τ).loc Cert.AdamBigReferenceIdeal.main_arg8)
      ∧ r.2.mem ((c.tc : Thread Cert.AdamBigReferenceIdeal.nD Cert.AdamBigReferenceIdeal.τ).loc Cert.AdamBigReferenceIdeal.main_arg9) = m ((c.tc : Thread Cert.AdamBigReferenceIdeal.nD Cert.AdamBigReferenceIdeal.τ).loc Cert.AdamBigReferenceIdeal.main_arg9)
      ∧ r.2.mem ((c.tc : Thread Cert.AdamBigReferenceIdeal.nD Cert.AdamBigReferenceIdeal.τ).loc Cert.AdamBigReferenceIdeal.main_arg10) = m ((c.tc : Thread Cert.AdamBigReferenceIdeal.nD Cert.AdamBigReferenceIdeal.τ).loc Cert.AdamBigReferenceIdeal.main_arg10)
      ∧ r.2.mem ((c.tc : Thread Cert.AdamBigReferenceIdeal.nD Cert.AdamBigReferenceIdeal.τ).loc Cert.AdamBigReferenceIdeal.main_arg11) = m ((c.tc : Thread Cert.AdamBigReferenceIdeal.nD Cert.AdamBigReferenceIdeal.τ).loc Cert.AdamBigReferenceIdeal.main_arg11)
      ∧ r.2.mem ((c.tc : Thread Cert.AdamBigReferenceIdeal.nD Cert.AdamBigReferenceIdeal.τ).loc Cert.AdamBigReferenceIdeal.main_arg12) = m ((c.tc : Thread Cert.AdamBigReferenceIdeal.nD Cert.AdamBigReferenceIdeal.τ).loc Cert.AdamBigReferenceIdeal.main_arg12)
      ∧ r.2.mem ((c.tc : Thread Cert.AdamBigReferenceIdeal.nD Cert.AdamBigReferenceIdeal.τ).loc Cert.AdamBigReferenceIdeal.main_arg13) = m ((c.tc : Thread Cert.AdamBigReferenceIdeal.nD Cert.AdamBigReferenceIdeal.τ).loc Cert.AdamBigReferenceIdeal.main_arg13)
      ∧ r.2.mem ((c.tc : Thread Cert.AdamBigReferenceIdeal.nD Cert.AdamBigReferenceIdeal.τ).loc Cert.AdamBigReferenceIdeal.main_arg14) = m ((c.tc : Thread Cert.AdamBigReferenceIdeal.nD Cert.AdamBigReferenceIdeal.τ).loc Cert.AdamBigReferenceIdeal.main_arg14)
      ∧ r.2.mem ((c.tc : Thread Cert.AdamBigReferenceIdeal.nD Cert.AdamBigReferenceIdeal.τ).loc Cert.AdamBigReferenceIdeal.main_arg15) = m ((c.tc : Thread Cert.AdamBigReferenceIdeal.nD Cert.AdamBigReferenceIdeal.τ).loc Cert.AdamBigReferenceIdeal.main_arg15)
      ∧ r.2.mem ((c.tc : Thread Cert.AdamBigReferenceIdeal.nD Cert.AdamBigReferenceIdeal.τ).loc Cert.AdamBigReferenceIdeal.main_arg16) = m ((c.tc : Thread Cert.AdamBigReferenceIdeal.nD Cert.AdamBigReferenceIdeal.τ).loc Cert.AdamBigReferenceIdeal.main_arg16)
      ∧ r.2.mem ((c.tc : Thread Cert.AdamBigReferenceIdeal.nD Cert.AdamBigReferenceIdeal.τ).loc Cert.AdamBigReferenceIdeal.main_arg17) = m ((c.tc : Thread Cert.AdamBigReferenceIdeal.nD Cert.AdamBigReferenceIdeal.τ).loc Cert.AdamBigReferenceIdeal.main_arg17)
      ∧ r.2.mem ((c.tc : Thread Cert.AdamBigReferenceIdeal.nD Cert.AdamBigReferenceIdeal.τ).loc Cert.AdamBigReferenceIdeal.main_arg18) = m ((c.tc : Thread Cert.AdamBigReferenceIdeal.nD Cert.AdamBigReferenceIdeal.τ).loc Cert.AdamBigReferenceIdeal.main_arg18)
      ∧ r.2.mem ((c.tc : Thread Cert.AdamBigReferenceIdeal.nD Cert.AdamBigReferenceIdeal.τ).loc Cert.AdamBigReferenceIdeal.main_arg19) = m ((c.tc : Thread Cert.AdamBigReferenceIdeal.nD Cert.AdamBigReferenceIdeal.τ).loc Cert.AdamBigReferenceIdeal.main_arg19)
      ∧ r.2.mem ((c.tc : Thread Cert.AdamBigReferenceIdeal.nD Cert.AdamBigReferenceIdeal.τ).loc Cert.AdamBigReferenceIdeal.main_arg20) = m ((c.tc : Thread Cert.AdamBigReferenceIdeal.nD Cert.AdamBigReferenceIdeal.τ).loc Cert.AdamBigReferenceIdeal.main_arg20)
      ∧ r.2.mem ((c.tc : Thread Cert.AdamBigReferenceIdeal.nD Cert.AdamBigReferenceIdeal.τ).loc Cert.AdamBigReferenceIdeal.main_arg21) = m ((c.tc : Thread Cert.AdamBigReferenceIdeal.nD Cert.AdamBigReferenceIdeal.τ).loc Cert.AdamBigReferenceIdeal.main_arg21)
      ∧ r.2.mem ((c.tc : Thread Cert.AdamBigReferenceIdeal.nD Cert.AdamBigReferenceIdeal.τ).loc Cert.AdamBigReferenceIdeal.main_arg22) = m ((c.tc : Thread Cert.AdamBigReferenceIdeal.nD Cert.AdamBigReferenceIdeal.τ).loc Cert.AdamBigReferenceIdeal.main_arg22)
      ∧ r.2.mem ((c.tc : Thread Cert.AdamBigReferenceIdeal.nD Cert.AdamBigReferenceIdeal.τ).loc Cert.AdamBigReferenceIdeal.main_arg23) = m ((c.tc : Thread Cert.AdamBigReferenceIdeal.nD Cert.AdamBigReferenceIdeal.τ).loc Cert.AdamBigReferenceIdeal.main_arg23)
      ∧ r.2.mem ((c.tc : Thread Cert.AdamBigReferenceIdeal.nD Cert.AdamBigReferenceIdeal.τ).loc Cert.AdamBigReferenceIdeal.main_arg24) = m ((c.tc : Thread Cert.AdamBigReferenceIdeal.nD Cert.AdamBigReferenceIdeal.τ).loc Cert.AdamBigReferenceIdeal.main_arg24)
      ∧ r.2.mem ((c.tc : Thread Cert.AdamBigReferenceIdeal.nD Cert.AdamBigReferenceIdeal.τ).loc Cert.AdamBigReferenceIdeal.main_arg25) = m ((c.tc : Thread Cert.AdamBigReferenceIdeal.nD Cert.AdamBigReferenceIdeal.τ).loc Cert.AdamBigReferenceIdeal.main_arg25)
      ∧ r.2.mem ((c.tc : Thread Cert.AdamBigReferenceIdeal.nD Cert.AdamBigReferenceIdeal.τ).loc Cert.AdamBigReferenceIdeal.main_arg26) = m ((c.tc : Thread Cert.AdamBigReferenceIdeal.nD Cert.AdamBigReferenceIdeal.τ).loc Cert.AdamBigReferenceIdeal.main_arg26)
      ∧ r.2.mem ((c.tc : Thread Cert.AdamBigReferenceIdeal.nD Cert.AdamBigReferenceIdeal.τ).loc Cert.AdamBigReferenceIdeal.main_arg27) = m ((c.tc : Thread Cert.AdamBigReferenceIdeal.nD Cert.AdamBigReferenceIdeal.τ).loc Cert.AdamBigReferenceIdeal.main_arg27)
      ∧ r.2.mem ((c.tc : Thread Cert.AdamBigReferenceIdeal.nD Cert.AdamBigReferenceIdeal.τ).loc Cert.AdamBigReferenceIdeal.main_arg28) = m ((c.tc : Thread Cert.AdamBigReferenceIdeal.nD Cert.AdamBigReferenceIdeal.τ).loc Cert.AdamBigReferenceIdeal.main_arg28)
      ∧ r.2.mem ((c.tc : Thread Cert.AdamBigReferenceIdeal.nD Cert.AdamBigReferenceIdeal.τ).loc Cert.AdamBigReferenceIdeal.main_arg29) = m ((c.tc : Thread Cert.AdamBigReferenceIdeal.nD Cert.AdamBigReferenceIdeal.τ).loc Cert.AdamBigReferenceIdeal.main_arg29)
      ∧ r.2.mem ((c.tc : Thread Cert.AdamBigReferenceIdeal.nD Cert.AdamBigReferenceIdeal.τ).loc Cert.AdamBigReferenceIdeal.main_arg30) = m ((c.tc : Thread Cert.AdamBigReferenceIdeal.nD Cert.AdamBigReferenceIdeal.τ).loc Cert.AdamBigReferenceIdeal.main_arg30)
      ∧ r.2.mem ((c.tc : Thread Cert.AdamBigReferenceIdeal.nD Cert.AdamBigReferenceIdeal.τ).loc Cert.AdamBigReferenceIdeal.main_arg31) = m ((c.tc : Thread Cert.AdamBigReferenceIdeal.nD Cert.AdamBigReferenceIdeal.τ).loc Cert.AdamBigReferenceIdeal.main_arg31)
      ∧ r.2.mem ((c.tc : Thread Cert.AdamBigReferenceIdeal.nD Cert.AdamBigReferenceIdeal.τ).loc Cert.AdamBigReferenceIdeal.main_arg32) = m ((c.tc : Thread Cert.AdamBigReferenceIdeal.nD Cert.AdamBigReferenceIdeal.τ).loc Cert.AdamBigReferenceIdeal.main_arg32)
      ∧ r.2.mem ((c.tc : Thread Cert.AdamBigReferenceIdeal.nD Cert.AdamBigReferenceIdeal.τ).loc Cert.AdamBigReferenceIdeal.main_arg33) = m ((c.tc : Thread Cert.AdamBigReferenceIdeal.nD Cert.AdamBigReferenceIdeal.τ).loc Cert.AdamBigReferenceIdeal.main_arg33)
      ∧ r.2.mem ((c.tc : Thread Cert.AdamBigReferenceIdeal.nD Cert.AdamBigReferenceIdeal.τ).loc Cert.AdamBigReferenceIdeal.main_arg34) = m ((c.tc : Thread Cert.AdamBigReferenceIdeal.nD Cert.AdamBigReferenceIdeal.τ).loc Cert.AdamBigReferenceIdeal.main_arg34)
      ∧ r.2.mem ((c.tc : Thread Cert.AdamBigReferenceIdeal.nD Cert.AdamBigReferenceIdeal.τ).loc Cert.AdamBigReferenceIdeal.main_arg35) = m ((c.tc : Thread Cert.AdamBigReferenceIdeal.nD Cert.AdamBigReferenceIdeal.τ).loc Cert.AdamBigReferenceIdeal.main_arg35)
      ∧ r.2.mem ((c.tc : Thread Cert.AdamBigReferenceIdeal.nD Cert.AdamBigReferenceIdeal.τ).loc Cert.AdamBigReferenceIdeal.main_arg36) = m ((c.tc : Thread Cert.AdamBigReferenceIdeal.nD Cert.AdamBigReferenceIdeal.τ).loc Cert.AdamBigReferenceIdeal.main_arg36)
      ∧ r.2.mem ((c.tc : Thread Cert.AdamBigReferenceIdeal.nD Cert.AdamBigReferenceIdeal.τ).loc Cert.AdamBigReferenceIdeal.main_arg37) = m ((c.tc : Thread Cert.AdamBigReferenceIdeal.nD Cert.AdamBigReferenceIdeal.τ).loc Cert.AdamBigReferenceIdeal.main_arg37)
      ∧ r.2.mem ((c.tc : Thread Cert.AdamBigReferenceIdeal.nD Cert.AdamBigReferenceIdeal.τ).loc Cert.AdamBigReferenceIdeal.main_arg38) = m ((c.tc : Thread Cert.AdamBigReferenceIdeal.nD Cert.AdamBigReferenceIdeal.τ).loc Cert.AdamBigReferenceIdeal.main_arg38)
      ∧ r.2.mem ((c.tc : Thread Cert.AdamBigReferenceIdeal.nD Cert.AdamBigReferenceIdeal.τ).loc Cert.AdamBigReferenceIdeal.main_arg39) = m ((c.tc : Thread Cert.AdamBigReferenceIdeal.nD Cert.AdamBigReferenceIdeal.τ).loc Cert.AdamBigReferenceIdeal.main_arg39)
      ∧ r.2.mem ((c.tc : Thread Cert.AdamBigReferenceIdeal.nD Cert.AdamBigReferenceIdeal.τ).loc Cert.AdamBigReferenceIdeal.main_arg40) = m ((c.tc : Thread Cert.AdamBigReferenceIdeal.nD Cert.AdamBigReferenceIdeal.τ).loc Cert.AdamBigReferenceIdeal.main_arg40)
      ∧ r.2.mem ((c.tc : Thread Cert.AdamBigReferenceIdeal.nD Cert.AdamBigReferenceIdeal.τ).loc Cert.AdamBigReferenceIdeal.main_arg41) = m ((c.tc : Thread Cert.AdamBigReferenceIdeal.nD Cert.AdamBigReferenceIdeal.τ).loc Cert.AdamBigReferenceIdeal.main_arg41)
      ∧ r.2.mem ((c.tc : Thread Cert.AdamBigReferenceIdeal.nD Cert.AdamBigReferenceIdeal.τ).loc Cert.AdamBigReferenceIdeal.main_arg42) = m ((c.tc : Thread Cert.AdamBigReferenceIdeal.nD Cert.AdamBigReferenceIdeal.τ).loc Cert.AdamBigReferenceIdeal.main_arg42)
      ∧ r.2.mem ((c.tc : Thread Cert.AdamBigReferenceIdeal.nD Cert.AdamBigReferenceIdeal.τ).loc Cert.AdamBigReferenceIdeal.main_arg43) = m ((c.tc : Thread Cert.AdamBigReferenceIdeal.nD Cert.AdamBigReferenceIdeal.τ).loc Cert.AdamBigReferenceIdeal.main_arg43)
      ∧ r.2.mem ((c.tc : Thread Cert.AdamBigReferenceIdeal.nD Cert.AdamBigReferenceIdeal.τ).loc Cert.AdamBigReferenceIdeal.main_arg44) = m ((c.tc : Thread Cert.AdamBigReferenceIdeal.nD Cert.AdamBigReferenceIdeal.τ).loc Cert.AdamBigReferenceIdeal.main_arg44)
      ∧ r.2.mem ((c.tc : Thread Cert.AdamBigReferenceIdeal.nD Cert.AdamBigReferenceIdeal.τ).loc Cert.AdamBigReferenceIdeal.main_arg45) = m ((c.tc : Thread Cert.AdamBigReferenceIdeal.nD Cert.AdamBigReferenceIdeal.τ).loc Cert.AdamBigReferenceIdeal.main_arg45)
      ∧ r.2.mem ((c.tc : Thread Cert.AdamBigReferenceIdeal.nD Cert.AdamBigReferenceIdeal.τ).loc Cert.AdamBigReferenceIdeal.main_arg46) = m ((c.tc : Thread Cert.AdamBigReferenceIdeal.nD Cert.AdamBigReferenceIdeal.τ).loc Cert.AdamBigReferenceIdeal.main_arg46)
      ∧ r.2.mem ((c.tc : Thread Cert.AdamBigReferenceIdeal.nD Cert.AdamBigReferenceIdeal.τ).loc Cert.AdamBigReferenceIdeal.main_arg47) = m ((c.tc : Thread Cert.AdamBigReferenceIdeal.nD Cert.AdamBigReferenceIdeal.τ).loc Cert.AdamBigReferenceIdeal.main_arg47))
      ∧ r.2.sem = fun _ => 0)

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)) (v3 : (c : Dev Cert.ConvIdeal.nD) → Buf (Elt Ideal) ((c.tc : Thread Cert.ConvIdeal.nD Cert.ConvIdeal.τ).loc Cert.ConvIdeal.main_v0_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_v0_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v70) = v0 c
          ∧ r.2.mem ((c.tc : Thread Cert.ConvReferenceIdeal.nD Cert.ConvReferenceIdeal.τ).loc Cert.ConvReferenceIdeal.main_v71) = v1 c
          ∧ r.2.mem ((c.tc : Thread Cert.ConvReferenceIdeal.nD Cert.ConvReferenceIdeal.τ).loc Cert.ConvReferenceIdeal.main_v72) = v2 c
          ∧ r.2.mem ((c.tc : Thread Cert.ConvReferenceIdeal.nD Cert.ConvReferenceIdeal.τ).loc Cert.ConvReferenceIdeal.main_v65) = v3 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_Dff2_Dff2Ideal : Prop :=
  True

def algebraic_Dff2Ideal_Dff2ReferenceIdeal [hDff2Ideal : Cert.Dff2Ideal.Facts] [hDff2ReferenceIdeal : Cert.Dff2ReferenceIdeal.Facts] : Prop :=
  ∀ (m : (ℓ : Loc Cert.Dff2Ideal.nD Cert.Dff2Ideal.τ Cert.Dff2Ideal.sig) → Buf (Elt Ideal) ℓ) (g : Dev Cert.Dff2Ideal.nD → PrngReg)
    (m' : (ℓ : Loc Cert.Dff2ReferenceIdeal.nD Cert.Dff2ReferenceIdeal.τ Cert.Dff2ReferenceIdeal.sig) → Buf (Elt Ideal) ℓ) (g' : Dev Cert.Dff2ReferenceIdeal.nD → PrngReg), Pre_Dff2Ideal m →
    (∀ c : Dev Cert.Dff2Ideal.nD,
      m' ((c.tc : Thread Cert.Dff2ReferenceIdeal.nD Cert.Dff2ReferenceIdeal.τ).loc Cert.Dff2ReferenceIdeal.main_arg0) = m ((c.tc : Thread Cert.Dff2Ideal.nD Cert.Dff2Ideal.τ).loc Cert.Dff2Ideal.main_arg0)
      ∧ m' ((c.tc : Thread Cert.Dff2ReferenceIdeal.nD Cert.Dff2ReferenceIdeal.τ).loc Cert.Dff2ReferenceIdeal.main_arg1) = m ((c.tc : Thread Cert.Dff2Ideal.nD Cert.Dff2Ideal.τ).loc Cert.Dff2Ideal.main_arg1)
      ∧ m' ((c.tc : Thread Cert.Dff2ReferenceIdeal.nD Cert.Dff2ReferenceIdeal.τ).loc Cert.Dff2ReferenceIdeal.main_arg2) = m ((c.tc : Thread Cert.Dff2Ideal.nD Cert.Dff2Ideal.τ).loc Cert.Dff2Ideal.main_arg2)) →
    ∃ (v0 : (c : Dev Cert.Dff2Ideal.nD) → Buf (Elt Ideal) ((c.tc : Thread Cert.Dff2Ideal.nD Cert.Dff2Ideal.τ).loc Cert.Dff2Ideal.main_v1)),
      θ_run (Cert.Dff2Ideal.defs (F := Ideal)) (onTc (τ := Cert.Dff2Ideal.τ) (Cert.Dff2Ideal.main (F := Ideal))) ⟨m, fun _ => 0, g⟩ (fun r => ∀ c : Dev Cert.Dff2Ideal.nD,
          r.2.mem ((c.tc : Thread Cert.Dff2Ideal.nD Cert.Dff2Ideal.τ).loc Cert.Dff2Ideal.main_v1) = v0 c
          ∧ r.2.mem ((c.tc : Thread Cert.Dff2Ideal.nD Cert.Dff2Ideal.τ).loc Cert.Dff2Ideal.main_arg0) = m ((c.tc : Thread Cert.Dff2Ideal.nD Cert.Dff2Ideal.τ).loc Cert.Dff2Ideal.main_arg0)
          ∧ r.2.mem ((c.tc : Thread Cert.Dff2Ideal.nD Cert.Dff2Ideal.τ).loc Cert.Dff2Ideal.main_arg1) = m ((c.tc : Thread Cert.Dff2Ideal.nD Cert.Dff2Ideal.τ).loc Cert.Dff2Ideal.main_arg1)
          ∧ r.2.mem ((c.tc : Thread Cert.Dff2Ideal.nD Cert.Dff2Ideal.τ).loc Cert.Dff2Ideal.main_arg2) = m ((c.tc : Thread Cert.Dff2Ideal.nD Cert.Dff2Ideal.τ).loc Cert.Dff2Ideal.main_arg2))
      ∧ θ_run (Cert.Dff2ReferenceIdeal.defs (F := Ideal)) (onTc (τ := Cert.Dff2ReferenceIdeal.τ) (Cert.Dff2ReferenceIdeal.main (F := Ideal))) ⟨m', fun _ => 0, g'⟩ (fun r => ∀ c : Dev Cert.Dff2ReferenceIdeal.nD,
          r.2.mem ((c.tc : Thread Cert.Dff2ReferenceIdeal.nD Cert.Dff2ReferenceIdeal.τ).loc Cert.Dff2ReferenceIdeal.main_v15) = v0 c
          ∧ r.2.mem ((c.tc : Thread Cert.Dff2ReferenceIdeal.nD Cert.Dff2ReferenceIdeal.τ).loc Cert.Dff2ReferenceIdeal.main_arg0) = m' ((c.tc : Thread Cert.Dff2ReferenceIdeal.nD Cert.Dff2ReferenceIdeal.τ).loc Cert.Dff2ReferenceIdeal.main_arg0)
          ∧ r.2.mem ((c.tc : Thread Cert.Dff2ReferenceIdeal.nD Cert.Dff2ReferenceIdeal.τ).loc Cert.Dff2ReferenceIdeal.main_arg1) = m' ((c.tc : Thread Cert.Dff2ReferenceIdeal.nD Cert.Dff2ReferenceIdeal.τ).loc Cert.Dff2ReferenceIdeal.main_arg1)
          ∧ r.2.mem ((c.tc : Thread Cert.Dff2ReferenceIdeal.nD Cert.Dff2ReferenceIdeal.τ).loc Cert.Dff2ReferenceIdeal.main_arg2) = m' ((c.tc : Thread Cert.Dff2ReferenceIdeal.nD Cert.Dff2ReferenceIdeal.τ).loc Cert.Dff2ReferenceIdeal.main_arg2))

def preserves_Dw2_Dw2Ideal : Prop :=
  True

def algebraic_Dw2Ideal_Dw2ReferenceIdeal [hDw2Ideal : Cert.Dw2Ideal.Facts] [hDw2ReferenceIdeal : Cert.Dw2ReferenceIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2ReferenceIdeal.nD Cert.Dw2ReferenceIdeal.τ Cert.Dw2ReferenceIdeal.sig) → Buf (Elt Ideal) ℓ) (g' : Dev Cert.Dw2ReferenceIdeal.nD → PrngReg), Pre_Dw2Ideal m →
    (∀ c : Dev Cert.Dw2Ideal.nD,
      m' ((c.tc : Thread Cert.Dw2ReferenceIdeal.nD Cert.Dw2ReferenceIdeal.τ).loc Cert.Dw2ReferenceIdeal.main_arg0) = m ((c.tc : Thread Cert.Dw2Ideal.nD Cert.Dw2Ideal.τ).loc Cert.Dw2Ideal.main_arg0)
      ∧ m' ((c.tc : Thread Cert.Dw2ReferenceIdeal.nD Cert.Dw2ReferenceIdeal.τ).loc Cert.Dw2ReferenceIdeal.main_arg1) = m ((c.tc : Thread Cert.Dw2Ideal.nD Cert.Dw2Ideal.τ).loc Cert.Dw2Ideal.main_arg1)
      ∧ m' ((c.tc : Thread Cert.Dw2ReferenceIdeal.nD Cert.Dw2ReferenceIdeal.τ).loc Cert.Dw2ReferenceIdeal.main_arg2) = m ((c.tc : Thread Cert.Dw2Ideal.nD Cert.Dw2Ideal.τ).loc Cert.Dw2Ideal.main_arg2)) →
    ∃ (v0 : (c : Dev Cert.Dw2Ideal.nD) → Buf (Elt Ideal) ((c.tc : Thread Cert.Dw2Ideal.nD Cert.Dw2Ideal.τ).loc Cert.Dw2Ideal.main_v0)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v0) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
          ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2))
      ∧ θ_run (Cert.Dw2ReferenceIdeal.defs (F := Ideal)) (onTc (τ := Cert.Dw2ReferenceIdeal.τ) (Cert.Dw2ReferenceIdeal.main (F := Ideal))) ⟨m', fun _ => 0, g'⟩ (fun r => ∀ c : Dev Cert.Dw2ReferenceIdeal.nD,
          r.2.mem ((c.tc : Thread Cert.Dw2ReferenceIdeal.nD Cert.Dw2ReferenceIdeal.τ).loc Cert.Dw2ReferenceIdeal.main_v8) = v0 c
          ∧ r.2.mem ((c.tc : Thread Cert.Dw2ReferenceIdeal.nD Cert.Dw2ReferenceIdeal.τ).loc Cert.Dw2ReferenceIdeal.main_arg0) = m' ((c.tc : Thread Cert.Dw2ReferenceIdeal.nD Cert.Dw2ReferenceIdeal.τ).loc Cert.Dw2ReferenceIdeal.main_arg0)
          ∧ r.2.mem ((c.tc : Thread Cert.Dw2ReferenceIdeal.nD Cert.Dw2ReferenceIdeal.τ).loc Cert.Dw2ReferenceIdeal.main_arg1) = m' ((c.tc : Thread Cert.Dw2ReferenceIdeal.nD Cert.Dw2ReferenceIdeal.τ).loc Cert.Dw2ReferenceIdeal.main_arg1)
          ∧ r.2.mem ((c.tc : Thread Cert.Dw2ReferenceIdeal.nD Cert.Dw2ReferenceIdeal.τ).loc Cert.Dw2ReferenceIdeal.main_arg2) = m' ((c.tc : Thread Cert.Dw2ReferenceIdeal.nD Cert.Dw2ReferenceIdeal.τ).loc Cert.Dw2ReferenceIdeal.main_arg2))

def preserves_Dw1_Dw1Ideal : Prop :=
  True

def algebraic_Dw1Ideal_Dw1ReferenceIdeal [hDw1Ideal : Cert.Dw1Ideal.Facts] [hDw1ReferenceIdeal : Cert.Dw1ReferenceIdeal.Facts] : Prop :=
  ∀ (m : (ℓ : Loc Cert.Dw1Ideal.nD Cert.Dw1Ideal.τ Cert.Dw1Ideal.sig) → Buf (Elt Ideal) ℓ) (g : Dev Cert.Dw1Ideal.nD → PrngReg)
    (m' : (ℓ : Loc Cert.Dw1ReferenceIdeal.nD Cert.Dw1ReferenceIdeal.τ Cert.Dw1ReferenceIdeal.sig) → Buf (Elt Ideal) ℓ) (g' : Dev Cert.Dw1ReferenceIdeal.nD → PrngReg), Pre_Dw1Ideal m →
    (∀ c : Dev Cert.Dw1Ideal.nD,
      m' ((c.tc : Thread Cert.Dw1ReferenceIdeal.nD Cert.Dw1ReferenceIdeal.τ).loc Cert.Dw1ReferenceIdeal.main_arg0) = m ((c.tc : Thread Cert.Dw1Ideal.nD Cert.Dw1Ideal.τ).loc Cert.Dw1Ideal.main_arg0)
      ∧ m' ((c.tc : Thread Cert.Dw1ReferenceIdeal.nD Cert.Dw1ReferenceIdeal.τ).loc Cert.Dw1ReferenceIdeal.main_arg1) = m ((c.tc : Thread Cert.Dw1Ideal.nD Cert.Dw1Ideal.τ).loc Cert.Dw1Ideal.main_arg1)
      ∧ m' ((c.tc : Thread Cert.Dw1ReferenceIdeal.nD Cert.Dw1ReferenceIdeal.τ).loc Cert.Dw1ReferenceIdeal.main_arg2) = m ((c.tc : Thread Cert.Dw1Ideal.nD Cert.Dw1Ideal.τ).loc Cert.Dw1Ideal.main_arg2)
      ∧ m' ((c.tc : Thread Cert.Dw1ReferenceIdeal.nD Cert.Dw1ReferenceIdeal.τ).loc Cert.Dw1ReferenceIdeal.main_arg3) = m ((c.tc : Thread Cert.Dw1Ideal.nD Cert.Dw1Ideal.τ).loc Cert.Dw1Ideal.main_arg3)) →
    ∃ (v0 : (c : Dev Cert.Dw1Ideal.nD) → Buf (Elt Ideal) ((c.tc : Thread Cert.Dw1Ideal.nD Cert.Dw1Ideal.τ).loc Cert.Dw1Ideal.main_v14)),
      θ_run (Cert.Dw1Ideal.defs (F := Ideal)) (onTc (τ := Cert.Dw1Ideal.τ) (Cert.Dw1Ideal.main (F := Ideal))) ⟨m, fun _ => 0, g⟩ (fun r => ∀ c : Dev Cert.Dw1Ideal.nD,
          r.2.mem ((c.tc : Thread Cert.Dw1Ideal.nD Cert.Dw1Ideal.τ).loc Cert.Dw1Ideal.main_v14) = v0 c
          ∧ r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
          ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1)
          ∧ r.2.mem ((c.tc : Thread Cert.Dw1Ideal.nD Cert.Dw1Ideal.τ).loc Cert.Dw1Ideal.main_arg2) = m ((c.tc : Thread Cert.Dw1Ideal.nD Cert.Dw1Ideal.τ).loc Cert.Dw1Ideal.main_arg2)
          ∧ r.2.mem ((c.tc : Thread Cert.Dw1Ideal.nD Cert.Dw1Ideal.τ).loc Cert.Dw1Ideal.main_arg3) = m ((c.tc : Thread Cert.Dw1Ideal.nD Cert.Dw1Ideal.τ).loc Cert.Dw1Ideal.main_arg3))
      ∧ θ_run (Cert.Dw1ReferenceIdeal.defs (F := Ideal)) (onTc (τ := Cert.Dw1ReferenceIdeal.τ) (Cert.Dw1ReferenceIdeal.main (F := Ideal))) ⟨m', fun _ => 0, g'⟩ (fun r => ∀ c : Dev Cert.Dw1ReferenceIdeal.nD,
          r.2.mem ((c.tc : Thread Cert.Dw1ReferenceIdeal.nD Cert.Dw1ReferenceIdeal.τ).loc Cert.Dw1ReferenceIdeal.main_v26) = v0 c
          ∧ r.2.mem ((c.tc : Thread Cert.Dw1ReferenceIdeal.nD Cert.Dw1ReferenceIdeal.τ).loc Cert.Dw1ReferenceIdeal.main_arg0) = m' ((c.tc : Thread Cert.Dw1ReferenceIdeal.nD Cert.Dw1ReferenceIdeal.τ).loc Cert.Dw1ReferenceIdeal.main_arg0)
          ∧ r.2.mem ((c.tc : Thread Cert.Dw1ReferenceIdeal.nD Cert.Dw1ReferenceIdeal.τ).loc Cert.Dw1ReferenceIdeal.main_arg1) = m' ((c.tc : Thread Cert.Dw1ReferenceIdeal.nD Cert.Dw1ReferenceIdeal.τ).loc Cert.Dw1ReferenceIdeal.main_arg1)
          ∧ r.2.mem ((c.tc : Thread Cert.Dw1ReferenceIdeal.nD Cert.Dw1ReferenceIdeal.τ).loc Cert.Dw1ReferenceIdeal.main_arg2) = m' ((c.tc : Thread Cert.Dw1ReferenceIdeal.nD Cert.Dw1ReferenceIdeal.τ).loc Cert.Dw1ReferenceIdeal.main_arg2)
          ∧ r.2.mem ((c.tc : Thread Cert.Dw1ReferenceIdeal.nD Cert.Dw1ReferenceIdeal.τ).loc Cert.Dw1ReferenceIdeal.main_arg3) = m' ((c.tc : Thread Cert.Dw1ReferenceIdeal.nD Cert.Dw1ReferenceIdeal.τ).loc Cert.Dw1ReferenceIdeal.main_arg3))

def preserves_Dnorm2_Dnorm2Ideal : Prop :=
  True

def algebraic_Dnorm2Ideal_Dnorm2ReferenceIdeal [hDnorm2Ideal : Cert.Dnorm2Ideal.Facts] [hDnorm2ReferenceIdeal : Cert.Dnorm2ReferenceIdeal.Facts] : Prop :=
  ∀ (m : (ℓ : Loc Cert.Dnorm2Ideal.nD Cert.Dnorm2Ideal.τ Cert.Dnorm2Ideal.sig) → Buf (Elt Ideal) ℓ) (g : Dev Cert.Dnorm2Ideal.nD → PrngReg)
    (m' : (ℓ : Loc Cert.Dnorm2ReferenceIdeal.nD Cert.Dnorm2ReferenceIdeal.τ Cert.Dnorm2ReferenceIdeal.sig) → Buf (Elt Ideal) ℓ) (g' : Dev Cert.Dnorm2ReferenceIdeal.nD → PrngReg), Pre_Dnorm2Ideal m →
    (∀ c : Dev Cert.Dnorm2Ideal.nD,
      m' ((c.tc : Thread Cert.Dnorm2ReferenceIdeal.nD Cert.Dnorm2ReferenceIdeal.τ).loc Cert.Dnorm2ReferenceIdeal.main_arg0) = m ((c.tc : Thread Cert.Dnorm2Ideal.nD Cert.Dnorm2Ideal.τ).loc Cert.Dnorm2Ideal.main_arg0)
      ∧ m' ((c.tc : Thread Cert.Dnorm2ReferenceIdeal.nD Cert.Dnorm2ReferenceIdeal.τ).loc Cert.Dnorm2ReferenceIdeal.main_arg1) = m ((c.tc : Thread Cert.Dnorm2Ideal.nD Cert.Dnorm2Ideal.τ).loc Cert.Dnorm2Ideal.main_arg1)
      ∧ m' ((c.tc : Thread Cert.Dnorm2ReferenceIdeal.nD Cert.Dnorm2ReferenceIdeal.τ).loc Cert.Dnorm2ReferenceIdeal.main_arg2) = m ((c.tc : Thread Cert.Dnorm2Ideal.nD Cert.Dnorm2Ideal.τ).loc Cert.Dnorm2Ideal.main_arg2)
      ∧ m' ((c.tc : Thread Cert.Dnorm2ReferenceIdeal.nD Cert.Dnorm2ReferenceIdeal.τ).loc Cert.Dnorm2ReferenceIdeal.main_arg3) = m ((c.tc : Thread Cert.Dnorm2Ideal.nD Cert.Dnorm2Ideal.τ).loc Cert.Dnorm2Ideal.main_arg3)
      ∧ m' ((c.tc : Thread Cert.Dnorm2ReferenceIdeal.nD Cert.Dnorm2ReferenceIdeal.τ).loc Cert.Dnorm2ReferenceIdeal.main_arg4) = m ((c.tc : Thread Cert.Dnorm2Ideal.nD Cert.Dnorm2Ideal.τ).loc Cert.Dnorm2Ideal.main_arg4)) →
    ∃ (v0 : (c : Dev Cert.Dnorm2Ideal.nD) → Buf (Elt Ideal) ((c.tc : Thread Cert.Dnorm2Ideal.nD Cert.Dnorm2Ideal.τ).loc Cert.Dnorm2Ideal.main_v4_0)) (v1 : (c : Dev Cert.Dnorm2Ideal.nD) → Buf (Elt Ideal) ((c.tc : Thread Cert.Dnorm2Ideal.nD Cert.Dnorm2Ideal.τ).loc Cert.Dnorm2Ideal.main_v4_1)),
      θ_run (Cert.Dnorm2Ideal.defs (F := Ideal)) (onTc (τ := Cert.Dnorm2Ideal.τ) (Cert.Dnorm2Ideal.main (F := Ideal))) ⟨m, fun _ => 0, g⟩ (fun r => ∀ c : Dev Cert.Dnorm2Ideal.nD,
          r.2.mem ((c.tc : Thread Cert.Dnorm2Ideal.nD Cert.Dnorm2Ideal.τ).loc Cert.Dnorm2Ideal.main_v4_0) = v0 c
          ∧ r.2.mem ((c.tc : Thread Cert.Dnorm2Ideal.nD Cert.Dnorm2Ideal.τ).loc Cert.Dnorm2Ideal.main_v4_1) = v1 c
          ∧ r.2.mem ((c.tc : Thread Cert.Dnorm2Ideal.nD Cert.Dnorm2Ideal.τ).loc Cert.Dnorm2Ideal.main_arg0) = m ((c.tc : Thread Cert.Dnorm2Ideal.nD Cert.Dnorm2Ideal.τ).loc Cert.Dnorm2Ideal.main_arg0)
          ∧ r.2.mem ((c.tc : Thread Cert.Dnorm2Ideal.nD Cert.Dnorm2Ideal.τ).loc Cert.Dnorm2Ideal.main_arg1) = m ((c.tc : Thread Cert.Dnorm2Ideal.nD Cert.Dnorm2Ideal.τ).loc Cert.Dnorm2Ideal.main_arg1)
          ∧ r.2.mem ((c.tc : Thread Cert.Dnorm2Ideal.nD Cert.Dnorm2Ideal.τ).loc Cert.Dnorm2Ideal.main_arg2) = m ((c.tc : Thread Cert.Dnorm2Ideal.nD Cert.Dnorm2Ideal.τ).loc Cert.Dnorm2Ideal.main_arg2)
          ∧ r.2.mem ((c.tc : Thread Cert.Dnorm2Ideal.nD Cert.Dnorm2Ideal.τ).loc Cert.Dnorm2Ideal.main_arg3) = m ((c.tc : Thread Cert.Dnorm2Ideal.nD Cert.Dnorm2Ideal.τ).loc Cert.Dnorm2Ideal.main_arg3)
          ∧ r.2.mem ((c.tc : Thread Cert.Dnorm2Ideal.nD Cert.Dnorm2Ideal.τ).loc Cert.Dnorm2Ideal.main_arg4) = m ((c.tc : Thread Cert.Dnorm2Ideal.nD Cert.Dnorm2Ideal.τ).loc Cert.Dnorm2Ideal.main_arg4))
      ∧ θ_run (Cert.Dnorm2ReferenceIdeal.defs (F := Ideal)) (onTc (τ := Cert.Dnorm2ReferenceIdeal.τ) (Cert.Dnorm2ReferenceIdeal.main (F := Ideal))) ⟨m', fun _ => 0, g'⟩ (fun r => ∀ c : Dev Cert.Dnorm2ReferenceIdeal.nD,
          r.2.mem ((c.tc : Thread Cert.Dnorm2ReferenceIdeal.nD Cert.Dnorm2ReferenceIdeal.τ).loc Cert.Dnorm2ReferenceIdeal.main_v39) = v0 c
          ∧ r.2.mem ((c.tc : Thread Cert.Dnorm2ReferenceIdeal.nD Cert.Dnorm2ReferenceIdeal.τ).loc Cert.Dnorm2ReferenceIdeal.main_v40) = v1 c
          ∧ r.2.mem ((c.tc : Thread Cert.Dnorm2ReferenceIdeal.nD Cert.Dnorm2ReferenceIdeal.τ).loc Cert.Dnorm2ReferenceIdeal.main_arg0) = m' ((c.tc : Thread Cert.Dnorm2ReferenceIdeal.nD Cert.Dnorm2ReferenceIdeal.τ).loc Cert.Dnorm2ReferenceIdeal.main_arg0)
          ∧ r.2.mem ((c.tc : Thread Cert.Dnorm2ReferenceIdeal.nD Cert.Dnorm2ReferenceIdeal.τ).loc Cert.Dnorm2ReferenceIdeal.main_arg1) = m' ((c.tc : Thread Cert.Dnorm2ReferenceIdeal.nD Cert.Dnorm2ReferenceIdeal.τ).loc Cert.Dnorm2ReferenceIdeal.main_arg1)
          ∧ r.2.mem ((c.tc : Thread Cert.Dnorm2ReferenceIdeal.nD Cert.Dnorm2ReferenceIdeal.τ).loc Cert.Dnorm2ReferenceIdeal.main_arg2) = m' ((c.tc : Thread Cert.Dnorm2ReferenceIdeal.nD Cert.Dnorm2ReferenceIdeal.τ).loc Cert.Dnorm2ReferenceIdeal.main_arg2)
          ∧ r.2.mem ((c.tc : Thread Cert.Dnorm2ReferenceIdeal.nD Cert.Dnorm2ReferenceIdeal.τ).loc Cert.Dnorm2ReferenceIdeal.main_arg3) = m' ((c.tc : Thread Cert.Dnorm2ReferenceIdeal.nD Cert.Dnorm2ReferenceIdeal.τ).loc Cert.Dnorm2ReferenceIdeal.main_arg3)
          ∧ r.2.mem ((c.tc : Thread Cert.Dnorm2ReferenceIdeal.nD Cert.Dnorm2ReferenceIdeal.τ).loc Cert.Dnorm2ReferenceIdeal.main_arg4) = m' ((c.tc : Thread Cert.Dnorm2ReferenceIdeal.nD Cert.Dnorm2ReferenceIdeal.τ).loc Cert.Dnorm2ReferenceIdeal.main_arg4))

def preserves_Dple_DpleIdeal : Prop :=
  True

def algebraic_DpleIdeal_DpleReferenceIdeal [hDpleIdeal : Cert.DpleIdeal.Facts] [hDpleReferenceIdeal : Cert.DpleReferenceIdeal.Facts] : Prop :=
  ∀ (m : (ℓ : Loc Cert.DpleIdeal.nD Cert.DpleIdeal.τ Cert.DpleIdeal.sig) → Buf (Elt Ideal) ℓ) (g : Dev Cert.DpleIdeal.nD → PrngReg)
    (m' : (ℓ : Loc Cert.DpleReferenceIdeal.nD Cert.DpleReferenceIdeal.τ Cert.DpleReferenceIdeal.sig) → Buf (Elt Ideal) ℓ) (g' : Dev Cert.DpleReferenceIdeal.nD → PrngReg), Pre_DpleIdeal m →
    (∀ c : Dev Cert.DpleIdeal.nD,
      m' ((c.tc : Thread Cert.DpleReferenceIdeal.nD Cert.DpleReferenceIdeal.τ).loc Cert.DpleReferenceIdeal.main_arg0) = m ((c.tc : Thread Cert.DpleIdeal.nD Cert.DpleIdeal.τ).loc Cert.DpleIdeal.main_arg0)
      ∧ m' ((c.tc : Thread Cert.DpleReferenceIdeal.nD Cert.DpleReferenceIdeal.τ).loc Cert.DpleReferenceIdeal.main_arg1) = m ((c.tc : Thread Cert.DpleIdeal.nD Cert.DpleIdeal.τ).loc Cert.DpleIdeal.main_arg1)
      ∧ m' ((c.tc : Thread Cert.DpleReferenceIdeal.nD Cert.DpleReferenceIdeal.τ).loc Cert.DpleReferenceIdeal.main_arg2) = m ((c.tc : Thread Cert.DpleIdeal.nD Cert.DpleIdeal.τ).loc Cert.DpleIdeal.main_arg2)
      ∧ m' ((c.tc : Thread Cert.DpleReferenceIdeal.nD Cert.DpleReferenceIdeal.τ).loc Cert.DpleReferenceIdeal.main_arg3) = m ((c.tc : Thread Cert.DpleIdeal.nD Cert.DpleIdeal.τ).loc Cert.DpleIdeal.main_arg3)
      ∧ m' ((c.tc : Thread Cert.DpleReferenceIdeal.nD Cert.DpleReferenceIdeal.τ).loc Cert.DpleReferenceIdeal.main_arg4) = m ((c.tc : Thread Cert.DpleIdeal.nD Cert.DpleIdeal.τ).loc Cert.DpleIdeal.main_arg4)) →
    ∃ (v0 : (c : Dev Cert.DpleIdeal.nD) → Buf (Elt Ideal) ((c.tc : Thread Cert.DpleIdeal.nD Cert.DpleIdeal.τ).loc Cert.DpleIdeal.main_v17_0)) (v1 : (c : Dev Cert.DpleIdeal.nD) → Buf (Elt Ideal) ((c.tc : Thread Cert.DpleIdeal.nD Cert.DpleIdeal.τ).loc Cert.DpleIdeal.main_v17_1)) (v2 : (c : Dev Cert.DpleIdeal.nD) → Buf (Elt Ideal) ((c.tc : Thread Cert.DpleIdeal.nD Cert.DpleIdeal.τ).loc Cert.DpleIdeal.main_v17_2)) (v3 : (c : Dev Cert.DpleIdeal.nD) → Buf (Elt Ideal) ((c.tc : Thread Cert.DpleIdeal.nD Cert.DpleIdeal.τ).loc Cert.DpleIdeal.main_v17_3)),
      θ_run (Cert.DpleIdeal.defs (F := Ideal)) (onTc (τ := Cert.DpleIdeal.τ) (Cert.DpleIdeal.main (F := Ideal))) ⟨m, fun _ => 0, g⟩ (fun r => ∀ c : Dev Cert.DpleIdeal.nD,
          r.2.mem ((c.tc : Thread Cert.DpleIdeal.nD Cert.DpleIdeal.τ).loc Cert.DpleIdeal.main_v17_0) = v0 c
          ∧ r.2.mem ((c.tc : Thread Cert.DpleIdeal.nD Cert.DpleIdeal.τ).loc Cert.DpleIdeal.main_v17_1) = v1 c
          ∧ r.2.mem ((c.tc : Thread Cert.DpleIdeal.nD Cert.DpleIdeal.τ).loc Cert.DpleIdeal.main_v17_2) = v2 c
          ∧ r.2.mem ((c.tc : Thread Cert.DpleIdeal.nD Cert.DpleIdeal.τ).loc Cert.DpleIdeal.main_v17_3) = v3 c
          ∧ r.2.mem ((c.tc : Thread Cert.DpleIdeal.nD Cert.DpleIdeal.τ).loc Cert.DpleIdeal.main_arg0) = m ((c.tc : Thread Cert.DpleIdeal.nD Cert.DpleIdeal.τ).loc Cert.DpleIdeal.main_arg0)
          ∧ r.2.mem ((c.tc : Thread Cert.DpleIdeal.nD Cert.DpleIdeal.τ).loc Cert.DpleIdeal.main_arg1) = m ((c.tc : Thread Cert.DpleIdeal.nD Cert.DpleIdeal.τ).loc Cert.DpleIdeal.main_arg1)
          ∧ r.2.mem ((c.tc : Thread Cert.DpleIdeal.nD Cert.DpleIdeal.τ).loc Cert.DpleIdeal.main_arg2) = m ((c.tc : Thread Cert.DpleIdeal.nD Cert.DpleIdeal.τ).loc Cert.DpleIdeal.main_arg2)
          ∧ r.2.mem ((c.tc : Thread Cert.DpleIdeal.nD Cert.DpleIdeal.τ).loc Cert.DpleIdeal.main_arg3) = m ((c.tc : Thread Cert.DpleIdeal.nD Cert.DpleIdeal.τ).loc Cert.DpleIdeal.main_arg3)
          ∧ r.2.mem ((c.tc : Thread Cert.DpleIdeal.nD Cert.DpleIdeal.τ).loc Cert.DpleIdeal.main_arg4) = m ((c.tc : Thread Cert.DpleIdeal.nD Cert.DpleIdeal.τ).loc Cert.DpleIdeal.main_arg4))
      ∧ θ_run (Cert.DpleReferenceIdeal.defs (F := Ideal)) (onTc (τ := Cert.DpleReferenceIdeal.τ) (Cert.DpleReferenceIdeal.main (F := Ideal))) ⟨m', fun _ => 0, g'⟩ (fun r => ∀ c : Dev Cert.DpleReferenceIdeal.nD,
          r.2.mem ((c.tc : Thread Cert.DpleReferenceIdeal.nD Cert.DpleReferenceIdeal.τ).loc Cert.DpleReferenceIdeal.main_v82) = v0 c
          ∧ r.2.mem ((c.tc : Thread Cert.DpleReferenceIdeal.nD Cert.DpleReferenceIdeal.τ).loc Cert.DpleReferenceIdeal.main_v83) = v1 c
          ∧ r.2.mem ((c.tc : Thread Cert.DpleReferenceIdeal.nD Cert.DpleReferenceIdeal.τ).loc Cert.DpleReferenceIdeal.main_v68) = v2 c
          ∧ r.2.mem ((c.tc : Thread Cert.DpleReferenceIdeal.nD Cert.DpleReferenceIdeal.τ).loc Cert.DpleReferenceIdeal.main_v84) = v3 c
          ∧ r.2.mem ((c.tc : Thread Cert.DpleReferenceIdeal.nD Cert.DpleReferenceIdeal.τ).loc Cert.DpleReferenceIdeal.main_arg0) = m' ((c.tc : Thread Cert.DpleReferenceIdeal.nD Cert.DpleReferenceIdeal.τ).loc Cert.DpleReferenceIdeal.main_arg0)
          ∧ r.2.mem ((c.tc : Thread Cert.DpleReferenceIdeal.nD Cert.DpleReferenceIdeal.τ).loc Cert.DpleReferenceIdeal.main_arg1) = m' ((c.tc : Thread Cert.DpleReferenceIdeal.nD Cert.DpleReferenceIdeal.τ).loc Cert.DpleReferenceIdeal.main_arg1)
          ∧ r.2.mem ((c.tc : Thread Cert.DpleReferenceIdeal.nD Cert.DpleReferenceIdeal.τ).loc Cert.DpleReferenceIdeal.main_arg2) = m' ((c.tc : Thread Cert.DpleReferenceIdeal.nD Cert.DpleReferenceIdeal.τ).loc Cert.DpleReferenceIdeal.main_arg2)
          ∧ r.2.mem ((c.tc : Thread Cert.DpleReferenceIdeal.nD Cert.DpleReferenceIdeal.τ).loc Cert.DpleReferenceIdeal.main_arg3) = m' ((c.tc : Thread Cert.DpleReferenceIdeal.nD Cert.DpleReferenceIdeal.τ).loc Cert.DpleReferenceIdeal.main_arg3)
          ∧ r.2.mem ((c.tc : Thread Cert.DpleReferenceIdeal.nD Cert.DpleReferenceIdeal.τ).loc Cert.DpleReferenceIdeal.main_arg4) = m' ((c.tc : Thread Cert.DpleReferenceIdeal.nD Cert.DpleReferenceIdeal.τ).loc Cert.DpleReferenceIdeal.main_arg4))

def preserves_Dwg_DwgIdeal : Prop :=
  True

def algebraic_DwgIdeal_DwgReferenceIdeal [hDwgIdeal : Cert.DwgIdeal.Facts] [hDwgReferenceIdeal : Cert.DwgReferenceIdeal.Facts] : Prop :=
  ∀ (m : (ℓ : Loc Cert.DwgIdeal.nD Cert.DwgIdeal.τ Cert.DwgIdeal.sig) → Buf (Elt Ideal) ℓ) (g : Dev Cert.DwgIdeal.nD → PrngReg)
    (m' : (ℓ : Loc Cert.DwgReferenceIdeal.nD Cert.DwgReferenceIdeal.τ Cert.DwgReferenceIdeal.sig) → Buf (Elt Ideal) ℓ) (g' : Dev Cert.DwgReferenceIdeal.nD → PrngReg), Pre_DwgIdeal m →
    (∀ c : Dev Cert.DwgIdeal.nD,
      m' ((c.tc : Thread Cert.DwgReferenceIdeal.nD Cert.DwgReferenceIdeal.τ).loc Cert.DwgReferenceIdeal.main_arg0) = m ((c.tc : Thread Cert.DwgIdeal.nD Cert.DwgIdeal.τ).loc Cert.DwgIdeal.main_arg0)
      ∧ m' ((c.tc : Thread Cert.DwgReferenceIdeal.nD Cert.DwgReferenceIdeal.τ).loc Cert.DwgReferenceIdeal.main_arg1) = m ((c.tc : Thread Cert.DwgIdeal.nD Cert.DwgIdeal.τ).loc Cert.DwgIdeal.main_arg1)
      ∧ m' ((c.tc : Thread Cert.DwgReferenceIdeal.nD Cert.DwgReferenceIdeal.τ).loc Cert.DwgReferenceIdeal.main_arg2) = m ((c.tc : Thread Cert.DwgIdeal.nD Cert.DwgIdeal.τ).loc Cert.DwgIdeal.main_arg2)
      ∧ m' ((c.tc : Thread Cert.DwgReferenceIdeal.nD Cert.DwgReferenceIdeal.τ).loc Cert.DwgReferenceIdeal.main_arg3) = m ((c.tc : Thread Cert.DwgIdeal.nD Cert.DwgIdeal.τ).loc Cert.DwgIdeal.main_arg3)) →
    ∃ (v0 : (c : Dev Cert.DwgIdeal.nD) → Buf (Elt Ideal) ((c.tc : Thread Cert.DwgIdeal.nD Cert.DwgIdeal.τ).loc Cert.DwgIdeal.main_v14)),
      θ_run (Cert.DwgIdeal.defs (F := Ideal)) (onTc (τ := Cert.DwgIdeal.τ) (Cert.DwgIdeal.main (F := Ideal))) ⟨m, fun _ => 0, g⟩ (fun r => ∀ c : Dev Cert.DwgIdeal.nD,
          r.2.mem ((c.tc : Thread Cert.DwgIdeal.nD Cert.DwgIdeal.τ).loc Cert.DwgIdeal.main_v14) = v0 c
          ∧ r.2.mem ((c.tc : Thread Cert.DwgIdeal.nD Cert.DwgIdeal.τ).loc Cert.DwgIdeal.main_arg0) = m ((c.tc : Thread Cert.DwgIdeal.nD Cert.DwgIdeal.τ).loc Cert.DwgIdeal.main_arg0)
          ∧ r.2.mem ((c.tc : Thread Cert.DwgIdeal.nD Cert.DwgIdeal.τ).loc Cert.DwgIdeal.main_arg1) = m ((c.tc : Thread Cert.DwgIdeal.nD Cert.DwgIdeal.τ).loc Cert.DwgIdeal.main_arg1)
          ∧ r.2.mem ((c.tc : Thread Cert.DwgIdeal.nD Cert.DwgIdeal.τ).loc Cert.DwgIdeal.main_arg2) = m ((c.tc : Thread Cert.DwgIdeal.nD Cert.DwgIdeal.τ).loc Cert.DwgIdeal.main_arg2)
          ∧ r.2.mem ((c.tc : Thread Cert.DwgIdeal.nD Cert.DwgIdeal.τ).loc Cert.DwgIdeal.main_arg3) = m ((c.tc : Thread Cert.DwgIdeal.nD Cert.DwgIdeal.τ).loc Cert.DwgIdeal.main_arg3))
      ∧ θ_run (Cert.DwgReferenceIdeal.defs (F := Ideal)) (onTc (τ := Cert.DwgReferenceIdeal.τ) (Cert.DwgReferenceIdeal.main (F := Ideal))) ⟨m', fun _ => 0, g'⟩ (fun r => ∀ c : Dev Cert.DwgReferenceIdeal.nD,
          r.2.mem ((c.tc : Thread Cert.DwgReferenceIdeal.nD Cert.DwgReferenceIdeal.τ).loc Cert.DwgReferenceIdeal.main_v17) = v0 c
          ∧ r.2.mem ((c.tc : Thread Cert.DwgReferenceIdeal.nD Cert.DwgReferenceIdeal.τ).loc Cert.DwgReferenceIdeal.main_arg0) = m' ((c.tc : Thread Cert.DwgReferenceIdeal.nD Cert.DwgReferenceIdeal.τ).loc Cert.DwgReferenceIdeal.main_arg0)
          ∧ r.2.mem ((c.tc : Thread Cert.DwgReferenceIdeal.nD Cert.DwgReferenceIdeal.τ).loc Cert.DwgReferenceIdeal.main_arg1) = m' ((c.tc : Thread Cert.DwgReferenceIdeal.nD Cert.DwgReferenceIdeal.τ).loc Cert.DwgReferenceIdeal.main_arg1)
          ∧ r.2.mem ((c.tc : Thread Cert.DwgReferenceIdeal.nD Cert.DwgReferenceIdeal.τ).loc Cert.DwgReferenceIdeal.main_arg2) = m' ((c.tc : Thread Cert.DwgReferenceIdeal.nD Cert.DwgReferenceIdeal.τ).loc Cert.DwgReferenceIdeal.main_arg2)
          ∧ r.2.mem ((c.tc : Thread Cert.DwgReferenceIdeal.nD Cert.DwgReferenceIdeal.τ).loc Cert.DwgReferenceIdeal.main_arg3) = m' ((c.tc : Thread Cert.DwgReferenceIdeal.nD Cert.DwgReferenceIdeal.τ).loc Cert.DwgReferenceIdeal.main_arg3))

def preserves_Dwp_DwpIdeal : Prop :=
  True

def algebraic_DwpIdeal_DwpReferenceIdeal [hDwpIdeal : Cert.DwpIdeal.Facts] [hDwpReferenceIdeal : Cert.DwpReferenceIdeal.Facts] : Prop :=
  ∀ (m : (ℓ : Loc Cert.DwpIdeal.nD Cert.DwpIdeal.τ Cert.DwpIdeal.sig) → Buf (Elt Ideal) ℓ) (g : Dev Cert.DwpIdeal.nD → PrngReg)
    (m' : (ℓ : Loc Cert.DwpReferenceIdeal.nD Cert.DwpReferenceIdeal.τ Cert.DwpReferenceIdeal.sig) → Buf (Elt Ideal) ℓ) (g' : Dev Cert.DwpReferenceIdeal.nD → PrngReg), Pre_DwpIdeal m →
    (∀ c : Dev Cert.DwpIdeal.nD,
      m' ((c.tc : Thread Cert.DwpReferenceIdeal.nD Cert.DwpReferenceIdeal.τ).loc Cert.DwpReferenceIdeal.main_arg0) = m ((c.tc : Thread Cert.DwpIdeal.nD Cert.DwpIdeal.τ).loc Cert.DwpIdeal.main_arg0)
      ∧ m' ((c.tc : Thread Cert.DwpReferenceIdeal.nD Cert.DwpReferenceIdeal.τ).loc Cert.DwpReferenceIdeal.main_arg1) = m ((c.tc : Thread Cert.DwpIdeal.nD Cert.DwpIdeal.τ).loc Cert.DwpIdeal.main_arg1)
      ∧ m' ((c.tc : Thread Cert.DwpReferenceIdeal.nD Cert.DwpReferenceIdeal.τ).loc Cert.DwpReferenceIdeal.main_arg2) = m ((c.tc : Thread Cert.DwpIdeal.nD Cert.DwpIdeal.τ).loc Cert.DwpIdeal.main_arg2)) →
    ∃ (v0 : (c : Dev Cert.DwpIdeal.nD) → Buf (Elt Ideal) ((c.tc : Thread Cert.DwpIdeal.nD Cert.DwpIdeal.τ).loc Cert.DwpIdeal.main_v1)),
      θ_run (Cert.DwpIdeal.defs (F := Ideal)) (onTc (τ := Cert.DwpIdeal.τ) (Cert.DwpIdeal.main (F := Ideal))) ⟨m, fun _ => 0, g⟩ (fun r => ∀ c : Dev Cert.DwpIdeal.nD,
          r.2.mem ((c.tc : Thread Cert.DwpIdeal.nD Cert.DwpIdeal.τ).loc Cert.DwpIdeal.main_v1) = v0 c
          ∧ r.2.mem ((c.tc : Thread Cert.DwpIdeal.nD Cert.DwpIdeal.τ).loc Cert.DwpIdeal.main_arg0) = m ((c.tc : Thread Cert.DwpIdeal.nD Cert.DwpIdeal.τ).loc Cert.DwpIdeal.main_arg0)
          ∧ r.2.mem ((c.tc : Thread Cert.DwpIdeal.nD Cert.DwpIdeal.τ).loc Cert.DwpIdeal.main_arg1) = m ((c.tc : Thread Cert.DwpIdeal.nD Cert.DwpIdeal.τ).loc Cert.DwpIdeal.main_arg1)
          ∧ r.2.mem ((c.tc : Thread Cert.DwpIdeal.nD Cert.DwpIdeal.τ).loc Cert.DwpIdeal.main_arg2) = m ((c.tc : Thread Cert.DwpIdeal.nD Cert.DwpIdeal.τ).loc Cert.DwpIdeal.main_arg2))
      ∧ θ_run (Cert.DwpReferenceIdeal.defs (F := Ideal)) (onTc (τ := Cert.DwpReferenceIdeal.τ) (Cert.DwpReferenceIdeal.main (F := Ideal))) ⟨m', fun _ => 0, g'⟩ (fun r => ∀ c : Dev Cert.DwpReferenceIdeal.nD,
          r.2.mem ((c.tc : Thread Cert.DwpReferenceIdeal.nD Cert.DwpReferenceIdeal.τ).loc Cert.DwpReferenceIdeal.main_v13) = v0 c
          ∧ r.2.mem ((c.tc : Thread Cert.DwpReferenceIdeal.nD Cert.DwpReferenceIdeal.τ).loc Cert.DwpReferenceIdeal.main_arg0) = m' ((c.tc : Thread Cert.DwpReferenceIdeal.nD Cert.DwpReferenceIdeal.τ).loc Cert.DwpReferenceIdeal.main_arg0)
          ∧ r.2.mem ((c.tc : Thread Cert.DwpReferenceIdeal.nD Cert.DwpReferenceIdeal.τ).loc Cert.DwpReferenceIdeal.main_arg1) = m' ((c.tc : Thread Cert.DwpReferenceIdeal.nD Cert.DwpReferenceIdeal.τ).loc Cert.DwpReferenceIdeal.main_arg1)
          ∧ r.2.mem ((c.tc : Thread Cert.DwpReferenceIdeal.nD Cert.DwpReferenceIdeal.τ).loc Cert.DwpReferenceIdeal.main_arg2) = m' ((c.tc : Thread Cert.DwpReferenceIdeal.nD Cert.DwpReferenceIdeal.τ).loc Cert.DwpReferenceIdeal.main_arg2))

def preserves_Dout_DoutIdeal : Prop :=
  True

def algebraic_DoutIdeal_DoutReferenceIdeal [hDoutIdeal : Cert.DoutIdeal.Facts] [hDoutReferenceIdeal : Cert.DoutReferenceIdeal.Facts] : Prop :=
  ∀ (m : (ℓ : Loc Cert.DoutIdeal.nD Cert.DoutIdeal.τ Cert.DoutIdeal.sig) → Buf (Elt Ideal) ℓ) (g : Dev Cert.DoutIdeal.nD → PrngReg)
    (m' : (ℓ : Loc Cert.DoutReferenceIdeal.nD Cert.DoutReferenceIdeal.τ Cert.DoutReferenceIdeal.sig) → Buf (Elt Ideal) ℓ) (g' : Dev Cert.DoutReferenceIdeal.nD → PrngReg), Pre_DoutIdeal m →
    (∀ c : Dev Cert.DoutIdeal.nD,
      m' ((c.tc : Thread Cert.DoutReferenceIdeal.nD Cert.DoutReferenceIdeal.τ).loc Cert.DoutReferenceIdeal.main_arg0) = m ((c.tc : Thread Cert.DoutIdeal.nD Cert.DoutIdeal.τ).loc Cert.DoutIdeal.main_arg0)
      ∧ m' ((c.tc : Thread Cert.DoutReferenceIdeal.nD Cert.DoutReferenceIdeal.τ).loc Cert.DoutReferenceIdeal.main_arg1) = m ((c.tc : Thread Cert.DoutIdeal.nD Cert.DoutIdeal.τ).loc Cert.DoutIdeal.main_arg1)
      ∧ m' ((c.tc : Thread Cert.DoutReferenceIdeal.nD Cert.DoutReferenceIdeal.τ).loc Cert.DoutReferenceIdeal.main_arg2) = m ((c.tc : Thread Cert.DoutIdeal.nD Cert.DoutIdeal.τ).loc Cert.DoutIdeal.main_arg2)) →
    ∃ (v0 : (c : Dev Cert.DoutIdeal.nD) → Buf (Elt Ideal) ((c.tc : Thread Cert.DoutIdeal.nD Cert.DoutIdeal.τ).loc Cert.DoutIdeal.main_v1)),
      θ_run (Cert.DoutIdeal.defs (F := Ideal)) (onTc (τ := Cert.DoutIdeal.τ) (Cert.DoutIdeal.main (F := Ideal))) ⟨m, fun _ => 0, g⟩ (fun r => ∀ c : Dev Cert.DoutIdeal.nD,
          r.2.mem ((c.tc : Thread Cert.DoutIdeal.nD Cert.DoutIdeal.τ).loc Cert.DoutIdeal.main_v1) = v0 c
          ∧ r.2.mem ((c.tc : Thread Cert.DoutIdeal.nD Cert.DoutIdeal.τ).loc Cert.DoutIdeal.main_arg0) = m ((c.tc : Thread Cert.DoutIdeal.nD Cert.DoutIdeal.τ).loc Cert.DoutIdeal.main_arg0)
          ∧ r.2.mem ((c.tc : Thread Cert.DoutIdeal.nD Cert.DoutIdeal.τ).loc Cert.DoutIdeal.main_arg1) = m ((c.tc : Thread Cert.DoutIdeal.nD Cert.DoutIdeal.τ).loc Cert.DoutIdeal.main_arg1)
          ∧ r.2.mem ((c.tc : Thread Cert.DoutIdeal.nD Cert.DoutIdeal.τ).loc Cert.DoutIdeal.main_arg2) = m ((c.tc : Thread Cert.DoutIdeal.nD Cert.DoutIdeal.τ).loc Cert.DoutIdeal.main_arg2))
      ∧ θ_run (Cert.DoutReferenceIdeal.defs (F := Ideal)) (onTc (τ := Cert.DoutReferenceIdeal.τ) (Cert.DoutReferenceIdeal.main (F := Ideal))) ⟨m', fun _ => 0, g'⟩ (fun r => ∀ c : Dev Cert.DoutReferenceIdeal.nD,
          r.2.mem ((c.tc : Thread Cert.DoutReferenceIdeal.nD Cert.DoutReferenceIdeal.τ).loc Cert.DoutReferenceIdeal.main_v5) = v0 c
          ∧ r.2.mem ((c.tc : Thread Cert.DoutReferenceIdeal.nD Cert.DoutReferenceIdeal.τ).loc Cert.DoutReferenceIdeal.main_arg0) = m' ((c.tc : Thread Cert.DoutReferenceIdeal.nD Cert.DoutReferenceIdeal.τ).loc Cert.DoutReferenceIdeal.main_arg0)
          ∧ r.2.mem ((c.tc : Thread Cert.DoutReferenceIdeal.nD Cert.DoutReferenceIdeal.τ).loc Cert.DoutReferenceIdeal.main_arg1) = m' ((c.tc : Thread Cert.DoutReferenceIdeal.nD Cert.DoutReferenceIdeal.τ).loc Cert.DoutReferenceIdeal.main_arg1)
          ∧ r.2.mem ((c.tc : Thread Cert.DoutReferenceIdeal.nD Cert.DoutReferenceIdeal.τ).loc Cert.DoutReferenceIdeal.main_arg2) = m' ((c.tc : Thread Cert.DoutReferenceIdeal.nD Cert.DoutReferenceIdeal.τ).loc Cert.DoutReferenceIdeal.main_arg2))

def preserves_Dwo_DwoIdeal : Prop :=
  True

def algebraic_DwoIdeal_DwoReferenceIdeal [hDwoIdeal : Cert.DwoIdeal.Facts] [hDwoReferenceIdeal : Cert.DwoReferenceIdeal.Facts] : Prop :=
  ∀ (m : (ℓ : Loc Cert.DwoIdeal.nD Cert.DwoIdeal.τ Cert.DwoIdeal.sig) → Buf (Elt Ideal) ℓ) (g : Dev Cert.DwoIdeal.nD → PrngReg)
    (m' : (ℓ : Loc Cert.DwoReferenceIdeal.nD Cert.DwoReferenceIdeal.τ Cert.DwoReferenceIdeal.sig) → Buf (Elt Ideal) ℓ) (g' : Dev Cert.DwoReferenceIdeal.nD → PrngReg), Pre_DwoIdeal m →
    (∀ c : Dev Cert.DwoIdeal.nD,
      m' ((c.tc : Thread Cert.DwoReferenceIdeal.nD Cert.DwoReferenceIdeal.τ).loc Cert.DwoReferenceIdeal.main_arg0) = m ((c.tc : Thread Cert.DwoIdeal.nD Cert.DwoIdeal.τ).loc Cert.DwoIdeal.main_arg0)
      ∧ m' ((c.tc : Thread Cert.DwoReferenceIdeal.nD Cert.DwoReferenceIdeal.τ).loc Cert.DwoReferenceIdeal.main_arg1) = m ((c.tc : Thread Cert.DwoIdeal.nD Cert.DwoIdeal.τ).loc Cert.DwoIdeal.main_arg1)
      ∧ m' ((c.tc : Thread Cert.DwoReferenceIdeal.nD Cert.DwoReferenceIdeal.τ).loc Cert.DwoReferenceIdeal.main_arg2) = m ((c.tc : Thread Cert.DwoIdeal.nD Cert.DwoIdeal.τ).loc Cert.DwoIdeal.main_arg2)) →
    ∃ (v0 : (c : Dev Cert.DwoIdeal.nD) → Buf (Elt Ideal) ((c.tc : Thread Cert.DwoIdeal.nD Cert.DwoIdeal.τ).loc Cert.DwoIdeal.main_v0)),
      θ_run (Cert.DwoIdeal.defs (F := Ideal)) (onTc (τ := Cert.DwoIdeal.τ) (Cert.DwoIdeal.main (F := Ideal))) ⟨m, fun _ => 0, g⟩ (fun r => ∀ c : Dev Cert.DwoIdeal.nD,
          r.2.mem ((c.tc : Thread Cert.DwoIdeal.nD Cert.DwoIdeal.τ).loc Cert.DwoIdeal.main_v0) = v0 c
          ∧ r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
          ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1)
          ∧ r.2.mem ((c.tc : Thread Cert.DwoIdeal.nD Cert.DwoIdeal.τ).loc Cert.DwoIdeal.main_arg2) = m ((c.tc : Thread Cert.DwoIdeal.nD Cert.DwoIdeal.τ).loc Cert.DwoIdeal.main_arg2))
      ∧ θ_run (Cert.DwoReferenceIdeal.defs (F := Ideal)) (onTc (τ := Cert.DwoReferenceIdeal.τ) (Cert.DwoReferenceIdeal.main (F := Ideal))) ⟨m', fun _ => 0, g'⟩ (fun r => ∀ c : Dev Cert.DwoReferenceIdeal.nD,
          r.2.mem ((c.tc : Thread Cert.DwoReferenceIdeal.nD Cert.DwoReferenceIdeal.τ).loc Cert.DwoReferenceIdeal.main_v6) = v0 c
          ∧ r.2.mem ((c.tc : Thread Cert.DwoReferenceIdeal.nD Cert.DwoReferenceIdeal.τ).loc Cert.DwoReferenceIdeal.main_arg0) = m' ((c.tc : Thread Cert.DwoReferenceIdeal.nD Cert.DwoReferenceIdeal.τ).loc Cert.DwoReferenceIdeal.main_arg0)
          ∧ r.2.mem ((c.tc : Thread Cert.DwoReferenceIdeal.nD Cert.DwoReferenceIdeal.τ).loc Cert.DwoReferenceIdeal.main_arg1) = m' ((c.tc : Thread Cert.DwoReferenceIdeal.nD Cert.DwoReferenceIdeal.τ).loc Cert.DwoReferenceIdeal.main_arg1)
          ∧ r.2.mem ((c.tc : Thread Cert.DwoReferenceIdeal.nD Cert.DwoReferenceIdeal.τ).loc Cert.DwoReferenceIdeal.main_arg2) = m' ((c.tc : Thread Cert.DwoReferenceIdeal.nD Cert.DwoReferenceIdeal.τ).loc Cert.DwoReferenceIdeal.main_arg2))

def preserves_Dwi_DwiIdeal : Prop :=
  True

def algebraic_DwiIdeal_DwiReferenceIdeal [hDwiIdeal : Cert.DwiIdeal.Facts] [hDwiReferenceIdeal : Cert.DwiReferenceIdeal.Facts] : Prop :=
  ∀ (m : (ℓ : Loc Cert.DwiIdeal.nD Cert.DwiIdeal.τ Cert.DwiIdeal.sig) → Buf (Elt Ideal) ℓ) (g : Dev Cert.DwiIdeal.nD → PrngReg)
    (m' : (ℓ : Loc Cert.DwiReferenceIdeal.nD Cert.DwiReferenceIdeal.τ Cert.DwiReferenceIdeal.sig) → Buf (Elt Ideal) ℓ) (g' : Dev Cert.DwiReferenceIdeal.nD → PrngReg), Pre_DwiIdeal m →
    (∀ c : Dev Cert.DwiIdeal.nD,
      m' ((c.tc : Thread Cert.DwiReferenceIdeal.nD Cert.DwiReferenceIdeal.τ).loc Cert.DwiReferenceIdeal.main_arg0) = m ((c.tc : Thread Cert.DwiIdeal.nD Cert.DwiIdeal.τ).loc Cert.DwiIdeal.main_arg0)
      ∧ m' ((c.tc : Thread Cert.DwiReferenceIdeal.nD Cert.DwiReferenceIdeal.τ).loc Cert.DwiReferenceIdeal.main_arg1) = m ((c.tc : Thread Cert.DwiIdeal.nD Cert.DwiIdeal.τ).loc Cert.DwiIdeal.main_arg1)
      ∧ m' ((c.tc : Thread Cert.DwiReferenceIdeal.nD Cert.DwiReferenceIdeal.τ).loc Cert.DwiReferenceIdeal.main_arg2) = m ((c.tc : Thread Cert.DwiIdeal.nD Cert.DwiIdeal.τ).loc Cert.DwiIdeal.main_arg2)
      ∧ m' ((c.tc : Thread Cert.DwiReferenceIdeal.nD Cert.DwiReferenceIdeal.τ).loc Cert.DwiReferenceIdeal.main_arg3) = m ((c.tc : Thread Cert.DwiIdeal.nD Cert.DwiIdeal.τ).loc Cert.DwiIdeal.main_arg3)) →
    ∃ (v0 : (c : Dev Cert.DwiIdeal.nD) → Buf (Elt Ideal) ((c.tc : Thread Cert.DwiIdeal.nD Cert.DwiIdeal.τ).loc Cert.DwiIdeal.main_v14)),
      θ_run (Cert.DwiIdeal.defs (F := Ideal)) (onTc (τ := Cert.DwiIdeal.τ) (Cert.DwiIdeal.main (F := Ideal))) ⟨m, fun _ => 0, g⟩ (fun r => ∀ c : Dev Cert.DwiIdeal.nD,
          r.2.mem ((c.tc : Thread Cert.DwiIdeal.nD Cert.DwiIdeal.τ).loc Cert.DwiIdeal.main_v14) = v0 c
          ∧ r.2.mem ((c.tc : Thread Cert.DwiIdeal.nD Cert.DwiIdeal.τ).loc Cert.DwiIdeal.main_arg0) = m ((c.tc : Thread Cert.DwiIdeal.nD Cert.DwiIdeal.τ).loc Cert.DwiIdeal.main_arg0)
          ∧ r.2.mem ((c.tc : Thread Cert.DwiIdeal.nD Cert.DwiIdeal.τ).loc Cert.DwiIdeal.main_arg1) = m ((c.tc : Thread Cert.DwiIdeal.nD Cert.DwiIdeal.τ).loc Cert.DwiIdeal.main_arg1)
          ∧ r.2.mem ((c.tc : Thread Cert.DwiIdeal.nD Cert.DwiIdeal.τ).loc Cert.DwiIdeal.main_arg2) = m ((c.tc : Thread Cert.DwiIdeal.nD Cert.DwiIdeal.τ).loc Cert.DwiIdeal.main_arg2)
          ∧ r.2.mem ((c.tc : Thread Cert.DwiIdeal.nD Cert.DwiIdeal.τ).loc Cert.DwiIdeal.main_arg3) = m ((c.tc : Thread Cert.DwiIdeal.nD Cert.DwiIdeal.τ).loc Cert.DwiIdeal.main_arg3))
      ∧ θ_run (Cert.DwiReferenceIdeal.defs (F := Ideal)) (onTc (τ := Cert.DwiReferenceIdeal.τ) (Cert.DwiReferenceIdeal.main (F := Ideal))) ⟨m', fun _ => 0, g'⟩ (fun r => ∀ c : Dev Cert.DwiReferenceIdeal.nD,
          r.2.mem ((c.tc : Thread Cert.DwiReferenceIdeal.nD Cert.DwiReferenceIdeal.τ).loc Cert.DwiReferenceIdeal.main_v17) = v0 c
          ∧ r.2.mem ((c.tc : Thread Cert.DwiReferenceIdeal.nD Cert.DwiReferenceIdeal.τ).loc Cert.DwiReferenceIdeal.main_arg0) = m' ((c.tc : Thread Cert.DwiReferenceIdeal.nD Cert.DwiReferenceIdeal.τ).loc Cert.DwiReferenceIdeal.main_arg0)
          ∧ r.2.mem ((c.tc : Thread Cert.DwiReferenceIdeal.nD Cert.DwiReferenceIdeal.τ).loc Cert.DwiReferenceIdeal.main_arg1) = m' ((c.tc : Thread Cert.DwiReferenceIdeal.nD Cert.DwiReferenceIdeal.τ).loc Cert.DwiReferenceIdeal.main_arg1)
          ∧ r.2.mem ((c.tc : Thread Cert.DwiReferenceIdeal.nD Cert.DwiReferenceIdeal.τ).loc Cert.DwiReferenceIdeal.main_arg2) = m' ((c.tc : Thread Cert.DwiReferenceIdeal.nD Cert.DwiReferenceIdeal.τ).loc Cert.DwiReferenceIdeal.main_arg2)
          ∧ r.2.mem ((c.tc : Thread Cert.DwiReferenceIdeal.nD Cert.DwiReferenceIdeal.τ).loc Cert.DwiReferenceIdeal.main_arg3) = m' ((c.tc : Thread Cert.DwiReferenceIdeal.nD Cert.DwiReferenceIdeal.τ).loc Cert.DwiReferenceIdeal.main_arg3))

def preserves_Dnorm1_Dnorm1Ideal : Prop :=
  True

def algebraic_Dnorm1Ideal_Dnorm1ReferenceIdeal [hDnorm1Ideal : Cert.Dnorm1Ideal.Facts] [hDnorm1ReferenceIdeal : Cert.Dnorm1ReferenceIdeal.Facts] : Prop :=
  ∀ (m : (ℓ : Loc Cert.Dnorm1Ideal.nD Cert.Dnorm1Ideal.τ Cert.Dnorm1Ideal.sig) → Buf (Elt Ideal) ℓ) (g : Dev Cert.Dnorm1Ideal.nD → PrngReg)
    (m' : (ℓ : Loc Cert.Dnorm1ReferenceIdeal.nD Cert.Dnorm1ReferenceIdeal.τ Cert.Dnorm1ReferenceIdeal.sig) → Buf (Elt Ideal) ℓ) (g' : Dev Cert.Dnorm1ReferenceIdeal.nD → PrngReg), Pre_Dnorm1Ideal m →
    (∀ c : Dev Cert.Dnorm1Ideal.nD,
      m' ((c.tc : Thread Cert.Dnorm1ReferenceIdeal.nD Cert.Dnorm1ReferenceIdeal.τ).loc Cert.Dnorm1ReferenceIdeal.main_arg0) = m ((c.tc : Thread Cert.Dnorm1Ideal.nD Cert.Dnorm1Ideal.τ).loc Cert.Dnorm1Ideal.main_arg0)
      ∧ m' ((c.tc : Thread Cert.Dnorm1ReferenceIdeal.nD Cert.Dnorm1ReferenceIdeal.τ).loc Cert.Dnorm1ReferenceIdeal.main_arg1) = m ((c.tc : Thread Cert.Dnorm1Ideal.nD Cert.Dnorm1Ideal.τ).loc Cert.Dnorm1Ideal.main_arg1)
      ∧ m' ((c.tc : Thread Cert.Dnorm1ReferenceIdeal.nD Cert.Dnorm1ReferenceIdeal.τ).loc Cert.Dnorm1ReferenceIdeal.main_arg2) = m ((c.tc : Thread Cert.Dnorm1Ideal.nD Cert.Dnorm1Ideal.τ).loc Cert.Dnorm1Ideal.main_arg2)
      ∧ m' ((c.tc : Thread Cert.Dnorm1ReferenceIdeal.nD Cert.Dnorm1ReferenceIdeal.τ).loc Cert.Dnorm1ReferenceIdeal.main_arg3) = m ((c.tc : Thread Cert.Dnorm1Ideal.nD Cert.Dnorm1Ideal.τ).loc Cert.Dnorm1Ideal.main_arg3)
      ∧ m' ((c.tc : Thread Cert.Dnorm1ReferenceIdeal.nD Cert.Dnorm1ReferenceIdeal.τ).loc Cert.Dnorm1ReferenceIdeal.main_arg4) = m ((c.tc : Thread Cert.Dnorm1Ideal.nD Cert.Dnorm1Ideal.τ).loc Cert.Dnorm1Ideal.main_arg4)) →
    ∃ (v0 : (c : Dev Cert.Dnorm1Ideal.nD) → Buf (Elt Ideal) ((c.tc : Thread Cert.Dnorm1Ideal.nD Cert.Dnorm1Ideal.τ).loc Cert.Dnorm1Ideal.main_v2_0)) (v1 : (c : Dev Cert.Dnorm1Ideal.nD) → Buf (Elt Ideal) ((c.tc : Thread Cert.Dnorm1Ideal.nD Cert.Dnorm1Ideal.τ).loc Cert.Dnorm1Ideal.main_v2_1)),
      θ_run (Cert.Dnorm1Ideal.defs (F := Ideal)) (onTc (τ := Cert.Dnorm1Ideal.τ) (Cert.Dnorm1Ideal.main (F := Ideal))) ⟨m, fun _ => 0, g⟩ (fun r => ∀ c : Dev Cert.Dnorm1Ideal.nD,
          r.2.mem ((c.tc : Thread Cert.Dnorm1Ideal.nD Cert.Dnorm1Ideal.τ).loc Cert.Dnorm1Ideal.main_v2_0) = v0 c
          ∧ r.2.mem ((c.tc : Thread Cert.Dnorm1Ideal.nD Cert.Dnorm1Ideal.τ).loc Cert.Dnorm1Ideal.main_v2_1) = v1 c
          ∧ r.2.mem ((c.tc : Thread Cert.Dnorm1Ideal.nD Cert.Dnorm1Ideal.τ).loc Cert.Dnorm1Ideal.main_arg0) = m ((c.tc : Thread Cert.Dnorm1Ideal.nD Cert.Dnorm1Ideal.τ).loc Cert.Dnorm1Ideal.main_arg0)
          ∧ r.2.mem ((c.tc : Thread Cert.Dnorm1Ideal.nD Cert.Dnorm1Ideal.τ).loc Cert.Dnorm1Ideal.main_arg1) = m ((c.tc : Thread Cert.Dnorm1Ideal.nD Cert.Dnorm1Ideal.τ).loc Cert.Dnorm1Ideal.main_arg1)
          ∧ r.2.mem ((c.tc : Thread Cert.Dnorm1Ideal.nD Cert.Dnorm1Ideal.τ).loc Cert.Dnorm1Ideal.main_arg2) = m ((c.tc : Thread Cert.Dnorm1Ideal.nD Cert.Dnorm1Ideal.τ).loc Cert.Dnorm1Ideal.main_arg2)
          ∧ r.2.mem ((c.tc : Thread Cert.Dnorm1Ideal.nD Cert.Dnorm1Ideal.τ).loc Cert.Dnorm1Ideal.main_arg3) = m ((c.tc : Thread Cert.Dnorm1Ideal.nD Cert.Dnorm1Ideal.τ).loc Cert.Dnorm1Ideal.main_arg3)
          ∧ r.2.mem ((c.tc : Thread Cert.Dnorm1Ideal.nD Cert.Dnorm1Ideal.τ).loc Cert.Dnorm1Ideal.main_arg4) = m ((c.tc : Thread Cert.Dnorm1Ideal.nD Cert.Dnorm1Ideal.τ).loc Cert.Dnorm1Ideal.main_arg4))
      ∧ θ_run (Cert.Dnorm1ReferenceIdeal.defs (F := Ideal)) (onTc (τ := Cert.Dnorm1ReferenceIdeal.τ) (Cert.Dnorm1ReferenceIdeal.main (F := Ideal))) ⟨m', fun _ => 0, g'⟩ (fun r => ∀ c : Dev Cert.Dnorm1ReferenceIdeal.nD,
          r.2.mem ((c.tc : Thread Cert.Dnorm1ReferenceIdeal.nD Cert.Dnorm1ReferenceIdeal.τ).loc Cert.Dnorm1ReferenceIdeal.main_v39) = v0 c
          ∧ r.2.mem ((c.tc : Thread Cert.Dnorm1ReferenceIdeal.nD Cert.Dnorm1ReferenceIdeal.τ).loc Cert.Dnorm1ReferenceIdeal.main_v40) = v1 c
          ∧ r.2.mem ((c.tc : Thread Cert.Dnorm1ReferenceIdeal.nD Cert.Dnorm1ReferenceIdeal.τ).loc Cert.Dnorm1ReferenceIdeal.main_arg0) = m' ((c.tc : Thread Cert.Dnorm1ReferenceIdeal.nD Cert.Dnorm1ReferenceIdeal.τ).loc Cert.Dnorm1ReferenceIdeal.main_arg0)
          ∧ r.2.mem ((c.tc : Thread Cert.Dnorm1ReferenceIdeal.nD Cert.Dnorm1ReferenceIdeal.τ).loc Cert.Dnorm1ReferenceIdeal.main_arg1) = m' ((c.tc : Thread Cert.Dnorm1ReferenceIdeal.nD Cert.Dnorm1ReferenceIdeal.τ).loc Cert.Dnorm1ReferenceIdeal.main_arg1)
          ∧ r.2.mem ((c.tc : Thread Cert.Dnorm1ReferenceIdeal.nD Cert.Dnorm1ReferenceIdeal.τ).loc Cert.Dnorm1ReferenceIdeal.main_arg2) = m' ((c.tc : Thread Cert.Dnorm1ReferenceIdeal.nD Cert.Dnorm1ReferenceIdeal.τ).loc Cert.Dnorm1ReferenceIdeal.main_arg2)
          ∧ r.2.mem ((c.tc : Thread Cert.Dnorm1ReferenceIdeal.nD Cert.Dnorm1ReferenceIdeal.τ).loc Cert.Dnorm1ReferenceIdeal.main_arg3) = m' ((c.tc : Thread Cert.Dnorm1ReferenceIdeal.nD Cert.Dnorm1ReferenceIdeal.τ).loc Cert.Dnorm1ReferenceIdeal.main_arg3)
          ∧ r.2.mem ((c.tc : Thread Cert.Dnorm1ReferenceIdeal.nD Cert.Dnorm1ReferenceIdeal.τ).loc Cert.Dnorm1ReferenceIdeal.main_arg4) = m' ((c.tc : Thread Cert.Dnorm1ReferenceIdeal.nD Cert.Dnorm1ReferenceIdeal.τ).loc Cert.Dnorm1ReferenceIdeal.main_arg4))

def preserves_Ff2_Ff2Ideal : Prop :=
  True

def algebraic_Ff2Ideal_Ff2ReferenceIdeal [hFf2Ideal : Cert.Ff2Ideal.Facts] [hFf2ReferenceIdeal : Cert.Ff2ReferenceIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2ReferenceIdeal.nD Cert.Ff2ReferenceIdeal.τ Cert.Ff2ReferenceIdeal.sig) → Buf (Elt Ideal) ℓ) (g' : Dev Cert.Ff2ReferenceIdeal.nD → PrngReg), Pre_Ff2Ideal m →
    (∀ c : Dev Cert.Ff2Ideal.nD,
      m' ((c.tc : Thread Cert.Ff2ReferenceIdeal.nD Cert.Ff2ReferenceIdeal.τ).loc Cert.Ff2ReferenceIdeal.main_arg0) = m ((c.tc : Thread Cert.Ff2Ideal.nD Cert.Ff2Ideal.τ).loc Cert.Ff2Ideal.main_arg0)
      ∧ m' ((c.tc : Thread Cert.Ff2ReferenceIdeal.nD Cert.Ff2ReferenceIdeal.τ).loc Cert.Ff2ReferenceIdeal.main_arg1) = m ((c.tc : Thread Cert.Ff2Ideal.nD Cert.Ff2Ideal.τ).loc Cert.Ff2Ideal.main_arg1)
      ∧ m' ((c.tc : Thread Cert.Ff2ReferenceIdeal.nD Cert.Ff2ReferenceIdeal.τ).loc Cert.Ff2ReferenceIdeal.main_arg2) = m ((c.tc : Thread Cert.Ff2Ideal.nD Cert.Ff2Ideal.τ).loc Cert.Ff2Ideal.main_arg2)) →
    ∃ (v0 : (c : Dev Cert.Ff2Ideal.nD) → Buf (Elt Ideal) ((c.tc : Thread Cert.Ff2Ideal.nD Cert.Ff2Ideal.τ).loc Cert.Ff2Ideal.main_v1)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v1) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ θ_run (Cert.Ff2ReferenceIdeal.defs (F := Ideal)) (onTc (τ := Cert.Ff2ReferenceIdeal.τ) (Cert.Ff2ReferenceIdeal.main (F := Ideal))) ⟨m', fun _ => 0, g'⟩ (fun r => ∀ c : Dev Cert.Ff2ReferenceIdeal.nD,
          r.2.mem ((c.tc : Thread Cert.Ff2ReferenceIdeal.nD Cert.Ff2ReferenceIdeal.τ).loc Cert.Ff2ReferenceIdeal.main_v4) = v0 c
          ∧ r.2.mem ((c.tc : Thread Cert.Ff2ReferenceIdeal.nD Cert.Ff2ReferenceIdeal.τ).loc Cert.Ff2ReferenceIdeal.main_arg0) = m' ((c.tc : Thread Cert.Ff2ReferenceIdeal.nD Cert.Ff2ReferenceIdeal.τ).loc Cert.Ff2ReferenceIdeal.main_arg0)
          ∧ r.2.mem ((c.tc : Thread Cert.Ff2ReferenceIdeal.nD Cert.Ff2ReferenceIdeal.τ).loc Cert.Ff2ReferenceIdeal.main_arg1) = m' ((c.tc : Thread Cert.Ff2ReferenceIdeal.nD Cert.Ff2ReferenceIdeal.τ).loc Cert.Ff2ReferenceIdeal.main_arg1)
          ∧ r.2.mem ((c.tc : Thread Cert.Ff2ReferenceIdeal.nD Cert.Ff2ReferenceIdeal.τ).loc Cert.Ff2ReferenceIdeal.main_arg2) = m' ((c.tc : Thread Cert.Ff2ReferenceIdeal.nD Cert.Ff2ReferenceIdeal.τ).loc Cert.Ff2ReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v19_0)) (v1 : (c : Dev Cert.PleIdeal.nD) → Buf (Elt Ideal) ((c.tc : Thread Cert.PleIdeal.nD Cert.PleIdeal.τ).loc Cert.PleIdeal.main_v19_1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v19_0) = v0 c
          ∧ r.2.mem ((c.tc : Thread Cert.PleIdeal.nD Cert.PleIdeal.τ).loc Cert.PleIdeal.main_v19_1) = v1 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v22) = v0 c
          ∧ r.2.mem ((c.tc : Thread Cert.PleReferenceIdeal.nD Cert.PleReferenceIdeal.τ).loc Cert.PleReferenceIdeal.main_v23) = v1 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4))

def preserves_Sgu_SguIdeal : Prop :=
  True

def algebraic_SguIdeal_SguReferenceIdeal_pre_finite16 [hSguIdeal : Cert.SguIdeal.Facts] [hSguReferenceIdeal : Cert.SguReferenceIdeal.Facts] [hPre_finite16 : Cert.Pre_finite16.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguIdeal_finite16 m →
    (∀ c : Dev Cert.SguIdeal.nD,
      m' ((c.tc : Thread Cert.SguReferenceIdeal.nD Cert.SguReferenceIdeal.τ).loc Cert.SguReferenceIdeal.main_arg0) = m ((c.tc : Thread Cert.SguIdeal.nD Cert.SguIdeal.τ).loc Cert.SguIdeal.main_arg0)
      ∧ m' ((c.tc : Thread Cert.SguReferenceIdeal.nD Cert.SguReferenceIdeal.τ).loc Cert.SguReferenceIdeal.main_arg1) = m ((c.tc : Thread Cert.SguIdeal.nD Cert.SguIdeal.τ).loc Cert.SguIdeal.main_arg1)
      ∧ m' ((c.tc : Thread Cert.SguReferenceIdeal.nD Cert.SguReferenceIdeal.τ).loc Cert.SguReferenceIdeal.main_arg2) = m ((c.tc : Thread Cert.SguIdeal.nD Cert.SguIdeal.τ).loc Cert.SguIdeal.main_arg2)
      ∧ m' ((c.tc : Thread Cert.SguReferenceIdeal.nD Cert.SguReferenceIdeal.τ).loc Cert.SguReferenceIdeal.main_arg3) = m ((c.tc : Thread Cert.SguIdeal.nD Cert.SguIdeal.τ).loc Cert.SguIdeal.main_arg3)
      ∧ m' ((c.tc : Thread Cert.SguReferenceIdeal.nD Cert.SguReferenceIdeal.τ).loc Cert.SguReferenceIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v4_2)) (v1 : (c : Dev Cert.SguIdeal.nD) → Buf (Elt Ideal) ((c.tc : Thread Cert.SguIdeal.nD Cert.SguIdeal.τ).loc Cert.SguIdeal.main_v4_3)) (v2 : (c : Dev Cert.SguIdeal.nD) → Buf (Elt Ideal) ((c.tc : Thread Cert.SguIdeal.nD Cert.SguIdeal.τ).loc Cert.SguIdeal.main_v4_4)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v4_2) = v0 c
          ∧ r.2.mem ((c.tc : Thread Cert.SguIdeal.nD Cert.SguIdeal.τ).loc Cert.SguIdeal.main_v4_3) = v1 c
          ∧ r.2.mem ((c.tc : Thread Cert.SguIdeal.nD Cert.SguIdeal.τ).loc Cert.SguIdeal.main_v4_4) = v2 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v63) = v0 c
          ∧ r.2.mem ((c.tc : Thread Cert.SguReferenceIdeal.nD Cert.SguReferenceIdeal.τ).loc Cert.SguReferenceIdeal.main_v71) = v1 c
          ∧ r.2.mem ((c.tc : Thread Cert.SguReferenceIdeal.nD Cert.SguReferenceIdeal.τ).loc Cert.SguReferenceIdeal.main_v72) = v2 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3)
          ∧ r.2.mem ((c.tc : Thread Cert.SguReferenceIdeal.nD Cert.SguReferenceIdeal.τ).loc Cert.SguReferenceIdeal.main_arg4) = m' ((c.tc : Thread Cert.SguReferenceIdeal.nD Cert.SguReferenceIdeal.τ).loc Cert.SguReferenceIdeal.main_arg4))

def preserves_NormIn_NormInIdeal : Prop :=
  True

def algebraic_NormInIdeal_NormInReferenceIdeal [hNormInIdeal : Cert.NormInIdeal.Facts] [hNormInReferenceIdeal : Cert.NormInReferenceIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInReferenceIdeal.nD Cert.NormInReferenceIdeal.τ Cert.NormInReferenceIdeal.sig) → Buf (Elt Ideal) ℓ) (g' : Dev Cert.NormInReferenceIdeal.nD → PrngReg), Pre_NormInIdeal m →
    (∀ c : Dev Cert.NormInIdeal.nD,
      m' ((c.tc : Thread Cert.NormInReferenceIdeal.nD Cert.NormInReferenceIdeal.τ).loc Cert.NormInReferenceIdeal.main_arg0) = m ((c.tc : Thread Cert.NormInIdeal.nD Cert.NormInIdeal.τ).loc Cert.NormInIdeal.main_arg0)
      ∧ m' ((c.tc : Thread Cert.NormInReferenceIdeal.nD Cert.NormInReferenceIdeal.τ).loc Cert.NormInReferenceIdeal.main_arg1) = m ((c.tc : Thread Cert.NormInIdeal.nD Cert.NormInIdeal.τ).loc Cert.NormInIdeal.main_arg1)
      ∧ m' ((c.tc : Thread Cert.NormInReferenceIdeal.nD Cert.NormInReferenceIdeal.τ).loc Cert.NormInReferenceIdeal.main_arg2) = m ((c.tc : Thread Cert.NormInIdeal.nD Cert.NormInIdeal.τ).loc Cert.NormInIdeal.main_arg2)) →
    ∃ (v0 : (c : Dev Cert.NormInIdeal.nD) → Buf (Elt Ideal) ((c.tc : Thread Cert.NormInIdeal.nD Cert.NormInIdeal.τ).loc Cert.NormInIdeal.main_v2_0)) (v1 : (c : Dev Cert.NormInIdeal.nD) → Buf (Elt Ideal) ((c.tc : Thread Cert.NormInIdeal.nD Cert.NormInIdeal.τ).loc Cert.NormInIdeal.main_v2_1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v2_0) = v0 c
          ∧ r.2.mem ((c.tc : Thread Cert.NormInIdeal.nD Cert.NormInIdeal.τ).loc Cert.NormInIdeal.main_v2_1) = v1 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2))
      ∧ θ_run (Cert.NormInReferenceIdeal.defs (F := Ideal)) (onTc (τ := Cert.NormInReferenceIdeal.τ) (Cert.NormInReferenceIdeal.main (F := Ideal))) ⟨m', fun _ => 0, g'⟩ (fun r => ∀ c : Dev Cert.NormInReferenceIdeal.nD,
          r.2.mem ((c.tc : Thread Cert.NormInReferenceIdeal.nD Cert.NormInReferenceIdeal.τ).loc Cert.NormInReferenceIdeal.main_v13) = v0 c
          ∧ r.2.mem ((c.tc : Thread Cert.NormInReferenceIdeal.nD Cert.NormInReferenceIdeal.τ).loc Cert.NormInReferenceIdeal.main_v15) = v1 c
          ∧ r.2.mem ((c.tc : Thread Cert.NormInReferenceIdeal.nD Cert.NormInReferenceIdeal.τ).loc Cert.NormInReferenceIdeal.main_arg0) = m' ((c.tc : Thread Cert.NormInReferenceIdeal.nD Cert.NormInReferenceIdeal.τ).loc Cert.NormInReferenceIdeal.main_arg0)
          ∧ r.2.mem ((c.tc : Thread Cert.NormInReferenceIdeal.nD Cert.NormInReferenceIdeal.τ).loc Cert.NormInReferenceIdeal.main_arg1) = m' ((c.tc : Thread Cert.NormInReferenceIdeal.nD Cert.NormInReferenceIdeal.τ).loc Cert.NormInReferenceIdeal.main_arg1)
          ∧ r.2.mem ((c.tc : Thread Cert.NormInReferenceIdeal.nD Cert.NormInReferenceIdeal.τ).loc Cert.NormInReferenceIdeal.main_arg2) = m' ((c.tc : Thread Cert.NormInReferenceIdeal.nD Cert.NormInReferenceIdeal.τ).loc Cert.NormInReferenceIdeal.main_arg2))

def preserves_NormFf_NormFfIdeal : Prop :=
  True

def algebraic_NormFfIdeal_NormFfReferenceIdeal [hNormFfIdeal : Cert.NormFfIdeal.Facts] [hNormFfReferenceIdeal : Cert.NormFfReferenceIdeal.Facts] : Prop :=
  ∀ (m : (ℓ : Loc Cert.NormFfIdeal.nD Cert.NormFfIdeal.τ Cert.NormFfIdeal.sig) → Buf (Elt Ideal) ℓ) (g : Dev Cert.NormFfIdeal.nD → PrngReg)
    (m' : (ℓ : Loc Cert.NormFfReferenceIdeal.nD Cert.NormFfReferenceIdeal.τ Cert.NormFfReferenceIdeal.sig) → Buf (Elt Ideal) ℓ) (g' : Dev Cert.NormFfReferenceIdeal.nD → PrngReg), Pre_NormFfIdeal m →
    (∀ c : Dev Cert.NormFfIdeal.nD,
      m' ((c.tc : Thread Cert.NormFfReferenceIdeal.nD Cert.NormFfReferenceIdeal.τ).loc Cert.NormFfReferenceIdeal.main_arg0) = m ((c.tc : Thread Cert.NormFfIdeal.nD Cert.NormFfIdeal.τ).loc Cert.NormFfIdeal.main_arg0)
      ∧ m' ((c.tc : Thread Cert.NormFfReferenceIdeal.nD Cert.NormFfReferenceIdeal.τ).loc Cert.NormFfReferenceIdeal.main_arg1) = m ((c.tc : Thread Cert.NormFfIdeal.nD Cert.NormFfIdeal.τ).loc Cert.NormFfIdeal.main_arg1)
      ∧ m' ((c.tc : Thread Cert.NormFfReferenceIdeal.nD Cert.NormFfReferenceIdeal.τ).loc Cert.NormFfReferenceIdeal.main_arg2) = m ((c.tc : Thread Cert.NormFfIdeal.nD Cert.NormFfIdeal.τ).loc Cert.NormFfIdeal.main_arg2)) →
    ∃ (v0 : (c : Dev Cert.NormFfIdeal.nD) → Buf (Elt Ideal) ((c.tc : Thread Cert.NormFfIdeal.nD Cert.NormFfIdeal.τ).loc Cert.NormFfIdeal.main_v4_0)) (v1 : (c : Dev Cert.NormFfIdeal.nD) → Buf (Elt Ideal) ((c.tc : Thread Cert.NormFfIdeal.nD Cert.NormFfIdeal.τ).loc Cert.NormFfIdeal.main_v4_1)),
      θ_run (Cert.NormFfIdeal.defs (F := Ideal)) (onTc (τ := Cert.NormFfIdeal.τ) (Cert.NormFfIdeal.main (F := Ideal))) ⟨m, fun _ => 0, g⟩ (fun r => ∀ c : Dev Cert.NormFfIdeal.nD,
          r.2.mem ((c.tc : Thread Cert.NormFfIdeal.nD Cert.NormFfIdeal.τ).loc Cert.NormFfIdeal.main_v4_0) = v0 c
          ∧ r.2.mem ((c.tc : Thread Cert.NormFfIdeal.nD Cert.NormFfIdeal.τ).loc Cert.NormFfIdeal.main_v4_1) = v1 c
          ∧ r.2.mem ((c.tc : Thread Cert.NormFfIdeal.nD Cert.NormFfIdeal.τ).loc Cert.NormFfIdeal.main_arg0) = m ((c.tc : Thread Cert.NormFfIdeal.nD Cert.NormFfIdeal.τ).loc Cert.NormFfIdeal.main_arg0)
          ∧ r.2.mem ((c.tc : Thread Cert.NormFfIdeal.nD Cert.NormFfIdeal.τ).loc Cert.NormFfIdeal.main_arg1) = m ((c.tc : Thread Cert.NormFfIdeal.nD Cert.NormFfIdeal.τ).loc Cert.NormFfIdeal.main_arg1)
          ∧ r.2.mem ((c.tc : Thread Cert.NormFfIdeal.nD Cert.NormFfIdeal.τ).loc Cert.NormFfIdeal.main_arg2) = m ((c.tc : Thread Cert.NormFfIdeal.nD Cert.NormFfIdeal.τ).loc Cert.NormFfIdeal.main_arg2))
      ∧ θ_run (Cert.NormFfReferenceIdeal.defs (F := Ideal)) (onTc (τ := Cert.NormFfReferenceIdeal.τ) (Cert.NormFfReferenceIdeal.main (F := Ideal))) ⟨m', fun _ => 0, g'⟩ (fun r => ∀ c : Dev Cert.NormFfReferenceIdeal.nD,
          r.2.mem ((c.tc : Thread Cert.NormFfReferenceIdeal.nD Cert.NormFfReferenceIdeal.τ).loc Cert.NormFfReferenceIdeal.main_v13) = v0 c
          ∧ r.2.mem ((c.tc : Thread Cert.NormFfReferenceIdeal.nD Cert.NormFfReferenceIdeal.τ).loc Cert.NormFfReferenceIdeal.main_v15) = v1 c
          ∧ r.2.mem ((c.tc : Thread Cert.NormFfReferenceIdeal.nD Cert.NormFfReferenceIdeal.τ).loc Cert.NormFfReferenceIdeal.main_arg0) = m' ((c.tc : Thread Cert.NormFfReferenceIdeal.nD Cert.NormFfReferenceIdeal.τ).loc Cert.NormFfReferenceIdeal.main_arg0)
          ∧ r.2.mem ((c.tc : Thread Cert.NormFfReferenceIdeal.nD Cert.NormFfReferenceIdeal.τ).loc Cert.NormFfReferenceIdeal.main_arg1) = m' ((c.tc : Thread Cert.NormFfReferenceIdeal.nD Cert.NormFfReferenceIdeal.τ).loc Cert.NormFfReferenceIdeal.main_arg1)
          ∧ r.2.mem ((c.tc : Thread Cert.NormFfReferenceIdeal.nD Cert.NormFfReferenceIdeal.τ).loc Cert.NormFfReferenceIdeal.main_arg2) = m' ((c.tc : Thread Cert.NormFfReferenceIdeal.nD Cert.NormFfReferenceIdeal.τ).loc Cert.NormFfReferenceIdeal.main_arg2))

def preserves_NormGate_NormGateIdeal : Prop :=
  True

def algebraic_NormGateIdeal_NormGateReferenceIdeal [hNormGateIdeal : Cert.NormGateIdeal.Facts] [hNormGateReferenceIdeal : Cert.NormGateReferenceIdeal.Facts] : Prop :=
  ∀ (m : (ℓ : Loc Cert.NormGateIdeal.nD Cert.NormGateIdeal.τ Cert.NormGateIdeal.sig) → Buf (Elt Ideal) ℓ) (g : Dev Cert.NormGateIdeal.nD → PrngReg)
    (m' : (ℓ : Loc Cert.NormGateReferenceIdeal.nD Cert.NormGateReferenceIdeal.τ Cert.NormGateReferenceIdeal.sig) → Buf (Elt Ideal) ℓ) (g' : Dev Cert.NormGateReferenceIdeal.nD → PrngReg), Pre_NormGateIdeal m →
    (∀ c : Dev Cert.NormGateIdeal.nD,
      m' ((c.tc : Thread Cert.NormGateReferenceIdeal.nD Cert.NormGateReferenceIdeal.τ).loc Cert.NormGateReferenceIdeal.main_arg0) = m ((c.tc : Thread Cert.NormGateIdeal.nD Cert.NormGateIdeal.τ).loc Cert.NormGateIdeal.main_arg0)
      ∧ m' ((c.tc : Thread Cert.NormGateReferenceIdeal.nD Cert.NormGateReferenceIdeal.τ).loc Cert.NormGateReferenceIdeal.main_arg1) = m ((c.tc : Thread Cert.NormGateIdeal.nD Cert.NormGateIdeal.τ).loc Cert.NormGateIdeal.main_arg1)
      ∧ m' ((c.tc : Thread Cert.NormGateReferenceIdeal.nD Cert.NormGateReferenceIdeal.τ).loc Cert.NormGateReferenceIdeal.main_arg2) = m ((c.tc : Thread Cert.NormGateIdeal.nD Cert.NormGateIdeal.τ).loc Cert.NormGateIdeal.main_arg2)) →
    ∃ (v0 : (c : Dev Cert.NormGateIdeal.nD) → Buf (Elt Ideal) ((c.tc : Thread Cert.NormGateIdeal.nD Cert.NormGateIdeal.τ).loc Cert.NormGateIdeal.main_v2_0)) (v1 : (c : Dev Cert.NormGateIdeal.nD) → Buf (Elt Ideal) ((c.tc : Thread Cert.NormGateIdeal.nD Cert.NormGateIdeal.τ).loc Cert.NormGateIdeal.main_v2_1)),
      θ_run (Cert.NormGateIdeal.defs (F := Ideal)) (onTc (τ := Cert.NormGateIdeal.τ) (Cert.NormGateIdeal.main (F := Ideal))) ⟨m, fun _ => 0, g⟩ (fun r => ∀ c : Dev Cert.NormGateIdeal.nD,
          r.2.mem ((c.tc : Thread Cert.NormGateIdeal.nD Cert.NormGateIdeal.τ).loc Cert.NormGateIdeal.main_v2_0) = v0 c
          ∧ r.2.mem ((c.tc : Thread Cert.NormGateIdeal.nD Cert.NormGateIdeal.τ).loc Cert.NormGateIdeal.main_v2_1) = v1 c
          ∧ r.2.mem ((c.tc : Thread Cert.NormGateIdeal.nD Cert.NormGateIdeal.τ).loc Cert.NormGateIdeal.main_arg0) = m ((c.tc : Thread Cert.NormGateIdeal.nD Cert.NormGateIdeal.τ).loc Cert.NormGateIdeal.main_arg0)
          ∧ r.2.mem ((c.tc : Thread Cert.NormGateIdeal.nD Cert.NormGateIdeal.τ).loc Cert.NormGateIdeal.main_arg1) = m ((c.tc : Thread Cert.NormGateIdeal.nD Cert.NormGateIdeal.τ).loc Cert.NormGateIdeal.main_arg1)
          ∧ r.2.mem ((c.tc : Thread Cert.NormGateIdeal.nD Cert.NormGateIdeal.τ).loc Cert.NormGateIdeal.main_arg2) = m ((c.tc : Thread Cert.NormGateIdeal.nD Cert.NormGateIdeal.τ).loc Cert.NormGateIdeal.main_arg2))
      ∧ θ_run (Cert.NormGateReferenceIdeal.defs (F := Ideal)) (onTc (τ := Cert.NormGateReferenceIdeal.τ) (Cert.NormGateReferenceIdeal.main (F := Ideal))) ⟨m', fun _ => 0, g'⟩ (fun r => ∀ c : Dev Cert.NormGateReferenceIdeal.nD,
          r.2.mem ((c.tc : Thread Cert.NormGateReferenceIdeal.nD Cert.NormGateReferenceIdeal.τ).loc Cert.NormGateReferenceIdeal.main_v13) = v0 c
          ∧ r.2.mem ((c.tc : Thread Cert.NormGateReferenceIdeal.nD Cert.NormGateReferenceIdeal.τ).loc Cert.NormGateReferenceIdeal.main_v15) = v1 c
          ∧ r.2.mem ((c.tc : Thread Cert.NormGateReferenceIdeal.nD Cert.NormGateReferenceIdeal.τ).loc Cert.NormGateReferenceIdeal.main_arg0) = m' ((c.tc : Thread Cert.NormGateReferenceIdeal.nD Cert.NormGateReferenceIdeal.τ).loc Cert.NormGateReferenceIdeal.main_arg0)
          ∧ r.2.mem ((c.tc : Thread Cert.NormGateReferenceIdeal.nD Cert.NormGateReferenceIdeal.τ).loc Cert.NormGateReferenceIdeal.main_arg1) = m' ((c.tc : Thread Cert.NormGateReferenceIdeal.nD Cert.NormGateReferenceIdeal.τ).loc Cert.NormGateReferenceIdeal.main_arg1)
          ∧ r.2.mem ((c.tc : Thread Cert.NormGateReferenceIdeal.nD Cert.NormGateReferenceIdeal.τ).loc Cert.NormGateReferenceIdeal.main_arg2) = m' ((c.tc : Thread Cert.NormGateReferenceIdeal.nD Cert.NormGateReferenceIdeal.τ).loc Cert.NormGateReferenceIdeal.main_arg2))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v22) = v0 c
          ∧ r.2.mem ((c.tc : Thread Cert.LossReferenceIdeal.nD Cert.LossReferenceIdeal.τ).loc Cert.LossReferenceIdeal.main_v21) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_AdamNorm_AdamNormIdeal : Prop :=
  True

def algebraic_AdamNormIdeal_AdamNormReferenceIdeal [hAdamNormIdeal : Cert.AdamNormIdeal.Facts] [hAdamNormReferenceIdeal : Cert.AdamNormReferenceIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormReferenceIdeal.nD Cert.AdamNormReferenceIdeal.τ Cert.AdamNormReferenceIdeal.sig) → Buf (Elt Ideal) ℓ) (g' : Dev Cert.AdamNormReferenceIdeal.nD → PrngReg), Pre_AdamNormIdeal m →
    (∀ c : Dev Cert.AdamNormIdeal.nD,
      m' ((c.tc : Thread Cert.AdamNormReferenceIdeal.nD Cert.AdamNormReferenceIdeal.τ).loc Cert.AdamNormReferenceIdeal.main_arg0) = m ((c.tc : Thread Cert.AdamNormIdeal.nD Cert.AdamNormIdeal.τ).loc Cert.AdamNormIdeal.main_arg0)
      ∧ m' ((c.tc : Thread Cert.AdamNormReferenceIdeal.nD Cert.AdamNormReferenceIdeal.τ).loc Cert.AdamNormReferenceIdeal.main_arg1) = m ((c.tc : Thread Cert.AdamNormIdeal.nD Cert.AdamNormIdeal.τ).loc Cert.AdamNormIdeal.main_arg1)
      ∧ m' ((c.tc : Thread Cert.AdamNormReferenceIdeal.nD Cert.AdamNormReferenceIdeal.τ).loc Cert.AdamNormReferenceIdeal.main_arg2) = m ((c.tc : Thread Cert.AdamNormIdeal.nD Cert.AdamNormIdeal.τ).loc Cert.AdamNormIdeal.main_arg2)
      ∧ m' ((c.tc : Thread Cert.AdamNormReferenceIdeal.nD Cert.AdamNormReferenceIdeal.τ).loc Cert.AdamNormReferenceIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormReferenceIdeal.defs (F := Ideal)) (onTc (τ := Cert.AdamNormReferenceIdeal.τ) (Cert.AdamNormReferenceIdeal.main (F := Ideal))) ⟨m', fun _ => 0, g'⟩ (fun r => ∀ c : Dev Cert.AdamNormReferenceIdeal.nD,
          r.2.mem ((c.tc : Thread Cert.AdamNormReferenceIdeal.nD Cert.AdamNormReferenceIdeal.τ).loc Cert.AdamNormReferenceIdeal.main_v23) = v0 c
          ∧ r.2.mem ((c.tc : Thread Cert.AdamNormReferenceIdeal.nD Cert.AdamNormReferenceIdeal.τ).loc Cert.AdamNormReferenceIdeal.main_v4) = v1 c
          ∧ r.2.mem ((c.tc : Thread Cert.AdamNormReferenceIdeal.nD Cert.AdamNormReferenceIdeal.τ).loc Cert.AdamNormReferenceIdeal.main_v10) = v2 c
          ∧ r.2.mem ((c.tc : Thread Cert.AdamNormReferenceIdeal.nD Cert.AdamNormReferenceIdeal.τ).loc Cert.AdamNormReferenceIdeal.main_arg0) = m' ((c.tc : Thread Cert.AdamNormReferenceIdeal.nD Cert.AdamNormReferenceIdeal.τ).loc Cert.AdamNormReferenceIdeal.main_arg0)
          ∧ r.2.mem ((c.tc : Thread Cert.AdamNormReferenceIdeal.nD Cert.AdamNormReferenceIdeal.τ).loc Cert.AdamNormReferenceIdeal.main_arg1) = m' ((c.tc : Thread Cert.AdamNormReferenceIdeal.nD Cert.AdamNormReferenceIdeal.τ).loc Cert.AdamNormReferenceIdeal.main_arg1)
          ∧ r.2.mem ((c.tc : Thread Cert.AdamNormReferenceIdeal.nD Cert.AdamNormReferenceIdeal.τ).loc Cert.AdamNormReferenceIdeal.main_arg2) = m' ((c.tc : Thread Cert.AdamNormReferenceIdeal.nD Cert.AdamNormReferenceIdeal.τ).loc Cert.AdamNormReferenceIdeal.main_arg2)
          ∧ r.2.mem ((c.tc : Thread Cert.AdamNormReferenceIdeal.nD Cert.AdamNormReferenceIdeal.τ).loc Cert.AdamNormReferenceIdeal.main_arg3) = m' ((c.tc : Thread Cert.AdamNormReferenceIdeal.nD Cert.AdamNormReferenceIdeal.τ).loc Cert.AdamNormReferenceIdeal.main_arg3))

def preserves_AdamHead_AdamHeadIdeal : Prop :=
  True

def algebraic_AdamHeadIdeal_AdamHeadReferenceIdeal [hAdamHeadIdeal : Cert.AdamHeadIdeal.Facts] [hAdamHeadReferenceIdeal : Cert.AdamHeadReferenceIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.AdamHeadReferenceIdeal.nD Cert.AdamHeadReferenceIdeal.τ Cert.AdamHeadReferenceIdeal.sig) → Buf (Elt Ideal) ℓ) (g' : Dev Cert.AdamHeadReferenceIdeal.nD → PrngReg), Pre_AdamHeadIdeal m →
    (∀ c : Dev Cert.AdamHeadIdeal.nD,
      m' ((c.tc : Thread Cert.AdamHeadReferenceIdeal.nD Cert.AdamHeadReferenceIdeal.τ).loc Cert.AdamHeadReferenceIdeal.main_arg0) = m ((c.tc : Thread Cert.AdamHeadIdeal.nD Cert.AdamHeadIdeal.τ).loc Cert.AdamHeadIdeal.main_arg0)
      ∧ m' ((c.tc : Thread Cert.AdamHeadReferenceIdeal.nD Cert.AdamHeadReferenceIdeal.τ).loc Cert.AdamHeadReferenceIdeal.main_arg1) = m ((c.tc : Thread Cert.AdamHeadIdeal.nD Cert.AdamHeadIdeal.τ).loc Cert.AdamHeadIdeal.main_arg1)
      ∧ m' ((c.tc : Thread Cert.AdamHeadReferenceIdeal.nD Cert.AdamHeadReferenceIdeal.τ).loc Cert.AdamHeadReferenceIdeal.main_arg2) = m ((c.tc : Thread Cert.AdamHeadIdeal.nD Cert.AdamHeadIdeal.τ).loc Cert.AdamHeadIdeal.main_arg2)
      ∧ m' ((c.tc : Thread Cert.AdamHeadReferenceIdeal.nD Cert.AdamHeadReferenceIdeal.τ).loc Cert.AdamHeadReferenceIdeal.main_arg3) = m ((c.tc : Thread Cert.AdamHeadIdeal.nD Cert.AdamHeadIdeal.τ).loc Cert.AdamHeadIdeal.main_arg3)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ θ_run (Cert.AdamHeadReferenceIdeal.defs (F := Ideal)) (onTc (τ := Cert.AdamHeadReferenceIdeal.τ) (Cert.AdamHeadReferenceIdeal.main (F := Ideal))) ⟨m', fun _ => 0, g'⟩ (fun r => ∀ c : Dev Cert.AdamHeadReferenceIdeal.nD,
          r.2.mem ((c.tc : Thread Cert.AdamHeadReferenceIdeal.nD Cert.AdamHeadReferenceIdeal.τ).loc Cert.AdamHeadReferenceIdeal.main_v23) = v0 c
          ∧ r.2.mem ((c.tc : Thread Cert.AdamHeadReferenceIdeal.nD Cert.AdamHeadReferenceIdeal.τ).loc Cert.AdamHeadReferenceIdeal.main_v4) = v1 c
          ∧ r.2.mem ((c.tc : Thread Cert.AdamHeadReferenceIdeal.nD Cert.AdamHeadReferenceIdeal.τ).loc Cert.AdamHeadReferenceIdeal.main_v10) = v2 c
          ∧ r.2.mem ((c.tc : Thread Cert.AdamHeadReferenceIdeal.nD Cert.AdamHeadReferenceIdeal.τ).loc Cert.AdamHeadReferenceIdeal.main_arg0) = m' ((c.tc : Thread Cert.AdamHeadReferenceIdeal.nD Cert.AdamHeadReferenceIdeal.τ).loc Cert.AdamHeadReferenceIdeal.main_arg0)
          ∧ r.2.mem ((c.tc : Thread Cert.AdamHeadReferenceIdeal.nD Cert.AdamHeadReferenceIdeal.τ).loc Cert.AdamHeadReferenceIdeal.main_arg1) = m' ((c.tc : Thread Cert.AdamHeadReferenceIdeal.nD Cert.AdamHeadReferenceIdeal.τ).loc Cert.AdamHeadReferenceIdeal.main_arg1)
          ∧ r.2.mem ((c.tc : Thread Cert.AdamHeadReferenceIdeal.nD Cert.AdamHeadReferenceIdeal.τ).loc Cert.AdamHeadReferenceIdeal.main_arg2) = m' ((c.tc : Thread Cert.AdamHeadReferenceIdeal.nD Cert.AdamHeadReferenceIdeal.τ).loc Cert.AdamHeadReferenceIdeal.main_arg2)
          ∧ r.2.mem ((c.tc : Thread Cert.AdamHeadReferenceIdeal.nD Cert.AdamHeadReferenceIdeal.τ).loc Cert.AdamHeadReferenceIdeal.main_arg3) = m' ((c.tc : Thread Cert.AdamHeadReferenceIdeal.nD Cert.AdamHeadReferenceIdeal.τ).loc Cert.AdamHeadReferenceIdeal.main_arg3))

def preserves_AdamSguNorm_AdamSguNormIdeal : Prop :=
  True

def algebraic_AdamSguNormIdeal_AdamSguNormReferenceIdeal [hAdamSguNormIdeal : Cert.AdamSguNormIdeal.Facts] [hAdamSguNormReferenceIdeal : Cert.AdamSguNormReferenceIdeal.Facts] : Prop :=
  ∀ (m : (ℓ : Loc Cert.AdamSguNormIdeal.nD Cert.AdamSguNormIdeal.τ Cert.AdamSguNormIdeal.sig) → Buf (Elt Ideal) ℓ) (g : Dev Cert.AdamSguNormIdeal.nD → PrngReg)
    (m' : (ℓ : Loc Cert.AdamSguNormReferenceIdeal.nD Cert.AdamSguNormReferenceIdeal.τ Cert.AdamSguNormReferenceIdeal.sig) → Buf (Elt Ideal) ℓ) (g' : Dev Cert.AdamSguNormReferenceIdeal.nD → PrngReg), Pre_AdamSguNormIdeal m →
    (∀ c : Dev Cert.AdamSguNormIdeal.nD,
      m' ((c.tc : Thread Cert.AdamSguNormReferenceIdeal.nD Cert.AdamSguNormReferenceIdeal.τ).loc Cert.AdamSguNormReferenceIdeal.main_arg0) = m ((c.tc : Thread Cert.AdamSguNormIdeal.nD Cert.AdamSguNormIdeal.τ).loc Cert.AdamSguNormIdeal.main_arg0)
      ∧ m' ((c.tc : Thread Cert.AdamSguNormReferenceIdeal.nD Cert.AdamSguNormReferenceIdeal.τ).loc Cert.AdamSguNormReferenceIdeal.main_arg1) = m ((c.tc : Thread Cert.AdamSguNormIdeal.nD Cert.AdamSguNormIdeal.τ).loc Cert.AdamSguNormIdeal.main_arg1)
      ∧ m' ((c.tc : Thread Cert.AdamSguNormReferenceIdeal.nD Cert.AdamSguNormReferenceIdeal.τ).loc Cert.AdamSguNormReferenceIdeal.main_arg2) = m ((c.tc : Thread Cert.AdamSguNormIdeal.nD Cert.AdamSguNormIdeal.τ).loc Cert.AdamSguNormIdeal.main_arg2)
      ∧ m' ((c.tc : Thread Cert.AdamSguNormReferenceIdeal.nD Cert.AdamSguNormReferenceIdeal.τ).loc Cert.AdamSguNormReferenceIdeal.main_arg3) = m ((c.tc : Thread Cert.AdamSguNormIdeal.nD Cert.AdamSguNormIdeal.τ).loc Cert.AdamSguNormIdeal.main_arg3)) →
    ∃ (v0 : (c : Dev Cert.AdamSguNormIdeal.nD) → Buf (Elt Ideal) ((c.tc : Thread Cert.AdamSguNormIdeal.nD Cert.AdamSguNormIdeal.τ).loc Cert.AdamSguNormIdeal.main_v0_0)) (v1 : (c : Dev Cert.AdamSguNormIdeal.nD) → Buf (Elt Ideal) ((c.tc : Thread Cert.AdamSguNormIdeal.nD Cert.AdamSguNormIdeal.τ).loc Cert.AdamSguNormIdeal.main_v0_1)) (v2 : (c : Dev Cert.AdamSguNormIdeal.nD) → Buf (Elt Ideal) ((c.tc : Thread Cert.AdamSguNormIdeal.nD Cert.AdamSguNormIdeal.τ).loc Cert.AdamSguNormIdeal.main_v0_2)),
      θ_run (Cert.AdamSguNormIdeal.defs (F := Ideal)) (onTc (τ := Cert.AdamSguNormIdeal.τ) (Cert.AdamSguNormIdeal.main (F := Ideal))) ⟨m, fun _ => 0, g⟩ (fun r => ∀ c : Dev Cert.AdamSguNormIdeal.nD,
          r.2.mem ((c.tc : Thread Cert.AdamSguNormIdeal.nD Cert.AdamSguNormIdeal.τ).loc Cert.AdamSguNormIdeal.main_v0_0) = v0 c
          ∧ r.2.mem ((c.tc : Thread Cert.AdamSguNormIdeal.nD Cert.AdamSguNormIdeal.τ).loc Cert.AdamSguNormIdeal.main_v0_1) = v1 c
          ∧ r.2.mem ((c.tc : Thread Cert.AdamSguNormIdeal.nD Cert.AdamSguNormIdeal.τ).loc Cert.AdamSguNormIdeal.main_v0_2) = v2 c
          ∧ r.2.mem ((c.tc : Thread Cert.AdamSguNormIdeal.nD Cert.AdamSguNormIdeal.τ).loc Cert.AdamSguNormIdeal.main_arg0) = m ((c.tc : Thread Cert.AdamSguNormIdeal.nD Cert.AdamSguNormIdeal.τ).loc Cert.AdamSguNormIdeal.main_arg0)
          ∧ r.2.mem ((c.tc : Thread Cert.AdamSguNormIdeal.nD Cert.AdamSguNormIdeal.τ).loc Cert.AdamSguNormIdeal.main_arg1) = m ((c.tc : Thread Cert.AdamSguNormIdeal.nD Cert.AdamSguNormIdeal.τ).loc Cert.AdamSguNormIdeal.main_arg1)
          ∧ r.2.mem ((c.tc : Thread Cert.AdamSguNormIdeal.nD Cert.AdamSguNormIdeal.τ).loc Cert.AdamSguNormIdeal.main_arg2) = m ((c.tc : Thread Cert.AdamSguNormIdeal.nD Cert.AdamSguNormIdeal.τ).loc Cert.AdamSguNormIdeal.main_arg2)
          ∧ r.2.mem ((c.tc : Thread Cert.AdamSguNormIdeal.nD Cert.AdamSguNormIdeal.τ).loc Cert.AdamSguNormIdeal.main_arg3) = m ((c.tc : Thread Cert.AdamSguNormIdeal.nD Cert.AdamSguNormIdeal.τ).loc Cert.AdamSguNormIdeal.main_arg3))
      ∧ θ_run (Cert.AdamSguNormReferenceIdeal.defs (F := Ideal)) (onTc (τ := Cert.AdamSguNormReferenceIdeal.τ) (Cert.AdamSguNormReferenceIdeal.main (F := Ideal))) ⟨m', fun _ => 0, g'⟩ (fun r => ∀ c : Dev Cert.AdamSguNormReferenceIdeal.nD,
          r.2.mem ((c.tc : Thread Cert.AdamSguNormReferenceIdeal.nD Cert.AdamSguNormReferenceIdeal.τ).loc Cert.AdamSguNormReferenceIdeal.main_v23) = v0 c
          ∧ r.2.mem ((c.tc : Thread Cert.AdamSguNormReferenceIdeal.nD Cert.AdamSguNormReferenceIdeal.τ).loc Cert.AdamSguNormReferenceIdeal.main_v4) = v1 c
          ∧ r.2.mem ((c.tc : Thread Cert.AdamSguNormReferenceIdeal.nD Cert.AdamSguNormReferenceIdeal.τ).loc Cert.AdamSguNormReferenceIdeal.main_v10) = v2 c
          ∧ r.2.mem ((c.tc : Thread Cert.AdamSguNormReferenceIdeal.nD Cert.AdamSguNormReferenceIdeal.τ).loc Cert.AdamSguNormReferenceIdeal.main_arg0) = m' ((c.tc : Thread Cert.AdamSguNormReferenceIdeal.nD Cert.AdamSguNormReferenceIdeal.τ).loc Cert.AdamSguNormReferenceIdeal.main_arg0)
          ∧ r.2.mem ((c.tc : Thread Cert.AdamSguNormReferenceIdeal.nD Cert.AdamSguNormReferenceIdeal.τ).loc Cert.AdamSguNormReferenceIdeal.main_arg1) = m' ((c.tc : Thread Cert.AdamSguNormReferenceIdeal.nD Cert.AdamSguNormReferenceIdeal.τ).loc Cert.AdamSguNormReferenceIdeal.main_arg1)
          ∧ r.2.mem ((c.tc : Thread Cert.AdamSguNormReferenceIdeal.nD Cert.AdamSguNormReferenceIdeal.τ).loc Cert.AdamSguNormReferenceIdeal.main_arg2) = m' ((c.tc : Thread Cert.AdamSguNormReferenceIdeal.nD Cert.AdamSguNormReferenceIdeal.τ).loc Cert.AdamSguNormReferenceIdeal.main_arg2)
          ∧ r.2.mem ((c.tc : Thread Cert.AdamSguNormReferenceIdeal.nD Cert.AdamSguNormReferenceIdeal.τ).loc Cert.AdamSguNormReferenceIdeal.main_arg3) = m' ((c.tc : Thread Cert.AdamSguNormReferenceIdeal.nD Cert.AdamSguNormReferenceIdeal.τ).loc Cert.AdamSguNormReferenceIdeal.main_arg3))

def preserves_AdamConv_AdamConvIdeal : Prop :=
  True

def algebraic_AdamConvIdeal_AdamConvReferenceIdeal [hAdamConvIdeal : Cert.AdamConvIdeal.Facts] [hAdamConvReferenceIdeal : Cert.AdamConvReferenceIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvReferenceIdeal.nD Cert.AdamConvReferenceIdeal.τ Cert.AdamConvReferenceIdeal.sig) → Buf (Elt Ideal) ℓ) (g' : Dev Cert.AdamConvReferenceIdeal.nD → PrngReg), Pre_AdamConvIdeal m →
    (∀ c : Dev Cert.AdamConvIdeal.nD,
      m' ((c.tc : Thread Cert.AdamConvReferenceIdeal.nD Cert.AdamConvReferenceIdeal.τ).loc Cert.AdamConvReferenceIdeal.main_arg0) = m ((c.tc : Thread Cert.AdamConvIdeal.nD Cert.AdamConvIdeal.τ).loc Cert.AdamConvIdeal.main_arg0)
      ∧ m' ((c.tc : Thread Cert.AdamConvReferenceIdeal.nD Cert.AdamConvReferenceIdeal.τ).loc Cert.AdamConvReferenceIdeal.main_arg1) = m ((c.tc : Thread Cert.AdamConvIdeal.nD Cert.AdamConvIdeal.τ).loc Cert.AdamConvIdeal.main_arg1)
      ∧ m' ((c.tc : Thread Cert.AdamConvReferenceIdeal.nD Cert.AdamConvReferenceIdeal.τ).loc Cert.AdamConvReferenceIdeal.main_arg2) = m ((c.tc : Thread Cert.AdamConvIdeal.nD Cert.AdamConvIdeal.τ).loc Cert.AdamConvIdeal.main_arg2)
      ∧ m' ((c.tc : Thread Cert.AdamConvReferenceIdeal.nD Cert.AdamConvReferenceIdeal.τ).loc Cert.AdamConvReferenceIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvReferenceIdeal.defs (F := Ideal)) (onTc (τ := Cert.AdamConvReferenceIdeal.τ) (Cert.AdamConvReferenceIdeal.main (F := Ideal))) ⟨m', fun _ => 0, g'⟩ (fun r => ∀ c : Dev Cert.AdamConvReferenceIdeal.nD,
          r.2.mem ((c.tc : Thread Cert.AdamConvReferenceIdeal.nD Cert.AdamConvReferenceIdeal.τ).loc Cert.AdamConvReferenceIdeal.main_v23) = v0 c
          ∧ r.2.mem ((c.tc : Thread Cert.AdamConvReferenceIdeal.nD Cert.AdamConvReferenceIdeal.τ).loc Cert.AdamConvReferenceIdeal.main_v4) = v1 c
          ∧ r.2.mem ((c.tc : Thread Cert.AdamConvReferenceIdeal.nD Cert.AdamConvReferenceIdeal.τ).loc Cert.AdamConvReferenceIdeal.main_v10) = v2 c
          ∧ r.2.mem ((c.tc : Thread Cert.AdamConvReferenceIdeal.nD Cert.AdamConvReferenceIdeal.τ).loc Cert.AdamConvReferenceIdeal.main_arg0) = m' ((c.tc : Thread Cert.AdamConvReferenceIdeal.nD Cert.AdamConvReferenceIdeal.τ).loc Cert.AdamConvReferenceIdeal.main_arg0)
          ∧ r.2.mem ((c.tc : Thread Cert.AdamConvReferenceIdeal.nD Cert.AdamConvReferenceIdeal.τ).loc Cert.AdamConvReferenceIdeal.main_arg1) = m' ((c.tc : Thread Cert.AdamConvReferenceIdeal.nD Cert.AdamConvReferenceIdeal.τ).loc Cert.AdamConvReferenceIdeal.main_arg1)
          ∧ r.2.mem ((c.tc : Thread Cert.AdamConvReferenceIdeal.nD Cert.AdamConvReferenceIdeal.τ).loc Cert.AdamConvReferenceIdeal.main_arg2) = m' ((c.tc : Thread Cert.AdamConvReferenceIdeal.nD Cert.AdamConvReferenceIdeal.τ).loc Cert.AdamConvReferenceIdeal.main_arg2)
          ∧ r.2.mem ((c.tc : Thread Cert.AdamConvReferenceIdeal.nD Cert.AdamConvReferenceIdeal.τ).loc Cert.AdamConvReferenceIdeal.main_arg3) = m' ((c.tc : Thread Cert.AdamConvReferenceIdeal.nD Cert.AdamConvReferenceIdeal.τ).loc Cert.AdamConvReferenceIdeal.main_arg3))

def preserves_AdamSguW_AdamSguWIdeal : Prop :=
  True

def algebraic_AdamSguWIdeal_AdamSguWReferenceIdeal [hAdamSguWIdeal : Cert.AdamSguWIdeal.Facts] [hAdamSguWReferenceIdeal : Cert.AdamSguWReferenceIdeal.Facts] : Prop :=
  ∀ (m : (ℓ : Loc Cert.AdamSguWIdeal.nD Cert.AdamSguWIdeal.τ Cert.AdamSguWIdeal.sig) → Buf (Elt Ideal) ℓ) (g : Dev Cert.AdamSguWIdeal.nD → PrngReg)
    (m' : (ℓ : Loc Cert.AdamSguWReferenceIdeal.nD Cert.AdamSguWReferenceIdeal.τ Cert.AdamSguWReferenceIdeal.sig) → Buf (Elt Ideal) ℓ) (g' : Dev Cert.AdamSguWReferenceIdeal.nD → PrngReg), Pre_AdamSguWIdeal m →
    (∀ c : Dev Cert.AdamSguWIdeal.nD,
      m' ((c.tc : Thread Cert.AdamSguWReferenceIdeal.nD Cert.AdamSguWReferenceIdeal.τ).loc Cert.AdamSguWReferenceIdeal.main_arg0) = m ((c.tc : Thread Cert.AdamSguWIdeal.nD Cert.AdamSguWIdeal.τ).loc Cert.AdamSguWIdeal.main_arg0)
      ∧ m' ((c.tc : Thread Cert.AdamSguWReferenceIdeal.nD Cert.AdamSguWReferenceIdeal.τ).loc Cert.AdamSguWReferenceIdeal.main_arg1) = m ((c.tc : Thread Cert.AdamSguWIdeal.nD Cert.AdamSguWIdeal.τ).loc Cert.AdamSguWIdeal.main_arg1)
      ∧ m' ((c.tc : Thread Cert.AdamSguWReferenceIdeal.nD Cert.AdamSguWReferenceIdeal.τ).loc Cert.AdamSguWReferenceIdeal.main_arg2) = m ((c.tc : Thread Cert.AdamSguWIdeal.nD Cert.AdamSguWIdeal.τ).loc Cert.AdamSguWIdeal.main_arg2)
      ∧ m' ((c.tc : Thread Cert.AdamSguWReferenceIdeal.nD Cert.AdamSguWReferenceIdeal.τ).loc Cert.AdamSguWReferenceIdeal.main_arg3) = m ((c.tc : Thread Cert.AdamSguWIdeal.nD Cert.AdamSguWIdeal.τ).loc Cert.AdamSguWIdeal.main_arg3)) →
    ∃ (v0 : (c : Dev Cert.AdamSguWIdeal.nD) → Buf (Elt Ideal) ((c.tc : Thread Cert.AdamSguWIdeal.nD Cert.AdamSguWIdeal.τ).loc Cert.AdamSguWIdeal.main_v0_0)) (v1 : (c : Dev Cert.AdamSguWIdeal.nD) → Buf (Elt Ideal) ((c.tc : Thread Cert.AdamSguWIdeal.nD Cert.AdamSguWIdeal.τ).loc Cert.AdamSguWIdeal.main_v0_1)) (v2 : (c : Dev Cert.AdamSguWIdeal.nD) → Buf (Elt Ideal) ((c.tc : Thread Cert.AdamSguWIdeal.nD Cert.AdamSguWIdeal.τ).loc Cert.AdamSguWIdeal.main_v0_2)),
      θ_run (Cert.AdamSguWIdeal.defs (F := Ideal)) (onTc (τ := Cert.AdamSguWIdeal.τ) (Cert.AdamSguWIdeal.main (F := Ideal))) ⟨m, fun _ => 0, g⟩ (fun r => ∀ c : Dev Cert.AdamSguWIdeal.nD,
          r.2.mem ((c.tc : Thread Cert.AdamSguWIdeal.nD Cert.AdamSguWIdeal.τ).loc Cert.AdamSguWIdeal.main_v0_0) = v0 c
          ∧ r.2.mem ((c.tc : Thread Cert.AdamSguWIdeal.nD Cert.AdamSguWIdeal.τ).loc Cert.AdamSguWIdeal.main_v0_1) = v1 c
          ∧ r.2.mem ((c.tc : Thread Cert.AdamSguWIdeal.nD Cert.AdamSguWIdeal.τ).loc Cert.AdamSguWIdeal.main_v0_2) = v2 c
          ∧ r.2.mem ((c.tc : Thread Cert.AdamSguWIdeal.nD Cert.AdamSguWIdeal.τ).loc Cert.AdamSguWIdeal.main_arg0) = m ((c.tc : Thread Cert.AdamSguWIdeal.nD Cert.AdamSguWIdeal.τ).loc Cert.AdamSguWIdeal.main_arg0)
          ∧ r.2.mem ((c.tc : Thread Cert.AdamSguWIdeal.nD Cert.AdamSguWIdeal.τ).loc Cert.AdamSguWIdeal.main_arg1) = m ((c.tc : Thread Cert.AdamSguWIdeal.nD Cert.AdamSguWIdeal.τ).loc Cert.AdamSguWIdeal.main_arg1)
          ∧ r.2.mem ((c.tc : Thread Cert.AdamSguWIdeal.nD Cert.AdamSguWIdeal.τ).loc Cert.AdamSguWIdeal.main_arg2) = m ((c.tc : Thread Cert.AdamSguWIdeal.nD Cert.AdamSguWIdeal.τ).loc Cert.AdamSguWIdeal.main_arg2)
          ∧ r.2.mem ((c.tc : Thread Cert.AdamSguWIdeal.nD Cert.AdamSguWIdeal.τ).loc Cert.AdamSguWIdeal.main_arg3) = m ((c.tc : Thread Cert.AdamSguWIdeal.nD Cert.AdamSguWIdeal.τ).loc Cert.AdamSguWIdeal.main_arg3))
      ∧ θ_run (Cert.AdamSguWReferenceIdeal.defs (F := Ideal)) (onTc (τ := Cert.AdamSguWReferenceIdeal.τ) (Cert.AdamSguWReferenceIdeal.main (F := Ideal))) ⟨m', fun _ => 0, g'⟩ (fun r => ∀ c : Dev Cert.AdamSguWReferenceIdeal.nD,
          r.2.mem ((c.tc : Thread Cert.AdamSguWReferenceIdeal.nD Cert.AdamSguWReferenceIdeal.τ).loc Cert.AdamSguWReferenceIdeal.main_v23) = v0 c
          ∧ r.2.mem ((c.tc : Thread Cert.AdamSguWReferenceIdeal.nD Cert.AdamSguWReferenceIdeal.τ).loc Cert.AdamSguWReferenceIdeal.main_v4) = v1 c
          ∧ r.2.mem ((c.tc : Thread Cert.AdamSguWReferenceIdeal.nD Cert.AdamSguWReferenceIdeal.τ).loc Cert.AdamSguWReferenceIdeal.main_v10) = v2 c
          ∧ r.2.mem ((c.tc : Thread Cert.AdamSguWReferenceIdeal.nD Cert.AdamSguWReferenceIdeal.τ).loc Cert.AdamSguWReferenceIdeal.main_arg0) = m' ((c.tc : Thread Cert.AdamSguWReferenceIdeal.nD Cert.AdamSguWReferenceIdeal.τ).loc Cert.AdamSguWReferenceIdeal.main_arg0)
          ∧ r.2.mem ((c.tc : Thread Cert.AdamSguWReferenceIdeal.nD Cert.AdamSguWReferenceIdeal.τ).loc Cert.AdamSguWReferenceIdeal.main_arg1) = m' ((c.tc : Thread Cert.AdamSguWReferenceIdeal.nD Cert.AdamSguWReferenceIdeal.τ).loc Cert.AdamSguWReferenceIdeal.main_arg1)
          ∧ r.2.mem ((c.tc : Thread Cert.AdamSguWReferenceIdeal.nD Cert.AdamSguWReferenceIdeal.τ).loc Cert.AdamSguWReferenceIdeal.main_arg2) = m' ((c.tc : Thread Cert.AdamSguWReferenceIdeal.nD Cert.AdamSguWReferenceIdeal.τ).loc Cert.AdamSguWReferenceIdeal.main_arg2)
          ∧ r.2.mem ((c.tc : Thread Cert.AdamSguWReferenceIdeal.nD Cert.AdamSguWReferenceIdeal.τ).loc Cert.AdamSguWReferenceIdeal.main_arg3) = m' ((c.tc : Thread Cert.AdamSguWReferenceIdeal.nD Cert.AdamSguWReferenceIdeal.τ).loc Cert.AdamSguWReferenceIdeal.main_arg3))

def preserves_AdamSguB_AdamSguBIdeal : Prop :=
  True

def algebraic_AdamSguBIdeal_AdamSguBReferenceIdeal [hAdamSguBIdeal : Cert.AdamSguBIdeal.Facts] [hAdamSguBReferenceIdeal : Cert.AdamSguBReferenceIdeal.Facts] : Prop :=
  ∀ (m : (ℓ : Loc Cert.AdamSguBIdeal.nD Cert.AdamSguBIdeal.τ Cert.AdamSguBIdeal.sig) → Buf (Elt Ideal) ℓ) (g : Dev Cert.AdamSguBIdeal.nD → PrngReg)
    (m' : (ℓ : Loc Cert.AdamSguBReferenceIdeal.nD Cert.AdamSguBReferenceIdeal.τ Cert.AdamSguBReferenceIdeal.sig) → Buf (Elt Ideal) ℓ) (g' : Dev Cert.AdamSguBReferenceIdeal.nD → PrngReg), Pre_AdamSguBIdeal m →
    (∀ c : Dev Cert.AdamSguBIdeal.nD,
      m' ((c.tc : Thread Cert.AdamSguBReferenceIdeal.nD Cert.AdamSguBReferenceIdeal.τ).loc Cert.AdamSguBReferenceIdeal.main_arg0) = m ((c.tc : Thread Cert.AdamSguBIdeal.nD Cert.AdamSguBIdeal.τ).loc Cert.AdamSguBIdeal.main_arg0)
      ∧ m' ((c.tc : Thread Cert.AdamSguBReferenceIdeal.nD Cert.AdamSguBReferenceIdeal.τ).loc Cert.AdamSguBReferenceIdeal.main_arg1) = m ((c.tc : Thread Cert.AdamSguBIdeal.nD Cert.AdamSguBIdeal.τ).loc Cert.AdamSguBIdeal.main_arg1)
      ∧ m' ((c.tc : Thread Cert.AdamSguBReferenceIdeal.nD Cert.AdamSguBReferenceIdeal.τ).loc Cert.AdamSguBReferenceIdeal.main_arg2) = m ((c.tc : Thread Cert.AdamSguBIdeal.nD Cert.AdamSguBIdeal.τ).loc Cert.AdamSguBIdeal.main_arg2)
      ∧ m' ((c.tc : Thread Cert.AdamSguBReferenceIdeal.nD Cert.AdamSguBReferenceIdeal.τ).loc Cert.AdamSguBReferenceIdeal.main_arg3) = m ((c.tc : Thread Cert.AdamSguBIdeal.nD Cert.AdamSguBIdeal.τ).loc Cert.AdamSguBIdeal.main_arg3)) →
    ∃ (v0 : (c : Dev Cert.AdamSguBIdeal.nD) → Buf (Elt Ideal) ((c.tc : Thread Cert.AdamSguBIdeal.nD Cert.AdamSguBIdeal.τ).loc Cert.AdamSguBIdeal.main_v0_0)) (v1 : (c : Dev Cert.AdamSguBIdeal.nD) → Buf (Elt Ideal) ((c.tc : Thread Cert.AdamSguBIdeal.nD Cert.AdamSguBIdeal.τ).loc Cert.AdamSguBIdeal.main_v0_1)) (v2 : (c : Dev Cert.AdamSguBIdeal.nD) → Buf (Elt Ideal) ((c.tc : Thread Cert.AdamSguBIdeal.nD Cert.AdamSguBIdeal.τ).loc Cert.AdamSguBIdeal.main_v0_2)),
      θ_run (Cert.AdamSguBIdeal.defs (F := Ideal)) (onTc (τ := Cert.AdamSguBIdeal.τ) (Cert.AdamSguBIdeal.main (F := Ideal))) ⟨m, fun _ => 0, g⟩ (fun r => ∀ c : Dev Cert.AdamSguBIdeal.nD,
          r.2.mem ((c.tc : Thread Cert.AdamSguBIdeal.nD Cert.AdamSguBIdeal.τ).loc Cert.AdamSguBIdeal.main_v0_0) = v0 c
          ∧ r.2.mem ((c.tc : Thread Cert.AdamSguBIdeal.nD Cert.AdamSguBIdeal.τ).loc Cert.AdamSguBIdeal.main_v0_1) = v1 c
          ∧ r.2.mem ((c.tc : Thread Cert.AdamSguBIdeal.nD Cert.AdamSguBIdeal.τ).loc Cert.AdamSguBIdeal.main_v0_2) = v2 c
          ∧ r.2.mem ((c.tc : Thread Cert.AdamSguBIdeal.nD Cert.AdamSguBIdeal.τ).loc Cert.AdamSguBIdeal.main_arg0) = m ((c.tc : Thread Cert.AdamSguBIdeal.nD Cert.AdamSguBIdeal.τ).loc Cert.AdamSguBIdeal.main_arg0)
          ∧ r.2.mem ((c.tc : Thread Cert.AdamSguBIdeal.nD Cert.AdamSguBIdeal.τ).loc Cert.AdamSguBIdeal.main_arg1) = m ((c.tc : Thread Cert.AdamSguBIdeal.nD Cert.AdamSguBIdeal.τ).loc Cert.AdamSguBIdeal.main_arg1)
          ∧ r.2.mem ((c.tc : Thread Cert.AdamSguBIdeal.nD Cert.AdamSguBIdeal.τ).loc Cert.AdamSguBIdeal.main_arg2) = m ((c.tc : Thread Cert.AdamSguBIdeal.nD Cert.AdamSguBIdeal.τ).loc Cert.AdamSguBIdeal.main_arg2)
          ∧ r.2.mem ((c.tc : Thread Cert.AdamSguBIdeal.nD Cert.AdamSguBIdeal.τ).loc Cert.AdamSguBIdeal.main_arg3) = m ((c.tc : Thread Cert.AdamSguBIdeal.nD Cert.AdamSguBIdeal.τ).loc Cert.AdamSguBIdeal.main_arg3))
      ∧ θ_run (Cert.AdamSguBReferenceIdeal.defs (F := Ideal)) (onTc (τ := Cert.AdamSguBReferenceIdeal.τ) (Cert.AdamSguBReferenceIdeal.main (F := Ideal))) ⟨m', fun _ => 0, g'⟩ (fun r => ∀ c : Dev Cert.AdamSguBReferenceIdeal.nD,
          r.2.mem ((c.tc : Thread Cert.AdamSguBReferenceIdeal.nD Cert.AdamSguBReferenceIdeal.τ).loc Cert.AdamSguBReferenceIdeal.main_v23) = v0 c
          ∧ r.2.mem ((c.tc : Thread Cert.AdamSguBReferenceIdeal.nD Cert.AdamSguBReferenceIdeal.τ).loc Cert.AdamSguBReferenceIdeal.main_v4) = v1 c
          ∧ r.2.mem ((c.tc : Thread Cert.AdamSguBReferenceIdeal.nD Cert.AdamSguBReferenceIdeal.τ).loc Cert.AdamSguBReferenceIdeal.main_v10) = v2 c
          ∧ r.2.mem ((c.tc : Thread Cert.AdamSguBReferenceIdeal.nD Cert.AdamSguBReferenceIdeal.τ).loc Cert.AdamSguBReferenceIdeal.main_arg0) = m' ((c.tc : Thread Cert.AdamSguBReferenceIdeal.nD Cert.AdamSguBReferenceIdeal.τ).loc Cert.AdamSguBReferenceIdeal.main_arg0)
          ∧ r.2.mem ((c.tc : Thread Cert.AdamSguBReferenceIdeal.nD Cert.AdamSguBReferenceIdeal.τ).loc Cert.AdamSguBReferenceIdeal.main_arg1) = m' ((c.tc : Thread Cert.AdamSguBReferenceIdeal.nD Cert.AdamSguBReferenceIdeal.τ).loc Cert.AdamSguBReferenceIdeal.main_arg1)
          ∧ r.2.mem ((c.tc : Thread Cert.AdamSguBReferenceIdeal.nD Cert.AdamSguBReferenceIdeal.τ).loc Cert.AdamSguBReferenceIdeal.main_arg2) = m' ((c.tc : Thread Cert.AdamSguBReferenceIdeal.nD Cert.AdamSguBReferenceIdeal.τ).loc Cert.AdamSguBReferenceIdeal.main_arg2)
          ∧ r.2.mem ((c.tc : Thread Cert.AdamSguBReferenceIdeal.nD Cert.AdamSguBReferenceIdeal.τ).loc Cert.AdamSguBReferenceIdeal.main_arg3) = m' ((c.tc : Thread Cert.AdamSguBReferenceIdeal.nD Cert.AdamSguBReferenceIdeal.τ).loc Cert.AdamSguBReferenceIdeal.main_arg3))

def preserves_SguFwd_SguFwdIdeal : Prop :=
  True

def algebraic_SguFwdIdeal_SguFwdReferenceIdeal_pre_finite27 [hSguFwdIdeal : Cert.SguFwdIdeal.Facts] [hSguFwdReferenceIdeal : Cert.SguFwdReferenceIdeal.Facts] [hPre_finite27 : Cert.Pre_finite27.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdReferenceIdeal.nD Cert.SguFwdReferenceIdeal.τ Cert.SguFwdReferenceIdeal.sig) → Buf (Elt Ideal) ℓ) (g' : Dev Cert.SguFwdReferenceIdeal.nD → PrngReg), Pre_SguFwdIdeal_finite27 m →
    (∀ c : Dev Cert.SguFwdIdeal.nD,
      m' ((c.tc : Thread Cert.SguFwdReferenceIdeal.nD Cert.SguFwdReferenceIdeal.τ).loc Cert.SguFwdReferenceIdeal.main_arg0) = m ((c.tc : Thread Cert.SguFwdIdeal.nD Cert.SguFwdIdeal.τ).loc Cert.SguFwdIdeal.main_arg0)
      ∧ m' ((c.tc : Thread Cert.SguFwdReferenceIdeal.nD Cert.SguFwdReferenceIdeal.τ).loc Cert.SguFwdReferenceIdeal.main_arg1) = m ((c.tc : Thread Cert.SguFwdIdeal.nD Cert.SguFwdIdeal.τ).loc Cert.SguFwdIdeal.main_arg1)
      ∧ m' ((c.tc : Thread Cert.SguFwdReferenceIdeal.nD Cert.SguFwdReferenceIdeal.τ).loc Cert.SguFwdReferenceIdeal.main_arg2) = m ((c.tc : Thread Cert.SguFwdIdeal.nD Cert.SguFwdIdeal.τ).loc Cert.SguFwdIdeal.main_arg2)
      ∧ m' ((c.tc : Thread Cert.SguFwdReferenceIdeal.nD Cert.SguFwdReferenceIdeal.τ).loc Cert.SguFwdReferenceIdeal.main_arg3) = m ((c.tc : Thread Cert.SguFwdIdeal.nD Cert.SguFwdIdeal.τ).loc Cert.SguFwdIdeal.main_arg3)
      ∧ m' ((c.tc : Thread Cert.SguFwdReferenceIdeal.nD Cert.SguFwdReferenceIdeal.τ).loc Cert.SguFwdReferenceIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v4)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v4) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdReferenceIdeal.defs (F := Ideal)) (onTc (τ := Cert.SguFwdReferenceIdeal.τ) (Cert.SguFwdReferenceIdeal.main (F := Ideal))) ⟨m', fun _ => 0, g'⟩ (fun r => ∀ c : Dev Cert.SguFwdReferenceIdeal.nD,
          r.2.mem ((c.tc : Thread Cert.SguFwdReferenceIdeal.nD Cert.SguFwdReferenceIdeal.τ).loc Cert.SguFwdReferenceIdeal.main_v50) = v0 c
          ∧ r.2.mem ((c.tc : Thread Cert.SguFwdReferenceIdeal.nD Cert.SguFwdReferenceIdeal.τ).loc Cert.SguFwdReferenceIdeal.main_arg0) = m' ((c.tc : Thread Cert.SguFwdReferenceIdeal.nD Cert.SguFwdReferenceIdeal.τ).loc Cert.SguFwdReferenceIdeal.main_arg0)
          ∧ r.2.mem ((c.tc : Thread Cert.SguFwdReferenceIdeal.nD Cert.SguFwdReferenceIdeal.τ).loc Cert.SguFwdReferenceIdeal.main_arg1) = m' ((c.tc : Thread Cert.SguFwdReferenceIdeal.nD Cert.SguFwdReferenceIdeal.τ).loc Cert.SguFwdReferenceIdeal.main_arg1)
          ∧ r.2.mem ((c.tc : Thread Cert.SguFwdReferenceIdeal.nD Cert.SguFwdReferenceIdeal.τ).loc Cert.SguFwdReferenceIdeal.main_arg2) = m' ((c.tc : Thread Cert.SguFwdReferenceIdeal.nD Cert.SguFwdReferenceIdeal.τ).loc Cert.SguFwdReferenceIdeal.main_arg2)
          ∧ r.2.mem ((c.tc : Thread Cert.SguFwdReferenceIdeal.nD Cert.SguFwdReferenceIdeal.τ).loc Cert.SguFwdReferenceIdeal.main_arg3) = m' ((c.tc : Thread Cert.SguFwdReferenceIdeal.nD Cert.SguFwdReferenceIdeal.τ).loc Cert.SguFwdReferenceIdeal.main_arg3)
          ∧ r.2.mem ((c.tc : Thread Cert.SguFwdReferenceIdeal.nD Cert.SguFwdReferenceIdeal.τ).loc Cert.SguFwdReferenceIdeal.main_arg4) = m' ((c.tc : Thread Cert.SguFwdReferenceIdeal.nD Cert.SguFwdReferenceIdeal.τ).loc Cert.SguFwdReferenceIdeal.main_arg4))

def preserves_ConvFwd_ConvFwdIdeal : Prop :=
  True

def algebraic_ConvFwdIdeal_ConvFwdReferenceIdeal [hConvFwdIdeal : Cert.ConvFwdIdeal.Facts] [hConvFwdReferenceIdeal : Cert.ConvFwdReferenceIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdReferenceIdeal.nD Cert.ConvFwdReferenceIdeal.τ Cert.ConvFwdReferenceIdeal.sig) → Buf (Elt Ideal) ℓ) (g' : Dev Cert.ConvFwdReferenceIdeal.nD → PrngReg), Pre_ConvFwdIdeal m →
    (∀ c : Dev Cert.ConvFwdIdeal.nD,
      m' ((c.tc : Thread Cert.ConvFwdReferenceIdeal.nD Cert.ConvFwdReferenceIdeal.τ).loc Cert.ConvFwdReferenceIdeal.main_arg0) = m ((c.tc : Thread Cert.ConvFwdIdeal.nD Cert.ConvFwdIdeal.τ).loc Cert.ConvFwdIdeal.main_arg0)
      ∧ m' ((c.tc : Thread Cert.ConvFwdReferenceIdeal.nD Cert.ConvFwdReferenceIdeal.τ).loc Cert.ConvFwdReferenceIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v1) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdReferenceIdeal.defs (F := Ideal)) (onTc (τ := Cert.ConvFwdReferenceIdeal.τ) (Cert.ConvFwdReferenceIdeal.main (F := Ideal))) ⟨m', fun _ => 0, g'⟩ (fun r => ∀ c : Dev Cert.ConvFwdReferenceIdeal.nD,
          r.2.mem ((c.tc : Thread Cert.ConvFwdReferenceIdeal.nD Cert.ConvFwdReferenceIdeal.τ).loc Cert.ConvFwdReferenceIdeal.main_v30) = v0 c
          ∧ r.2.mem ((c.tc : Thread Cert.ConvFwdReferenceIdeal.nD Cert.ConvFwdReferenceIdeal.τ).loc Cert.ConvFwdReferenceIdeal.main_arg0) = m' ((c.tc : Thread Cert.ConvFwdReferenceIdeal.nD Cert.ConvFwdReferenceIdeal.τ).loc Cert.ConvFwdReferenceIdeal.main_arg0)
          ∧ r.2.mem ((c.tc : Thread Cert.ConvFwdReferenceIdeal.nD Cert.ConvFwdReferenceIdeal.τ).loc Cert.ConvFwdReferenceIdeal.main_arg1) = m' ((c.tc : Thread Cert.ConvFwdReferenceIdeal.nD Cert.ConvFwdReferenceIdeal.τ).loc Cert.ConvFwdReferenceIdeal.main_arg1))

def preserves_AdamBig_AdamBigIdeal : Prop :=
  True

def algebraic_AdamBigIdeal_AdamBigReferenceIdeal [hAdamBigIdeal : Cert.AdamBigIdeal.Facts] [hAdamBigReferenceIdeal : Cert.AdamBigReferenceIdeal.Facts] : Prop :=
  ∀ (m : (ℓ : Loc Cert.AdamBigIdeal.nD Cert.AdamBigIdeal.τ Cert.AdamBigIdeal.sig) → Buf (Elt Ideal) ℓ) (g : Dev Cert.AdamBigIdeal.nD → PrngReg)
    (m' : (ℓ : Loc Cert.AdamBigReferenceIdeal.nD Cert.AdamBigReferenceIdeal.τ Cert.AdamBigReferenceIdeal.sig) → Buf (Elt Ideal) ℓ) (g' : Dev Cert.AdamBigReferenceIdeal.nD → PrngReg), Pre_AdamBigIdeal m →
    (∀ c : Dev Cert.AdamBigIdeal.nD,
      m' ((c.tc : Thread Cert.AdamBigReferenceIdeal.nD Cert.AdamBigReferenceIdeal.τ).loc Cert.AdamBigReferenceIdeal.main_arg0) = m ((c.tc : Thread Cert.AdamBigIdeal.nD Cert.AdamBigIdeal.τ).loc Cert.AdamBigIdeal.main_arg0)
      ∧ m' ((c.tc : Thread Cert.AdamBigReferenceIdeal.nD Cert.AdamBigReferenceIdeal.τ).loc Cert.AdamBigReferenceIdeal.main_arg1) = m ((c.tc : Thread Cert.AdamBigIdeal.nD Cert.AdamBigIdeal.τ).loc Cert.AdamBigIdeal.main_arg1)
      ∧ m' ((c.tc : Thread Cert.AdamBigReferenceIdeal.nD Cert.AdamBigReferenceIdeal.τ).loc Cert.AdamBigReferenceIdeal.main_arg2) = m ((c.tc : Thread Cert.AdamBigIdeal.nD Cert.AdamBigIdeal.τ).loc Cert.AdamBigIdeal.main_arg2)
      ∧ m' ((c.tc : Thread Cert.AdamBigReferenceIdeal.nD Cert.AdamBigReferenceIdeal.τ).loc Cert.AdamBigReferenceIdeal.main_arg3) = m ((c.tc : Thread Cert.AdamBigIdeal.nD Cert.AdamBigIdeal.τ).loc Cert.AdamBigIdeal.main_arg3)
      ∧ m' ((c.tc : Thread Cert.AdamBigReferenceIdeal.nD Cert.AdamBigReferenceIdeal.τ).loc Cert.AdamBigReferenceIdeal.main_arg4) = m ((c.tc : Thread Cert.AdamBigIdeal.nD Cert.AdamBigIdeal.τ).loc Cert.AdamBigIdeal.main_arg4)
      ∧ m' ((c.tc : Thread Cert.AdamBigReferenceIdeal.nD Cert.AdamBigReferenceIdeal.τ).loc Cert.AdamBigReferenceIdeal.main_arg5) = m ((c.tc : Thread Cert.AdamBigIdeal.nD Cert.AdamBigIdeal.τ).loc Cert.AdamBigIdeal.main_arg5)
      ∧ m' ((c.tc : Thread Cert.AdamBigReferenceIdeal.nD Cert.AdamBigReferenceIdeal.τ).loc Cert.AdamBigReferenceIdeal.main_arg6) = m ((c.tc : Thread Cert.AdamBigIdeal.nD Cert.AdamBigIdeal.τ).loc Cert.AdamBigIdeal.main_arg6)
      ∧ m' ((c.tc : Thread Cert.AdamBigReferenceIdeal.nD Cert.AdamBigReferenceIdeal.τ).loc Cert.AdamBigReferenceIdeal.main_arg7) = m ((c.tc : Thread Cert.AdamBigIdeal.nD Cert.AdamBigIdeal.τ).loc Cert.AdamBigIdeal.main_arg7)
      ∧ m' ((c.tc : Thread Cert.AdamBigReferenceIdeal.nD Cert.AdamBigReferenceIdeal.τ).loc Cert.AdamBigReferenceIdeal.main_arg8) = m ((c.tc : Thread Cert.AdamBigIdeal.nD Cert.AdamBigIdeal.τ).loc Cert.AdamBigIdeal.main_arg8)
      ∧ m' ((c.tc : Thread Cert.AdamBigReferenceIdeal.nD Cert.AdamBigReferenceIdeal.τ).loc Cert.AdamBigReferenceIdeal.main_arg9) = m ((c.tc : Thread Cert.AdamBigIdeal.nD Cert.AdamBigIdeal.τ).loc Cert.AdamBigIdeal.main_arg9)
      ∧ m' ((c.tc : Thread Cert.AdamBigReferenceIdeal.nD Cert.AdamBigReferenceIdeal.τ).loc Cert.AdamBigReferenceIdeal.main_arg10) = m ((c.tc : Thread Cert.AdamBigIdeal.nD Cert.AdamBigIdeal.τ).loc Cert.AdamBigIdeal.main_arg10)
      ∧ m' ((c.tc : Thread Cert.AdamBigReferenceIdeal.nD Cert.AdamBigReferenceIdeal.τ).loc Cert.AdamBigReferenceIdeal.main_arg11) = m ((c.tc : Thread Cert.AdamBigIdeal.nD Cert.AdamBigIdeal.τ).loc Cert.AdamBigIdeal.main_arg11)
      ∧ m' ((c.tc : Thread Cert.AdamBigReferenceIdeal.nD Cert.AdamBigReferenceIdeal.τ).loc Cert.AdamBigReferenceIdeal.main_arg12) = m ((c.tc : Thread Cert.AdamBigIdeal.nD Cert.AdamBigIdeal.τ).loc Cert.AdamBigIdeal.main_arg12)
      ∧ m' ((c.tc : Thread Cert.AdamBigReferenceIdeal.nD Cert.AdamBigReferenceIdeal.τ).loc Cert.AdamBigReferenceIdeal.main_arg13) = m ((c.tc : Thread Cert.AdamBigIdeal.nD Cert.AdamBigIdeal.τ).loc Cert.AdamBigIdeal.main_arg13)
      ∧ m' ((c.tc : Thread Cert.AdamBigReferenceIdeal.nD Cert.AdamBigReferenceIdeal.τ).loc Cert.AdamBigReferenceIdeal.main_arg14) = m ((c.tc : Thread Cert.AdamBigIdeal.nD Cert.AdamBigIdeal.τ).loc Cert.AdamBigIdeal.main_arg14)
      ∧ m' ((c.tc : Thread Cert.AdamBigReferenceIdeal.nD Cert.AdamBigReferenceIdeal.τ).loc Cert.AdamBigReferenceIdeal.main_arg15) = m ((c.tc : Thread Cert.AdamBigIdeal.nD Cert.AdamBigIdeal.τ).loc Cert.AdamBigIdeal.main_arg15)
      ∧ m' ((c.tc : Thread Cert.AdamBigReferenceIdeal.nD Cert.AdamBigReferenceIdeal.τ).loc Cert.AdamBigReferenceIdeal.main_arg16) = m ((c.tc : Thread Cert.AdamBigIdeal.nD Cert.AdamBigIdeal.τ).loc Cert.AdamBigIdeal.main_arg16)
      ∧ m' ((c.tc : Thread Cert.AdamBigReferenceIdeal.nD Cert.AdamBigReferenceIdeal.τ).loc Cert.AdamBigReferenceIdeal.main_arg17) = m ((c.tc : Thread Cert.AdamBigIdeal.nD Cert.AdamBigIdeal.τ).loc Cert.AdamBigIdeal.main_arg17)
      ∧ m' ((c.tc : Thread Cert.AdamBigReferenceIdeal.nD Cert.AdamBigReferenceIdeal.τ).loc Cert.AdamBigReferenceIdeal.main_arg18) = m ((c.tc : Thread Cert.AdamBigIdeal.nD Cert.AdamBigIdeal.τ).loc Cert.AdamBigIdeal.main_arg18)
      ∧ m' ((c.tc : Thread Cert.AdamBigReferenceIdeal.nD Cert.AdamBigReferenceIdeal.τ).loc Cert.AdamBigReferenceIdeal.main_arg19) = m ((c.tc : Thread Cert.AdamBigIdeal.nD Cert.AdamBigIdeal.τ).loc Cert.AdamBigIdeal.main_arg19)
      ∧ m' ((c.tc : Thread Cert.AdamBigReferenceIdeal.nD Cert.AdamBigReferenceIdeal.τ).loc Cert.AdamBigReferenceIdeal.main_arg20) = m ((c.tc : Thread Cert.AdamBigIdeal.nD Cert.AdamBigIdeal.τ).loc Cert.AdamBigIdeal.main_arg20)
      ∧ m' ((c.tc : Thread Cert.AdamBigReferenceIdeal.nD Cert.AdamBigReferenceIdeal.τ).loc Cert.AdamBigReferenceIdeal.main_arg21) = m ((c.tc : Thread Cert.AdamBigIdeal.nD Cert.AdamBigIdeal.τ).loc Cert.AdamBigIdeal.main_arg21)
      ∧ m' ((c.tc : Thread Cert.AdamBigReferenceIdeal.nD Cert.AdamBigReferenceIdeal.τ).loc Cert.AdamBigReferenceIdeal.main_arg22) = m ((c.tc : Thread Cert.AdamBigIdeal.nD Cert.AdamBigIdeal.τ).loc Cert.AdamBigIdeal.main_arg22)
      ∧ m' ((c.tc : Thread Cert.AdamBigReferenceIdeal.nD Cert.AdamBigReferenceIdeal.τ).loc Cert.AdamBigReferenceIdeal.main_arg23) = m ((c.tc : Thread Cert.AdamBigIdeal.nD Cert.AdamBigIdeal.τ).loc Cert.AdamBigIdeal.main_arg23)
      ∧ m' ((c.tc : Thread Cert.AdamBigReferenceIdeal.nD Cert.AdamBigReferenceIdeal.τ).loc Cert.AdamBigReferenceIdeal.main_arg24) = m ((c.tc : Thread Cert.AdamBigIdeal.nD Cert.AdamBigIdeal.τ).loc Cert.AdamBigIdeal.main_arg24)
      ∧ m' ((c.tc : Thread Cert.AdamBigReferenceIdeal.nD Cert.AdamBigReferenceIdeal.τ).loc Cert.AdamBigReferenceIdeal.main_arg25) = m ((c.tc : Thread Cert.AdamBigIdeal.nD Cert.AdamBigIdeal.τ).loc Cert.AdamBigIdeal.main_arg25)
      ∧ m' ((c.tc : Thread Cert.AdamBigReferenceIdeal.nD Cert.AdamBigReferenceIdeal.τ).loc Cert.AdamBigReferenceIdeal.main_arg26) = m ((c.tc : Thread Cert.AdamBigIdeal.nD Cert.AdamBigIdeal.τ).loc Cert.AdamBigIdeal.main_arg26)
      ∧ m' ((c.tc : Thread Cert.AdamBigReferenceIdeal.nD Cert.AdamBigReferenceIdeal.τ).loc Cert.AdamBigReferenceIdeal.main_arg27) = m ((c.tc : Thread Cert.AdamBigIdeal.nD Cert.AdamBigIdeal.τ).loc Cert.AdamBigIdeal.main_arg27)
      ∧ m' ((c.tc : Thread Cert.AdamBigReferenceIdeal.nD Cert.AdamBigReferenceIdeal.τ).loc Cert.AdamBigReferenceIdeal.main_arg28) = m ((c.tc : Thread Cert.AdamBigIdeal.nD Cert.AdamBigIdeal.τ).loc Cert.AdamBigIdeal.main_arg28)
      ∧ m' ((c.tc : Thread Cert.AdamBigReferenceIdeal.nD Cert.AdamBigReferenceIdeal.τ).loc Cert.AdamBigReferenceIdeal.main_arg29) = m ((c.tc : Thread Cert.AdamBigIdeal.nD Cert.AdamBigIdeal.τ).loc Cert.AdamBigIdeal.main_arg29)
      ∧ m' ((c.tc : Thread Cert.AdamBigReferenceIdeal.nD Cert.AdamBigReferenceIdeal.τ).loc Cert.AdamBigReferenceIdeal.main_arg30) = m ((c.tc : Thread Cert.AdamBigIdeal.nD Cert.AdamBigIdeal.τ).loc Cert.AdamBigIdeal.main_arg30)
      ∧ m' ((c.tc : Thread Cert.AdamBigReferenceIdeal.nD Cert.AdamBigReferenceIdeal.τ).loc Cert.AdamBigReferenceIdeal.main_arg31) = m ((c.tc : Thread Cert.AdamBigIdeal.nD Cert.AdamBigIdeal.τ).loc Cert.AdamBigIdeal.main_arg31)
      ∧ m' ((c.tc : Thread Cert.AdamBigReferenceIdeal.nD Cert.AdamBigReferenceIdeal.τ).loc Cert.AdamBigReferenceIdeal.main_arg32) = m ((c.tc : Thread Cert.AdamBigIdeal.nD Cert.AdamBigIdeal.τ).loc Cert.AdamBigIdeal.main_arg32)
      ∧ m' ((c.tc : Thread Cert.AdamBigReferenceIdeal.nD Cert.AdamBigReferenceIdeal.τ).loc Cert.AdamBigReferenceIdeal.main_arg33) = m ((c.tc : Thread Cert.AdamBigIdeal.nD Cert.AdamBigIdeal.τ).loc Cert.AdamBigIdeal.main_arg33)
      ∧ m' ((c.tc : Thread Cert.AdamBigReferenceIdeal.nD Cert.AdamBigReferenceIdeal.τ).loc Cert.AdamBigReferenceIdeal.main_arg34) = m ((c.tc : Thread Cert.AdamBigIdeal.nD Cert.AdamBigIdeal.τ).loc Cert.AdamBigIdeal.main_arg34)
      ∧ m' ((c.tc : Thread Cert.AdamBigReferenceIdeal.nD Cert.AdamBigReferenceIdeal.τ).loc Cert.AdamBigReferenceIdeal.main_arg35) = m ((c.tc : Thread Cert.AdamBigIdeal.nD Cert.AdamBigIdeal.τ).loc Cert.AdamBigIdeal.main_arg35)
      ∧ m' ((c.tc : Thread Cert.AdamBigReferenceIdeal.nD Cert.AdamBigReferenceIdeal.τ).loc Cert.AdamBigReferenceIdeal.main_arg36) = m ((c.tc : Thread Cert.AdamBigIdeal.nD Cert.AdamBigIdeal.τ).loc Cert.AdamBigIdeal.main_arg36)
      ∧ m' ((c.tc : Thread Cert.AdamBigReferenceIdeal.nD Cert.AdamBigReferenceIdeal.τ).loc Cert.AdamBigReferenceIdeal.main_arg37) = m ((c.tc : Thread Cert.AdamBigIdeal.nD Cert.AdamBigIdeal.τ).loc Cert.AdamBigIdeal.main_arg37)
      ∧ m' ((c.tc : Thread Cert.AdamBigReferenceIdeal.nD Cert.AdamBigReferenceIdeal.τ).loc Cert.AdamBigReferenceIdeal.main_arg38) = m ((c.tc : Thread Cert.AdamBigIdeal.nD Cert.AdamBigIdeal.τ).loc Cert.AdamBigIdeal.main_arg38)
      ∧ m' ((c.tc : Thread Cert.AdamBigReferenceIdeal.nD Cert.AdamBigReferenceIdeal.τ).loc Cert.AdamBigReferenceIdeal.main_arg39) = m ((c.tc : Thread Cert.AdamBigIdeal.nD Cert.AdamBigIdeal.τ).loc Cert.AdamBigIdeal.main_arg39)
      ∧ m' ((c.tc : Thread Cert.AdamBigReferenceIdeal.nD Cert.AdamBigReferenceIdeal.τ).loc Cert.AdamBigReferenceIdeal.main_arg40) = m ((c.tc : Thread Cert.AdamBigIdeal.nD Cert.AdamBigIdeal.τ).loc Cert.AdamBigIdeal.main_arg40)
      ∧ m' ((c.tc : Thread Cert.AdamBigReferenceIdeal.nD Cert.AdamBigReferenceIdeal.τ).loc Cert.AdamBigReferenceIdeal.main_arg41) = m ((c.tc : Thread Cert.AdamBigIdeal.nD Cert.AdamBigIdeal.τ).loc Cert.AdamBigIdeal.main_arg41)
      ∧ m' ((c.tc : Thread Cert.AdamBigReferenceIdeal.nD Cert.AdamBigReferenceIdeal.τ).loc Cert.AdamBigReferenceIdeal.main_arg42) = m ((c.tc : Thread Cert.AdamBigIdeal.nD Cert.AdamBigIdeal.τ).loc Cert.AdamBigIdeal.main_arg42)
      ∧ m' ((c.tc : Thread Cert.AdamBigReferenceIdeal.nD Cert.AdamBigReferenceIdeal.τ).loc Cert.AdamBigReferenceIdeal.main_arg43) = m ((c.tc : Thread Cert.AdamBigIdeal.nD Cert.AdamBigIdeal.τ).loc Cert.AdamBigIdeal.main_arg43)
      ∧ m' ((c.tc : Thread Cert.AdamBigReferenceIdeal.nD Cert.AdamBigReferenceIdeal.τ).loc Cert.AdamBigReferenceIdeal.main_arg44) = m ((c.tc : Thread Cert.AdamBigIdeal.nD Cert.AdamBigIdeal.τ).loc Cert.AdamBigIdeal.main_arg44)
      ∧ m' ((c.tc : Thread Cert.AdamBigReferenceIdeal.nD Cert.AdamBigReferenceIdeal.τ).loc Cert.AdamBigReferenceIdeal.main_arg45) = m ((c.tc : Thread Cert.AdamBigIdeal.nD Cert.AdamBigIdeal.τ).loc Cert.AdamBigIdeal.main_arg45)
      ∧ m' ((c.tc : Thread Cert.AdamBigReferenceIdeal.nD Cert.AdamBigReferenceIdeal.τ).loc Cert.AdamBigReferenceIdeal.main_arg46) = m ((c.tc : Thread Cert.AdamBigIdeal.nD Cert.AdamBigIdeal.τ).loc Cert.AdamBigIdeal.main_arg46)
      ∧ m' ((c.tc : Thread Cert.AdamBigReferenceIdeal.nD Cert.AdamBigReferenceIdeal.τ).loc Cert.AdamBigReferenceIdeal.main_arg47) = m ((c.tc : Thread Cert.AdamBigIdeal.nD Cert.AdamBigIdeal.τ).loc Cert.AdamBigIdeal.main_arg47)) →
    ∃ (v0 : (c : Dev Cert.AdamBigIdeal.nD) → Buf (Elt Ideal) ((c.tc : Thread Cert.AdamBigIdeal.nD Cert.AdamBigIdeal.τ).loc Cert.AdamBigIdeal.main_v0_0)) (v1 : (c : Dev Cert.AdamBigIdeal.nD) → Buf (Elt Ideal) ((c.tc : Thread Cert.AdamBigIdeal.nD Cert.AdamBigIdeal.τ).loc Cert.AdamBigIdeal.main_v0_1)) (v2 : (c : Dev Cert.AdamBigIdeal.nD) → Buf (Elt Ideal) ((c.tc : Thread Cert.AdamBigIdeal.nD Cert.AdamBigIdeal.τ).loc Cert.AdamBigIdeal.main_v0_2)) (v3 : (c : Dev Cert.AdamBigIdeal.nD) → Buf (Elt Ideal) ((c.tc : Thread Cert.AdamBigIdeal.nD Cert.AdamBigIdeal.τ).loc Cert.AdamBigIdeal.main_v0_3)) (v4 : (c : Dev Cert.AdamBigIdeal.nD) → Buf (Elt Ideal) ((c.tc : Thread Cert.AdamBigIdeal.nD Cert.AdamBigIdeal.τ).loc Cert.AdamBigIdeal.main_v0_4)) (v5 : (c : Dev Cert.AdamBigIdeal.nD) → Buf (Elt Ideal) ((c.tc : Thread Cert.AdamBigIdeal.nD Cert.AdamBigIdeal.τ).loc Cert.AdamBigIdeal.main_v0_5)) (v6 : (c : Dev Cert.AdamBigIdeal.nD) → Buf (Elt Ideal) ((c.tc : Thread Cert.AdamBigIdeal.nD Cert.AdamBigIdeal.τ).loc Cert.AdamBigIdeal.main_v0_6)) (v7 : (c : Dev Cert.AdamBigIdeal.nD) → Buf (Elt Ideal) ((c.tc : Thread Cert.AdamBigIdeal.nD Cert.AdamBigIdeal.τ).loc Cert.AdamBigIdeal.main_v0_7)) (v8 : (c : Dev Cert.AdamBigIdeal.nD) → Buf (Elt Ideal) ((c.tc : Thread Cert.AdamBigIdeal.nD Cert.AdamBigIdeal.τ).loc Cert.AdamBigIdeal.main_v0_8)) (v9 : (c : Dev Cert.AdamBigIdeal.nD) → Buf (Elt Ideal) ((c.tc : Thread Cert.AdamBigIdeal.nD Cert.AdamBigIdeal.τ).loc Cert.AdamBigIdeal.main_v0_9)) (v10 : (c : Dev Cert.AdamBigIdeal.nD) → Buf (Elt Ideal) ((c.tc : Thread Cert.AdamBigIdeal.nD Cert.AdamBigIdeal.τ).loc Cert.AdamBigIdeal.main_v0_10)) (v11 : (c : Dev Cert.AdamBigIdeal.nD) → Buf (Elt Ideal) ((c.tc : Thread Cert.AdamBigIdeal.nD Cert.AdamBigIdeal.τ).loc Cert.AdamBigIdeal.main_v0_11)) (v12 : (c : Dev Cert.AdamBigIdeal.nD) → Buf (Elt Ideal) ((c.tc : Thread Cert.AdamBigIdeal.nD Cert.AdamBigIdeal.τ).loc Cert.AdamBigIdeal.main_v0_12)) (v13 : (c : Dev Cert.AdamBigIdeal.nD) → Buf (Elt Ideal) ((c.tc : Thread Cert.AdamBigIdeal.nD Cert.AdamBigIdeal.τ).loc Cert.AdamBigIdeal.main_v0_13)) (v14 : (c : Dev Cert.AdamBigIdeal.nD) → Buf (Elt Ideal) ((c.tc : Thread Cert.AdamBigIdeal.nD Cert.AdamBigIdeal.τ).loc Cert.AdamBigIdeal.main_v0_14)) (v15 : (c : Dev Cert.AdamBigIdeal.nD) → Buf (Elt Ideal) ((c.tc : Thread Cert.AdamBigIdeal.nD Cert.AdamBigIdeal.τ).loc Cert.AdamBigIdeal.main_v0_15)) (v16 : (c : Dev Cert.AdamBigIdeal.nD) → Buf (Elt Ideal) ((c.tc : Thread Cert.AdamBigIdeal.nD Cert.AdamBigIdeal.τ).loc Cert.AdamBigIdeal.main_v0_16)) (v17 : (c : Dev Cert.AdamBigIdeal.nD) → Buf (Elt Ideal) ((c.tc : Thread Cert.AdamBigIdeal.nD Cert.AdamBigIdeal.τ).loc Cert.AdamBigIdeal.main_v0_17)) (v18 : (c : Dev Cert.AdamBigIdeal.nD) → Buf (Elt Ideal) ((c.tc : Thread Cert.AdamBigIdeal.nD Cert.AdamBigIdeal.τ).loc Cert.AdamBigIdeal.main_v0_18)) (v19 : (c : Dev Cert.AdamBigIdeal.nD) → Buf (Elt Ideal) ((c.tc : Thread Cert.AdamBigIdeal.nD Cert.AdamBigIdeal.τ).loc Cert.AdamBigIdeal.main_v0_19)) (v20 : (c : Dev Cert.AdamBigIdeal.nD) → Buf (Elt Ideal) ((c.tc : Thread Cert.AdamBigIdeal.nD Cert.AdamBigIdeal.τ).loc Cert.AdamBigIdeal.main_v0_20)) (v21 : (c : Dev Cert.AdamBigIdeal.nD) → Buf (Elt Ideal) ((c.tc : Thread Cert.AdamBigIdeal.nD Cert.AdamBigIdeal.τ).loc Cert.AdamBigIdeal.main_v0_21)) (v22 : (c : Dev Cert.AdamBigIdeal.nD) → Buf (Elt Ideal) ((c.tc : Thread Cert.AdamBigIdeal.nD Cert.AdamBigIdeal.τ).loc Cert.AdamBigIdeal.main_v0_22)) (v23 : (c : Dev Cert.AdamBigIdeal.nD) → Buf (Elt Ideal) ((c.tc : Thread Cert.AdamBigIdeal.nD Cert.AdamBigIdeal.τ).loc Cert.AdamBigIdeal.main_v0_23)),
      θ_run (Cert.AdamBigIdeal.defs (F := Ideal)) (onTc (τ := Cert.AdamBigIdeal.τ) (Cert.AdamBigIdeal.main (F := Ideal))) ⟨m, fun _ => 0, g⟩ (fun r => ∀ c : Dev Cert.AdamBigIdeal.nD,
          r.2.mem ((c.tc : Thread Cert.AdamBigIdeal.nD Cert.AdamBigIdeal.τ).loc Cert.AdamBigIdeal.main_v0_0) = v0 c
          ∧ r.2.mem ((c.tc : Thread Cert.AdamBigIdeal.nD Cert.AdamBigIdeal.τ).loc Cert.AdamBigIdeal.main_v0_1) = v1 c
          ∧ r.2.mem ((c.tc : Thread Cert.AdamBigIdeal.nD Cert.AdamBigIdeal.τ).loc Cert.AdamBigIdeal.main_v0_2) = v2 c
          ∧ r.2.mem ((c.tc : Thread Cert.AdamBigIdeal.nD Cert.AdamBigIdeal.τ).loc Cert.AdamBigIdeal.main_v0_3) = v3 c
          ∧ r.2.mem ((c.tc : Thread Cert.AdamBigIdeal.nD Cert.AdamBigIdeal.τ).loc Cert.AdamBigIdeal.main_v0_4) = v4 c
          ∧ r.2.mem ((c.tc : Thread Cert.AdamBigIdeal.nD Cert.AdamBigIdeal.τ).loc Cert.AdamBigIdeal.main_v0_5) = v5 c
          ∧ r.2.mem ((c.tc : Thread Cert.AdamBigIdeal.nD Cert.AdamBigIdeal.τ).loc Cert.AdamBigIdeal.main_v0_6) = v6 c
          ∧ r.2.mem ((c.tc : Thread Cert.AdamBigIdeal.nD Cert.AdamBigIdeal.τ).loc Cert.AdamBigIdeal.main_v0_7) = v7 c
          ∧ r.2.mem ((c.tc : Thread Cert.AdamBigIdeal.nD Cert.AdamBigIdeal.τ).loc Cert.AdamBigIdeal.main_v0_8) = v8 c
          ∧ r.2.mem ((c.tc : Thread Cert.AdamBigIdeal.nD Cert.AdamBigIdeal.τ).loc Cert.AdamBigIdeal.main_v0_9) = v9 c
          ∧ r.2.mem ((c.tc : Thread Cert.AdamBigIdeal.nD Cert.AdamBigIdeal.τ).loc Cert.AdamBigIdeal.main_v0_10) = v10 c
          ∧ r.2.mem ((c.tc : Thread Cert.AdamBigIdeal.nD Cert.AdamBigIdeal.τ).loc Cert.AdamBigIdeal.main_v0_11) = v11 c
          ∧ r.2.mem ((c.tc : Thread Cert.AdamBigIdeal.nD Cert.AdamBigIdeal.τ).loc Cert.AdamBigIdeal.main_v0_12) = v12 c
          ∧ r.2.mem ((c.tc : Thread Cert.AdamBigIdeal.nD Cert.AdamBigIdeal.τ).loc Cert.AdamBigIdeal.main_v0_13) = v13 c
          ∧ r.2.mem ((c.tc : Thread Cert.AdamBigIdeal.nD Cert.AdamBigIdeal.τ).loc Cert.AdamBigIdeal.main_v0_14) = v14 c
          ∧ r.2.mem ((c.tc : Thread Cert.AdamBigIdeal.nD Cert.AdamBigIdeal.τ).loc Cert.AdamBigIdeal.main_v0_15) = v15 c
          ∧ r.2.mem ((c.tc : Thread Cert.AdamBigIdeal.nD Cert.AdamBigIdeal.τ).loc Cert.AdamBigIdeal.main_v0_16) = v16 c
          ∧ r.2.mem ((c.tc : Thread Cert.AdamBigIdeal.nD Cert.AdamBigIdeal.τ).loc Cert.AdamBigIdeal.main_v0_17) = v17 c
          ∧ r.2.mem ((c.tc : Thread Cert.AdamBigIdeal.nD Cert.AdamBigIdeal.τ).loc Cert.AdamBigIdeal.main_v0_18) = v18 c
          ∧ r.2.mem ((c.tc : Thread Cert.AdamBigIdeal.nD Cert.AdamBigIdeal.τ).loc Cert.AdamBigIdeal.main_v0_19) = v19 c
          ∧ r.2.mem ((c.tc : Thread Cert.AdamBigIdeal.nD Cert.AdamBigIdeal.τ).loc Cert.AdamBigIdeal.main_v0_20) = v20 c
          ∧ r.2.mem ((c.tc : Thread Cert.AdamBigIdeal.nD Cert.AdamBigIdeal.τ).loc Cert.AdamBigIdeal.main_v0_21) = v21 c
          ∧ r.2.mem ((c.tc : Thread Cert.AdamBigIdeal.nD Cert.AdamBigIdeal.τ).loc Cert.AdamBigIdeal.main_v0_22) = v22 c
          ∧ r.2.mem ((c.tc : Thread Cert.AdamBigIdeal.nD Cert.AdamBigIdeal.τ).loc Cert.AdamBigIdeal.main_v0_23) = v23 c
          ∧ r.2.mem ((c.tc : Thread Cert.AdamBigIdeal.nD Cert.AdamBigIdeal.τ).loc Cert.AdamBigIdeal.main_arg0) = m ((c.tc : Thread Cert.AdamBigIdeal.nD Cert.AdamBigIdeal.τ).loc Cert.AdamBigIdeal.main_arg0)
          ∧ r.2.mem ((c.tc : Thread Cert.AdamBigIdeal.nD Cert.AdamBigIdeal.τ).loc Cert.AdamBigIdeal.main_arg1) = m ((c.tc : Thread Cert.AdamBigIdeal.nD Cert.AdamBigIdeal.τ).loc Cert.AdamBigIdeal.main_arg1)
          ∧ r.2.mem ((c.tc : Thread Cert.AdamBigIdeal.nD Cert.AdamBigIdeal.τ).loc Cert.AdamBigIdeal.main_arg2) = m ((c.tc : Thread Cert.AdamBigIdeal.nD Cert.AdamBigIdeal.τ).loc Cert.AdamBigIdeal.main_arg2)
          ∧ r.2.mem ((c.tc : Thread Cert.AdamBigIdeal.nD Cert.AdamBigIdeal.τ).loc Cert.AdamBigIdeal.main_arg3) = m ((c.tc : Thread Cert.AdamBigIdeal.nD Cert.AdamBigIdeal.τ).loc Cert.AdamBigIdeal.main_arg3)
          ∧ r.2.mem ((c.tc : Thread Cert.AdamBigIdeal.nD Cert.AdamBigIdeal.τ).loc Cert.AdamBigIdeal.main_arg4) = m ((c.tc : Thread Cert.AdamBigIdeal.nD Cert.AdamBigIdeal.τ).loc Cert.AdamBigIdeal.main_arg4)
          ∧ r.2.mem ((c.tc : Thread Cert.AdamBigIdeal.nD Cert.AdamBigIdeal.τ).loc Cert.AdamBigIdeal.main_arg5) = m ((c.tc : Thread Cert.AdamBigIdeal.nD Cert.AdamBigIdeal.τ).loc Cert.AdamBigIdeal.main_arg5)
          ∧ r.2.mem ((c.tc : Thread Cert.AdamBigIdeal.nD Cert.AdamBigIdeal.τ).loc Cert.AdamBigIdeal.main_arg6) = m ((c.tc : Thread Cert.AdamBigIdeal.nD Cert.AdamBigIdeal.τ).loc Cert.AdamBigIdeal.main_arg6)
          ∧ r.2.mem ((c.tc : Thread Cert.AdamBigIdeal.nD Cert.AdamBigIdeal.τ).loc Cert.AdamBigIdeal.main_arg7) = m ((c.tc : Thread Cert.AdamBigIdeal.nD Cert.AdamBigIdeal.τ).loc Cert.AdamBigIdeal.main_arg7)
          ∧ r.2.mem ((c.tc : Thread Cert.AdamBigIdeal.nD Cert.AdamBigIdeal.τ).loc Cert.AdamBigIdeal.main_arg8) = m ((c.tc : Thread Cert.AdamBigIdeal.nD Cert.AdamBigIdeal.τ).loc Cert.AdamBigIdeal.main_arg8)
          ∧ r.2.mem ((c.tc : Thread Cert.AdamBigIdeal.nD Cert.AdamBigIdeal.τ).loc Cert.AdamBigIdeal.main_arg9) = m ((c.tc : Thread Cert.AdamBigIdeal.nD Cert.AdamBigIdeal.τ).loc Cert.AdamBigIdeal.main_arg9)
          ∧ r.2.mem ((c.tc : Thread Cert.AdamBigIdeal.nD Cert.AdamBigIdeal.τ).loc Cert.AdamBigIdeal.main_arg10) = m ((c.tc : Thread Cert.AdamBigIdeal.nD Cert.AdamBigIdeal.τ).loc Cert.AdamBigIdeal.main_arg10)
          ∧ r.2.mem ((c.tc : Thread Cert.AdamBigIdeal.nD Cert.AdamBigIdeal.τ).loc Cert.AdamBigIdeal.main_arg11) = m ((c.tc : Thread Cert.AdamBigIdeal.nD Cert.AdamBigIdeal.τ).loc Cert.AdamBigIdeal.main_arg11)
          ∧ r.2.mem ((c.tc : Thread Cert.AdamBigIdeal.nD Cert.AdamBigIdeal.τ).loc Cert.AdamBigIdeal.main_arg12) = m ((c.tc : Thread Cert.AdamBigIdeal.nD Cert.AdamBigIdeal.τ).loc Cert.AdamBigIdeal.main_arg12)
          ∧ r.2.mem ((c.tc : Thread Cert.AdamBigIdeal.nD Cert.AdamBigIdeal.τ).loc Cert.AdamBigIdeal.main_arg13) = m ((c.tc : Thread Cert.AdamBigIdeal.nD Cert.AdamBigIdeal.τ).loc Cert.AdamBigIdeal.main_arg13)
          ∧ r.2.mem ((c.tc : Thread Cert.AdamBigIdeal.nD Cert.AdamBigIdeal.τ).loc Cert.AdamBigIdeal.main_arg14) = m ((c.tc : Thread Cert.AdamBigIdeal.nD Cert.AdamBigIdeal.τ).loc Cert.AdamBigIdeal.main_arg14)
          ∧ r.2.mem ((c.tc : Thread Cert.AdamBigIdeal.nD Cert.AdamBigIdeal.τ).loc Cert.AdamBigIdeal.main_arg15) = m ((c.tc : Thread Cert.AdamBigIdeal.nD Cert.AdamBigIdeal.τ).loc Cert.AdamBigIdeal.main_arg15)
          ∧ r.2.mem ((c.tc : Thread Cert.AdamBigIdeal.nD Cert.AdamBigIdeal.τ).loc Cert.AdamBigIdeal.main_arg16) = m ((c.tc : Thread Cert.AdamBigIdeal.nD Cert.AdamBigIdeal.τ).loc Cert.AdamBigIdeal.main_arg16)
          ∧ r.2.mem ((c.tc : Thread Cert.AdamBigIdeal.nD Cert.AdamBigIdeal.τ).loc Cert.AdamBigIdeal.main_arg17) = m ((c.tc : Thread Cert.AdamBigIdeal.nD Cert.AdamBigIdeal.τ).loc Cert.AdamBigIdeal.main_arg17)
          ∧ r.2.mem ((c.tc : Thread Cert.AdamBigIdeal.nD Cert.AdamBigIdeal.τ).loc Cert.AdamBigIdeal.main_arg18) = m ((c.tc : Thread Cert.AdamBigIdeal.nD Cert.AdamBigIdeal.τ).loc Cert.AdamBigIdeal.main_arg18)
          ∧ r.2.mem ((c.tc : Thread Cert.AdamBigIdeal.nD Cert.AdamBigIdeal.τ).loc Cert.AdamBigIdeal.main_arg19) = m ((c.tc : Thread Cert.AdamBigIdeal.nD Cert.AdamBigIdeal.τ).loc Cert.AdamBigIdeal.main_arg19)
          ∧ r.2.mem ((c.tc : Thread Cert.AdamBigIdeal.nD Cert.AdamBigIdeal.τ).loc Cert.AdamBigIdeal.main_arg20) = m ((c.tc : Thread Cert.AdamBigIdeal.nD Cert.AdamBigIdeal.τ).loc Cert.AdamBigIdeal.main_arg20)
          ∧ r.2.mem ((c.tc : Thread Cert.AdamBigIdeal.nD Cert.AdamBigIdeal.τ).loc Cert.AdamBigIdeal.main_arg21) = m ((c.tc : Thread Cert.AdamBigIdeal.nD Cert.AdamBigIdeal.τ).loc Cert.AdamBigIdeal.main_arg21)
          ∧ r.2.mem ((c.tc : Thread Cert.AdamBigIdeal.nD Cert.AdamBigIdeal.τ).loc Cert.AdamBigIdeal.main_arg22) = m ((c.tc : Thread Cert.AdamBigIdeal.nD Cert.AdamBigIdeal.τ).loc Cert.AdamBigIdeal.main_arg22)
          ∧ r.2.mem ((c.tc : Thread Cert.AdamBigIdeal.nD Cert.AdamBigIdeal.τ).loc Cert.AdamBigIdeal.main_arg23) = m ((c.tc : Thread Cert.AdamBigIdeal.nD Cert.AdamBigIdeal.τ).loc Cert.AdamBigIdeal.main_arg23)
          ∧ r.2.mem ((c.tc : Thread Cert.AdamBigIdeal.nD Cert.AdamBigIdeal.τ).loc Cert.AdamBigIdeal.main_arg24) = m ((c.tc : Thread Cert.AdamBigIdeal.nD Cert.AdamBigIdeal.τ).loc Cert.AdamBigIdeal.main_arg24)
          ∧ r.2.mem ((c.tc : Thread Cert.AdamBigIdeal.nD Cert.AdamBigIdeal.τ).loc Cert.AdamBigIdeal.main_arg25) = m ((c.tc : Thread Cert.AdamBigIdeal.nD Cert.AdamBigIdeal.τ).loc Cert.AdamBigIdeal.main_arg25)
          ∧ r.2.mem ((c.tc : Thread Cert.AdamBigIdeal.nD Cert.AdamBigIdeal.τ).loc Cert.AdamBigIdeal.main_arg26) = m ((c.tc : Thread Cert.AdamBigIdeal.nD Cert.AdamBigIdeal.τ).loc Cert.AdamBigIdeal.main_arg26)
          ∧ r.2.mem ((c.tc : Thread Cert.AdamBigIdeal.nD Cert.AdamBigIdeal.τ).loc Cert.AdamBigIdeal.main_arg27) = m ((c.tc : Thread Cert.AdamBigIdeal.nD Cert.AdamBigIdeal.τ).loc Cert.AdamBigIdeal.main_arg27)
          ∧ r.2.mem ((c.tc : Thread Cert.AdamBigIdeal.nD Cert.AdamBigIdeal.τ).loc Cert.AdamBigIdeal.main_arg28) = m ((c.tc : Thread Cert.AdamBigIdeal.nD Cert.AdamBigIdeal.τ).loc Cert.AdamBigIdeal.main_arg28)
          ∧ r.2.mem ((c.tc : Thread Cert.AdamBigIdeal.nD Cert.AdamBigIdeal.τ).loc Cert.AdamBigIdeal.main_arg29) = m ((c.tc : Thread Cert.AdamBigIdeal.nD Cert.AdamBigIdeal.τ).loc Cert.AdamBigIdeal.main_arg29)
          ∧ r.2.mem ((c.tc : Thread Cert.AdamBigIdeal.nD Cert.AdamBigIdeal.τ).loc Cert.AdamBigIdeal.main_arg30) = m ((c.tc : Thread Cert.AdamBigIdeal.nD Cert.AdamBigIdeal.τ).loc Cert.AdamBigIdeal.main_arg30)
          ∧ r.2.mem ((c.tc : Thread Cert.AdamBigIdeal.nD Cert.AdamBigIdeal.τ).loc Cert.AdamBigIdeal.main_arg31) = m ((c.tc : Thread Cert.AdamBigIdeal.nD Cert.AdamBigIdeal.τ).loc Cert.AdamBigIdeal.main_arg31)
          ∧ r.2.mem ((c.tc : Thread Cert.AdamBigIdeal.nD Cert.AdamBigIdeal.τ).loc Cert.AdamBigIdeal.main_arg32) = m ((c.tc : Thread Cert.AdamBigIdeal.nD Cert.AdamBigIdeal.τ).loc Cert.AdamBigIdeal.main_arg32)
          ∧ r.2.mem ((c.tc : Thread Cert.AdamBigIdeal.nD Cert.AdamBigIdeal.τ).loc Cert.AdamBigIdeal.main_arg33) = m ((c.tc : Thread Cert.AdamBigIdeal.nD Cert.AdamBigIdeal.τ).loc Cert.AdamBigIdeal.main_arg33)
          ∧ r.2.mem ((c.tc : Thread Cert.AdamBigIdeal.nD Cert.AdamBigIdeal.τ).loc Cert.AdamBigIdeal.main_arg34) = m ((c.tc : Thread Cert.AdamBigIdeal.nD Cert.AdamBigIdeal.τ).loc Cert.AdamBigIdeal.main_arg34)
          ∧ r.2.mem ((c.tc : Thread Cert.AdamBigIdeal.nD Cert.AdamBigIdeal.τ).loc Cert.AdamBigIdeal.main_arg35) = m ((c.tc : Thread Cert.AdamBigIdeal.nD Cert.AdamBigIdeal.τ).loc Cert.AdamBigIdeal.main_arg35)
          ∧ r.2.mem ((c.tc : Thread Cert.AdamBigIdeal.nD Cert.AdamBigIdeal.τ).loc Cert.AdamBigIdeal.main_arg36) = m ((c.tc : Thread Cert.AdamBigIdeal.nD Cert.AdamBigIdeal.τ).loc Cert.AdamBigIdeal.main_arg36)
          ∧ r.2.mem ((c.tc : Thread Cert.AdamBigIdeal.nD Cert.AdamBigIdeal.τ).loc Cert.AdamBigIdeal.main_arg37) = m ((c.tc : Thread Cert.AdamBigIdeal.nD Cert.AdamBigIdeal.τ).loc Cert.AdamBigIdeal.main_arg37)
          ∧ r.2.mem ((c.tc : Thread Cert.AdamBigIdeal.nD Cert.AdamBigIdeal.τ).loc Cert.AdamBigIdeal.main_arg38) = m ((c.tc : Thread Cert.AdamBigIdeal.nD Cert.AdamBigIdeal.τ).loc Cert.AdamBigIdeal.main_arg38)
          ∧ r.2.mem ((c.tc : Thread Cert.AdamBigIdeal.nD Cert.AdamBigIdeal.τ).loc Cert.AdamBigIdeal.main_arg39) = m ((c.tc : Thread Cert.AdamBigIdeal.nD Cert.AdamBigIdeal.τ).loc Cert.AdamBigIdeal.main_arg39)
          ∧ r.2.mem ((c.tc : Thread Cert.AdamBigIdeal.nD Cert.AdamBigIdeal.τ).loc Cert.AdamBigIdeal.main_arg40) = m ((c.tc : Thread Cert.AdamBigIdeal.nD Cert.AdamBigIdeal.τ).loc Cert.AdamBigIdeal.main_arg40)
          ∧ r.2.mem ((c.tc : Thread Cert.AdamBigIdeal.nD Cert.AdamBigIdeal.τ).loc Cert.AdamBigIdeal.main_arg41) = m ((c.tc : Thread Cert.AdamBigIdeal.nD Cert.AdamBigIdeal.τ).loc Cert.AdamBigIdeal.main_arg41)
          ∧ r.2.mem ((c.tc : Thread Cert.AdamBigIdeal.nD Cert.AdamBigIdeal.τ).loc Cert.AdamBigIdeal.main_arg42) = m ((c.tc : Thread Cert.AdamBigIdeal.nD Cert.AdamBigIdeal.τ).loc Cert.AdamBigIdeal.main_arg42)
          ∧ r.2.mem ((c.tc : Thread Cert.AdamBigIdeal.nD Cert.AdamBigIdeal.τ).loc Cert.AdamBigIdeal.main_arg43) = m ((c.tc : Thread Cert.AdamBigIdeal.nD Cert.AdamBigIdeal.τ).loc Cert.AdamBigIdeal.main_arg43)
          ∧ r.2.mem ((c.tc : Thread Cert.AdamBigIdeal.nD Cert.AdamBigIdeal.τ).loc Cert.AdamBigIdeal.main_arg44) = m ((c.tc : Thread Cert.AdamBigIdeal.nD Cert.AdamBigIdeal.τ).loc Cert.AdamBigIdeal.main_arg44)
          ∧ r.2.mem ((c.tc : Thread Cert.AdamBigIdeal.nD Cert.AdamBigIdeal.τ).loc Cert.AdamBigIdeal.main_arg45) = m ((c.tc : Thread Cert.AdamBigIdeal.nD Cert.AdamBigIdeal.τ).loc Cert.AdamBigIdeal.main_arg45)
          ∧ r.2.mem ((c.tc : Thread Cert.AdamBigIdeal.nD Cert.AdamBigIdeal.τ).loc Cert.AdamBigIdeal.main_arg46) = m ((c.tc : Thread Cert.AdamBigIdeal.nD Cert.AdamBigIdeal.τ).loc Cert.AdamBigIdeal.main_arg46)
          ∧ r.2.mem ((c.tc : Thread Cert.AdamBigIdeal.nD Cert.AdamBigIdeal.τ).loc Cert.AdamBigIdeal.main_arg47) = m ((c.tc : Thread Cert.AdamBigIdeal.nD Cert.AdamBigIdeal.τ).loc Cert.AdamBigIdeal.main_arg47))
      ∧ θ_run (Cert.AdamBigReferenceIdeal.defs (F := Ideal)) (onTc (τ := Cert.AdamBigReferenceIdeal.τ) (Cert.AdamBigReferenceIdeal.main (F := Ideal))) ⟨m', fun _ => 0, g'⟩ (fun r => ∀ c : Dev Cert.AdamBigReferenceIdeal.nD,
          r.2.mem ((c.tc : Thread Cert.AdamBigReferenceIdeal.nD Cert.AdamBigReferenceIdeal.τ).loc Cert.AdamBigReferenceIdeal.main_v182) = v0 c
          ∧ r.2.mem ((c.tc : Thread Cert.AdamBigReferenceIdeal.nD Cert.AdamBigReferenceIdeal.τ).loc Cert.AdamBigReferenceIdeal.main_v185) = v1 c
          ∧ r.2.mem ((c.tc : Thread Cert.AdamBigReferenceIdeal.nD Cert.AdamBigReferenceIdeal.τ).loc Cert.AdamBigReferenceIdeal.main_v188) = v2 c
          ∧ r.2.mem ((c.tc : Thread Cert.AdamBigReferenceIdeal.nD Cert.AdamBigReferenceIdeal.τ).loc Cert.AdamBigReferenceIdeal.main_v191) = v3 c
          ∧ r.2.mem ((c.tc : Thread Cert.AdamBigReferenceIdeal.nD Cert.AdamBigReferenceIdeal.τ).loc Cert.AdamBigReferenceIdeal.main_v194) = v4 c
          ∧ r.2.mem ((c.tc : Thread Cert.AdamBigReferenceIdeal.nD Cert.AdamBigReferenceIdeal.τ).loc Cert.AdamBigReferenceIdeal.main_v197) = v5 c
          ∧ r.2.mem ((c.tc : Thread Cert.AdamBigReferenceIdeal.nD Cert.AdamBigReferenceIdeal.τ).loc Cert.AdamBigReferenceIdeal.main_v200) = v6 c
          ∧ r.2.mem ((c.tc : Thread Cert.AdamBigReferenceIdeal.nD Cert.AdamBigReferenceIdeal.τ).loc Cert.AdamBigReferenceIdeal.main_v203) = v7 c
          ∧ r.2.mem ((c.tc : Thread Cert.AdamBigReferenceIdeal.nD Cert.AdamBigReferenceIdeal.τ).loc Cert.AdamBigReferenceIdeal.main_v206) = v8 c
          ∧ r.2.mem ((c.tc : Thread Cert.AdamBigReferenceIdeal.nD Cert.AdamBigReferenceIdeal.τ).loc Cert.AdamBigReferenceIdeal.main_v209) = v9 c
          ∧ r.2.mem ((c.tc : Thread Cert.AdamBigReferenceIdeal.nD Cert.AdamBigReferenceIdeal.τ).loc Cert.AdamBigReferenceIdeal.main_v212) = v10 c
          ∧ r.2.mem ((c.tc : Thread Cert.AdamBigReferenceIdeal.nD Cert.AdamBigReferenceIdeal.τ).loc Cert.AdamBigReferenceIdeal.main_v215) = v11 c
          ∧ r.2.mem ((c.tc : Thread Cert.AdamBigReferenceIdeal.nD Cert.AdamBigReferenceIdeal.τ).loc Cert.AdamBigReferenceIdeal.main_v218) = v12 c
          ∧ r.2.mem ((c.tc : Thread Cert.AdamBigReferenceIdeal.nD Cert.AdamBigReferenceIdeal.τ).loc Cert.AdamBigReferenceIdeal.main_v221) = v13 c
          ∧ r.2.mem ((c.tc : Thread Cert.AdamBigReferenceIdeal.nD Cert.AdamBigReferenceIdeal.τ).loc Cert.AdamBigReferenceIdeal.main_v224) = v14 c
          ∧ r.2.mem ((c.tc : Thread Cert.AdamBigReferenceIdeal.nD Cert.AdamBigReferenceIdeal.τ).loc Cert.AdamBigReferenceIdeal.main_v227) = v15 c
          ∧ r.2.mem ((c.tc : Thread Cert.AdamBigReferenceIdeal.nD Cert.AdamBigReferenceIdeal.τ).loc Cert.AdamBigReferenceIdeal.main_v230) = v16 c
          ∧ r.2.mem ((c.tc : Thread Cert.AdamBigReferenceIdeal.nD Cert.AdamBigReferenceIdeal.τ).loc Cert.AdamBigReferenceIdeal.main_v233) = v17 c
          ∧ r.2.mem ((c.tc : Thread Cert.AdamBigReferenceIdeal.nD Cert.AdamBigReferenceIdeal.τ).loc Cert.AdamBigReferenceIdeal.main_v236) = v18 c
          ∧ r.2.mem ((c.tc : Thread Cert.AdamBigReferenceIdeal.nD Cert.AdamBigReferenceIdeal.τ).loc Cert.AdamBigReferenceIdeal.main_v239) = v19 c
          ∧ r.2.mem ((c.tc : Thread Cert.AdamBigReferenceIdeal.nD Cert.AdamBigReferenceIdeal.τ).loc Cert.AdamBigReferenceIdeal.main_v242) = v20 c
          ∧ r.2.mem ((c.tc : Thread Cert.AdamBigReferenceIdeal.nD Cert.AdamBigReferenceIdeal.τ).loc Cert.AdamBigReferenceIdeal.main_v245) = v21 c
          ∧ r.2.mem ((c.tc : Thread Cert.AdamBigReferenceIdeal.nD Cert.AdamBigReferenceIdeal.τ).loc Cert.AdamBigReferenceIdeal.main_v248) = v22 c
          ∧ r.2.mem ((c.tc : Thread Cert.AdamBigReferenceIdeal.nD Cert.AdamBigReferenceIdeal.τ).loc Cert.AdamBigReferenceIdeal.main_v251) = v23 c
          ∧ r.2.mem ((c.tc : Thread Cert.AdamBigReferenceIdeal.nD Cert.AdamBigReferenceIdeal.τ).loc Cert.AdamBigReferenceIdeal.main_arg0) = m' ((c.tc : Thread Cert.AdamBigReferenceIdeal.nD Cert.AdamBigReferenceIdeal.τ).loc Cert.AdamBigReferenceIdeal.main_arg0)
          ∧ r.2.mem ((c.tc : Thread Cert.AdamBigReferenceIdeal.nD Cert.AdamBigReferenceIdeal.τ).loc Cert.AdamBigReferenceIdeal.main_arg1) = m' ((c.tc : Thread Cert.AdamBigReferenceIdeal.nD Cert.AdamBigReferenceIdeal.τ).loc Cert.AdamBigReferenceIdeal.main_arg1)
          ∧ r.2.mem ((c.tc : Thread Cert.AdamBigReferenceIdeal.nD Cert.AdamBigReferenceIdeal.τ).loc Cert.AdamBigReferenceIdeal.main_arg2) = m' ((c.tc : Thread Cert.AdamBigReferenceIdeal.nD Cert.AdamBigReferenceIdeal.τ).loc Cert.AdamBigReferenceIdeal.main_arg2)
          ∧ r.2.mem ((c.tc : Thread Cert.AdamBigReferenceIdeal.nD Cert.AdamBigReferenceIdeal.τ).loc Cert.AdamBigReferenceIdeal.main_arg3) = m' ((c.tc : Thread Cert.AdamBigReferenceIdeal.nD Cert.AdamBigReferenceIdeal.τ).loc Cert.AdamBigReferenceIdeal.main_arg3)
          ∧ r.2.mem ((c.tc : Thread Cert.AdamBigReferenceIdeal.nD Cert.AdamBigReferenceIdeal.τ).loc Cert.AdamBigReferenceIdeal.main_arg4) = m' ((c.tc : Thread Cert.AdamBigReferenceIdeal.nD Cert.AdamBigReferenceIdeal.τ).loc Cert.AdamBigReferenceIdeal.main_arg4)
          ∧ r.2.mem ((c.tc : Thread Cert.AdamBigReferenceIdeal.nD Cert.AdamBigReferenceIdeal.τ).loc Cert.AdamBigReferenceIdeal.main_arg5) = m' ((c.tc : Thread Cert.AdamBigReferenceIdeal.nD Cert.AdamBigReferenceIdeal.τ).loc Cert.AdamBigReferenceIdeal.main_arg5)
          ∧ r.2.mem ((c.tc : Thread Cert.AdamBigReferenceIdeal.nD Cert.AdamBigReferenceIdeal.τ).loc Cert.AdamBigReferenceIdeal.main_arg6) = m' ((c.tc : Thread Cert.AdamBigReferenceIdeal.nD Cert.AdamBigReferenceIdeal.τ).loc Cert.AdamBigReferenceIdeal.main_arg6)
          ∧ r.2.mem ((c.tc : Thread Cert.AdamBigReferenceIdeal.nD Cert.AdamBigReferenceIdeal.τ).loc Cert.AdamBigReferenceIdeal.main_arg7) = m' ((c.tc : Thread Cert.AdamBigReferenceIdeal.nD Cert.AdamBigReferenceIdeal.τ).loc Cert.AdamBigReferenceIdeal.main_arg7)
          ∧ r.2.mem ((c.tc : Thread Cert.AdamBigReferenceIdeal.nD Cert.AdamBigReferenceIdeal.τ).loc Cert.AdamBigReferenceIdeal.main_arg8) = m' ((c.tc : Thread Cert.AdamBigReferenceIdeal.nD Cert.AdamBigReferenceIdeal.τ).loc Cert.AdamBigReferenceIdeal.main_arg8)
          ∧ r.2.mem ((c.tc : Thread Cert.AdamBigReferenceIdeal.nD Cert.AdamBigReferenceIdeal.τ).loc Cert.AdamBigReferenceIdeal.main_arg9) = m' ((c.tc : Thread Cert.AdamBigReferenceIdeal.nD Cert.AdamBigReferenceIdeal.τ).loc Cert.AdamBigReferenceIdeal.main_arg9)
          ∧ r.2.mem ((c.tc : Thread Cert.AdamBigReferenceIdeal.nD Cert.AdamBigReferenceIdeal.τ).loc Cert.AdamBigReferenceIdeal.main_arg10) = m' ((c.tc : Thread Cert.AdamBigReferenceIdeal.nD Cert.AdamBigReferenceIdeal.τ).loc Cert.AdamBigReferenceIdeal.main_arg10)
          ∧ r.2.mem ((c.tc : Thread Cert.AdamBigReferenceIdeal.nD Cert.AdamBigReferenceIdeal.τ).loc Cert.AdamBigReferenceIdeal.main_arg11) = m' ((c.tc : Thread Cert.AdamBigReferenceIdeal.nD Cert.AdamBigReferenceIdeal.τ).loc Cert.AdamBigReferenceIdeal.main_arg11)
          ∧ r.2.mem ((c.tc : Thread Cert.AdamBigReferenceIdeal.nD Cert.AdamBigReferenceIdeal.τ).loc Cert.AdamBigReferenceIdeal.main_arg12) = m' ((c.tc : Thread Cert.AdamBigReferenceIdeal.nD Cert.AdamBigReferenceIdeal.τ).loc Cert.AdamBigReferenceIdeal.main_arg12)
          ∧ r.2.mem ((c.tc : Thread Cert.AdamBigReferenceIdeal.nD Cert.AdamBigReferenceIdeal.τ).loc Cert.AdamBigReferenceIdeal.main_arg13) = m' ((c.tc : Thread Cert.AdamBigReferenceIdeal.nD Cert.AdamBigReferenceIdeal.τ).loc Cert.AdamBigReferenceIdeal.main_arg13)
          ∧ r.2.mem ((c.tc : Thread Cert.AdamBigReferenceIdeal.nD Cert.AdamBigReferenceIdeal.τ).loc Cert.AdamBigReferenceIdeal.main_arg14) = m' ((c.tc : Thread Cert.AdamBigReferenceIdeal.nD Cert.AdamBigReferenceIdeal.τ).loc Cert.AdamBigReferenceIdeal.main_arg14)
          ∧ r.2.mem ((c.tc : Thread Cert.AdamBigReferenceIdeal.nD Cert.AdamBigReferenceIdeal.τ).loc Cert.AdamBigReferenceIdeal.main_arg15) = m' ((c.tc : Thread Cert.AdamBigReferenceIdeal.nD Cert.AdamBigReferenceIdeal.τ).loc Cert.AdamBigReferenceIdeal.main_arg15)
          ∧ r.2.mem ((c.tc : Thread Cert.AdamBigReferenceIdeal.nD Cert.AdamBigReferenceIdeal.τ).loc Cert.AdamBigReferenceIdeal.main_arg16) = m' ((c.tc : Thread Cert.AdamBigReferenceIdeal.nD Cert.AdamBigReferenceIdeal.τ).loc Cert.AdamBigReferenceIdeal.main_arg16)
          ∧ r.2.mem ((c.tc : Thread Cert.AdamBigReferenceIdeal.nD Cert.AdamBigReferenceIdeal.τ).loc Cert.AdamBigReferenceIdeal.main_arg17) = m' ((c.tc : Thread Cert.AdamBigReferenceIdeal.nD Cert.AdamBigReferenceIdeal.τ).loc Cert.AdamBigReferenceIdeal.main_arg17)
          ∧ r.2.mem ((c.tc : Thread Cert.AdamBigReferenceIdeal.nD Cert.AdamBigReferenceIdeal.τ).loc Cert.AdamBigReferenceIdeal.main_arg18) = m' ((c.tc : Thread Cert.AdamBigReferenceIdeal.nD Cert.AdamBigReferenceIdeal.τ).loc Cert.AdamBigReferenceIdeal.main_arg18)
          ∧ r.2.mem ((c.tc : Thread Cert.AdamBigReferenceIdeal.nD Cert.AdamBigReferenceIdeal.τ).loc Cert.AdamBigReferenceIdeal.main_arg19) = m' ((c.tc : Thread Cert.AdamBigReferenceIdeal.nD Cert.AdamBigReferenceIdeal.τ).loc Cert.AdamBigReferenceIdeal.main_arg19)
          ∧ r.2.mem ((c.tc : Thread Cert.AdamBigReferenceIdeal.nD Cert.AdamBigReferenceIdeal.τ).loc Cert.AdamBigReferenceIdeal.main_arg20) = m' ((c.tc : Thread Cert.AdamBigReferenceIdeal.nD Cert.AdamBigReferenceIdeal.τ).loc Cert.AdamBigReferenceIdeal.main_arg20)
          ∧ r.2.mem ((c.tc : Thread Cert.AdamBigReferenceIdeal.nD Cert.AdamBigReferenceIdeal.τ).loc Cert.AdamBigReferenceIdeal.main_arg21) = m' ((c.tc : Thread Cert.AdamBigReferenceIdeal.nD Cert.AdamBigReferenceIdeal.τ).loc Cert.AdamBigReferenceIdeal.main_arg21)
          ∧ r.2.mem ((c.tc : Thread Cert.AdamBigReferenceIdeal.nD Cert.AdamBigReferenceIdeal.τ).loc Cert.AdamBigReferenceIdeal.main_arg22) = m' ((c.tc : Thread Cert.AdamBigReferenceIdeal.nD Cert.AdamBigReferenceIdeal.τ).loc Cert.AdamBigReferenceIdeal.main_arg22)
          ∧ r.2.mem ((c.tc : Thread Cert.AdamBigReferenceIdeal.nD Cert.AdamBigReferenceIdeal.τ).loc Cert.AdamBigReferenceIdeal.main_arg23) = m' ((c.tc : Thread Cert.AdamBigReferenceIdeal.nD Cert.AdamBigReferenceIdeal.τ).loc Cert.AdamBigReferenceIdeal.main_arg23)
          ∧ r.2.mem ((c.tc : Thread Cert.AdamBigReferenceIdeal.nD Cert.AdamBigReferenceIdeal.τ).loc Cert.AdamBigReferenceIdeal.main_arg24) = m' ((c.tc : Thread Cert.AdamBigReferenceIdeal.nD Cert.AdamBigReferenceIdeal.τ).loc Cert.AdamBigReferenceIdeal.main_arg24)
          ∧ r.2.mem ((c.tc : Thread Cert.AdamBigReferenceIdeal.nD Cert.AdamBigReferenceIdeal.τ).loc Cert.AdamBigReferenceIdeal.main_arg25) = m' ((c.tc : Thread Cert.AdamBigReferenceIdeal.nD Cert.AdamBigReferenceIdeal.τ).loc Cert.AdamBigReferenceIdeal.main_arg25)
          ∧ r.2.mem ((c.tc : Thread Cert.AdamBigReferenceIdeal.nD Cert.AdamBigReferenceIdeal.τ).loc Cert.AdamBigReferenceIdeal.main_arg26) = m' ((c.tc : Thread Cert.AdamBigReferenceIdeal.nD Cert.AdamBigReferenceIdeal.τ).loc Cert.AdamBigReferenceIdeal.main_arg26)
          ∧ r.2.mem ((c.tc : Thread Cert.AdamBigReferenceIdeal.nD Cert.AdamBigReferenceIdeal.τ).loc Cert.AdamBigReferenceIdeal.main_arg27) = m' ((c.tc : Thread Cert.AdamBigReferenceIdeal.nD Cert.AdamBigReferenceIdeal.τ).loc Cert.AdamBigReferenceIdeal.main_arg27)
          ∧ r.2.mem ((c.tc : Thread Cert.AdamBigReferenceIdeal.nD Cert.AdamBigReferenceIdeal.τ).loc Cert.AdamBigReferenceIdeal.main_arg28) = m' ((c.tc : Thread Cert.AdamBigReferenceIdeal.nD Cert.AdamBigReferenceIdeal.τ).loc Cert.AdamBigReferenceIdeal.main_arg28)
          ∧ r.2.mem ((c.tc : Thread Cert.AdamBigReferenceIdeal.nD Cert.AdamBigReferenceIdeal.τ).loc Cert.AdamBigReferenceIdeal.main_arg29) = m' ((c.tc : Thread Cert.AdamBigReferenceIdeal.nD Cert.AdamBigReferenceIdeal.τ).loc Cert.AdamBigReferenceIdeal.main_arg29)
          ∧ r.2.mem ((c.tc : Thread Cert.AdamBigReferenceIdeal.nD Cert.AdamBigReferenceIdeal.τ).loc Cert.AdamBigReferenceIdeal.main_arg30) = m' ((c.tc : Thread Cert.AdamBigReferenceIdeal.nD Cert.AdamBigReferenceIdeal.τ).loc Cert.AdamBigReferenceIdeal.main_arg30)
          ∧ r.2.mem ((c.tc : Thread Cert.AdamBigReferenceIdeal.nD Cert.AdamBigReferenceIdeal.τ).loc Cert.AdamBigReferenceIdeal.main_arg31) = m' ((c.tc : Thread Cert.AdamBigReferenceIdeal.nD Cert.AdamBigReferenceIdeal.τ).loc Cert.AdamBigReferenceIdeal.main_arg31)
          ∧ r.2.mem ((c.tc : Thread Cert.AdamBigReferenceIdeal.nD Cert.AdamBigReferenceIdeal.τ).loc Cert.AdamBigReferenceIdeal.main_arg32) = m' ((c.tc : Thread Cert.AdamBigReferenceIdeal.nD Cert.AdamBigReferenceIdeal.τ).loc Cert.AdamBigReferenceIdeal.main_arg32)
          ∧ r.2.mem ((c.tc : Thread Cert.AdamBigReferenceIdeal.nD Cert.AdamBigReferenceIdeal.τ).loc Cert.AdamBigReferenceIdeal.main_arg33) = m' ((c.tc : Thread Cert.AdamBigReferenceIdeal.nD Cert.AdamBigReferenceIdeal.τ).loc Cert.AdamBigReferenceIdeal.main_arg33)
          ∧ r.2.mem ((c.tc : Thread Cert.AdamBigReferenceIdeal.nD Cert.AdamBigReferenceIdeal.τ).loc Cert.AdamBigReferenceIdeal.main_arg34) = m' ((c.tc : Thread Cert.AdamBigReferenceIdeal.nD Cert.AdamBigReferenceIdeal.τ).loc Cert.AdamBigReferenceIdeal.main_arg34)
          ∧ r.2.mem ((c.tc : Thread Cert.AdamBigReferenceIdeal.nD Cert.AdamBigReferenceIdeal.τ).loc Cert.AdamBigReferenceIdeal.main_arg35) = m' ((c.tc : Thread Cert.AdamBigReferenceIdeal.nD Cert.AdamBigReferenceIdeal.τ).loc Cert.AdamBigReferenceIdeal.main_arg35)
          ∧ r.2.mem ((c.tc : Thread Cert.AdamBigReferenceIdeal.nD Cert.AdamBigReferenceIdeal.τ).loc Cert.AdamBigReferenceIdeal.main_arg36) = m' ((c.tc : Thread Cert.AdamBigReferenceIdeal.nD Cert.AdamBigReferenceIdeal.τ).loc Cert.AdamBigReferenceIdeal.main_arg36)
          ∧ r.2.mem ((c.tc : Thread Cert.AdamBigReferenceIdeal.nD Cert.AdamBigReferenceIdeal.τ).loc Cert.AdamBigReferenceIdeal.main_arg37) = m' ((c.tc : Thread Cert.AdamBigReferenceIdeal.nD Cert.AdamBigReferenceIdeal.τ).loc Cert.AdamBigReferenceIdeal.main_arg37)
          ∧ r.2.mem ((c.tc : Thread Cert.AdamBigReferenceIdeal.nD Cert.AdamBigReferenceIdeal.τ).loc Cert.AdamBigReferenceIdeal.main_arg38) = m' ((c.tc : Thread Cert.AdamBigReferenceIdeal.nD Cert.AdamBigReferenceIdeal.τ).loc Cert.AdamBigReferenceIdeal.main_arg38)
          ∧ r.2.mem ((c.tc : Thread Cert.AdamBigReferenceIdeal.nD Cert.AdamBigReferenceIdeal.τ).loc Cert.AdamBigReferenceIdeal.main_arg39) = m' ((c.tc : Thread Cert.AdamBigReferenceIdeal.nD Cert.AdamBigReferenceIdeal.τ).loc Cert.AdamBigReferenceIdeal.main_arg39)
          ∧ r.2.mem ((c.tc : Thread Cert.AdamBigReferenceIdeal.nD Cert.AdamBigReferenceIdeal.τ).loc Cert.AdamBigReferenceIdeal.main_arg40) = m' ((c.tc : Thread Cert.AdamBigReferenceIdeal.nD Cert.AdamBigReferenceIdeal.τ).loc Cert.AdamBigReferenceIdeal.main_arg40)
          ∧ r.2.mem ((c.tc : Thread Cert.AdamBigReferenceIdeal.nD Cert.AdamBigReferenceIdeal.τ).loc Cert.AdamBigReferenceIdeal.main_arg41) = m' ((c.tc : Thread Cert.AdamBigReferenceIdeal.nD Cert.AdamBigReferenceIdeal.τ).loc Cert.AdamBigReferenceIdeal.main_arg41)
          ∧ r.2.mem ((c.tc : Thread Cert.AdamBigReferenceIdeal.nD Cert.AdamBigReferenceIdeal.τ).loc Cert.AdamBigReferenceIdeal.main_arg42) = m' ((c.tc : Thread Cert.AdamBigReferenceIdeal.nD Cert.AdamBigReferenceIdeal.τ).loc Cert.AdamBigReferenceIdeal.main_arg42)
          ∧ r.2.mem ((c.tc : Thread Cert.AdamBigReferenceIdeal.nD Cert.AdamBigReferenceIdeal.τ).loc Cert.AdamBigReferenceIdeal.main_arg43) = m' ((c.tc : Thread Cert.AdamBigReferenceIdeal.nD Cert.AdamBigReferenceIdeal.τ).loc Cert.AdamBigReferenceIdeal.main_arg43)
          ∧ r.2.mem ((c.tc : Thread Cert.AdamBigReferenceIdeal.nD Cert.AdamBigReferenceIdeal.τ).loc Cert.AdamBigReferenceIdeal.main_arg44) = m' ((c.tc : Thread Cert.AdamBigReferenceIdeal.nD Cert.AdamBigReferenceIdeal.τ).loc Cert.AdamBigReferenceIdeal.main_arg44)
          ∧ r.2.mem ((c.tc : Thread Cert.AdamBigReferenceIdeal.nD Cert.AdamBigReferenceIdeal.τ).loc Cert.AdamBigReferenceIdeal.main_arg45) = m' ((c.tc : Thread Cert.AdamBigReferenceIdeal.nD Cert.AdamBigReferenceIdeal.τ).loc Cert.AdamBigReferenceIdeal.main_arg45)
          ∧ r.2.mem ((c.tc : Thread Cert.AdamBigReferenceIdeal.nD Cert.AdamBigReferenceIdeal.τ).loc Cert.AdamBigReferenceIdeal.main_arg46) = m' ((c.tc : Thread Cert.AdamBigReferenceIdeal.nD Cert.AdamBigReferenceIdeal.τ).loc Cert.AdamBigReferenceIdeal.main_arg46)
          ∧ r.2.mem ((c.tc : Thread Cert.AdamBigReferenceIdeal.nD Cert.AdamBigReferenceIdeal.τ).loc Cert.AdamBigReferenceIdeal.main_arg47) = m' ((c.tc : Thread Cert.AdamBigReferenceIdeal.nD Cert.AdamBigReferenceIdeal.τ).loc Cert.AdamBigReferenceIdeal.main_arg47))

def Claim : Prop :=
  ∃ (hConv : Cert.Conv.Facts) (hConvIdeal : Cert.ConvIdeal.Facts) (hConvReferenceIdeal : Cert.ConvReferenceIdeal.Facts) (hDff2 : Cert.Dff2.Facts) (hDff2Ideal : Cert.Dff2Ideal.Facts) (hDff2ReferenceIdeal : Cert.Dff2ReferenceIdeal.Facts) (hDw2 : Cert.Dw2.Facts) (hDw2Ideal : Cert.Dw2Ideal.Facts) (hDw2ReferenceIdeal : Cert.Dw2ReferenceIdeal.Facts) (hDw1 : Cert.Dw1.Facts) (hDw1Ideal : Cert.Dw1Ideal.Facts) (hDw1ReferenceIdeal : Cert.Dw1ReferenceIdeal.Facts) (hDnorm2 : Cert.Dnorm2.Facts) (hDnorm2Ideal : Cert.Dnorm2Ideal.Facts) (hDnorm2ReferenceIdeal : Cert.Dnorm2ReferenceIdeal.Facts) (hDple : Cert.Dple.Facts) (hDpleIdeal : Cert.DpleIdeal.Facts) (hDpleReferenceIdeal : Cert.DpleReferenceIdeal.Facts) (hDwg : Cert.Dwg.Facts) (hDwgIdeal : Cert.DwgIdeal.Facts) (hDwgReferenceIdeal : Cert.DwgReferenceIdeal.Facts) (hDwp : Cert.Dwp.Facts) (hDwpIdeal : Cert.DwpIdeal.Facts) (hDwpReferenceIdeal : Cert.DwpReferenceIdeal.Facts) (hDout : Cert.Dout.Facts) (hDoutIdeal : Cert.DoutIdeal.Facts) (hDoutReferenceIdeal : Cert.DoutReferenceIdeal.Facts) (hDwo : Cert.Dwo.Facts) (hDwoIdeal : Cert.DwoIdeal.Facts) (hDwoReferenceIdeal : Cert.DwoReferenceIdeal.Facts) (hDwi : Cert.Dwi.Facts) (hDwiIdeal : Cert.DwiIdeal.Facts) (hDwiReferenceIdeal : Cert.DwiReferenceIdeal.Facts) (hDnorm1 : Cert.Dnorm1.Facts) (hDnorm1Ideal : Cert.Dnorm1Ideal.Facts) (hDnorm1ReferenceIdeal : Cert.Dnorm1ReferenceIdeal.Facts) (hFf2 : Cert.Ff2.Facts) (hFf2Ideal : Cert.Ff2Ideal.Facts) (hFf2ReferenceIdeal : Cert.Ff2ReferenceIdeal.Facts) (hOut : Cert.Out.Facts) (hOutIdeal : Cert.OutIdeal.Facts) (hOutReferenceIdeal : Cert.OutReferenceIdeal.Facts) (hPle : Cert.Ple.Facts) (hPleIdeal : Cert.PleIdeal.Facts) (hPleReferenceIdeal : Cert.PleReferenceIdeal.Facts) (hSgu : Cert.Sgu.Facts) (hSguIdeal : Cert.SguIdeal.Facts) (hSguReferenceIdeal : Cert.SguReferenceIdeal.Facts) (hNormIn : Cert.NormIn.Facts) (hNormInIdeal : Cert.NormInIdeal.Facts) (hNormInReferenceIdeal : Cert.NormInReferenceIdeal.Facts) (hNormFf : Cert.NormFf.Facts) (hNormFfIdeal : Cert.NormFfIdeal.Facts) (hNormFfReferenceIdeal : Cert.NormFfReferenceIdeal.Facts) (hNormGate : Cert.NormGate.Facts) (hNormGateIdeal : Cert.NormGateIdeal.Facts) (hNormGateReferenceIdeal : Cert.NormGateReferenceIdeal.Facts) (hLoss : Cert.Loss.Facts) (hLossIdeal : Cert.LossIdeal.Facts) (hLossReferenceIdeal : Cert.LossReferenceIdeal.Facts) (hAdamNorm : Cert.AdamNorm.Facts) (hAdamNormIdeal : Cert.AdamNormIdeal.Facts) (hAdamNormReferenceIdeal : Cert.AdamNormReferenceIdeal.Facts) (hAdamHead : Cert.AdamHead.Facts) (hAdamHeadIdeal : Cert.AdamHeadIdeal.Facts) (hAdamHeadReferenceIdeal : Cert.AdamHeadReferenceIdeal.Facts) (hAdamSguNorm : Cert.AdamSguNorm.Facts) (hAdamSguNormIdeal : Cert.AdamSguNormIdeal.Facts) (hAdamSguNormReferenceIdeal : Cert.AdamSguNormReferenceIdeal.Facts) (hAdamConv : Cert.AdamConv.Facts) (hAdamConvIdeal : Cert.AdamConvIdeal.Facts) (hAdamConvReferenceIdeal : Cert.AdamConvReferenceIdeal.Facts) (hAdamSguW : Cert.AdamSguW.Facts) (hAdamSguWIdeal : Cert.AdamSguWIdeal.Facts) (hAdamSguWReferenceIdeal : Cert.AdamSguWReferenceIdeal.Facts) (hAdamSguB : Cert.AdamSguB.Facts) (hAdamSguBIdeal : Cert.AdamSguBIdeal.Facts) (hAdamSguBReferenceIdeal : Cert.AdamSguBReferenceIdeal.Facts) (hSguFwd : Cert.SguFwd.Facts) (hSguFwdIdeal : Cert.SguFwdIdeal.Facts) (hSguFwdReferenceIdeal : Cert.SguFwdReferenceIdeal.Facts) (hConvFwd : Cert.ConvFwd.Facts) (hConvFwdIdeal : Cert.ConvFwdIdeal.Facts) (hConvFwdReferenceIdeal : Cert.ConvFwdReferenceIdeal.Facts) (hAdamBig : Cert.AdamBig.Facts) (hAdamBigIdeal : Cert.AdamBigIdeal.Facts) (hAdamBigReferenceIdeal : Cert.AdamBigReferenceIdeal.Facts) (hPre_finite16 : Cert.Pre_finite16.Facts) (hPre_finite27 : Cert.Pre_finite27.Facts),
    quiescent_Conv (hConv := hConv)
    ∧ quiescent_ConvIdeal (hConvIdeal := hConvIdeal)
    ∧ quiescent_ConvReferenceIdeal (hConvReferenceIdeal := hConvReferenceIdeal)
    ∧ quiescent_Dff2 (hDff2 := hDff2)
    ∧ quiescent_Dff2Ideal (hDff2Ideal := hDff2Ideal)
    ∧ quiescent_Dff2ReferenceIdeal (hDff2ReferenceIdeal := hDff2ReferenceIdeal)
    ∧ quiescent_Dw2 (hDw2 := hDw2)
    ∧ quiescent_Dw2Ideal (hDw2Ideal := hDw2Ideal)
    ∧ quiescent_Dw2ReferenceIdeal (hDw2ReferenceIdeal := hDw2ReferenceIdeal)
    ∧ quiescent_Dw1 (hDw1 := hDw1)
    ∧ quiescent_Dw1Ideal (hDw1Ideal := hDw1Ideal)
    ∧ quiescent_Dw1ReferenceIdeal (hDw1ReferenceIdeal := hDw1ReferenceIdeal)
    ∧ quiescent_Dnorm2 (hDnorm2 := hDnorm2)
    ∧ quiescent_Dnorm2Ideal (hDnorm2Ideal := hDnorm2Ideal)
    ∧ quiescent_Dnorm2ReferenceIdeal (hDnorm2ReferenceIdeal := hDnorm2ReferenceIdeal)
    ∧ quiescent_Dple (hDple := hDple)
    ∧ quiescent_DpleIdeal (hDpleIdeal := hDpleIdeal)
    ∧ quiescent_DpleReferenceIdeal (hDpleReferenceIdeal := hDpleReferenceIdeal)
    ∧ quiescent_Dwg (hDwg := hDwg)
    ∧ quiescent_DwgIdeal (hDwgIdeal := hDwgIdeal)
    ∧ quiescent_DwgReferenceIdeal (hDwgReferenceIdeal := hDwgReferenceIdeal)
    ∧ quiescent_Dwp (hDwp := hDwp)
    ∧ quiescent_DwpIdeal (hDwpIdeal := hDwpIdeal)
    ∧ quiescent_DwpReferenceIdeal (hDwpReferenceIdeal := hDwpReferenceIdeal)
    ∧ quiescent_Dout (hDout := hDout)
    ∧ quiescent_DoutIdeal (hDoutIdeal := hDoutIdeal)
    ∧ quiescent_DoutReferenceIdeal (hDoutReferenceIdeal := hDoutReferenceIdeal)
    ∧ quiescent_Dwo (hDwo := hDwo)
    ∧ quiescent_DwoIdeal (hDwoIdeal := hDwoIdeal)
    ∧ quiescent_DwoReferenceIdeal (hDwoReferenceIdeal := hDwoReferenceIdeal)
    ∧ quiescent_Dwi (hDwi := hDwi)
    ∧ quiescent_DwiIdeal (hDwiIdeal := hDwiIdeal)
    ∧ quiescent_DwiReferenceIdeal (hDwiReferenceIdeal := hDwiReferenceIdeal)
    ∧ quiescent_Dnorm1 (hDnorm1 := hDnorm1)
    ∧ quiescent_Dnorm1Ideal (hDnorm1Ideal := hDnorm1Ideal)
    ∧ quiescent_Dnorm1ReferenceIdeal (hDnorm1ReferenceIdeal := hDnorm1ReferenceIdeal)
    ∧ quiescent_Ff2 (hFf2 := hFf2)
    ∧ quiescent_Ff2Ideal (hFf2Ideal := hFf2Ideal)
    ∧ quiescent_Ff2ReferenceIdeal (hFf2ReferenceIdeal := hFf2ReferenceIdeal)
    ∧ quiescent_Out (hOut := hOut)
    ∧ quiescent_OutIdeal (hOutIdeal := hOutIdeal)
    ∧ quiescent_OutReferenceIdeal (hOutReferenceIdeal := hOutReferenceIdeal)
    ∧ quiescent_Ple (hPle := hPle)
    ∧ quiescent_PleIdeal (hPleIdeal := hPleIdeal)
    ∧ quiescent_PleReferenceIdeal (hPleReferenceIdeal := hPleReferenceIdeal)
    ∧ quiescent_Sgu (hSgu := hSgu)
    ∧ quiescent_SguIdeal (hSguIdeal := hSguIdeal)
    ∧ quiescent_SguIdeal_pre_finite16 (hSguIdeal := hSguIdeal) (hPre_finite16 := hPre_finite16)
    ∧ quiescent_SguReferenceIdeal (hSguReferenceIdeal := hSguReferenceIdeal)
    ∧ quiescent_SguReferenceIdeal_pre_finite16 (hSguReferenceIdeal := hSguReferenceIdeal) (hPre_finite16 := hPre_finite16)
    ∧ quiescent_NormIn (hNormIn := hNormIn)
    ∧ quiescent_NormInIdeal (hNormInIdeal := hNormInIdeal)
    ∧ quiescent_NormInReferenceIdeal (hNormInReferenceIdeal := hNormInReferenceIdeal)
    ∧ quiescent_NormFf (hNormFf := hNormFf)
    ∧ quiescent_NormFfIdeal (hNormFfIdeal := hNormFfIdeal)
    ∧ quiescent_NormFfReferenceIdeal (hNormFfReferenceIdeal := hNormFfReferenceIdeal)
    ∧ quiescent_NormGate (hNormGate := hNormGate)
    ∧ quiescent_NormGateIdeal (hNormGateIdeal := hNormGateIdeal)
    ∧ quiescent_NormGateReferenceIdeal (hNormGateReferenceIdeal := hNormGateReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_AdamNorm (hAdamNorm := hAdamNorm)
    ∧ quiescent_AdamNormIdeal (hAdamNormIdeal := hAdamNormIdeal)
    ∧ quiescent_AdamNormReferenceIdeal (hAdamNormReferenceIdeal := hAdamNormReferenceIdeal)
    ∧ quiescent_AdamHead (hAdamHead := hAdamHead)
    ∧ quiescent_AdamHeadIdeal (hAdamHeadIdeal := hAdamHeadIdeal)
    ∧ quiescent_AdamHeadReferenceIdeal (hAdamHeadReferenceIdeal := hAdamHeadReferenceIdeal)
    ∧ quiescent_AdamSguNorm (hAdamSguNorm := hAdamSguNorm)
    ∧ quiescent_AdamSguNormIdeal (hAdamSguNormIdeal := hAdamSguNormIdeal)
    ∧ quiescent_AdamSguNormReferenceIdeal (hAdamSguNormReferenceIdeal := hAdamSguNormReferenceIdeal)
    ∧ quiescent_AdamConv (hAdamConv := hAdamConv)
    ∧ quiescent_AdamConvIdeal (hAdamConvIdeal := hAdamConvIdeal)
    ∧ quiescent_AdamConvReferenceIdeal (hAdamConvReferenceIdeal := hAdamConvReferenceIdeal)
    ∧ quiescent_AdamSguW (hAdamSguW := hAdamSguW)
    ∧ quiescent_AdamSguWIdeal (hAdamSguWIdeal := hAdamSguWIdeal)
    ∧ quiescent_AdamSguWReferenceIdeal (hAdamSguWReferenceIdeal := hAdamSguWReferenceIdeal)
    ∧ quiescent_AdamSguB (hAdamSguB := hAdamSguB)
    ∧ quiescent_AdamSguBIdeal (hAdamSguBIdeal := hAdamSguBIdeal)
    ∧ quiescent_AdamSguBReferenceIdeal (hAdamSguBReferenceIdeal := hAdamSguBReferenceIdeal)
    ∧ quiescent_SguFwd (hSguFwd := hSguFwd)
    ∧ quiescent_SguFwdIdeal (hSguFwdIdeal := hSguFwdIdeal)
    ∧ quiescent_SguFwdIdeal_pre_finite27 (hSguFwdIdeal := hSguFwdIdeal) (hPre_finite27 := hPre_finite27)
    ∧ quiescent_SguFwdReferenceIdeal (hSguFwdReferenceIdeal := hSguFwdReferenceIdeal)
    ∧ quiescent_SguFwdReferenceIdeal_pre_finite27 (hSguFwdReferenceIdeal := hSguFwdReferenceIdeal) (hPre_finite27 := hPre_finite27)
    ∧ quiescent_ConvFwd (hConvFwd := hConvFwd)
    ∧ quiescent_ConvFwdIdeal (hConvFwdIdeal := hConvFwdIdeal)
    ∧ quiescent_ConvFwdReferenceIdeal (hConvFwdReferenceIdeal := hConvFwdReferenceIdeal)
    ∧ quiescent_AdamBig (hAdamBig := hAdamBig)
    ∧ quiescent_AdamBigIdeal (hAdamBigIdeal := hAdamBigIdeal)
    ∧ quiescent_AdamBigReferenceIdeal (hAdamBigReferenceIdeal := hAdamBigReferenceIdeal)
    ∧ preserves_Conv_ConvIdeal
    ∧ algebraic_ConvIdeal_ConvReferenceIdeal (hConvIdeal := hConvIdeal) (hConvReferenceIdeal := hConvReferenceIdeal)
    ∧ preserves_Dff2_Dff2Ideal
    ∧ algebraic_Dff2Ideal_Dff2ReferenceIdeal (hDff2Ideal := hDff2Ideal) (hDff2ReferenceIdeal := hDff2ReferenceIdeal)
    ∧ preserves_Dw2_Dw2Ideal
    ∧ algebraic_Dw2Ideal_Dw2ReferenceIdeal (hDw2Ideal := hDw2Ideal) (hDw2ReferenceIdeal := hDw2ReferenceIdeal)
    ∧ preserves_Dw1_Dw1Ideal
    ∧ algebraic_Dw1Ideal_Dw1ReferenceIdeal (hDw1Ideal := hDw1Ideal) (hDw1ReferenceIdeal := hDw1ReferenceIdeal)
    ∧ preserves_Dnorm2_Dnorm2Ideal
    ∧ algebraic_Dnorm2Ideal_Dnorm2ReferenceIdeal (hDnorm2Ideal := hDnorm2Ideal) (hDnorm2ReferenceIdeal := hDnorm2ReferenceIdeal)
    ∧ preserves_Dple_DpleIdeal
    ∧ algebraic_DpleIdeal_DpleReferenceIdeal (hDpleIdeal := hDpleIdeal) (hDpleReferenceIdeal := hDpleReferenceIdeal)
    ∧ preserves_Dwg_DwgIdeal
    ∧ algebraic_DwgIdeal_DwgReferenceIdeal (hDwgIdeal := hDwgIdeal) (hDwgReferenceIdeal := hDwgReferenceIdeal)
    ∧ preserves_Dwp_DwpIdeal
    ∧ algebraic_DwpIdeal_DwpReferenceIdeal (hDwpIdeal := hDwpIdeal) (hDwpReferenceIdeal := hDwpReferenceIdeal)
    ∧ preserves_Dout_DoutIdeal
    ∧ algebraic_DoutIdeal_DoutReferenceIdeal (hDoutIdeal := hDoutIdeal) (hDoutReferenceIdeal := hDoutReferenceIdeal)
    ∧ preserves_Dwo_DwoIdeal
    ∧ algebraic_DwoIdeal_DwoReferenceIdeal (hDwoIdeal := hDwoIdeal) (hDwoReferenceIdeal := hDwoReferenceIdeal)
    ∧ preserves_Dwi_DwiIdeal
    ∧ algebraic_DwiIdeal_DwiReferenceIdeal (hDwiIdeal := hDwiIdeal) (hDwiReferenceIdeal := hDwiReferenceIdeal)
    ∧ preserves_Dnorm1_Dnorm1Ideal
    ∧ algebraic_Dnorm1Ideal_Dnorm1ReferenceIdeal (hDnorm1Ideal := hDnorm1Ideal) (hDnorm1ReferenceIdeal := hDnorm1ReferenceIdeal)
    ∧ preserves_Ff2_Ff2Ideal
    ∧ algebraic_Ff2Ideal_Ff2ReferenceIdeal (hFf2Ideal := hFf2Ideal) (hFf2ReferenceIdeal := hFf2ReferenceIdeal)
    ∧ preserves_Out_OutIdeal
    ∧ algebraic_OutIdeal_OutReferenceIdeal (hOutIdeal := hOutIdeal) (hOutReferenceIdeal := hOutReferenceIdeal)
    ∧ preserves_Ple_PleIdeal
    ∧ algebraic_PleIdeal_PleReferenceIdeal (hPleIdeal := hPleIdeal) (hPleReferenceIdeal := hPleReferenceIdeal)
    ∧ preserves_Sgu_SguIdeal
    ∧ algebraic_SguIdeal_SguReferenceIdeal_pre_finite16 (hSguIdeal := hSguIdeal) (hSguReferenceIdeal := hSguReferenceIdeal) (hPre_finite16 := hPre_finite16)
    ∧ preserves_NormIn_NormInIdeal
    ∧ algebraic_NormInIdeal_NormInReferenceIdeal (hNormInIdeal := hNormInIdeal) (hNormInReferenceIdeal := hNormInReferenceIdeal)
    ∧ preserves_NormFf_NormFfIdeal
    ∧ algebraic_NormFfIdeal_NormFfReferenceIdeal (hNormFfIdeal := hNormFfIdeal) (hNormFfReferenceIdeal := hNormFfReferenceIdeal)
    ∧ preserves_NormGate_NormGateIdeal
    ∧ algebraic_NormGateIdeal_NormGateReferenceIdeal (hNormGateIdeal := hNormGateIdeal) (hNormGateReferenceIdeal := hNormGateReferenceIdeal)
    ∧ preserves_Loss_LossIdeal
    ∧ algebraic_LossIdeal_LossReferenceIdeal (hLossIdeal := hLossIdeal) (hLossReferenceIdeal := hLossReferenceIdeal)
    ∧ preserves_AdamNorm_AdamNormIdeal
    ∧ algebraic_AdamNormIdeal_AdamNormReferenceIdeal (hAdamNormIdeal := hAdamNormIdeal) (hAdamNormReferenceIdeal := hAdamNormReferenceIdeal)
    ∧ preserves_AdamHead_AdamHeadIdeal
    ∧ algebraic_AdamHeadIdeal_AdamHeadReferenceIdeal (hAdamHeadIdeal := hAdamHeadIdeal) (hAdamHeadReferenceIdeal := hAdamHeadReferenceIdeal)
    ∧ preserves_AdamSguNorm_AdamSguNormIdeal
    ∧ algebraic_AdamSguNormIdeal_AdamSguNormReferenceIdeal (hAdamSguNormIdeal := hAdamSguNormIdeal) (hAdamSguNormReferenceIdeal := hAdamSguNormReferenceIdeal)
    ∧ preserves_AdamConv_AdamConvIdeal
    ∧ algebraic_AdamConvIdeal_AdamConvReferenceIdeal (hAdamConvIdeal := hAdamConvIdeal) (hAdamConvReferenceIdeal := hAdamConvReferenceIdeal)
    ∧ preserves_AdamSguW_AdamSguWIdeal
    ∧ algebraic_AdamSguWIdeal_AdamSguWReferenceIdeal (hAdamSguWIdeal := hAdamSguWIdeal) (hAdamSguWReferenceIdeal := hAdamSguWReferenceIdeal)
    ∧ preserves_AdamSguB_AdamSguBIdeal
    ∧ algebraic_AdamSguBIdeal_AdamSguBReferenceIdeal (hAdamSguBIdeal := hAdamSguBIdeal) (hAdamSguBReferenceIdeal := hAdamSguBReferenceIdeal)
    ∧ preserves_SguFwd_SguFwdIdeal
    ∧ algebraic_SguFwdIdeal_SguFwdReferenceIdeal_pre_finite27 (hSguFwdIdeal := hSguFwdIdeal) (hSguFwdReferenceIdeal := hSguFwdReferenceIdeal) (hPre_finite27 := hPre_finite27)
    ∧ preserves_ConvFwd_ConvFwdIdeal
    ∧ algebraic_ConvFwdIdeal_ConvFwdReferenceIdeal (hConvFwdIdeal := hConvFwdIdeal) (hConvFwdReferenceIdeal := hConvFwdReferenceIdeal)
    ∧ preserves_AdamBig_AdamBigIdeal
    ∧ algebraic_AdamBigIdeal_AdamBigReferenceIdeal (hAdamBigIdeal := hAdamBigIdeal) (hAdamBigReferenceIdeal := hAdamBigReferenceIdeal)
-- ==== Pre_finite16.lean ====
abbrev S2048x1024 : Shape := ⟨2, ![2048, 1024]⟩
abbrev S2048x2816 : Shape := ⟨2, ![2048, 2816]⟩
abbrev S256 : Shape := ⟨1, ![256]⟩
abbrev S4x128x128 : Shape := ⟨3, ![4, 128, 128]⟩
abbrev S4x128 : Shape := ⟨2, ![4, 128]⟩
abbrev S2048x256 : Shape := ⟨2, ![2048, 256]⟩
abbrev S2048x512 : Shape := ⟨2, ![2048, 512]⟩
abbrev S_ : Shape := ⟨0, ![]⟩

class Facts : Prop where
  slices_S2048x1024_S2048x256_0_768 : S2048x1024.Slices ![0, 768] S2048x256
  slices_S2048x2816_S2048x512_0_2304 : S2048x2816.Slices ![0, 2304] S2048x512
  bcast_S_S2048x256 : S_.BroadcastsInDim S2048x256 (![] : Fin 0 → Fin S2048x256.rank)
  bcast_S_S2048x512 : S_.BroadcastsInDim S2048x512 (![] : Fin 0 → Fin S2048x512.rank)

variable [Facts]

def fn {F : FTy → Type} [FloatOps F] (main_arg0 : FVec F S2048x1024 .bf16) (main_arg1 : FVec F S2048x2816 .bf16) (main_arg2 : FVec F S256 .f32) (main_arg3 : FVec F S4x128x128 .f32) (main_arg4 : FVec F S4x128 .f32) : IVec S2048x256 1 × IVec S2048x512 1 :=
  let main_v0 : FVec F S2048x256 .bf16 := (extractStridedSlice S2048x256 ![0, 768] · slices_S2048x1024_S2048x256_0_768) main_arg0
  let main_v1 : FVec F S2048x512 .bf16 := (extractStridedSlice S2048x512 ![0, 2304] · slices_S2048x2816_S2048x512_0_2304) main_arg1
  let main_v2 : FVec F S2048x256 .bf16 := Host.absf main_v0
  let main_cst : FVec F S_ .bf16 := constant S_ .bf16 0x7F80#16
  let main_v3 : FVec F S2048x256 .bf16 := broadcastInDim S2048x256 ![] bcast_S_S2048x256 main_cst
  let main_v4 : IVec S2048x256 1 := cmpf .olt main_v2 main_v3
  let main_v5 : FVec F S2048x512 .bf16 := Host.absf main_v1
  let main_cst_0 : FVec F S_ .bf16 := constant S_ .bf16 0x7F80#16
  let main_v6 : FVec F S2048x512 .bf16 := broadcastInDim S2048x512 ![] bcast_S_S2048x512 main_cst_0
  let main_v7 : IVec S2048x512 1 := cmpf .olt main_v5 main_v6
  (main_v4, main_v7)
-- ==== Pre_finite27.lean ====
abbrev S2048x2816 : Shape := ⟨2, ![2048, 2816]⟩
abbrev S256 : Shape := ⟨1, ![256]⟩
abbrev S4x128x128 : Shape := ⟨3, ![4, 128, 128]⟩
abbrev S4x128 : Shape := ⟨2, ![4, 128]⟩
abbrev S2048x1024 : Shape := ⟨2, ![2048, 1024]⟩
abbrev S2048x256 : Shape := ⟨2, ![2048, 256]⟩
abbrev S_ : Shape := ⟨0, ![]⟩

class Facts : Prop where
  slices_S2048x2816_S2048x256_0_2560 : S2048x2816.Slices ![0, 2560] S2048x256
  bcast_S_S2048x256 : S_.BroadcastsInDim S2048x256 (![] : Fin 0 → Fin S2048x256.rank)

variable [Facts]

def fn {F : FTy → Type} [FloatOps F] (main_arg0 : FVec F S2048x2816 .bf16) (main_arg1 : FVec F S256 .f32) (main_arg2 : FVec F S4x128x128 .f32) (main_arg3 : FVec F S4x128 .f32) (main_arg4 : FVec F S2048x1024 .bf16) : IVec S2048x256 1 :=
  let main_v0 : FVec F S2048x256 .bf16 := (extractStridedSlice S2048x256 ![0, 2560] · slices_S2048x2816_S2048x256_0_2560) main_arg0
  let main_v1 : FVec F S2048x256 .bf16 := Host.absf main_v0
  let main_cst : FVec F S_ .bf16 := constant S_ .bf16 0x7F80#16
  let main_v2 : FVec F S2048x256 .bf16 := broadcastInDim S2048x256 ![] bcast_S_S2048x256 main_cst
  let main_v3 : IVec S2048x256 1 := cmpf .olt main_v1 main_v2
  main_v3
-- ==== Conv.lean ====
abbrev S2048x1024 : Shape := ⟨2, ![2048, 1024]⟩
abbrev S2048x2816 : Shape := ⟨2, ![2048, 2816]⟩
abbrev S3x256 : Shape := ⟨2, ![3, 256]⟩
abbrev S2048x256 : Shape := ⟨2, ![2048, 256]⟩
abbrev S1x256 : Shape := ⟨2, ![1, 256]⟩
abbrev S256 : Shape := ⟨1, ![256]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S3x256, .f32⟩
  | .hbm, ⟨3, _⟩ => ⟨S2048x256, .bf16⟩
  | .hbm, ⟨4, _⟩ => ⟨S2048x256, .bf16⟩
  | .hbm, ⟨5, _⟩ => ⟨S2048x256, .bf16⟩
  | .hbm, ⟨6, _⟩ => ⟨S3x256, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S3x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ConvReferenceIdeal.lean ====
abbrev S2048x1024 : Shape := ⟨2, ![2048, 1024]⟩
abbrev S2048x2816 : Shape := ⟨2, ![2048, 2816]⟩
abbrev S3x256 : Shape := ⟨2, ![3, 256]⟩
abbrev S2048x256 : Shape := ⟨2, ![2048, 256]⟩
abbrev S_ : Shape := ⟨0, ![]⟩
abbrev S2x256 : Shape := ⟨2, ![2, 256]⟩
abbrev S2050x256 : Shape := ⟨2, ![2050, 256]⟩
abbrev S1x256 : Shape := ⟨2, ![1, 256]⟩
abbrev S256 : Shape := ⟨1, ![256]⟩

abbrev nBuf : Space → Nat
  | .hbm => 90
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S3x256, .f32⟩
  | .hbm, ⟨3, _⟩ => ⟨S2048x256, .bf16⟩
  | .hbm, ⟨4, _⟩ => ⟨S2048x256, .f32⟩
  | .hbm, ⟨5, _⟩ => ⟨S2048x256, .bf16⟩
  | .hbm, ⟨6, _⟩ => ⟨S2048x256, .f32⟩
  | .hbm, ⟨7, _⟩ => ⟨S2048x256, .bf16⟩
  | .hbm, ⟨8, _⟩ => ⟨S2048x256, .f32⟩
  | .hbm, ⟨9, _⟩ => ⟨S2048x256, .bf16⟩
  | .hbm, ⟨10, _⟩ => ⟨S2048x256, .f32⟩
  | .hbm, ⟨11, _⟩ => ⟨S2048x256, .f32⟩
  | .hbm, ⟨12, _⟩ => ⟨S_, .f32⟩
  | .hbm, ⟨13, _⟩ => ⟨S2x256, .f32⟩
  | .hbm, ⟨14, _⟩ => ⟨S2050x256, .f32⟩
  | .hbm, ⟨15, _⟩ => ⟨S_, .f32⟩
  | .hbm, ⟨16, _⟩ => ⟨S2x256, .f32⟩
  | .hbm, ⟨17, _⟩ => ⟨S1x256, .f32⟩
  | .hbm, ⟨18, _⟩ => ⟨S256, .f32⟩
  | .hbm, ⟨19, _⟩ => ⟨S2048x256, .f32⟩
  | .hbm, ⟨20, _⟩ => ⟨S1x256, .f32⟩
  | .hbm, ⟨21, _⟩ => ⟨S2048x256, .f32⟩
  | .hbm, ⟨22, _⟩ => ⟨S2048x256, .f32⟩
  | .hbm, ⟨23, _⟩ => ⟨S1x256, .f32⟩
  | .hbm, ⟨24, _⟩ => ⟨S256, .f32⟩
  | .hbm, ⟨25, _⟩ => ⟨S2048x256, .f32⟩
  | .hbm, ⟨26, _⟩ => ⟨S1x256, .f32⟩
  | .hbm, ⟨27, _⟩ => ⟨S2048x256, .f32⟩
  | .hbm, ⟨28, _⟩ => ⟨S2048x256, .f32⟩
  | .hbm, ⟨29, _⟩ => ⟨S2048x256, .f32⟩
  | .hbm, ⟨30, _⟩ => ⟨S1x256, .f32⟩
  | .hbm, ⟨31, _⟩ => ⟨S256, .f32⟩
  | .hbm, ⟨32, _⟩ => ⟨S2048x256, .f32⟩
  | .hbm, ⟨33, _⟩ => ⟨S1x256, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S2048x256, .f32⟩
  | .hbm, ⟨38, _⟩ => ⟨S2048x256, .f32⟩
  | .hbm, ⟨39, _⟩ => ⟨S2048x256, .f32⟩
  | .hbm, ⟨40, _⟩ => ⟨S2048x256, .f32⟩
  | .hbm, ⟨41, _⟩ => ⟨S2048x256, .f32⟩
  | .hbm, ⟨42, _⟩ => ⟨S2048x256, .f32⟩
  | .hbm, ⟨43, _⟩ => ⟨S_, .f32⟩
  | .hbm, ⟨44, _⟩ => ⟨S256, .f32⟩
  | .hbm, ⟨45, _⟩ => ⟨S1x256, .f32⟩
  | .hbm, ⟨46, _⟩ => ⟨S_, .f32⟩
  | .hbm, ⟨47, _⟩ => ⟨S256, .f32⟩
  | .hbm, ⟨48, _⟩ => ⟨S_, .f32⟩
  | .hbm, ⟨49, _⟩ => ⟨S2050x256, .f32⟩
  | .hbm, ⟨50, _⟩ => ⟨S1x256, .f32⟩
  | .hbm, ⟨51, _⟩ => ⟨S_, .f32⟩
  | .hbm, ⟨52, _⟩ => ⟨S3x256, .f32⟩
  | .hbm, ⟨53, _⟩ => ⟨S2048x256, .f32⟩
  | .hbm, ⟨54, _⟩ => ⟨S2048x256, .f32⟩
  | .hbm, ⟨55, _⟩ => ⟨S2048x256, .f32⟩
  | .hbm, ⟨56, _⟩ => ⟨S_, .f32⟩
  | .hbm, ⟨57, _⟩ => ⟨S256, .f32⟩
  | .hbm, ⟨58, _⟩ => ⟨S1x256, .f32⟩
  | .hbm, ⟨59, _⟩ => ⟨S_, .f32⟩
  | .hbm, ⟨60, _⟩ => ⟨S256, .f32⟩
  | .hbm, ⟨61, _⟩ => ⟨S_, .f32⟩
  | .hbm, ⟨62, _⟩ => ⟨S2050x256, .f32⟩
  | .hbm, ⟨63, _⟩ => ⟨S2050x256, .f32⟩
  | .hbm, ⟨64, _⟩ => ⟨S1x256, .f32⟩
  | .hbm, ⟨65, _⟩ => ⟨S_, .f32⟩
  | .hbm, ⟨66, _⟩ => ⟨S3x256, .f32⟩
  | .hbm, ⟨67, _⟩ => ⟨S3x256, .f32⟩
  | .hbm, ⟨68, _⟩ => ⟨S2048x256, .f32⟩
  | .hbm, ⟨69, _⟩ => ⟨S2048x256, .f32⟩
  | .hbm, ⟨70, _⟩ => ⟨S2048x256, .f32⟩
  | .hbm, ⟨71, _⟩ => ⟨S_, .f32⟩
  | .hbm, ⟨72, _⟩ => ⟨S256, .f32⟩
  | .hbm, ⟨73, _⟩ => ⟨S1x256, .f32⟩
  | .hbm, ⟨74, _⟩ => ⟨S_, .f32⟩
  | .hbm, ⟨75, _⟩ => ⟨S256, .f32⟩
  | .hbm, ⟨76, _⟩ => ⟨S_, .f32⟩
  | .hbm, ⟨77, _⟩ => ⟨S2050x256, .f32⟩
  | .hbm, ⟨78, _⟩ => ⟨S2050x256, .f32⟩
  | .hbm, ⟨79, _⟩ => ⟨S1x256, .f32⟩
  | .hbm, ⟨80, _⟩ => ⟨S_, .f32⟩
  | .hbm, ⟨81, _⟩ => ⟨S3x256, .f32⟩
  | .hbm, ⟨82, _⟩ => ⟨S3x256, .f32⟩
  | .hbm, ⟨83, _⟩ => ⟨S2x256, .f32⟩
  | .hbm, ⟨84, _⟩ => ⟨S2048x256, .f32⟩
  | .hbm, ⟨85, _⟩ => ⟨S2048x256, .f32⟩
  | .hbm, ⟨86, _⟩ => ⟨S2048x256, .f32⟩
  | .hbm, ⟨87, _⟩ => ⟨S2048x256, .bf16⟩
  | .hbm, ⟨88, _⟩ => ⟨S2048x256, .bf16⟩
  | .hbm, ⟨89, _⟩ => ⟨S2048x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_5 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_9 : Ref sig .tc := ⟨.hbm, 71, rfl⟩
abbrev main_v58 : Ref sig .tc := ⟨.hbm, 72, rfl⟩
abbrev main_v59 : Ref sig .tc := ⟨.hbm, 73, rfl⟩
abbrev main_cst_10 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]
-- ==== Dff2.lean ====
abbrev S2048x1024 : Shape := ⟨2, ![2048, 1024]⟩
abbrev S2048x4096 : Shape := ⟨2, ![2048, 4096]⟩
abbrev S4096x1024 : Shape := ⟨2, ![4096, 1024]⟩
abbrev S512x1024 : Shape := ⟨2, ![512, 1024]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x4096, .bf16⟩
  | .hbm, ⟨2, _⟩ => ⟨S4096x1024, .f32⟩
  | .hbm, ⟨3, _⟩ => ⟨S4096x1024, .bf16⟩
  | .hbm, ⟨4, _⟩ => ⟨S2048x4096, .bf16⟩
  | .local _ .vmem, ⟨0, _⟩ => ⟨S2048x1024, .f32⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Dff2ReferenceIdeal.lean ====
abbrev S2048x1024 : Shape := ⟨2, ![2048, 1024]⟩
abbrev S2048x4096 : Shape := ⟨2, ![2048, 4096]⟩
abbrev S4096x1024 : Shape := ⟨2, ![4096, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .bf16⟩
  | .hbm, ⟨2, _⟩ => ⟨S4096x1024, .f32⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .i1⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Dw2.lean ====
abbrev S2048x1024 : Shape := ⟨2, ![2048, 1024]⟩
abbrev S2048x4096 : Shape := ⟨2, ![2048, 4096]⟩
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x4096, .bf16⟩
  | .hbm, ⟨2, _⟩ => ⟨S4096x1024, .f32⟩
  | .hbm, ⟨3, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Dw2ReferenceIdeal.lean ====
abbrev S2048x1024 : Shape := ⟨2, ![2048, 1024]⟩
abbrev S2048x4096 : Shape := ⟨2, ![2048, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .bf16⟩
  | .hbm, ⟨2, _⟩ => ⟨S4096x1024, .f32⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S1024x4096, .f32⟩
  | .hbm, ⟨13, _⟩ => ⟨S4096x1024, .f32⟩
  | .hbm, ⟨14, _⟩ => ⟨S4096x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Dw1.lean ====
abbrev S2048x4096 : Shape := ⟨2, ![2048, 4096]⟩
abbrev S2048x1024 : Shape := ⟨2, ![2048, 1024]⟩
abbrev S1024 : Shape := ⟨1, ![1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 22
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S1024, .f32⟩
  | .hbm, ⟨3, _⟩ => ⟨S1024x4096, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | .hbm, ⟨21, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .bf16⟩
  | .local _ .vmem, ⟨4, _⟩ => ⟨S1x1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Dw1ReferenceIdeal.lean ====
abbrev S2048x4096 : Shape := ⟨2, ![2048, 4096]⟩
abbrev S2048x1024 : Shape := ⟨2, ![2048, 1024]⟩
abbrev S1024 : Shape := ⟨1, ![1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S4096x1024 : Shape := ⟨2, ![4096, 1024]⟩
abbrev S1024x1024 : Shape := ⟨2, ![1024, 1024]⟩
abbrev S1x1024x1024 : Shape := ⟨3, ![1, 1024, 1024]⟩
abbrev S4x1024x1024 : Shape := ⟨3, ![4, 1024, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S1024, .f32⟩
  | .hbm, ⟨3, _⟩ => ⟨S1024x4096, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S2048x4096, .f32⟩
  | .hbm, ⟨22, _⟩ => ⟨S4096x1024, .f32⟩
  | .hbm, ⟨23, _⟩ => ⟨S1024x4096, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1x1024x1024, .f32⟩
  | .hbm, ⟨29, _⟩ => ⟨S1x1024x1024, .f32⟩
  | .hbm, ⟨30, _⟩ => ⟨S1x1024x1024, .f32⟩
  | .hbm, ⟨31, _⟩ => ⟨S1x1024x1024, .f32⟩
  | .hbm, ⟨32, _⟩ => ⟨S4x1024x1024, .f32⟩
  | .hbm, ⟨33, _⟩ => ⟨S4x1024x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Dnorm2.lean ====
abbrev S2048x4096 : Shape := ⟨2, ![2048, 4096]⟩
abbrev S2048x1024 : Shape := ⟨2, ![2048, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S256x4096 : Shape := ⟨2, ![256, 4096]⟩
abbrev S256x1024 : Shape := ⟨2, ![256, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 11
  | .vmem => 11
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S1024x4096, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S1x1024, .f32⟩
  | .hbm, ⟨9, _⟩ => ⟨S2048x1024, .f32⟩
  | .hbm, ⟨10, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S4x1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_30 : BitVec 32 := 0#32
  let v56 : BitVec 1 := Scalar.cmpi .ne v55 c0_i32_30
  v56

def k0_cond2 (i : grid0.Coords) : BitVec 1 :=
  let arg0 : BitVec 32 := BitVec.ofNat 32 (i 0).val
  let c0_i32_31 : BitVec 32 := 0#32
  let v57 : BitVec 1 := Scalar.cmpi .sgt arg0 c0_i32_31
  let v58 : BitVec 32 := Scalar.extui v57
  let c0_i32_32 : BitVec 32 := 0#32
  let v59 : BitVec 1 := Scalar.cmpi .ne v58 c0_i32_32
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Dnorm2ReferenceIdeal.lean ====
abbrev S2048x4096 : Shape := ⟨2, ![2048, 4096]⟩
abbrev S2048x1024 : Shape := ⟨2, ![2048, 1024]⟩
abbrev S1024 : Shape := ⟨1, ![1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S1024x4096, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x4096, .f32⟩
  | .hbm, ⟨26, _⟩ => ⟨S2048x4096, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Dple.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 29
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S1024, .f32⟩
  | .hbm, ⟨4, _⟩ => ⟨S1024x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .bf16⟩
  | .hbm, ⟨23, _⟩ => ⟨S1024x1024, .bf16⟩
  | .hbm, ⟨24, _⟩ => ⟨S1x1024, .f32⟩
  | .hbm, ⟨25, _⟩ => ⟨S2048x1024, .bf16⟩
  | .hbm, ⟨26, _⟩ => ⟨S2048x1024, .bf16⟩
  | .hbm, ⟨27, _⟩ => ⟨S2048x1024, .f32⟩
  | .hbm, ⟨28, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_24 : BitVec 32 := 0#32
  let v56 : BitVec 1 := Scalar.cmpi .ne v55 c0_i32_24
  v56

def k0_cond2 (i : grid0.Coords) : BitVec 1 :=
  let arg0 : BitVec 32 := BitVec.ofNat 32 (i 0).val
  let c0_i32_25 : BitVec 32 := 0#32
  let v57 : BitVec 1 := Scalar.cmpi .sgt arg0 c0_i32_25
  let v58 : BitVec 32 := Scalar.extui v57
  let c0_i32_26 : BitVec 32 := 0#32
  let v59 : BitVec 1 := Scalar.cmpi .ne v58 c0_i32_26
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DpleReferenceIdeal.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 108
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S1024, .f32⟩
  | .hbm, ⟨4, _⟩ => ⟨S1024x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S1024, .f32⟩
  | .hbm, ⟨71, _⟩ => ⟨S2048x1024, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1, .f32⟩
  | .hbm, ⟨79, _⟩ => ⟨S_, .f32⟩
  | .hbm, ⟨80, _⟩ => ⟨S2048x1, .f32⟩
  | .hbm, ⟨81, _⟩ => ⟨S2048x1, .f32⟩
  | .hbm, ⟨82, _⟩ => ⟨S_, .f32⟩
  | .hbm, ⟨83, _⟩ => ⟨S2048, .f32⟩
  | .hbm, ⟨84, _⟩ => ⟨S2048x1024, .f32⟩
  | .hbm, ⟨85, _⟩ => ⟨S2048x1024, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S_, .f32⟩
  | .hbm, ⟨92, _⟩ => ⟨S2048x1024, .f32⟩
  | .hbm, ⟨93, _⟩ => ⟨S2048x1024, .f32⟩
  | .hbm, ⟨94, _⟩ => ⟨S_, .f32⟩
  | .hbm, ⟨95, _⟩ => ⟨S2048x1024, .f32⟩
  | .hbm, ⟨96, _⟩ => ⟨S2048x1024, .f32⟩
  | .hbm, ⟨97, _⟩ => ⟨S_, .f32⟩
  | .hbm, ⟨98, _⟩ => ⟨S2048x1024, .f32⟩
  | .hbm, ⟨99, _⟩ => ⟨S2048x1024, .f32⟩
  | .hbm, ⟨100, _⟩ => ⟨S2048x1024, .f32⟩
  | .hbm, ⟨101, _⟩ => ⟨S2048x1024, .f32⟩
  | .hbm, ⟨102, _⟩ => ⟨S2048x1024, .f32⟩
  | .hbm, ⟨103, _⟩ => ⟨S2048x1024, .f32⟩
  | .hbm, ⟨104, _⟩ => ⟨S2048x1024, .f32⟩
  | .hbm, ⟨105, _⟩ => ⟨S2048x1024, .bf16⟩
  | .hbm, ⟨106, _⟩ => ⟨S2048x1024, .bf16⟩
  | .hbm, ⟨107, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_12 : Ref sig .tc := ⟨.hbm, 79, rfl⟩
abbrev main_v61 : Ref sig .tc := ⟨.hbm, 80, rfl⟩
abbrev main_v62 : Ref sig .tc := ⟨.hbm, 81, rfl⟩
abbrev main_cst_13 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_14 : Ref sig .tc := ⟨.hbm, 91, rfl⟩
abbrev main_v71 : Ref sig .tc := ⟨.hbm, 92, rfl⟩
abbrev main_v72 : Ref sig .tc := ⟨.hbm, 93, rfl⟩
abbrev main_cst_15 : Ref sig .tc := ⟨.hbm, 94, rfl⟩
abbrev main_v73 : Ref sig .tc := ⟨.hbm, 95, rfl⟩
abbrev main_v74 : Ref sig .tc := ⟨.hbm, 96, rfl⟩
abbrev main_cst_16 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩

abbrev nD : Nat := 1
abbrev τ : Topo := Topo.v7x

variable {F : FTy → Type} [FloatOps F]
-- ==== Dwg.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 22
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024, .f32⟩
  | .hbm, ⟨3, _⟩ => ⟨S1024x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | .hbm, ⟨21, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DwgReferenceIdeal.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024, .f32⟩
  | .hbm, ⟨3, _⟩ => ⟨S1024x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S1024x1024, .f32⟩
  | .hbm, ⟨23, _⟩ => ⟨S1024x1024, .f32⟩
  | .hbm, ⟨24, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Dwp.lean ====
abbrev S2048x1024 : Shape := ⟨2, ![2048, 1024]⟩
abbrev S2048x256 : Shape := ⟨2, ![2048, 256]⟩
abbrev S256x1024 : Shape := ⟨2, ![256, 1024]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x256, .f32⟩
  | .hbm, ⟨2, _⟩ => ⟨S256x1024, .f32⟩
  | .hbm, ⟨3, _⟩ => ⟨S2048x256, .bf16⟩
  | .hbm, ⟨4, _⟩ => ⟨S4x256x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S1x256x256, .bf16⟩
  | .local _ .vmem, ⟨4, _⟩ => ⟨S1x256x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwpReferenceIdeal.lean ====
abbrev S2048x1024 : Shape := ⟨2, ![2048, 1024]⟩
abbrev S2048x256 : Shape := ⟨2, ![2048, 256]⟩
abbrev S256x1024 : Shape := ⟨2, ![256, 1024]⟩
abbrev S1024x256 : Shape := ⟨2, ![1024, 256]⟩
abbrev S256x256 : Shape := ⟨2, ![256, 256]⟩
abbrev S1x256x256 : Shape := ⟨3, ![1, 256, 256]⟩
abbrev S4x256x256 : Shape := ⟨3, ![4, 256, 256]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x256, .f32⟩
  | .hbm, ⟨2, _⟩ => ⟨S256x1024, .f32⟩
  | .hbm, ⟨3, _⟩ => ⟨S2048x1024, .f32⟩
  | .hbm, ⟨4, _⟩ => ⟨S2048x1024, .f32⟩
  | .hbm, ⟨5, _⟩ => ⟨S1024x256, .f32⟩
  | .hbm, ⟨6, _⟩ => ⟨S256x1024, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S1x256x256, .f32⟩
  | .hbm, ⟨12, _⟩ => ⟨S1x256x256, .f32⟩
  | .hbm, ⟨13, _⟩ => ⟨S1x256x256, .f32⟩
  | .hbm, ⟨14, _⟩ => ⟨S1x256x256, .f32⟩
  | .hbm, ⟨15, _⟩ => ⟨S4x256x256, .f32⟩
  | .hbm, ⟨16, _⟩ => ⟨S4x256x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Dout.lean ====
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .f32⟩
  | .hbm, ⟨3, _⟩ => ⟨S1024x1024, .bf16⟩
  | .hbm, ⟨4, _⟩ => ⟨S2048x1024, .bf16⟩
  | .local _ .vmem, ⟨0, _⟩ => ⟨S2048x1024, .f32⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DoutReferenceIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Dwo.lean ====
abbrev S2048x1024 : Shape := ⟨2, ![2048, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .f32⟩
  | .hbm, ⟨3, _⟩ => ⟨S1024x1024, .bf16⟩
  | .local _ .vmem, ⟨0, _⟩ => ⟨S2048x1024, .bf16⟩
  | .local _ .vmem, ⟨1, _⟩ => ⟨S2048x1024, .f32⟩
  | .local _ .vmem, ⟨2, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DwoReferenceIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Dwi.lean ====
abbrev S2048x2816 : Shape := ⟨2, ![2048, 2816]⟩
abbrev S2048x1024 : Shape := ⟨2, ![2048, 1024]⟩
abbrev S1024 : Shape := ⟨1, ![1024]⟩
abbrev S1024x2816 : Shape := ⟨2, ![1024, 2816]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x1408 : Shape := ⟨2, ![2048, 1408]⟩
abbrev S1024x1408 : Shape := ⟨2, ![1024, 1408]⟩

abbrev nBuf : Space → Nat
  | .hbm => 22
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S1024, .f32⟩
  | .hbm, ⟨3, _⟩ => ⟨S1024x2816, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | .hbm, ⟨21, _⟩ => ⟨S1024x2816, .bf16⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S1024x1408, .bf16⟩
  | .local _ .vmem, ⟨4, _⟩ => ⟨S1024x1408, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwiReferenceIdeal.lean ====
abbrev S2048x2816 : Shape := ⟨2, ![2048, 2816]⟩
abbrev S2048x1024 : Shape := ⟨2, ![2048, 1024]⟩
abbrev S1024 : Shape := ⟨1, ![1024]⟩
abbrev S1024x2816 : Shape := ⟨2, ![1024, 2816]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2816x1024 : Shape := ⟨2, ![2816, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S1024, .f32⟩
  | .hbm, ⟨3, _⟩ => ⟨S1024x2816, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x2816, .f32⟩
  | .hbm, ⟨21, _⟩ => ⟨S2048x2816, .f32⟩
  | .hbm, ⟨22, _⟩ => ⟨S2816x1024, .f32⟩
  | .hbm, ⟨23, _⟩ => ⟨S1024x2816, .f32⟩
  | .hbm, ⟨24, _⟩ => ⟨S1024x2816, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Dnorm1.lean ====
abbrev S2048x2816 : Shape := ⟨2, ![2048, 2816]⟩
abbrev S2048x1024 : Shape := ⟨2, ![2048, 1024]⟩
abbrev S1024 : Shape := ⟨1, ![1024]⟩
abbrev S1024x2816 : Shape := ⟨2, ![1024, 2816]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 11
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S1024x2816, .f32⟩
  | .hbm, ⟨5, _⟩ => ⟨S1024x2816, .bf16⟩
  | .hbm, ⟨6, _⟩ => ⟨S1x1024, .f32⟩
  | .hbm, ⟨7, _⟩ => ⟨S2048x1024, .f32⟩
  | .hbm, ⟨8, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S1024x2816, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_17 : BitVec 32 := 0#32
  let v41 : BitVec 1 := Scalar.cmpi .ne v40 c0_i32_17
  v41

def k0_cond2 (i : grid0.Coords) : BitVec 1 :=
  let arg0 : BitVec 32 := BitVec.ofNat 32 (i 0).val
  let c0_i32_18 : BitVec 32 := 0#32
  let v42 : BitVec 1 := Scalar.cmpi .sgt arg0 c0_i32_18
  let v43 : BitVec 32 := Scalar.extui v42
  let c0_i32_19 : BitVec 32 := 0#32
  let v44 : BitVec 1 := Scalar.cmpi .ne v43 c0_i32_19
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Dnorm1ReferenceIdeal.lean ====
abbrev S2048x2816 : Shape := ⟨2, ![2048, 2816]⟩
abbrev S2048x1024 : Shape := ⟨2, ![2048, 1024]⟩
abbrev S1024 : Shape := ⟨1, ![1024]⟩
abbrev S1024x2816 : Shape := ⟨2, ![1024, 2816]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S1024x2816, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x2816, .f32⟩
  | .hbm, ⟨26, _⟩ => ⟨S2048x2816, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Ff2.lean ====
abbrev S2048x1024 : Shape := ⟨2, ![2048, 1024]⟩
abbrev S2048x4096 : Shape := ⟨2, ![2048, 4096]⟩
abbrev S4096x1024 : Shape := ⟨2, ![4096, 1024]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x4096, .bf16⟩
  | .hbm, ⟨2, _⟩ => ⟨S4096x1024, .f32⟩
  | .hbm, ⟨3, _⟩ => ⟨S4096x1024, .bf16⟩
  | .hbm, ⟨4, _⟩ => ⟨S2048x1024, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Ff2ReferenceIdeal.lean ====
abbrev S2048x1024 : Shape := ⟨2, ![2048, 1024]⟩
abbrev S2048x4096 : Shape := ⟨2, ![2048, 4096]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .bf16⟩
  | .hbm, ⟨2, _⟩ => ⟨S4096x1024, .f32⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x1024, .f32⟩
  | .hbm, ⟨9, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Out.lean ====
abbrev S2048x1024 : Shape := ⟨2, ![2048, 1024]⟩
abbrev S1024x1024 : Shape := ⟨2, ![1024, 1024]⟩
abbrev S1024x512 : Shape := ⟨2, ![1024, 512]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .f32⟩
  | .hbm, ⟨3, _⟩ => ⟨S1024x1024, .bf16⟩
  | .hbm, ⟨4, _⟩ => ⟨S2048x1024, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Ple.lean ====
abbrev S2048x1024 : Shape := ⟨2, ![2048, 1024]⟩
abbrev S2048x256 : Shape := ⟨2, ![2048, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S256x4x256 : Shape := ⟨3, ![256, 4, 256]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 29
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .bf16⟩
  | .hbm, ⟨23, _⟩ => ⟨S2048x256, .bf16⟩
  | .hbm, ⟨24, _⟩ => ⟨S256x1024, .bf16⟩
  | .hbm, ⟨25, _⟩ => ⟨S256x4x256, .bf16⟩
  | .hbm, ⟨26, _⟩ => ⟨S4x256x256, .bf16⟩
  | .hbm, ⟨27, _⟩ => ⟨S2048x1024, .f32⟩
  | .hbm, ⟨28, _⟩ => ⟨S2048x1024, .bf16⟩
  | .local _ .vmem, ⟨0, _⟩ => ⟨S2048x256, .bf16⟩
  | .local _ .vmem, ⟨1, _⟩ => ⟨S1x256x256, .bf16⟩
  | .local _ .vmem, ⟨2, _⟩ => ⟨S1x256x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .bf16⟩
  | .local _ .vmem, ⟨10, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PleReferenceIdeal.lean ====
abbrev S2048x1024 : Shape := ⟨2, ![2048, 1024]⟩
abbrev S2048x256 : Shape := ⟨2, ![2048, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Sgu.lean ====
abbrev S2048x1024 : Shape := ⟨2, ![2048, 1024]⟩
abbrev S2048x2816 : Shape := ⟨2, ![2048, 2816]⟩
abbrev S256 : Shape := ⟨1, ![256]⟩
abbrev S4x128x128 : Shape := ⟨3, ![4, 128, 128]⟩
abbrev S4x128 : Shape := ⟨2, ![4, 128]⟩
abbrev S1x256 : Shape := ⟨2, ![1, 256]⟩
abbrev S128x4 : Shape := ⟨2, ![128, 4]⟩
abbrev S128x4x64 : Shape := ⟨3, ![128, 4, 64]⟩
abbrev S128x256 : Shape := ⟨2, ![128, 256]⟩
abbrev S2048x256 : Shape := ⟨2, ![2048, 256]⟩
abbrev S128x128 : Shape := ⟨2, ![128, 128]⟩
abbrev S512x256 : Shape := ⟨2, ![512, 256]⟩
abbrev S256x256 : Shape := ⟨2, ![256, 256]⟩
abbrev S1024x256 : Shape := ⟨2, ![1024, 256]⟩
abbrev S256x128 : Shape := ⟨2, ![256, 128]⟩
abbrev S1x128x128 : Shape := ⟨3, ![1, 128, 128]⟩

abbrev nBuf : Space → Nat
  | .hbm => 14
  | .vmem => 17
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S1x256, .f32⟩
  | .hbm, ⟨6, _⟩ => ⟨S128x4, .f32⟩
  | .hbm, ⟨7, _⟩ => ⟨S128x4x64, .f32⟩
  | .hbm, ⟨8, _⟩ => ⟨S128x256, .f32⟩
  | .hbm, ⟨9, _⟩ => ⟨S2048x256, .bf16⟩
  | .hbm, ⟨10, _⟩ => ⟨S2048x256, .bf16⟩
  | .hbm, ⟨11, _⟩ => ⟨S4x128x128, .f32⟩
  | .hbm, ⟨12, _⟩ => ⟨S128x128, .f32⟩
  | .hbm, ⟨13, _⟩ => ⟨S1x256, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S1x256, .f32⟩
  | .local _ .vmem, ⟨7, _⟩ => ⟨S4x128x128, .f32⟩
  | .local _ .vmem, ⟨8, _⟩ => ⟨S128x256, .f32⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S4x128x128, .f32⟩
  | .local _ .vmem, ⟨14, _⟩ => ⟨S128x128, .f32⟩
  | .local _ .vmem, ⟨15, _⟩ => ⟨S1x256, .f32⟩
  | .local _ .vmem, ⟨16, _⟩ => ⟨S512x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32_343 : BitVec 32 := 0#32
  let v785 : BitVec 1 := Scalar.cmpi .eq arg0 c0_i32_343
  let v786 : BitVec 32 := Scalar.extui v785
  let c0_i32_344 : BitVec 32 := 0#32
  let v787 : BitVec 1 := Scalar.cmpi .ne v786 c0_i32_344
  v787

def k0_cond2 (i : grid0.Coords) : BitVec 1 :=
  let arg0 : BitVec 32 := BitVec.ofNat 32 (i 0).val
  let c0_i32_345 : BitVec 32 := 0#32
  let v788 : BitVec 1 := Scalar.cmpi .sgt arg0 c0_i32_345
  let v789 : BitVec 32 := Scalar.extui v788
  let c0_i32_346 : BitVec 32 := 0#32
  let v790 : BitVec 1 := Scalar.cmpi .ne v789 c0_i32_346
  v790

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SguReferenceIdeal.lean ====
abbrev S2048x1024 : Shape := ⟨2, ![2048, 1024]⟩
abbrev S2048x2816 : Shape := ⟨2, ![2048, 2816]⟩
abbrev S256 : Shape := ⟨1, ![256]⟩
abbrev S4x128x128 : Shape := ⟨3, ![4, 128, 128]⟩
abbrev S4x128 : Shape := ⟨2, ![4, 128]⟩
abbrev S2048x256 : Shape := ⟨2, ![2048, 256]⟩
abbrev S_ : Shape := ⟨0, ![]⟩
abbrev S2048x4x64 : Shape := ⟨3, ![2048, 4, 64]⟩
abbrev S4x64 : Shape := ⟨2, ![4, 64]⟩
abbrev S2048x4 : Shape := ⟨2, ![2048, 4]⟩
abbrev S2048x4x1 : Shape := ⟨3, ![2048, 4, 1]⟩
abbrev S1x4x64 : Shape := ⟨3, ![1, 4, 64]⟩
abbrev S16x128x4x64 : Shape := ⟨4, ![16, 128, 4, 64]⟩
abbrev S128x128 : Shape := ⟨2, ![128, 128]⟩
abbrev S1x128x128 : Shape := ⟨3, ![1, 128, 128]⟩
abbrev S4x16x64x128 : Shape := ⟨4, ![4, 16, 64, 128]⟩
abbrev S128x4 : Shape := ⟨2, ![128, 4]⟩
abbrev S128x4x1 : Shape := ⟨3, ![128, 4, 1]⟩
abbrev S1x128x4x1 : Shape := ⟨4, ![1, 128, 4, 1]⟩
abbrev S1x256 : Shape := ⟨2, ![1, 256]⟩

abbrev nBuf : Space → Nat
  | .hbm => 101
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S2048x256, .bf16⟩
  | .hbm, ⟨6, _⟩ => ⟨S2048x256, .f32⟩
  | .hbm, ⟨7, _⟩ => ⟨S2048x256, .bf16⟩
  | .hbm, ⟨8, _⟩ => ⟨S2048x256, .f32⟩
  | .hbm, ⟨9, _⟩ => ⟨S2048x256, .bf16⟩
  | .hbm, ⟨10, _⟩ => ⟨S2048x256, .f32⟩
  | .hbm, ⟨11, _⟩ => ⟨S_, .f32⟩
  | .hbm, ⟨12, _⟩ => ⟨S2048x256, .f32⟩
  | .hbm, ⟨13, _⟩ => ⟨S2048x256, .f32⟩
  | .hbm, ⟨14, _⟩ => ⟨S2048x256, .f32⟩
  | .hbm, ⟨15, _⟩ => ⟨S_, .f32⟩
  | .hbm, ⟨16, _⟩ => ⟨S2048x256, .f32⟩
  | .hbm, ⟨17, _⟩ => ⟨S2048x256, .f32⟩
  | .hbm, ⟨18, _⟩ => ⟨S2048x256, .f32⟩
  | .hbm, ⟨19, _⟩ => ⟨S2048x256, .f32⟩
  | .hbm, ⟨20, _⟩ => ⟨S_, .f32⟩
  | .hbm, ⟨21, _⟩ => ⟨S2048x256, .f32⟩
  | .hbm, ⟨22, _⟩ => ⟨S2048x256, .f32⟩
  | .hbm, ⟨23, _⟩ => ⟨S2048x256, .f32⟩
  | .hbm, ⟨24, _⟩ => ⟨S_, .f32⟩
  | .hbm, ⟨25, _⟩ => ⟨S2048x256, .f32⟩
  | .hbm, ⟨26, _⟩ => ⟨S2048x256, .f32⟩
  | .hbm, ⟨27, _⟩ => ⟨S2048x256, .f32⟩
  | .hbm, ⟨28, _⟩ => ⟨S2048x256, .f32⟩
  | .hbm, ⟨29, _⟩ => ⟨S2048x4x64, .f32⟩
  | .hbm, ⟨30, _⟩ => ⟨S4x64, .f32⟩
  | .hbm, ⟨31, _⟩ => ⟨S2048x4x64, .f32⟩
  | .hbm, ⟨32, _⟩ => ⟨S_, .f32⟩
  | .hbm, ⟨33, _⟩ => ⟨S2048x4, .f32⟩
  | .hbm, ⟨34, _⟩ => ⟨S2048x4x1, .f32⟩
  | .hbm, ⟨35, _⟩ => ⟨S_, .f32⟩
  | .hbm, ⟨36, _⟩ => ⟨S2048x4x1, .f32⟩
  | .hbm, ⟨37, _⟩ => ⟨S2048x4x1, .f32⟩
  | .hbm, ⟨38, _⟩ => ⟨S_, .f32⟩
  | .hbm, ⟨39, _⟩ => ⟨S2048x4x1, .f32⟩
  | .hbm, ⟨40, _⟩ => ⟨S2048x4x1, .f32⟩
  | .hbm, ⟨41, _⟩ => ⟨S2048x4x1, .f32⟩
  | .hbm, ⟨42, _⟩ => ⟨S2048x4x64, .f32⟩
  | .hbm, ⟨43, _⟩ => ⟨S2048x4x64, .f32⟩
  | .hbm, ⟨44, _⟩ => ⟨S1x4x64, .f32⟩
  | .hbm, ⟨45, _⟩ => ⟨S2048x4x64, .f32⟩
  | .hbm, ⟨46, _⟩ => ⟨S2048x4x64, .f32⟩
  | .hbm, ⟨47, _⟩ => ⟨S16x128x4x64, .f32⟩
  | .hbm, ⟨48, _⟩ => ⟨S_, .f32⟩
  | .hbm, ⟨49, _⟩ => ⟨S128x128, .f32⟩
  | .hbm, ⟨50, _⟩ => ⟨S128x128, .i32⟩
  | .hbm, ⟨51, _⟩ => ⟨S_, .i32⟩
  | .hbm, ⟨52, _⟩ => ⟨S128x128, .i32⟩
  | .hbm, ⟨53, _⟩ => ⟨S128x128, .i32⟩
  | .hbm, ⟨54, _⟩ => ⟨S128x128, .i32⟩
  | .hbm, ⟨55, _⟩ => ⟨S128x128, .i1⟩
  | .hbm, ⟨56, _⟩ => ⟨S_, .f32⟩
  | .hbm, ⟨57, _⟩ => ⟨S128x128, .f32⟩
  | .hbm, ⟨58, _⟩ => ⟨S128x128, .f32⟩
  | .hbm, ⟨59, _⟩ => ⟨S1x128x128, .f32⟩
  | .hbm, ⟨60, _⟩ => ⟨S4x128x128, .f32⟩
  | .hbm, ⟨61, _⟩ => ⟨S4x128x128, .f32⟩
  | .hbm, ⟨62, _⟩ => ⟨S4x16x64x128, .f32⟩
  | .hbm, ⟨63, _⟩ => ⟨S16x128x4x64, .f32⟩
  | .hbm, ⟨64, _⟩ => ⟨S128x4, .f32⟩
  | .hbm, ⟨65, _⟩ => ⟨S128x4x1, .f32⟩
  | .hbm, ⟨66, _⟩ => ⟨S1x128x4x1, .f32⟩
  | .hbm, ⟨67, _⟩ => ⟨S16x128x4x64, .f32⟩
  | .hbm, ⟨68, _⟩ => ⟨S16x128x4x64, .f32⟩
  | .hbm, ⟨69, _⟩ => ⟨S2048x256, .f32⟩
  | .hbm, ⟨70, _⟩ => ⟨S2048x256, .f32⟩
  | .hbm, ⟨71, _⟩ => ⟨S2048x256, .f32⟩
  | .hbm, ⟨72, _⟩ => ⟨S16x128x4x64, .f32⟩
  | .hbm, ⟨73, _⟩ => ⟨S_, .f32⟩
  | .hbm, ⟨74, _⟩ => ⟨S128x4, .f32⟩
  | .hbm, ⟨75, _⟩ => ⟨S1x128x4x1, .f32⟩
  | .hbm, ⟨76, _⟩ => ⟨S_, .f32⟩
  | .hbm, ⟨77, _⟩ => ⟨S128x4, .f32⟩
  | .hbm, ⟨78, _⟩ => ⟨S128x4x1, .f32⟩
  | .hbm, ⟨79, _⟩ => ⟨S_, .f32⟩
  | .hbm, ⟨80, _⟩ => ⟨S128x4, .f32⟩
  | .hbm, ⟨81, _⟩ => ⟨S4x128, .f32⟩
  | .hbm, ⟨82, _⟩ => ⟨S4x16x64x128, .f32⟩
  | .hbm, ⟨83, _⟩ => ⟨S4x128x128, .f32⟩
  | .hbm, ⟨84, _⟩ => ⟨S4x16x64x128, .f32⟩
  | .hbm, ⟨85, _⟩ => ⟨S16x128x4x64, .f32⟩
  | .hbm, ⟨86, _⟩ => ⟨S4x128x128, .f32⟩
  | .hbm, ⟨87, _⟩ => ⟨S4x128x128, .f32⟩
  | .hbm, ⟨88, _⟩ => ⟨S2048x4x64, .f32⟩
  | .hbm, ⟨89, _⟩ => ⟨S2048x4x64, .f32⟩
  | .hbm, ⟨90, _⟩ => ⟨S_, .f32⟩
  | .hbm, ⟨91, _⟩ => ⟨S4x64, .f32⟩
  | .hbm, ⟨92, _⟩ => ⟨S1x4x64, .f32⟩
  | .hbm, ⟨93, _⟩ => ⟨S_, .f32⟩
  | .hbm, ⟨94, _⟩ => ⟨S4x64, .f32⟩
  | .hbm, ⟨95, _⟩ => ⟨S256, .f32⟩
  | .hbm, ⟨96, _⟩ => ⟨S128x4, .f32⟩
  | .hbm, ⟨97, _⟩ => ⟨S_, .i32⟩
  | .hbm, ⟨98, _⟩ => ⟨S_, .f32⟩
  | .hbm, ⟨99, _⟩ => ⟨S128x128, .f32⟩
  | .hbm, ⟨100, _⟩ => ⟨S1x256, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_call0_v0 : Ref sig .tc := ⟨.hbm, 50, rfl⟩
abbrev main_call0_c : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_cst : Ref sig .tc := ⟨.hbm, 56, rfl⟩
abbrev main_call0_v5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_10 : Ref sig .tc := ⟨.hbm, 90, rfl⟩
abbrev main_v66 : Ref sig .tc := ⟨.hbm, 91, rfl⟩
abbrev main_v67 : Ref sig .tc := ⟨.hbm, 92, rfl⟩
abbrev main_cst_11 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c : Ref sig .tc := ⟨.hbm, 97, rfl⟩
abbrev main_call1_v0 : Ref sig .tc := ⟨.hbm, 98, rfl⟩
abbrev main_v71 : Ref sig .tc := ⟨.hbm, 99, rfl⟩
abbrev main_v72 : Ref sig .tc := ⟨.hbm, 100, rfl⟩

abbrev nD : Nat := 1
abbrev τ : Topo := Topo.v7x

variable {F : FTy → Type} [FloatOps F]
-- ==== NormIn.lean ====
abbrev S2048x1024 : Shape := ⟨2, ![2048, 1024]⟩
abbrev S1024 : Shape := ⟨1, ![1024]⟩
abbrev S1024x2816 : Shape := ⟨2, ![1024, 2816]⟩
abbrev S1x1024 : Shape := ⟨2, ![1, 1024]⟩
abbrev S2048x2816 : Shape := ⟨2, ![2048, 2816]⟩
abbrev S1024x256 : Shape := ⟨2, ![1024, 256]⟩
abbrev S2048x256 : Shape := ⟨2, ![2048, 256]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .bf16⟩
  | .hbm, ⟨4, _⟩ => ⟨S1x1024, .f32⟩
  | .hbm, ⟨5, _⟩ => ⟨S2048x1024, .bf16⟩
  | .hbm, ⟨6, _⟩ => ⟨S2048x2816, .bf16⟩
  | .local _ .vmem, ⟨0, _⟩ => ⟨S2048x1024, .f32⟩
  | .local _ .vmem, ⟨1, _⟩ => ⟨S1x1024, .f32⟩
  | .local _ .vmem, ⟨2, _⟩ => ⟨S1024x256, .bf16⟩
  | .local _ .vmem, ⟨3, _⟩ => ⟨S1024x256, .bf16⟩
  | .local _ .vmem, ⟨4, _⟩ => ⟨S2048x1024, .bf16⟩
  | .local _ .vmem, ⟨5, _⟩ => ⟨S2048x256, .bf16⟩
  | .local _ .vmem, ⟨6, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v10 : BitVec 32 := Scalar.addi c0_i32_6 c8_i32
  let c1_i32 : BitVec 32 := 1#32
  ⟨c0_i32_6, v10, c1_i32⟩
def k0_mult1 (k0_t1 : Fin k0_t1_loop.trips) : BitVec 32 :=
  let c0_i32_6 : BitVec 32 := 0#32
  let c1_i32 : BitVec 32 := 1#32
  let arg6 : BitVec 32 := Scf.iv c0_i32_6 c1_i32 k0_t1
  let c256_i32 : BitVec 32 := 256#32
  let v11 : BitVec 32 := Scalar.muli arg6 c256_i32
  v11
def k0_off1 (k0_t1 : Fin k0_t1_loop.trips) : Fin 2 → Nat :=
  let c0_i32_6 : BitVec 32 := 0#32
  let c1_i32 : BitVec 32 := 1#32
  let arg6 : BitVec 32 := Scf.iv c0_i32_6 c1_i32 k0_t1
  let c256_i32 : BitVec 32 := 256#32
  let v11 : BitVec 32 := Scalar.muli arg6 c256_i32
  let v12 : BitVec 32 := v11
  let v13 : Index := Scalar.indexCast v12
  let c0_8 : Index := 0#32
  ![v13.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormInReferenceIdeal.lean ====
abbrev S2048x1024 : Shape := ⟨2, ![2048, 1024]⟩
abbrev S1024 : Shape := ⟨1, ![1024]⟩
abbrev S1024x2816 : Shape := ⟨2, ![1024, 2816]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x2816, .f32⟩
  | .hbm, ⟨21, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== NormFf.lean ====
abbrev S2048x1024 : Shape := ⟨2, ![2048, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S2048x4096 : Shape := ⟨2, ![2048, 4096]⟩
abbrev S1x1024x1024 : Shape := ⟨3, ![1, 1024, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1024x4x1024, .bf16⟩
  | .hbm, ⟨5, _⟩ => ⟨S4x1024x1024, .bf16⟩
  | .hbm, ⟨6, _⟩ => ⟨S1x1024, .f32⟩
  | .hbm, ⟨7, _⟩ => ⟨S2048x1024, .bf16⟩
  | .hbm, ⟨8, _⟩ => ⟨S2048x4096, .bf16⟩
  | .local _ .vmem, ⟨0, _⟩ => ⟨S2048x1024, .f32⟩
  | .local _ .vmem, ⟨1, _⟩ => ⟨S1x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c8_i32 : BitVec 32 := 8#32
  let v10 : BitVec 32 := Scalar.addi c0_i32_7 c8_i32
  let c1_i32 : BitVec 32 := 1#32
  ⟨c0_i32_7, v10, c1_i32⟩
def k0_mult1 (k0_t1 : Fin k0_t1_loop.trips) : BitVec 32 :=
  let c0_i32_7 : BitVec 32 := 0#32
  let c1_i32 : BitVec 32 := 1#32
  let arg6 : BitVec 32 := Scf.iv c0_i32_7 c1_i32 k0_t1
  let c256_i32 : BitVec 32 := 256#32
  let v11 : BitVec 32 := Scalar.muli arg6 c256_i32
  v11
def k0_off1 (k0_t1 : Fin k0_t1_loop.trips) : Fin 2 → Nat :=
  let c0_i32_7 : BitVec 32 := 0#32
  let c1_i32 : BitVec 32 := 1#32
  let arg6 : BitVec 32 := Scf.iv c0_i32_7 c1_i32 k0_t1
  let c256_i32 : BitVec 32 := 256#32
  let v11 : BitVec 32 := Scalar.muli arg6 c256_i32
  let v12 : BitVec 32 := v11
  let v13 : Index := Scalar.indexCast v12
  let c0_9 : Index := 0#32
  ![v13.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormFfReferenceIdeal.lean ====
abbrev S2048x1024 : Shape := ⟨2, ![2048, 1024]⟩
abbrev S1024 : Shape := ⟨1, ![1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x4096, .f32⟩
  | .hbm, ⟨21, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== NormGate.lean ====
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S1024x512 : Shape := ⟨2, ![1024, 512]⟩
abbrev S2048x512 : Shape := ⟨2, ![2048, 512]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S1024x1024, .bf16⟩
  | .hbm, ⟨4, _⟩ => ⟨S1x1024, .f32⟩
  | .hbm, ⟨5, _⟩ => ⟨S2048x1024, .bf16⟩
  | .hbm, ⟨6, _⟩ => ⟨S2048x1024, .bf16⟩
  | .local _ .vmem, ⟨0, _⟩ => ⟨S2048x1024, .f32⟩
  | .local _ .vmem, ⟨1, _⟩ => ⟨S1x1024, .f32⟩
  | .local _ .vmem, ⟨2, _⟩ => ⟨S1024x512, .bf16⟩
  | .local _ .vmem, ⟨3, _⟩ => ⟨S1024x512, .bf16⟩
  | .local _ .vmem, ⟨4, _⟩ => ⟨S2048x1024, .bf16⟩
  | .local _ .vmem, ⟨5, _⟩ => ⟨S2048x512, .bf16⟩
  | .local _ .vmem, ⟨6, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v10 : BitVec 32 := Scalar.addi c0_i32_6 c8_i32
  let c1_i32 : BitVec 32 := 1#32
  ⟨c0_i32_6, v10, c1_i32⟩
def k0_mult1 (k0_t1 : Fin k0_t1_loop.trips) : BitVec 32 :=
  let c0_i32_6 : BitVec 32 := 0#32
  let c1_i32 : BitVec 32 := 1#32
  let arg6 : BitVec 32 := Scf.iv c0_i32_6 c1_i32 k0_t1
  let c256_i32 : BitVec 32 := 256#32
  let v11 : BitVec 32 := Scalar.muli arg6 c256_i32
  v11
def k0_off1 (k0_t1 : Fin k0_t1_loop.trips) : Fin 2 → Nat :=
  let c0_i32_6 : BitVec 32 := 0#32
  let c1_i32 : BitVec 32 := 1#32
  let arg6 : BitVec 32 := Scf.iv c0_i32_6 c1_i32 k0_t1
  let c256_i32 : BitVec 32 := 256#32
  let v11 : BitVec 32 := Scalar.muli arg6 c256_i32
  let v12 : BitVec 32 := v11
  let v13 : Index := Scalar.indexCast v12
  let c0_8 : Index := 0#32
  ![v13.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormGateReferenceIdeal.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x1024, .f32⟩
  | .hbm, ⟨21, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Loss.lean ====
abbrev S2048x1024 : Shape := ⟨2, ![2048, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S8x128, .f32⟩
  | .hbm, ⟨3, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_10 : BitVec 32 := 0#32
  let v21 : BitVec 1 := Scalar.cmpi .ne v20 c0_i32_10
  v21

def k0_cond2 (i : grid0.Coords) : BitVec 1 :=
  let arg0 : BitVec 32 := BitVec.ofNat 32 (i 0).val
  let c0_i32_11 : BitVec 32 := 0#32
  let v22 : BitVec 1 := Scalar.cmpi .sgt arg0 c0_i32_11
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossReferenceIdeal.lean ====
abbrev S2048x1024 : Shape := ⟨2, ![2048, 1024]⟩
abbrev S_ : Shape := ⟨0, ![]⟩
abbrev S2048 : Shape := ⟨1, ![2048]⟩
abbrev S8x128 : Shape := ⟨2, ![8, 128]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S2048x1024, .f32⟩
  | .hbm, ⟨35, _⟩ => ⟨S2048x1024, .f32⟩
  | .hbm, ⟨36, _⟩ => ⟨S8x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_cst_7 : Ref sig .tc := ⟨.hbm, 25, rfl⟩
abbrev main_v15 : Ref sig .tc := ⟨.hbm, 26, rfl⟩
abbrev main_cst_8 : Ref sig .tc := ⟨.hbm, 27, rfl⟩
abbrev main_cst_9 : Ref sig .tc := ⟨.hbm, 28, rfl⟩
abbrev main_v16 : Ref sig .tc := ⟨.hbm, 29, rfl⟩
abbrev main_v17 : Ref sig .tc := ⟨.hbm, 30, rfl⟩
abbrev main_cst_10 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== AdamNorm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormReferenceIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHead.lean ====
abbrev S4x64 : Shape := ⟨2, ![4, 64]⟩

abbrev nBuf : Space → Nat
  | .hbm => 7
  | .vmem => 7
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S4x64, .f32⟩
  | .hbm, ⟨6, _⟩ => ⟨S4x64, .f32⟩
  | .local _ .vmem, ⟨0, _⟩ => ⟨S4x64, .f32⟩
  | .local _ .vmem, ⟨1, _⟩ => ⟨S4x64, .f32⟩
  | .local _ .vmem, ⟨2, _⟩ => ⟨S4x64, .f32⟩
  | .local _ .vmem, ⟨3, _⟩ => ⟨S4x64, .f32⟩
  | .local _ .vmem, ⟨4, _⟩ => ⟨S4x64, .f32⟩
  | .local _ .vmem, ⟨5, _⟩ => ⟨S4x64, .f32⟩
  | .local _ .vmem, ⟨6, _⟩ => ⟨S4x64, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadReferenceIdeal.lean ====
abbrev S4x64 : Shape := ⟨2, ![4, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S_, .f32⟩
  | .hbm, ⟨5, _⟩ => ⟨S4x64, .f32⟩
  | .hbm, ⟨6, _⟩ => ⟨S4x64, .f32⟩
  | .hbm, ⟨7, _⟩ => ⟨S_, .f32⟩
  | .hbm, ⟨8, _⟩ => ⟨S4x64, .f32⟩
  | .hbm, ⟨9, _⟩ => ⟨S4x64, .f32⟩
  | .hbm, ⟨10, _⟩ => ⟨S4x64, .f32⟩
  | .hbm, ⟨11, _⟩ => ⟨S_, .f32⟩
  | .hbm, ⟨12, _⟩ => ⟨S4x64, .f32⟩
  | .hbm, ⟨13, _⟩ => ⟨S4x64, .f32⟩
  | .hbm, ⟨14, _⟩ => ⟨S4x64, .f32⟩
  | .hbm, ⟨15, _⟩ => ⟨S_, .f32⟩
  | .hbm, ⟨16, _⟩ => ⟨S4x64, .f32⟩
  | .hbm, ⟨17, _⟩ => ⟨S4x64, .f32⟩
  | .hbm, ⟨18, _⟩ => ⟨S4x64, .f32⟩
  | .hbm, ⟨19, _⟩ => ⟨S_, .f32⟩
  | .hbm, ⟨20, _⟩ => ⟨S4x64, .f32⟩
  | .hbm, ⟨21, _⟩ => ⟨S4x64, .f32⟩
  | .hbm, ⟨22, _⟩ => ⟨S_, .f32⟩
  | .hbm, ⟨23, _⟩ => ⟨S4x64, .f32⟩
  | .hbm, ⟨24, _⟩ => ⟨S4x64, .f32⟩
  | .hbm, ⟨25, _⟩ => ⟨S4x64, .f32⟩
  | .hbm, ⟨26, _⟩ => ⟨S_, .f32⟩
  | .hbm, ⟨27, _⟩ => ⟨S4x64, .f32⟩
  | .hbm, ⟨28, _⟩ => ⟨S4x64, .f32⟩
  | .hbm, ⟨29, _⟩ => ⟨S4x64, .f32⟩
  | .hbm, ⟨30, _⟩ => ⟨S_, .f32⟩
  | .hbm, ⟨31, _⟩ => ⟨S4x64, .f32⟩
  | .hbm, ⟨32, _⟩ => ⟨S4x64, .f32⟩
  | .hbm, ⟨33, _⟩ => ⟨S4x64, .f32⟩
  | .hbm, ⟨34, _⟩ => ⟨S_, .f32⟩
  | .hbm, ⟨35, _⟩ => ⟨S4x64, .f32⟩
  | .hbm, ⟨36, _⟩ => ⟨S4x64, .f32⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSguNorm.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSguNormReferenceIdeal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S12x64 : Shape := ⟨2, ![12, 64]⟩

abbrev nBuf : Space → Nat
  | .hbm => 7
  | .vmem => 7
  | .smem => 0
  | _ => 0

abbrev bufTy : (tb : Table) → Fin (tcTables nBuf tb) → BufTy
  | .hbm, ⟨0, _⟩ => ⟨S12x64, .f32⟩
  | .hbm, ⟨1, _⟩ => ⟨S12x64, .f32⟩
  | .hbm, ⟨2, _⟩ => ⟨S12x64, .f32⟩
  | .hbm, ⟨3, _⟩ => ⟨S12x64, .f32⟩
  | .hbm, ⟨4, _⟩ => ⟨S12x64, .f32⟩
  | .hbm, ⟨5, _⟩ => ⟨S12x64, .f32⟩
  | .hbm, ⟨6, _⟩ => ⟨S12x64, .f32⟩
  | .local _ .vmem, ⟨0, _⟩ => ⟨S12x64, .f32⟩
  | .local _ .vmem, ⟨1, _⟩ => ⟨S12x64, .f32⟩
  | .local _ .vmem, ⟨2, _⟩ => ⟨S12x64, .f32⟩
  | .local _ .vmem, ⟨3, _⟩ => ⟨S12x64, .f32⟩
  | .local _ .vmem, ⟨4, _⟩ => ⟨S12x64, .f32⟩
  | .local _ .vmem, ⟨5, _⟩ => ⟨S12x64, .f32⟩
  | .local _ .vmem, ⟨6, _⟩ => ⟨S12x64, .f32⟩
  | _, _ => ⟨S12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvReferenceIdeal.lean ====
abbrev S12x64 : Shape := ⟨2, ![12, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12x64, .f32⟩
  | .hbm, ⟨1, _⟩ => ⟨S12x64, .f32⟩
  | .hbm, ⟨2, _⟩ => ⟨S12x64, .f32⟩
  | .hbm, ⟨3, _⟩ => ⟨S12x64, .f32⟩
  | .hbm, ⟨4, _⟩ => ⟨S_, .f32⟩
  | .hbm, ⟨5, _⟩ => ⟨S12x64, .f32⟩
  | .hbm, ⟨6, _⟩ => ⟨S12x64, .f32⟩
  | .hbm, ⟨7, _⟩ => ⟨S_, .f32⟩
  | .hbm, ⟨8, _⟩ => ⟨S12x64, .f32⟩
  | .hbm, ⟨9, _⟩ => ⟨S12x64, .f32⟩
  | .hbm, ⟨10, _⟩ => ⟨S12x64, .f32⟩
  | .hbm, ⟨11, _⟩ => ⟨S_, .f32⟩
  | .hbm, ⟨12, _⟩ => ⟨S12x64, .f32⟩
  | .hbm, ⟨13, _⟩ => ⟨S12x64, .f32⟩
  | .hbm, ⟨14, _⟩ => ⟨S12x64, .f32⟩
  | .hbm, ⟨15, _⟩ => ⟨S_, .f32⟩
  | .hbm, ⟨16, _⟩ => ⟨S12x64, .f32⟩
  | .hbm, ⟨17, _⟩ => ⟨S12x64, .f32⟩
  | .hbm, ⟨18, _⟩ => ⟨S12x64, .f32⟩
  | .hbm, ⟨19, _⟩ => ⟨S_, .f32⟩
  | .hbm, ⟨20, _⟩ => ⟨S12x64, .f32⟩
  | .hbm, ⟨21, _⟩ => ⟨S12x64, .f32⟩
  | .hbm, ⟨22, _⟩ => ⟨S_, .f32⟩
  | .hbm, ⟨23, _⟩ => ⟨S12x64, .f32⟩
  | .hbm, ⟨24, _⟩ => ⟨S12x64, .f32⟩
  | .hbm, ⟨25, _⟩ => ⟨S12x64, .f32⟩
  | .hbm, ⟨26, _⟩ => ⟨S_, .f32⟩
  | .hbm, ⟨27, _⟩ => ⟨S12x64, .f32⟩
  | .hbm, ⟨28, _⟩ => ⟨S12x64, .f32⟩
  | .hbm, ⟨29, _⟩ => ⟨S12x64, .f32⟩
  | .hbm, ⟨30, _⟩ => ⟨S_, .f32⟩
  | .hbm, ⟨31, _⟩ => ⟨S12x64, .f32⟩
  | .hbm, ⟨32, _⟩ => ⟨S12x64, .f32⟩
  | .hbm, ⟨33, _⟩ => ⟨S12x64, .f32⟩
  | .hbm, ⟨34, _⟩ => ⟨S_, .f32⟩
  | .hbm, ⟨35, _⟩ => ⟨S12x64, .f32⟩
  | .hbm, ⟨36, _⟩ => ⟨S12x64, .f32⟩
  | _, _ => ⟨S12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSguW.lean ====
abbrev S2048x128 : Shape := ⟨2, ![2048, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSguWReferenceIdeal.lean ====
abbrev S2048x128 : Shape := ⟨2, ![2048, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSguB.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSguBReferenceIdeal.lean ====
abbrev S16x128 : Shape := ⟨2, ![16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SguFwd.lean ====
abbrev S2048x2816 : Shape := ⟨2, ![2048, 2816]⟩
abbrev S256 : Shape := ⟨1, ![256]⟩
abbrev S4x128x128 : Shape := ⟨3, ![4, 128, 128]⟩
abbrev S4x128 : Shape := ⟨2, ![4, 128]⟩
abbrev S2048x1024 : Shape := ⟨2, ![2048, 1024]⟩
abbrev S1x256 : Shape := ⟨2, ![1, 256]⟩
abbrev S128x4 : Shape := ⟨2, ![128, 4]⟩
abbrev S128x4x64 : Shape := ⟨3, ![128, 4, 64]⟩
abbrev S128x256 : Shape := ⟨2, ![128, 256]⟩
abbrev S512x256 : Shape := ⟨2, ![512, 256]⟩
abbrev S256x256 : Shape := ⟨2, ![256, 256]⟩
abbrev S1024x256 : Shape := ⟨2, ![1024, 256]⟩
abbrev S128x128 : Shape := ⟨2, ![128, 128]⟩
abbrev S1x128x128 : Shape := ⟨3, ![1, 128, 128]⟩

abbrev nBuf : Space → Nat
  | .hbm => 10
  | .vmem => 9
  | .smem => 0
  | _ => 0

abbrev bufTy : (tb : Table) → Fin (tcTables nBuf tb) → BufTy
  | .hbm, ⟨0, _⟩ => ⟨S2048x2816, .bf16⟩
  | .hbm, ⟨1, _⟩ => ⟨S256, .f32⟩
  | .hbm, ⟨2, _⟩ => ⟨S4x128x128, .f32⟩
  | .hbm, ⟨3, _⟩ => ⟨S4x128, .f32⟩
  | .hbm, ⟨4, _⟩ => ⟨S2048x1024, .bf16⟩
  | .hbm, ⟨5, _⟩ => ⟨S1x256, .f32⟩
  | .hbm, ⟨6, _⟩ => ⟨S128x4, .f32⟩
  | .hbm, ⟨7, _⟩ => ⟨S128x4x64, .f32⟩
  | .hbm, ⟨8, _⟩ => ⟨S128x256, .f32⟩
  | .hbm, ⟨9, _⟩ => ⟨S2048x1024, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S1x256, .f32⟩
  | .local _ .vmem, ⟨5, _⟩ => ⟨S4x128x128, .f32⟩
  | .local _ .vmem, ⟨6, _⟩ => ⟨S128x256, .f32⟩
  | .local _ .vmem, ⟨7, _⟩ => ⟨S512x256, .bf16⟩
  | .local _ .vmem, ⟨8, _⟩ => ⟨S512x256, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SguFwdReferenceIdeal.lean ====
abbrev S2048x2816 : Shape := ⟨2, ![2048, 2816]⟩
abbrev S256 : Shape := ⟨1, ![256]⟩
abbrev S4x128x128 : Shape := ⟨3, ![4, 128, 128]⟩
abbrev S4x128 : Shape := ⟨2, ![4, 128]⟩
abbrev S2048x1024 : Shape := ⟨2, ![2048, 1024]⟩
abbrev S2048x256 : Shape := ⟨2, ![2048, 256]⟩
abbrev S2048x768 : Shape := ⟨2, ![2048, 768]⟩
abbrev S_ : Shape := ⟨0, ![]⟩
abbrev S2048x4x64 : Shape := ⟨3, ![2048, 4, 64]⟩
abbrev S4x64 : Shape := ⟨2, ![4, 64]⟩
abbrev S2048x4 : Shape := ⟨2, ![2048, 4]⟩
abbrev S2048x4x1 : Shape := ⟨3, ![2048, 4, 1]⟩
abbrev S1x4x64 : Shape := ⟨3, ![1, 4, 64]⟩
abbrev S16x128x4x64 : Shape := ⟨4, ![16, 128, 4, 64]⟩
abbrev S128x128 : Shape := ⟨2, ![128, 128]⟩
abbrev S1x128x128 : Shape := ⟨3, ![1, 128, 128]⟩
abbrev S4x16x64x128 : Shape := ⟨4, ![4, 16, 64, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 72
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S256, .f32⟩
  | .hbm, ⟨2, _⟩ => ⟨S4x128x128, .f32⟩
  | .hbm, ⟨3, _⟩ => ⟨S4x128, .f32⟩
  | .hbm, ⟨4, _⟩ => ⟨S2048x1024, .bf16⟩
  | .hbm, ⟨5, _⟩ => ⟨S2048x256, .bf16⟩
  | .hbm, ⟨6, _⟩ => ⟨S2048x256, .f32⟩
  | .hbm, ⟨7, _⟩ => ⟨S2048x256, .bf16⟩
  | .hbm, ⟨8, _⟩ => ⟨S2048x256, .f32⟩
  | .hbm, ⟨9, _⟩ => ⟨S2048x768, .bf16⟩
  | .hbm, ⟨10, _⟩ => ⟨S_, .f32⟩
  | .hbm, ⟨11, _⟩ => ⟨S2048x256, .f32⟩
  | .hbm, ⟨12, _⟩ => ⟨S2048x256, .f32⟩
  | .hbm, ⟨13, _⟩ => ⟨S2048x256, .f32⟩
  | .hbm, ⟨14, _⟩ => ⟨S_, .f32⟩
  | .hbm, ⟨15, _⟩ => ⟨S2048x256, .f32⟩
  | .hbm, ⟨16, _⟩ => ⟨S2048x256, .f32⟩
  | .hbm, ⟨17, _⟩ => ⟨S2048x256, .f32⟩
  | .hbm, ⟨18, _⟩ => ⟨S2048x256, .f32⟩
  | .hbm, ⟨19, _⟩ => ⟨S_, .f32⟩
  | .hbm, ⟨20, _⟩ => ⟨S2048x256, .f32⟩
  | .hbm, ⟨21, _⟩ => ⟨S2048x256, .f32⟩
  | .hbm, ⟨22, _⟩ => ⟨S2048x256, .f32⟩
  | .hbm, ⟨23, _⟩ => ⟨S_, .f32⟩
  | .hbm, ⟨24, _⟩ => ⟨S2048x256, .f32⟩
  | .hbm, ⟨25, _⟩ => ⟨S2048x256, .f32⟩
  | .hbm, ⟨26, _⟩ => ⟨S2048x256, .f32⟩
  | .hbm, ⟨27, _⟩ => ⟨S2048x256, .f32⟩
  | .hbm, ⟨28, _⟩ => ⟨S2048x4x64, .f32⟩
  | .hbm, ⟨29, _⟩ => ⟨S4x64, .f32⟩
  | .hbm, ⟨30, _⟩ => ⟨S2048x4x64, .f32⟩
  | .hbm, ⟨31, _⟩ => ⟨S_, .f32⟩
  | .hbm, ⟨32, _⟩ => ⟨S2048x4, .f32⟩
  | .hbm, ⟨33, _⟩ => ⟨S2048x4x1, .f32⟩
  | .hbm, ⟨34, _⟩ => ⟨S_, .f32⟩
  | .hbm, ⟨35, _⟩ => ⟨S2048x4x1, .f32⟩
  | .hbm, ⟨36, _⟩ => ⟨S2048x4x1, .f32⟩
  | .hbm, ⟨37, _⟩ => ⟨S_, .f32⟩
  | .hbm, ⟨38, _⟩ => ⟨S2048x4x1, .f32⟩
  | .hbm, ⟨39, _⟩ => ⟨S2048x4x1, .f32⟩
  | .hbm, ⟨40, _⟩ => ⟨S2048x4x1, .f32⟩
  | .hbm, ⟨41, _⟩ => ⟨S2048x4x64, .f32⟩
  | .hbm, ⟨42, _⟩ => ⟨S2048x4x64, .f32⟩
  | .hbm, ⟨43, _⟩ => ⟨S1x4x64, .f32⟩
  | .hbm, ⟨44, _⟩ => ⟨S2048x4x64, .f32⟩
  | .hbm, ⟨45, _⟩ => ⟨S2048x4x64, .f32⟩
  | .hbm, ⟨46, _⟩ => ⟨S16x128x4x64, .f32⟩
  | .hbm, ⟨47, _⟩ => ⟨S_, .f32⟩
  | .hbm, ⟨48, _⟩ => ⟨S128x128, .f32⟩
  | .hbm, ⟨49, _⟩ => ⟨S128x128, .i32⟩
  | .hbm, ⟨50, _⟩ => ⟨S_, .i32⟩
  | .hbm, ⟨51, _⟩ => ⟨S128x128, .i32⟩
  | .hbm, ⟨52, _⟩ => ⟨S128x128, .i32⟩
  | .hbm, ⟨53, _⟩ => ⟨S128x128, .i32⟩
  | .hbm, ⟨54, _⟩ => ⟨S128x128, .i1⟩
  | .hbm, ⟨55, _⟩ => ⟨S_, .f32⟩
  | .hbm, ⟨56, _⟩ => ⟨S128x128, .f32⟩
  | .hbm, ⟨57, _⟩ => ⟨S128x128, .f32⟩
  | .hbm, ⟨58, _⟩ => ⟨S1x128x128, .f32⟩
  | .hbm, ⟨59, _⟩ => ⟨S4x128x128, .f32⟩
  | .hbm, ⟨60, _⟩ => ⟨S4x128x128, .f32⟩
  | .hbm, ⟨61, _⟩ => ⟨S4x16x64x128, .f32⟩
  | .hbm, ⟨62, _⟩ => ⟨S16x128x4x64, .f32⟩
  | .hbm, ⟨63, _⟩ => ⟨S128x4, .f32⟩
  | .hbm, ⟨64, _⟩ => ⟨S128x4x1, .f32⟩
  | .hbm, ⟨65, _⟩ => ⟨S1x128x4x1, .f32⟩
  | .hbm, ⟨66, _⟩ => ⟨S16x128x4x64, .f32⟩
  | .hbm, ⟨67, _⟩ => ⟨S16x128x4x64, .f32⟩
  | .hbm, ⟨68, _⟩ => ⟨S2048x256, .f32⟩
  | .hbm, ⟨69, _⟩ => ⟨S2048x256, .f32⟩
  | .hbm, ⟨70, _⟩ => ⟨S2048x256, .bf16⟩
  | .hbm, ⟨71, _⟩ => ⟨S2048x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_call0_v0 : Ref sig .tc := ⟨.hbm, 49, rfl⟩
abbrev main_call0_c : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_cst : Ref sig .tc := ⟨.hbm, 55, rfl⟩
abbrev main_call0_v5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== ConvFwd.lean ====
abbrev S2048x2816 : Shape := ⟨2, ![2048, 2816]⟩
abbrev S3x256 : Shape := ⟨2, ![3, 256]⟩
abbrev S2048x1024 : Shape := ⟨2, ![2048, 1024]⟩
abbrev S2048x256 : Shape := ⟨2, ![2048, 256]⟩
abbrev S1x256 : Shape := ⟨2, ![1, 256]⟩

abbrev nBuf : Space → Nat
  | .hbm => 4
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S3x256, .f32⟩
  | .hbm, ⟨2, _⟩ => ⟨S2048x1024, .bf16⟩
  | .hbm, ⟨3, _⟩ => ⟨S2048x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S3x256, .f32⟩
  | .local _ .vmem, ⟨4, _⟩ => ⟨S2048x256, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ConvFwdReferenceIdeal.lean ====
abbrev S2048x2816 : Shape := ⟨2, ![2048, 2816]⟩
abbrev S3x256 : Shape := ⟨2, ![3, 256]⟩
abbrev S2048x256 : Shape := ⟨2, ![2048, 256]⟩
abbrev S_ : Shape := ⟨0, ![]⟩
abbrev S2x256 : Shape := ⟨2, ![2, 256]⟩
abbrev S2050x256 : Shape := ⟨2, ![2050, 256]⟩
abbrev S1x256 : Shape := ⟨2, ![1, 256]⟩
abbrev S256 : Shape := ⟨1, ![256]⟩

abbrev nBuf : Space → Nat
  | .hbm => 34
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S3x256, .f32⟩
  | .hbm, ⟨2, _⟩ => ⟨S2048x256, .bf16⟩
  | .hbm, ⟨3, _⟩ => ⟨S2048x256, .f32⟩
  | .hbm, ⟨4, _⟩ => ⟨S2048x256, .bf16⟩
  | .hbm, ⟨5, _⟩ => ⟨S2048x256, .f32⟩
  | .hbm, ⟨6, _⟩ => ⟨S2048x256, .bf16⟩
  | .hbm, ⟨7, _⟩ => ⟨S2048x256, .f32⟩
  | .hbm, ⟨8, _⟩ => ⟨S2048x256, .f32⟩
  | .hbm, ⟨9, _⟩ => ⟨S_, .f32⟩
  | .hbm, ⟨10, _⟩ => ⟨S2x256, .f32⟩
  | .hbm, ⟨11, _⟩ => ⟨S2050x256, .f32⟩
  | .hbm, ⟨12, _⟩ => ⟨S1x256, .f32⟩
  | .hbm, ⟨13, _⟩ => ⟨S256, .f32⟩
  | .hbm, ⟨14, _⟩ => ⟨S2048x256, .f32⟩
  | .hbm, ⟨15, _⟩ => ⟨S1x256, .f32⟩
  | .hbm, ⟨16, _⟩ => ⟨S2048x256, .f32⟩
  | .hbm, ⟨17, _⟩ => ⟨S2048x256, .f32⟩
  | .hbm, ⟨18, _⟩ => ⟨S1x256, .f32⟩
  | .hbm, ⟨19, _⟩ => ⟨S256, .f32⟩
  | .hbm, ⟨20, _⟩ => ⟨S2048x256, .f32⟩
  | .hbm, ⟨21, _⟩ => ⟨S1x256, .f32⟩
  | .hbm, ⟨22, _⟩ => ⟨S2048x256, .f32⟩
  | .hbm, ⟨23, _⟩ => ⟨S2048x256, .f32⟩
  | .hbm, ⟨24, _⟩ => ⟨S2048x256, .f32⟩
  | .hbm, ⟨25, _⟩ => ⟨S1x256, .f32⟩
  | .hbm, ⟨26, _⟩ => ⟨S256, .f32⟩
  | .hbm, ⟨27, _⟩ => ⟨S2048x256, .f32⟩
  | .hbm, ⟨28, _⟩ => ⟨S1x256, .f32⟩
  | .hbm, ⟨29, _⟩ => ⟨S2048x256, .f32⟩
  | .hbm, ⟨30, _⟩ => ⟨S2048x256, .f32⟩
  | .hbm, ⟨31, _⟩ => ⟨S2048x256, .f32⟩
  | .hbm, ⟨32, _⟩ => ⟨S2048x256, .f32⟩
  | .hbm, ⟨33, _⟩ => ⟨S2048x256, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩

abbrev nD : Nat := 1
abbrev τ : Topo := Topo.v7x

variable {F : FTy → Type} [FloatOps F]
-- ==== AdamBig.lean ====
abbrev S4x1024x704 : Shape := ⟨3, ![4, 1024, 704]⟩
abbrev S4x256x1024 : Shape := ⟨3, ![4, 256, 1024]⟩
abbrev S4x1024x1024 : Shape := ⟨3, ![4, 1024, 1024]⟩
abbrev S4x256x256 : Shape := ⟨3, ![4, 256, 256]⟩
abbrev S1024x704 : Shape := ⟨2, ![1024, 704]⟩
abbrev S256x1024 : Shape := ⟨2, ![256, 1024]⟩
abbrev S1024x1024 : Shape := ⟨2, ![1024, 1024]⟩
abbrev S256x256 : Shape := ⟨2, ![256, 256]⟩
abbrev S1x128x704 : Shape := ⟨3, ![1, 128, 704]⟩
abbrev S1x32x1024 : Shape := ⟨3, ![1, 32, 1024]⟩
abbrev S1x128x1024 : Shape := ⟨3, ![1, 128, 1024]⟩
abbrev S1x32x256 : Shape := ⟨3, ![1, 32, 256]⟩
abbrev S128x704 : Shape := ⟨2, ![128, 704]⟩
abbrev S32x1024 : Shape := ⟨2, ![32, 1024]⟩
abbrev S128x1024 : Shape := ⟨2, ![128, 1024]⟩
abbrev S32x256 : Shape := ⟨2, ![32, 256]⟩

abbrev nBuf : Space → Nat
  | .hbm => 72
  | .vmem => 96
  | .smem => 0
  | _ => 0

abbrev bufTy : (tb : Table) → Fin (tcTables nBuf tb) → BufTy
  | .hbm, ⟨0, _⟩ => ⟨S4x1024x704, .f32⟩
  | .hbm, ⟨1, _⟩ => ⟨S4x256x1024, .f32⟩
  | .hbm, ⟨2, _⟩ => ⟨S4x1024x1024, .f32⟩
  | .hbm, ⟨3, _⟩ => ⟨S4x1024x1024, .f32⟩
  | .hbm, ⟨4, _⟩ => ⟨S4x256x1024, .f32⟩
  | .hbm, ⟨5, _⟩ => ⟨S4x256x256, .f32⟩
  | .hbm, ⟨6, _⟩ => ⟨S1024x704, .f32⟩
  | .hbm, ⟨7, _⟩ => ⟨S256x1024, .f32⟩
  | .hbm, ⟨8, _⟩ => ⟨S1024x1024, .f32⟩
  | .hbm, ⟨9, _⟩ => ⟨S1024x1024, .f32⟩
  | .hbm, ⟨10, _⟩ => ⟨S256x1024, .f32⟩
  | .hbm, ⟨11, _⟩ => ⟨S256x256, .f32⟩
  | .hbm, ⟨12, _⟩ => ⟨S4x1024x704, .f32⟩
  | .hbm, ⟨13, _⟩ => ⟨S4x256x1024, .f32⟩
  | .hbm, ⟨14, _⟩ => ⟨S4x1024x1024, .f32⟩
  | .hbm, ⟨15, _⟩ => ⟨S4x1024x1024, .f32⟩
  | .hbm, ⟨16, _⟩ => ⟨S4x256x1024, .f32⟩
  | .hbm, ⟨17, _⟩ => ⟨S4x256x256, .f32⟩
  | .hbm, ⟨18, _⟩ => ⟨S4x1024x704, .f32⟩
  | .hbm, ⟨19, _⟩ => ⟨S4x256x1024, .f32⟩
  | .hbm, ⟨20, _⟩ => ⟨S4x1024x1024, .f32⟩
  | .hbm, ⟨21, _⟩ => ⟨S4x1024x1024, .f32⟩
  | .hbm, ⟨22, _⟩ => ⟨S4x256x1024, .f32⟩
  | .hbm, ⟨23, _⟩ => ⟨S4x256x256, .f32⟩
  | .hbm, ⟨24, _⟩ => ⟨S4x1024x704, .f32⟩
  | .hbm, ⟨25, _⟩ => ⟨S4x256x1024, .f32⟩
  | .hbm, ⟨26, _⟩ => ⟨S4x1024x1024, .f32⟩
  | .hbm, ⟨27, _⟩ => ⟨S4x1024x1024, .f32⟩
  | .hbm, ⟨28, _⟩ => ⟨S4x256x1024, .f32⟩
  | .hbm, ⟨29, _⟩ => ⟨S4x256x256, .f32⟩
  | .hbm, ⟨30, _⟩ => ⟨S4x1024x704, .f32⟩
  | .hbm, ⟨31, _⟩ => ⟨S4x256x1024, .f32⟩
  | .hbm, ⟨32, _⟩ => ⟨S4x1024x1024, .f32⟩
  | .hbm, ⟨33, _⟩ => ⟨S4x1024x1024, .f32⟩
  | .hbm, ⟨34, _⟩ => ⟨S4x256x1024, .f32⟩
  | .hbm, ⟨35, _⟩ => ⟨S4x256x256, .f32⟩
  | .hbm, ⟨36, _⟩ => ⟨S4x1024x704, .f32⟩
  | .hbm, ⟨37, _⟩ => ⟨S4x256x1024, .f32⟩
  | .hbm, ⟨38, _⟩ => ⟨S4x1024x1024, .f32⟩
  | .hbm, ⟨39, _⟩ => ⟨S4x1024x1024, .f32⟩
  | .hbm, ⟨40, _⟩ => ⟨S4x256x1024, .f32⟩
  | .hbm, ⟨41, _⟩ => ⟨S4x256x256, .f32⟩
  | .hbm, ⟨42, _⟩ => ⟨S4x1024x704, .f32⟩
  | .hbm, ⟨43, _⟩ => ⟨S4x256x1024, .f32⟩
  | .hbm, ⟨44, _⟩ => ⟨S4x1024x1024, .f32⟩
  | .hbm, ⟨45, _⟩ => ⟨S4x1024x1024, .f32⟩
  | .hbm, ⟨46, _⟩ => ⟨S4x256x1024, .f32⟩
  | .hbm, ⟨47, _⟩ => ⟨S4x256x256, .f32⟩
  | .hbm, ⟨48, _⟩ => ⟨S4x1024x704, .f32⟩
  | .hbm, ⟨49, _⟩ => ⟨S4x256x1024, .f32⟩
  | .hbm, ⟨50, _⟩ => ⟨S4x1024x1024, .f32⟩
  | .hbm, ⟨51, _⟩ => ⟨S4x1024x1024, .f32⟩
  | .hbm, ⟨52, _⟩ => ⟨S4x256x1024, .f32⟩
  | .hbm, ⟨53, _⟩ => ⟨S4x256x256, .f32⟩
  | .hbm, ⟨54, _⟩ => ⟨S4x1024x704, .f32⟩
  | .hbm, ⟨55, _⟩ => ⟨S4x256x1024, .f32⟩
  | .hbm, ⟨56, _⟩ => ⟨S4x1024x1024, .f32⟩
  | .hbm, ⟨57, _⟩ => ⟨S4x1024x1024, .f32⟩
  | .hbm, ⟨58, _⟩ => ⟨S4x256x1024, .f32⟩
  | .hbm, ⟨59, _⟩ => ⟨S4x256x256, .f32⟩
  | .hbm, ⟨60, _⟩ => ⟨S4x1024x704, .f32⟩
  | .hbm, ⟨61, _⟩ => ⟨S4x256x1024, .f32⟩
  | .hbm, ⟨62, _⟩ => ⟨S4x1024x1024, .f32⟩
  | .hbm, ⟨63, _⟩ => ⟨S4x1024x1024, .f32⟩
  | .hbm, ⟨64, _⟩ => ⟨S4x256x1024, .f32⟩
  | .hbm, ⟨65, _⟩ => ⟨S4x256x256, .f32⟩
  | .hbm, ⟨66, _⟩ => ⟨S4x1024x704, .f32⟩
  | .hbm, ⟨67, _⟩ => ⟨S4x256x1024, .f32⟩
  | .hbm, ⟨68, _⟩ => ⟨S4x1024x1024, .f32⟩
  | .hbm, ⟨69, _⟩ => ⟨S4x1024x1024, .f32⟩
  | .hbm, ⟨70, _⟩ => ⟨S4x256x1024, .f32⟩
  | .hbm, ⟨71, _⟩ => ⟨S4x256x256, .f32⟩
  | .local _ .vmem, ⟨0, _⟩ => ⟨S1x128x704, .f32⟩
  | .local _ .vmem, ⟨1, _⟩ => ⟨S1x128x704, .f32⟩
  | .local _ .vmem, ⟨2, _⟩ => ⟨S1x32x1024, .f32⟩
  | .local _ .vmem, ⟨3, _⟩ => ⟨S1x32x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x256, .f32⟩
  | .local _ .vmem, ⟨11, _⟩ => ⟨S1x32x256, .f32⟩
  | .local _ .vmem, ⟨12, _⟩ => ⟨S128x704, .f32⟩
  | .local _ .vmem, ⟨13, _⟩ => ⟨S128x704, .f32⟩
  | .local _ .vmem, ⟨14, _⟩ => ⟨S32x1024, .f32⟩
  | .local _ .vmem, ⟨15, _⟩ => ⟨S32x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S32x1024, .f32⟩
  | .local _ .vmem, ⟨21, _⟩ => ⟨S32x1024, .f32⟩
  | .local _ .vmem, ⟨22, _⟩ => ⟨S32x256, .f32⟩
  | .local _ .vmem, ⟨23, _⟩ => ⟨S32x256, .f32⟩
  | .local _ .vmem, ⟨24, _⟩ => ⟨S1x128x704, .f32⟩
  | .local _ .vmem, ⟨25, _⟩ => ⟨S1x128x704, .f32⟩
  | .local _ .vmem, ⟨26, _⟩ => ⟨S1x32x1024, .f32⟩
  | .local _ .vmem, ⟨27, _⟩ => ⟨S1x32x1024, .f32⟩
  | .local _ .vmem, ⟨28, _⟩ => ⟨S1x128x1024, .f32⟩
  | .local _ .vmem, ⟨29, _⟩ => ⟨S1x128x1024, .f32⟩
  | .local _ .vmem, ⟨30, _⟩ => ⟨S1x128x1024, .f32⟩
  | .local _ .vmem, ⟨31, _⟩ => ⟨S1x128x1024, .f32⟩
  | .local _ .vmem, ⟨32, _⟩ => ⟨S1x32x1024, .f32⟩
  | .local _ .vmem, ⟨33, _⟩ => ⟨S1x32x1024, .f32⟩
  | .local _ .vmem, ⟨34, _⟩ => ⟨S1x32x256, .f32⟩
  | .local _ .vmem, ⟨35, _⟩ => ⟨S1x32x256, .f32⟩
  | .local _ .vmem, ⟨36, _⟩ => ⟨S1x128x704, .f32⟩
  | .local _ .vmem, ⟨37, _⟩ => ⟨S1x128x704, .f32⟩
  | .local _ .vmem, ⟨38, _⟩ => ⟨S1x32x1024, .f32⟩
  | .local _ .vmem, ⟨39, _⟩ => ⟨S1x32x1024, .f32⟩
  | .local _ .vmem, ⟨40, _⟩ => ⟨S1x128x1024, .f32⟩
  | .local _ .vmem, ⟨41, _⟩ => ⟨S1x128x1024, .f32⟩
  | .local _ .vmem, ⟨42, _⟩ => ⟨S1x128x1024, .f32⟩
  | .local _ .vmem, ⟨43, _⟩ => ⟨S1x128x1024, .f32⟩
  | .local _ .vmem, ⟨44, _⟩ => ⟨S1x32x1024, .f32⟩
  | .local _ .vmem, ⟨45, _⟩ => ⟨S1x32x1024, .f32⟩
  | .local _ .vmem, ⟨46, _⟩ => ⟨S1x32x256, .f32⟩
  | .local _ .vmem, ⟨47, _⟩ => ⟨S1x32x256, .f32⟩
  | .local _ .vmem, ⟨48, _⟩ => ⟨S1x128x704, .f32⟩
  | .local _ .vmem, ⟨49, _⟩ => ⟨S1x128x704, .f32⟩
  | .local _ .vmem, ⟨50, _⟩ => ⟨S1x32x1024, .f32⟩
  | .local _ .vmem, ⟨51, _⟩ => ⟨S1x32x1024, .f32⟩
  | .local _ .vmem, ⟨52, _⟩ => ⟨S1x128x1024, .f32⟩
  | .local _ .vmem, ⟨53, _⟩ => ⟨S1x128x1024, .f32⟩
  | .local _ .vmem, ⟨54, _⟩ => ⟨S1x128x1024, .f32⟩
  | .local _ .vmem, ⟨55, _⟩ => ⟨S1x128x1024, .f32⟩
  | .local _ .vmem, ⟨56, _⟩ => ⟨S1x32x1024, .f32⟩
  | .local _ .vmem, ⟨57, _⟩ => ⟨S1x32x1024, .f32⟩
  | .local _ .vmem, ⟨58, _⟩ => ⟨S1x32x256, .f32⟩
  | .local _ .vmem, ⟨59, _⟩ => ⟨S1x32x256, .f32⟩
  | .local _ .vmem, ⟨60, _⟩ => ⟨S1x128x704, .f32⟩
  | .local _ .vmem, ⟨61, _⟩ => ⟨S1x128x704, .f32⟩
  | .local _ .vmem, ⟨62, _⟩ => ⟨S1x32x1024, .f32⟩
  | .local _ .vmem, ⟨63, _⟩ => ⟨S1x32x1024, .f32⟩
  | .local _ .vmem, ⟨64, _⟩ => ⟨S1x128x1024, .f32⟩
  | .local _ .vmem, ⟨65, _⟩ => ⟨S1x128x1024, .f32⟩
  | .local _ .vmem, ⟨66, _⟩ => ⟨S1x128x1024, .f32⟩
  | .local _ .vmem, ⟨67, _⟩ => ⟨S1x128x1024, .f32⟩
  | .local _ .vmem, ⟨68, _⟩ => ⟨S1x32x1024, .f32⟩
  | .local _ .vmem, ⟨69, _⟩ => ⟨S1x32x1024, .f32⟩
  | .local _ .vmem, ⟨70, _⟩ => ⟨S1x32x256, .f32⟩
  | .local _ .vmem, ⟨71, _⟩ => ⟨S1x32x256, .f32⟩
  | .local _ .vmem, ⟨72, _⟩ => ⟨S1x128x704, .f32⟩
  | .local _ .vmem, ⟨73, _⟩ => ⟨S1x128x704, .f32⟩
  | .local _ .vmem, ⟨74, _⟩ => ⟨S1x32x1024, .f32⟩
  | .local _ .vmem, ⟨75, _⟩ => ⟨S1x32x1024, .f32⟩
  | .local _ .vmem, ⟨76, _⟩ => ⟨S1x128x1024, .f32⟩
  | .local _ .vmem, ⟨77, _⟩ => ⟨S1x128x1024, .f32⟩
  | .local _ .vmem, ⟨78, _⟩ => ⟨S1x128x1024, .f32⟩
  | .local _ .vmem, ⟨79, _⟩ => ⟨S1x128x1024, .f32⟩
  | .local _ .vmem, ⟨80, _⟩ => ⟨S1x32x1024, .f32⟩
  | .local _ .vmem, ⟨81, _⟩ => ⟨S1x32x1024, .f32⟩
  | .local _ .vmem, ⟨82, _⟩ => ⟨S1x32x256, .f32⟩
  | .local _ .vmem, ⟨83, _⟩ => ⟨S1x32x256, .f32⟩
  | .local _ .vmem, ⟨84, _⟩ => ⟨S1x128x704, .f32⟩
  | .local _ .vmem, ⟨85, _⟩ => ⟨S1x128x704, .f32⟩
  | .local _ .vmem, ⟨86, _⟩ => ⟨S1x32x1024, .f32⟩
  | .local _ .vmem, ⟨87, _⟩ => ⟨S1x32x1024, .f32⟩
  | .local _ .vmem, ⟨88, _⟩ => ⟨S1x128x1024, .f32⟩
  | .local _ .vmem, ⟨89, _⟩ => ⟨S1x128x1024, .f32⟩
  | .local _ .vmem, ⟨90, _⟩ => ⟨S1x128x1024, .f32⟩
  | .local _ .vmem, ⟨91, _⟩ => ⟨S1x128x1024, .f32⟩
  | .local _ .vmem, ⟨92, _⟩ => ⟨S1x32x1024, .f32⟩
  | .local _ .vmem, ⟨93, _⟩ => ⟨S1x32x1024, .f32⟩
  | .local _ .vmem, ⟨94, _⟩ => ⟨S1x32x256, .f32⟩
  | .local _ .vmem, ⟨95, _⟩ => ⟨S1x32x256, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0_0 : Ref sig .tc := ⟨.hbm, 48, rfl⟩
abbrev main_v0_1 : Ref sig .tc := ⟨.hbm, 49, rfl⟩
abbrev main_v0_2 : Ref sig .tc := ⟨.hbm, 50, rfl⟩
abbrev main_v0_3 : Ref sig .tc := ⟨.hbm, 51, rfl⟩
abbrev main_v0_4 : Ref sig .tc := ⟨.hbm, 52, rfl⟩
abbrev main_v0_5 : Ref sig .tc := ⟨.hbm, 53, rfl⟩
abbrev main_v0_6 : Ref sig .tc := ⟨.hbm, 54, rfl⟩
abbrev main_v0_7 : Ref sig .tc := ⟨.hbm, 55, rfl⟩
abbrev main_v0_8 : Ref sig .tc := ⟨.hbm, 56, rfl⟩
abbrev main_v0_9 : Ref sig .tc := ⟨.hbm, 57, rfl⟩
abbrev main_v0_10 : Ref sig .tc := ⟨.hbm, 58, rfl⟩
abbrev main_v0_11 : Ref sig .tc := ⟨.hbm, 59, rfl⟩
abbrev main_v0_12 : Ref sig .tc := ⟨.hbm, 60, rfl⟩
abbrev main_v0_13 : Ref sig .tc := ⟨.hbm, 61, rfl⟩
abbrev main_v0_14 : Ref sig .tc := ⟨.hbm, 62, rfl⟩
abbrev main_v0_15 : Ref sig .tc := ⟨.hbm, 63, rfl⟩
abbrev main_v0_16 : Ref sig .tc := ⟨.hbm, 64, rfl⟩
abbrev main_v0_17 : Ref sig .tc := ⟨.hbm, 65, rfl⟩
abbrev main_v0_18 : Ref sig .tc := ⟨.hbm, 66, rfl⟩
abbrev main_v0_19 : Ref sig .tc := ⟨.hbm, 67, rfl⟩
abbrev main_v0_20 : Ref sig .tc := ⟨.hbm, 68, rfl⟩
abbrev main_v0_21 : Ref sig .tc := ⟨.hbm, 69, rfl⟩
abbrev main_v0_22 : Ref sig .tc := ⟨.hbm, 70, rfl⟩
abbrev main_v0_23 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc0_stg41_0 : Ref sig .tc := ⟨.vmem, 82, rfl⟩
abbrev cc0_stg41_1 : Ref sig .tc := ⟨.vmem, 83, rfl⟩
abbrev cc0_stg42_0 : Ref sig .tc := ⟨.vmem, 84, rfl⟩
abbrev cc0_stg42_1 : Ref sig .tc := ⟨.vmem, 85, rfl⟩
abbrev cc0_stg43_0 : Ref sig .tc := ⟨.vmem, 86, rfl⟩
abbrev cc0_stg43_1 : Ref sig .tc := ⟨.vmem, 87, rfl⟩
abbrev cc0_stg44_0 : Ref sig .tc := ⟨.vmem, 88, rfl⟩
abbrev cc0_stg44_1 : Ref sig .tc := ⟨.vmem, 89, rfl⟩
abbrev cc0_stg45_0 : Ref sig .tc := ⟨.vmem, 90, rfl⟩
abbrev cc0_stg45_1 : Ref sig .tc := ⟨.vmem, 91, rfl⟩
abbrev cc0_stg46_0 : Ref sig .tc := ⟨.vmem, 92, rfl⟩
abbrev cc0_stg46_1 : Ref sig .tc := ⟨.vmem, 93, rfl⟩
abbrev cc0_stg47_0 : Ref sig .tc := ⟨.vmem, 94, rfl⟩
abbrev cc0_stg47_1 : Ref sig .tc := ⟨.vmem, 95, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc0_sem41_0 : DmaSem sig := 82
abbrev cc0_sem41_1 : DmaSem sig := 83
abbrev cc0_sem42_0 : DmaSem sig := 84
abbrev cc0_sem42_1 : DmaSem sig := 85
abbrev cc0_sem43_0 : DmaSem sig := 86
abbrev cc0_sem43_1 : DmaSem sig := 87
abbrev cc0_sem44_0 : DmaSem sig := 88
abbrev cc0_sem44_1 : DmaSem sig := 89
abbrev cc0_sem45_0 : DmaSem sig := 90
abbrev cc0_sem45_1 : DmaSem sig := 91
abbrev cc0_sem46_0 : DmaSem sig := 92
abbrev cc0_sem46_1 : DmaSem sig := 93
abbrev cc0_sem47_0 : DmaSem sig := 94
abbrev cc0_sem47_1 : DmaSem sig := 95

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_48 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_49 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_50 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_51 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_52 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_53 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_54 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_55 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_56 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_57 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_58 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_59 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_60 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_61 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_62 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_63 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_64 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_65 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_66 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_67 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_68 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_69 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_70 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_71 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x704 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x32x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x32x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x128x704 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x32x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x128x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x128x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x32x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x32x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x128x704 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x32x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x128x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x128x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x32x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x32x256 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x128x704 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x32x1024 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x128x1024 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x128x1024 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x32x1024 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x32x256 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x128x704 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x32x1024 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1x128x1024 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S1x128x1024 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S1x32x1024 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S1x32x256 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S1x128x704 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S1x32x1024 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S1x128x1024 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S1x128x1024 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S1x32x1024 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S1x32x256 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]
-- ==== AdamBigReferenceIdeal.lean ====
abbrev S4x1024x704 : Shape := ⟨3, ![4, 1024, 704]⟩
abbrev S4x256x1024 : Shape := ⟨3, ![4, 256, 1024]⟩
abbrev S4x1024x1024 : Shape := ⟨3, ![4, 1024, 1024]⟩
abbrev S4x256x256 : Shape := ⟨3, ![4, 256, 256]⟩
abbrev S1024x704 : Shape := ⟨2, ![1024, 704]⟩
abbrev S256x1024 : Shape := ⟨2, ![256, 1024]⟩
abbrev S1024x1024 : Shape := ⟨2, ![1024, 1024]⟩
abbrev S256x256 : Shape := ⟨2, ![256, 256]⟩
abbrev S1x1024x704 : Shape := ⟨3, ![1, 1024, 704]⟩
abbrev S_ : Shape := ⟨0, ![]⟩
abbrev S1x256x1024 : Shape := ⟨3, ![1, 256, 1024]⟩
abbrev S1x1024x1024 : Shape := ⟨3, ![1, 1024, 1024]⟩
abbrev S1x256x256 : Shape := ⟨3, ![1, 256, 256]⟩
abbrev S3x1024x704 : Shape := ⟨3, ![3, 1024, 704]⟩
abbrev S3x256x1024 : Shape := ⟨3, ![3, 256, 1024]⟩
abbrev S3x1024x1024 : Shape := ⟨3, ![3, 1024, 1024]⟩
abbrev S3x256x256 : Shape := ⟨3, ![3, 256, 256]⟩

abbrev nBuf : Space → Nat
  | .hbm => 354
  | .vmem => 0
  | .smem => 0
  | _ => 0

abbrev hbmTy0_0 (i : Nat) : BufTy := match i % 128 with
  | 0 => ⟨S4x1024x704, .f32⟩
  | 1 => ⟨S4x256x1024, .f32⟩
  | 2 => ⟨S4x1024x1024, .f32⟩
  | 3 => ⟨S4x1024x1024, .f32⟩
  | 4 => ⟨S4x256x1024, .f32⟩
  | 5 => ⟨S4x256x256, .f32⟩
  | 6 => ⟨S1024x704, .f32⟩
  | 7 => ⟨S256x1024, .f32⟩
  | 8 => ⟨S1024x1024, .f32⟩
  | 9 => ⟨S1024x1024, .f32⟩
  | 10 => ⟨S256x1024, .f32⟩
  | 11 => ⟨S256x256, .f32⟩
  | 12 => ⟨S4x1024x704, .f32⟩
  | 13 => ⟨S4x256x1024, .f32⟩
  | 14 => ⟨S4x1024x1024, .f32⟩
  | 15 => ⟨S4x1024x1024, .f32⟩
  | 16 => ⟨S4x256x1024, .f32⟩
  | 17 => ⟨S4x256x256, .f32⟩
  | 18 => ⟨S4x1024x704, .f32⟩
  | 19 => ⟨S4x256x1024, .f32⟩
  | 20 => ⟨S4x1024x1024, .f32⟩
  | 21 => ⟨S4x1024x1024, .f32⟩
  | 22 => ⟨S4x256x1024, .f32⟩
  | 23 => ⟨S4x256x256, .f32⟩
  | 24 => ⟨S4x1024x704, .f32⟩
  | 25 => ⟨S4x256x1024, .f32⟩
  | 26 => ⟨S4x1024x1024, .f32⟩
  | 27 => ⟨S4x1024x1024, .f32⟩
  | 28 => ⟨S4x256x1024, .f32⟩
  | 29 => ⟨S4x256x256, .f32⟩
  | 30 => ⟨S4x1024x704, .f32⟩
  | 31 => ⟨S4x256x1024, .f32⟩
  | 32 => ⟨S4x1024x1024, .f32⟩
  | 33 => ⟨S4x1024x1024, .f32⟩
  | 34 => ⟨S4x256x1024, .f32⟩
  | 35 => ⟨S4x256x256, .f32⟩
  | 36 => ⟨S4x1024x704, .f32⟩
  | 37 => ⟨S4x256x1024, .f32⟩
  | 38 => ⟨S4x1024x1024, .f32⟩
  | 39 => ⟨S4x1024x1024, .f32⟩
  | 40 => ⟨S4x256x1024, .f32⟩
  | 41 => ⟨S4x256x256, .f32⟩
  | 42 => ⟨S4x1024x704, .f32⟩
  | 43 => ⟨S4x256x1024, .f32⟩
  | 44 => ⟨S4x1024x1024, .f32⟩
  | 45 => ⟨S4x1024x1024, .f32⟩
  | 46 => ⟨S4x256x1024, .f32⟩
  | 47 => ⟨S4x256x256, .f32⟩
  | 48 => ⟨S1x1024x704, .f32⟩
  | 49 => ⟨S1024x704, .f32⟩
  | 50 => ⟨S1x1024x704, .f32⟩
  | 51 => ⟨S1024x704, .f32⟩
  | 52 => ⟨S1x1024x704, .f32⟩
  | 53 => ⟨S1024x704, .f32⟩
  | 54 => ⟨S_, .f32⟩
  | 55 => ⟨S1024x704, .f32⟩
  | 56 => ⟨S1024x704, .f32⟩
  | 57 => ⟨S_, .f32⟩
  | 58 => ⟨S1024x704, .f32⟩
  | 59 => ⟨S1024x704, .f32⟩
  | 60 => ⟨S1024x704, .f32⟩
  | 61 => ⟨S_, .f32⟩
  | 62 => ⟨S1024x704, .f32⟩
  | 63 => ⟨S1024x704, .f32⟩
  | 64 => ⟨S1024x704, .f32⟩
  | 65 => ⟨S_, .f32⟩
  | 66 => ⟨S1024x704, .f32⟩
  | 67 => ⟨S1024x704, .f32⟩
  | 68 => ⟨S1024x704, .f32⟩
  | 69 => ⟨S_, .f32⟩
  | 70 => ⟨S1024x704, .f32⟩
  | 71 => ⟨S1024x704, .f32⟩
  | 72 => ⟨S_, .f32⟩
  | 73 => ⟨S1024x704, .f32⟩
  | 74 => ⟨S1024x704, .f32⟩
  | 75 => ⟨S1024x704, .f32⟩
  | 76 => ⟨S_, .f32⟩
  | 77 => ⟨S1024x704, .f32⟩
  | 78 => ⟨S1024x704, .f32⟩
  | 79 => ⟨S1024x704, .f32⟩
  | 80 => ⟨S_, .f32⟩
  | 81 => ⟨S1024x704, .f32⟩
  | 82 => ⟨S1024x704, .f32⟩
  | 83 => ⟨S1024x704, .f32⟩
  | 84 => ⟨S_, .f32⟩
  | 85 => ⟨S1024x704, .f32⟩
  | 86 => ⟨S1024x704, .f32⟩
  | 87 => ⟨S1x256x1024, .f32⟩
  | 88 => ⟨S256x1024, .f32⟩
  | 89 => ⟨S1x256x1024, .f32⟩
  | 90 => ⟨S256x1024, .f32⟩
  | 91 => ⟨S1x256x1024, .f32⟩
  | 92 => ⟨S256x1024, .f32⟩
  | 93 => ⟨S_, .f32⟩
  | 94 => ⟨S256x1024, .f32⟩
  | 95 => ⟨S256x1024, .f32⟩
  | 96 => ⟨S_, .f32⟩
  | 97 => ⟨S256x1024, .f32⟩
  | 98 => ⟨S256x1024, .f32⟩
  | 99 => ⟨S256x1024, .f32⟩
  | 100 => ⟨S_, .f32⟩
  | 101 => ⟨S256x1024, .f32⟩
  | 102 => ⟨S256x1024, .f32⟩
  | 103 => ⟨S256x1024, .f32⟩
  | 104 => ⟨S_, .f32⟩
  | 105 => ⟨S256x1024, .f32⟩
  | 106 => ⟨S256x1024, .f32⟩
  | 107 => ⟨S256x1024, .f32⟩
  | 108 => ⟨S_, .f32⟩
  | 109 => ⟨S256x1024, .f32⟩
  | 110 => ⟨S256x1024, .f32⟩
  | 111 => ⟨S_, .f32⟩
  | 112 => ⟨S256x1024, .f32⟩
  | 113 => ⟨S256x1024, .f32⟩
  | 114 => ⟨S256x1024, .f32⟩
  | 115 => ⟨S_, .f32⟩
  | 116 => ⟨S256x1024, .f32⟩
  | 117 => ⟨S256x1024, .f32⟩
  | 118 => ⟨S256x1024, .f32⟩
  | 119 => ⟨S_, .f32⟩
  | 120 => ⟨S256x1024, .f32⟩
  | 121 => ⟨S256x1024, .f32⟩
  | 122 => ⟨S256x1024, .f32⟩
  | 123 => ⟨S_, .f32⟩
  | 124 => ⟨S256x1024, .f32⟩
  | 125 => ⟨S256x1024, .f32⟩
  | 126 => ⟨S1x1024x1024, .f32⟩
  | 127 => ⟨S1024x1024, .f32⟩
  | _ => ⟨S4x1024x704, .f32⟩

abbrev hbmTy0_1 (i : Nat) : BufTy := match i % 128 with
  | 0 => ⟨S1x1024x1024, .f32⟩
  | 1 => ⟨S1024x1024, .f32⟩
  | 2 => ⟨S1x1024x1024, .f32⟩
  | 3 => ⟨S1024x1024, .f32⟩
  | 4 => ⟨S_, .f32⟩
  | 5 => ⟨S1024x1024, .f32⟩
  | 6 => ⟨S1024x1024, .f32⟩
  | 7 => ⟨S_, .f32⟩
  | 8 => ⟨S1024x1024, .f32⟩
  | 9 => ⟨S1024x1024, .f32⟩
  | 10 => ⟨S1024x1024, .f32⟩
  | 11 => ⟨S_, .f32⟩
  | 12 => ⟨S1024x1024, .f32⟩
  | 13 => ⟨S1024x1024, .f32⟩
  | 14 => ⟨S1024x1024, .f32⟩
  | 15 => ⟨S_, .f32⟩
  | 16 => ⟨S1024x1024, .f32⟩
  | 17 => ⟨S1024x1024, .f32⟩
  | 18 => ⟨S1024x1024, .f32⟩
  | 19 => ⟨S_, .f32⟩
  | 20 => ⟨S1024x1024, .f32⟩
  | 21 => ⟨S1024x1024, .f32⟩
  | 22 => ⟨S_, .f32⟩
  | 23 => ⟨S1024x1024, .f32⟩
  | 24 => ⟨S1024x1024, .f32⟩
  | 25 => ⟨S1024x1024, .f32⟩
  | 26 => ⟨S_, .f32⟩
  | 27 => ⟨S1024x1024, .f32⟩
  | 28 => ⟨S1024x1024, .f32⟩
  | 29 => ⟨S1024x1024, .f32⟩
  | 30 => ⟨S_, .f32⟩
  | 31 => ⟨S1024x1024, .f32⟩
  | 32 => ⟨S1024x1024, .f32⟩
  | 33 => ⟨S1024x1024, .f32⟩
  | 34 => ⟨S_, .f32⟩
  | 35 => ⟨S1024x1024, .f32⟩
  | 36 => ⟨S1024x1024, .f32⟩
  | 37 => ⟨S1x1024x1024, .f32⟩
  | 38 => ⟨S1024x1024, .f32⟩
  | 39 => ⟨S1x1024x1024, .f32⟩
  | 40 => ⟨S1024x1024, .f32⟩
  | 41 => ⟨S1x1024x1024, .f32⟩
  | 42 => ⟨S1024x1024, .f32⟩
  | 43 => ⟨S_, .f32⟩
  | 44 => ⟨S1024x1024, .f32⟩
  | 45 => ⟨S1024x1024, .f32⟩
  | 46 => ⟨S_, .f32⟩
  | 47 => ⟨S1024x1024, .f32⟩
  | 48 => ⟨S1024x1024, .f32⟩
  | 49 => ⟨S1024x1024, .f32⟩
  | 50 => ⟨S_, .f32⟩
  | 51 => ⟨S1024x1024, .f32⟩
  | 52 => ⟨S1024x1024, .f32⟩
  | 53 => ⟨S1024x1024, .f32⟩
  | 54 => ⟨S_, .f32⟩
  | 55 => ⟨S1024x1024, .f32⟩
  | 56 => ⟨S1024x1024, .f32⟩
  | 57 => ⟨S1024x1024, .f32⟩
  | 58 => ⟨S_, .f32⟩
  | 59 => ⟨S1024x1024, .f32⟩
  | 60 => ⟨S1024x1024, .f32⟩
  | 61 => ⟨S_, .f32⟩
  | 62 => ⟨S1024x1024, .f32⟩
  | 63 => ⟨S1024x1024, .f32⟩
  | 64 => ⟨S1024x1024, .f32⟩
  | 65 => ⟨S_, .f32⟩
  | 66 => ⟨S1024x1024, .f32⟩
  | 67 => ⟨S1024x1024, .f32⟩
  | 68 => ⟨S1024x1024, .f32⟩
  | 69 => ⟨S_, .f32⟩
  | 70 => ⟨S1024x1024, .f32⟩
  | 71 => ⟨S1024x1024, .f32⟩
  | 72 => ⟨S1024x1024, .f32⟩
  | 73 => ⟨S_, .f32⟩
  | 74 => ⟨S1024x1024, .f32⟩
  | 75 => ⟨S1024x1024, .f32⟩
  | 76 => ⟨S1x256x1024, .f32⟩
  | 77 => ⟨S256x1024, .f32⟩
  | 78 => ⟨S1x256x1024, .f32⟩
  | 79 => ⟨S256x1024, .f32⟩
  | 80 => ⟨S1x256x1024, .f32⟩
  | 81 => ⟨S256x1024, .f32⟩
  | 82 => ⟨S_, .f32⟩
  | 83 => ⟨S256x1024, .f32⟩
  | 84 => ⟨S256x1024, .f32⟩
  | 85 => ⟨S_, .f32⟩
  | 86 => ⟨S256x1024, .f32⟩
  | 87 => ⟨S256x1024, .f32⟩
  | 88 => ⟨S256x1024, .f32⟩
  | 89 => ⟨S_, .f32⟩
  | 90 => ⟨S256x1024, .f32⟩
  | 91 => ⟨S256x1024, .f32⟩
  | 92 => ⟨S256x1024, .f32⟩
  | 93 => ⟨S_, .f32⟩
  | 94 => ⟨S256x1024, .f32⟩
  | 95 => ⟨S256x1024, .f32⟩
  | 96 => ⟨S256x1024, .f32⟩
  | 97 => ⟨S_, .f32⟩
  | 98 => ⟨S256x1024, .f32⟩
  | 99 => ⟨S256x1024, .f32⟩
  | 100 => ⟨S_, .f32⟩
  | 101 => ⟨S256x1024, .f32⟩
  | 102 => ⟨S256x1024, .f32⟩
  | 103 => ⟨S256x1024, .f32⟩
  | 104 => ⟨S_, .f32⟩
  | 105 => ⟨S256x1024, .f32⟩
  | 106 => ⟨S256x1024, .f32⟩
  | 107 => ⟨S256x1024, .f32⟩
  | 108 => ⟨S_, .f32⟩
  | 109 => ⟨S256x1024, .f32⟩
  | 110 => ⟨S256x1024, .f32⟩
  | 111 => ⟨S256x1024, .f32⟩
  | 112 => ⟨S_, .f32⟩
  | 113 => ⟨S256x1024, .f32⟩
  | 114 => ⟨S256x1024, .f32⟩
  | 115 => ⟨S1x256x256, .f32⟩
  | 116 => ⟨S256x256, .f32⟩
  | 117 => ⟨S1x256x256, .f32⟩
  | 118 => ⟨S256x256, .f32⟩
  | 119 => ⟨S1x256x256, .f32⟩
  | 120 => ⟨S256x256, .f32⟩
  | 121 => ⟨S_, .f32⟩
  | 122 => ⟨S256x256, .f32⟩
  | 123 => ⟨S256x256, .f32⟩
  | 124 => ⟨S_, .f32⟩
  | 125 => ⟨S256x256, .f32⟩
  | 126 => ⟨S256x256, .f32⟩
  | 127 => ⟨S256x256, .f32⟩
  | _ => ⟨S4x1024x704, .f32⟩

abbrev hbmTy0_2 (i : Nat) : BufTy := match i % 128 with
  | 0 => ⟨S_, .f32⟩
  | 1 => ⟨S256x256, .f32⟩
  | 2 => ⟨S256x256, .f32⟩
  | 3 => ⟨S256x256, .f32⟩
  | 4 => ⟨S_, .f32⟩
  | 5 => ⟨S256x256, .f32⟩
  | 6 => ⟨S256x256, .f32⟩
  | 7 => ⟨S256x256, .f32⟩
  | 8 => ⟨S_, .f32⟩
  | 9 => ⟨S256x256, .f32⟩
  | 10 => ⟨S256x256, .f32⟩
  | 11 => ⟨S_, .f32⟩
  | 12 => ⟨S256x256, .f32⟩
  | 13 => ⟨S256x256, .f32⟩
  | 14 => ⟨S256x256, .f32⟩
  | 15 => ⟨S_, .f32⟩
  | 16 => ⟨S256x256, .f32⟩
  | 17 => ⟨S256x256, .f32⟩
  | 18 => ⟨S256x256, .f32⟩
  | 19 => ⟨S_, .f32⟩
  | 20 => ⟨S256x256, .f32⟩
  | 21 => ⟨S256x256, .f32⟩
  | 22 => ⟨S256x256, .f32⟩
  | 23 => ⟨S_, .f32⟩
  | 24 => ⟨S256x256, .f32⟩
  | 25 => ⟨S256x256, .f32⟩
  | 26 => ⟨S1x1024x704, .f32⟩
  | 27 => ⟨S3x1024x704, .f32⟩
  | 28 => ⟨S4x1024x704, .f32⟩
  | 29 => ⟨S1x256x1024, .f32⟩
  | 30 => ⟨S3x256x1024, .f32⟩
  | 31 => ⟨S4x256x1024, .f32⟩
  | 32 => ⟨S1x1024x1024, .f32⟩
  | 33 => ⟨S3x1024x1024, .f32⟩
  | 34 => ⟨S4x1024x1024, .f32⟩
  | 35 => ⟨S1x1024x1024, .f32⟩
  | 36 => ⟨S3x1024x1024, .f32⟩
  | 37 => ⟨S4x1024x1024, .f32⟩
  | 38 => ⟨S1x256x1024, .f32⟩
  | 39 => ⟨S3x256x1024, .f32⟩
  | 40 => ⟨S4x256x1024, .f32⟩
  | 41 => ⟨S1x256x256, .f32⟩
  | 42 => ⟨S3x256x256, .f32⟩
  | 43 => ⟨S4x256x256, .f32⟩
  | 44 => ⟨S1x1024x704, .f32⟩
  | 45 => ⟨S3x1024x704, .f32⟩
  | 46 => ⟨S4x1024x704, .f32⟩
  | 47 => ⟨S1x256x1024, .f32⟩
  | 48 => ⟨S3x256x1024, .f32⟩
  | 49 => ⟨S4x256x1024, .f32⟩
  | 50 => ⟨S1x1024x1024, .f32⟩
  | 51 => ⟨S3x1024x1024, .f32⟩
  | 52 => ⟨S4x1024x1024, .f32⟩
  | 53 => ⟨S1x1024x1024, .f32⟩
  | 54 => ⟨S3x1024x1024, .f32⟩
  | 55 => ⟨S4x1024x1024, .f32⟩
  | 56 => ⟨S1x256x1024, .f32⟩
  | 57 => ⟨S3x256x1024, .f32⟩
  | 58 => ⟨S4x256x1024, .f32⟩
  | 59 => ⟨S1x256x256, .f32⟩
  | 60 => ⟨S3x256x256, .f32⟩
  | 61 => ⟨S4x256x256, .f32⟩
  | 62 => ⟨S1x1024x704, .f32⟩
  | 63 => ⟨S3x1024x704, .f32⟩
  | 64 => ⟨S4x1024x704, .f32⟩
  | 65 => ⟨S1x256x1024, .f32⟩
  | 66 => ⟨S3x256x1024, .f32⟩
  | 67 => ⟨S4x256x1024, .f32⟩
  | 68 => ⟨S1x1024x1024, .f32⟩
  | 69 => ⟨S3x1024x1024, .f32⟩
  | 70 => ⟨S4x1024x1024, .f32⟩
  | 71 => ⟨S1x1024x1024, .f32⟩
  | 72 => ⟨S3x1024x1024, .f32⟩
  | 73 => ⟨S4x1024x1024, .f32⟩
  | 74 => ⟨S1x256x1024, .f32⟩
  | 75 => ⟨S3x256x1024, .f32⟩
  | 76 => ⟨S4x256x1024, .f32⟩
  | 77 => ⟨S1x256x256, .f32⟩
  | 78 => ⟨S3x256x256, .f32⟩
  | 79 => ⟨S4x256x256, .f32⟩
  | 80 => ⟨S1x1024x704, .f32⟩
  | 81 => ⟨S3x1024x704, .f32⟩
  | 82 => ⟨S4x1024x704, .f32⟩
  | 83 => ⟨S1x256x1024, .f32⟩
  | 84 => ⟨S3x256x1024, .f32⟩
  | 85 => ⟨S4x256x1024, .f32⟩
  | 86 => ⟨S1x1024x1024, .f32⟩
  | 87 => ⟨S3x1024x1024, .f32⟩
  | 88 => ⟨S4x1024x1024, .f32⟩
  | 89 => ⟨S1x1024x1024, .f32⟩
  | 90 => ⟨S3x1024x1024, .f32⟩
  | 91 => ⟨S4x1024x1024, .f32⟩
  | 92 => ⟨S1x256x1024, .f32⟩
  | 93 => ⟨S3x256x1024, .f32⟩
  | 94 => ⟨S4x256x1024, .f32⟩
  | 95 => ⟨S1x256x256, .f32⟩
  | 96 => ⟨S3x256x256, .f32⟩
  | 97 => ⟨S4x256x256, .f32⟩
  | _ => ⟨S4x1024x704, .f32⟩

abbrev hbmTy (i : Nat) : BufTy := match i / 128 with
  | 0 => hbmTy0_0 i
  | 1 => hbmTy0_1 i
  | 2 => hbmTy0_2 i
  | _ => ⟨S4x1024x704, .f32⟩

abbrev bufTy : (tb : Table) → Fin (tcTables nBuf tb) → BufTy
  | .hbm, ⟨i, _⟩ => hbmTy i
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_cst : Ref sig .tc := ⟨.hbm, 54, rfl⟩
abbrev main_v6 : Ref sig .tc := ⟨.hbm, 55, rfl⟩
abbrev main_v7 : Ref sig .tc := ⟨.hbm, 56, rfl⟩
abbrev main_cst_0 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_cst_1 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_cst_2 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_cst_3 : Ref sig .tc := ⟨.hbm, 69, rfl⟩
abbrev main_v17 : Ref sig .tc := ⟨.hbm, 70, rfl⟩
abbrev main_v18 : Ref sig .tc := ⟨.hbm, 71, rfl⟩
abbrev main_cst_4 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_cst_5 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_cst_6 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_cst_7 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_cst_8 : Ref sig .tc := ⟨.hbm, 93, rfl⟩
abbrev main_v36 : Ref sig .tc := ⟨.hbm, 94, rfl⟩
abbrev main_v37 : Ref sig .tc := ⟨.hbm, 95, rfl⟩
abbrev main_cst_9 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_cst_10 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_cst_11 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_cst_12 : Ref sig .tc := ⟨.hbm, 108, rfl⟩
abbrev main_v47 : Ref sig .tc := ⟨.hbm, 109, rfl⟩
abbrev main_v48 : Ref sig .tc := ⟨.hbm, 110, rfl⟩
abbrev main_cst_13 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_cst_14 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_cst_15 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_cst_16 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_cst_17 : Ref sig .tc := ⟨.hbm, 132, rfl⟩
abbrev main_v66 : Ref sig .tc := ⟨.hbm, 133, rfl⟩
abbrev main_v67 : Ref sig .tc := ⟨.hbm, 134, rfl⟩
abbrev main_cst_18 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_cst_19 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_cst_20 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_cst_21 : Ref sig .tc := ⟨.hbm, 147, rfl⟩
abbrev main_v77 : Ref sig .tc := ⟨.hbm, 148, rfl⟩
abbrev main_v78 : Ref sig .tc := ⟨.hbm, 149, rfl⟩
abbrev main_cst_22 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_cst_23 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_cst_24 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_cst_25 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_cst_26 : Ref sig .tc := ⟨.hbm, 171, rfl⟩
abbrev main_v96 : Ref sig .tc := ⟨.hbm, 172, rfl⟩
abbrev main_v97 : Ref sig .tc := ⟨.hbm, 173, rfl⟩
abbrev main_cst_27 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_cst_28 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_cst_29 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_cst_30 : Ref sig .tc := ⟨.hbm, 186, rfl⟩
abbrev main_v107 : Ref sig .tc := ⟨.hbm, 187, rfl⟩
abbrev main_v108 : Ref sig .tc := ⟨.hbm, 188, rfl⟩
abbrev main_cst_31 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_cst_32 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_cst_33 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_cst_34 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_cst_35 : Ref sig .tc := ⟨.hbm, 210, rfl⟩
abbrev main_v126 : Ref sig .tc := ⟨.hbm, 211, rfl⟩
abbrev main_v127 : Ref sig .tc := ⟨.hbm, 212, rfl⟩
abbrev main_cst_36 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_cst_37 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_cst_38 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_cst_39 : Ref sig .tc := ⟨.hbm, 225, rfl⟩
abbrev main_v137 : Ref sig .tc := ⟨.hbm, 226, rfl⟩
abbrev main_v138 : Ref sig .tc := ⟨.hbm, 227, rfl⟩
abbrev main_cst_40 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_cst_41 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_cst_42 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_cst_43 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_cst_44 : Ref sig .tc := ⟨.hbm, 249, rfl⟩
abbrev main_v156 : Ref sig .tc := ⟨.hbm, 250, rfl⟩
abbrev main_v157 : Ref sig .tc := ⟨.hbm, 251, rfl⟩
abbrev main_cst_45 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_cst_46 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_cst_47 : Ref sig .tc := ⟨.hbm, 260, rfl⟩
abbrev main_v164 : Ref sig .tc := ⟨.hbm, 261, rfl⟩
abbrev main_v165 : Ref sig .tc := ⟨.hbm, 262, rfl⟩
abbrev main_v166 : Ref sig .tc := ⟨.hbm, 263, rfl⟩
abbrev main_cst_48 : Ref sig .tc := ⟨.hbm, 264, rfl⟩
abbrev main_v167 : Ref sig .tc := ⟨.hbm, 265, rfl⟩
abbrev main_v168 : Ref sig .tc := ⟨.hbm, 266, rfl⟩
abbrev main_cst_49 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_cst_50 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_cst_51 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_cst_52 : Ref sig .tc := ⟨.hbm, 279, rfl⟩
abbrev main_v178 : Ref sig .tc := ⟨.hbm, 280, rfl⟩
abbrev main_v179 : Ref sig .tc := ⟨.hbm, 281, rfl⟩
abbrev main_v180 : Ref sig .tc := ⟨.hbm, 282, rfl⟩
abbrev main_v181 : Ref sig .tc := ⟨.hbm, 283, rfl⟩
abbrev main_v182 : Ref sig .tc := ⟨.hbm, 284, rfl⟩
abbrev main_v183 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_v187 : Ref sig .tc := ⟨.hbm, 289, rfl⟩
abbrev main_v188 : Ref sig .tc := ⟨.hbm, 290, rfl⟩
abbrev main_v189 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev main_v199 : Ref sig .tc := ⟨.hbm, 301, rfl⟩
abbrev main_v200 : Ref sig .tc := ⟨.hbm, 302, rfl⟩
abbrev main_v201 : Ref sig .tc := ⟨.hbm, 303, rfl⟩
abbrev main_v202 : Ref sig .tc := ⟨.hbm, 304, rfl⟩
abbrev main_v203 : Ref sig .tc := ⟨.hbm, 305, rfl⟩
abbrev main_v204 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_v210 : Ref sig .tc := ⟨.hbm, 312, rfl⟩
abbrev main_v211 : Ref sig .tc := ⟨.hbm, 313, rfl⟩
abbrev main_v212 : Ref sig .tc := ⟨.hbm, 314, rfl⟩
abbrev main_v213 : Ref sig .tc := ⟨.hbm, 315, rfl⟩
abbrev main_v214 : Ref sig .tc := ⟨.hbm, 316, rfl⟩
abbrev main_v215 : Ref sig .tc := ⟨.hbm, 317, rfl⟩
abbrev main_v216 : Ref sig .tc := ⟨.hbm, 318, rfl⟩
abbrev main_v217 : Ref sig .tc := ⟨.hbm, 319, rfl⟩
abbrev main_v218 : Ref sig .tc := ⟨.hbm, 320, rfl⟩
abbrev main_v219 : Ref sig .tc := ⟨.hbm, 321, rfl⟩
abbrev main_v220 : Ref sig .tc := ⟨.hbm, 322, rfl⟩
abbrev main_v221 : Ref sig .tc := ⟨.hbm, 323, rfl⟩
abbrev main_v222 : Ref sig .tc := ⟨.hbm, 324, rfl⟩
abbrev main_v223 : Ref sig .tc := ⟨.hbm, 325, rfl⟩
abbrev main_v224 : Ref sig .tc := ⟨.hbm, 326, rfl⟩
abbrev main_v225 : Ref sig .tc := ⟨.hbm, 327, rfl⟩
abbrev main_v226 : Ref sig .tc := ⟨.hbm, 328, rfl⟩
abbrev main_v227 : Ref sig .tc := ⟨.hbm, 329, rfl⟩
abbrev main_v228 : Ref sig .tc := ⟨.hbm, 330, rfl⟩
abbrev main_v229 : Ref sig .tc := ⟨.hbm, 331, rfl⟩
abbrev main_v230 : Ref sig .tc := ⟨.hbm, 332, rfl⟩
abbrev main_v231 : Ref sig .tc := ⟨.hbm, 333, rfl⟩
abbrev main_v232 : Ref sig .tc := ⟨.hbm, 334, rfl⟩
abbrev main_v233 : Ref sig .tc := ⟨.hbm, 335, rfl⟩
abbrev main_v234 : Ref sig .tc := ⟨.hbm, 336, rfl⟩
abbrev main_v235 : Ref sig .tc := ⟨.hbm, 337, rfl⟩
abbrev main_v236 : Ref sig .tc := ⟨.hbm, 338, rfl⟩
abbrev main_v237 : Ref sig .tc := ⟨.hbm, 339, rfl⟩
abbrev main_v238 : Ref sig .tc := ⟨.hbm, 340, rfl⟩
abbrev main_v239 : Ref sig .tc := ⟨.hbm, 341, rfl⟩
abbrev main_v240 : Ref sig .tc := ⟨.hbm, 342, rfl⟩
abbrev main_v241 : Ref sig .tc := ⟨.hbm, 343, rfl⟩
abbrev main_v242 : Ref sig .tc := ⟨.hbm, 344, rfl⟩
abbrev main_v243 : Ref sig .tc := ⟨.hbm, 345, rfl⟩
abbrev main_v244 : Ref sig .tc := ⟨.hbm, 346, rfl⟩
abbrev main_v245 : Ref sig .tc := ⟨.hbm, 347, rfl⟩
abbrev main_v246 : Ref sig .tc := ⟨.hbm, 348, rfl⟩
abbrev main_v247 : Ref sig .tc := ⟨.hbm, 349, rfl⟩
abbrev main_v248 : Ref sig .tc := ⟨.hbm, 350, rfl⟩
abbrev main_v249 : Ref sig .tc := ⟨.hbm, 351, rfl⟩
abbrev main_v250 : Ref sig .tc := ⟨.hbm, 352, rfl⟩
abbrev main_v251 : Ref sig .tc := ⟨.hbm, 353, rfl⟩

abbrev nD : Nat := 1
abbrev τ : Topo := Topo.v7x

variable {F : FTy → Type} [FloatOps F]
-- ==== Proof.NormRows.lean ====
/- Arrays of 2048 rows of 1024 taken 256 rows at a time: what a load of the `n`-th 256 rows reads, and what eight
   stores of 256 rows, one after the other, leave. Used by the three calls that norm their rows in a counted loop. -/
module

public import Idealize.ShloMosaic.Lib.VecWindow
public import Idealize.ShloMosaic.Lib.WritesUnit
public import Idealize.ShloMosaic.Lib.Pipeline.ValueKit

@[expose] public section

namespace Cert.NormRows

open Idealize.ShloMosaic

/-- The whole array's shape, -/
abbrev All : Shape := ⟨2, ![2048, 1024]⟩
/-- and that of 256 of its rows. -/
abbrev Part : Shape := ⟨2, ![256, 1024]⟩

variable {α β : Type}

/-- The rows `256·n … 256·n + 255` of `x`. -/
def rows (x : All.Idx → α) (n : Fin 8) : Part.Idx → α :=
  fun y => x (ix2 (n0 := 2048) (n1 := 1024) ⟨256 * n.val + (y 0).val, by
    have h : (y 0).val < 256 := (y 0).isLt
    have := n.isLt; omega⟩ (y 1))

/-- Which 256 rows an index is in, -/
def piece (y : All.Idx) : Fin 8 := ⟨(y 0).val / 256, by have h : (y 0).val < 2048 := (y 0).isLt; omega⟩
/-- and where in them. -/
def within (y : All.Idx) : Part.Idx := ix2 (n0 := 256) (n1 := 1024) ⟨(y 0).val % 256, Nat.mod_lt _ (by decide)⟩ (y 1)

/-- `g` applied to each 256 rows of `x`. -/
def byRows (g : (Part.Idx → α) → Part.Idx → β) (x : All.Idx → α) : All.Idx → β :=
  fun y => g (rows x (piece y)) (within y)

/-- An index is the one its 256 rows hold at its place in them. -/
theorem rows_within (x : All.Idx → α) (y : All.Idx) : rows x (piece y) (within y) = x y := by
  unfold rows
  refine congrArg x (funext fun a => ?_)
  refine Fin.cases (Fin.ext ?_) (fun a => ?_) a
  · exact Nat.div_add_mod (y 0).val 256
  · refine Fin.cases rfl (fun a => a.elim0) a

/-- A row of the 256 an index is in, at its place in them, is its row. -/
theorem rows_row (x : All.Idx → α) (a : Fin 2048) (b k : Fin 1024) :
    rows x (piece (ix2 a b)) (ix2 (⟨a.val % 256, Nat.mod_lt _ (by decide)⟩ : Fin 256) k) = x (ix2 a k) :=
  rows_within x (ix2 a k)

variable {sig : RefSig} {κ : Kind} {sp : Space} {e : EltTy} {Val : EltTy → Type}

/-- A load of 256 rows reads those rows. -/
theorem readAt_rows (v : View sig κ sp All e) (f : v.ty.Contents Val) (n : Fin 8) {off : Fin 2 → ℕ} (h : off = ![256 * n.val, 0])
    (inb : ∀ a, off a + Part.size a ≤ All.size a) :
    v.readAt Val (Rect.unit (s := All) off Part.size inb).toLoadRect f = rows (v.read Val f) n := by
  subst h
  refine (View.readAt_unit (s := All) v f inb rfl inb).trans (funext fun y => ?_)
  refine congrArg (v.read Val f) (funext fun a => ?_)
  refine Fin.cases (Fin.ext ?_) (fun a => ?_) a
  · change 256 * n.val + 1 * (y 0).val = 256 * n.val + (y 0).val
    rw [one_mul]
  · refine Fin.cases (Fin.ext ?_) (fun a => a.elim0) a
    change 0 + 1 * (y 1).val = (y 1).val
    rw [zero_add, one_mul]

/-- Eight stores of 256 rows leave at an index what the store of its 256 rows put there. -/
theorem read_pieces {T : ℕ} (hT : T = 8) (v : View sig κ sp All e) (f : v.ty.Contents Val) (off : Fin T → Fin 2 → ℕ)
    (hoff : ∀ k, off k = ![256 * k.val, 0]) (inb : ∀ k a, off k a + Part.size a ≤ All.size a) (P : Fin T → Part.Idx → Val e) (y : All.Idx) :
    v.read Val (v.writes Val f (View.tilePieces Part.size off inb P T le_rfl)) y = P ((piece y).cast hT.symm) (within y) := by
  have h : (y 0).val < 2048 := (y 0).isLt
  refine View.read_tilePieces v f Part.size off inb P T le_rfl y ((piece y).cast hT.symm) ?_ (within y) (fun a => ?_) (0 : Fin 2) (fun k hk => ?_)
  · exact ((piece y).cast hT.symm).isLt
  · rw [hoff]
    refine Fin.cases ?_ (fun a => ?_) a
    · exact (Nat.div_add_mod (y 0).val 256).symm
    · refine Fin.cases ?_ (fun a => a.elim0) a
      exact (Nat.zero_add _).symm
  · rw [hoff]
    change (y 0).val < 256 * k.val ∨ 256 * k.val + 256 ≤ (y 0).val
    have : k.val ≠ (y 0).val / 256 := fun e => hk (Fin.ext e)
    omega

end Cert.NormRows
-- ==== Proof.NormInRun.lean ====
/- The run of the kernel `cc0_proj` of `NormInIdeal`, over any float values: the first point norms all the rows, 256 at a time,
   in a counted loop, and stores them; every point multiplies the stored rows by its own columns. -/
module

public import proofs.«01_k».proof.Proof.NormRows
public import proofs.«01_k».proof.Proof.Gen.NormInIdeal.Frame
public import proofs.«01_k».proof.Proof.Gen.NormInIdeal.Loops
public import Idealize.ShloMosaic.Lib.Pipeline.TableIdle

@[expose] public section

set_option maxRecDepth 16384

noncomputable section

namespace Cert.NormInIdeal.Run

open Cert.NormInIdeal.Gen Cert.NormRows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-- The resources the run is stated over. -/
abbrev Res (F : FTy → Type) := MT nD τ sig Unit (Elt F) ℕ (UR sig nD τ) ℕ

/-- All the rows of `x`, normed 256 at a time. -/
def normed (x : Vec F S2048x1024 .f32) (g : Vec F S1x1024 .f32) : Vec F S2048x1024 .bf16 := byRows (fun r => k0_pay1 r g) x

theorem trips_eq : k0_t1_loop.trips = 8 := by decide +kernel

section Body

variable (c : Dev nD) (i : grid0.Coords)
  (arg1 : Memref sig .tc .vmem S2048x1024 .f32) (harg1 : arg1.IsWhole) (arg2 : Memref sig .tc .vmem S1x1024 .f32) (harg2 : arg2.IsWhole)
  (arg3 : Memref sig .tc .vmem S1024x256 .bf16) (harg3 : arg3.IsWhole) (arg4 : Memref sig .tc .vmem S2048x1024 .bf16) (harg4 : arg4.IsWhole)
  (arg5 : Memref sig .tc .vmem S2048x256 .bf16) (harg5 : arg5.IsWhole)

/-- The stores of the trips before `j`, as tiles of 256 rows. -/
theorem pieces_eq (hc : k0_cond1 i = 1#1) (x : Vec F S2048x1024 .f32) (g : Vec F S1x1024 .f32) : ∀ (j : ℕ) (hj : j ≤ k0_t1_loop.trips),
    pb_k0_t1 (F := F) Variants.none c none i arg1 harg1 arg2 harg2 arg3 harg3 arg4 harg4 arg5 harg5 hc (harg1.unread x) (harg2.unread g) j
      = View.tilePieces (s := S2048x1024) S256x1024.size k0_off1 (fun k => k0_off1_inb i k hc) (fun k => k0_pay1 (rows x (k.cast trips_eq)) g) j hj
  | 0, _ => rfl
  | j + 1, hj => by
    rw [pb_k0_t1_succ Variants.none c none i arg1 harg1 arg2 harg2 arg3 harg3 arg4 harg4 arg5 harg5 hc _ _ ⟨j, hj⟩, View.tilePieces_succ,
      ← pieces_eq hc x g j (Nat.le_of_succ_le hj)]
    unfold tripL_k0_t1 trip_k0_t1
    refine congrArg (fun p => (⟨_, p⟩ : View.Piece (Elt F) S2048x1024 .bf16) :: _) (congrArg₂ k0_pay1 ?_ ?_)
    · refine (readAt_rows arg1.view _ ⟨j, by have := trips_eq; omega⟩ (k0_off1_eq _) _).trans ?_
      rw [harg1.read_unread]; rfl
    · exact (View.readAt_full arg2.view _ _).trans (harg2.read_unread g)

/-- What the loop leaves: all the rows normed. -/
theorem read_pieces_eq (hc : k0_cond1 i = 1#1) (x : Vec F S2048x1024 .f32) (g : Vec F S1x1024 .f32) (f : arg4.view.ty.Contents (Elt F)) :
    arg4.view.read (Elt F) (arg4.view.writes (Elt F) f
        (pb_k0_t1 (F := F) Variants.none c none i arg1 harg1 arg2 harg2 arg3 harg3 arg4 harg4 arg5 harg5 hc (harg1.unread x) (harg2.unread g) k0_t1_loop.trips))
      = normed x g := by
  rw [pieces_eq c i arg1 harg1 arg2 harg2 arg3 harg3 arg4 harg4 arg5 harg5 hc x g _ le_rfl]
  funext y
  exact read_pieces trips_eq arg4.view f k0_off1 k0_off1_eq _ _ y

/-- The body at the first point. -/
theorem first (hc : k0_cond1 i = 1#1)
    (x0 : Vec F S2048x1024 .f32) (x1 : Vec F S1x1024 .f32) (x2 : Vec F S1024x256 .bf16) (E : Set ℕ) (K : PUnit → sProp (Res F)) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (normed x0 x1) ∗ owns (c : Thread nD τ) arg5 fullShare (k0_pay2 (normed x0 x1) x2)) -∗ K ⟨⟩))
      ⊢ wp frame (wpE (defs₀ (F := F)) Variants.none c none) E (cc0_proj i arg1 harg1 arg2 harg2 arg3 harg3 arg4 harg4 arg5 harg5) K := by
  simp only [cc0_proj_eq_skeleton]; unfold cc0_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  sl_exec (disch := first | sl_exact hc)
  sl_step
  have hn := read_pieces_eq c i arg1 harg1 arg2 harg2 arg3 harg3 arg4 harg4 arg5 harg5 hc x0 x1 f3
  iapply Hk
  isplitl [H0]
  · iexists _; isplitr
    swap; · iexact H0
    ipureintro; exact harg1.read_unread x0
  isplitl [H1]
  · iexists _; isplitr
    swap; · iexact H1
    ipureintro; exact harg2.read_unread x1
  isplitl [H2]
  · iexists _; isplitr
    swap; · iexact H2
    ipureintro; exact harg3.read_unread x2
  isplitl [H3]
  · iexists _; isplitr
    swap; · iexact H3
    ipureintro; exact hn
  iexists _; isplitr
  swap; · iexact H4
  ipureintro
  exact (View.read_writes_full arg5.view f4 _ _ _).trans
    (congrArg₂ k0_pay2 ((View.readAt_full arg4.view _ _).trans hn) ((View.readAt_full arg3.view _ _).trans (harg3.read_unread x2)))

/-- The body at a later point: the normed rows are the ones it is given. -/
theorem later (hc : ¬k0_cond1 i = 1#1)
    (x0 : Vec F S2048x1024 .f32) (x1 : Vec F S1x1024 .f32) (x2 : Vec F S1024x256 .bf16) (h : Vec F S2048x1024 .bf16) (E : Set ℕ) (K : PUnit → sProp (Res F)) :
    iprop(owns (c : Thread nD τ) arg1 fullShare x0 ∗ owns (c : Thread nD τ) arg2 fullShare x1 ∗ owns (c : Thread nD τ) arg3 fullShare x2
        ∗ owns (c : Thread nD τ) arg4 fullShare h ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare h ∗ owns (c : Thread nD τ) arg5 fullShare (k0_pay2 h x2)) -∗ K ⟨⟩))
      ⊢ wp frame (wpE (defs₀ (F := F)) Variants.none c none) E (cc0_proj i arg1 harg1 arg2 harg2 arg3 harg3 arg4 harg4 arg5 harg5) K := by
  simp only [cc0_proj_eq_skeleton]; unfold cc0_proj_skel
  unfold owns
  iintro ⟨⟨%f0, %hf0, H0⟩, ⟨%f1, %hf1, H1⟩, ⟨%f2, %hf2, H2⟩, ⟨%f3, %hf3, H3⟩, ⟨%d4, %f4, -, H4⟩, Hk⟩
  sl_exec (disch := first | sl_exact hc)
  sl_step
  iapply Hk
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  iexists _; isplitr
  swap; · iexact H4
  ipureintro
  exact (View.read_writes_full arg5.view f4 _ _ _).trans
    (congrArg₂ k0_pay2 ((View.readAt_full arg4.view _ _).trans hf3) ((View.readAt_full arg3.view _ _).trans hf2))

end Body

/-! ## The pipeline's proof data -/

theorem N_pos : 0 < cfg0.N := by decide +kernel

/-- The first point. -/
abbrev t₀ : Fin cfg0.N := ⟨0, N_pos⟩

/-- The loop runs at the first point only. -/
theorem cond_iff : ∀ t : Fin cfg0.N, k0_cond1 (grid0.coords t) = 1#1 ↔ t.val = 0 := by decide +kernel

/-- The normed rows' buffer is idle at every point but the first, -/
theorem idle_3 : ∀ t : Fin cfg0.N, cfg0.idle 3 (grid0.coords t) = !decide (t.val = 0) := by decide +kernel
/-- written back at the last, -/
theorem flush_3 : ∀ t : Fin cfg0.N, (cfg0.win 3).flush t = decide (t.val = 10) := by decide +kernel

/-- and untouched only before the first point runs. -/
def freshTab : ℕ → Bool
  | 0 => true
  | n + 1 => decide (n = 10)

theorem fresh_3 (t : Fin cfg0.N) : cfg0.fresh 3 t.val = freshTab t.val :=
  Pipeline.Cfg.fresh_tab cfg0 3 freshTab rfl (by decide +kernel) t.val (Nat.le_of_lt t.isLt)

variable (m : (ℓ : Loc nD τ sig) → Buf (Elt F) ℓ) (ρ : Dev nD → PrngReg)

/-- All the normed rows of the call. -/
def hn (c : Dev nD) : Vec F S2048x1024 .bf16 := normed (iblk m c 0 t₀) (iblk m c 1 t₀)

/-- After the body at a point the inputs' buffers hold their blocks, the third the normed rows and the last the point's columns
    of the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hn m c
    | ⟨4, _⟩ => k0_pay2 (hn m c) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = hn m c := by dsimp only [dats]
theorem after_4 (c : Dev nD) (t : Fin cfg0.N) : (dats m 0 c).after 4 t = k0_pay2 (hn m c) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- A later point finds the normed rows. -/
theorem before_3 (c : Dev nD) (t : Fin cfg0.N) (ht : t.val ≠ 0) (d) : (dats m 0 c).before 3 t d = hn m c := by
  have hN : t.val < 11 := lt_of_lt_of_eq t.isLt (show cfg0.N = 11 from N_0)
  have hf : cfg0.fresh 3 t.val = false := by
    rw [fresh_3]
    obtain ⟨n, hn⟩ := t
    cases n with
    | zero => exact absurd rfl ht
    | succ n => exact decide_eq_false (by dsimp only at hN; omega)
  rw [Dat.before_out_traj _ 3 rfl (fun _ _ => rfl) (fun t _ _ _ => (after_3 m c t).trans (after_3 m c _).symm) t.val t rfl d,
    if_neg (by rw [hf]; exact Bool.false_ne_true)]
  exact after_3 m c _

/-! ## The body obligation -/

/-- The inputs' buffers are left at their blocks, -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The normed rows' buffer, holding them, is what the body must leave, whether idle or not. -/
theorem leaves_3 (c : Dev nD) (t : Fin cfg0.N) :
    owns (c : Thread nD τ) ((cfg0.win 3).stage (cfg0.slots t 3)) fullShare (hn m c) ⊢ (dats m 0 c).leavesExact 3 t := by
  by_cases ht : t.val = 0
  · rw [leaves_live m c 3 t (by rw [idle_3]; simp [ht]), after_3]
  · have hi : cfg0.idle 3 (grid0.coords t) = true := by rw [idle_3]; simp [ht]
    by_cases hl : t.val = 10
    · unfold Dat.leavesExact
      rw [show cfg0.idle 3 (cfg0.grid.coords t) = true from hi, flush_3, after_3]
      simp only [hl, decide_true]
      exact .rfl
    · rw [Dat.leavesExact_idle _ _ _ hi (by rw [flush_3]; simp [hl])]
      iintro H
      iexists hn m c
      rw [before_3 m c t ht]
      iexact H

/-- What the body is called with at a point, -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp (Res F) :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 4 t rfl, after_0, after_1, after_2, after_4]
  by_cases ht : t.val = 0
  · obtain rfl : t = t₀ := Fin.ext ht
    iintro ⟨HΦ, Ho, ⟨%d0, H0⟩, ⟨%d1, H1⟩, ⟨%d2, H2⟩, ⟨%d3, H3⟩, ⟨%d4, H4⟩⟩
    iapply (first c (grid0.coords t₀) _ _ _ _ _ _ _ _ _ _ ((cond_iff t₀).mpr rfl) (iblk m c 0 t₀) (iblk m c 1 t₀) (iblk m c 2 t₀) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply (leaves_3 m c t₀); iexact H3
    iexact H4
  · simp only [before_3 m c t ht]
    iintro ⟨HΦ, Ho, ⟨%d0, H0⟩, ⟨%d1, H1⟩, ⟨%d2, H2⟩, ⟨%d3, H3⟩, ⟨%d4, H4⟩⟩
    iapply (later c (grid0.coords t) _ _ _ _ _ _ _ _ _ _ (fun h => ht ((cond_iff t).mp h)) (iblk m c 0 t) (iblk m c 1 t) (iblk m c 2 t) (hn m c) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply (leaves_3 m c t); iexact H3
    iexact H4

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

/-! ## The run -/

-- the launch theorem's implicit arguments are found by unifying its conclusion with this one
set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

/-- What the run leaves in its results, and that its arguments are kept. -/
theorem run_blocks : θ_run defs (onTc (τ := τ) (main (F := F))) ⟨m, fun _ => 0, ρ⟩ fun r => ∀ c : Dev nD,
      r.2.mem ((c : Thread nD τ).loc main_v2_0) = (dats m 0 c).arrAt 3 cfg0.N
      ∧ r.2.mem ((c : Thread nD τ).loc main_v2_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 3, (h.1 c).1 4, h.2 c⟩)
    (θ_run_and (run_main m ρ) (frame_of m ρ (dats m) (A_eq m) (run_main m ρ)))

end Cert.NormInIdeal.Run

end
-- ==== Proof.RmsGrad.lean ====
/- The gradient of a root-mean-square norm, over the extended reals: the two ways the program and the reference write it. -/
module

public import Idealize.ShloMosaic.Lib.Pointwise
public import Idealize.ShloMosaic.Lib.IdealHost
public import Idealize.ShloMosaic.Lib.Pipeline.ValueKit

@[expose] public section

noncomputable section

namespace Cert.RmsGrad

open Idealize.ShloMosaic

/-- The width of a row is 1024. -/
theorem width : Ideal.ofBits .f32 1149239296#32 = ((1024 : ℝ) : EReal) := by
  simp [Ideal.ofBits, Ideal.ieee, -EReal.coe_mul]; norm_num

/-- The exponent's derivative is minus one half. -/
theorem half : Ideal.ofBits .f32 3204448256#32 = ((-(1 / 2) : ℝ) : EReal) := by
  simp [Ideal.ofBits, Ideal.ieee, -EReal.coe_mul, -EReal.coe_neg]; norm_num

/-- What is added under the root is positive. -/
theorem eps : 0 < Ideal.ofBits .f32 897988541#32 := by
  simp [Ideal.ofBits, Ideal.ieee, -EReal.coe_mul]

/-- What stands under the root of a row whose squares add up to `s`. -/
def under (s : EReal) : EReal := Ideal.div s (Ideal.ofBits .f32 1149239296#32) + Ideal.ofBits .f32 897988541#32

theorem under_pos {s : EReal} (hs : 0 ≤ s) : 0 < under s := by
  unfold under
  rw [width, Ideal.div_coe (by norm_num)]
  refine lt_of_lt_of_le eps (le_add_of_nonneg_left (mul_nonneg hs ?_))
  rw [← EReal.coe_zero, EReal.coe_le_coe_iff]
  norm_num

/-- The reciprocal root's cube is the reciprocal root over what stands under it. -/
theorem cube {v : EReal} (hv : 0 < v) :
    Ideal.div (Ideal.rsqrt v) v = Ideal.rsqrt v * Ideal.rsqrt v * Ideal.rsqrt v := by
  induction v using EReal.rec with
  | bot => exact absurd hv (by simp)
  | top => simp [Ideal.div]
  | coe r =>
    have hr : 0 < r := by exact_mod_cast hv
    rw [Ideal.div_coe hr.ne', Ideal.rsqrt_coe, if_neg (not_lt.mpr hr.le), if_neg hr.ne']
    norm_cast
    have h : Real.sqrt r * Real.sqrt r = r := Real.mul_self_sqrt hr.le
    have hq : Real.sqrt r ≠ 0 := (Real.sqrt_pos.mpr hr).ne'
    rw [one_div]
    nth_rw 2 [← h]
    rw [mul_inv, mul_assoc]

/-- Twice a half of the opposite. -/
theorem twice (z : EReal) : z * ((-(1 / 2) : ℝ) : EReal) + z * ((-(1 / 2) : ℝ) : EReal) = -z := by
  induction z using EReal.rec with
  | bot => rw [EReal.bot_mul_coe_of_neg (by norm_num)]; rfl
  | top => rw [EReal.top_mul_coe_of_neg (by norm_num)]; rfl
  | coe r => norm_cast; ring

/-- THE GRADIENT IN A ROW'S ENTRY: the residual's gradient `d`, the entry `x`, the scaled incoming gradient `t` there, the row's
    sum of squares `s` and its sum `S` of `x · t`. -/
theorem entry {s : EReal} (hs : 0 ≤ s) (d t x S : EReal) :
    d + Ideal.rsqrt (under s) * t - x * (Ideal.rsqrt (under s) * Ideal.rsqrt (under s) * Ideal.rsqrt (under s)) *
        Ideal.div S (Ideal.ofBits .f32 1149239296#32) =
      d + t * Ideal.rsqrt (under s) +
          x * Ideal.div (S * (Ideal.ofBits .f32 3204448256#32 * Ideal.div (Ideal.rsqrt (under s)) (under s)))
            (Ideal.ofBits .f32 1149239296#32) +
        Ideal.div (S * (Ideal.ofBits .f32 3204448256#32 * Ideal.div (Ideal.rsqrt (under s)) (under s)))
            (Ideal.ofBits .f32 1149239296#32) * x := by
  rw [cube (under_pos hs), half, width, Ideal.div_coe (by norm_num), Ideal.div_coe (by norm_num), mul_comm _ t, add_assoc (d + _)]
  generalize Ideal.rsqrt (under s) * Ideal.rsqrt (under s) * Ideal.rsqrt (under s) = r
  generalize ((1 / 1024 : ℝ) : EReal) = n
  rw [show x * (S * (((-(1 / 2) : ℝ) : EReal) * r) * n) = x * r * (S * n) * ((-(1 / 2) : ℝ) : EReal) by ac_rfl,
    show S * (((-(1 / 2) : ℝ) : EReal) * r) * n * x = x * r * (S * n) * ((-(1 / 2) : ℝ) : EReal) by ac_rfl, twice]
  rfl

/-- A sum of squares is not negative. -/
theorem squares {n : ℕ} (f : Fin n → EReal) : 0 ≤ ∑ k, f k * f k :=
  Finset.sum_nonneg fun k _ => by
    rcases le_total 0 (f k) with h | h
    · exact mul_nonneg h h
    · exact EReal.mul_nonneg_iff.mpr (.inr ⟨h, h⟩)

/-- A sum over 4096 by its four quarters. -/
theorem quarters (f : Fin 4096 → EReal) : ∑ k, f k =
    (∑ k : Fin 1024, f ⟨k.val, by omega⟩) + (∑ k : Fin 1024, f ⟨1024 + k.val, by omega⟩) +
      (∑ k : Fin 1024, f ⟨2048 + k.val, by omega⟩) + ∑ k : Fin 1024, f ⟨3072 + k.val, by omega⟩ := by
  rw [← Fin.sum_mul_add_congr (S := 4) (n := 1024) (F := fun s k => f ⟨s.val * 1024 + k.val, by omega⟩) (fun s k hl => rfl),
    Fin.sum_univ_four]
  simp

end Cert.RmsGrad
-- ==== Proof.NormInValue.lean ====
/- The first norm and the input projection, forward: all the normed rows, and their product with the weights. -/
module

public import proofs.«01_k».proof.Proof.NormInRun
public import proofs.«01_k».proof.Proof.RmsGrad
public import proofs.«01_k».proof.Proof.Gen.NormInReferenceIdeal.Run
public import proofs.«01_k».proof.Proof.Gen.NormInReferenceIdeal.Read
public import Idealize.ShloMosaic.Lib.Pipeline.ValueKit
public import Idealize.ShloMosaic.Lib.Pointwise

@[expose] public section

set_option maxRecDepth 16384

noncomputable section

namespace Cert.NormInValue

open Idealize.ShloMosaic Idealize.ShloMosaic.TcCoe Idealize.SL.Sem
open Cert.NormInIdeal Cert.NormInIdeal.Gen Cert.NormInIdeal.Run Cert.NormRows
open Idealize.ShloMosaic.Pipeline (Dat)

variable (m : (ℓ : Loc nD τ sig) → Buf (Elt Ideal) ℓ)

open Cert.NormInReferenceIdeal.Read

/-- The blocks of the call's point `t`: column block `t` of the weights and of the product, the rest whole. -/
theorem idx : ∀ t : Fin cfg0.N, win0_0.index t = ![0, 0] ∧ win0_1.index t = ![0, 0] ∧ win0_2.index t = ![0, t.val] ∧
    win0_3.index t = ![0, 0] ∧ win0_4.index t = ![0, t.val] := by
  decide +kernel

/-- A normed entry as the kernel computes it, from the 256 rows it is in. -/
theorem normed_at (x : (⟨S2048x1024, .f32⟩ : BufTy).Contents (Elt Ideal)) (g : (⟨S1x1024, .f32⟩ : BufTy).Contents (Elt Ideal)) (a : Fin 2048) (b : Fin 1024) :
    normed (F := Ideal) x g (ix2 a b) = x (ix2 a b) * Ideal.rsqrt (RmsGrad.under (∑ k : Fin 1024, x (ix2 a k) * x (ix2 a k))) * g (ix2 0 b) := by
  unfold normed byRows RmsGrad.under
  change k0_pay1 (F := Ideal) (rows x (piece (ix2 a b))) g (ix2 (⟨a.val % 256, Nat.mod_lt _ (by decide)⟩ : Fin 256) b) = _
  unfold k0_pay1
  pointwise
  simp only [rows_row]

/-- A normed entry as the reference does. -/
theorem reference (x0 : (⟨S2048x1024, .f32⟩ : BufTy).Contents (Elt Ideal)) (x1 : (⟨S1024, .f32⟩ : BufTy).Contents (Elt Ideal)) (a : Fin 2048) (b : Fin 1024) :
    val_main_v12 (F := Ideal) x0 x1 (ix2 a b) = x0 (ix2 a b) * Ideal.rsqrt (RmsGrad.under (∑ k : Fin 1024, x0 (ix2 a k) * x0 (ix2 a k))) * x1 (ix1 b) := by
  unfold RmsGrad.under
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

/-- The scale as the call is given it. -/
theorem scale (c : Dev nD) (b : Fin 1024) : V m c main_v1 (ix2 0 b) = m ((c.tc : Thread nD τ).loc main_arg1) (ix1 b) := by
  entry_read
  pointwise

/-- The rows the call norms are the reference's. -/
theorem hn_at (c : Dev nD) (a : Fin 2048) (b : Fin 1024) : hn (F := Ideal) m c (ix2 a b) =
    val_main_v12 (F := Ideal) (m ((c.tc : Thread nD τ).loc main_arg0)) (m ((c.tc : Thread nD τ).loc main_arg1)) (ix2 a b) := by
  unfold hn
  rw [normed_at, reference, ← scale m c]
  blk_point [iblk, V, idx t₀]

/-- The first array the call leaves is the reference's, -/
theorem arr3 (c : Dev nD) : (dats m 0 c).arrAt 3 cfg0.N =
    val_main_v13 (F := Ideal) (m ((c.tc : Thread nD τ).loc main_arg0)) (m ((c.tc : Thread nD τ).loc main_arg1)) := by
  refine (dats m 0 c).arrAt_eq_of_after_last 3 t0_10 (by decide +kernel) _ fun y => ?_
  obtain ⟨a, b, rfl⟩ : ∃ (a : Fin 2048) (b : Fin 1024), y = ix2 a b := ⟨y 0, y 1, eq_ix2 y⟩
  blk_simp [idx t0_10]
  rw [after_3]
  refine (hn_at m c a b).trans ?_
  pointwise [val_main_v13]

/-- and the second. -/
theorem arr4 (c : Dev nD) : (dats m 0 c).arrAt 4 cfg0.N =
    val_main_v15 (F := Ideal) (m ((c.tc : Thread nD τ).loc main_arg0)) (m ((c.tc : Thread nD τ).loc main_arg1))
      (m ((c.tc : Thread nD τ).loc main_arg2)) := by
  refine (dats m 0 c).arrAt_eq_of_covers 4 _ (by decide +kernel) fun t hf y => ?_
  obtain ⟨a, b, rfl⟩ : ∃ (a : Fin 2048) (b : Fin 256), y = ix2 a b := ⟨y 0, y 1, eq_ix2 y⟩
  have ht : t.val < 11 := t.isLt
  have he : ((cfg0.win 4).blk t).view.emb (ix2 a b) = (ix2 a ⟨t.val * 256 + b.val, by omega⟩ : S2048x2816.Idx) := by
    blk_ext [idx t]
  blk_simp [idx t]
  rw [after_4]
  unfold k0_pay2
  pointwise
  simp only [hn_at]
  pointwise [val_main_v15, val_main_v14]
  blk_point [iblk, V, idx t]

end Cert.NormInValue
-- ==== Proof.NormFfRun.lean ====
/- The run of the kernel `cc0_ff1` of `NormFfIdeal`, over any float values: the first point norms all the rows, 256 at a time,
   in a counted loop, and stores them; every point multiplies the stored rows by its own columns. -/
module

public import proofs.«01_k».proof.Proof.NormRows
public import proofs.«01_k».proof.Proof.Gen.NormFfIdeal.Frame
public import proofs.«01_k».proof.Proof.Gen.NormFfIdeal.Loops
public import Idealize.ShloMosaic.Lib.Pipeline.TableIdle

@[expose] public section

set_option maxRecDepth 16384

noncomputable section

namespace Cert.NormFfIdeal.Run

open Cert.NormFfIdeal.Gen Cert.NormRows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-- The resources the run is stated over. -/
abbrev Res (F : FTy → Type) := MT nD τ sig Unit (Elt F) ℕ (UR sig nD τ) ℕ

/-- All the rows of `x`, normed 256 at a time. -/
def normed (x : Vec F S2048x1024 .f32) (g : Vec F S1x1024 .f32) : Vec F S2048x1024 .bf16 := byRows (fun r => k0_pay1 r g) x

theorem trips_eq : k0_t1_loop.trips = 8 := by decide +kernel

section Body

variable (c : Dev nD) (i : grid0.Coords)
  (arg1 : Memref sig .tc .vmem S2048x1024 .f32) (harg1 : arg1.IsWhole) (arg2 : Memref sig .tc .vmem S1x1024 .f32) (harg2 : arg2.IsWhole)
  (arg3 : Memref sig .tc .vmem S1x1024x1024 .bf16) (harg3 : arg3.IsWhole) (arg4 : Memref sig .tc .vmem S2048x1024 .bf16) (harg4 : arg4.IsWhole)
  (arg5 : Memref sig .tc .vmem S2048x1024 .bf16) (harg5 : arg5.IsWhole)

/-- The stores of the trips before `j`, as tiles of 256 rows. -/
theorem pieces_eq (hc : k0_cond1 i = 1#1) (x : Vec F S2048x1024 .f32) (g : Vec F S1x1024 .f32) : ∀ (j : ℕ) (hj : j ≤ k0_t1_loop.trips),
    pb_k0_t1 (F := F) Variants.none c none i arg1 harg1 arg2 harg2 arg3 harg3 arg4 harg4 arg5 harg5 hc (harg1.unread x) (harg2.unread g) j
      = View.tilePieces (s := S2048x1024) S256x1024.size k0_off1 (fun k => k0_off1_inb i k hc) (fun k => k0_pay1 (rows x (k.cast trips_eq)) g) j hj
  | 0, _ => rfl
  | j + 1, hj => by
    rw [pb_k0_t1_succ Variants.none c none i arg1 harg1 arg2 harg2 arg3 harg3 arg4 harg4 arg5 harg5 hc _ _ ⟨j, hj⟩, View.tilePieces_succ,
      ← pieces_eq hc x g j (Nat.le_of_succ_le hj)]
    unfold tripL_k0_t1 trip_k0_t1
    refine congrArg (fun p => (⟨_, p⟩ : View.Piece (Elt F) S2048x1024 .bf16) :: _) (congrArg₂ k0_pay1 ?_ ?_)
    · refine (readAt_rows arg1.view _ ⟨j, by have := trips_eq; omega⟩ (k0_off1_eq _) _).trans ?_
      rw [harg1.read_unread]; rfl
    · exact (View.readAt_full arg2.view _ _).trans (harg2.read_unread g)

/-- What the loop leaves: all the rows normed. -/
theorem read_pieces_eq (hc : k0_cond1 i = 1#1) (x : Vec F S2048x1024 .f32) (g : Vec F S1x1024 .f32) (f : arg4.view.ty.Contents (Elt F)) :
    arg4.view.read (Elt F) (arg4.view.writes (Elt F) f
        (pb_k0_t1 (F := F) Variants.none c none i arg1 harg1 arg2 harg2 arg3 harg3 arg4 harg4 arg5 harg5 hc (harg1.unread x) (harg2.unread g) k0_t1_loop.trips))
      = normed x g := by
  rw [pieces_eq c i arg1 harg1 arg2 harg2 arg3 harg3 arg4 harg4 arg5 harg5 hc x g _ le_rfl]
  funext y
  exact read_pieces trips_eq arg4.view f k0_off1 k0_off1_eq _ _ y

/-- The body at the first point. -/
theorem first (hc : k0_cond1 i = 1#1)
    (x0 : Vec F S2048x1024 .f32) (x1 : Vec F S1x1024 .f32) (x2 : Vec F S1x1024x1024 .bf16) (E : Set ℕ) (K : PUnit → sProp (Res F)) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (normed x0 x1) ∗ owns (c : Thread nD τ) arg5 fullShare (k0_pay2 (normed x0 x1) x2)) -∗ K ⟨⟩))
      ⊢ wp frame (wpE (defs₀ (F := F)) Variants.none c none) E (cc0_ff1 i arg1 harg1 arg2 harg2 arg3 harg3 arg4 harg4 arg5 harg5) K := by
  simp only [cc0_ff1_eq_skeleton]; unfold cc0_ff1_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  sl_exec (disch := first | sl_exact hc)
  sl_step
  have hn := read_pieces_eq c i arg1 harg1 arg2 harg2 arg3 harg3 arg4 harg4 arg5 harg5 hc x0 x1 f3
  iapply Hk
  isplitl [H0]
  · iexists _; isplitr
    swap; · iexact H0
    ipureintro; exact harg1.read_unread x0
  isplitl [H1]
  · iexists _; isplitr
    swap; · iexact H1
    ipureintro; exact harg2.read_unread x1
  isplitl [H2]
  · iexists _; isplitr
    swap; · iexact H2
    ipureintro; exact harg3.read_unread x2
  isplitl [H3]
  · iexists _; isplitr
    swap; · iexact H3
    ipureintro; exact hn
  iexists _; isplitr
  swap; · iexact H4
  ipureintro
  exact (View.read_writes_full arg5.view f4 _ _ _).trans
    (congrArg₂ k0_pay2 ((View.readAt_full arg4.view _ _).trans hn) ((View.readAt_full arg3.view _ _).trans (harg3.read_unread x2)))

/-- The body at a later point: the normed rows are the ones it is given. -/
theorem later (hc : ¬k0_cond1 i = 1#1)
    (x0 : Vec F S2048x1024 .f32) (x1 : Vec F S1x1024 .f32) (x2 : Vec F S1x1024x1024 .bf16) (h : Vec F S2048x1024 .bf16) (E : Set ℕ) (K : PUnit → sProp (Res F)) :
    iprop(owns (c : Thread nD τ) arg1 fullShare x0 ∗ owns (c : Thread nD τ) arg2 fullShare x1 ∗ owns (c : Thread nD τ) arg3 fullShare x2
        ∗ owns (c : Thread nD τ) arg4 fullShare h ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare h ∗ owns (c : Thread nD τ) arg5 fullShare (k0_pay2 h x2)) -∗ K ⟨⟩))
      ⊢ wp frame (wpE (defs₀ (F := F)) Variants.none c none) E (cc0_ff1 i arg1 harg1 arg2 harg2 arg3 harg3 arg4 harg4 arg5 harg5) K := by
  simp only [cc0_ff1_eq_skeleton]; unfold cc0_ff1_skel
  unfold owns
  iintro ⟨⟨%f0, %hf0, H0⟩, ⟨%f1, %hf1, H1⟩, ⟨%f2, %hf2, H2⟩, ⟨%f3, %hf3, H3⟩, ⟨%d4, %f4, -, H4⟩, Hk⟩
  sl_exec (disch := first | sl_exact hc)
  sl_step
  iapply Hk
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  iexists _; isplitr
  swap; · iexact H4
  ipureintro
  exact (View.read_writes_full arg5.view f4 _ _ _).trans
    (congrArg₂ k0_pay2 ((View.readAt_full arg4.view _ _).trans hf3) ((View.readAt_full arg3.view _ _).trans hf2))

end Body

/-! ## The pipeline's proof data -/

theorem N_pos : 0 < cfg0.N := by decide +kernel

/-- The first point. -/
abbrev t₀ : Fin cfg0.N := ⟨0, N_pos⟩

/-- The loop runs at the first point only. -/
theorem cond_iff : ∀ t : Fin cfg0.N, k0_cond1 (grid0.coords t) = 1#1 ↔ t.val = 0 := by decide +kernel

/-- The normed rows' buffer is idle at every point but the first, -/
theorem idle_3 : ∀ t : Fin cfg0.N, cfg0.idle 3 (grid0.coords t) = !decide (t.val = 0) := by decide +kernel
/-- written back at the last, -/
theorem flush_3 : ∀ t : Fin cfg0.N, (cfg0.win 3).flush t = decide (t.val = 3) := by decide +kernel

/-- and untouched only before the first point runs. -/
def freshTab : ℕ → Bool
  | 0 => true
  | n + 1 => decide (n = 3)

theorem fresh_3 (t : Fin cfg0.N) : cfg0.fresh 3 t.val = freshTab t.val :=
  Pipeline.Cfg.fresh_tab cfg0 3 freshTab rfl (by decide +kernel) t.val (Nat.le_of_lt t.isLt)

variable (m : (ℓ : Loc nD τ sig) → Buf (Elt F) ℓ) (ρ : Dev nD → PrngReg)

/-- All the normed rows of the call. -/
def hn (c : Dev nD) : Vec F S2048x1024 .bf16 := normed (iblk m c 0 t₀) (iblk m c 1 t₀)

/-- After the body at a point the inputs' buffers hold their blocks, the third the normed rows and the last the point's columns
    of the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hn m c
    | ⟨4, _⟩ => k0_pay2 (hn m c) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = hn m c := by dsimp only [dats]
theorem after_4 (c : Dev nD) (t : Fin cfg0.N) : (dats m 0 c).after 4 t = k0_pay2 (hn m c) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- A later point finds the normed rows. -/
theorem before_3 (c : Dev nD) (t : Fin cfg0.N) (ht : t.val ≠ 0) (d) : (dats m 0 c).before 3 t d = hn m c := by
  have hN : t.val < 4 := lt_of_lt_of_eq t.isLt (show cfg0.N = 4 from N_0)
  have hf : cfg0.fresh 3 t.val = false := by
    rw [fresh_3]
    obtain ⟨n, hn⟩ := t
    cases n with
    | zero => exact absurd rfl ht
    | succ n => exact decide_eq_false (by dsimp only at hN; omega)
  rw [Dat.before_out_traj _ 3 rfl (fun _ _ => rfl) (fun t _ _ _ => (after_3 m c t).trans (after_3 m c _).symm) t.val t rfl d,
    if_neg (by rw [hf]; exact Bool.false_ne_true)]
  exact after_3 m c _

/-! ## The body obligation -/

/-- The inputs' buffers are left at their blocks, -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The normed rows' buffer, holding them, is what the body must leave, whether idle or not. -/
theorem leaves_3 (c : Dev nD) (t : Fin cfg0.N) :
    owns (c : Thread nD τ) ((cfg0.win 3).stage (cfg0.slots t 3)) fullShare (hn m c) ⊢ (dats m 0 c).leavesExact 3 t := by
  by_cases ht : t.val = 0
  · rw [leaves_live m c 3 t (by rw [idle_3]; simp [ht]), after_3]
  · have hi : cfg0.idle 3 (grid0.coords t) = true := by rw [idle_3]; simp [ht]
    by_cases hl : t.val = 3
    · unfold Dat.leavesExact
      rw [show cfg0.idle 3 (cfg0.grid.coords t) = true from hi, flush_3, after_3]
      simp only [hl, decide_true]
      exact .rfl
    · rw [Dat.leavesExact_idle _ _ _ hi (by rw [flush_3]; simp [hl])]
      iintro H
      iexists hn m c
      rw [before_3 m c t ht]
      iexact H

/-- What the body is called with at a point, -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp (Res F) :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 4 t rfl, after_0, after_1, after_2, after_4]
  by_cases ht : t.val = 0
  · obtain rfl : t = t₀ := Fin.ext ht
    iintro ⟨HΦ, Ho, ⟨%d0, H0⟩, ⟨%d1, H1⟩, ⟨%d2, H2⟩, ⟨%d3, H3⟩, ⟨%d4, H4⟩⟩
    iapply (first c (grid0.coords t₀) _ _ _ _ _ _ _ _ _ _ ((cond_iff t₀).mpr rfl) (iblk m c 0 t₀) (iblk m c 1 t₀) (iblk m c 2 t₀) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply (leaves_3 m c t₀); iexact H3
    iexact H4
  · simp only [before_3 m c t ht]
    iintro ⟨HΦ, Ho, ⟨%d0, H0⟩, ⟨%d1, H1⟩, ⟨%d2, H2⟩, ⟨%d3, H3⟩, ⟨%d4, H4⟩⟩
    iapply (later c (grid0.coords t) _ _ _ _ _ _ _ _ _ _ (fun h => ht ((cond_iff t).mp h)) (iblk m c 0 t) (iblk m c 1 t) (iblk m c 2 t) (hn m c) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply (leaves_3 m c t); iexact H3
    iexact H4

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

/-! ## The run -/

-- the launch theorem's implicit arguments are found by unifying its conclusion with this one
set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

/-- What the run leaves in its results, and that its arguments are kept. -/
theorem run_blocks : θ_run defs (onTc (τ := τ) (main (F := F))) ⟨m, fun _ => 0, ρ⟩ fun r => ∀ c : Dev nD,
      r.2.mem ((c : Thread nD τ).loc main_v4_0) = (dats m 0 c).arrAt 3 cfg0.N
      ∧ r.2.mem ((c : Thread nD τ).loc main_v4_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 3, (h.1 c).1 4, h.2 c⟩)
    (θ_run_and (run_main m ρ) (frame_of m ρ (dats m) (A_eq m) (run_main m ρ)))

end Cert.NormFfIdeal.Run

end
-- ==== Proof.NormFfValue.lean ====
/- The second norm and the first feed-forward product, forward: all the normed rows, and their product with the weights. -/
module

public import proofs.«01_k».proof.Proof.NormFfRun
public import proofs.«01_k».proof.Proof.RmsGrad
public import proofs.«01_k».proof.Proof.Gen.NormFfReferenceIdeal.Run
public import proofs.«01_k».proof.Proof.Gen.NormFfReferenceIdeal.Read
public import Idealize.ShloMosaic.Lib.Pipeline.ValueKit
public import Idealize.ShloMosaic.Lib.Pointwise

@[expose] public section

set_option maxRecDepth 16384

noncomputable section

namespace Cert.NormFfValue

open Idealize.ShloMosaic Idealize.ShloMosaic.TcCoe Idealize.SL.Sem
open Cert.NormFfIdeal Cert.NormFfIdeal.Gen Cert.NormFfIdeal.Run Cert.NormRows
open Idealize.ShloMosaic.Pipeline (Dat)

variable (m : (ℓ : Loc nD τ sig) → Buf (Elt Ideal) ℓ)

open Cert.NormFfReferenceIdeal.Read

/-- The blocks of the call's point `t`: block `t` of the weights and column block `t` of the product, the rest whole. -/
theorem idx : ∀ t : Fin cfg0.N, win0_0.index t = ![0, 0] ∧ win0_1.index t = ![0, 0] ∧ win0_2.index t = ![t.val, 0, 0] ∧
    win0_3.index t = ![0, 0] ∧ win0_4.index t = ![0, t.val] := by
  decide +kernel

/-- A normed entry as the kernel computes it, from the 256 rows it is in. -/
theorem normed_at (x : (⟨S2048x1024, .f32⟩ : BufTy).Contents (Elt Ideal)) (g : (⟨S1x1024, .f32⟩ : BufTy).Contents (Elt Ideal)) (a : Fin 2048) (b : Fin 1024) :
    normed (F := Ideal) x g (ix2 a b) = x (ix2 a b) * Ideal.rsqrt (RmsGrad.under (∑ k : Fin 1024, x (ix2 a k) * x (ix2 a k))) * g (ix2 0 b) := by
  unfold normed byRows RmsGrad.under
  change k0_pay1 (F := Ideal) (rows x (piece (ix2 a b))) g (ix2 (⟨a.val % 256, Nat.mod_lt _ (by decide)⟩ : Fin 256) b) = _
  unfold k0_pay1
  pointwise
  simp only [rows_row]

/-- A normed entry as the reference does. -/
theorem reference (x0 : (⟨S2048x1024, .f32⟩ : BufTy).Contents (Elt Ideal)) (x1 : (⟨S1024, .f32⟩ : BufTy).Contents (Elt Ideal)) (a : Fin 2048) (b : Fin 1024) :
    val_main_v12 (F := Ideal) x0 x1 (ix2 a b) = x0 (ix2 a b) * Ideal.rsqrt (RmsGrad.under (∑ k : Fin 1024, x0 (ix2 a k) * x0 (ix2 a k))) * x1 (ix1 b) := by
  unfold RmsGrad.under
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

/-- The reference's product. -/
theorem product (x0 : (⟨S2048x1024, .f32⟩ : BufTy).Contents (Elt Ideal)) (x1 : (⟨S1024, .f32⟩ : BufTy).Contents (Elt Ideal))
    (x2 : (⟨S1024x4096, .f32⟩ : BufTy).Contents (Elt Ideal)) (a : Fin 2048) (j : Fin 4096) :
    val_main_v15 (F := Ideal) x0 x1 x2 (ix2 a j) = ∑ k : Fin 1024, val_main_v12 (F := Ideal) x0 x1 (ix2 a k) * x2 (ix2 k j) := by
  pointwise [val_main_v15, val_main_v14]

/-- The scale as the call is given it. -/
theorem scale (c : Dev nD) (b : Fin 1024) : V m c main_v3 (ix2 0 b) = m ((c.tc : Thread nD τ).loc main_arg1) (ix1 b) := by
  entry_read
  pointwise

/-- The rows the call norms are the reference's. -/
theorem hn_at (c : Dev nD) (a : Fin 2048) (b : Fin 1024) : hn (F := Ideal) m c (ix2 a b) =
    val_main_v12 (F := Ideal) (m ((c.tc : Thread nD τ).loc main_arg0)) (m ((c.tc : Thread nD τ).loc main_arg1)) (ix2 a b) := by
  unfold hn
  rw [normed_at, reference, ← scale m c]
  blk_point [iblk, V, idx t₀]

/-- The weights as the call is given them: four blocks of 1024 columns. -/
theorem weights (c : Dev nD) (t : Fin 4) (k b : Fin 1024) : V m c main_v2 (ix3 t k b) =
    m ((c.tc : Thread nD τ).loc main_arg2) (ix2 k (⟨t.val * 1024 + b.val, by omega⟩ : Fin 4096)) := by
  entry_read
  pointwise

/-- The first array the call leaves is the reference's, -/
theorem arr3 (c : Dev nD) : (dats m 0 c).arrAt 3 cfg0.N =
    val_main_v13 (F := Ideal) (m ((c.tc : Thread nD τ).loc main_arg0)) (m ((c.tc : Thread nD τ).loc main_arg1)) := by
  refine (dats m 0 c).arrAt_eq_of_after_last 3 t0_3 (by decide +kernel) _ fun y => ?_
  obtain ⟨a, b, rfl⟩ : ∃ (a : Fin 2048) (b : Fin 1024), y = ix2 a b := ⟨y 0, y 1, eq_ix2 y⟩
  blk_simp [idx t0_3]
  rw [after_3]
  refine (hn_at m c a b).trans ?_
  pointwise [val_main_v13]

/-- and the second. -/
theorem arr4 (c : Dev nD) : (dats m 0 c).arrAt 4 cfg0.N =
    val_main_v15 (F := Ideal) (m ((c.tc : Thread nD τ).loc main_arg0)) (m ((c.tc : Thread nD τ).loc main_arg1))
      (m ((c.tc : Thread nD τ).loc main_arg2)) := by
  refine (dats m 0 c).arrAt_eq_of_covers 4 _ (by decide +kernel) fun t hf y => ?_
  obtain ⟨a, b, rfl⟩ : ∃ (a : Fin 2048) (b : Fin 1024), y = ix2 a b := ⟨y 0, y 1, eq_ix2 y⟩
  have ht : t.val < 4 := t.isLt
  have he : ((cfg0.win 4).blk t).view.emb (ix2 a b) = (ix2 a ⟨t.val * 1024 + b.val, by omega⟩ : S2048x4096.Idx) := by
    blk_ext [idx t]
  blk_simp [idx t]
  rw [after_4]
  unfold k0_pay2
  pointwise
  simp only [hn_at]
  change _ = val_main_v15 (F := Ideal) _ _ _ (((cfg0.win 4).blk t).view.emb (ix2 a b))
  rw [he, product]
  simp only [← weights m c ⟨t.val, ht⟩]
  blk_point [iblk, V, idx t]

end Cert.NormFfValue
-- ==== Proof.NormGateRun.lean ====
/- The run of the kernel `cc0_gate` of `NormGateIdeal`, over any float values: the first point norms all the rows, 256 at a time,
   in a counted loop, and stores them; every point multiplies the stored rows by its own columns. -/
module

public import proofs.«01_k».proof.Proof.NormRows
public import proofs.«01_k».proof.Proof.Gen.NormGateIdeal.Frame
public import proofs.«01_k».proof.Proof.Gen.NormGateIdeal.Loops
public import Idealize.ShloMosaic.Lib.Pipeline.TableIdle

@[expose] public section

set_option maxRecDepth 16384

noncomputable section

namespace Cert.NormGateIdeal.Run

open Cert.NormGateIdeal.Gen Cert.NormRows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-- The resources the run is stated over. -/
abbrev Res (F : FTy → Type) := MT nD τ sig Unit (Elt F) ℕ (UR sig nD τ) ℕ

/-- All the rows of `x`, normed 256 at a time. -/
def normed (x : Vec F S2048x1024 .f32) (g : Vec F S1x1024 .f32) : Vec F S2048x1024 .bf16 := byRows (fun r => k0_pay1 r g) x

theorem trips_eq : k0_t1_loop.trips = 8 := by decide +kernel

section Body

variable (c : Dev nD) (i : grid0.Coords)
  (arg1 : Memref sig .tc .vmem S2048x1024 .f32) (harg1 : arg1.IsWhole) (arg2 : Memref sig .tc .vmem S1x1024 .f32) (harg2 : arg2.IsWhole)
  (arg3 : Memref sig .tc .vmem S1024x512 .bf16) (harg3 : arg3.IsWhole) (arg4 : Memref sig .tc .vmem S2048x1024 .bf16) (harg4 : arg4.IsWhole)
  (arg5 : Memref sig .tc .vmem S2048x512 .bf16) (harg5 : arg5.IsWhole)

/-- The stores of the trips before `j`, as tiles of 256 rows. -/
theorem pieces_eq (hc : k0_cond1 i = 1#1) (x : Vec F S2048x1024 .f32) (g : Vec F S1x1024 .f32) : ∀ (j : ℕ) (hj : j ≤ k0_t1_loop.trips),
    pb_k0_t1 (F := F) Variants.none c none i arg1 harg1 arg2 harg2 arg3 harg3 arg4 harg4 arg5 harg5 hc (harg1.unread x) (harg2.unread g) j
      = View.tilePieces (s := S2048x1024) S256x1024.size k0_off1 (fun k => k0_off1_inb i k hc) (fun k => k0_pay1 (rows x (k.cast trips_eq)) g) j hj
  | 0, _ => rfl
  | j + 1, hj => by
    rw [pb_k0_t1_succ Variants.none c none i arg1 harg1 arg2 harg2 arg3 harg3 arg4 harg4 arg5 harg5 hc _ _ ⟨j, hj⟩, View.tilePieces_succ,
      ← pieces_eq hc x g j (Nat.le_of_succ_le hj)]
    unfold tripL_k0_t1 trip_k0_t1
    refine congrArg (fun p => (⟨_, p⟩ : View.Piece (Elt F) S2048x1024 .bf16) :: _) (congrArg₂ k0_pay1 ?_ ?_)
    · refine (readAt_rows arg1.view _ ⟨j, by have := trips_eq; omega⟩ (k0_off1_eq _) _).trans ?_
      rw [harg1.read_unread]; rfl
    · exact (View.readAt_full arg2.view _ _).trans (harg2.read_unread g)

/-- What the loop leaves: all the rows normed. -/
theorem read_pieces_eq (hc : k0_cond1 i = 1#1) (x : Vec F S2048x1024 .f32) (g : Vec F S1x1024 .f32) (f : arg4.view.ty.Contents (Elt F)) :
    arg4.view.read (Elt F) (arg4.view.writes (Elt F) f
        (pb_k0_t1 (F := F) Variants.none c none i arg1 harg1 arg2 harg2 arg3 harg3 arg4 harg4 arg5 harg5 hc (harg1.unread x) (harg2.unread g) k0_t1_loop.trips))
      = normed x g := by
  rw [pieces_eq c i arg1 harg1 arg2 harg2 arg3 harg3 arg4 harg4 arg5 harg5 hc x g _ le_rfl]
  funext y
  exact read_pieces trips_eq arg4.view f k0_off1 k0_off1_eq _ _ y

/-- The body at the first point. -/
theorem first (hc : k0_cond1 i = 1#1)
    (x0 : Vec F S2048x1024 .f32) (x1 : Vec F S1x1024 .f32) (x2 : Vec F S1024x512 .bf16) (E : Set ℕ) (K : PUnit → sProp (Res F)) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (normed x0 x1) ∗ owns (c : Thread nD τ) arg5 fullShare (k0_pay2 (normed x0 x1) x2)) -∗ K ⟨⟩))
      ⊢ wp frame (wpE (defs₀ (F := F)) Variants.none c none) E (cc0_gate i arg1 harg1 arg2 harg2 arg3 harg3 arg4 harg4 arg5 harg5) K := by
  simp only [cc0_gate_eq_skeleton]; unfold cc0_gate_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  sl_exec (disch := first | sl_exact hc)
  sl_step
  have hn := read_pieces_eq c i arg1 harg1 arg2 harg2 arg3 harg3 arg4 harg4 arg5 harg5 hc x0 x1 f3
  iapply Hk
  isplitl [H0]
  · iexists _; isplitr
    swap; · iexact H0
    ipureintro; exact harg1.read_unread x0
  isplitl [H1]
  · iexists _; isplitr
    swap; · iexact H1
    ipureintro; exact harg2.read_unread x1
  isplitl [H2]
  · iexists _; isplitr
    swap; · iexact H2
    ipureintro; exact harg3.read_unread x2
  isplitl [H3]
  · iexists _; isplitr
    swap; · iexact H3
    ipureintro; exact hn
  iexists _; isplitr
  swap; · iexact H4
  ipureintro
  exact (View.read_writes_full arg5.view f4 _ _ _).trans
    (congrArg₂ k0_pay2 ((View.readAt_full arg4.view _ _).trans hn) ((View.readAt_full arg3.view _ _).trans (harg3.read_unread x2)))

/-- The body at a later point: the normed rows are the ones it is given. -/
theorem later (hc : ¬k0_cond1 i = 1#1)
    (x0 : Vec F S2048x1024 .f32) (x1 : Vec F S1x1024 .f32) (x2 : Vec F S1024x512 .bf16) (h : Vec F S2048x1024 .bf16) (E : Set ℕ) (K : PUnit → sProp (Res F)) :
    iprop(owns (c : Thread nD τ) arg1 fullShare x0 ∗ owns (c : Thread nD τ) arg2 fullShare x1 ∗ owns (c : Thread nD τ) arg3 fullShare x2
        ∗ owns (c : Thread nD τ) arg4 fullShare h ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare h ∗ owns (c : Thread nD τ) arg5 fullShare (k0_pay2 h x2)) -∗ K ⟨⟩))
      ⊢ wp frame (wpE (defs₀ (F := F)) Variants.none c none) E (cc0_gate i arg1 harg1 arg2 harg2 arg3 harg3 arg4 harg4 arg5 harg5) K := by
  simp only [cc0_gate_eq_skeleton]; unfold cc0_gate_skel
  unfold owns
  iintro ⟨⟨%f0, %hf0, H0⟩, ⟨%f1, %hf1, H1⟩, ⟨%f2, %hf2, H2⟩, ⟨%f3, %hf3, H3⟩, ⟨%d4, %f4, -, H4⟩, Hk⟩
  sl_exec (disch := first | sl_exact hc)
  sl_step
  iapply Hk
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  iexists _; isplitr
  swap; · iexact H4
  ipureintro
  exact (View.read_writes_full arg5.view f4 _ _ _).trans
    (congrArg₂ k0_pay2 ((View.readAt_full arg4.view _ _).trans hf3) ((View.readAt_full arg3.view _ _).trans hf2))

end Body

/-! ## The pipeline's proof data -/

theorem N_pos : 0 < cfg0.N := by decide +kernel

/-- The first point. -/
abbrev t₀ : Fin cfg0.N := ⟨0, N_pos⟩

/-- The loop runs at the first point only. -/
theorem cond_iff : ∀ t : Fin cfg0.N, k0_cond1 (grid0.coords t) = 1#1 ↔ t.val = 0 := by decide +kernel

/-- The normed rows' buffer is idle at every point but the first, -/
theorem idle_3 : ∀ t : Fin cfg0.N, cfg0.idle 3 (grid0.coords t) = !decide (t.val = 0) := by decide +kernel
/-- written back at the last, -/
theorem flush_3 : ∀ t : Fin cfg0.N, (cfg0.win 3).flush t = decide (t.val = 1) := by decide +kernel

/-- and untouched only before the first point runs. -/
def freshTab : ℕ → Bool
  | 0 => true
  | n + 1 => decide (n = 1)

theorem fresh_3 (t : Fin cfg0.N) : cfg0.fresh 3 t.val = freshTab t.val :=
  Pipeline.Cfg.fresh_tab cfg0 3 freshTab rfl (by decide +kernel) t.val (Nat.le_of_lt t.isLt)

variable (m : (ℓ : Loc nD τ sig) → Buf (Elt F) ℓ) (ρ : Dev nD → PrngReg)

/-- All the normed rows of the call. -/
def hn (c : Dev nD) : Vec F S2048x1024 .bf16 := normed (iblk m c 0 t₀) (iblk m c 1 t₀)

/-- After the body at a point the inputs' buffers hold their blocks, the third the normed rows and the last the point's columns
    of the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hn m c
    | ⟨4, _⟩ => k0_pay2 (hn m c) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = hn m c := by dsimp only [dats]
theorem after_4 (c : Dev nD) (t : Fin cfg0.N) : (dats m 0 c).after 4 t = k0_pay2 (hn m c) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- A later point finds the normed rows. -/
theorem before_3 (c : Dev nD) (t : Fin cfg0.N) (ht : t.val ≠ 0) (d) : (dats m 0 c).before 3 t d = hn m c := by
  have hN : t.val < 2 := lt_of_lt_of_eq t.isLt (show cfg0.N = 2 from N_0)
  have hf : cfg0.fresh 3 t.val = false := by
    rw [fresh_3]
    obtain ⟨n, hn⟩ := t
    cases n with
    | zero => exact absurd rfl ht
    | succ n => exact decide_eq_false (by dsimp only at hN; omega)
  rw [Dat.before_out_traj _ 3 rfl (fun _ _ => rfl) (fun t _ _ _ => (after_3 m c t).trans (after_3 m c _).symm) t.val t rfl d,
    if_neg (by rw [hf]; exact Bool.false_ne_true)]
  exact after_3 m c _

/-! ## The body obligation -/

/-- The inputs' buffers are left at their blocks, -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The normed rows' buffer, holding them, is what the body must leave, whether idle or not. -/
theorem leaves_3 (c : Dev nD) (t : Fin cfg0.N) :
    owns (c : Thread nD τ) ((cfg0.win 3).stage (cfg0.slots t 3)) fullShare (hn m c) ⊢ (dats m 0 c).leavesExact 3 t := by
  by_cases ht : t.val = 0
  · rw [leaves_live m c 3 t (by rw [idle_3]; simp [ht]), after_3]
  · have hi : cfg0.idle 3 (grid0.coords t) = true := by rw [idle_3]; simp [ht]
    by_cases hl : t.val = 1
    · unfold Dat.leavesExact
      rw [show cfg0.idle 3 (cfg0.grid.coords t) = true from hi, flush_3, after_3]
      simp only [hl, decide_true]
      exact .rfl
    · rw [Dat.leavesExact_idle _ _ _ hi (by rw [flush_3]; simp [hl])]
      iintro H
      iexists hn m c
      rw [before_3 m c t ht]
      iexact H

/-- What the body is called with at a point, -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp (Res F) :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 4 t rfl, after_0, after_1, after_2, after_4]
  by_cases ht : t.val = 0
  · obtain rfl : t = t₀ := Fin.ext ht
    iintro ⟨HΦ, Ho, ⟨%d0, H0⟩, ⟨%d1, H1⟩, ⟨%d2, H2⟩, ⟨%d3, H3⟩, ⟨%d4, H4⟩⟩
    iapply (first c (grid0.coords t₀) _ _ _ _ _ _ _ _ _ _ ((cond_iff t₀).mpr rfl) (iblk m c 0 t₀) (iblk m c 1 t₀) (iblk m c 2 t₀) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply (leaves_3 m c t₀); iexact H3
    iexact H4
  · simp only [before_3 m c t ht]
    iintro ⟨HΦ, Ho, ⟨%d0, H0⟩, ⟨%d1, H1⟩, ⟨%d2, H2⟩, ⟨%d3, H3⟩, ⟨%d4, H4⟩⟩
    iapply (later c (grid0.coords t) _ _ _ _ _ _ _ _ _ _ (fun h => ht ((cond_iff t).mp h)) (iblk m c 0 t) (iblk m c 1 t) (iblk m c 2 t) (hn m c) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply (leaves_3 m c t); iexact H3
    iexact H4

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

/-! ## The run -/

-- the launch theorem's implicit arguments are found by unifying its conclusion with this one
set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

/-- What the run leaves in its results, and that its arguments are kept. -/
theorem run_blocks : θ_run defs (onTc (τ := τ) (main (F := F))) ⟨m, fun _ => 0, ρ⟩ fun r => ∀ c : Dev nD,
      r.2.mem ((c : Thread nD τ).loc main_v2_0) = (dats m 0 c).arrAt 3 cfg0.N
      ∧ r.2.mem ((c : Thread nD τ).loc main_v2_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 3, (h.1 c).1 4, h.2 c⟩)
    (θ_run_and (run_main m ρ) (frame_of m ρ (dats m) (A_eq m) (run_main m ρ)))

end Cert.NormGateIdeal.Run

end
-- ==== Proof.NormGateValue.lean ====
/- The last norm and the gate of the per-layer embedding, forward: all the normed rows, and their product with the weights. -/
module

public import proofs.«01_k».proof.Proof.NormGateRun
public import proofs.«01_k».proof.Proof.RmsGrad
public import proofs.«01_k».proof.Proof.Gen.NormGateReferenceIdeal.Run
public import proofs.«01_k».proof.Proof.Gen.NormGateReferenceIdeal.Read
public import Idealize.ShloMosaic.Lib.Pipeline.ValueKit
public import Idealize.ShloMosaic.Lib.Pointwise

@[expose] public section

set_option maxRecDepth 16384

noncomputable section

namespace Cert.NormGateValue

open Idealize.ShloMosaic Idealize.ShloMosaic.TcCoe Idealize.SL.Sem
open Cert.NormGateIdeal Cert.NormGateIdeal.Gen Cert.NormGateIdeal.Run Cert.NormRows
open Idealize.ShloMosaic.Pipeline (Dat)

variable (m : (ℓ : Loc nD τ sig) → Buf (Elt Ideal) ℓ)

open Cert.NormGateReferenceIdeal.Read

/-- The blocks of the call's point `t`: column block `t` of the weights and of the product, the rest whole. -/
theorem idx : ∀ t : Fin cfg0.N, win0_0.index t = ![0, 0] ∧ win0_1.index t = ![0, 0] ∧ win0_2.index t = ![0, t.val] ∧
    win0_3.index t = ![0, 0] ∧ win0_4.index t = ![0, t.val] := by
  decide +kernel

/-- A normed entry as the kernel computes it, from the 256 rows it is in. -/
theorem normed_at (x : (⟨S2048x1024, .f32⟩ : BufTy).Contents (Elt Ideal)) (g : (⟨S1x1024, .f32⟩ : BufTy).Contents (Elt Ideal)) (a : Fin 2048) (b : Fin 1024) :
    normed (F := Ideal) x g (ix2 a b) = x (ix2 a b) * Ideal.rsqrt (RmsGrad.under (∑ k : Fin 1024, x (ix2 a k) * x (ix2 a k))) * g (ix2 0 b) := by
  unfold normed byRows RmsGrad.under
  change k0_pay1 (F := Ideal) (rows x (piece (ix2 a b))) g (ix2 (⟨a.val % 256, Nat.mod_lt _ (by decide)⟩ : Fin 256) b) = _
  unfold k0_pay1
  pointwise
  simp only [rows_row]

/-- A normed entry as the reference does. -/
theorem reference (x0 : (⟨S2048x1024, .f32⟩ : BufTy).Contents (Elt Ideal)) (x1 : (⟨S1024, .f32⟩ : BufTy).Contents (Elt Ideal)) (a : Fin 2048) (b : Fin 1024) :
    val_main_v12 (F := Ideal) x0 x1 (ix2 a b) = x0 (ix2 a b) * Ideal.rsqrt (RmsGrad.under (∑ k : Fin 1024, x0 (ix2 a k) * x0 (ix2 a k))) * x1 (ix1 b) := by
  unfold RmsGrad.under
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

/-- The scale as the call is given it. -/
theorem scale (c : Dev nD) (b : Fin 1024) : V m c main_v1 (ix2 0 b) = m ((c.tc : Thread nD τ).loc main_arg1) (ix1 b) := by
  entry_read
  pointwise

/-- The rows the call norms are the reference's. -/
theorem hn_at (c : Dev nD) (a : Fin 2048) (b : Fin 1024) : hn (F := Ideal) m c (ix2 a b) =
    val_main_v12 (F := Ideal) (m ((c.tc : Thread nD τ).loc main_arg0)) (m ((c.tc : Thread nD τ).loc main_arg1)) (ix2 a b) := by
  unfold hn
  rw [normed_at, reference, ← scale m c]
  blk_point [iblk, V, idx t₀]

/-- The first array the call leaves is the reference's, -/
theorem arr3 (c : Dev nD) : (dats m 0 c).arrAt 3 cfg0.N =
    val_main_v13 (F := Ideal) (m ((c.tc : Thread nD τ).loc main_arg0)) (m ((c.tc : Thread nD τ).loc main_arg1)) := by
  refine (dats m 0 c).arrAt_eq_of_after_last 3 t0_1 (by decide +kernel) _ fun y => ?_
  obtain ⟨a, b, rfl⟩ : ∃ (a : Fin 2048) (b : Fin 1024), y = ix2 a b := ⟨y 0, y 1, eq_ix2 y⟩
  blk_simp [idx t0_1]
  rw [after_3]
  refine (hn_at m c a b).trans ?_
  pointwise [val_main_v13]

/-- and the second. -/
theorem arr4 (c : Dev nD) : (dats m 0 c).arrAt 4 cfg0.N =
    val_main_v15 (F := Ideal) (m ((c.tc : Thread nD τ).loc main_arg0)) (m ((c.tc : Thread nD τ).loc main_arg1))
      (m ((c.tc : Thread nD τ).loc main_arg2)) := by
  refine (dats m 0 c).arrAt_eq_of_covers 4 _ (by decide +kernel) fun t hf y => ?_
  obtain ⟨a, b, rfl⟩ : ∃ (a : Fin 2048) (b : Fin 512), y = ix2 a b := ⟨y 0, y 1, eq_ix2 y⟩
  have ht : t.val < 2 := t.isLt
  have he : ((cfg0.win 4).blk t).view.emb (ix2 a b) = (ix2 a ⟨t.val * 512 + b.val, by omega⟩ : S2048x1024.Idx) := by
    blk_ext [idx t]
  blk_simp [idx t]
  rw [after_4]
  unfold k0_pay2
  pointwise
  simp only [hn_at]
  pointwise [val_main_v15, val_main_v14]
  blk_point [iblk, V, idx t]

end Cert.NormGateValue
-- ==== Proof.AdamBigBody.lean ====
/- The body of the six cut matrices' optimiser call, over any float values: at a point of the grid the body reads the point's
   rows of every weight, gradient and moment, and stores the gradient, the change and the new moments of those rows. -/
module

public import proofs.«01_k».proof.Proof.Gen.AdamBigIdeal.Frame.Runs
public import Idealize.ShloMosaic.Lib.VecWindow

@[expose] public section

set_option maxRecDepth 16384

noncomputable section

namespace Cert.AdamBigIdeal.Run

open Cert.AdamBigIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-- The resources the run is stated over. -/
abbrev Res (F : FTy → Type) := MT nD τ sig Unit (Elt F) ℕ (UR sig nD τ) ℕ

/-- A load of a whole buffer reads what the buffer holds. -/
theorem load {s : Shape} {e : EltTy} {a : Memref sig .tc .vmem s e} {f : a.view.ty.Contents (Elt F)} {x : Vec F s e} (hf : a.view.read (Elt F) f = x)
    {off : Fin s.rank → ℕ} (inb : ∀ k, off k + s.size k ≤ s.size k) : a.view.readAt (Elt F) (Rect.unit off s.size inb).toLoadRect f = x :=
  (View.readAt_full a.view f inb).trans hf

section Body

variable (c : Dev nD) (i : grid0.Coords)
  (arg1 : Memref sig .tc .vmem S1x128x704 .f32) (harg1 : arg1.IsWhole)
  (arg2 : Memref sig .tc .vmem S1x32x1024 .f32) (harg2 : arg2.IsWhole)
  (arg3 : Memref sig .tc .vmem S1x128x1024 .f32) (harg3 : arg3.IsWhole)
  (arg4 : Memref sig .tc .vmem S1x128x1024 .f32) (harg4 : arg4.IsWhole)
  (arg5 : Memref sig .tc .vmem S1x32x1024 .f32) (harg5 : arg5.IsWhole)
  (arg6 : Memref sig .tc .vmem S1x32x256 .f32) (harg6 : arg6.IsWhole)
  (arg7 : Memref sig .tc .vmem S128x704 .f32) (harg7 : arg7.IsWhole)
  (arg8 : Memref sig .tc .vmem S32x1024 .f32) (harg8 : arg8.IsWhole)
  (arg9 : Memref sig .tc .vmem S128x1024 .f32) (harg9 : arg9.IsWhole)
  (arg10 : Memref sig .tc .vmem S128x1024 .f32) (harg10 : arg10.IsWhole)
  (arg11 : Memref sig .tc .vmem S32x1024 .f32) (harg11 : arg11.IsWhole)
  (arg12 : Memref sig .tc .vmem S32x256 .f32) (harg12 : arg12.IsWhole)
  (arg13 : Memref sig .tc .vmem S1x128x704 .f32) (harg13 : arg13.IsWhole)
  (arg14 : Memref sig .tc .vmem S1x32x1024 .f32) (harg14 : arg14.IsWhole)
  (arg15 : Memref sig .tc .vmem S1x128x1024 .f32) (harg15 : arg15.IsWhole)
  (arg16 : Memref sig .tc .vmem S1x128x1024 .f32) (harg16 : arg16.IsWhole)
  (arg17 : Memref sig .tc .vmem S1x32x1024 .f32) (harg17 : arg17.IsWhole)
  (arg18 : Memref sig .tc .vmem S1x32x256 .f32) (harg18 : arg18.IsWhole)
  (arg19 : Memref sig .tc .vmem S1x128x704 .f32) (harg19 : arg19.IsWhole)
  (arg20 : Memref sig .tc .vmem S1x32x1024 .f32) (harg20 : arg20.IsWhole)
  (arg21 : Memref sig .tc .vmem S1x128x1024 .f32) (harg21 : arg21.IsWhole)
  (arg22 : Memref sig .tc .vmem S1x128x1024 .f32) (harg22 : arg22.IsWhole)
  (arg23 : Memref sig .tc .vmem S1x32x1024 .f32) (harg23 : arg23.IsWhole)
  (arg24 : Memref sig .tc .vmem S1x32x256 .f32) (harg24 : arg24.IsWhole)
  (arg49 : Memref sig .tc .vmem S1x128x704 .f32) (harg49 : arg49.IsWhole)
  (arg50 : Memref sig .tc .vmem S1x32x1024 .f32) (harg50 : arg50.IsWhole)
  (arg51 : Memref sig .tc .vmem S1x128x1024 .f32) (harg51 : arg51.IsWhole)
  (arg52 : Memref sig .tc .vmem S1x128x1024 .f32) (harg52 : arg52.IsWhole)
  (arg53 : Memref sig .tc .vmem S1x32x1024 .f32) (harg53 : arg53.IsWhole)
  (arg54 : Memref sig .tc .vmem S1x32x256 .f32) (harg54 : arg54.IsWhole)
  (arg55 : Memref sig .tc .vmem S1x128x704 .f32) (harg55 : arg55.IsWhole)
  (arg56 : Memref sig .tc .vmem S1x32x1024 .f32) (harg56 : arg56.IsWhole)
  (arg57 : Memref sig .tc .vmem S1x128x1024 .f32) (harg57 : arg57.IsWhole)
  (arg58 : Memref sig .tc .vmem S1x128x1024 .f32) (harg58 : arg58.IsWhole)
  (arg59 : Memref sig .tc .vmem S1x32x1024 .f32) (harg59 : arg59.IsWhole)
  (arg60 : Memref sig .tc .vmem S1x32x256 .f32) (harg60 : arg60.IsWhole)
  (arg61 : Memref sig .tc .vmem S1x128x704 .f32) (harg61 : arg61.IsWhole)
  (arg62 : Memref sig .tc .vmem S1x32x1024 .f32) (harg62 : arg62.IsWhole)
  (arg63 : Memref sig .tc .vmem S1x128x1024 .f32) (harg63 : arg63.IsWhole)
  (arg64 : Memref sig .tc .vmem S1x128x1024 .f32) (harg64 : arg64.IsWhole)
  (arg65 : Memref sig .tc .vmem S1x32x1024 .f32) (harg65 : arg65.IsWhole)
  (arg66 : Memref sig .tc .vmem S1x32x256 .f32) (harg66 : arg66.IsWhole)
  (arg67 : Memref sig .tc .vmem S1x128x704 .f32) (harg67 : arg67.IsWhole)
  (arg68 : Memref sig .tc .vmem S1x32x1024 .f32) (harg68 : arg68.IsWhole)
  (arg69 : Memref sig .tc .vmem S1x128x1024 .f32) (harg69 : arg69.IsWhole)
  (arg70 : Memref sig .tc .vmem S1x128x1024 .f32) (harg70 : arg70.IsWhole)
  (arg71 : Memref sig .tc .vmem S1x32x1024 .f32) (harg71 : arg71.IsWhole)
  (arg72 : Memref sig .tc .vmem S1x32x256 .f32) (harg72 : arg72.IsWhole)

set_option maxHeartbeats 1000000 in
/-- The body at a point. -/
theorem body
    (x0 : Vec F S1x128x704 .f32) (x1 : Vec F S1x32x1024 .f32) (x2 : Vec F S1x128x1024 .f32) (x3 : Vec F S1x128x1024 .f32)
    (x4 : Vec F S1x32x1024 .f32) (x5 : Vec F S1x32x256 .f32) (x6 : Vec F S128x704 .f32) (x7 : Vec F S32x1024 .f32)
    (x8 : Vec F S128x1024 .f32) (x9 : Vec F S128x1024 .f32) (x10 : Vec F S32x1024 .f32) (x11 : Vec F S32x256 .f32)
    (x12 : Vec F S1x128x704 .f32) (x13 : Vec F S1x32x1024 .f32) (x14 : Vec F S1x128x1024 .f32) (x15 : Vec F S1x128x1024 .f32)
    (x16 : Vec F S1x32x1024 .f32) (x17 : Vec F S1x32x256 .f32) (x18 : Vec F S1x128x704 .f32) (x19 : Vec F S1x32x1024 .f32)
    (x20 : Vec F S1x128x1024 .f32) (x21 : Vec F S1x128x1024 .f32) (x22 : Vec F S1x32x1024 .f32) (x23 : Vec F S1x32x256 .f32)
    (E : Set ℕ) (K : PUnit → sProp (Res F)) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ owns (c : Thread nD τ) arg16 fullShare x15 ∗ owns (c : Thread nD τ) arg17 fullShare x16 ∗ owns (c : Thread nD τ) arg18 fullShare x17
        ∗ owns (c : Thread nD τ) arg19 fullShare x18 ∗ owns (c : Thread nD τ) arg20 fullShare x19 ∗ owns (c : Thread nD τ) arg21 fullShare x20
        ∗ owns (c : Thread nD τ) arg22 fullShare x21 ∗ owns (c : Thread nD τ) arg23 fullShare x22 ∗ owns (c : Thread nD τ) arg24 fullShare x23
        ∗ (∃ d, owns (c : Thread nD τ) arg49 fullShare d) ∗ (∃ d, owns (c : Thread nD τ) arg50 fullShare d) ∗ (∃ d, owns (c : Thread nD τ) arg51 fullShare d)
        ∗ (∃ d, owns (c : Thread nD τ) arg52 fullShare d) ∗ (∃ d, owns (c : Thread nD τ) arg53 fullShare d) ∗ (∃ d, owns (c : Thread nD τ) arg54 fullShare d)
        ∗ (∃ d, owns (c : Thread nD τ) arg55 fullShare d) ∗ (∃ d, owns (c : Thread nD τ) arg56 fullShare d) ∗ (∃ d, owns (c : Thread nD τ) arg57 fullShare d)
        ∗ (∃ d, owns (c : Thread nD τ) arg58 fullShare d) ∗ (∃ d, owns (c : Thread nD τ) arg59 fullShare d) ∗ (∃ d, owns (c : Thread nD τ) arg60 fullShare d)
        ∗ (∃ d, owns (c : Thread nD τ) arg61 fullShare d) ∗ (∃ d, owns (c : Thread nD τ) arg62 fullShare d) ∗ (∃ d, owns (c : Thread nD τ) arg63 fullShare d)
        ∗ (∃ d, owns (c : Thread nD τ) arg64 fullShare d) ∗ (∃ d, owns (c : Thread nD τ) arg65 fullShare d) ∗ (∃ d, owns (c : Thread nD τ) arg66 fullShare d)
        ∗ (∃ d, owns (c : Thread nD τ) arg67 fullShare d) ∗ (∃ d, owns (c : Thread nD τ) arg68 fullShare d) ∗ (∃ d, owns (c : Thread nD τ) arg69 fullShare d)
        ∗ (∃ d, owns (c : Thread nD τ) arg70 fullShare d) ∗ (∃ d, owns (c : Thread nD τ) arg71 fullShare d) ∗ (∃ d, owns (c : Thread nD τ) arg72 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare x15 ∗ owns (c : Thread nD τ) arg17 fullShare x16 ∗ owns (c : Thread nD τ) arg18 fullShare x17
            ∗ owns (c : Thread nD τ) arg19 fullShare x18 ∗ owns (c : Thread nD τ) arg20 fullShare x19 ∗ owns (c : Thread nD τ) arg21 fullShare x20
            ∗ owns (c : Thread nD τ) arg22 fullShare x21 ∗ owns (c : Thread nD τ) arg23 fullShare x22 ∗ owns (c : Thread nD τ) arg24 fullShare x23
            ∗ owns (c : Thread nD τ) arg49 fullShare (k0_pay2 x6) ∗ owns (c : Thread nD τ) arg50 fullShare (k0_pay9 x7) ∗ owns (c : Thread nD τ) arg51 fullShare (k0_pay16 x8)
            ∗ owns (c : Thread nD τ) arg52 fullShare (k0_pay24 x9) ∗ owns (c : Thread nD τ) arg53 fullShare (k0_pay31 x10) ∗ owns (c : Thread nD τ) arg54 fullShare (k0_pay39 x11)
            ∗ owns (c : Thread nD τ) arg55 fullShare (k0_pay6 (k0_pay5 x6 x0 x12 x18)) ∗ owns (c : Thread nD τ) arg56 fullShare (k0_pay13 (k0_pay10 x1) (k0_pay11 x7 x13) (k0_pay12 x7 x19)) ∗ owns (c : Thread nD τ) arg57 fullShare (k0_pay21 x8 (k0_pay17 x2) (k0_pay18 x14) x20)
            ∗ owns (c : Thread nD τ) arg58 fullShare (k0_pay28 (k0_pay27 x9 x3 x15 x21)) ∗ owns (c : Thread nD τ) arg59 fullShare (k0_pay36 (k0_pay32 x4) (k0_pay34 x10 x22) (k0_pay35 x10 x16)) ∗ owns (c : Thread nD τ) arg60 fullShare (k0_pay44 x11 (k0_pay40 x5) (k0_pay41 x17) x23)
            ∗ owns (c : Thread nD τ) arg61 fullShare (k0_pay7 (k0_pay3 x6 x12)) ∗ owns (c : Thread nD τ) arg62 fullShare (k0_pay14 (k0_pay11 x7 x13)) ∗ owns (c : Thread nD τ) arg63 fullShare (k0_pay22 x8 (k0_pay18 x14))
            ∗ owns (c : Thread nD τ) arg64 fullShare (k0_pay29 (k0_pay25 x9 x15)) ∗ owns (c : Thread nD τ) arg65 fullShare (k0_pay37 (k0_pay33 x10 x16)) ∗ owns (c : Thread nD τ) arg66 fullShare (k0_pay45 x11 (k0_pay41 x17))
            ∗ owns (c : Thread nD τ) arg67 fullShare (k0_pay8 (k0_pay4 x6 x18)) ∗ owns (c : Thread nD τ) arg68 fullShare (k0_pay15 (k0_pay12 x7 x19)) ∗ owns (c : Thread nD τ) arg69 fullShare (k0_pay23 x8 x20)
            ∗ owns (c : Thread nD τ) arg70 fullShare (k0_pay30 (k0_pay26 x9 x21)) ∗ owns (c : Thread nD τ) arg71 fullShare (k0_pay38 (k0_pay34 x10 x22)) ∗ owns (c : Thread nD τ) arg72 fullShare (k0_pay1 (k0_pay43 x11 x23))) -∗ K ⟨⟩))
      ⊢ wp frame (wpE (defs₀ (F := F)) Variants.none c none) E (cc0_l0_adamw i arg1 harg1 arg2 harg2 arg3 harg3 arg4 harg4 arg5 harg5 arg6 harg6 arg7 harg7 arg8 harg8
        arg9 harg9 arg10 harg10 arg11 harg11 arg12 harg12 arg13 harg13 arg14 harg14 arg15 harg15 arg16 harg16
        arg17 harg17 arg18 harg18 arg19 harg19 arg20 harg20 arg21 harg21 arg22 harg22 arg23 harg23 arg24 harg24
        (Memref.whole main_arg24) (Memref.isWhole_whole _) (Memref.whole main_arg25) (Memref.isWhole_whole _) (Memref.whole main_arg26) (Memref.isWhole_whole _)
        (Memref.whole main_arg27) (Memref.isWhole_whole _) (Memref.whole main_arg28) (Memref.isWhole_whole _) (Memref.whole main_arg29) (Memref.isWhole_whole _)
        (Memref.whole main_arg30) (Memref.isWhole_whole _) (Memref.whole main_arg31) (Memref.isWhole_whole _) (Memref.whole main_arg32) (Memref.isWhole_whole _)
        (Memref.whole main_arg33) (Memref.isWhole_whole _) (Memref.whole main_arg34) (Memref.isWhole_whole _) (Memref.whole main_arg35) (Memref.isWhole_whole _)
        (Memref.whole main_arg36) (Memref.isWhole_whole _) (Memref.whole main_arg37) (Memref.isWhole_whole _) (Memref.whole main_arg38) (Memref.isWhole_whole _)
        (Memref.whole main_arg39) (Memref.isWhole_whole _) (Memref.whole main_arg40) (Memref.isWhole_whole _) (Memref.whole main_arg41) (Memref.isWhole_whole _)
        (Memref.whole main_arg42) (Memref.isWhole_whole _) (Memref.whole main_arg43) (Memref.isWhole_whole _) (Memref.whole main_arg44) (Memref.isWhole_whole _)
        (Memref.whole main_arg45) (Memref.isWhole_whole _) (Memref.whole main_arg46) (Memref.isWhole_whole _) (Memref.whole main_arg47) (Memref.isWhole_whole _)
        arg49 harg49 arg50 harg50 arg51 harg51 arg52 harg52 arg53 harg53 arg54 harg54 arg55 harg55 arg56 harg56
        arg57 harg57 arg58 harg58 arg59 harg59 arg60 harg60 arg61 harg61 arg62 harg62 arg63 harg63 arg64 harg64
        arg65 harg65 arg66 harg66 arg67 harg67 arg68 harg68 arg69 harg69 arg70 harg70 arg71 harg71 arg72 harg72) K := by
  simp only [cc0_l0_adamw_eq_skeleton]; unfold cc0_l0_adamw_skel
  simp only [k0_part8_eq_skeleton, k0_part1_eq_skeleton, k0_part2_eq_skeleton, k0_part3_eq_skeleton, k0_part4_eq_skeleton, k0_part5_eq_skeleton,
    k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%f13, %hf13, H13⟩, ⟨%f14, %hf14, H14⟩, ⟨%f15, %hf15, H15⟩, ⟨%f16, %hf16, H16⟩, ⟨%f17, %hf17, H17⟩,
    ⟨%f18, %hf18, H18⟩, ⟨%f19, %hf19, H19⟩, ⟨%f20, %hf20, H20⟩, ⟨%f21, %hf21, H21⟩, ⟨%f22, %hf22, H22⟩, ⟨%f23, %hf23, H23⟩,
    ⟨%d24, %f24, -, H24⟩, ⟨%d25, %f25, -, H25⟩, ⟨%d26, %f26, -, H26⟩, ⟨%d27, %f27, -, H27⟩, ⟨%d28, %f28, -, H28⟩, ⟨%d29, %f29, -, H29⟩,
    ⟨%d30, %f30, -, H30⟩, ⟨%d31, %f31, -, H31⟩, ⟨%d32, %f32, -, H32⟩, ⟨%d33, %f33, -, H33⟩, ⟨%d34, %f34, -, H34⟩, ⟨%d35, %f35, -, H35⟩,
    ⟨%d36, %f36, -, H36⟩, ⟨%d37, %f37, -, H37⟩, ⟨%d38, %f38, -, H38⟩, ⟨%d39, %f39, -, H39⟩, ⟨%d40, %f40, -, H40⟩, ⟨%d41, %f41, -, H41⟩,
    ⟨%d42, %f42, -, H42⟩, ⟨%d43, %f43, -, H43⟩, ⟨%d44, %f44, -, H44⟩, ⟨%d45, %f45, -, H45⟩, ⟨%d46, %f46, -, H46⟩, ⟨%d47, %f47, -, H47⟩, Hk⟩
  sl_exec
  sl_step
  iapply Hk
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact hf7
  isplitl [H8]
  · iexists _; isplitr
    swap; · iexact H8
    ipureintro; exact hf8
  isplitl [H9]
  · iexists _; isplitr
    swap; · iexact H9
    ipureintro; exact hf9
  isplitl [H10]
  · iexists _; isplitr
    swap; · iexact H10
    ipureintro; exact hf10
  isplitl [H11]
  · iexists _; isplitr
    swap; · iexact H11
    ipureintro; exact hf11
  isplitl [H12]
  · iexists _; isplitr
    swap; · iexact H12
    ipureintro; exact hf12
  isplitl [H13]
  · iexists _; isplitr
    swap; · iexact H13
    ipureintro; exact hf13
  isplitl [H14]
  · iexists _; isplitr
    swap; · iexact H14
    ipureintro; exact hf14
  isplitl [H15]
  · iexists _; isplitr
    swap; · iexact H15
    ipureintro; exact hf15
  isplitl [H16]
  · iexists _; isplitr
    swap; · iexact H16
    ipureintro; exact hf16
  isplitl [H17]
  · iexists _; isplitr
    swap; · iexact H17
    ipureintro; exact hf17
  isplitl [H18]
  · iexists _; isplitr
    swap; · iexact H18
    ipureintro; exact hf18
  isplitl [H19]
  · iexists _; isplitr
    swap; · iexact H19
    ipureintro; exact hf19
  isplitl [H20]
  · iexists _; isplitr
    swap; · iexact H20
    ipureintro; exact hf20
  isplitl [H21]
  · iexists _; isplitr
    swap; · iexact H21
    ipureintro; exact hf21
  isplitl [H22]
  · iexists _; isplitr
    swap; · iexact H22
    ipureintro; exact hf22
  isplitl [H23]
  · iexists _; isplitr
    swap; · iexact H23
    ipureintro; exact hf23
  isplitl [H24]
  · iexists _; isplitr
    swap; · iexact H24
    ipureintro; sl_unfold_run_names
    exact (View.read_writes_full arg49.view f24 _ _ _).trans (congrArg k0_pay2 (load hf6 _))
  isplitl [H25]
  · iexists _; isplitr
    swap; · iexact H25
    ipureintro; sl_unfold_run_names
    exact (View.read_writes_full arg50.view f25 _ _ _).trans (congrArg k0_pay9 (load hf7 _))
  isplitl [H26]
  · iexists _; isplitr
    swap; · iexact H26
    ipureintro; sl_unfold_run_names
    exact (View.read_writes_full arg51.view f26 _ _ _).trans (congrArg k0_pay16 (load hf8 _))
  isplitl [H27]
  · iexists _; isplitr
    swap; · iexact H27
    ipureintro; sl_unfold_run_names
    exact (View.read_writes_full arg52.view f27 _ _ _).trans (congrArg k0_pay24 (load hf9 _))
  isplitl [H28]
  · iexists _; isplitr
    swap; · iexact H28
    ipureintro; sl_unfold_run_names
    exact (View.read_writes_full arg53.view f28 _ _ _).trans (congrArg k0_pay31 (load hf10 _))
  isplitl [H29]
  · iexists _; isplitr
    swap; · iexact H29
    ipureintro; sl_unfold_run_names
    exact (View.read_writes_full arg54.view f29 _ _ _).trans (congrArg k0_pay39 (load hf11 _))
  isplitl [H30]
  · iexists _; isplitr
    swap; · iexact H30
    ipureintro; sl_unfold_run_names
    exact (View.read_writes_full arg55.view f30 _ _ _).trans (congrArg k0_pay6 (congr (congr (congrArg₂ k0_pay5 (load hf6 _) (load hf0 _)) (load hf12 _)) (load hf18 _)))
  isplitl [H31]
  · iexists _; isplitr
    swap; · iexact H31
    ipureintro; sl_unfold_run_names
    exact (View.read_writes_full arg56.view f31 _ _ _).trans (congr (congrArg₂ k0_pay13 (congrArg k0_pay10 (load hf1 _)) (congrArg₂ k0_pay11 (load hf7 _) (load hf13 _))) (congrArg₂ k0_pay12 (load hf7 _) (load hf19 _)))
  isplitl [H32]
  · iexists _; isplitr
    swap; · iexact H32
    ipureintro; sl_unfold_run_names
    exact (View.read_writes_full arg57.view f32 _ _ _).trans (congr (congr (congrArg₂ k0_pay21 (load hf8 _) (congrArg k0_pay17 (load hf2 _))) (congrArg k0_pay18 (load hf14 _))) (load hf20 _))
  isplitl [H33]
  · iexists _; isplitr
    swap; · iexact H33
    ipureintro; sl_unfold_run_names
    exact (View.read_writes_full arg58.view f33 _ _ _).trans (congrArg k0_pay28 (congr (congr (congrArg₂ k0_pay27 (load hf9 _) (load hf3 _)) (load hf15 _)) (load hf21 _)))
  isplitl [H34]
  · iexists _; isplitr
    swap; · iexact H34
    ipureintro; sl_unfold_run_names
    exact (View.read_writes_full arg59.view f34 _ _ _).trans (congr (congrArg₂ k0_pay36 (congrArg k0_pay32 (load hf4 _)) (congrArg₂ k0_pay34 (load hf10 _) (load hf22 _))) (congrArg₂ k0_pay35 (load hf10 _) (load hf16 _)))
  isplitl [H35]
  · iexists _; isplitr
    swap; · iexact H35
    ipureintro; sl_unfold_run_names
    exact (View.read_writes_full arg60.view f35 _ _ _).trans (congr (congr (congrArg₂ k0_pay44 (load hf11 _) (congrArg k0_pay40 (load hf5 _))) (congrArg k0_pay41 (load hf17 _))) (load hf23 _))
  isplitl [H36]
  · iexists _; isplitr
    swap; · iexact H36
    ipureintro; sl_unfold_run_names
    exact (View.read_writes_full arg61.view f36 _ _ _).trans (congrArg k0_pay7 (congrArg₂ k0_pay3 (load hf6 _) (load hf12 _)))
  isplitl [H37]
  · iexists _; isplitr
    swap; · iexact H37
    ipureintro; sl_unfold_run_names
    exact (View.read_writes_full arg62.view f37 _ _ _).trans (congrArg k0_pay14 (congrArg₂ k0_pay11 (load hf7 _) (load hf13 _)))
  isplitl [H38]
  · iexists _; isplitr
    swap; · iexact H38
    ipureintro; sl_unfold_run_names
    exact (View.read_writes_full arg63.view f38 _ _ _).trans (congrArg₂ k0_pay22 (load hf8 _) (congrArg k0_pay18 (load hf14 _)))
  isplitl [H39]
  · iexists _; isplitr
    swap; · iexact H39
    ipureintro; sl_unfold_run_names
    exact (View.read_writes_full arg64.view f39 _ _ _).trans (congrArg k0_pay29 (congrArg₂ k0_pay25 (load hf9 _) (load hf15 _)))
  isplitl [H40]
  · iexists _; isplitr
    swap; · iexact H40
    ipureintro; sl_unfold_run_names
    exact (View.read_writes_full arg65.view f40 _ _ _).trans (congrArg k0_pay37 (congrArg₂ k0_pay33 (load hf10 _) (load hf16 _)))
  isplitl [H41]
  · iexists _; isplitr
    swap; · iexact H41
    ipureintro; sl_unfold_run_names
    exact (View.read_writes_full arg66.view f41 _ _ _).trans (congrArg₂ k0_pay45 (load hf11 _) (congrArg k0_pay41 (load hf17 _)))
  isplitl [H42]
  · iexists _; isplitr
    swap; · iexact H42
    ipureintro; sl_unfold_run_names
    exact (View.read_writes_full arg67.view f42 _ _ _).trans (congrArg k0_pay8 (congrArg₂ k0_pay4 (load hf6 _) (load hf18 _)))
  isplitl [H43]
  · iexists _; isplitr
    swap; · iexact H43
    ipureintro; sl_unfold_run_names
    exact (View.read_writes_full arg68.view f43 _ _ _).trans (congrArg k0_pay15 (congrArg₂ k0_pay12 (load hf7 _) (load hf19 _)))
  isplitl [H44]
  · iexists _; isplitr
    swap; · iexact H44
    ipureintro; sl_unfold_run_names
    exact (View.read_writes_full arg69.view f44 _ _ _).trans (congrArg₂ k0_pay23 (load hf8 _) (load hf20 _))
  isplitl [H45]
  · iexists _; isplitr
    swap; · iexact H45
    ipureintro; sl_unfold_run_names
    exact (View.read_writes_full arg70.view f45 _ _ _).trans (congrArg k0_pay30 (congrArg₂ k0_pay26 (load hf9 _) (load hf21 _)))
  isplitl [H46]
  · iexists _; isplitr
    swap; · iexact H46
    ipureintro; sl_unfold_run_names
    exact (View.read_writes_full arg71.view f46 _ _ _).trans (congrArg k0_pay38 (congrArg₂ k0_pay34 (load hf10 _) (load hf22 _)))
  iexists _; isplitr
  swap; · iexact H47
  ipureintro; sl_unfold_run_names
  exact (View.read_writes_full arg72.view f47 _ _ _).trans (congrArg k0_pay1 (congrArg₂ k0_pay43 (load hf11 _) (load hf23 _)))

end Body

end Cert.AdamBigIdeal.Run

end
-- ==== Proof.AdamBigRun.lean ====
/- The run of the six cut matrices' optimiser call, over any float values: at a point of the grid the body reads the point's
   rows of every weight, gradient and moment, and stores the gradient, the change and the new moments of those rows. -/
module

public import proofs.«01_k».proof.Proof.AdamBigBody
public import Idealize.ShloMosaic.Lib.Claim
public import Idealize.ShloMosaic.Lib.Pipeline.ValueKit

@[expose] public section

set_option maxRecDepth 16384

noncomputable section

namespace Cert.AdamBigIdeal.Run

open Cert.AdamBigIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-! ## The pipeline's proof data -/

variable (m : (ℓ : Loc nD τ sig) → Buf (Elt F) ℓ) (ρ : Dev nD → PrngReg)

/-- After the body at a point the inputs' buffers hold their blocks and the outputs' what the body computes of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => k0_pay2 (iblk m c 6 t)
    | ⟨25, _⟩ => k0_pay9 (iblk m c 7 t)
    | ⟨26, _⟩ => k0_pay16 (iblk m c 8 t)
    | ⟨27, _⟩ => k0_pay24 (iblk m c 9 t)
    | ⟨28, _⟩ => k0_pay31 (iblk m c 10 t)
    | ⟨29, _⟩ => k0_pay39 (iblk m c 11 t)
    | ⟨30, _⟩ => k0_pay6 (k0_pay5 (iblk m c 6 t) (iblk m c 0 t) (iblk m c 12 t) (iblk m c 18 t))
    | ⟨31, _⟩ => k0_pay13 (k0_pay10 (iblk m c 1 t)) (k0_pay11 (iblk m c 7 t) (iblk m c 13 t)) (k0_pay12 (iblk m c 7 t) (iblk m c 19 t))
    | ⟨32, _⟩ => k0_pay21 (iblk m c 8 t) (k0_pay17 (iblk m c 2 t)) (k0_pay18 (iblk m c 14 t)) (iblk m c 20 t)
    | ⟨33, _⟩ => k0_pay28 (k0_pay27 (iblk m c 9 t) (iblk m c 3 t) (iblk m c 15 t) (iblk m c 21 t))
    | ⟨34, _⟩ => k0_pay36 (k0_pay32 (iblk m c 4 t)) (k0_pay34 (iblk m c 10 t) (iblk m c 22 t)) (k0_pay35 (iblk m c 10 t) (iblk m c 16 t))
    | ⟨35, _⟩ => k0_pay44 (iblk m c 11 t) (k0_pay40 (iblk m c 5 t)) (k0_pay41 (iblk m c 17 t)) (iblk m c 23 t)
    | ⟨36, _⟩ => k0_pay7 (k0_pay3 (iblk m c 6 t) (iblk m c 12 t))
    | ⟨37, _⟩ => k0_pay14 (k0_pay11 (iblk m c 7 t) (iblk m c 13 t))
    | ⟨38, _⟩ => k0_pay22 (iblk m c 8 t) (k0_pay18 (iblk m c 14 t))
    | ⟨39, _⟩ => k0_pay29 (k0_pay25 (iblk m c 9 t) (iblk m c 15 t))
    | ⟨40, _⟩ => k0_pay37 (k0_pay33 (iblk m c 10 t) (iblk m c 16 t))
    | ⟨41, _⟩ => k0_pay45 (iblk m c 11 t) (k0_pay41 (iblk m c 17 t))
    | ⟨42, _⟩ => k0_pay8 (k0_pay4 (iblk m c 6 t) (iblk m c 18 t))
    | ⟨43, _⟩ => k0_pay15 (k0_pay12 (iblk m c 7 t) (iblk m c 19 t))
    | ⟨44, _⟩ => k0_pay23 (iblk m c 8 t) (iblk m c 20 t)
    | ⟨45, _⟩ => k0_pay30 (k0_pay26 (iblk m c 9 t) (iblk m c 21 t))
    | ⟨46, _⟩ => k0_pay38 (k0_pay34 (iblk m c 10 t) (iblk m c 22 t))
    | ⟨47, _⟩ => k0_pay1 (k0_pay43 (iblk m c 11 t) (iblk m c 23 t))
    | ⟨_ + 48, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = k0_pay2 (iblk m c 6 t) := by dsimp only [dats]
theorem after_25 (c : Dev nD) (t : Fin cfg0.N) : (dats m 0 c).after 25 t = k0_pay9 (iblk m c 7 t) := by dsimp only [dats]
theorem after_26 (c : Dev nD) (t : Fin cfg0.N) : (dats m 0 c).after 26 t = k0_pay16 (iblk m c 8 t) := by dsimp only [dats]
theorem after_27 (c : Dev nD) (t : Fin cfg0.N) : (dats m 0 c).after 27 t = k0_pay24 (iblk m c 9 t) := by dsimp only [dats]
theorem after_28 (c : Dev nD) (t : Fin cfg0.N) : (dats m 0 c).after 28 t = k0_pay31 (iblk m c 10 t) := by dsimp only [dats]
theorem after_29 (c : Dev nD) (t : Fin cfg0.N) : (dats m 0 c).after 29 t = k0_pay39 (iblk m c 11 t) := by dsimp only [dats]
theorem after_30 (c : Dev nD) (t : Fin cfg0.N) : (dats m 0 c).after 30 t = k0_pay6 (k0_pay5 (iblk m c 6 t) (iblk m c 0 t) (iblk m c 12 t) (iblk m c 18 t)) := by dsimp only [dats]
theorem after_31 (c : Dev nD) (t : Fin cfg0.N) : (dats m 0 c).after 31 t = k0_pay13 (k0_pay10 (iblk m c 1 t)) (k0_pay11 (iblk m c 7 t) (iblk m c 13 t)) (k0_pay12 (iblk m c 7 t) (iblk m c 19 t)) := by dsimp only [dats]
theorem after_32 (c : Dev nD) (t : Fin cfg0.N) : (dats m 0 c).after 32 t = k0_pay21 (iblk m c 8 t) (k0_pay17 (iblk m c 2 t)) (k0_pay18 (iblk m c 14 t)) (iblk m c 20 t) := by dsimp only [dats]
theorem after_33 (c : Dev nD) (t : Fin cfg0.N) : (dats m 0 c).after 33 t = k0_pay28 (k0_pay27 (iblk m c 9 t) (iblk m c 3 t) (iblk m c 15 t) (iblk m c 21 t)) := by dsimp only [dats]
theorem after_34 (c : Dev nD) (t : Fin cfg0.N) : (dats m 0 c).after 34 t = k0_pay36 (k0_pay32 (iblk m c 4 t)) (k0_pay34 (iblk m c 10 t) (iblk m c 22 t)) (k0_pay35 (iblk m c 10 t) (iblk m c 16 t)) := by dsimp only [dats]
theorem after_35 (c : Dev nD) (t : Fin cfg0.N) : (dats m 0 c).after 35 t = k0_pay44 (iblk m c 11 t) (k0_pay40 (iblk m c 5 t)) (k0_pay41 (iblk m c 17 t)) (iblk m c 23 t) := by dsimp only [dats]
theorem after_36 (c : Dev nD) (t : Fin cfg0.N) : (dats m 0 c).after 36 t = k0_pay7 (k0_pay3 (iblk m c 6 t) (iblk m c 12 t)) := by dsimp only [dats]
theorem after_37 (c : Dev nD) (t : Fin cfg0.N) : (dats m 0 c).after 37 t = k0_pay14 (k0_pay11 (iblk m c 7 t) (iblk m c 13 t)) := by dsimp only [dats]
theorem after_38 (c : Dev nD) (t : Fin cfg0.N) : (dats m 0 c).after 38 t = k0_pay22 (iblk m c 8 t) (k0_pay18 (iblk m c 14 t)) := by dsimp only [dats]
theorem after_39 (c : Dev nD) (t : Fin cfg0.N) : (dats m 0 c).after 39 t = k0_pay29 (k0_pay25 (iblk m c 9 t) (iblk m c 15 t)) := by dsimp only [dats]
theorem after_40 (c : Dev nD) (t : Fin cfg0.N) : (dats m 0 c).after 40 t = k0_pay37 (k0_pay33 (iblk m c 10 t) (iblk m c 16 t)) := by dsimp only [dats]
theorem after_41 (c : Dev nD) (t : Fin cfg0.N) : (dats m 0 c).after 41 t = k0_pay45 (iblk m c 11 t) (k0_pay41 (iblk m c 17 t)) := by dsimp only [dats]
theorem after_42 (c : Dev nD) (t : Fin cfg0.N) : (dats m 0 c).after 42 t = k0_pay8 (k0_pay4 (iblk m c 6 t) (iblk m c 18 t)) := by dsimp only [dats]
theorem after_43 (c : Dev nD) (t : Fin cfg0.N) : (dats m 0 c).after 43 t = k0_pay15 (k0_pay12 (iblk m c 7 t) (iblk m c 19 t)) := by dsimp only [dats]
theorem after_44 (c : Dev nD) (t : Fin cfg0.N) : (dats m 0 c).after 44 t = k0_pay23 (iblk m c 8 t) (iblk m c 20 t) := by dsimp only [dats]
theorem after_45 (c : Dev nD) (t : Fin cfg0.N) : (dats m 0 c).after 45 t = k0_pay30 (k0_pay26 (iblk m c 9 t) (iblk m c 21 t)) := by dsimp only [dats]
theorem after_46 (c : Dev nD) (t : Fin cfg0.N) : (dats m 0 c).after 46 t = k0_pay38 (k0_pay34 (iblk m c 10 t) (iblk m c 22 t)) := by dsimp only [dats]
theorem after_47 (c : Dev nD) (t : Fin cfg0.N) : (dats m 0 c).after 47 t = k0_pay1 (k0_pay43 (iblk m c 11 t) (iblk m c 23 t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d
theorem before_20 (c : Dev nD) (t : Fin cfg0.N) (d) : (dats m 0 c).before 20 t d = iblk m c 20 t :=
  before0_20_of m (dats m 0 c) (A_eq m c 20) (after_20 m c) t d
theorem before_21 (c : Dev nD) (t : Fin cfg0.N) (d) : (dats m 0 c).before 21 t d = iblk m c 21 t :=
  before0_21_of m (dats m 0 c) (A_eq m c 21) (after_21 m c) t d
theorem before_22 (c : Dev nD) (t : Fin cfg0.N) (d) : (dats m 0 c).before 22 t d = iblk m c 22 t :=
  before0_22_of m (dats m 0 c) (A_eq m c 22) (after_22 m c) t d
theorem before_23 (c : Dev nD) (t : Fin cfg0.N) (d) : (dats m 0 c).before 23 t d = iblk m c 23 t :=
  before0_23_of m (dats m 0 c) (A_eq m c 23) (after_23 m c) t d

/-! ## The body obligation -/

/-- What the body is called with at a point, -/
def bodyPre (c : Dev nD) (t : Fin cfg0.N) : sProp (Res F) :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d))
    ∗ (∃ d, owns (c : Thread nD τ) (ms0_2 t) fullShare ((dats m 0 c).before 2 t d)) ∗ (∃ d, owns (c : Thread nD τ) (ms0_3 t) fullShare ((dats m 0 c).before 3 t d))
    ∗ (∃ d, owns (c : Thread nD τ) (ms0_4 t) fullShare ((dats m 0 c).before 4 t d)) ∗ (∃ d, owns (c : Thread nD τ) (ms0_5 t) fullShare ((dats m 0 c).before 5 t d))
    ∗ (∃ d, owns (c : Thread nD τ) (ms0_6 t) fullShare ((dats m 0 c).before 6 t d)) ∗ (∃ d, owns (c : Thread nD τ) (ms0_7 t) fullShare ((dats m 0 c).before 7 t d))
    ∗ (∃ d, owns (c : Thread nD τ) (ms0_8 t) fullShare ((dats m 0 c).before 8 t d)) ∗ (∃ d, owns (c : Thread nD τ) (ms0_9 t) fullShare ((dats m 0 c).before 9 t d))
    ∗ (∃ d, owns (c : Thread nD τ) (ms0_10 t) fullShare ((dats m 0 c).before 10 t d)) ∗ (∃ d, owns (c : Thread nD τ) (ms0_11 t) fullShare ((dats m 0 c).before 11 t d))
    ∗ (∃ d, owns (c : Thread nD τ) (ms0_12 t) fullShare ((dats m 0 c).before 12 t d)) ∗ (∃ d, owns (c : Thread nD τ) (ms0_13 t) fullShare ((dats m 0 c).before 13 t d))
    ∗ (∃ d, owns (c : Thread nD τ) (ms0_14 t) fullShare ((dats m 0 c).before 14 t d)) ∗ (∃ d, owns (c : Thread nD τ) (ms0_15 t) fullShare ((dats m 0 c).before 15 t d))
    ∗ (∃ d, owns (c : Thread nD τ) (ms0_16 t) fullShare ((dats m 0 c).before 16 t d)) ∗ (∃ d, owns (c : Thread nD τ) (ms0_17 t) fullShare ((dats m 0 c).before 17 t d))
    ∗ (∃ d, owns (c : Thread nD τ) (ms0_18 t) fullShare ((dats m 0 c).before 18 t d)) ∗ (∃ d, owns (c : Thread nD τ) (ms0_19 t) fullShare ((dats m 0 c).before 19 t d))
    ∗ (∃ d, owns (c : Thread nD τ) (ms0_20 t) fullShare ((dats m 0 c).before 20 t d)) ∗ (∃ d, owns (c : Thread nD τ) (ms0_21 t) fullShare ((dats m 0 c).before 21 t d))
    ∗ (∃ d, owns (c : Thread nD τ) (ms0_22 t) fullShare ((dats m 0 c).before 22 t d)) ∗ (∃ d, owns (c : Thread nD τ) (ms0_23 t) fullShare ((dats m 0 c).before 23 t d))
    ∗ (∃ d, owns (c : Thread nD τ) (ms0_24 t) fullShare ((dats m 0 c).before 24 t d)) ∗ (∃ d, owns (c : Thread nD τ) (ms0_25 t) fullShare ((dats m 0 c).before 25 t d))
    ∗ (∃ d, owns (c : Thread nD τ) (ms0_26 t) fullShare ((dats m 0 c).before 26 t d)) ∗ (∃ d, owns (c : Thread nD τ) (ms0_27 t) fullShare ((dats m 0 c).before 27 t d))
    ∗ (∃ d, owns (c : Thread nD τ) (ms0_28 t) fullShare ((dats m 0 c).before 28 t d)) ∗ (∃ d, owns (c : Thread nD τ) (ms0_29 t) fullShare ((dats m 0 c).before 29 t d))
    ∗ (∃ d, owns (c : Thread nD τ) (ms0_30 t) fullShare ((dats m 0 c).before 30 t d)) ∗ (∃ d, owns (c : Thread nD τ) (ms0_31 t) fullShare ((dats m 0 c).before 31 t d))
    ∗ (∃ d, owns (c : Thread nD τ) (ms0_32 t) fullShare ((dats m 0 c).before 32 t d)) ∗ (∃ d, owns (c : Thread nD τ) (ms0_33 t) fullShare ((dats m 0 c).before 33 t d))
    ∗ (∃ d, owns (c : Thread nD τ) (ms0_34 t) fullShare ((dats m 0 c).before 34 t d)) ∗ (∃ d, owns (c : Thread nD τ) (ms0_35 t) fullShare ((dats m 0 c).before 35 t d))
    ∗ (∃ d, owns (c : Thread nD τ) (ms0_36 t) fullShare ((dats m 0 c).before 36 t d)) ∗ (∃ d, owns (c : Thread nD τ) (ms0_37 t) fullShare ((dats m 0 c).before 37 t d))
    ∗ (∃ d, owns (c : Thread nD τ) (ms0_38 t) fullShare ((dats m 0 c).before 38 t d)) ∗ (∃ d, owns (c : Thread nD τ) (ms0_39 t) fullShare ((dats m 0 c).before 39 t d))
    ∗ (∃ d, owns (c : Thread nD τ) (ms0_40 t) fullShare ((dats m 0 c).before 40 t d)) ∗ (∃ d, owns (c : Thread nD τ) (ms0_41 t) fullShare ((dats m 0 c).before 41 t d))
    ∗ (∃ d, owns (c : Thread nD τ) (ms0_42 t) fullShare ((dats m 0 c).before 42 t d)) ∗ (∃ d, owns (c : Thread nD τ) (ms0_43 t) fullShare ((dats m 0 c).before 43 t d))
    ∗ (∃ d, owns (c : Thread nD τ) (ms0_44 t) fullShare ((dats m 0 c).before 44 t d)) ∗ (∃ d, owns (c : Thread nD τ) (ms0_45 t) fullShare ((dats m 0 c).before 45 t d))
    ∗ (∃ d, owns (c : Thread nD τ) (ms0_46 t) fullShare ((dats m 0 c).before 46 t d)) ∗ (∃ d, owns (c : Thread nD τ) (ms0_47 t) fullShare ((dats m 0 c).before 47 t d)))

/-- and what it returns. -/
def bodyPost (c : Dev nD) (t : Fin cfg0.N) : sProp (Res F) :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t)
    ∗ owns (c : Thread nD τ) (ms0_2 t) fullShare ((dats m 0 c).after 2 t) ∗ owns (c : Thread nD τ) (ms0_3 t) fullShare ((dats m 0 c).after 3 t)
    ∗ owns (c : Thread nD τ) (ms0_4 t) fullShare ((dats m 0 c).after 4 t) ∗ owns (c : Thread nD τ) (ms0_5 t) fullShare ((dats m 0 c).after 5 t)
    ∗ owns (c : Thread nD τ) (ms0_6 t) fullShare ((dats m 0 c).after 6 t) ∗ owns (c : Thread nD τ) (ms0_7 t) fullShare ((dats m 0 c).after 7 t)
    ∗ owns (c : Thread nD τ) (ms0_8 t) fullShare ((dats m 0 c).after 8 t) ∗ owns (c : Thread nD τ) (ms0_9 t) fullShare ((dats m 0 c).after 9 t)
    ∗ owns (c : Thread nD τ) (ms0_10 t) fullShare ((dats m 0 c).after 10 t) ∗ owns (c : Thread nD τ) (ms0_11 t) fullShare ((dats m 0 c).after 11 t)
    ∗ owns (c : Thread nD τ) (ms0_12 t) fullShare ((dats m 0 c).after 12 t) ∗ owns (c : Thread nD τ) (ms0_13 t) fullShare ((dats m 0 c).after 13 t)
    ∗ owns (c : Thread nD τ) (ms0_14 t) fullShare ((dats m 0 c).after 14 t) ∗ owns (c : Thread nD τ) (ms0_15 t) fullShare ((dats m 0 c).after 15 t)
    ∗ owns (c : Thread nD τ) (ms0_16 t) fullShare ((dats m 0 c).after 16 t) ∗ owns (c : Thread nD τ) (ms0_17 t) fullShare ((dats m 0 c).after 17 t)
    ∗ owns (c : Thread nD τ) (ms0_18 t) fullShare ((dats m 0 c).after 18 t) ∗ owns (c : Thread nD τ) (ms0_19 t) fullShare ((dats m 0 c).after 19 t)
    ∗ owns (c : Thread nD τ) (ms0_20 t) fullShare ((dats m 0 c).after 20 t) ∗ owns (c : Thread nD τ) (ms0_21 t) fullShare ((dats m 0 c).after 21 t)
    ∗ owns (c : Thread nD τ) (ms0_22 t) fullShare ((dats m 0 c).after 22 t) ∗ owns (c : Thread nD τ) (ms0_23 t) fullShare ((dats m 0 c).after 23 t)
    ∗ owns (c : Thread nD τ) (ms0_24 t) fullShare ((dats m 0 c).after 24 t) ∗ owns (c : Thread nD τ) (ms0_25 t) fullShare ((dats m 0 c).after 25 t)
    ∗ owns (c : Thread nD τ) (ms0_26 t) fullShare ((dats m 0 c).after 26 t) ∗ owns (c : Thread nD τ) (ms0_27 t) fullShare ((dats m 0 c).after 27 t)
    ∗ owns (c : Thread nD τ) (ms0_28 t) fullShare ((dats m 0 c).after 28 t) ∗ owns (c : Thread nD τ) (ms0_29 t) fullShare ((dats m 0 c).after 29 t)
    ∗ owns (c : Thread nD τ) (ms0_30 t) fullShare ((dats m 0 c).after 30 t) ∗ owns (c : Thread nD τ) (ms0_31 t) fullShare ((dats m 0 c).after 31 t)
    ∗ owns (c : Thread nD τ) (ms0_32 t) fullShare ((dats m 0 c).after 32 t) ∗ owns (c : Thread nD τ) (ms0_33 t) fullShare ((dats m 0 c).after 33 t)
    ∗ owns (c : Thread nD τ) (ms0_34 t) fullShare ((dats m 0 c).after 34 t) ∗ owns (c : Thread nD τ) (ms0_35 t) fullShare ((dats m 0 c).after 35 t)
    ∗ owns (c : Thread nD τ) (ms0_36 t) fullShare ((dats m 0 c).after 36 t) ∗ owns (c : Thread nD τ) (ms0_37 t) fullShare ((dats m 0 c).after 37 t)
    ∗ owns (c : Thread nD τ) (ms0_38 t) fullShare ((dats m 0 c).after 38 t) ∗ owns (c : Thread nD τ) (ms0_39 t) fullShare ((dats m 0 c).after 39 t)
    ∗ owns (c : Thread nD τ) (ms0_40 t) fullShare ((dats m 0 c).after 40 t) ∗ owns (c : Thread nD τ) (ms0_41 t) fullShare ((dats m 0 c).after 41 t)
    ∗ owns (c : Thread nD τ) (ms0_42 t) fullShare ((dats m 0 c).after 42 t) ∗ owns (c : Thread nD τ) (ms0_43 t) fullShare ((dats m 0 c).after 43 t)
    ∗ owns (c : Thread nD τ) (ms0_44 t) fullShare ((dats m 0 c).after 44 t) ∗ owns (c : Thread nD τ) (ms0_45 t) fullShare ((dats m 0 c).after 45 t)
    ∗ owns (c : Thread nD τ) (ms0_46 t) fullShare ((dats m 0 c).after 46 t) ∗ owns (c : Thread nD τ) (ms0_47 t) fullShare ((dats m 0 c).after 47 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11,
    before_12, before_13, before_14, before_15, before_16, before_17, before_18, before_19, before_20, before_21, before_22, before_23]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11,
    after_12, after_13, after_14, after_15, after_16, after_17, after_18, after_19, after_20, after_21, after_22, after_23,
    after_24, after_25, after_26, after_27, after_28, after_29, after_30, after_31, after_32, after_33, after_34, after_35,
    after_36, after_37, after_38, after_39, after_40, after_41, after_42, after_43, after_44, after_45, after_46, after_47]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩,
    ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩,
    ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩,
    ⟨%d40, H40⟩, ⟨%d41, H41⟩, ⟨%d42, H42⟩, ⟨%d43, H43⟩, ⟨%d44, H44⟩, ⟨%d45, H45⟩, ⟨%d46, H46⟩, ⟨%d47, H47⟩⟩
  iapply (body c (grid0.coords t) _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t)
    (iblk m c 16 t) (iblk m c 17 t) (iblk m c 18 t) (iblk m c 19 t) (iblk m c 20 t) (iblk m c 21 t) (iblk m c 22 t) (iblk m c 23 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  iintro ⟨H0, H1, H2, H3, H4, H5, H6, H7, H8, H9, H10, H11, H12, H13, H14, H15,
    H16, H17, H18, H19, H20, H21, H22, H23, H24, H25, H26, H27, H28, H29, H30, H31,
    H32, H33, H34, H35, H36, H37, H38, H39, H40, H41, H42, H43, H44, H45, H46, H47⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  iexact H47

set_option maxHeartbeats 2000000 in
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

/-! ## The run -/

-- the launch theorem's implicit arguments are found by unifying its conclusion with this one
set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- A device's arguments end as they began. -/
def Kept (m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)
  ∧ m' ((c.tc : Thread nD τ).loc main_arg10) = m ((c.tc : Thread nD τ).loc main_arg10)
  ∧ m' ((c.tc : Thread nD τ).loc main_arg11) = m ((c.tc : Thread nD τ).loc main_arg11)
  ∧ m' ((c.tc : Thread nD τ).loc main_arg12) = m ((c.tc : Thread nD τ).loc main_arg12)
  ∧ m' ((c.tc : Thread nD τ).loc main_arg13) = m ((c.tc : Thread nD τ).loc main_arg13)
  ∧ m' ((c.tc : Thread nD τ).loc main_arg14) = m ((c.tc : Thread nD τ).loc main_arg14)
  ∧ m' ((c.tc : Thread nD τ).loc main_arg15) = m ((c.tc : Thread nD τ).loc main_arg15)
  ∧ m' ((c.tc : Thread nD τ).loc main_arg16) = m ((c.tc : Thread nD τ).loc main_arg16)
  ∧ m' ((c.tc : Thread nD τ).loc main_arg17) = m ((c.tc : Thread nD τ).loc main_arg17)
  ∧ m' ((c.tc : Thread nD τ).loc main_arg18) = m ((c.tc : Thread nD τ).loc main_arg18)
  ∧ m' ((c.tc : Thread nD τ).loc main_arg19) = m ((c.tc : Thread nD τ).loc main_arg19)
  ∧ m' ((c.tc : Thread nD τ).loc main_arg20) = m ((c.tc : Thread nD τ).loc main_arg20)
  ∧ m' ((c.tc : Thread nD τ).loc main_arg21) = m ((c.tc : Thread nD τ).loc main_arg21)
  ∧ m' ((c.tc : Thread nD τ).loc main_arg22) = m ((c.tc : Thread nD τ).loc main_arg22)
  ∧ m' ((c.tc : Thread nD τ).loc main_arg23) = m ((c.tc : Thread nD τ).loc main_arg23)
  ∧ m' ((c.tc : Thread nD τ).loc main_arg24) = m ((c.tc : Thread nD τ).loc main_arg24)
  ∧ m' ((c.tc : Thread nD τ).loc main_arg25) = m ((c.tc : Thread nD τ).loc main_arg25)
  ∧ m' ((c.tc : Thread nD τ).loc main_arg26) = m ((c.tc : Thread nD τ).loc main_arg26)
  ∧ m' ((c.tc : Thread nD τ).loc main_arg27) = m ((c.tc : Thread nD τ).loc main_arg27)
  ∧ m' ((c.tc : Thread nD τ).loc main_arg28) = m ((c.tc : Thread nD τ).loc main_arg28)
  ∧ m' ((c.tc : Thread nD τ).loc main_arg29) = m ((c.tc : Thread nD τ).loc main_arg29)
  ∧ m' ((c.tc : Thread nD τ).loc main_arg30) = m ((c.tc : Thread nD τ).loc main_arg30)
  ∧ m' ((c.tc : Thread nD τ).loc main_arg31) = m ((c.tc : Thread nD τ).loc main_arg31)
  ∧ m' ((c.tc : Thread nD τ).loc main_arg32) = m ((c.tc : Thread nD τ).loc main_arg32)
  ∧ m' ((c.tc : Thread nD τ).loc main_arg33) = m ((c.tc : Thread nD τ).loc main_arg33)
  ∧ m' ((c.tc : Thread nD τ).loc main_arg34) = m ((c.tc : Thread nD τ).loc main_arg34)
  ∧ m' ((c.tc : Thread nD τ).loc main_arg35) = m ((c.tc : Thread nD τ).loc main_arg35)
  ∧ m' ((c.tc : Thread nD τ).loc main_arg36) = m ((c.tc : Thread nD τ).loc main_arg36)
  ∧ m' ((c.tc : Thread nD τ).loc main_arg37) = m ((c.tc : Thread nD τ).loc main_arg37)
  ∧ m' ((c.tc : Thread nD τ).loc main_arg38) = m ((c.tc : Thread nD τ).loc main_arg38)
  ∧ m' ((c.tc : Thread nD τ).loc main_arg39) = m ((c.tc : Thread nD τ).loc main_arg39)
  ∧ m' ((c.tc : Thread nD τ).loc main_arg40) = m ((c.tc : Thread nD τ).loc main_arg40)
  ∧ m' ((c.tc : Thread nD τ).loc main_arg41) = m ((c.tc : Thread nD τ).loc main_arg41)
  ∧ m' ((c.tc : Thread nD τ).loc main_arg42) = m ((c.tc : Thread nD τ).loc main_arg42)
  ∧ m' ((c.tc : Thread nD τ).loc main_arg43) = m ((c.tc : Thread nD τ).loc main_arg43)
  ∧ m' ((c.tc : Thread nD τ).loc main_arg44) = m ((c.tc : Thread nD τ).loc main_arg44)
  ∧ m' ((c.tc : Thread nD τ).loc main_arg45) = m ((c.tc : Thread nD τ).loc main_arg45)
  ∧ m' ((c.tc : Thread nD τ).loc main_arg46) = m ((c.tc : Thread nD τ).loc main_arg46)
  ∧ m' ((c.tc : Thread nD τ).loc main_arg47) = m ((c.tc : Thread nD τ).loc main_arg47)

/-- The frame: the arguments end unchanged and every counter at zero. -/
theorem frame : θ_run defs (onTc (τ := τ) (main (F := F))) ⟨m, fun _ => 0, ρ⟩ (fun r => (∀ c : Dev nD, Kept m r.2.mem c) ∧ r.2.sem = fun _ => 0) :=
  θ_run_and (frame_of m ρ (dats m) (A_eq m) (run_main m ρ)) ((θ_run defs _ _).mono (fun _ h => h.2) (run_quiescent m ρ))

set_option maxHeartbeats 2000000 in
/-- What the run leaves in its results, and that its arguments are kept. -/
theorem run_blocks : θ_run defs (onTc (τ := τ) (main (F := F))) ⟨m, fun _ => 0, ρ⟩ fun r => ∀ c : Dev nD,
      r.2.mem ((c : Thread nD τ).loc main_v0_0) = (dats m 0 c).arrAt 24 cfg0.N
      ∧ r.2.mem ((c : Thread nD τ).loc main_v0_1) = (dats m 0 c).arrAt 25 cfg0.N
      ∧ r.2.mem ((c : Thread nD τ).loc main_v0_2) = (dats m 0 c).arrAt 26 cfg0.N
      ∧ r.2.mem ((c : Thread nD τ).loc main_v0_3) = (dats m 0 c).arrAt 27 cfg0.N
      ∧ r.2.mem ((c : Thread nD τ).loc main_v0_4) = (dats m 0 c).arrAt 28 cfg0.N
      ∧ r.2.mem ((c : Thread nD τ).loc main_v0_5) = (dats m 0 c).arrAt 29 cfg0.N
      ∧ r.2.mem ((c : Thread nD τ).loc main_v0_6) = (dats m 0 c).arrAt 30 cfg0.N
      ∧ r.2.mem ((c : Thread nD τ).loc main_v0_7) = (dats m 0 c).arrAt 31 cfg0.N
      ∧ r.2.mem ((c : Thread nD τ).loc main_v0_8) = (dats m 0 c).arrAt 32 cfg0.N
      ∧ r.2.mem ((c : Thread nD τ).loc main_v0_9) = (dats m 0 c).arrAt 33 cfg0.N
      ∧ r.2.mem ((c : Thread nD τ).loc main_v0_10) = (dats m 0 c).arrAt 34 cfg0.N
      ∧ r.2.mem ((c : Thread nD τ).loc main_v0_11) = (dats m 0 c).arrAt 35 cfg0.N
      ∧ r.2.mem ((c : Thread nD τ).loc main_v0_12) = (dats m 0 c).arrAt 36 cfg0.N
      ∧ r.2.mem ((c : Thread nD τ).loc main_v0_13) = (dats m 0 c).arrAt 37 cfg0.N
      ∧ r.2.mem ((c : Thread nD τ).loc main_v0_14) = (dats m 0 c).arrAt 38 cfg0.N
      ∧ r.2.mem ((c : Thread nD τ).loc main_v0_15) = (dats m 0 c).arrAt 39 cfg0.N
      ∧ r.2.mem ((c : Thread nD τ).loc main_v0_16) = (dats m 0 c).arrAt 40 cfg0.N
      ∧ r.2.mem ((c : Thread nD τ).loc main_v0_17) = (dats m 0 c).arrAt 41 cfg0.N
      ∧ r.2.mem ((c : Thread nD τ).loc main_v0_18) = (dats m 0 c).arrAt 42 cfg0.N
      ∧ r.2.mem ((c : Thread nD τ).loc main_v0_19) = (dats m 0 c).arrAt 43 cfg0.N
      ∧ r.2.mem ((c : Thread nD τ).loc main_v0_20) = (dats m 0 c).arrAt 44 cfg0.N
      ∧ r.2.mem ((c : Thread nD τ).loc main_v0_21) = (dats m 0 c).arrAt 45 cfg0.N
      ∧ r.2.mem ((c : Thread nD τ).loc main_v0_22) = (dats m 0 c).arrAt 46 cfg0.N
      ∧ r.2.mem ((c : Thread nD τ).loc main_v0_23) = (dats m 0 c).arrAt 47 cfg0.N
      ∧ Kept m r.2.mem c :=
  (θ_run defs _ _).mono (fun _ h c => ⟨(h.1 c).1 24, (h.1 c).1 25, (h.1 c).1 26, (h.1 c).1 27, (h.1 c).1 28, (h.1 c).1 29, (h.1 c).1 30, (h.1 c).1 31,
      (h.1 c).1 32, (h.1 c).1 33, (h.1 c).1 34, (h.1 c).1 35, (h.1 c).1 36, (h.1 c).1 37, (h.1 c).1 38, (h.1 c).1 39,
      (h.1 c).1 40, (h.1 c).1 41, (h.1 c).1 42, (h.1 c).1 43, (h.1 c).1 44, (h.1 c).1 45, (h.1 c).1 46, (h.1 c).1 47, h.2 c⟩)
    (θ_run_and (run_main m ρ) (frame_of m ρ (dats m) (A_eq m) (run_main m ρ)))

end Cert.AdamBigIdeal.Run

end
-- ==== Proof.AdamBigStack.lean ====
/- The reference's results of the cut matrices hold the step's array in the first layer and the array they were given in the others. -/
module

public import proofs.«01_k».proof.Proof.AdamBigRun
public import proofs.«01_k».proof.Proof.Gen.AdamBigReferenceIdeal.Read
public import Idealize.ShloMosaic.Lib.Pointwise

@[expose] public section

set_option maxRecDepth 16384

noncomputable section

namespace Cert.AdamBigValue

open Idealize.ShloMosaic Idealize.ShloMosaic.TcCoe Idealize.SL.Sem
open Cert.AdamBigIdeal Cert.AdamBigIdeal.Gen Cert.AdamBigIdeal.Run
open Cert.AdamBigReferenceIdeal.Read

/-- A layer that is not the first, counted from the second and back. -/
theorem layer (l : Fin 4) (h : ¬ l.val = 0) (p : 1 + (l.val - 1) < 4) : (⟨1 + (l.val - 1), p⟩ : Fin 4) = l :=
  Fin.ext (by show 1 + (l.val - 1) = l.val; omega)

/-- 1024 by 704: the first layer, -/
theorem first0 (x G) (a : Fin 1024) (b : Fin 704) : val_main_v182 (F := Ideal) x G (ix3 0 a b) = x (ix2 a b) := by
  pointwise [val_main_v182, val_main_v181, val_main_v180]

/-- and the others. -/
theorem rest0 (x G) (l : Fin 4) (a : Fin 1024) (b : Fin 704) (h : ¬ l.val / 1 = 0) :
    val_main_v182 (F := Ideal) x G (ix3 l a b) = G (ix3 l a b) := by
  have h0 : ¬ l.val = 0 := by omega
  pointwise [val_main_v182, val_main_v181, val_main_v180]
  rw [dif_neg (by omega), layer l h0]

/-- 256 by 1024: the first layer, -/
theorem first1 (x G) (a : Fin 256) (b : Fin 1024) : val_main_v185 (F := Ideal) x G (ix3 0 a b) = x (ix2 a b) := by
  pointwise [val_main_v185, val_main_v184, val_main_v183]

/-- and the others. -/
theorem rest1 (x G) (l : Fin 4) (a : Fin 256) (b : Fin 1024) (h : ¬ l.val / 1 = 0) :
    val_main_v185 (F := Ideal) x G (ix3 l a b) = G (ix3 l a b) := by
  have h0 : ¬ l.val = 0 := by omega
  pointwise [val_main_v185, val_main_v184, val_main_v183]
  rw [dif_neg (by omega), layer l h0]

/-- 1024 by 1024: the first layer, -/
theorem first2 (x G) (a : Fin 1024) (b : Fin 1024) : val_main_v188 (F := Ideal) x G (ix3 0 a b) = x (ix2 a b) := by
  pointwise [val_main_v188, val_main_v187, val_main_v186]

/-- and the others. -/
theorem rest2 (x G) (l : Fin 4) (a : Fin 1024) (b : Fin 1024) (h : ¬ l.val / 1 = 0) :
    val_main_v188 (F := Ideal) x G (ix3 l a b) = G (ix3 l a b) := by
  have h0 : ¬ l.val = 0 := by omega
  pointwise [val_main_v188, val_main_v187, val_main_v186]
  rw [dif_neg (by omega), layer l h0]

/-- 256 by 256: the first layer, -/
theorem first5 (x G) (a : Fin 256) (b : Fin 256) : val_main_v197 (F := Ideal) x G (ix3 0 a b) = x (ix2 a b) := by
  pointwise [val_main_v197, val_main_v196, val_main_v195]

/-- and the others. -/
theorem rest5 (x G) (l : Fin 4) (a : Fin 256) (b : Fin 256) (h : ¬ l.val / 1 = 0) :
    val_main_v197 (F := Ideal) x G (ix3 l a b) = G (ix3 l a b) := by
  have h0 : ¬ l.val = 0 := by omega
  pointwise [val_main_v197, val_main_v196, val_main_v195]
  rw [dif_neg (by omega), layer l h0]

end Cert.AdamBigValue

end
-- ==== Proof.AdamBigValue.lean ====
/- What the call on the cut matrices computes, index by index: the first layer's slab of every output is the step's, and the other
   layers' slabs are the ones it was given (w_in, w_out). -/
module

public import proofs.«01_k».proof.Proof.AdamBigStack
public import Idealize.ShloMosaic.Lib.Pipeline.ValueKit
public import Idealize.ShloMosaic.Lib.Pipeline.ValueKit.Partial

@[expose] public section

set_option maxRecDepth 16384

noncomputable section

namespace Cert.AdamBigValue

open Idealize.ShloMosaic Idealize.ShloMosaic.TcCoe Idealize.SL.Sem
open Cert.AdamBigIdeal Cert.AdamBigIdeal.Gen Cert.AdamBigIdeal.Run
open Cert.AdamBigReferenceIdeal.Read

variable (m : (ℓ : Loc nD τ sig) → Buf (Elt Ideal) ℓ)

/-- The blocks of the point `t`, of w_in. -/
theorem idx0 : ∀ t : Fin cfg0.N, win0_0.index t = ![0, t.val, 0] ∧ win0_6.index t = ![t.val, 0] ∧ win0_12.index t = ![0, t.val, 0] ∧ win0_18.index t = ![0, t.val, 0] ∧
    win0_24.index t = ![0, t.val, 0] ∧ win0_30.index t = ![0, t.val, 0] ∧ win0_36.index t = ![0, t.val, 0] ∧ win0_42.index t = ![0, t.val, 0] := by
  decide +kernel

/-- w_in: the gradient. -/
theorem arr24 (c : Dev nD) : (dats m 0 c).arrAt 24 cfg0.N =
    val_main_v182 (F := Ideal) (m ((c.tc : Thread nD τ).loc main_arg6)) (m ((c.tc : Thread nD τ).loc main_arg24)) := by
  refine (dats m 0 c).arrAt_eq_of_coversWhere_of_agree 24 _ (fun β => β (0 : Fin _) = 0) (by decide +kernel) (fun t hf y => ?_) (fun j hj => ?_)
  · obtain ⟨s, a, b, rfl⟩ : ∃ (s : Fin 1) (a : Fin 128) (b : Fin 704), y = ix3 s a b := ⟨y 0, y 1, y 2, eq_ix3 y⟩
    have ht : t.val < 8 := t.isLt
    have hi : (win0_24.blk t).view.emb (ix3 s a b) =
        ix3 (0 : Fin 4) (⟨t.val * 128 + a.val, by have := a.isLt; omega⟩ : Fin 1024) b := by
      funext k
      match k with
      | 0 => refine Fin.ext ?_; blk_simp [idx0 t]; rfl
      | 1 => refine Fin.ext ?_; blk_simp [idx0 t]
      | 2 => refine Fin.ext ?_; blk_simp [idx0 t]
    refine Eq.trans ?_ ((congrArg _ hi).trans (first0 _ _ _ _)).symm
    blk_simp [idx0 t]
    rw [after_24]
    unfold_payloads
    pointwise
    blk_point [iblk, V, idx0 t]
  · obtain ⟨l, a, b, rfl⟩ : ∃ (l : Fin 4) (a : Fin 1024) (b : Fin 704), j = ix3 l a b := ⟨j 0, j 1, j 2, eq_ix3 j⟩
    blk_simp [Pipeline.Window.cell_apply] at hj
    refine Eq.trans ?_ (rest0 _ _ l a b hj).symm
    rw [A_eq]
    blk_point [V]

/-- w_in: the change. -/
theorem arr30 (c : Dev nD) : (dats m 0 c).arrAt 30 cfg0.N =
    val_main_v200 (F := Ideal) (m ((c.tc : Thread nD τ).loc main_arg0)) (m ((c.tc : Thread nD τ).loc main_arg6)) (m ((c.tc : Thread nD τ).loc main_arg12)) (m ((c.tc : Thread nD τ).loc main_arg18)) (m ((c.tc : Thread nD τ).loc main_arg30)) := by
  refine (dats m 0 c).arrAt_eq_of_coversWhere_of_agree 30 _ (fun β => β (0 : Fin _) = 0) (by decide +kernel) (fun t hf y => ?_) (fun j hj => ?_)
  · obtain ⟨s, a, b, rfl⟩ : ∃ (s : Fin 1) (a : Fin 128) (b : Fin 704), y = ix3 s a b := ⟨y 0, y 1, y 2, eq_ix3 y⟩
    have ht : t.val < 8 := t.isLt
    have hi : (win0_30.blk t).view.emb (ix3 s a b) =
        ix3 (0 : Fin 4) (⟨t.val * 128 + a.val, by have := a.isLt; omega⟩ : Fin 1024) b := by
      funext k
      match k with
      | 0 => refine Fin.ext ?_; blk_simp [idx0 t]; rfl
      | 1 => refine Fin.ext ?_; blk_simp [idx0 t]
      | 2 => refine Fin.ext ?_; blk_simp [idx0 t]
    refine Eq.trans ?_ ((congrArg _ hi).trans (first0 _ _ _ _)).symm
    blk_simp [idx0 t]
    rw [after_30]
    unfold_payloads
    pointwise
    pointwise [val_main_v29, val_main_v28, val_main_v27, val_main_v26, val_main_v25, val_main_v24, val_main_v23, val_main_v22, val_main_v21,
      val_main_v20, val_main_v19, val_main_v18, val_main_v17, val_main_v16, val_main_v15, val_main_v14, val_main_v13, val_main_v12,
      val_main_v11, val_main_v10, val_main_v9, val_main_v8, val_main_v7, val_main_v6, val_main_v5, val_main_v4, val_main_v3,
      val_main_v2, val_main_v1, val_main_v0, val_main_cst, val_main_cst_0, val_main_cst_1, val_main_cst_2, val_main_cst_3, val_main_cst_4,
      val_main_cst_5, val_main_cst_6, val_main_cst_7]
    blk_point [iblk, V, idx0 t]
  · obtain ⟨l, a, b, rfl⟩ : ∃ (l : Fin 4) (a : Fin 1024) (b : Fin 704), j = ix3 l a b := ⟨j 0, j 1, j 2, eq_ix3 j⟩
    blk_simp [Pipeline.Window.cell_apply] at hj
    refine Eq.trans ?_ (rest0 _ _ l a b hj).symm
    rw [A_eq]
    blk_point [V]

/-- w_in: the first moment. -/
theorem arr36 (c : Dev nD) : (dats m 0 c).arrAt 36 cfg0.N =
    val_main_v218 (F := Ideal) (m ((c.tc : Thread nD τ).loc main_arg6)) (m ((c.tc : Thread nD τ).loc main_arg12)) (m ((c.tc : Thread nD τ).loc main_arg36)) := by
  refine (dats m 0 c).arrAt_eq_of_coversWhere_of_agree 36 _ (fun β => β (0 : Fin _) = 0) (by decide +kernel) (fun t hf y => ?_) (fun j hj => ?_)
  · obtain ⟨s, a, b, rfl⟩ : ∃ (s : Fin 1) (a : Fin 128) (b : Fin 704), y = ix3 s a b := ⟨y 0, y 1, y 2, eq_ix3 y⟩
    have ht : t.val < 8 := t.isLt
    have hi : (win0_36.blk t).view.emb (ix3 s a b) =
        ix3 (0 : Fin 4) (⟨t.val * 128 + a.val, by have := a.isLt; omega⟩ : Fin 1024) b := by
      funext k
      match k with
      | 0 => refine Fin.ext ?_; blk_simp [idx0 t]; rfl
      | 1 => refine Fin.ext ?_; blk_simp [idx0 t]
      | 2 => refine Fin.ext ?_; blk_simp [idx0 t]
    refine Eq.trans ?_ ((congrArg _ hi).trans (first0 _ _ _ _)).symm
    blk_simp [idx0 t]
    rw [after_36]
    unfold_payloads
    pointwise
    pointwise [val_main_v10, val_main_v9, val_main_v8, val_main_v7, val_main_v6, val_main_v5, val_main_v4, val_main_v3, val_main_v2,
      val_main_v1, val_main_v0, val_main_cst, val_main_cst_0, val_main_cst_1, val_main_cst_2, val_main_cst_3, val_main_cst_4, val_main_cst_5,
      val_main_cst_6, val_main_cst_7]
    blk_point [iblk, V, idx0 t]
  · obtain ⟨l, a, b, rfl⟩ : ∃ (l : Fin 4) (a : Fin 1024) (b : Fin 704), j = ix3 l a b := ⟨j 0, j 1, j 2, eq_ix3 j⟩
    blk_simp [Pipeline.Window.cell_apply] at hj
    refine Eq.trans ?_ (rest0 _ _ l a b hj).symm
    rw [A_eq]
    blk_point [V]

/-- w_in: the second moment. -/
theorem arr42 (c : Dev nD) : (dats m 0 c).arrAt 42 cfg0.N =
    val_main_v236 (F := Ideal) (m ((c.tc : Thread nD τ).loc main_arg6)) (m ((c.tc : Thread nD τ).loc main_arg18)) (m ((c.tc : Thread nD τ).loc main_arg42)) := by
  refine (dats m 0 c).arrAt_eq_of_coversWhere_of_agree 42 _ (fun β => β (0 : Fin _) = 0) (by decide +kernel) (fun t hf y => ?_) (fun j hj => ?_)
  · obtain ⟨s, a, b, rfl⟩ : ∃ (s : Fin 1) (a : Fin 128) (b : Fin 704), y = ix3 s a b := ⟨y 0, y 1, y 2, eq_ix3 y⟩
    have ht : t.val < 8 := t.isLt
    have hi : (win0_42.blk t).view.emb (ix3 s a b) =
        ix3 (0 : Fin 4) (⟨t.val * 128 + a.val, by have := a.isLt; omega⟩ : Fin 1024) b := by
      funext k
      match k with
      | 0 => refine Fin.ext ?_; blk_simp [idx0 t]; rfl
      | 1 => refine Fin.ext ?_; blk_simp [idx0 t]
      | 2 => refine Fin.ext ?_; blk_simp [idx0 t]
    refine Eq.trans ?_ ((congrArg _ hi).trans (first0 _ _ _ _)).symm
    blk_simp [idx0 t]
    rw [after_42]
    unfold_payloads
    pointwise
    pointwise [val_main_v16, val_main_v15, val_main_v14, val_main_v13, val_main_v12, val_main_v11, val_main_v10, val_main_v9, val_main_v8,
      val_main_v7, val_main_v6, val_main_v5, val_main_v4, val_main_v3, val_main_v2, val_main_v1, val_main_v0, val_main_cst,
      val_main_cst_0, val_main_cst_1, val_main_cst_2, val_main_cst_3, val_main_cst_4, val_main_cst_5, val_main_cst_6, val_main_cst_7]
    blk_point [iblk, V, idx0 t]
  · obtain ⟨l, a, b, rfl⟩ : ∃ (l : Fin 4) (a : Fin 1024) (b : Fin 704), j = ix3 l a b := ⟨j 0, j 1, j 2, eq_ix3 j⟩
    blk_simp [Pipeline.Window.cell_apply] at hj
    refine Eq.trans ?_ (rest0 _ _ l a b hj).symm
    rw [A_eq]
    blk_point [V]

/-- The blocks of the point `t`, of w_out. -/
theorem idx1 : ∀ t : Fin cfg0.N, win0_1.index t = ![0, t.val, 0] ∧ win0_7.index t = ![t.val, 0] ∧ win0_13.index t = ![0, t.val, 0] ∧ win0_19.index t = ![0, t.val, 0] ∧
    win0_25.index t = ![0, t.val, 0] ∧ win0_31.index t = ![0, t.val, 0] ∧ win0_37.index t = ![0, t.val, 0] ∧ win0_43.index t = ![0, t.val, 0] := by
  decide +kernel

/-- w_out: the gradient. -/
theorem arr25 (c : Dev nD) : (dats m 0 c).arrAt 25 cfg0.N =
    val_main_v185 (F := Ideal) (m ((c.tc : Thread nD τ).loc main_arg7)) (m ((c.tc : Thread nD τ).loc main_arg25)) := by
  refine (dats m 0 c).arrAt_eq_of_coversWhere_of_agree 25 _ (fun β => β (0 : Fin _) = 0) (by decide +kernel) (fun t hf y => ?_) (fun j hj => ?_)
  · obtain ⟨s, a, b, rfl⟩ : ∃ (s : Fin 1) (a : Fin 32) (b : Fin 1024), y = ix3 s a b := ⟨y 0, y 1, y 2, eq_ix3 y⟩
    have ht : t.val < 8 := t.isLt
    have hi : (win0_25.blk t).view.emb (ix3 s a b) =
        ix3 (0 : Fin 4) (⟨t.val * 32 + a.val, by have := a.isLt; omega⟩ : Fin 256) b := by
      funext k
      match k with
      | 0 => refine Fin.ext ?_; blk_simp [idx1 t]; rfl
      | 1 => refine Fin.ext ?_; blk_simp [idx1 t]
      | 2 => refine Fin.ext ?_; blk_simp [idx1 t]
    refine Eq.trans ?_ ((congrArg _ hi).trans (first1 _ _ _ _)).symm
    blk_simp [idx1 t]
    rw [after_25]
    unfold_payloads
    pointwise
    blk_point [iblk, V, idx1 t]
  · obtain ⟨l, a, b, rfl⟩ : ∃ (l : Fin 4) (a : Fin 256) (b : Fin 1024), j = ix3 l a b := ⟨j 0, j 1, j 2, eq_ix3 j⟩
    blk_simp [Pipeline.Window.cell_apply] at hj
    refine Eq.trans ?_ (rest1 _ _ l a b hj).symm
    rw [A_eq]
    blk_point [V]

/-- w_out: the change. -/
theorem arr31 (c : Dev nD) : (dats m 0 c).arrAt 31 cfg0.N =
    val_main_v203 (F := Ideal) (m ((c.tc : Thread nD τ).loc main_arg1)) (m ((c.tc : Thread nD τ).loc main_arg7)) (m ((c.tc : Thread nD τ).loc main_arg13)) (m ((c.tc : Thread nD τ).loc main_arg19)) (m ((c.tc : Thread nD τ).loc main_arg31)) := by
  refine (dats m 0 c).arrAt_eq_of_coversWhere_of_agree 31 _ (fun β => β (0 : Fin _) = 0) (by decide +kernel) (fun t hf y => ?_) (fun j hj => ?_)
  · obtain ⟨s, a, b, rfl⟩ : ∃ (s : Fin 1) (a : Fin 32) (b : Fin 1024), y = ix3 s a b := ⟨y 0, y 1, y 2, eq_ix3 y⟩
    have ht : t.val < 8 := t.isLt
    have hi : (win0_31.blk t).view.emb (ix3 s a b) =
        ix3 (0 : Fin 4) (⟨t.val * 32 + a.val, by have := a.isLt; omega⟩ : Fin 256) b := by
      funext k
      match k with
      | 0 => refine Fin.ext ?_; blk_simp [idx1 t]; rfl
      | 1 => refine Fin.ext ?_; blk_simp [idx1 t]
      | 2 => refine Fin.ext ?_; blk_simp [idx1 t]
    refine Eq.trans ?_ ((congrArg _ hi).trans (first1 _ _ _ _)).symm
    blk_simp [idx1 t]
    rw [after_31]
    unfold_payloads
    pointwise
    pointwise [val_main_v59, val_main_v58, val_main_v57, val_main_v56, val_main_v55, val_main_v54, val_main_v53, val_main_v52, val_main_v51,
      val_main_v50, val_main_v49, val_main_v48, val_main_v47, val_main_v46, val_main_v45, val_main_v44, val_main_v43, val_main_v42,
      val_main_v41, val_main_v40, val_main_v39, val_main_v38, val_main_v37, val_main_v36, val_main_v35, val_main_v34, val_main_v33,
      val_main_v32, val_main_v31, val_main_v30, val_main_cst_8, val_main_cst_9, val_main_cst_10, val_main_cst_11, val_main_cst_12, val_main_cst_13,
      val_main_cst_14, val_main_cst_15, val_main_cst_16]
    blk_point [iblk, V, idx1 t]
  · obtain ⟨l, a, b, rfl⟩ : ∃ (l : Fin 4) (a : Fin 256) (b : Fin 1024), j = ix3 l a b := ⟨j 0, j 1, j 2, eq_ix3 j⟩
    blk_simp [Pipeline.Window.cell_apply] at hj
    refine Eq.trans ?_ (rest1 _ _ l a b hj).symm
    rw [A_eq]
    blk_point [V]

/-- w_out: the first moment. -/
theorem arr37 (c : Dev nD) : (dats m 0 c).arrAt 37 cfg0.N =
    val_main_v221 (F := Ideal) (m ((c.tc : Thread nD τ).loc main_arg7)) (m ((c.tc : Thread nD τ).loc main_arg13)) (m ((c.tc : Thread nD τ).loc main_arg37)) := by
  refine (dats m 0 c).arrAt_eq_of_coversWhere_of_agree 37 _ (fun β => β (0 : Fin _) = 0) (by decide +kernel) (fun t hf y => ?_) (fun j hj => ?_)
  · obtain ⟨s, a, b, rfl⟩ : ∃ (s : Fin 1) (a : Fin 32) (b : Fin 1024), y = ix3 s a b := ⟨y 0, y 1, y 2, eq_ix3 y⟩
    have ht : t.val < 8 := t.isLt
    have hi : (win0_37.blk t).view.emb (ix3 s a b) =
        ix3 (0 : Fin 4) (⟨t.val * 32 + a.val, by have := a.isLt; omega⟩ : Fin 256) b := by
      funext k
      match k with
      | 0 => refine Fin.ext ?_; blk_simp [idx1 t]; rfl
      | 1 => refine Fin.ext ?_; blk_simp [idx1 t]
      | 2 => refine Fin.ext ?_; blk_simp [idx1 t]
    refine Eq.trans ?_ ((congrArg _ hi).trans (first1 _ _ _ _)).symm
    blk_simp [idx1 t]
    rw [after_37]
    unfold_payloads
    pointwise
    pointwise [val_main_v40, val_main_v39, val_main_v38, val_main_v37, val_main_v36, val_main_v35, val_main_v34, val_main_v33, val_main_v32,
      val_main_v31, val_main_v30, val_main_cst_8, val_main_cst_9, val_main_cst_10, val_main_cst_11, val_main_cst_12, val_main_cst_13, val_main_cst_14,
      val_main_cst_15, val_main_cst_16]
    blk_point [iblk, V, idx1 t]
  · obtain ⟨l, a, b, rfl⟩ : ∃ (l : Fin 4) (a : Fin 256) (b : Fin 1024), j = ix3 l a b := ⟨j 0, j 1, j 2, eq_ix3 j⟩
    blk_simp [Pipeline.Window.cell_apply] at hj
    refine Eq.trans ?_ (rest1 _ _ l a b hj).symm
    rw [A_eq]
    blk_point [V]

/-- w_out: the second moment. -/
theorem arr43 (c : Dev nD) : (dats m 0 c).arrAt 43 cfg0.N =
    val_main_v239 (F := Ideal) (m ((c.tc : Thread nD τ).loc main_arg7)) (m ((c.tc : Thread nD τ).loc main_arg19)) (m ((c.tc : Thread nD τ).loc main_arg43)) := by
  refine (dats m 0 c).arrAt_eq_of_coversWhere_of_agree 43 _ (fun β => β (0 : Fin _) = 0) (by decide +kernel) (fun t hf y => ?_) (fun j hj => ?_)
  · obtain ⟨s, a, b, rfl⟩ : ∃ (s : Fin 1) (a : Fin 32) (b : Fin 1024), y = ix3 s a b := ⟨y 0, y 1, y 2, eq_ix3 y⟩
    have ht : t.val < 8 := t.isLt
    have hi : (win0_43.blk t).view.emb (ix3 s a b) =
        ix3 (0 : Fin 4) (⟨t.val * 32 + a.val, by have := a.isLt; omega⟩ : Fin 256) b := by
      funext k
      match k with
      | 0 => refine Fin.ext ?_; blk_simp [idx1 t]; rfl
      | 1 => refine Fin.ext ?_; blk_simp [idx1 t]
      | 2 => refine Fin.ext ?_; blk_simp [idx1 t]
    refine Eq.trans ?_ ((congrArg _ hi).trans (first1 _ _ _ _)).symm
    blk_simp [idx1 t]
    rw [after_43]
    unfold_payloads
    pointwise
    pointwise [val_main_v46, val_main_v45, val_main_v44, val_main_v43, val_main_v42, val_main_v41, val_main_v40, val_main_v39, val_main_v38,
      val_main_v37, val_main_v36, val_main_v35, val_main_v34, val_main_v33, val_main_v32, val_main_v31, val_main_v30, val_main_cst_8,
      val_main_cst_9, val_main_cst_10, val_main_cst_11, val_main_cst_12, val_main_cst_13, val_main_cst_14, val_main_cst_15, val_main_cst_16]
    blk_point [iblk, V, idx1 t]
  · obtain ⟨l, a, b, rfl⟩ : ∃ (l : Fin 4) (a : Fin 256) (b : Fin 1024), j = ix3 l a b := ⟨j 0, j 1, j 2, eq_ix3 j⟩
    blk_simp [Pipeline.Window.cell_apply] at hj
    refine Eq.trans ?_ (rest1 _ _ l a b hj).symm
    rw [A_eq]
    blk_point [V]

end Cert.AdamBigValue

end
-- ==== Proof.AdamBigValue2.lean ====
/- What the call on the cut matrices computes, index by index: the first layer's slab of every output is the step's, and the other
   layers' slabs are the ones it was given (w_ff1, w_ff2). -/
module

public import proofs.«01_k».proof.Proof.AdamBigStack
public import Idealize.ShloMosaic.Lib.Pipeline.ValueKit
public import Idealize.ShloMosaic.Lib.Pipeline.ValueKit.Partial

@[expose] public section

set_option maxRecDepth 16384

noncomputable section

namespace Cert.AdamBigValue

open Idealize.ShloMosaic Idealize.ShloMosaic.TcCoe Idealize.SL.Sem
open Cert.AdamBigIdeal Cert.AdamBigIdeal.Gen Cert.AdamBigIdeal.Run
open Cert.AdamBigReferenceIdeal.Read

variable (m : (ℓ : Loc nD τ sig) → Buf (Elt Ideal) ℓ)

/-- The blocks of the point `t`, of w_ff1. -/
theorem idx2 : ∀ t : Fin cfg0.N, win0_2.index t = ![0, t.val, 0] ∧ win0_8.index t = ![t.val, 0] ∧ win0_14.index t = ![0, t.val, 0] ∧ win0_20.index t = ![0, t.val, 0] ∧
    win0_26.index t = ![0, t.val, 0] ∧ win0_32.index t = ![0, t.val, 0] ∧ win0_38.index t = ![0, t.val, 0] ∧ win0_44.index t = ![0, t.val, 0] := by
  decide +kernel

/-- w_ff1: the gradient. -/
theorem arr26 (c : Dev nD) : (dats m 0 c).arrAt 26 cfg0.N =
    val_main_v188 (F := Ideal) (m ((c.tc : Thread nD τ).loc main_arg8)) (m ((c.tc : Thread nD τ).loc main_arg26)) := by
  refine (dats m 0 c).arrAt_eq_of_coversWhere_of_agree 26 _ (fun β => β (0 : Fin _) = 0) (by decide +kernel) (fun t hf y => ?_) (fun j hj => ?_)
  · obtain ⟨s, a, b, rfl⟩ : ∃ (s : Fin 1) (a : Fin 128) (b : Fin 1024), y = ix3 s a b := ⟨y 0, y 1, y 2, eq_ix3 y⟩
    have ht : t.val < 8 := t.isLt
    have hi : (win0_26.blk t).view.emb (ix3 s a b) =
        ix3 (0 : Fin 4) (⟨t.val * 128 + a.val, by have := a.isLt; omega⟩ : Fin 1024) b := by
      funext k
      match k with
      | 0 => refine Fin.ext ?_; blk_simp [idx2 t]; rfl
      | 1 => refine Fin.ext ?_; blk_simp [idx2 t]
      | 2 => refine Fin.ext ?_; blk_simp [idx2 t]
    refine Eq.trans ?_ ((congrArg _ hi).trans (first2 _ _ _ _)).symm
    blk_simp [idx2 t]
    rw [after_26]
    unfold_payloads
    pointwise
    blk_point [iblk, V, idx2 t]
  · obtain ⟨l, a, b, rfl⟩ : ∃ (l : Fin 4) (a : Fin 1024) (b : Fin 1024), j = ix3 l a b := ⟨j 0, j 1, j 2, eq_ix3 j⟩
    blk_simp [Pipeline.Window.cell_apply] at hj
    refine Eq.trans ?_ (rest2 _ _ l a b hj).symm
    rw [A_eq]
    blk_point [V]

/-- w_ff1: the change. -/
theorem arr32 (c : Dev nD) : (dats m 0 c).arrAt 32 cfg0.N =
    val_main_v206 (F := Ideal) (m ((c.tc : Thread nD τ).loc main_arg2)) (m ((c.tc : Thread nD τ).loc main_arg8)) (m ((c.tc : Thread nD τ).loc main_arg14)) (m ((c.tc : Thread nD τ).loc main_arg20)) (m ((c.tc : Thread nD τ).loc main_arg32)) := by
  refine (dats m 0 c).arrAt_eq_of_coversWhere_of_agree 32 _ (fun β => β (0 : Fin _) = 0) (by decide +kernel) (fun t hf y => ?_) (fun j hj => ?_)
  · obtain ⟨s, a, b, rfl⟩ : ∃ (s : Fin 1) (a : Fin 128) (b : Fin 1024), y = ix3 s a b := ⟨y 0, y 1, y 2, eq_ix3 y⟩
    have ht : t.val < 8 := t.isLt
    have hi : (win0_32.blk t).view.emb (ix3 s a b) =
        ix3 (0 : Fin 4) (⟨t.val * 128 + a.val, by have := a.isLt; omega⟩ : Fin 1024) b := by
      funext k
      match k with
      | 0 => refine Fin.ext ?_; blk_simp [idx2 t]; rfl
      | 1 => refine Fin.ext ?_; blk_simp [idx2 t]
      | 2 => refine Fin.ext ?_; blk_simp [idx2 t]
    refine Eq.trans ?_ ((congrArg _ hi).trans (first2 _ _ _ _)).symm
    blk_simp [idx2 t]
    rw [after_32]
    unfold_payloads
    pointwise
    pointwise [val_main_v89, val_main_v88, val_main_v87, val_main_v86, val_main_v85, val_main_v84, val_main_v83, val_main_v82, val_main_v81,
      val_main_v80, val_main_v79, val_main_v78, val_main_v77, val_main_v76, val_main_v75, val_main_v74, val_main_v73, val_main_v72,
      val_main_v71, val_main_v70, val_main_v69, val_main_v68, val_main_v67, val_main_v66, val_main_v65, val_main_v64, val_main_v63,
      val_main_v62, val_main_v61, val_main_v60, val_main_cst_17, val_main_cst_18, val_main_cst_19, val_main_cst_20, val_main_cst_21, val_main_cst_22,
      val_main_cst_23, val_main_cst_24, val_main_cst_25]
    blk_point [iblk, V, idx2 t]
  · obtain ⟨l, a, b, rfl⟩ : ∃ (l : Fin 4) (a : Fin 1024) (b : Fin 1024), j = ix3 l a b := ⟨j 0, j 1, j 2, eq_ix3 j⟩
    blk_simp [Pipeline.Window.cell_apply] at hj
    refine Eq.trans ?_ (rest2 _ _ l a b hj).symm
    rw [A_eq]
    blk_point [V]

/-- w_ff1: the first moment. -/
theorem arr38 (c : Dev nD) : (dats m 0 c).arrAt 38 cfg0.N =
    val_main_v224 (F := Ideal) (m ((c.tc : Thread nD τ).loc main_arg8)) (m ((c.tc : Thread nD τ).loc main_arg14)) (m ((c.tc : Thread nD τ).loc main_arg38)) := by
  refine (dats m 0 c).arrAt_eq_of_coversWhere_of_agree 38 _ (fun β => β (0 : Fin _) = 0) (by decide +kernel) (fun t hf y => ?_) (fun j hj => ?_)
  · obtain ⟨s, a, b, rfl⟩ : ∃ (s : Fin 1) (a : Fin 128) (b : Fin 1024), y = ix3 s a b := ⟨y 0, y 1, y 2, eq_ix3 y⟩
    have ht : t.val < 8 := t.isLt
    have hi : (win0_38.blk t).view.emb (ix3 s a b) =
        ix3 (0 : Fin 4) (⟨t.val * 128 + a.val, by have := a.isLt; omega⟩ : Fin 1024) b := by
      funext k
      match k with
      | 0 => refine Fin.ext ?_; blk_simp [idx2 t]; rfl
      | 1 => refine Fin.ext ?_; blk_simp [idx2 t]
      | 2 => refine Fin.ext ?_; blk_simp [idx2 t]
    refine Eq.trans ?_ ((congrArg _ hi).trans (first2 _ _ _ _)).symm
    blk_simp [idx2 t]
    rw [after_38]
    unfold_payloads
    pointwise
    pointwise [val_main_v70, val_main_v69, val_main_v68, val_main_v67, val_main_v66, val_main_v65, val_main_v64, val_main_v63, val_main_v62,
      val_main_v61, val_main_v60, val_main_cst_17, val_main_cst_18, val_main_cst_19, val_main_cst_20, val_main_cst_21, val_main_cst_22, val_main_cst_23,
      val_main_cst_24, val_main_cst_25]
    blk_point [iblk, V, idx2 t]
  · obtain ⟨l, a, b, rfl⟩ : ∃ (l : Fin 4) (a : Fin 1024) (b : Fin 1024), j = ix3 l a b := ⟨j 0, j 1, j 2, eq_ix3 j⟩
    blk_simp [Pipeline.Window.cell_apply] at hj
    refine Eq.trans ?_ (rest2 _ _ l a b hj).symm
    rw [A_eq]
    blk_point [V]

/-- w_ff1: the second moment. -/
theorem arr44 (c : Dev nD) : (dats m 0 c).arrAt 44 cfg0.N =
    val_main_v242 (F := Ideal) (m ((c.tc : Thread nD τ).loc main_arg8)) (m ((c.tc : Thread nD τ).loc main_arg20)) (m ((c.tc : Thread nD τ).loc main_arg44)) := by
  refine (dats m 0 c).arrAt_eq_of_coversWhere_of_agree 44 _ (fun β => β (0 : Fin _) = 0) (by decide +kernel) (fun t hf y => ?_) (fun j hj => ?_)
  · obtain ⟨s, a, b, rfl⟩ : ∃ (s : Fin 1) (a : Fin 128) (b : Fin 1024), y = ix3 s a b := ⟨y 0, y 1, y 2, eq_ix3 y⟩
    have ht : t.val < 8 := t.isLt
    have hi : (win0_44.blk t).view.emb (ix3 s a b) =
        ix3 (0 : Fin 4) (⟨t.val * 128 + a.val, by have := a.isLt; omega⟩ : Fin 1024) b := by
      funext k
      match k with
      | 0 => refine Fin.ext ?_; blk_simp [idx2 t]; rfl
      | 1 => refine Fin.ext ?_; blk_simp [idx2 t]
      | 2 => refine Fin.ext ?_; blk_simp [idx2 t]
    refine Eq.trans ?_ ((congrArg _ hi).trans (first2 _ _ _ _)).symm
    blk_simp [idx2 t]
    rw [after_44]
    unfold_payloads
    pointwise
    pointwise [val_main_v76, val_main_v75, val_main_v74, val_main_v73, val_main_v72, val_main_v71, val_main_v70, val_main_v69, val_main_v68,
      val_main_v67, val_main_v66, val_main_v65, val_main_v64, val_main_v63, val_main_v62, val_main_v61, val_main_v60, val_main_cst_17,
      val_main_cst_18, val_main_cst_19, val_main_cst_20, val_main_cst_21, val_main_cst_22, val_main_cst_23, val_main_cst_24, val_main_cst_25]
    blk_point [iblk, V, idx2 t]
  · obtain ⟨l, a, b, rfl⟩ : ∃ (l : Fin 4) (a : Fin 1024) (b : Fin 1024), j = ix3 l a b := ⟨j 0, j 1, j 2, eq_ix3 j⟩
    blk_simp [Pipeline.Window.cell_apply] at hj
    refine Eq.trans ?_ (rest2 _ _ l a b hj).symm
    rw [A_eq]
    blk_point [V]

/-- The blocks of the point `t`, of w_ff2. -/
theorem idx3 : ∀ t : Fin cfg0.N, win0_3.index t = ![0, t.val, 0] ∧ win0_9.index t = ![t.val, 0] ∧ win0_15.index t = ![0, t.val, 0] ∧ win0_21.index t = ![0, t.val, 0] ∧
    win0_27.index t = ![0, t.val, 0] ∧ win0_33.index t = ![0, t.val, 0] ∧ win0_39.index t = ![0, t.val, 0] ∧ win0_45.index t = ![0, t.val, 0] := by
  decide +kernel

/-- w_ff2: the gradient. -/
theorem arr27 (c : Dev nD) : (dats m 0 c).arrAt 27 cfg0.N =
    val_main_v191 (F := Ideal) (m ((c.tc : Thread nD τ).loc main_arg9)) (m ((c.tc : Thread nD τ).loc main_arg27)) := by
  refine (dats m 0 c).arrAt_eq_of_coversWhere_of_agree 27 _ (fun β => β (0 : Fin _) = 0) (by decide +kernel) (fun t hf y => ?_) (fun j hj => ?_)
  · obtain ⟨s, a, b, rfl⟩ : ∃ (s : Fin 1) (a : Fin 128) (b : Fin 1024), y = ix3 s a b := ⟨y 0, y 1, y 2, eq_ix3 y⟩
    have ht : t.val < 8 := t.isLt
    have hi : (win0_27.blk t).view.emb (ix3 s a b) =
        ix3 (0 : Fin 4) (⟨t.val * 128 + a.val, by have := a.isLt; omega⟩ : Fin 1024) b := by
      funext k
      match k with
      | 0 => refine Fin.ext ?_; blk_simp [idx3 t]; rfl
      | 1 => refine Fin.ext ?_; blk_simp [idx3 t]
      | 2 => refine Fin.ext ?_; blk_simp [idx3 t]
    refine Eq.trans ?_ ((congrArg _ hi).trans (first2 _ _ _ _)).symm
    blk_simp [idx3 t]
    rw [after_27]
    unfold_payloads
    pointwise
    blk_point [iblk, V, idx3 t]
  · obtain ⟨l, a, b, rfl⟩ : ∃ (l : Fin 4) (a : Fin 1024) (b : Fin 1024), j = ix3 l a b := ⟨j 0, j 1, j 2, eq_ix3 j⟩
    blk_simp [Pipeline.Window.cell_apply] at hj
    refine Eq.trans ?_ (rest2 _ _ l a b hj).symm
    rw [A_eq]
    blk_point [V]

/-- w_ff2: the change. -/
theorem arr33 (c : Dev nD) : (dats m 0 c).arrAt 33 cfg0.N =
    val_main_v209 (F := Ideal) (m ((c.tc : Thread nD τ).loc main_arg3)) (m ((c.tc : Thread nD τ).loc main_arg9)) (m ((c.tc : Thread nD τ).loc main_arg15)) (m ((c.tc : Thread nD τ).loc main_arg21)) (m ((c.tc : Thread nD τ).loc main_arg33)) := by
  refine (dats m 0 c).arrAt_eq_of_coversWhere_of_agree 33 _ (fun β => β (0 : Fin _) = 0) (by decide +kernel) (fun t hf y => ?_) (fun j hj => ?_)
  · obtain ⟨s, a, b, rfl⟩ : ∃ (s : Fin 1) (a : Fin 128) (b : Fin 1024), y = ix3 s a b := ⟨y 0, y 1, y 2, eq_ix3 y⟩
    have ht : t.val < 8 := t.isLt
    have hi : (win0_33.blk t).view.emb (ix3 s a b) =
        ix3 (0 : Fin 4) (⟨t.val * 128 + a.val, by have := a.isLt; omega⟩ : Fin 1024) b := by
      funext k
      match k with
      | 0 => refine Fin.ext ?_; blk_simp [idx3 t]; rfl
      | 1 => refine Fin.ext ?_; blk_simp [idx3 t]
      | 2 => refine Fin.ext ?_; blk_simp [idx3 t]
    refine Eq.trans ?_ ((congrArg _ hi).trans (first2 _ _ _ _)).symm
    blk_simp [idx3 t]
    rw [after_33]
    unfold_payloads
    pointwise
    pointwise [val_main_v119, val_main_v118, val_main_v117, val_main_v116, val_main_v115, val_main_v114, val_main_v113, val_main_v112, val_main_v111,
      val_main_v110, val_main_v109, val_main_v108, val_main_v107, val_main_v106, val_main_v105, val_main_v104, val_main_v103, val_main_v102,
      val_main_v101, val_main_v100, val_main_v99, val_main_v98, val_main_v97, val_main_v96, val_main_v95, val_main_v94, val_main_v93,
      val_main_v92, val_main_v91, val_main_v90, val_main_cst_26, val_main_cst_27, val_main_cst_28, val_main_cst_29, val_main_cst_30, val_main_cst_31,
      val_main_cst_32, val_main_cst_33, val_main_cst_34]
    blk_point [iblk, V, idx3 t]
  · obtain ⟨l, a, b, rfl⟩ : ∃ (l : Fin 4) (a : Fin 1024) (b : Fin 1024), j = ix3 l a b := ⟨j 0, j 1, j 2, eq_ix3 j⟩
    blk_simp [Pipeline.Window.cell_apply] at hj
    refine Eq.trans ?_ (rest2 _ _ l a b hj).symm
    rw [A_eq]
    blk_point [V]

/-- w_ff2: the first moment. -/
theorem arr39 (c : Dev nD) : (dats m 0 c).arrAt 39 cfg0.N =
    val_main_v227 (F := Ideal) (m ((c.tc : Thread nD τ).loc main_arg9)) (m ((c.tc : Thread nD τ).loc main_arg15)) (m ((c.tc : Thread nD τ).loc main_arg39)) := by
  refine (dats m 0 c).arrAt_eq_of_coversWhere_of_agree 39 _ (fun β => β (0 : Fin _) = 0) (by decide +kernel) (fun t hf y => ?_) (fun j hj => ?_)
  · obtain ⟨s, a, b, rfl⟩ : ∃ (s : Fin 1) (a : Fin 128) (b : Fin 1024), y = ix3 s a b := ⟨y 0, y 1, y 2, eq_ix3 y⟩
    have ht : t.val < 8 := t.isLt
    have hi : (win0_39.blk t).view.emb (ix3 s a b) =
        ix3 (0 : Fin 4) (⟨t.val * 128 + a.val, by have := a.isLt; omega⟩ : Fin 1024) b := by
      funext k
      match k with
      | 0 => refine Fin.ext ?_; blk_simp [idx3 t]; rfl
      | 1 => refine Fin.ext ?_; blk_simp [idx3 t]
      | 2 => refine Fin.ext ?_; blk_simp [idx3 t]
    refine Eq.trans ?_ ((congrArg _ hi).trans (first2 _ _ _ _)).symm
    blk_simp [idx3 t]
    rw [after_39]
    unfold_payloads
    pointwise
    pointwise [val_main_v100, val_main_v99, val_main_v98, val_main_v97, val_main_v96, val_main_v95, val_main_v94, val_main_v93, val_main_v92,
      val_main_v91, val_main_v90, val_main_cst_26, val_main_cst_27, val_main_cst_28, val_main_cst_29, val_main_cst_30, val_main_cst_31, val_main_cst_32,
      val_main_cst_33, val_main_cst_34]
    blk_point [iblk, V, idx3 t]
  · obtain ⟨l, a, b, rfl⟩ : ∃ (l : Fin 4) (a : Fin 1024) (b : Fin 1024), j = ix3 l a b := ⟨j 0, j 1, j 2, eq_ix3 j⟩
    blk_simp [Pipeline.Window.cell_apply] at hj
    refine Eq.trans ?_ (rest2 _ _ l a b hj).symm
    rw [A_eq]
    blk_point [V]

/-- w_ff2: the second moment. -/
theorem arr45 (c : Dev nD) : (dats m 0 c).arrAt 45 cfg0.N =
    val_main_v245 (F := Ideal) (m ((c.tc : Thread nD τ).loc main_arg9)) (m ((c.tc : Thread nD τ).loc main_arg21)) (m ((c.tc : Thread nD τ).loc main_arg45)) := by
  refine (dats m 0 c).arrAt_eq_of_coversWhere_of_agree 45 _ (fun β => β (0 : Fin _) = 0) (by decide +kernel) (fun t hf y => ?_) (fun j hj => ?_)
  · obtain ⟨s, a, b, rfl⟩ : ∃ (s : Fin 1) (a : Fin 128) (b : Fin 1024), y = ix3 s a b := ⟨y 0, y 1, y 2, eq_ix3 y⟩
    have ht : t.val < 8 := t.isLt
    have hi : (win0_45.blk t).view.emb (ix3 s a b) =
        ix3 (0 : Fin 4) (⟨t.val * 128 + a.val, by have := a.isLt; omega⟩ : Fin 1024) b := by
      funext k
      match k with
      | 0 => refine Fin.ext ?_; blk_simp [idx3 t]; rfl
      | 1 => refine Fin.ext ?_; blk_simp [idx3 t]
      | 2 => refine Fin.ext ?_; blk_simp [idx3 t]
    refine Eq.trans ?_ ((congrArg _ hi).trans (first2 _ _ _ _)).symm
    blk_simp [idx3 t]
    rw [after_45]
    unfold_payloads
    pointwise
    pointwise [val_main_v106, val_main_v105, val_main_v104, val_main_v103, val_main_v102, val_main_v101, val_main_v100, val_main_v99, val_main_v98,
      val_main_v97, val_main_v96, val_main_v95, val_main_v94, val_main_v93, val_main_v92, val_main_v91, val_main_v90, val_main_cst_26,
      val_main_cst_27, val_main_cst_28, val_main_cst_29, val_main_cst_30, val_main_cst_31, val_main_cst_32, val_main_cst_33, val_main_cst_34]
    blk_point [iblk, V, idx3 t]
  · obtain ⟨l, a, b, rfl⟩ : ∃ (l : Fin 4) (a : Fin 1024) (b : Fin 1024), j = ix3 l a b := ⟨j 0, j 1, j 2, eq_ix3 j⟩
    blk_simp [Pipeline.Window.cell_apply] at hj
    refine Eq.trans ?_ (rest2 _ _ l a b hj).symm
    rw [A_eq]
    blk_point [V]

end Cert.AdamBigValue

end
-- ==== Proof.AdamBigValue3.lean ====
/- What the call on the cut matrices computes, index by index: the first layer's slab of every output is the step's, and the other
   layers' slabs are the ones it was given (w_ple_gate, w_ple_proj). -/
module

public import proofs.«01_k».proof.Proof.AdamBigStack
public import Idealize.ShloMosaic.Lib.Pipeline.ValueKit
public import Idealize.ShloMosaic.Lib.Pipeline.ValueKit.Partial

@[expose] public section

set_option maxRecDepth 16384

noncomputable section

namespace Cert.AdamBigValue

open Idealize.ShloMosaic Idealize.ShloMosaic.TcCoe Idealize.SL.Sem
open Cert.AdamBigIdeal Cert.AdamBigIdeal.Gen Cert.AdamBigIdeal.Run
open Cert.AdamBigReferenceIdeal.Read

variable (m : (ℓ : Loc nD τ sig) → Buf (Elt Ideal) ℓ)

/-- The blocks of the point `t`, of w_ple_gate. -/
theorem idx4 : ∀ t : Fin cfg0.N, win0_4.index t = ![0, t.val, 0] ∧ win0_10.index t = ![t.val, 0] ∧ win0_16.index t = ![0, t.val, 0] ∧ win0_22.index t = ![0, t.val, 0] ∧
    win0_28.index t = ![0, t.val, 0] ∧ win0_34.index t = ![0, t.val, 0] ∧ win0_40.index t = ![0, t.val, 0] ∧ win0_46.index t = ![0, t.val, 0] := by
  decide +kernel

/-- w_ple_gate: the gradient. -/
theorem arr28 (c : Dev nD) : (dats m 0 c).arrAt 28 cfg0.N =
    val_main_v194 (F := Ideal) (m ((c.tc : Thread nD τ).loc main_arg10)) (m ((c.tc : Thread nD τ).loc main_arg28)) := by
  refine (dats m 0 c).arrAt_eq_of_coversWhere_of_agree 28 _ (fun β => β (0 : Fin _) = 0) (by decide +kernel) (fun t hf y => ?_) (fun j hj => ?_)
  · obtain ⟨s, a, b, rfl⟩ : ∃ (s : Fin 1) (a : Fin 32) (b : Fin 1024), y = ix3 s a b := ⟨y 0, y 1, y 2, eq_ix3 y⟩
    have ht : t.val < 8 := t.isLt
    have hi : (win0_28.blk t).view.emb (ix3 s a b) =
        ix3 (0 : Fin 4) (⟨t.val * 32 + a.val, by have := a.isLt; omega⟩ : Fin 256) b := by
      funext k
      match k with
      | 0 => refine Fin.ext ?_; blk_simp [idx4 t]; rfl
      | 1 => refine Fin.ext ?_; blk_simp [idx4 t]
      | 2 => refine Fin.ext ?_; blk_simp [idx4 t]
    refine Eq.trans ?_ ((congrArg _ hi).trans (first1 _ _ _ _)).symm
    blk_simp [idx4 t]
    rw [after_28]
    unfold_payloads
    pointwise
    blk_point [iblk, V, idx4 t]
  · obtain ⟨l, a, b, rfl⟩ : ∃ (l : Fin 4) (a : Fin 256) (b : Fin 1024), j = ix3 l a b := ⟨j 0, j 1, j 2, eq_ix3 j⟩
    blk_simp [Pipeline.Window.cell_apply] at hj
    refine Eq.trans ?_ (rest1 _ _ l a b hj).symm
    rw [A_eq]
    blk_point [V]

/-- w_ple_gate: the change. -/
theorem arr34 (c : Dev nD) : (dats m 0 c).arrAt 34 cfg0.N =
    val_main_v212 (F := Ideal) (m ((c.tc : Thread nD τ).loc main_arg4)) (m ((c.tc : Thread nD τ).loc main_arg10)) (m ((c.tc : Thread nD τ).loc main_arg16)) (m ((c.tc : Thread nD τ).loc main_arg22)) (m ((c.tc : Thread nD τ).loc main_arg34)) := by
  refine (dats m 0 c).arrAt_eq_of_coversWhere_of_agree 34 _ (fun β => β (0 : Fin _) = 0) (by decide +kernel) (fun t hf y => ?_) (fun j hj => ?_)
  · obtain ⟨s, a, b, rfl⟩ : ∃ (s : Fin 1) (a : Fin 32) (b : Fin 1024), y = ix3 s a b := ⟨y 0, y 1, y 2, eq_ix3 y⟩
    have ht : t.val < 8 := t.isLt
    have hi : (win0_34.blk t).view.emb (ix3 s a b) =
        ix3 (0 : Fin 4) (⟨t.val * 32 + a.val, by have := a.isLt; omega⟩ : Fin 256) b := by
      funext k
      match k with
      | 0 => refine Fin.ext ?_; blk_simp [idx4 t]; rfl
      | 1 => refine Fin.ext ?_; blk_simp [idx4 t]
      | 2 => refine Fin.ext ?_; blk_simp [idx4 t]
    refine Eq.trans ?_ ((congrArg _ hi).trans (first1 _ _ _ _)).symm
    blk_simp [idx4 t]
    rw [after_34]
    unfold_payloads
    pointwise
    pointwise [val_main_v149, val_main_v148, val_main_v147, val_main_v146, val_main_v145, val_main_v144, val_main_v143, val_main_v142, val_main_v141,
      val_main_v140, val_main_v139, val_main_v138, val_main_v137, val_main_v136, val_main_v135, val_main_v134, val_main_v133, val_main_v132,
      val_main_v131, val_main_v130, val_main_v129, val_main_v128, val_main_v127, val_main_v126, val_main_v125, val_main_v124, val_main_v123,
      val_main_v122, val_main_v121, val_main_v120, val_main_cst_35, val_main_cst_36, val_main_cst_37, val_main_cst_38, val_main_cst_39, val_main_cst_40,
      val_main_cst_41, val_main_cst_42, val_main_cst_43]
    blk_point [iblk, V, idx4 t]
  · obtain ⟨l, a, b, rfl⟩ : ∃ (l : Fin 4) (a : Fin 256) (b : Fin 1024), j = ix3 l a b := ⟨j 0, j 1, j 2, eq_ix3 j⟩
    blk_simp [Pipeline.Window.cell_apply] at hj
    refine Eq.trans ?_ (rest1 _ _ l a b hj).symm
    rw [A_eq]
    blk_point [V]

/-- w_ple_gate: the first moment. -/
theorem arr40 (c : Dev nD) : (dats m 0 c).arrAt 40 cfg0.N =
    val_main_v230 (F := Ideal) (m ((c.tc : Thread nD τ).loc main_arg10)) (m ((c.tc : Thread nD τ).loc main_arg16)) (m ((c.tc : Thread nD τ).loc main_arg40)) := by
  refine (dats m 0 c).arrAt_eq_of_coversWhere_of_agree 40 _ (fun β => β (0 : Fin _) = 0) (by decide +kernel) (fun t hf y => ?_) (fun j hj => ?_)
  · obtain ⟨s, a, b, rfl⟩ : ∃ (s : Fin 1) (a : Fin 32) (b : Fin 1024), y = ix3 s a b := ⟨y 0, y 1, y 2, eq_ix3 y⟩
    have ht : t.val < 8 := t.isLt
    have hi : (win0_40.blk t).view.emb (ix3 s a b) =
        ix3 (0 : Fin 4) (⟨t.val * 32 + a.val, by have := a.isLt; omega⟩ : Fin 256) b := by
      funext k
      match k with
      | 0 => refine Fin.ext ?_; blk_simp [idx4 t]; rfl
      | 1 => refine Fin.ext ?_; blk_simp [idx4 t]
      | 2 => refine Fin.ext ?_; blk_simp [idx4 t]
    refine Eq.trans ?_ ((congrArg _ hi).trans (first1 _ _ _ _)).symm
    blk_simp [idx4 t]
    rw [after_40]
    unfold_payloads
    pointwise
    pointwise [val_main_v130, val_main_v129, val_main_v128, val_main_v127, val_main_v126, val_main_v125, val_main_v124, val_main_v123, val_main_v122,
      val_main_v121, val_main_v120, val_main_cst_35, val_main_cst_36, val_main_cst_37, val_main_cst_38, val_main_cst_39, val_main_cst_40, val_main_cst_41,
      val_main_cst_42, val_main_cst_43]
    blk_point [iblk, V, idx4 t]
  · obtain ⟨l, a, b, rfl⟩ : ∃ (l : Fin 4) (a : Fin 256) (b : Fin 1024), j = ix3 l a b := ⟨j 0, j 1, j 2, eq_ix3 j⟩
    blk_simp [Pipeline.Window.cell_apply] at hj
    refine Eq.trans ?_ (rest1 _ _ l a b hj).symm
    rw [A_eq]
    blk_point [V]

/-- w_ple_gate: the second moment. -/
theorem arr46 (c : Dev nD) : (dats m 0 c).arrAt 46 cfg0.N =
    val_main_v248 (F := Ideal) (m ((c.tc : Thread nD τ).loc main_arg10)) (m ((c.tc : Thread nD τ).loc main_arg22)) (m ((c.tc : Thread nD τ).loc main_arg46)) := by
  refine (dats m 0 c).arrAt_eq_of_coversWhere_of_agree 46 _ (fun β => β (0 : Fin _) = 0) (by decide +kernel) (fun t hf y => ?_) (fun j hj => ?_)
  · obtain ⟨s, a, b, rfl⟩ : ∃ (s : Fin 1) (a : Fin 32) (b : Fin 1024), y = ix3 s a b := ⟨y 0, y 1, y 2, eq_ix3 y⟩
    have ht : t.val < 8 := t.isLt
    have hi : (win0_46.blk t).view.emb (ix3 s a b) =
        ix3 (0 : Fin 4) (⟨t.val * 32 + a.val, by have := a.isLt; omega⟩ : Fin 256) b := by
      funext k
      match k with
      | 0 => refine Fin.ext ?_; blk_simp [idx4 t]; rfl
      | 1 => refine Fin.ext ?_; blk_simp [idx4 t]
      | 2 => refine Fin.ext ?_; blk_simp [idx4 t]
    refine Eq.trans ?_ ((congrArg _ hi).trans (first1 _ _ _ _)).symm
    blk_simp [idx4 t]
    rw [after_46]
    unfold_payloads
    pointwise
    pointwise [val_main_v136, val_main_v135, val_main_v134, val_main_v133, val_main_v132, val_main_v131, val_main_v130, val_main_v129, val_main_v128,
      val_main_v127, val_main_v126, val_main_v125, val_main_v124, val_main_v123, val_main_v122, val_main_v121, val_main_v120, val_main_cst_35,
      val_main_cst_36, val_main_cst_37, val_main_cst_38, val_main_cst_39, val_main_cst_40, val_main_cst_41, val_main_cst_42, val_main_cst_43]
    blk_point [iblk, V, idx4 t]
  · obtain ⟨l, a, b, rfl⟩ : ∃ (l : Fin 4) (a : Fin 256) (b : Fin 1024), j = ix3 l a b := ⟨j 0, j 1, j 2, eq_ix3 j⟩
    blk_simp [Pipeline.Window.cell_apply] at hj
    refine Eq.trans ?_ (rest1 _ _ l a b hj).symm
    rw [A_eq]
    blk_point [V]

/-- The blocks of the point `t`, of w_ple_proj. -/
theorem idx5 : ∀ t : Fin cfg0.N, win0_5.index t = ![0, t.val, 0] ∧ win0_11.index t = ![t.val, 0] ∧ win0_17.index t = ![0, t.val, 0] ∧ win0_23.index t = ![0, t.val, 0] ∧
    win0_29.index t = ![0, t.val, 0] ∧ win0_35.index t = ![0, t.val, 0] ∧ win0_41.index t = ![0, t.val, 0] ∧ win0_47.index t = ![0, t.val, 0] := by
  decide +kernel

/-- w_ple_proj: the gradient. -/
theorem arr29 (c : Dev nD) : (dats m 0 c).arrAt 29 cfg0.N =
    val_main_v197 (F := Ideal) (m ((c.tc : Thread nD τ).loc main_arg11)) (m ((c.tc : Thread nD τ).loc main_arg29)) := by
  refine (dats m 0 c).arrAt_eq_of_coversWhere_of_agree 29 _ (fun β => β (0 : Fin _) = 0) (by decide +kernel) (fun t hf y => ?_) (fun j hj => ?_)
  · obtain ⟨s, a, b, rfl⟩ : ∃ (s : Fin 1) (a : Fin 32) (b : Fin 256), y = ix3 s a b := ⟨y 0, y 1, y 2, eq_ix3 y⟩
    have ht : t.val < 8 := t.isLt
    have hi : (win0_29.blk t).view.emb (ix3 s a b) =
        ix3 (0 : Fin 4) (⟨t.val * 32 + a.val, by have := a.isLt; omega⟩ : Fin 256) b := by
      funext k
      match k with
      | 0 => refine Fin.ext ?_; blk_simp [idx5 t]; rfl
      | 1 => refine Fin.ext ?_; blk_simp [idx5 t]
      | 2 => refine Fin.ext ?_; blk_simp [idx5 t]
    refine Eq.trans ?_ ((congrArg _ hi).trans (first5 _ _ _ _)).symm
    blk_simp [idx5 t]
    rw [after_29]
    unfold_payloads
    pointwise
    blk_point [iblk, V, idx5 t]
  · obtain ⟨l, a, b, rfl⟩ : ∃ (l : Fin 4) (a : Fin 256) (b : Fin 256), j = ix3 l a b := ⟨j 0, j 1, j 2, eq_ix3 j⟩
    blk_simp [Pipeline.Window.cell_apply] at hj
    refine Eq.trans ?_ (rest5 _ _ l a b hj).symm
    rw [A_eq]
    blk_point [V]

/-- w_ple_proj: the change. -/
theorem arr35 (c : Dev nD) : (dats m 0 c).arrAt 35 cfg0.N =
    val_main_v215 (F := Ideal) (m ((c.tc : Thread nD τ).loc main_arg5)) (m ((c.tc : Thread nD τ).loc main_arg11)) (m ((c.tc : Thread nD τ).loc main_arg17)) (m ((c.tc : Thread nD τ).loc main_arg23)) (m ((c.tc : Thread nD τ).loc main_arg35)) := by
  refine (dats m 0 c).arrAt_eq_of_coversWhere_of_agree 35 _ (fun β => β (0 : Fin _) = 0) (by decide +kernel) (fun t hf y => ?_) (fun j hj => ?_)
  · obtain ⟨s, a, b, rfl⟩ : ∃ (s : Fin 1) (a : Fin 32) (b : Fin 256), y = ix3 s a b := ⟨y 0, y 1, y 2, eq_ix3 y⟩
    have ht : t.val < 8 := t.isLt
    have hi : (win0_35.blk t).view.emb (ix3 s a b) =
        ix3 (0 : Fin 4) (⟨t.val * 32 + a.val, by have := a.isLt; omega⟩ : Fin 256) b := by
      funext k
      match k with
      | 0 => refine Fin.ext ?_; blk_simp [idx5 t]; rfl
      | 1 => refine Fin.ext ?_; blk_simp [idx5 t]
      | 2 => refine Fin.ext ?_; blk_simp [idx5 t]
    refine Eq.trans ?_ ((congrArg _ hi).trans (first5 _ _ _ _)).symm
    blk_simp [idx5 t]
    rw [after_35]
    unfold_payloads
    pointwise
    pointwise [val_main_v179, val_main_v178, val_main_v177, val_main_v176, val_main_v175, val_main_v174, val_main_v173, val_main_v172, val_main_v171,
      val_main_v170, val_main_v169, val_main_v168, val_main_v167, val_main_v166, val_main_v165, val_main_v164, val_main_v163, val_main_v162,
      val_main_v161, val_main_v160, val_main_v159, val_main_v158, val_main_v157, val_main_v156, val_main_v155, val_main_v154, val_main_v153,
      val_main_v152, val_main_v151, val_main_v150, val_main_cst_44, val_main_cst_45, val_main_cst_46, val_main_cst_47, val_main_cst_48, val_main_cst_49,
      val_main_cst_50, val_main_cst_51, val_main_cst_52]
    blk_point [iblk, V, idx5 t]
  · obtain ⟨l, a, b, rfl⟩ : ∃ (l : Fin 4) (a : Fin 256) (b : Fin 256), j = ix3 l a b := ⟨j 0, j 1, j 2, eq_ix3 j⟩
    blk_simp [Pipeline.Window.cell_apply] at hj
    refine Eq.trans ?_ (rest5 _ _ l a b hj).symm
    rw [A_eq]
    blk_point [V]

/-- w_ple_proj: the first moment. -/
theorem arr41 (c : Dev nD) : (dats m 0 c).arrAt 41 cfg0.N =
    val_main_v233 (F := Ideal) (m ((c.tc : Thread nD τ).loc main_arg11)) (m ((c.tc : Thread nD τ).loc main_arg17)) (m ((c.tc : Thread nD τ).loc main_arg41)) := by
  refine (dats m 0 c).arrAt_eq_of_coversWhere_of_agree 41 _ (fun β => β (0 : Fin _) = 0) (by decide +kernel) (fun t hf y => ?_) (fun j hj => ?_)
  · obtain ⟨s, a, b, rfl⟩ : ∃ (s : Fin 1) (a : Fin 32) (b : Fin 256), y = ix3 s a b := ⟨y 0, y 1, y 2, eq_ix3 y⟩
    have ht : t.val < 8 := t.isLt
    have hi : (win0_41.blk t).view.emb (ix3 s a b) =
        ix3 (0 : Fin 4) (⟨t.val * 32 + a.val, by have := a.isLt; omega⟩ : Fin 256) b := by
      funext k
      match k with
      | 0 => refine Fin.ext ?_; blk_simp [idx5 t]; rfl
      | 1 => refine Fin.ext ?_; blk_simp [idx5 t]
      | 2 => refine Fin.ext ?_; blk_simp [idx5 t]
    refine Eq.trans ?_ ((congrArg _ hi).trans (first5 _ _ _ _)).symm
    blk_simp [idx5 t]
    rw [after_41]
    unfold_payloads
    pointwise
    pointwise [val_main_v160, val_main_v159, val_main_v158, val_main_v157, val_main_v156, val_main_v155, val_main_v154, val_main_v153, val_main_v152,
      val_main_v151, val_main_v150, val_main_cst_44, val_main_cst_45, val_main_cst_46, val_main_cst_47, val_main_cst_48, val_main_cst_49, val_main_cst_50,
      val_main_cst_51, val_main_cst_52]
    blk_point [iblk, V, idx5 t]
  · obtain ⟨l, a, b, rfl⟩ : ∃ (l : Fin 4) (a : Fin 256) (b : Fin 256), j = ix3 l a b := ⟨j 0, j 1, j 2, eq_ix3 j⟩
    blk_simp [Pipeline.Window.cell_apply] at hj
    refine Eq.trans ?_ (rest5 _ _ l a b hj).symm
    rw [A_eq]
    blk_point [V]

/-- w_ple_proj: the second moment. -/
theorem arr47 (c : Dev nD) : (dats m 0 c).arrAt 47 cfg0.N =
    val_main_v251 (F := Ideal) (m ((c.tc : Thread nD τ).loc main_arg11)) (m ((c.tc : Thread nD τ).loc main_arg23)) (m ((c.tc : Thread nD τ).loc main_arg47)) := by
  refine (dats m 0 c).arrAt_eq_of_coversWhere_of_agree 47 _ (fun β => β (0 : Fin _) = 0) (by decide +kernel) (fun t hf y => ?_) (fun j hj => ?_)
  · obtain ⟨s, a, b, rfl⟩ : ∃ (s : Fin 1) (a : Fin 32) (b : Fin 256), y = ix3 s a b := ⟨y 0, y 1, y 2, eq_ix3 y⟩
    have ht : t.val < 8 := t.isLt
    have hi : (win0_47.blk t).view.emb (ix3 s a b) =
        ix3 (0 : Fin 4) (⟨t.val * 32 + a.val, by have := a.isLt; omega⟩ : Fin 256) b := by
      funext k
      match k with
      | 0 => refine Fin.ext ?_; blk_simp [idx5 t]; rfl
      | 1 => refine Fin.ext ?_; blk_simp [idx5 t]
      | 2 => refine Fin.ext ?_; blk_simp [idx5 t]
    refine Eq.trans ?_ ((congrArg _ hi).trans (first5 _ _ _ _)).symm
    blk_simp [idx5 t]
    rw [after_47]
    unfold_payloads
    pointwise
    pointwise [val_main_v166, val_main_v165, val_main_v164, val_main_v163, val_main_v162, val_main_v161, val_main_v160, val_main_v159, val_main_v158,
      val_main_v157, val_main_v156, val_main_v155, val_main_v154, val_main_v153, val_main_v152, val_main_v151, val_main_v150, val_main_cst_44,
      val_main_cst_45, val_main_cst_46, val_main_cst_47, val_main_cst_48, val_main_cst_49, val_main_cst_50, val_main_cst_51, val_main_cst_52]
    blk_point [iblk, V, idx5 t]
  · obtain ⟨l, a, b, rfl⟩ : ∃ (l : Fin 4) (a : Fin 256) (b : Fin 256), j = ix3 l a b := ⟨j 0, j 1, j 2, eq_ix3 j⟩
    blk_simp [Pipeline.Window.cell_apply] at hj
    refine Eq.trans ?_ (rest5 _ _ l a b hj).symm
    rw [A_eq]
    blk_point [V]

end Cert.AdamBigValue

end
-- ==== Proof.AdamBigClaim.lean ====
/- The optimiser's call on the cut matrices is the reference's step: the first layer's slab of every output is what the
   reference computes of it, the other layers' slabs are the ones both are given. -/
module

public import proofs.«01_k».proof.Defs
public import proofs.«01_k».proof.Proof.AdamBigValue
public import proofs.«01_k».proof.Proof.AdamBigValue2
public import proofs.«01_k».proof.Proof.AdamBigValue3
public import proofs.«01_k».proof.Proof.Gen.AdamBigReferenceIdeal.Run

@[expose] public section

set_option maxRecDepth 16384

noncomputable section

namespace Cert.AdamBigClaim

open Idealize.ShloMosaic Idealize.ShloMosaic.TcCoe Idealize.SL.Sem
open Cert.AdamBigIdeal Cert.AdamBigIdeal.Gen Cert.AdamBigIdeal.Run

set_option maxHeartbeats 4000000 in
theorem algebraic : Cert.algebraic_AdamBigIdeal_AdamBigReferenceIdeal
    (hAdamBigIdeal := Cert.AdamBigIdeal.Gen.facts) (hAdamBigReferenceIdeal := Cert.AdamBigReferenceIdeal.Gen.facts) := by
  intro m g m' g' _ hagree
  refine ⟨fun c => (dats m 0 c).arrAt 24 cfg0.N, fun c => (dats m 0 c).arrAt 25 cfg0.N, fun c => (dats m 0 c).arrAt 26 cfg0.N,
    fun c => (dats m 0 c).arrAt 27 cfg0.N, fun c => (dats m 0 c).arrAt 28 cfg0.N, fun c => (dats m 0 c).arrAt 29 cfg0.N,
    fun c => (dats m 0 c).arrAt 30 cfg0.N, fun c => (dats m 0 c).arrAt 31 cfg0.N, fun c => (dats m 0 c).arrAt 32 cfg0.N,
    fun c => (dats m 0 c).arrAt 33 cfg0.N, fun c => (dats m 0 c).arrAt 34 cfg0.N, fun c => (dats m 0 c).arrAt 35 cfg0.N,
    fun c => (dats m 0 c).arrAt 36 cfg0.N, fun c => (dats m 0 c).arrAt 37 cfg0.N, fun c => (dats m 0 c).arrAt 38 cfg0.N,
    fun c => (dats m 0 c).arrAt 39 cfg0.N, fun c => (dats m 0 c).arrAt 40 cfg0.N, fun c => (dats m 0 c).arrAt 41 cfg0.N,
    fun c => (dats m 0 c).arrAt 42 cfg0.N, fun c => (dats m 0 c).arrAt 43 cfg0.N, fun c => (dats m 0 c).arrAt 44 cfg0.N,
    fun c => (dats m 0 c).arrAt 45 cfg0.N, fun c => (dats m 0 c).arrAt 46 cfg0.N, fun c => (dats m 0 c).arrAt 47 cfg0.N,
    Cert.AdamBigIdeal.Run.run_blocks m g,
    (θ_run Cert.AdamBigReferenceIdeal.defs _ _).mono (fun r h c => ?_) (Cert.AdamBigReferenceIdeal.Value.run m' g')⟩
  obtain ⟨h0, h1, h2, h3, h4, h5, h6, h7, h8, h9, h10, h11, h12, h13, h14, h15, h16, h17, h18, h19, h20, h21, h22, h23, h⟩ := h c
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47⟩ := hagree c
  refine ⟨?_, ?_, ?_, ?_, ?_, ?_, ?_, ?_, ?_, ?_, ?_, ?_, ?_, ?_, ?_, ?_, ?_, ?_, ?_, ?_, ?_, ?_, ?_, ?_, h⟩
  · rw [Cert.AdamBigReferenceIdeal.Read.val_main_v182_eq] at h0
    exact h0.trans ((congr (congrArg (Cert.AdamBigReferenceIdeal.Read.val_main_v182 (F := Ideal)) e6) e24).trans (Cert.AdamBigValue.arr24 m c).symm)
  · rw [Cert.AdamBigReferenceIdeal.Read.val_main_v185_eq] at h1
    exact h1.trans ((congr (congrArg (Cert.AdamBigReferenceIdeal.Read.val_main_v185 (F := Ideal)) e7) e25).trans (Cert.AdamBigValue.arr25 m c).symm)
  · rw [Cert.AdamBigReferenceIdeal.Read.val_main_v188_eq] at h2
    exact h2.trans ((congr (congrArg (Cert.AdamBigReferenceIdeal.Read.val_main_v188 (F := Ideal)) e8) e26).trans (Cert.AdamBigValue.arr26 m c).symm)
  · rw [Cert.AdamBigReferenceIdeal.Read.val_main_v191_eq] at h3
    exact h3.trans ((congr (congrArg (Cert.AdamBigReferenceIdeal.Read.val_main_v191 (F := Ideal)) e9) e27).trans (Cert.AdamBigValue.arr27 m c).symm)
  · rw [Cert.AdamBigReferenceIdeal.Read.val_main_v194_eq] at h4
    exact h4.trans ((congr (congrArg (Cert.AdamBigReferenceIdeal.Read.val_main_v194 (F := Ideal)) e10) e28).trans (Cert.AdamBigValue.arr28 m c).symm)
  · rw [Cert.AdamBigReferenceIdeal.Read.val_main_v197_eq] at h5
    exact h5.trans ((congr (congrArg (Cert.AdamBigReferenceIdeal.Read.val_main_v197 (F := Ideal)) e11) e29).trans (Cert.AdamBigValue.arr29 m c).symm)
  · rw [Cert.AdamBigReferenceIdeal.Read.val_main_v200_eq] at h6
    exact h6.trans ((congr (congr (congr (congr (congrArg (Cert.AdamBigReferenceIdeal.Read.val_main_v200 (F := Ideal)) e0) e6) e12) e18) e30).trans (Cert.AdamBigValue.arr30 m c).symm)
  · rw [Cert.AdamBigReferenceIdeal.Read.val_main_v203_eq] at h7
    exact h7.trans ((congr (congr (congr (congr (congrArg (Cert.AdamBigReferenceIdeal.Read.val_main_v203 (F := Ideal)) e1) e7) e13) e19) e31).trans (Cert.AdamBigValue.arr31 m c).symm)
  · rw [Cert.AdamBigReferenceIdeal.Read.val_main_v206_eq] at h8
    exact h8.trans ((congr (congr (congr (congr (congrArg (Cert.AdamBigReferenceIdeal.Read.val_main_v206 (F := Ideal)) e2) e8) e14) e20) e32).trans (Cert.AdamBigValue.arr32 m c).symm)
  · rw [Cert.AdamBigReferenceIdeal.Read.val_main_v209_eq] at h9
    exact h9.trans ((congr (congr (congr (congr (congrArg (Cert.AdamBigReferenceIdeal.Read.val_main_v209 (F := Ideal)) e3) e9) e15) e21) e33).trans (Cert.AdamBigValue.arr33 m c).symm)
  · rw [Cert.AdamBigReferenceIdeal.Read.val_main_v212_eq] at h10
    exact h10.trans ((congr (congr (congr (congr (congrArg (Cert.AdamBigReferenceIdeal.Read.val_main_v212 (F := Ideal)) e4) e10) e16) e22) e34).trans (Cert.AdamBigValue.arr34 m c).symm)
  · rw [Cert.AdamBigReferenceIdeal.Read.val_main_v215_eq] at h11
    exact h11.trans ((congr (congr (congr (congr (congrArg (Cert.AdamBigReferenceIdeal.Read.val_main_v215 (F := Ideal)) e5) e11) e17) e23) e35).trans (Cert.AdamBigValue.arr35 m c).symm)
  · rw [Cert.AdamBigReferenceIdeal.Read.val_main_v218_eq] at h12
    exact h12.trans ((congr (congr (congrArg (Cert.AdamBigReferenceIdeal.Read.val_main_v218 (F := Ideal)) e6) e12) e36).trans (Cert.AdamBigValue.arr36 m c).symm)
  · rw [Cert.AdamBigReferenceIdeal.Read.val_main_v221_eq] at h13
    exact h13.trans ((congr (congr (congrArg (Cert.AdamBigReferenceIdeal.Read.val_main_v221 (F := Ideal)) e7) e13) e37).trans (Cert.AdamBigValue.arr37 m c).symm)
  · rw [Cert.AdamBigReferenceIdeal.Read.val_main_v224_eq] at h14
    exact h14.trans ((congr (congr (congrArg (Cert.AdamBigReferenceIdeal.Read.val_main_v224 (F := Ideal)) e8) e14) e38).trans (Cert.AdamBigValue.arr38 m c).symm)
  · rw [Cert.AdamBigReferenceIdeal.Read.val_main_v227_eq] at h15
    exact h15.trans ((congr (congr (congrArg (Cert.AdamBigReferenceIdeal.Read.val_main_v227 (F := Ideal)) e9) e15) e39).trans (Cert.AdamBigValue.arr39 m c).symm)
  · rw [Cert.AdamBigReferenceIdeal.Read.val_main_v230_eq] at h16
    exact h16.trans ((congr (congr (congrArg (Cert.AdamBigReferenceIdeal.Read.val_main_v230 (F := Ideal)) e10) e16) e40).trans (Cert.AdamBigValue.arr40 m c).symm)
  · rw [Cert.AdamBigReferenceIdeal.Read.val_main_v233_eq] at h17
    exact h17.trans ((congr (congr (congrArg (Cert.AdamBigReferenceIdeal.Read.val_main_v233 (F := Ideal)) e11) e17) e41).trans (Cert.AdamBigValue.arr41 m c).symm)
  · rw [Cert.AdamBigReferenceIdeal.Read.val_main_v236_eq] at h18
    exact h18.trans ((congr (congr (congrArg (Cert.AdamBigReferenceIdeal.Read.val_main_v236 (F := Ideal)) e6) e18) e42).trans (Cert.AdamBigValue.arr42 m c).symm)
  · rw [Cert.AdamBigReferenceIdeal.Read.val_main_v239_eq] at h19
    exact h19.trans ((congr (congr (congrArg (Cert.AdamBigReferenceIdeal.Read.val_main_v239 (F := Ideal)) e7) e19) e43).trans (Cert.AdamBigValue.arr43 m c).symm)
  · rw [Cert.AdamBigReferenceIdeal.Read.val_main_v242_eq] at h20
    exact h20.trans ((congr (congr (congrArg (Cert.AdamBigReferenceIdeal.Read.val_main_v242 (F := Ideal)) e8) e20) e44).trans (Cert.AdamBigValue.arr44 m c).symm)
  · rw [Cert.AdamBigReferenceIdeal.Read.val_main_v245_eq] at h21
    exact h21.trans ((congr (congr (congrArg (Cert.AdamBigReferenceIdeal.Read.val_main_v245 (F := Ideal)) e9) e21) e45).trans (Cert.AdamBigValue.arr45 m c).symm)
  · rw [Cert.AdamBigReferenceIdeal.Read.val_main_v248_eq] at h22
    exact h22.trans ((congr (congr (congrArg (Cert.AdamBigReferenceIdeal.Read.val_main_v248 (F := Ideal)) e10) e22) e46).trans (Cert.AdamBigValue.arr46 m c).symm)
  · rw [Cert.AdamBigReferenceIdeal.Read.val_main_v251_eq] at h23
    exact h23.trans ((congr (congr (congrArg (Cert.AdamBigReferenceIdeal.Read.val_main_v251 (F := Ideal)) e11) e23) e47).trans (Cert.AdamBigValue.arr47 m c).symm)

end Cert.AdamBigClaim

end
-- ==== Proof.AdamBigFrame.lean ====
/- The optimiser's call on the cut matrices: the printed program and its idealization have the same text, so the idealization's
   run is the program's. -/
module

public import proofs.«01_k».proof.Proof.Gen.AdamBig
public import proofs.«01_k».proof.Proof.AdamBigRun

@[expose] public section

set_option maxRecDepth 16384

noncomputable section

namespace Cert.AdamBigFrame

open Idealize.ShloMosaic Idealize.SL.Sem

open Cert.AdamBigIdeal in
set_option maxHeartbeats 8000000 in
theorem body (i : grid0.Coords) (arg1 : Memref sig .tc .vmem S1x128x704 .f32) (harg1 : arg1.IsWhole) (arg2 : Memref sig .tc .vmem S1x32x1024 .f32) (harg2 : arg2.IsWhole)
    (arg3 : Memref sig .tc .vmem S1x128x1024 .f32) (harg3 : arg3.IsWhole) (arg4 : Memref sig .tc .vmem S1x128x1024 .f32) (harg4 : arg4.IsWhole)
    (arg5 : Memref sig .tc .vmem S1x32x1024 .f32) (harg5 : arg5.IsWhole) (arg6 : Memref sig .tc .vmem S1x32x256 .f32) (harg6 : arg6.IsWhole)
    (arg7 : Memref sig .tc .vmem S128x704 .f32) (harg7 : arg7.IsWhole) (arg8 : Memref sig .tc .vmem S32x1024 .f32) (harg8 : arg8.IsWhole)
    (arg9 : Memref sig .tc .vmem S128x1024 .f32) (harg9 : arg9.IsWhole) (arg10 : Memref sig .tc .vmem S128x1024 .f32) (harg10 : arg10.IsWhole)
    (arg11 : Memref sig .tc .vmem S32x1024 .f32) (harg11 : arg11.IsWhole) (arg12 : Memref sig .tc .vmem S32x256 .f32) (harg12 : arg12.IsWhole)
    (arg13 : Memref sig .tc .vmem S1x128x704 .f32) (harg13 : arg13.IsWhole) (arg14 : Memref sig .tc .vmem S1x32x1024 .f32) (harg14 : arg14.IsWhole)
    (arg15 : Memref sig .tc .vmem S1x128x1024 .f32) (harg15 : arg15.IsWhole) (arg16 : Memref sig .tc .vmem S1x128x1024 .f32) (harg16 : arg16.IsWhole)
    (arg17 : Memref sig .tc .vmem S1x32x1024 .f32) (harg17 : arg17.IsWhole) (arg18 : Memref sig .tc .vmem S1x32x256 .f32) (harg18 : arg18.IsWhole)
    (arg19 : Memref sig .tc .vmem S1x128x704 .f32) (harg19 : arg19.IsWhole) (arg20 : Memref sig .tc .vmem S1x32x1024 .f32) (harg20 : arg20.IsWhole)
    (arg21 : Memref sig .tc .vmem S1x128x1024 .f32) (harg21 : arg21.IsWhole) (arg22 : Memref sig .tc .vmem S1x128x1024 .f32) (harg22 : arg22.IsWhole)
    (arg23 : Memref sig .tc .vmem S1x32x1024 .f32) (harg23 : arg23.IsWhole) (arg24 : Memref sig .tc .vmem S1x32x256 .f32) (harg24 : arg24.IsWhole)
    (arg25 : Memref sig .tc .hbm S4x1024x704 .f32) (harg25 : arg25.IsWhole) (arg26 : Memref sig .tc .hbm S4x256x1024 .f32) (harg26 : arg26.IsWhole)
    (arg27 : Memref sig .tc .hbm S4x1024x1024 .f32) (harg27 : arg27.IsWhole) (arg28 : Memref sig .tc .hbm S4x1024x1024 .f32) (harg28 : arg28.IsWhole)
    (arg29 : Memref sig .tc .hbm S4x256x1024 .f32) (harg29 : arg29.IsWhole) (arg30 : Memref sig .tc .hbm S4x256x256 .f32) (harg30 : arg30.IsWhole)
    (arg31 : Memref sig .tc .hbm S4x1024x704 .f32) (harg31 : arg31.IsWhole) (arg32 : Memref sig .tc .hbm S4x256x1024 .f32) (harg32 : arg32.IsWhole)
    (arg33 : Memref sig .tc .hbm S4x1024x1024 .f32) (harg33 : arg33.IsWhole) (arg34 : Memref sig .tc .hbm S4x1024x1024 .f32) (harg34 : arg34.IsWhole)
    (arg35 : Memref sig .tc .hbm S4x256x1024 .f32) (harg35 : arg35.IsWhole) (arg36 : Memref sig .tc .hbm S4x256x256 .f32) (harg36 : arg36.IsWhole)
    (arg37 : Memref sig .tc .hbm S4x1024x704 .f32) (harg37 : arg37.IsWhole) (arg38 : Memref sig .tc .hbm S4x256x1024 .f32) (harg38 : arg38.IsWhole)
    (arg39 : Memref sig .tc .hbm S4x1024x1024 .f32) (harg39 : arg39.IsWhole) (arg40 : Memref sig .tc .hbm S4x1024x1024 .f32) (harg40 : arg40.IsWhole)
    (arg41 : Memref sig .tc .hbm S4x256x1024 .f32) (harg41 : arg41.IsWhole) (arg42 : Memref sig .tc .hbm S4x256x256 .f32) (harg42 : arg42.IsWhole)
    (arg43 : Memref sig .tc .hbm S4x1024x704 .f32) (harg43 : arg43.IsWhole) (arg44 : Memref sig .tc .hbm S4x256x1024 .f32) (harg44 : arg44.IsWhole)
    (arg45 : Memref sig .tc .hbm S4x1024x1024 .f32) (harg45 : arg45.IsWhole) (arg46 : Memref sig .tc .hbm S4x1024x1024 .f32) (harg46 : arg46.IsWhole)
    (arg47 : Memref sig .tc .hbm S4x256x1024 .f32) (harg47 : arg47.IsWhole) (arg48 : Memref sig .tc .hbm S4x256x256 .f32) (harg48 : arg48.IsWhole)
    (arg49 : Memref sig .tc .vmem S1x128x704 .f32) (harg49 : arg49.IsWhole) (arg50 : Memref sig .tc .vmem S1x32x1024 .f32) (harg50 : arg50.IsWhole)
    (arg51 : Memref sig .tc .vmem S1x128x1024 .f32) (harg51 : arg51.IsWhole) (arg52 : Memref sig .tc .vmem S1x128x1024 .f32) (harg52 : arg52.IsWhole)
    (arg53 : Memref sig .tc .vmem S1x32x1024 .f32) (harg53 : arg53.IsWhole) (arg54 : Memref sig .tc .vmem S1x32x256 .f32) (harg54 : arg54.IsWhole)
    (arg55 : Memref sig .tc .vmem S1x128x704 .f32) (harg55 : arg55.IsWhole) (arg56 : Memref sig .tc .vmem S1x32x1024 .f32) (harg56 : arg56.IsWhole)
    (arg57 : Memref sig .tc .vmem S1x128x1024 .f32) (harg57 : arg57.IsWhole) (arg58 : Memref sig .tc .vmem S1x128x1024 .f32) (harg58 : arg58.IsWhole)
    (arg59 : Memref sig .tc .vmem S1x32x1024 .f32) (harg59 : arg59.IsWhole) (arg60 : Memref sig .tc .vmem S1x32x256 .f32) (harg60 : arg60.IsWhole)
    (arg61 : Memref sig .tc .vmem S1x128x704 .f32) (harg61 : arg61.IsWhole) (arg62 : Memref sig .tc .vmem S1x32x1024 .f32) (harg62 : arg62.IsWhole)
    (arg63 : Memref sig .tc .vmem S1x128x1024 .f32) (harg63 : arg63.IsWhole) (arg64 : Memref sig .tc .vmem S1x128x1024 .f32) (harg64 : arg64.IsWhole)
    (arg65 : Memref sig .tc .vmem S1x32x1024 .f32) (harg65 : arg65.IsWhole) (arg66 : Memref sig .tc .vmem S1x32x256 .f32) (harg66 : arg66.IsWhole)
    (arg67 : Memref sig .tc .vmem S1x128x704 .f32) (harg67 : arg67.IsWhole) (arg68 : Memref sig .tc .vmem S1x32x1024 .f32) (harg68 : arg68.IsWhole)
    (arg69 : Memref sig .tc .vmem S1x128x1024 .f32) (harg69 : arg69.IsWhole) (arg70 : Memref sig .tc .vmem S1x128x1024 .f32) (harg70 : arg70.IsWhole)
    (arg71 : Memref sig .tc .vmem S1x32x1024 .f32) (harg71 : arg71.IsWhole) (arg72 : Memref sig .tc .vmem S1x32x256 .f32) (harg72 : arg72.IsWhole) :
    Cert.AdamBig.cc0_l0_adamw (F := Bits)
      i arg1 harg1 arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24 arg25 harg25
      arg26 harg26 arg27 harg27 arg28 harg28 arg29 harg29 arg30 harg30 arg31 harg31 arg32 harg32 arg33 harg33 arg34 harg34 arg35 harg35 arg36 harg36 arg37 harg37
      arg38 harg38 arg39 harg39 arg40 harg40 arg41 harg41 arg42 harg42 arg43 harg43 arg44 harg44 arg45 harg45 arg46 harg46 arg47 harg47 arg48 harg48 arg49 harg49
      arg50 harg50 arg51 harg51 arg52 harg52 arg53 harg53 arg54 harg54 arg55 harg55 arg56 harg56 arg57 harg57 arg58 harg58 arg59 harg59 arg60 harg60 arg61 harg61
      arg62 harg62 arg63 harg63 arg64 harg64 arg65 harg65 arg66 harg66 arg67 harg67 arg68 harg68 arg69 harg69 arg70 harg70 arg71 harg71 arg72 harg72 =
    Cert.AdamBigIdeal.cc0_l0_adamw (F := Bits)
      i arg1 harg1 arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24 arg25 harg25
      arg26 harg26 arg27 harg27 arg28 harg28 arg29 harg29 arg30 harg30 arg31 harg31 arg32 harg32 arg33 harg33 arg34 harg34 arg35 harg35 arg36 harg36 arg37 harg37
      arg38 harg38 arg39 harg39 arg40 harg40 arg41 harg41 arg42 harg42 arg43 harg43 arg44 harg44 arg45 harg45 arg46 harg46 arg47 harg47 arg48 harg48 arg49 harg49
      arg50 harg50 arg51 harg51 arg52 harg52 arg53 harg53 arg54 harg54 arg55 harg55 arg56 harg56 arg57 harg57 arg58 harg58 arg59 harg59 arg60 harg60 arg61 harg61
      arg62 harg62 arg63 harg63 arg64 harg64 arg65 harg65 arg66 harg66 arg67 harg67 arg68 harg68 arg69 harg69 arg70 harg70 arg71 harg71 arg72 harg72 := by
  unfold Cert.AdamBig.cc0_l0_adamw Cert.AdamBigIdeal.cc0_l0_adamw
  rfl

set_option maxHeartbeats 8000000 in
theorem bodies : Cert.AdamBig.defs₀ (F := Bits) = Cert.AdamBigIdeal.defs₀ (F := Bits) := by
  refine congrArg Defs.onTc (funext fun l => funext fun a => ?_)
  match l with
  | 0 => exact body ..

set_option maxHeartbeats 8000000 in
theorem defs : Cert.AdamBig.defs (F := Bits) = Cert.AdamBigIdeal.defs (F := Bits) :=
  congrArg (Pipeline.defs _) bodies

end Cert.AdamBigFrame

end
-- ==== Proof.AdamBigPrinted.lean ====
/- The run of the optimiser's printed call on the cut matrices: it is its idealization's, over the machine's floats. -/
module

public import proofs.«01_k».proof.Defs
public import proofs.«01_k».proof.Proof.AdamBigFrame

@[expose] public section

set_option maxRecDepth 16384

noncomputable section

namespace Cert.AdamBigPrinted

open Idealize.ShloMosaic Idealize.SL.Sem

set_option maxHeartbeats 8000000 in
theorem frame : Cert.quiescent_AdamBig (hAdamBig := Cert.AdamBig.Gen.facts) := fun m ρ _ => by
  rw [Cert.AdamBigFrame.defs]
  exact Cert.AdamBigIdeal.Run.frame (F := Bits) m ρ

end Cert.AdamBigPrinted

end
-- ==== Proof.ConvSpec.lean ====
/- The gradient of the gated short convolution, written index by index over the extended reals. -/
module

public import Idealize.ShloMosaic.PureOps.Ideal.Laws
public import Idealize.ShloMosaic.Lib.Pointwise

@[expose] public section

noncomputable section

namespace Cert.ConvSpec

open Idealize.ShloMosaic

/-- A column of 2048 entries moved `k` places down, zeros entering at the top. -/
def later (k : Nat) (f : Fin 2048 → EReal) (a : Fin 2048) : EReal :=
  if h : k ≤ a.val then f ⟨a.val - k, by omega⟩ else 0

/-- A column of 2048 entries moved `k` places up, zeros entering at the bottom. -/
def earlier (k : Nat) (f : Fin 2048 → EReal) (a : Fin 2048) : EReal :=
  if h : a.val + k < 2048 then f ⟨a.val + k, h⟩ else 0

variable (dy : FVec Ideal (⟨2, ![2048, 1024]⟩ : Shape) .bf16) (proj : FVec Ideal (⟨2, ![2048, 2816]⟩ : Shape) .bf16)
  (w : FVec Ideal (⟨2, ![3, 256]⟩ : Shape) .f32)

/-- The gate of the output: the first 256 columns of the projection. -/
def gate (b : Fin 256) (a : Fin 2048) : EReal := proj (ix2 a ⟨b.val, by omega⟩)

/-- The second 256 columns of the projection. -/
def first (b : Fin 256) (a : Fin 2048) : EReal := proj (ix2 a ⟨256 + b.val, by omega⟩)

/-- The third 256 columns of the projection. -/
def second (b : Fin 256) (a : Fin 2048) : EReal := proj (ix2 a ⟨512 + b.val, by omega⟩)

/-- The incoming gradient of the mixer's output. -/
def grad (b : Fin 256) (a : Fin 2048) : EReal := dy (ix2 a ⟨b.val, by omega⟩)

/-- What is convolved. -/
def conved (b : Fin 256) (a : Fin 2048) : EReal := first proj b a * second proj b a

/-- The short convolution's output. -/
def conv (b : Fin 256) (a : Fin 2048) : EReal :=
  w (ix2 0 b) * later 2 (conved proj b) a + w (ix2 1 b) * later 1 (conved proj b) a + w (ix2 2 b) * conved proj b a

/-- The gradient of the convolution's output. -/
def dconv (b : Fin 256) (a : Fin 2048) : EReal := grad dy b a * gate proj b a

/-- The gradient of what is convolved. -/
def dconved (b : Fin 256) (a : Fin 2048) : EReal :=
  w (ix2 2 b) * dconv dy proj b a + w (ix2 1 b) * earlier 1 (dconv dy proj b) a + w (ix2 0 b) * earlier 2 (dconv dy proj b) a

/-- The gradient of the gate. -/
def dgate (b : Fin 256) (a : Fin 2048) : EReal := grad dy b a * conv proj w b a

/-- The gradient of the second columns. -/
def dfirst (b : Fin 256) (a : Fin 2048) : EReal := dconved dy proj w b a * second proj b a

/-- The gradient of the third columns. -/
def dsecond (b : Fin 256) (a : Fin 2048) : EReal := dconved dy proj w b a * first proj b a

/-- The gradient of the convolution's weights: row `k` weighs the entries `2 - k` places earlier. -/
def dw (k : Fin 3) (b : Fin 256) : EReal := ∑ a : Fin 2048, dconv dy proj b a * later (2 - k.val) (conved proj b) a

theorem later_zero (f : Fin 2048 → EReal) (a : Fin 2048) : later 0 f a = f a := by
  simp [later]

end Cert.ConvSpec

end
-- ==== Proof.ConvKernel.lean ====
/- The arrays that the kernel of the short convolution's gradient leaves, index by index. -/
module

public import proofs.«01_k».proof.Proof.Gen.ConvIdeal.Value
public import proofs.«01_k».proof.Proof.ConvSpec
public import Idealize.ShloMosaic.Lib.Pipeline.ValueKit
public import Idealize.ShloMosaic.Lib.Pointwise

@[expose] public section

set_option maxRecDepth 16384

noncomputable section

namespace Cert.ConvKernel

open Cert.ConvIdeal Cert.ConvIdeal.Gen Idealize.ShloMosaic Idealize.ShloMosaic.TcCoe Idealize.SL.Sem
open Idealize.ShloMosaic.Pipeline (Dat)
open Cert.ConvSpec

/-- A selection by "at least `n`" of a counter. -/
theorem select_sge {α : Type} (a n : Nat) (ha : a < 2 ^ 31) (hn : n < 2 ^ 31) (u v : α) :
    Scalar.select (IntOp.cmpi .sge (BitVec.ofNat 32 a) (BitVec.ofNat 32 n)) u v = if n ≤ a then u else v := by
  rw [WordCmp.cmpi_sge_ofNat ha hn]
  by_cases h : n ≤ a <;> simp [h, Scalar.select]

/-- A selection by "below `n`" of a counter. -/
theorem select_slt {α : Type} (a n : Nat) (ha : a < 2 ^ 31) (hn : n < 2 ^ 31) (u v : α) :
    Scalar.select (IntOp.cmpi .slt (BitVec.ofNat 32 a) (BitVec.ofNat 32 n)) u v = if a < n then u else v := by
  rw [WordCmp.cmpi_slt_ofNat ha hn]
  by_cases h : a < n <;> simp [h, Scalar.select]

variable (m : (ℓ : Loc nD τ sig) → Buf (Elt Ideal) ℓ)

/-- The block of the operands that every window stages at the grid's one point. -/
theorem idx_all : ∀ t : Fin cfg0.N, win0_0.index t = ![0, 0] ∧ win0_1.index t = ![0, 0] ∧ win0_2.index t = ![0, 1]
    ∧ win0_3.index t = ![0, 2] ∧ win0_4.index t = ![0, 0] ∧ win0_5.index t = ![0, 0] ∧ win0_6.index t = ![0, 0]
    ∧ win0_7.index t = ![0, 0] ∧ win0_8.index t = ![0, 0] := by decide +kernel

theorem blk0 (c : Dev nD) (t : Fin cfg0.N) (a : Fin 2048) (b : Fin 256) :
    iblk m c 0 t (ix2 a b) = grad (m ((c.tc : Thread nD τ).loc main_arg0)) b a := by
  unfold grad; blk_ext [iblk, V, idx_all t]

theorem blk1 (c : Dev nD) (t : Fin cfg0.N) (a : Fin 2048) (b : Fin 256) :
    iblk m c 1 t (ix2 a b) = gate (m ((c.tc : Thread nD τ).loc main_arg1)) b a := by
  unfold gate; blk_ext [iblk, V, idx_all t]

theorem blk2 (c : Dev nD) (t : Fin cfg0.N) (a : Fin 2048) (b : Fin 256) :
    iblk m c 2 t (ix2 a b) = first (m ((c.tc : Thread nD τ).loc main_arg1)) b a := by
  unfold first; blk_ext [iblk, V, idx_all t]

theorem blk3 (c : Dev nD) (t : Fin cfg0.N) (a : Fin 2048) (b : Fin 256) :
    iblk m c 3 t (ix2 a b) = second (m ((c.tc : Thread nD τ).loc main_arg1)) b a := by
  unfold second; blk_ext [iblk, V, idx_all t]

theorem blk4 (c : Dev nD) (t : Fin cfg0.N) (a : Fin 3) (b : Fin 256) :
    iblk m c 4 t (ix2 a b) = m ((c.tc : Thread nD τ).loc main_arg2) (ix2 a b) := by
  blk_ext [iblk, V, idx_all t]

/-- A rotated column masked at its first rows. -/
theorem rotated_later (k : Nat) (hk : k < 2048) (f : Fin 2048 → EReal) (a : Fin 2048) (h : (a.val + 2048 - k) % 2048 < 2048) (v : EReal) :
    (if k ≤ a.val then v * f ⟨(a.val + 2048 - k) % 2048, h⟩ else 0) = v * later k f a := by
  unfold later
  by_cases hka : k ≤ a.val
  · rw [if_pos hka, dif_pos hka]; congr 3; omega
  · rw [if_neg hka, dif_neg hka, mul_zero]

/-- A rotated column masked at its last rows. -/
theorem rotated_earlier (k n : Nat) (hk : k + n = 2048) (f : Fin 2048 → EReal) (a : Fin 2048) (h : (a.val + 2048 - n) % 2048 < 2048) (v : EReal) :
    (if a.val < n then v * f ⟨(a.val + 2048 - n) % 2048, h⟩ else 0) = v * earlier k f a := by
  unfold earlier
  by_cases hka : a.val < n
  · rw [if_pos hka, dif_pos (by omega)]; congr 3; omega
  · rw [if_neg hka, dif_neg (by omega), mul_zero]

/-- The product of the second and third columns at a row. -/
theorem conved_eq (proj : FVec Ideal (⟨2, ![2048, 2816]⟩ : Shape) .bf16) (b : Fin 256) (a : Fin 2048) :
    first proj b a * second proj b a = conved proj b a := rfl

/-- The product of the incoming gradient and the gate at a row. -/
theorem dconv_eq (dy : FVec Ideal (⟨2, ![2048, 1024]⟩ : Shape) .bf16) (proj : FVec Ideal (⟨2, ![2048, 2816]⟩ : Shape) .bf16)
    (b : Fin 256) (a : Fin 2048) : grad dy b a * gate proj b a = dconv dy proj b a := rfl

/-- The gate's gradient, the kernel's first result. -/
theorem arr5 (c : Dev nD) : (dats m 0 c).arrAt 5 cfg0.N = fun i : S2048x256.Idx =>
    dgate (m ((c.tc : Thread nD τ).loc main_arg0)) (m ((c.tc : Thread nD τ).loc main_arg1)) (m ((c.tc : Thread nD τ).loc main_arg2)) (i 1) (i 0) := by
  refine (dats m 0 c).arrAt_eq_of_covers 5 _ (by decide +kernel) fun t hf y => ?_
  obtain ⟨a, b, rfl⟩ : ∃ (a : Fin 2048) (b : Fin 256), y = ix2 a b := ⟨y 0, y 1, eq_ix2 y⟩
  have he : ((View.whole main_v0_0).slice (win0_5.rect t)).emb (ix2 a b) = ix2 a b := by blk_ext [idx_all t]
  blk_simp [idx_all t]
  rw [after0_5, he]
  frame_out
  unfold_payloads
  pointwise
  simp only [blk0, blk1, blk2, blk3, blk4]
  rw [select_sge _ _ (by omega) (by omega), select_sge _ _ (by omega) (by omega)]
  simp only [conved_eq, rotated_later 2 (by omega) (conved _ b), rotated_later 1 (by omega) (conved _ b)]
  rfl

/-- The second columns' gradient, the kernel's second result. -/
theorem arr6 (c : Dev nD) : (dats m 0 c).arrAt 6 cfg0.N = fun i : S2048x256.Idx =>
    dfirst (m ((c.tc : Thread nD τ).loc main_arg0)) (m ((c.tc : Thread nD τ).loc main_arg1)) (m ((c.tc : Thread nD τ).loc main_arg2)) (i 1) (i 0) := by
  refine (dats m 0 c).arrAt_eq_of_covers 6 _ (by decide +kernel) fun t hf y => ?_
  obtain ⟨a, b, rfl⟩ : ∃ (a : Fin 2048) (b : Fin 256), y = ix2 a b := ⟨y 0, y 1, eq_ix2 y⟩
  have he : ((View.whole main_v0_1).slice (win0_6.rect t)).emb (ix2 a b) = ix2 a b := by blk_ext [idx_all t]
  blk_simp [idx_all t]
  rw [after0_6, he]
  frame_out
  unfold_payloads
  pointwise
  simp only [blk0, blk1, blk2, blk3, blk4]
  rw [select_slt _ _ (by omega) (by omega), select_slt _ _ (by omega) (by omega)]
  simp only [dconv_eq, rotated_earlier 1 2047 rfl (dconv _ _ b), rotated_earlier 2 2046 rfl (dconv _ _ b)]
  rfl

/-- The third columns' gradient, the kernel's third result. -/
theorem arr7 (c : Dev nD) : (dats m 0 c).arrAt 7 cfg0.N = fun i : S2048x256.Idx =>
    dsecond (m ((c.tc : Thread nD τ).loc main_arg0)) (m ((c.tc : Thread nD τ).loc main_arg1)) (m ((c.tc : Thread nD τ).loc main_arg2)) (i 1) (i 0) := by
  refine (dats m 0 c).arrAt_eq_of_covers 7 _ (by decide +kernel) fun t hf y => ?_
  obtain ⟨a, b, rfl⟩ : ∃ (a : Fin 2048) (b : Fin 256), y = ix2 a b := ⟨y 0, y 1, eq_ix2 y⟩
  have he : ((View.whole main_v0_2).slice (win0_7.rect t)).emb (ix2 a b) = ix2 a b := by blk_ext [idx_all t]
  blk_simp [idx_all t]
  rw [after0_7, he]
  frame_out
  unfold_payloads
  pointwise
  simp only [blk0, blk1, blk2, blk3, blk4]
  rw [select_slt _ _ (by omega) (by omega), select_slt _ _ (by omega) (by omega)]
  simp only [dconv_eq, rotated_earlier 1 2047 rfl (dconv _ _ b), rotated_earlier 2 2046 rfl (dconv _ _ b)]
  rfl

/-- The weights' gradient, the kernel's fourth result. -/
theorem arr8 (c : Dev nD) : (dats m 0 c).arrAt 8 cfg0.N = fun i : S3x256.Idx =>
    dw (m ((c.tc : Thread nD τ).loc main_arg0)) (m ((c.tc : Thread nD τ).loc main_arg1)) (i 0) (i 1) := by
  refine (dats m 0 c).arrAt_eq_of_covers 8 _ (by decide +kernel) fun t hf y => ?_
  obtain ⟨a, b, rfl⟩ : ∃ (a : Fin 3) (b : Fin 256), y = ix2 a b := ⟨y 0, y 1, eq_ix2 y⟩
  have he : ((View.whole main_v0_3).slice (win0_8.rect t)).emb (ix2 a b) = ix2 a b := by blk_ext [idx_all t]
  blk_simp [idx_all t]
  rw [after0_8, he]
  frame_out
  unfold k0_pay17
  frame_out
  canon_tiles x h
  all_goals
    have hb : x 1 = b := Fin.ext h1.symm
    unfold_payloads
    pointwise
    simp only [blk0, blk1, blk2, blk3, hb, conved_eq, dconv_eq]
  · obtain rfl : a = 2 := Fin.ext (h0.trans (by omega))
    exact Finset.sum_congr rfl fun r _ => by rw [show 2 - ((2 : Fin 3) : Nat) = 0 from rfl, later_zero]
  · obtain rfl : a = 1 := Fin.ext (h0.trans (by omega))
    exact Finset.sum_congr rfl fun r _ => by
      rw [select_sge _ _ (by omega) (by omega), rotated_later 1 (by omega) (conved _ b)]; rfl
  · obtain rfl : a = 0 := Fin.ext (h0.trans (by omega))
    exact Finset.sum_congr rfl fun r _ => by
      rw [select_sge _ _ (by omega) (by omega), rotated_later 2 (by omega) (conved _ b)]; rfl

end Cert.ConvKernel

end
-- ==== Proof.ConvReference.lean ====
/- What the reference of the short convolution's gradient computes, index by index. -/
module

public import proofs.«01_k».proof.Proof.Gen.ConvReferenceIdeal.Read
public import proofs.«01_k».proof.Proof.ConvSpec
public import Idealize.ShloMosaic.Lib.Pointwise

@[expose] public section

set_option maxRecDepth 16384

noncomputable section

namespace Cert.ConvReference

open Cert.ConvReferenceIdeal Cert.ConvReferenceIdeal.Gen Idealize.ShloMosaic Idealize.ShloMosaic.TcCoe Idealize.SL.Sem
open Cert.ConvReferenceIdeal.Read
open Cert.ConvSpec

variable (x0 : (⟨S2048x1024, .bf16⟩ : BufTy).Contents (Elt Ideal)) (x1 : (⟨S2048x2816, .bf16⟩ : BufTy).Contents (Elt Ideal))
  (x2 : (⟨S3x256, .f32⟩ : BufTy).Contents (Elt Ideal))

theorem v1 (a : Fin 2048) (b : Fin 256) : val_main_v1 (F := Ideal) x1 (ix2 a b) = gate x1 b a := by
  pointwise [val_main_v1, val_main_v0, gate]

theorem v3 (a : Fin 2048) (b : Fin 256) : val_main_v3 (F := Ideal) x1 (ix2 a b) = first x1 b a := by
  pointwise [val_main_v3, val_main_v2, first]

theorem v5 (a : Fin 2048) (b : Fin 256) : val_main_v5 (F := Ideal) x1 (ix2 a b) = second x1 b a := by
  pointwise [val_main_v5, val_main_v4, second]

theorem v7 (a : Fin 2048) (b : Fin 256) : val_main_v7 (F := Ideal) x0 (ix2 a b) = grad x0 b a := by
  pointwise [val_main_v7, val_main_v6, grad]

theorem v10 (a : Fin 2050) (b : Fin 256) : val_main_v10 (F := Ideal) x1 (ix2 a b)
    = if h : 2 ≤ a.val then conved x1 b ⟨a.val - 2, by omega⟩ else 0 := by
  pointwise [val_main_v10, val_main_v9, val_main_cst, val_main_v8]
  simp only [v3, v5]
  by_cases h : 2 ≤ a.val
  · rw [dif_neg (by omega), dif_pos h]; rfl
  · rw [dif_pos (by omega), dif_neg h]

theorem v14 (a : Fin 2048) (b : Fin 256) : val_main_v14 (F := Ideal) x1 (ix2 a b) = later 2 (conved x1 b) a := by
  pointwise [val_main_v14]
  rw [v10]; rfl

theorem v20 (a : Fin 2048) (b : Fin 256) : val_main_v20 (F := Ideal) x1 (ix2 a b) = later 1 (conved x1 b) a := by
  pointwise [val_main_v20]
  rw [v10]; unfold later
  by_cases h : 1 ≤ a.val
  · rw [dif_pos (by show 2 ≤ 1 + a.val; omega), dif_pos h]; congr 2; show 1 + a.val - 2 = _; omega
  · rw [dif_neg (by show ¬ 2 ≤ 1 + a.val; omega), dif_neg h]

theorem v27 (a : Fin 2048) (b : Fin 256) : val_main_v27 (F := Ideal) x1 (ix2 a b) = conved x1 b a := by
  pointwise [val_main_v27]
  rw [v10, dif_pos (by show 2 ≤ 2 + a.val; omega)]; congr 2; show 2 + a.val - 2 = _; omega

theorem v31 (a : Fin 2048) (b : Fin 256) : val_main_v31 (F := Ideal) x1 x2 (ix2 a b) = conv x1 x2 b a := by
  pointwise [val_main_v31, val_main_v30, val_main_v24, val_main_v23, val_main_v17, val_main_v16, val_main_v15, val_main_v13,
    val_main_v12, val_main_v22, val_main_v21, val_main_v19, val_main_v18, val_main_v29, val_main_v28, val_main_v26, val_main_v25]
  rw [v14, v20, v27]; rfl

theorem v70 : val_main_v70 (F := Ideal) x0 x1 x2 = fun i : S2048x256.Idx => dgate x0 x1 x2 (i 1) (i 0) := by
  funext i
  obtain ⟨a, b, rfl⟩ : ∃ (a : Fin 2048) (b : Fin 256), i = ix2 a b := ⟨i 0, i 1, eq_ix2 i⟩
  pointwise [val_main_v70, val_main_v34]
  rw [v7, v31]; rfl

theorem v33 (a : Fin 2048) (b : Fin 256) : val_main_v33 (F := Ideal) x0 x1 (ix2 a b) = dconv x0 x1 b a := by
  pointwise [val_main_v33]
  rw [v1, v7, mul_comm]; rfl

theorem v67 (a : Fin 2048) (b : Fin 256) : val_main_v67 (F := Ideal) x0 x1 x2 (ix2 a b) = dconved x0 x1 x2 b a := by
  pointwise [val_main_v67, val_main_v62, val_main_v51, val_main_v41, val_main_v50, val_main_v61, val_main_v36, val_main_v35,
    val_main_v45, val_main_v44, val_main_v56, val_main_v55, val_main_v15, val_main_v13,
    val_main_v12, val_main_v21, val_main_v19, val_main_v18, val_main_v28, val_main_v26, val_main_v25, val_main_cst_3, val_main_cst_7, val_main_cst_11]
  simp only [v33]
  unfold dconved
  congr 1
  · congr 1
    unfold earlier
    by_cases h : a.val + 1 < 2048
    · rw [dif_pos (by omega), dif_pos h]; congr 3; omega
    · rw [dif_neg (by omega), dif_neg h, mul_zero]
  · unfold earlier
    by_cases h : a.val + 2 < 2048
    · rw [dif_pos (by omega), dif_pos h]; congr 3; omega
    · rw [dif_neg (by omega), dif_neg h, mul_zero]

theorem v65 : val_main_v65 (F := Ideal) x0 x1 = fun i : S3x256.Idx => dw x0 x1 (i 0) (i 1) := by
  funext i
  obtain ⟨a, b, rfl⟩ : ∃ (a : Fin 3) (b : Fin 256), i = ix2 a b := ⟨i 0, i 1, eq_ix2 i⟩
  pointwise [val_main_v65, val_main_v54, val_main_v64, val_main_v43, val_main_v53, val_main_v42, val_main_v40, val_main_v39, val_main_v38, val_main_v37,
   val_main_v52, val_main_v49, val_main_v48, val_main_v47, val_main_v46, val_main_v63, val_main_v60, val_main_v59, val_main_v58, val_main_v57,
   val_main_cst_1, val_main_cst_2, val_main_cst_4, val_main_cst_5, val_main_cst_6, val_main_cst_8, val_main_cst_9, val_main_cst_10, val_main_cst_12]
  simp only [v33, v14, v20, v27, Finset.univ_unique, Finset.sum_singleton]
  unfold dw
  fin_vals a with ha
  all_goals
    simp only [ha, Nat.reduceSub, Nat.reduceLeDiff, Nat.reduceLT, Nat.zero_lt_one, true_and, false_and, and_true, and_false,
      dite_true, dite_false, add_zero, zero_add, later_zero]
    try rfl

theorem v71 : val_main_v71 (F := Ideal) x0 x1 x2 = fun i : S2048x256.Idx => dfirst x0 x1 x2 (i 1) (i 0) := by
  funext i
  obtain ⟨a, b, rfl⟩ : ∃ (a : Fin 2048) (b : Fin 256), i = ix2 a b := ⟨i 0, i 1, eq_ix2 i⟩
  pointwise [val_main_v71, val_main_v69]
  rw [v67, v5]; rfl

theorem v72 : val_main_v72 (F := Ideal) x0 x1 x2 = fun i : S2048x256.Idx => dsecond x0 x1 x2 (i 1) (i 0) := by
  funext i
  obtain ⟨a, b, rfl⟩ : ∃ (a : Fin 2048) (b : Fin 256), i = ix2 a b := ⟨i 0, i 1, eq_ix2 i⟩
  pointwise [val_main_v72, val_main_v68]
  rw [v67, v3, mul_comm]; rfl

end Cert.ConvReference

end
-- ==== Proof.ConvClaim.lean ====
/- The kernel of the short convolution's gradient computes what its reference computes, in exact arithmetic. -/
module

public import proofs.«01_k».proof.Defs
public import proofs.«01_k».proof.Proof.ConvKernel
public import proofs.«01_k».proof.Proof.ConvReference

@[expose] public section

noncomputable section

namespace Cert.ConvClaim

open Idealize.ShloMosaic Idealize.ShloMosaic.TcCoe Idealize.SL.Sem
open Cert.ConvReferenceIdeal.Read

theorem algebraic : Cert.algebraic_ConvIdeal_ConvReferenceIdeal (hConvIdeal := Cert.ConvIdeal.Gen.facts)
    (hConvReferenceIdeal := Cert.ConvReferenceIdeal.Gen.facts) := by
  intro m g m' g' _ hagree
  refine ⟨fun c => (Cert.ConvIdeal.Gen.dats m 0 c).arrAt 5 Cert.ConvIdeal.cfg0.N, fun c => (Cert.ConvIdeal.Gen.dats m 0 c).arrAt 6 Cert.ConvIdeal.cfg0.N,
    fun c => (Cert.ConvIdeal.Gen.dats m 0 c).arrAt 7 Cert.ConvIdeal.cfg0.N, fun c => (Cert.ConvIdeal.Gen.dats m 0 c).arrAt 8 Cert.ConvIdeal.cfg0.N,
    Cert.ConvIdeal.Value.run_blocks m g,
    (θ_run Cert.ConvReferenceIdeal.defs _ _).mono (fun r h c => ?_) (Cert.ConvReferenceIdeal.Value.run m' g')⟩
  · obtain ⟨h0, h1, h2, h3, h4⟩ := h c
    obtain ⟨e0, e1, e2⟩ := hagree c
    refine ⟨?_, ?_, ?_, ?_, h4⟩
    · refine h0.trans ?_
      rw [val_main_v70_eq, ConvReference.v70, e0, e1, e2]
      exact (ConvKernel.arr5 m c).symm
    · refine h1.trans ?_
      rw [val_main_v71_eq, ConvReference.v71, e0, e1, e2]
      exact (ConvKernel.arr6 m c).symm
    · refine h2.trans ?_
      rw [val_main_v72_eq, ConvReference.v72, e0, e1, e2]
      exact (ConvKernel.arr7 m c).symm
    · refine h3.trans ?_
      rw [val_main_v65_eq, ConvReference.v65, e0, e1]
      exact (ConvKernel.arr8 m c).symm

end Cert.ConvClaim

end
-- ==== Proof.Dff2Value.lean ====
/- The gradient of the squared-ReLU mixer's second half in what enters it. -/
module

public import proofs.«01_k».proof.Proof.Gen.Dff2Ideal.Value
public import proofs.«01_k».proof.Proof.Gen.Dff2ReferenceIdeal.Run
public import proofs.«01_k».proof.Proof.Gen.Dff2ReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Dff2Value

open Idealize.ShloMosaic Idealize.ShloMosaic.TcCoe Idealize.SL.Sem
open Cert.Dff2Ideal Cert.Dff2Ideal.Gen
open Idealize.ShloMosaic.Pipeline (Dat)

variable (m : (ℓ : Loc nD τ sig) → Buf (Elt Ideal) ℓ)

open Cert.Dff2ReferenceIdeal.Read

/-- The blocks of the call's point `t`: the incoming gradient whole, row block `t` of the weights, and column block `t` of the
    activations and of the result. -/
theorem idx : ∀ t : Fin cfg0.N, win0_0.index t = ![0, 0] ∧ win0_1.index t = ![t.val, 0] ∧
    win0_2.index t = ![0, t.val] ∧ win0_3.index t = ![0, t.val] := by
  decide +kernel

/-- The first point puts the incoming gradient into the scratch. -/
theorem scratch_first (c : Dev nD) (t : Fin cfg0.N) (h : t.val % 8 = 0) (a : Fin 2048) (b : Fin 1024) :
    (outsAt0 m c t.val t.isLt).2 (ix2 a b) = m ((c.tc : Thread nD τ).loc main_arg0) (ix2 a b) := by
  rw [outsAt0_A m c t h]
  dsimp only
  frame_out
  unfold_payloads
  pointwise
  blk_point [iblk, V, idx t]

/-- The scratch holds the incoming gradient after every point. -/
theorem scratch (c : Dev nD) : ∀ (n : ℕ) (hn : n < cfg0.N) (a : Fin 2048) (b : Fin 1024),
    (outsAt0 m c n hn).2 (ix2 a b) = m ((c.tc : Thread nD τ).loc main_arg0) (ix2 a b) := by
  intro n
  induction n with
  | zero => exact fun hn => scratch_first m c ⟨0, hn⟩ rfl
  | succ n ih =>
    intro hn a b
    have hN : n + 1 < 8 := hn
    rw [outsAt0_B m c ⟨n + 1, hn⟩ (by dsimp only; omega)]
    dsimp only
    unfold sout0_B_0
    exact ih (Nat.lt_of_succ_lt hn) a b

/-- The reference's gradient at an index: where the activation is not positive, the second factor is zero. -/
theorem reference (x : (⟨S2048x1024, .f32⟩ : BufTy).Contents (Elt Ideal)) (y : (⟨S2048x4096, .bf16⟩ : BufTy).Contents (Elt Ideal))
    (z : (⟨S4096x1024, .f32⟩ : BufTy).Contents (Elt Ideal)) (a : Fin 2048) (b : Fin 4096) :
    val_main_v15 (F := Ideal) x y z (ix2 a b) =
      (∑ k : Fin 1024, x (ix2 a k) * z (ix2 b k)) * (Ideal.ofBits FTy.f32 1073741824#32 * max (y (ix2 a b)) 0) := by
  pointwise [val_main_v15, val_main_v14, val_main_v13, val_main_v12, val_main_v11, val_main_v7, val_main_v6, val_main_v4,
    val_main_v3, val_main_v2, val_main_v1, val_main_v0, val_main_cst, val_main_cst_0, val_main_cst_1, val_main_cst_3,
    val_main_call0_v0, val_main_call0_cst]
  split_ifs with h
  · rfl
  · rw [max_eq_right (not_lt.mp h)]
    simp

/-- The array the call leaves is the reference's gradient. -/
theorem arr (c : Dev nD) : (dats m 0 c).arrAt 3 cfg0.N =
    val_main_v15 (F := Ideal) (m ((c.tc : Thread nD τ).loc main_arg0)) (m ((c.tc : Thread nD τ).loc main_arg1))
      (m ((c.tc : Thread nD τ).loc main_arg2)) := by
  refine (dats m 0 c).arrAt_eq_of_covers 3 _ (by decide +kernel) fun t hf y => ?_
  obtain ⟨a, b, rfl⟩ : ∃ (a : Fin 2048) (b : Fin 512), y = ix2 a b := ⟨y 0, y 1, eq_ix2 y⟩
  have ht : t.val < 8 := t.isLt
  have he : ((cfg0.win 3).blk t).view.emb (ix2 a b) = (ix2 a ⟨t.val * 512 + b.val, by omega⟩ : S2048x4096.Idx) := by
    blk_ext [idx t]
  blk_simp [idx t]
  rw [after0_3]
  by_cases h : t.val % 8 = 0
  · rw [outsAt0_A m c t h]
    dsimp only
    frame_out
    unfold_payloads
    pointwise
    change _ = val_main_v15 (F := Ideal) _ _ _ (((cfg0.win 3).blk t).view.emb (ix2 a b))
    rw [he, reference]
    blk_point [iblk, V, idx t]
  · rw [outsAt0_B m c t h]
    dsimp only
    frame_out
    unfold_payloads
    simp only [read_unread_whole]
    pointwise
    simp only [scratch]
    change _ = val_main_v15 (F := Ideal) _ _ _ (((cfg0.win 3).blk t).view.emb (ix2 a b))
    rw [he, reference]
    blk_point [iblk, V, idx t]

end Cert.Dff2Value
-- ==== Proof.Dw2Value.lean ====
/- The gradient of the squared-ReLU mixer's second half in its weights. -/
module

public import proofs.«01_k».proof.Proof.Gen.Dw2Ideal.Value
public import proofs.«01_k».proof.Proof.Gen.Dw2ReferenceIdeal.Run
public import proofs.«01_k».proof.Proof.Gen.Dw2ReferenceIdeal.Read
public import Idealize.ShloMosaic.Lib.Pipeline.ValueKit
public import Idealize.ShloMosaic.Lib.Pointwise

@[expose] public section

set_option maxRecDepth 16384

noncomputable section

namespace Cert.Dw2Value

open Idealize.ShloMosaic Idealize.ShloMosaic.TcCoe Idealize.SL.Sem

section Kernel

open Cert.Dw2Ideal Cert.Dw2Ideal.Gen
open Idealize.ShloMosaic.Pipeline (Dat)
open Cert.Dw2ReferenceIdeal.Read (val_main_v8 val_main_v7 val_main_v6 val_main_v2 val_main_v1 val_main_v0 val_main_call0_v0 val_main_call0_cst)

variable (m : (ℓ : Loc nD τ sig) → Buf (Elt Ideal) ℓ)

/-- The operands' blocks at each of the grid's points. -/
theorem idx : ∀ t : Fin cfg0.N, win0_0.index t = ![0, t.val] ∧ win0_1.index t = ![0, 0] ∧ win0_2.index t = ![t.val, 0] := by
  decide +kernel

/-- The array that the kernel leaves is the reference's. -/
theorem arr (c : Dev nD) : (dats m 0 c).arrAt 2 cfg0.N =
    Cert.Dw2ReferenceIdeal.Read.val_main_v8 (F := Ideal) (m ((c.tc : Thread nD τ).loc main_arg0)) (m ((c.tc : Thread nD τ).loc main_arg1)) := by
  refine (dats m 0 c).arrAt_eq_of_covers 2 _ (by decide +kernel) fun t hf y => ?_
  obtain ⟨a, b, rfl⟩ : ∃ (a : Fin 1024) (b : Fin 1024), y = ix2 a b := ⟨y 0, y 1, eq_ix2 y⟩
  have ht : t.val < 4 := t.isLt
  have he : ((cfg0.win 2).blk t).view.emb (ix2 a b) = (ix2 ⟨t.val * 1024 + a.val, by omega⟩ b : S4096x1024.Idx) := by
    blk_ext [idx t]
  blk_simp [idx t]
  rw [after0_2]
  frame_out
  unfold_payloads
  pointwise [val_main_v8, val_main_v7, val_main_v6, val_main_v2, val_main_v1, val_main_v0, val_main_call0_v0, val_main_call0_cst]
  change @Eq EReal _ _
  refine Finset.sum_congr rfl fun x _ => ?_
  rw [mul_comm]
  blk_point [iblk, V, idx t]

end Kernel

end Cert.Dw2Value

end
-- ==== Proof.Dw1Value.lean ====
/- The gradient of the squared-ReLU mixer's first half in its weights. -/
module

public import proofs.«01_k».proof.Proof.Gen.Dw1Ideal.Value
public import proofs.«01_k».proof.Proof.Gen.Dw1ReferenceIdeal.Run
public import proofs.«01_k».proof.Proof.Gen.Dw1ReferenceIdeal.Read
public import Idealize.ShloMosaic.Lib.Pipeline.ValueKit
public import Idealize.ShloMosaic.Lib.Pointwise

@[expose] public section

set_option maxRecDepth 16384

noncomputable section

namespace Cert.Dw1Value

open Idealize.ShloMosaic Idealize.ShloMosaic.TcCoe Idealize.SL.Sem
open Cert.Dw1Ideal Cert.Dw1Ideal.Gen
open Idealize.ShloMosaic.Pipeline (Dat)

variable (m : (ℓ : Loc nD τ sig) → Buf (Elt Ideal) ℓ)

open Cert.Dw1ReferenceIdeal.Read

/-- The blocks of the call's point `t`: the normed activations whole, and column block `t` of the gradient and of the result. -/
theorem idx : ∀ t : Fin cfg0.N, win0_0.index t = ![0, 0] ∧ win0_1.index t = ![0, t.val] ∧
    win0_2.index t = ![t.val, 0, 0] := by
  decide +kernel

/-- The normed activations that enter the call are the reference's. -/
theorem entry (c : Dev nD) (i : S2048x1024.Idx) : V m c main_v13 i =
    val_main_v12 (F := Ideal) (m ((c.tc : Thread nD τ).loc main_arg1)) (m ((c.tc : Thread nD τ).loc main_arg2)) i := by
  entry_read
  rfl

/-- The reference's result by column blocks. -/
theorem reference (x : (⟨S2048x4096, .bf16⟩ : BufTy).Contents (Elt Ideal)) (y : (⟨S2048x1024, .f32⟩ : BufTy).Contents (Elt Ideal))
    (z : (⟨S1024, .f32⟩ : BufTy).Contents (Elt Ideal))
    (j : Fin 4) (a : Fin 1024) (b : Fin 1024) : val_main_v26 (F := Ideal) x y z (ix3 j a b) =
      val_main_v15 (F := Ideal) x y z (ix2 ⟨j.val * 1024 + b.val, by omega⟩ a) := by
  pointwise [val_main_v26, val_main_v25, val_main_v24, val_main_v23, val_main_v22, val_main_v21, val_main_v20, val_main_v19,
    val_main_v18, val_main_v17, val_main_v16]
  obtain ⟨j, hj⟩ := j
  interval_cases j <;> simp

/-- The array the call leaves is the reference's gradient. -/
theorem arr (c : Dev nD) : (dats m 0 c).arrAt 2 cfg0.N =
    val_main_v26 (F := Ideal) (m ((c.tc : Thread nD τ).loc main_arg0)) (m ((c.tc : Thread nD τ).loc main_arg1))
      (m ((c.tc : Thread nD τ).loc main_arg2)) := by
  refine (dats m 0 c).arrAt_eq_of_covers 2 _ (by decide +kernel) fun t hf y => ?_
  obtain ⟨z, a, b, rfl⟩ : ∃ (z : Fin 1) (a : Fin 1024) (b : Fin 1024), y = ix3 z a b := ⟨y 0, y 1, y 2, eq_ix3 y⟩
  have ht : t.val < 4 := t.isLt
  have he : ((cfg0.win 2).blk t).view.emb (ix3 z a b) = (ix3 ⟨t.val, ht⟩ a b : S4x1024x1024.Idx) := by blk_ext [idx t]
  blk_simp [idx t]
  rw [after0_2]
  frame_out
  unfold_payloads
  pointwise
  change _ = val_main_v26 (F := Ideal) _ _ _ (((cfg0.win 2).blk t).view.emb (ix3 z a b))
  rw [he, reference]
  pointwise [val_main_v15, val_main_v14]
  change @Eq EReal _ _
  refine Finset.sum_congr rfl fun x _ => ?_
  rw [mul_comm, ← entry]
  blk_point [iblk, V, idx t]

end Cert.Dw1Value
-- ==== Proof.Dnorm2Value.lean ====
/- The gradient of the first feed-forward projection and of its norm in the residual stream. -/
module

public import proofs.«01_k».proof.Proof.Gen.Dnorm2Ideal.Value
public import proofs.«01_k».proof.Proof.Gen.Dnorm2ReferenceIdeal.Run
public import proofs.«01_k».proof.Proof.Gen.Dnorm2ReferenceIdeal.Read
public import Idealize.ShloMosaic.Lib.Pipeline.ValueKit
public import Idealize.ShloMosaic.Lib.Pointwise
public import proofs.«01_k».proof.Proof.RmsGrad

@[expose] public section

set_option maxRecDepth 16384

noncomputable section

namespace Cert.Dnorm2Value

open Idealize.ShloMosaic Idealize.ShloMosaic.TcCoe Idealize.SL.Sem
open Cert.Dnorm2Ideal Cert.Dnorm2Ideal.Gen
open Idealize.ShloMosaic.Pipeline (Dat)

variable (m : (ℓ : Loc nD τ sig) → Buf (Elt Ideal) ℓ)

open Cert.Dnorm2ReferenceIdeal.Read

/-- The blocks of the call's point `t`: row block `t`, the weights and the scale whole. -/
theorem idx : ∀ t : Fin cfg0.N, win0_0.index t = ![t.val, 0] ∧ win0_1.index t = ![0, 0, 0] ∧ win0_2.index t = ![t.val, 0] ∧
    win0_3.index t = ![0, 0] ∧ win0_4.index t = ![t.val, 0] ∧ win0_5.index t = ![t.val, 0] ∧ win0_6.index t = ![0, 0] := by
  decide +kernel

section Reference

variable (x0 : (⟨S2048x4096, .bf16⟩ : BufTy).Contents (Elt Ideal)) (x1 x2 : (⟨S2048x1024, .f32⟩ : BufTy).Contents (Elt Ideal))
  (x3 : (⟨S1024, .f32⟩ : BufTy).Contents (Elt Ideal)) (x4 : (⟨S1024x4096, .f32⟩ : BufTy).Contents (Elt Ideal))

/-- The reference's reciprocal root of a row. -/
theorem root (a : Fin 2048) : val_main_v7 (F := Ideal) x2 (ix2 a 0) =
    Ideal.rsqrt (RmsGrad.under (∑ k : Fin 1024, x2 (ix2 a k) * x2 (ix2 a k))) := by
  unfold RmsGrad.under
  pointwise [val_main_v7, val_main_v6, val_main_v5, val_main_v4, val_main_v3, val_main_v2, val_main_v1, val_main_v0,
    val_main_cst, val_main_cst_0, val_main_cst_1]

/-- The reference's gradient in the residual stream, as the program writes it. -/
theorem reference (a : Fin 2048) (b : Fin 1024) : val_main_v39 (F := Ideal) x0 x1 x2 x3 x4 (ix2 a b) =
    x1 (ix2 a b) + val_main_v7 (F := Ideal) x2 (ix2 a 0) * ((∑ k : Fin 4096, x0 (ix2 a k) * x4 (ix2 b k)) * x3 (ix1 b)) -
      x2 (ix2 a b) * (val_main_v7 (F := Ideal) x2 (ix2 a 0) * val_main_v7 (F := Ideal) x2 (ix2 a 0) *
          val_main_v7 (F := Ideal) x2 (ix2 a 0)) *
        Ideal.div (∑ l : Fin 1024, (∑ k : Fin 4096, x0 (ix2 a k) * x4 (ix2 l k)) * x3 (ix1 l) * x2 (ix2 a l))
          (Ideal.ofBits .f32 1149239296#32) := by
  rw [root, RmsGrad.entry (RmsGrad.squares _)]
  unfold RmsGrad.under
  pointwise [val_main_v39, val_main_v38, val_main_v37, val_main_v36, val_main_v35, val_main_v34, val_main_v33, val_main_v32,
    val_main_v31, val_main_v30, val_main_v29, val_main_v28, val_main_v27, val_main_v26, val_main_v25, val_main_v23,
    val_main_v22, val_main_v18, val_main_v17, val_main_v13, val_main_v10, val_main_v9, val_main_v8, val_main_v7,
    val_main_v6, val_main_v5, val_main_v4, val_main_v3, val_main_v2, val_main_v1, val_main_v0, val_main_cst, val_main_cst_0,
    val_main_cst_1, val_main_cst_2, val_main_cst_5, val_main_cst_6, val_main_cst_7]
  simp only [Finset.univ_unique, Finset.sum_singleton, mul_comm (x2 _)]

/-- A row's part of the gradient in the scale. -/
def part (l : Fin 2048) (b : Fin 1024) : EReal :=
  (∑ k : Fin 4096, x0 (ix2 l k) * x4 (ix2 b k)) * (x2 (ix2 l b) * val_main_v7 (F := Ideal) x2 (ix2 l 0))

/-- The reference's gradient in the scale. -/
theorem referenceg (a : Fin 1) (b : Fin 1024) : val_main_v40 (F := Ideal) x0 x2 x4 (ix2 a b) =
    ∑ l : Fin 2048, part x0 x2 x4 l b := by
  pointwise [val_main_v40, val_main_v24, val_main_v21, val_main_v20, val_main_v19, val_main_v18, val_main_v17, val_main_v12,
    val_main_v11, val_main_cst_3, val_main_cst_4]
  simp only [Finset.univ_unique, Finset.sum_singleton]
  exact Finset.sum_congr rfl fun l _ => mul_comm _ _

end Reference

/-- The first array the call leaves is the reference's gradient in the residual stream. -/
theorem arr5 (c : Dev nD) : (dats m 0 c).arrAt 5 cfg0.N =
    val_main_v39 (F := Ideal) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := by
  refine (dats m 0 c).arrAt_eq_of_covers 5 _ (by decide +kernel) fun t hf y => ?_
  obtain ⟨a, b, rfl⟩ : ∃ (a : Fin 256) (b : Fin 1024), y = ix2 a b := ⟨y 0, y 1, eq_ix2 y⟩
  have ht : t.val < 8 := t.isLt
  have he : ((cfg0.win 5).blk t).view.emb (ix2 a b) = (ix2 ⟨t.val * 256 + a.val, by omega⟩ b : S2048x1024.Idx) := by
    blk_ext [idx t]
  blk_simp [idx t]
  rw [after0_5]
  by_cases h : t.val % 8 = 0
  · rw [outsAt0_A m c t h (by omega)]
    dsimp only
    frame_out
    unfold_payloads
    pointwise
    change _ = val_main_v39 (F := Ideal) _ _ _ _ _ (((cfg0.win 5).blk t).view.emb (ix2 a b))
    rw [he, reference]
    simp only [RmsGrad.quarters]
    pointwise [val_main_v7, val_main_v6, val_main_v5, val_main_v4, val_main_v3, val_main_v2, val_main_v1, val_main_v0,
      val_main_cst, val_main_cst_0, val_main_cst_1]
    blk_point [iblk, V, idx t]
  · rw [outsAt0_B m c t h (by omega)]
    dsimp only
    frame_out
    unfold_payloads
    pointwise
    change _ = val_main_v39 (F := Ideal) _ _ _ _ _ (((cfg0.win 5).blk t).view.emb (ix2 a b))
    rw [he, reference]
    simp only [RmsGrad.quarters]
    pointwise [val_main_v7, val_main_v6, val_main_v5, val_main_v4, val_main_v3, val_main_v2, val_main_v1, val_main_v0,
      val_main_cst, val_main_cst_0, val_main_cst_1]
    blk_point [iblk, V, idx t]

theorem row (t : Fin cfg0.N) (l : Fin 256) : t.val * 256 + l.val < 2048 := by
  have ht : t.val < 8 := t.isLt
  omega

/-- What the body leaves at a row block's first point and at the others: the block's rows, added up. -/
theorem first (c : Dev nD) (t : Fin cfg0.N) (h : t.val % 8 = 0) (j : S1x1024.Idx) :
    ((outsAt0 m c t.val t.isLt).2 j : EReal) =
      0 + ∑ l : Fin 256, part (m ((c.tc : Thread nD τ).loc main_arg0)) (m ((c.tc : Thread nD τ).loc main_arg2))
        (m ((c.tc : Thread nD τ).loc main_arg4)) ⟨t.val * 256 + l.val, row t l⟩ (j 1) := by
  obtain ⟨a, b, rfl⟩ : ∃ (a : Fin 1) (b : Fin 1024), j = ix2 a b := ⟨j 0, j 1, eq_ix2 j⟩
  have ht : t.val < 8 := t.isLt
  rw [outsAt0_A m c t h (by omega)]
  dsimp only
  frame_out
  unfold_payloads
  pointwise
  unfold part
  simp only [RmsGrad.quarters]
  pointwise [val_main_v7, val_main_v6, val_main_v5, val_main_v4, val_main_v3, val_main_v2, val_main_v1, val_main_v0,
    val_main_cst, val_main_cst_0, val_main_cst_1]
  blk_point [iblk, V, idx t]

theorem later (c : Dev nD) (t : Fin cfg0.N) (h : ¬t.val % 8 = 0) (j : S1x1024.Idx) :
    ((outsAt0 m c t.val t.isLt).2 j : EReal) =
      (outsAt0 m c (t.val - 1) (Nat.lt_of_le_of_lt (Nat.sub_le _ _) t.isLt)).2 j +
        ∑ l : Fin 256, part (m ((c.tc : Thread nD τ).loc main_arg0)) (m ((c.tc : Thread nD τ).loc main_arg2))
        (m ((c.tc : Thread nD τ).loc main_arg4)) ⟨t.val * 256 + l.val, row t l⟩ (j 1) := by
  obtain ⟨a, b, rfl⟩ : ∃ (a : Fin 1) (b : Fin 1024), j = ix2 a b := ⟨j 0, j 1, eq_ix2 j⟩
  have ht : t.val < 8 := t.isLt
  rw [outsAt0_B m c t h (by omega)]
  dsimp only
  frame_out
  unfold_payloads
  pointwise
  refine congrArg ((outsAt0 m c (t.val - 1) (Nat.lt_of_le_of_lt (Nat.sub_le _ _) t.isLt)).2 (ix2 a b) + · : EReal → EReal) ?_
  unfold part
  simp only [RmsGrad.quarters]
  pointwise [val_main_v7, val_main_v6, val_main_v5, val_main_v4, val_main_v3, val_main_v2, val_main_v1, val_main_v0,
    val_main_cst, val_main_cst_0, val_main_cst_1]
  blk_point [iblk, V, idx t]

/-- The second array the call leaves is the reference's gradient in the scale. -/
theorem arr6 (c : Dev nD) : (dats m 0 c).arrAt 6 cfg0.N =
    val_main_v40 (F := Ideal) (m ((c.tc : Thread nD τ).loc main_arg0)) (m ((c.tc : Thread nD τ).loc main_arg2))
      (m ((c.tc : Thread nD τ).loc main_arg4)) := by
  refine (dats m 0 c).arrAt_eq_of_after_last 6 t0_7 (by decide +kernel) _ fun y => ?_
  obtain ⟨a, b, rfl⟩ : ∃ (a : Fin 1) (b : Fin 1024), y = ix2 a b := ⟨y 0, y 1, eq_ix2 y⟩
  blk_simp
  rw [after0_6]
  refine (Pipeline.eq_sum_fin_of_reset_step_apply_last (fun n h => (outsAt0 m c n h).2) 8 (fun _ => 0) _ (first m c)
    (later m c) (le_of_eq N_0) t0_7 rfl (ix2 a b)).trans ?_
  rw [zero_add, referenceg]
  exact Fin.sum_mul_add_congr (fun s k hl => rfl)

end Cert.Dnorm2Value
-- ==== Proof.DpleValue.lean ====
/- The gradient of the gated embedding: in the gate's logits, in the embedding, in the residual stream and in the norm's scale. -/
module

public import proofs.«01_k».proof.Proof.Gen.DpleIdeal.Value
public import proofs.«01_k».proof.Proof.Gen.DpleReferenceIdeal.Run
public import proofs.«01_k».proof.Proof.Gen.DpleReferenceIdeal.Read
public import Idealize.ShloMosaic.Lib.Pipeline.ValueKit
public import Idealize.ShloMosaic.Lib.Pointwise
public import proofs.«01_k».proof.Proof.RmsGrad

@[expose] public section

set_option maxRecDepth 16384

noncomputable section

namespace Cert.DpleValue

open Idealize.ShloMosaic Idealize.ShloMosaic.TcCoe Idealize.SL.Sem
open Cert.DpleIdeal Cert.DpleIdeal.Gen
open Idealize.ShloMosaic.Pipeline (Dat)

variable (m : (ℓ : Loc nD τ sig) → Buf (Elt Ideal) ℓ)

open Cert.DpleReferenceIdeal.Read

/-- The blocks of the call's point `t`: row block `t`, the weights and the scale whole. -/
theorem idx : ∀ t : Fin cfg0.N, win0_0.index t = ![t.val, 0] ∧ win0_1.index t = ![t.val, 0] ∧ win0_2.index t = ![t.val, 0] ∧
    win0_3.index t = ![0, 0] ∧ win0_4.index t = ![t.val, 0] ∧ win0_5.index t = ![0, 0] ∧ win0_6.index t = ![t.val, 0] ∧
    win0_7.index t = ![t.val, 0] ∧ win0_8.index t = ![t.val, 0] ∧ win0_9.index t = ![0, 0] := by
  decide +kernel

/-- The gate's logits that enter the call are the reference's. -/
theorem entry (c : Dev nD) (i : S2048x1024.Idx) : V m c main_v14 i =
    val_main_v13 (F := Ideal) (m ((c.tc : Thread nD τ).loc main_arg1)) (m ((c.tc : Thread nD τ).loc main_arg3))
      (m ((c.tc : Thread nD τ).loc main_arg4)) i := by
  entry_read
  rfl

section Reference

variable (x0 x1 : (⟨S2048x1024, .f32⟩ : BufTy).Contents (Elt Ideal)) (x2 : (⟨S2048x1024, .bf16⟩ : BufTy).Contents (Elt Ideal))
  (x3 : (⟨S1024, .f32⟩ : BufTy).Contents (Elt Ideal)) (x4 : (⟨S1024x1024, .f32⟩ : BufTy).Contents (Elt Ideal))

/-- The reference's reciprocal root of a row. -/
theorem root (a : Fin 2048) : val_main_v22 (F := Ideal) x1 (ix2 a 0) =
    Ideal.rsqrt (RmsGrad.under (∑ k : Fin 1024, x1 (ix2 a k) * x1 (ix2 a k))) := by
  unfold RmsGrad.under
  pointwise [val_main_v22, val_main_v21, val_main_v20, val_main_v19, val_main_v18, val_main_v17, val_main_v16, val_main_v15,
    val_main_cst_2, val_main_cst_3, val_main_cst_4]

/-- The gradient in the gate's logits, in the program's order. -/
def inner (a : Fin 2048) (b : Fin 1024) : EReal :=
  x0 (ix2 a b) * x2 (ix2 a b) * Ideal.logistic (val_main_v13 (F := Ideal) x1 x3 x4 (ix2 a b)) *
    (1 - Ideal.logistic (val_main_v13 (F := Ideal) x1 x3 x4 (ix2 a b)))

theorem reference_logits (a : Fin 2048) (b : Fin 1024) : val_main_v82 (F := Ideal) x0 x1 x2 x3 x4 (ix2 a b) =
    inner x0 x1 x2 x3 x4 a b := by
  unfold inner
  pointwise [val_main_v82, val_main_v81, val_main_v80, val_main_v78, val_main_v77, val_main_v76, val_main_v75, val_main_v74,
    val_main_v73, val_main_v72, val_main_v71, val_main_v70, val_main_v69, val_main_cst_14, val_main_cst_15, val_main_cst_16]
  simp only [Ideal.logistic, mul_assoc]

theorem reference_embedding (a : Fin 2048) (b : Fin 1024) : val_main_v83 (F := Ideal) x0 x1 x3 x4 (ix2 a b) =
    x0 (ix2 a b) * Ideal.logistic (val_main_v13 (F := Ideal) x1 x3 x4 (ix2 a b)) := by
  have e : val_main_v31 (F := Ideal) x1 x3 x4 = val_main_v13 (F := Ideal) x1 x3 x4 := rfl
  pointwise [val_main_v83, val_main_v44, val_main_v43, val_main_v37, val_main_v36, val_main_v35, val_main_v34, val_main_v33,
    val_main_v32, val_main_cst_6, val_main_cst_7]
  simp only [Ideal.logistic, e]
  exact mul_comm _ _

/-- The same gradient where the reference goes on from it. -/
theorem again (a : Fin 2048) (b : Fin 1024) : val_main_v46 (F := Ideal) x0 x1 x2 x3 x4 (ix2 a b) =
    inner x0 x1 x2 x3 x4 a b := by
  have e : val_main_v31 (F := Ideal) x1 x3 x4 = val_main_v13 (F := Ideal) x1 x3 x4 := rfl
  unfold inner
  pointwise [val_main_v46, val_main_v45, val_main_v43, val_main_v40, val_main_v39, val_main_v38, val_main_v37, val_main_v36,
    val_main_v35, val_main_v34, val_main_v33, val_main_v32, val_main_v14, val_main_cst_6, val_main_cst_7, val_main_cst_8]
  simp only [Ideal.logistic, mul_assoc, e]

/-- The reference's gradient in the residual stream, as the program writes it. -/
theorem reference (a : Fin 2048) (b : Fin 1024) : val_main_v68 (F := Ideal) x0 x1 x2 x3 x4 (ix2 a b) =
    x0 (ix2 a b) + val_main_v22 (F := Ideal) x1 (ix2 a 0) *
        ((∑ k : Fin 1024, inner x0 x1 x2 x3 x4 a k * x4 (ix2 b k)) * x3 (ix1 b)) -
      x1 (ix2 a b) * (val_main_v22 (F := Ideal) x1 (ix2 a 0) * val_main_v22 (F := Ideal) x1 (ix2 a 0) *
          val_main_v22 (F := Ideal) x1 (ix2 a 0)) *
        Ideal.div (∑ l : Fin 1024, (∑ k : Fin 1024, inner x0 x1 x2 x3 x4 a k * x4 (ix2 l k)) * x3 (ix1 l) * x1 (ix2 a l))
          (Ideal.ofBits .f32 1149239296#32) := by
  rw [root, RmsGrad.entry (RmsGrad.squares _)]
  unfold RmsGrad.under
  pointwise [val_main_v68, val_main_v67, val_main_v66, val_main_v65, val_main_v64, val_main_v63, val_main_v62, val_main_v61,
    val_main_v60, val_main_v59, val_main_v58, val_main_v57, val_main_v56, val_main_v55, val_main_v54, val_main_v52,
    val_main_v51, val_main_v47, val_main_v28, val_main_v25, val_main_v24, val_main_v23, val_main_v22, val_main_v21,
    val_main_v20, val_main_v19, val_main_v18, val_main_v17, val_main_v16, val_main_v15, val_main_cst_2, val_main_cst_3,
    val_main_cst_4, val_main_cst_5, val_main_cst_11, val_main_cst_12, val_main_cst_13]
  simp only [Finset.univ_unique, Finset.sum_singleton, mul_comm (x1 _), again]

/-- A row's part of the gradient in the scale. -/
def part (l : Fin 2048) (b : Fin 1024) : EReal :=
  (∑ k : Fin 1024, inner x0 x1 x2 x3 x4 l k * x4 (ix2 b k)) * (x1 (ix2 l b) * val_main_v22 (F := Ideal) x1 (ix2 l 0))

/-- The reference's gradient in the scale. -/
theorem referenceg (a : Fin 1) (b : Fin 1024) : val_main_v84 (F := Ideal) x0 x1 x2 x3 x4 (ix2 a b) =
    ∑ l : Fin 2048, part x0 x1 x2 x3 x4 l b := by
  pointwise [val_main_v84, val_main_v53, val_main_v50, val_main_v49, val_main_v48, val_main_v47, val_main_v27, val_main_v26,
    val_main_cst_9, val_main_cst_10]
  simp only [Finset.univ_unique, Finset.sum_singleton, again]
  exact Finset.sum_congr rfl fun l _ => mul_comm _ _

end Reference

/-- The first array the call leaves is the reference's gradient in the gate's logits. -/
theorem arr6 (c : Dev nD) : (dats m 0 c).arrAt 6 cfg0.N =
    val_main_v82 (F := Ideal) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := by
  refine (dats m 0 c).arrAt_eq_of_covers 6 _ (by decide +kernel) fun t hf y => ?_
  obtain ⟨a, b, rfl⟩ : ∃ (a : Fin 256) (b : Fin 1024), y = ix2 a b := ⟨y 0, y 1, eq_ix2 y⟩
  have ht : t.val < 8 := t.isLt
  have he : ((cfg0.win 6).blk t).view.emb (ix2 a b) = (ix2 ⟨t.val * 256 + a.val, by omega⟩ b : S2048x1024.Idx) := by
    blk_ext [idx t]
  blk_simp [idx t]
  rw [after0_6]
  by_cases h : t.val % 8 = 0
  · rw [outsAt0_A m c t h (by omega)]
    dsimp only
    frame_out
    unfold_payloads
    pointwise
    change _ = val_main_v82 (F := Ideal) _ _ _ _ _ (((cfg0.win 6).blk t).view.emb (ix2 a b))
    rw [he, reference_logits]
    unfold inner
    simp only [← entry]
    blk_point [iblk, V, idx t]
  · rw [outsAt0_B m c t h (by omega)]
    dsimp only
    frame_out
    unfold_payloads
    pointwise
    change _ = val_main_v82 (F := Ideal) _ _ _ _ _ (((cfg0.win 6).blk t).view.emb (ix2 a b))
    rw [he, reference_logits]
    unfold inner
    simp only [← entry]
    blk_point [iblk, V, idx t]

/-- The second is its gradient in the embedding. -/
theorem arr7 (c : Dev nD) : (dats m 0 c).arrAt 7 cfg0.N =
    val_main_v83 (F := Ideal) (m ((c.tc : Thread nD τ).loc main_arg0)) (m ((c.tc : Thread nD τ).loc main_arg1))
      (m ((c.tc : Thread nD τ).loc main_arg3))
      (m ((c.tc : Thread nD τ).loc main_arg4)) := by
  refine (dats m 0 c).arrAt_eq_of_covers 7 _ (by decide +kernel) fun t hf y => ?_
  obtain ⟨a, b, rfl⟩ : ∃ (a : Fin 256) (b : Fin 1024), y = ix2 a b := ⟨y 0, y 1, eq_ix2 y⟩
  have ht : t.val < 8 := t.isLt
  have he : ((cfg0.win 7).blk t).view.emb (ix2 a b) = (ix2 ⟨t.val * 256 + a.val, by omega⟩ b : S2048x1024.Idx) := by
    blk_ext [idx t]
  blk_simp [idx t]
  rw [after0_7]
  by_cases h : t.val % 8 = 0
  · rw [outsAt0_A m c t h (by omega)]
    dsimp only
    frame_out
    unfold_payloads
    pointwise
    change _ = val_main_v83 (F := Ideal) _ _ _ _ (((cfg0.win 7).blk t).view.emb (ix2 a b))
    rw [he, reference_embedding]
    simp only [← entry]
    blk_point [iblk, V, idx t]
  · rw [outsAt0_B m c t h (by omega)]
    dsimp only
    frame_out
    unfold_payloads
    pointwise
    change _ = val_main_v83 (F := Ideal) _ _ _ _ (((cfg0.win 7).blk t).view.emb (ix2 a b))
    rw [he, reference_embedding]
    simp only [← entry]
    blk_point [iblk, V, idx t]

set_option maxHeartbeats 1000000 in
/-- The third is its gradient in the residual stream. -/
theorem arr8 (c : Dev nD) : (dats m 0 c).arrAt 8 cfg0.N =
    val_main_v68 (F := Ideal) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := by
  refine (dats m 0 c).arrAt_eq_of_covers 8 _ (by decide +kernel) fun t hf y => ?_
  obtain ⟨a, b, rfl⟩ : ∃ (a : Fin 256) (b : Fin 1024), y = ix2 a b := ⟨y 0, y 1, eq_ix2 y⟩
  have ht : t.val < 8 := t.isLt
  have he : ((cfg0.win 8).blk t).view.emb (ix2 a b) = (ix2 ⟨t.val * 256 + a.val, by omega⟩ b : S2048x1024.Idx) := by
    blk_ext [idx t]
  blk_simp [idx t]
  rw [after0_8]
  by_cases h : t.val % 8 = 0
  · rw [outsAt0_A m c t h (by omega)]
    dsimp only
    frame_out
    unfold_payloads
    pointwise
    change _ = val_main_v68 (F := Ideal) _ _ _ _ _ (((cfg0.win 8).blk t).view.emb (ix2 a b))
    rw [he, reference]
    unfold inner
    pointwise [val_main_v22, val_main_v21, val_main_v20, val_main_v19, val_main_v18, val_main_v17, val_main_v16,
      val_main_v15, val_main_cst_2, val_main_cst_3, val_main_cst_4]
    simp only [← entry]
    blk_point [iblk, V, idx t]
  · rw [outsAt0_B m c t h (by omega)]
    dsimp only
    frame_out
    unfold_payloads
    pointwise
    change _ = val_main_v68 (F := Ideal) _ _ _ _ _ (((cfg0.win 8).blk t).view.emb (ix2 a b))
    rw [he, reference]
    unfold inner
    pointwise [val_main_v22, val_main_v21, val_main_v20, val_main_v19, val_main_v18, val_main_v17, val_main_v16,
      val_main_v15, val_main_cst_2, val_main_cst_3, val_main_cst_4]
    simp only [← entry]
    blk_point [iblk, V, idx t]

theorem row (t : Fin cfg0.N) (l : Fin 256) : t.val * 256 + l.val < 2048 := by
  have ht : t.val < 8 := t.isLt
  omega

/-- What the body leaves at a row block's first point and at the others: the block's rows, added up. -/
theorem first (c : Dev nD) (t : Fin cfg0.N) (h : t.val % 8 = 0) (j : S1x1024.Idx) :
    ((outsAt0 m c t.val t.isLt).2.2.2 j : EReal) =
      0 + ∑ l : Fin 256, part (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) ⟨t.val * 256 + l.val, row t l⟩ (j 1) := by
  obtain ⟨a, b, rfl⟩ : ∃ (a : Fin 1) (b : Fin 1024), j = ix2 a b := ⟨j 0, j 1, eq_ix2 j⟩
  have ht : t.val < 8 := t.isLt
  rw [outsAt0_A m c t h (by omega)]
  dsimp only
  frame_out
  unfold_payloads
  pointwise
  unfold part
  unfold inner
  pointwise [val_main_v22, val_main_v21, val_main_v20, val_main_v19, val_main_v18, val_main_v17, val_main_v16, val_main_v15,
    val_main_cst_2, val_main_cst_3, val_main_cst_4]
  simp only [← entry]
  blk_point [iblk, V, idx t]

theorem later (c : Dev nD) (t : Fin cfg0.N) (h : ¬t.val % 8 = 0) (j : S1x1024.Idx) :
    ((outsAt0 m c t.val t.isLt).2.2.2 j : EReal) =
      (outsAt0 m c (t.val - 1) (Nat.lt_of_le_of_lt (Nat.sub_le _ _) t.isLt)).2.2.2 j +
        ∑ l : Fin 256, part (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) ⟨t.val * 256 + l.val, row t l⟩ (j 1) := by
  obtain ⟨a, b, rfl⟩ : ∃ (a : Fin 1) (b : Fin 1024), j = ix2 a b := ⟨j 0, j 1, eq_ix2 j⟩
  have ht : t.val < 8 := t.isLt
  rw [outsAt0_B m c t h (by omega)]
  dsimp only
  frame_out
  unfold_payloads
  pointwise
  refine congrArg ((outsAt0 m c (t.val - 1) (Nat.lt_of_le_of_lt (Nat.sub_le _ _) t.isLt)).2.2.2 (ix2 a b) + · : EReal → EReal) ?_
  unfold part
  unfold inner
  pointwise [val_main_v22, val_main_v21, val_main_v20, val_main_v19, val_main_v18, val_main_v17, val_main_v16, val_main_v15,
    val_main_cst_2, val_main_cst_3, val_main_cst_4]
  simp only [← entry]
  blk_point [iblk, V, idx t]

/-- The fourth is the reference's gradient in the scale. -/
theorem arr9 (c : Dev nD) : (dats m 0 c).arrAt 9 cfg0.N =
    val_main_v84 (F := Ideal) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := by
  refine (dats m 0 c).arrAt_eq_of_after_last 9 t0_7 (by decide +kernel) _ fun y => ?_
  obtain ⟨a, b, rfl⟩ : ∃ (a : Fin 1) (b : Fin 1024), y = ix2 a b := ⟨y 0, y 1, eq_ix2 y⟩
  blk_simp
  rw [after0_9]
  refine (Pipeline.eq_sum_fin_of_reset_step_apply_last (fun n h => (outsAt0 m c n h).2.2.2) 8 (fun _ => 0) _ (first m c)
    (later m c) (le_of_eq N_0) t0_7 rfl (ix2 a b)).trans ?_
  rw [zero_add, referenceg]
  exact Fin.sum_mul_add_congr (fun s k hl => rfl)

end Cert.DpleValue
-- ==== Proof.DwgValue.lean ====
/- The gradient of the embedding's gate in its weights. -/
module

public import proofs.«01_k».proof.Proof.Gen.DwgIdeal.Value
public import proofs.«01_k».proof.Proof.Gen.DwgReferenceIdeal.Run
public import proofs.«01_k».proof.Proof.Gen.DwgReferenceIdeal.Read
public import Idealize.ShloMosaic.Lib.Pipeline.ValueKit
public import Idealize.ShloMosaic.Lib.Pointwise

@[expose] public section

set_option maxRecDepth 16384

noncomputable section

namespace Cert.DwgValue

open Idealize.ShloMosaic Idealize.ShloMosaic.TcCoe Idealize.SL.Sem
open Cert.DwgIdeal Cert.DwgIdeal.Gen
open Idealize.ShloMosaic.Pipeline (Dat)

variable (m : (ℓ : Loc nD τ sig) → Buf (Elt Ideal) ℓ)

open Cert.DwgReferenceIdeal.Read

/-- The blocks of the call's one point: each array whole. -/
theorem idx : ∀ t : Fin cfg0.N, win0_0.index t = ![0, 0] ∧ win0_1.index t = ![0, 0] ∧ win0_2.index t = ![0, 0] := by
  decide +kernel

/-- The normed activations that enter the call are the reference's. -/
theorem entry (c : Dev nD) (i : S2048x1024.Idx) : V m c main_v13 i =
    val_main_v12 (F := Ideal) (m ((c.tc : Thread nD τ).loc main_arg1)) (m ((c.tc : Thread nD τ).loc main_arg2)) i := by
  entry_read
  rfl

/-- The array the call leaves is the reference's gradient. -/
theorem arr (c : Dev nD) : (dats m 0 c).arrAt 2 cfg0.N =
    val_main_v17 (F := Ideal) (m ((c.tc : Thread nD τ).loc main_arg0)) (m ((c.tc : Thread nD τ).loc main_arg1))
      (m ((c.tc : Thread nD τ).loc main_arg2)) := by
  refine (dats m 0 c).arrAt_eq_of_covers 2 _ (by decide +kernel) fun t hf y => ?_
  obtain ⟨a, b, rfl⟩ : ∃ (a : Fin 1024) (b : Fin 1024), y = ix2 a b := ⟨y 0, y 1, eq_ix2 y⟩
  have he : ((cfg0.win 2).blk t).view.emb (ix2 a b) = (ix2 a b : S1024x1024.Idx) := by blk_ext [idx t]
  blk_simp [idx t]
  rw [after0_2]
  frame_out
  unfold_payloads
  pointwise
  pointwise [val_main_v17, val_main_v16, val_main_v15, val_main_v14]
  change @Eq EReal _ _
  refine Finset.sum_congr rfl fun x _ => ?_
  rw [mul_comm, ← entry]
  blk_point [iblk, V, idx t]

end Cert.DwgValue
-- ==== Proof.DwpValue.lean ====
/- The gradient of the embedding's projection in its weights. -/
module

public import proofs.«01_k».proof.Proof.Gen.DwpIdeal.Value
public import proofs.«01_k».proof.Proof.Gen.DwpReferenceIdeal.Run
public import proofs.«01_k».proof.Proof.Gen.DwpReferenceIdeal.Read
public import Idealize.ShloMosaic.Lib.Pipeline.ValueKit
public import Idealize.ShloMosaic.Lib.Pointwise

@[expose] public section

set_option maxRecDepth 16384

noncomputable section

namespace Cert.DwpValue

open Idealize.ShloMosaic Idealize.ShloMosaic.TcCoe Idealize.SL.Sem
open Cert.DwpIdeal Cert.DwpIdeal.Gen
open Idealize.ShloMosaic.Pipeline (Dat)

variable (m : (ℓ : Loc nD τ sig) → Buf (Elt Ideal) ℓ)

open Cert.DwpReferenceIdeal.Read

/-- The blocks of the call's point `t`: the features whole, and column block `t` of the gradient and of the result. -/
theorem idx : ∀ t : Fin cfg0.N, win0_0.index t = ![0, 0] ∧ win0_1.index t = ![0, t.val] ∧
    win0_2.index t = ![t.val, 0, 0] := by
  decide +kernel

/-- The reference's result by column blocks. -/
theorem reference (x : (⟨S2048x1024, .bf16⟩ : BufTy).Contents (Elt Ideal)) (y : (⟨S2048x256, .f32⟩ : BufTy).Contents (Elt Ideal))
    (j : Fin 4) (a : Fin 256) (b : Fin 256) : val_main_v13 (F := Ideal) x y (ix3 j a b) =
      val_main_v2 (F := Ideal) x y (ix2 ⟨j.val * 256 + b.val, by omega⟩ a) := by
  pointwise [val_main_v13, val_main_v12, val_main_v11, val_main_v10, val_main_v9, val_main_v8, val_main_v7, val_main_v6,
    val_main_v5, val_main_v4, val_main_v3]
  obtain ⟨j, hj⟩ := j
  interval_cases j <;> simp

/-- The array the call leaves is the reference's gradient. -/
theorem arr (c : Dev nD) : (dats m 0 c).arrAt 2 cfg0.N =
    val_main_v13 (F := Ideal) (m ((c.tc : Thread nD τ).loc main_arg0)) (m ((c.tc : Thread nD τ).loc main_arg1)) := by
  refine (dats m 0 c).arrAt_eq_of_covers 2 _ (by decide +kernel) fun t hf y => ?_
  obtain ⟨z, a, b, rfl⟩ : ∃ (z : Fin 1) (a : Fin 256) (b : Fin 256), y = ix3 z a b := ⟨y 0, y 1, y 2, eq_ix3 y⟩
  have ht : t.val < 4 := t.isLt
  have he : ((cfg0.win 2).blk t).view.emb (ix3 z a b) = (ix3 ⟨t.val, ht⟩ a b : S4x256x256.Idx) := by blk_ext [idx t]
  blk_simp [idx t]
  rw [after0_2]
  frame_out
  unfold_payloads
  pointwise
  change _ = val_main_v13 (F := Ideal) _ _ (((cfg0.win 2).blk t).view.emb (ix3 z a b))
  rw [he, reference]
  pointwise [val_main_v2, val_main_v1]
  change @Eq EReal _ _
  refine Finset.sum_congr rfl fun x _ => ?_
  rw [mul_comm]
  blk_point [iblk, V, idx t]

end Cert.DwpValue
-- ==== Proof.DoutValue.lean ====
/- The gradient of the output projection in the mixers' results. -/
module

public import proofs.«01_k».proof.Proof.Gen.DoutIdeal.Value
public import proofs.«01_k».proof.Proof.Gen.DoutReferenceIdeal.Run
public import proofs.«01_k».proof.Proof.Gen.DoutReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DoutValue

open Idealize.ShloMosaic Idealize.ShloMosaic.TcCoe Idealize.SL.Sem
open Cert.DoutIdeal Cert.DoutIdeal.Gen
open Idealize.ShloMosaic.Pipeline (Dat)

variable (m : (ℓ : Loc nD τ sig) → Buf (Elt Ideal) ℓ)

open Cert.DoutReferenceIdeal.Read

/-- The blocks of the call's point `t`: the incoming gradient whole, row block `t` of the weights, column block `t` of the
    result. -/
theorem idx : ∀ t : Fin cfg0.N, win0_0.index t = ![0, 0] ∧ win0_1.index t = ![t.val, 0] ∧ win0_2.index t = ![0, t.val] := by
  decide +kernel

/-- The first point puts the incoming gradient into the scratch. -/
theorem scratch_first (c : Dev nD) (t : Fin cfg0.N) (h : t.val % 2 = 0) (a : Fin 2048) (b : Fin 1024) :
    (outsAt0 m c t.val t.isLt).2 (ix2 a b) = m ((c.tc : Thread nD τ).loc main_arg0) (ix2 a b) := by
  rw [outsAt0_A m c t h]
  dsimp only
  frame_out
  unfold_payloads
  pointwise
  blk_point [iblk, V, idx t]

/-- The array the call leaves is the reference's gradient. -/
theorem arr (c : Dev nD) : (dats m 0 c).arrAt 2 cfg0.N =
    val_main_v5 (F := Ideal) (m ((c.tc : Thread nD τ).loc main_arg0)) (m ((c.tc : Thread nD τ).loc main_arg2)) := by
  refine (dats m 0 c).arrAt_eq_of_covers 2 _ (by decide +kernel) fun t hf y => ?_
  obtain ⟨a, b, rfl⟩ : ∃ (a : Fin 2048) (b : Fin 512), y = ix2 a b := ⟨y 0, y 1, eq_ix2 y⟩
  have ht : t.val < 2 := t.isLt
  have he : ((cfg0.win 2).blk t).view.emb (ix2 a b) = (ix2 a ⟨t.val * 512 + b.val, by omega⟩ : S2048x1024.Idx) := by
    blk_ext [idx t]
  blk_simp [idx t]
  rw [after0_2]
  by_cases h : t.val % 2 = 0
  · rw [outsAt0_A m c t h]
    dsimp only
    frame_out
    unfold_payloads
    pointwise
    pointwise [val_main_v5, val_main_v4]
    blk_point [iblk, V, idx t]
  · have hs (hn : t.val - 1 < cfg0.N) : ∀ a b, (outsAt0 m c (t.val - 1) hn).2 (ix2 a b) = _ :=
      scratch_first m c ⟨t.val - 1, hn⟩ (by dsimp only; omega)
    rw [outsAt0_B m c t h]
    dsimp only
    frame_out
    unfold_payloads
    simp only [read_unread_whole]
    pointwise
    simp only [hs]
    pointwise [val_main_v5, val_main_v4]
    blk_point [iblk, V, idx t]

end Cert.DoutValue
-- ==== Proof.DwoValue.lean ====
/- The gradient of the output projection in its weights. -/
module

public import proofs.«01_k».proof.Proof.Gen.DwoIdeal.Value
public import proofs.«01_k».proof.Proof.Gen.DwoReferenceIdeal.Run
public import proofs.«01_k».proof.Proof.Gen.DwoReferenceIdeal.Read
public import Idealize.ShloMosaic.Lib.Pipeline.ValueKit
public import Idealize.ShloMosaic.Lib.Pointwise

@[expose] public section

set_option maxRecDepth 16384

noncomputable section

namespace Cert.DwoValue

open Idealize.ShloMosaic Idealize.ShloMosaic.TcCoe Idealize.SL.Sem
open Cert.DwoIdeal Cert.DwoIdeal.Gen
open Idealize.ShloMosaic.Pipeline (Dat)

variable (m : (ℓ : Loc nD τ sig) → Buf (Elt Ideal) ℓ)

open Cert.DwoReferenceIdeal.Read (val_main_v0 val_main_v4 val_main_v5 val_main_v6)

/-- The blocks of the call's one point: each array whole. -/
theorem idx : ∀ t : Fin cfg0.N, win0_0.index t = ![0, 0] ∧ win0_1.index t = ![0, 0] ∧ win0_2.index t = ![0, 0] := by
  decide +kernel

/-- The array the call leaves is the reference's gradient. -/
theorem arr (c : Dev nD) : (dats m 0 c).arrAt 2 cfg0.N =
    val_main_v6 (F := Ideal) (m ((c.tc : Thread nD τ).loc main_arg0)) (m ((c.tc : Thread nD τ).loc main_arg1)) := by
  refine (dats m 0 c).arrAt_eq_of_covers 2 _ (by decide +kernel) fun t hf y => ?_
  obtain ⟨a, b, rfl⟩ : ∃ (a : Fin 1024) (b : Fin 1024), y = ix2 a b := ⟨y 0, y 1, eq_ix2 y⟩
  have he : ((cfg0.win 2).blk t).view.emb (ix2 a b) = (ix2 a b : S1024x1024.Idx) := by blk_ext [idx t]
  blk_simp [idx t]
  rw [after0_2]
  frame_out
  unfold_payloads
  pointwise
  pointwise [val_main_v6, val_main_v5, val_main_v4, val_main_v0]
  change @Eq EReal _ _
  refine Finset.sum_congr rfl fun x _ => ?_
  rw [mul_comm]
  blk_point [iblk, V, idx t]

end Cert.DwoValue
-- ==== Proof.DwiValue.lean ====
/- The gradient of the input projection in its weights. -/
module

public import proofs.«01_k».proof.Proof.Gen.DwiIdeal.Value
public import proofs.«01_k».proof.Proof.Gen.DwiReferenceIdeal.Run
public import proofs.«01_k».proof.Proof.Gen.DwiReferenceIdeal.Read
public import Idealize.ShloMosaic.Lib.Pipeline.ValueKit
public import Idealize.ShloMosaic.Lib.Pointwise

@[expose] public section

set_option maxRecDepth 16384

noncomputable section

namespace Cert.DwiValue

open Idealize.ShloMosaic Idealize.ShloMosaic.TcCoe Idealize.SL.Sem
open Cert.DwiIdeal Cert.DwiIdeal.Gen
open Idealize.ShloMosaic.Pipeline (Dat)

variable (m : (ℓ : Loc nD τ sig) → Buf (Elt Ideal) ℓ)

open Cert.DwiReferenceIdeal.Read

/-- The blocks of the call's point `t`: the normed activations whole, and column block `t` of the gradient and of the result. -/
theorem idx : ∀ t : Fin cfg0.N, win0_0.index t = ![0, 0] ∧ win0_1.index t = ![0, t.val] ∧ win0_2.index t = ![0, t.val] := by
  decide +kernel

/-- The normed activations that enter the call are the reference's. -/
theorem entry (c : Dev nD) (i : S2048x1024.Idx) : V m c main_v13 i =
    val_main_v12 (F := Ideal) (m ((c.tc : Thread nD τ).loc main_arg1)) (m ((c.tc : Thread nD τ).loc main_arg2)) i := by
  entry_read
  rfl

/-- The array the call leaves is the reference's gradient. -/
theorem arr (c : Dev nD) : (dats m 0 c).arrAt 2 cfg0.N =
    val_main_v17 (F := Ideal) (m ((c.tc : Thread nD τ).loc main_arg0)) (m ((c.tc : Thread nD τ).loc main_arg1))
      (m ((c.tc : Thread nD τ).loc main_arg2)) := by
  refine (dats m 0 c).arrAt_eq_of_covers 2 _ (by decide +kernel) fun t hf y => ?_
  obtain ⟨a, b, rfl⟩ : ∃ (a : Fin 1024) (b : Fin 1408), y = ix2 a b := ⟨y 0, y 1, eq_ix2 y⟩
  have ht : t.val < 2 := t.isLt
  have he : ((cfg0.win 2).blk t).view.emb (ix2 a b) = (ix2 a ⟨t.val * 1408 + b.val, by omega⟩ : S1024x2816.Idx) := by
    blk_ext [idx t]
  blk_simp [idx t]
  rw [after0_2]
  frame_out
  unfold_payloads
  pointwise
  pointwise [val_main_v17, val_main_v16, val_main_v15, val_main_v14]
  change @Eq EReal _ _
  refine Finset.sum_congr rfl fun x _ => ?_
  rw [mul_comm, ← entry]
  blk_point [iblk, V, idx t]

end Cert.DwiValue
-- ==== Proof.Dnorm1Value.lean ====
/- The gradient of the input projection and of its norm in the residual stream. -/
module

public import proofs.«01_k».proof.Proof.Gen.Dnorm1Ideal.Value
public import proofs.«01_k».proof.Proof.Gen.Dnorm1ReferenceIdeal.Run
public import proofs.«01_k».proof.Proof.Gen.Dnorm1ReferenceIdeal.Read
public import Idealize.ShloMosaic.Lib.Pipeline.ValueKit
public import Idealize.ShloMosaic.Lib.Pointwise
public import proofs.«01_k».proof.Proof.RmsGrad

@[expose] public section

set_option maxRecDepth 16384

noncomputable section

namespace Cert.Dnorm1Value

open Idealize.ShloMosaic Idealize.ShloMosaic.TcCoe Idealize.SL.Sem
open Cert.Dnorm1Ideal Cert.Dnorm1Ideal.Gen
open Idealize.ShloMosaic.Pipeline (Dat)

variable (m : (ℓ : Loc nD τ sig) → Buf (Elt Ideal) ℓ)

open Cert.Dnorm1ReferenceIdeal.Read

/-- The blocks of the call's point `t`: row block `t`, the weights and the scale whole. -/
theorem idx : ∀ t : Fin cfg0.N, win0_0.index t = ![t.val, 0] ∧ win0_1.index t = ![0, 0] ∧ win0_2.index t = ![t.val, 0] ∧
    win0_3.index t = ![0, 0] ∧ win0_4.index t = ![t.val, 0] ∧ win0_5.index t = ![t.val, 0] ∧ win0_6.index t = ![0, 0] := by
  decide +kernel

section Reference

variable (x0 : (⟨S2048x2816, .bf16⟩ : BufTy).Contents (Elt Ideal)) (x1 x2 : (⟨S2048x1024, .f32⟩ : BufTy).Contents (Elt Ideal))
  (x3 : (⟨S1024, .f32⟩ : BufTy).Contents (Elt Ideal)) (x4 : (⟨S1024x2816, .f32⟩ : BufTy).Contents (Elt Ideal))

/-- The reference's reciprocal root of a row. -/
theorem root (a : Fin 2048) : val_main_v7 (F := Ideal) x2 (ix2 a 0) =
    Ideal.rsqrt (RmsGrad.under (∑ k : Fin 1024, x2 (ix2 a k) * x2 (ix2 a k))) := by
  unfold RmsGrad.under
  pointwise [val_main_v7, val_main_v6, val_main_v5, val_main_v4, val_main_v3, val_main_v2, val_main_v1, val_main_v0,
    val_main_cst, val_main_cst_0, val_main_cst_1]

/-- The reference's gradient in the residual stream, as the program writes it. -/
theorem reference (a : Fin 2048) (b : Fin 1024) : val_main_v39 (F := Ideal) x0 x1 x2 x3 x4 (ix2 a b) =
    x1 (ix2 a b) + val_main_v7 (F := Ideal) x2 (ix2 a 0) * ((∑ k : Fin 2816, x0 (ix2 a k) * x4 (ix2 b k)) * x3 (ix1 b)) -
      x2 (ix2 a b) * (val_main_v7 (F := Ideal) x2 (ix2 a 0) * val_main_v7 (F := Ideal) x2 (ix2 a 0) *
          val_main_v7 (F := Ideal) x2 (ix2 a 0)) *
        Ideal.div (∑ l : Fin 1024, (∑ k : Fin 2816, x0 (ix2 a k) * x4 (ix2 l k)) * x3 (ix1 l) * x2 (ix2 a l))
          (Ideal.ofBits .f32 1149239296#32) := by
  rw [root, RmsGrad.entry (RmsGrad.squares _)]
  unfold RmsGrad.under
  pointwise [val_main_v39, val_main_v38, val_main_v37, val_main_v36, val_main_v35, val_main_v34, val_main_v33, val_main_v32,
    val_main_v31, val_main_v30, val_main_v29, val_main_v28, val_main_v27, val_main_v26, val_main_v25, val_main_v23,
    val_main_v22, val_main_v18, val_main_v17, val_main_v13, val_main_v10, val_main_v9, val_main_v8, val_main_v7,
    val_main_v6, val_main_v5, val_main_v4, val_main_v3, val_main_v2, val_main_v1, val_main_v0, val_main_cst, val_main_cst_0,
    val_main_cst_1, val_main_cst_2, val_main_cst_5, val_main_cst_6, val_main_cst_7]
  simp only [Finset.univ_unique, Finset.sum_singleton, mul_comm (x2 _)]

/-- A row's part of the gradient in the scale. -/
def part (l : Fin 2048) (b : Fin 1024) : EReal :=
  (∑ k : Fin 2816, x0 (ix2 l k) * x4 (ix2 b k)) * (x2 (ix2 l b) * val_main_v7 (F := Ideal) x2 (ix2 l 0))

/-- The reference's gradient in the scale. -/
theorem referenceg (a : Fin 1) (b : Fin 1024) : val_main_v40 (F := Ideal) x0 x2 x4 (ix2 a b) =
    ∑ l : Fin 2048, part x0 x2 x4 l b := by
  pointwise [val_main_v40, val_main_v24, val_main_v21, val_main_v20, val_main_v19, val_main_v18, val_main_v17, val_main_v12,
    val_main_v11, val_main_cst_3, val_main_cst_4]
  simp only [Finset.univ_unique, Finset.sum_singleton]
  exact Finset.sum_congr rfl fun l _ => mul_comm _ _

end Reference

/-- The first array the call leaves is the reference's gradient in the residual stream. -/
theorem arr5 (c : Dev nD) : (dats m 0 c).arrAt 5 cfg0.N =
    val_main_v39 (F := Ideal) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := by
  refine (dats m 0 c).arrAt_eq_of_covers 5 _ (by decide +kernel) fun t hf y => ?_
  obtain ⟨a, b, rfl⟩ : ∃ (a : Fin 256) (b : Fin 1024), y = ix2 a b := ⟨y 0, y 1, eq_ix2 y⟩
  have ht : t.val < 8 := t.isLt
  have he : ((cfg0.win 5).blk t).view.emb (ix2 a b) = (ix2 ⟨t.val * 256 + a.val, by omega⟩ b : S2048x1024.Idx) := by
    blk_ext [idx t]
  blk_simp [idx t]
  rw [after0_5]
  by_cases h : t.val % 8 = 0
  · rw [outsAt0_A m c t h (by omega)]
    dsimp only
    frame_out
    unfold_payloads
    pointwise
    change _ = val_main_v39 (F := Ideal) _ _ _ _ _ (((cfg0.win 5).blk t).view.emb (ix2 a b))
    rw [he, reference]
    pointwise [val_main_v7, val_main_v6, val_main_v5, val_main_v4, val_main_v3, val_main_v2, val_main_v1, val_main_v0,
      val_main_cst, val_main_cst_0, val_main_cst_1]
    blk_point [iblk, V, idx t]
  · rw [outsAt0_B m c t h (by omega)]
    dsimp only
    frame_out
    unfold_payloads
    pointwise
    change _ = val_main_v39 (F := Ideal) _ _ _ _ _ (((cfg0.win 5).blk t).view.emb (ix2 a b))
    rw [he, reference]
    pointwise [val_main_v7, val_main_v6, val_main_v5, val_main_v4, val_main_v3, val_main_v2, val_main_v1, val_main_v0,
      val_main_cst, val_main_cst_0, val_main_cst_1]
    blk_point [iblk, V, idx t]

theorem row (t : Fin cfg0.N) (l : Fin 256) : t.val * 256 + l.val < 2048 := by
  have ht : t.val < 8 := t.isLt
  omega

/-- What the body leaves at a row block's first point and at the others: the block's rows, added up. -/
theorem first (c : Dev nD) (t : Fin cfg0.N) (h : t.val % 8 = 0) (j : S1x1024.Idx) :
    ((outsAt0 m c t.val t.isLt).2 j : EReal) =
      0 + ∑ l : Fin 256, part (m ((c.tc : Thread nD τ).loc main_arg0)) (m ((c.tc : Thread nD τ).loc main_arg2))
        (m ((c.tc : Thread nD τ).loc main_arg4)) ⟨t.val * 256 + l.val, row t l⟩ (j 1) := by
  obtain ⟨a, b, rfl⟩ : ∃ (a : Fin 1) (b : Fin 1024), j = ix2 a b := ⟨j 0, j 1, eq_ix2 j⟩
  have ht : t.val < 8 := t.isLt
  rw [outsAt0_A m c t h (by omega)]
  dsimp only
  frame_out
  unfold_payloads
  pointwise
  unfold part
  pointwise [val_main_v7, val_main_v6, val_main_v5, val_main_v4, val_main_v3, val_main_v2, val_main_v1, val_main_v0,
    val_main_cst, val_main_cst_0, val_main_cst_1]
  blk_point [iblk, V, idx t]

theorem later (c : Dev nD) (t : Fin cfg0.N) (h : ¬t.val % 8 = 0) (j : S1x1024.Idx) :
    ((outsAt0 m c t.val t.isLt).2 j : EReal) =
      (outsAt0 m c (t.val - 1) (Nat.lt_of_le_of_lt (Nat.sub_le _ _) t.isLt)).2 j +
        ∑ l : Fin 256, part (m ((c.tc : Thread nD τ).loc main_arg0)) (m ((c.tc : Thread nD τ).loc main_arg2))
        (m ((c.tc : Thread nD τ).loc main_arg4)) ⟨t.val * 256 + l.val, row t l⟩ (j 1) := by
  obtain ⟨a, b, rfl⟩ : ∃ (a : Fin 1) (b : Fin 1024), j = ix2 a b := ⟨j 0, j 1, eq_ix2 j⟩
  have ht : t.val < 8 := t.isLt
  rw [outsAt0_B m c t h (by omega)]
  dsimp only
  frame_out
  unfold_payloads
  pointwise
  refine congrArg ((outsAt0 m c (t.val - 1) (Nat.lt_of_le_of_lt (Nat.sub_le _ _) t.isLt)).2 (ix2 a b) + · : EReal → EReal) ?_
  unfold part
  pointwise [val_main_v7, val_main_v6, val_main_v5, val_main_v4, val_main_v3, val_main_v2, val_main_v1, val_main_v0,
    val_main_cst, val_main_cst_0, val_main_cst_1]
  blk_point [iblk, V, idx t]

/-- The second array the call leaves is the reference's gradient in the scale. -/
theorem arr6 (c : Dev nD) : (dats m 0 c).arrAt 6 cfg0.N =
    val_main_v40 (F := Ideal) (m ((c.tc : Thread nD τ).loc main_arg0)) (m ((c.tc : Thread nD τ).loc main_arg2))
      (m ((c.tc : Thread nD τ).loc main_arg4)) := by
  refine (dats m 0 c).arrAt_eq_of_after_last 6 t0_7 (by decide +kernel) _ fun y => ?_
  obtain ⟨a, b, rfl⟩ : ∃ (a : Fin 1) (b : Fin 1024), y = ix2 a b := ⟨y 0, y 1, eq_ix2 y⟩
  blk_simp
  rw [after0_6]
  refine (Pipeline.eq_sum_fin_of_reset_step_apply_last (fun n h => (outsAt0 m c n h).2) 8 (fun _ => 0) _ (first m c)
    (later m c) (le_of_eq N_0) t0_7 rfl (ix2 a b)).trans ?_
  rw [zero_add, referenceg]
  exact Fin.sum_mul_add_congr (fun s k hl => rfl)

end Cert.Dnorm1Value
-- ==== Proof.BackwardClaims.lean ====
/- The backward calls compute what their references compute, in exact arithmetic: each call's arrays are the reference's values. -/
module

public import proofs.«01_k».proof.Defs
public import proofs.«01_k».proof.Proof.Dff2Value
public import proofs.«01_k».proof.Proof.Dw2Value
public import proofs.«01_k».proof.Proof.Dw1Value
public import proofs.«01_k».proof.Proof.Dnorm2Value
public import proofs.«01_k».proof.Proof.DpleValue
public import proofs.«01_k».proof.Proof.DwgValue
public import proofs.«01_k».proof.Proof.DwpValue
public import proofs.«01_k».proof.Proof.DoutValue
public import proofs.«01_k».proof.Proof.DwoValue
public import proofs.«01_k».proof.Proof.DwiValue
public import proofs.«01_k».proof.Proof.Dnorm1Value

@[expose] public section

noncomputable section

namespace Cert.BackwardClaims

open Idealize.ShloMosaic Idealize.ShloMosaic.TcCoe Idealize.SL.Sem

theorem dff2 : Cert.algebraic_Dff2Ideal_Dff2ReferenceIdeal (hDff2Ideal := Cert.Dff2Ideal.Gen.facts)
    (hDff2ReferenceIdeal := Cert.Dff2ReferenceIdeal.Gen.facts) := by
  intro m g m' g' _ hagree
  refine ⟨fun c => (Cert.Dff2Ideal.Gen.dats m 0 c).arrAt 3 Cert.Dff2Ideal.cfg0.N,
    Cert.Dff2Ideal.Value.run_blocks m g,
    (θ_run Cert.Dff2ReferenceIdeal.defs _ _).mono (fun r h c => ?_) (Cert.Dff2ReferenceIdeal.Value.run m' g')⟩
  obtain ⟨h0, h⟩ := h c
  obtain ⟨e0, e1, e2⟩ := hagree c
  refine ⟨?_, h⟩
  refine h0.trans ?_
  rw [Cert.Dff2ReferenceIdeal.Read.val_main_v15_eq, e0, e1, e2]
  exact (Cert.Dff2Value.arr m c).symm

theorem dw2 : Cert.algebraic_Dw2Ideal_Dw2ReferenceIdeal (hDw2Ideal := Cert.Dw2Ideal.Gen.facts)
    (hDw2ReferenceIdeal := Cert.Dw2ReferenceIdeal.Gen.facts) := by
  intro m g m' g' _ hagree
  refine ⟨fun c => (Cert.Dw2Ideal.Gen.dats m 0 c).arrAt 2 Cert.Dw2Ideal.cfg0.N,
    Cert.Dw2Ideal.Value.run_blocks m g,
    (θ_run Cert.Dw2ReferenceIdeal.defs _ _).mono (fun r h c => ?_) (Cert.Dw2ReferenceIdeal.Value.run m' g')⟩
  obtain ⟨h0, h⟩ := h c
  obtain ⟨e0, e1, -⟩ := hagree c
  refine ⟨?_, h⟩
  refine h0.trans ?_
  rw [Cert.Dw2ReferenceIdeal.Read.val_main_v8_eq, e0, e1]
  exact (Cert.Dw2Value.arr m c).symm

theorem dw1 : Cert.algebraic_Dw1Ideal_Dw1ReferenceIdeal (hDw1Ideal := Cert.Dw1Ideal.Gen.facts)
    (hDw1ReferenceIdeal := Cert.Dw1ReferenceIdeal.Gen.facts) := by
  intro m g m' g' _ hagree
  refine ⟨fun c => (Cert.Dw1Ideal.Gen.dats m 0 c).arrAt 2 Cert.Dw1Ideal.cfg0.N,
    Cert.Dw1Ideal.Value.run_blocks m g,
    (θ_run Cert.Dw1ReferenceIdeal.defs _ _).mono (fun r h c => ?_) (Cert.Dw1ReferenceIdeal.Value.run m' g')⟩
  obtain ⟨h0, h⟩ := h c
  obtain ⟨e0, e1, e2, -⟩ := hagree c
  refine ⟨?_, h⟩
  refine h0.trans ?_
  rw [Cert.Dw1ReferenceIdeal.Read.val_main_v26_eq, e0, e1, e2]
  exact (Cert.Dw1Value.arr m c).symm

theorem dnorm2 : Cert.algebraic_Dnorm2Ideal_Dnorm2ReferenceIdeal (hDnorm2Ideal := Cert.Dnorm2Ideal.Gen.facts)
    (hDnorm2ReferenceIdeal := Cert.Dnorm2ReferenceIdeal.Gen.facts) := by
  intro m g m' g' _ hagree
  refine ⟨fun c => (Cert.Dnorm2Ideal.Gen.dats m 0 c).arrAt 5 Cert.Dnorm2Ideal.cfg0.N,
    fun c => (Cert.Dnorm2Ideal.Gen.dats m 0 c).arrAt 6 Cert.Dnorm2Ideal.cfg0.N,
    Cert.Dnorm2Ideal.Value.run_blocks m g,
    (θ_run Cert.Dnorm2ReferenceIdeal.defs _ _).mono (fun r h c => ?_) (Cert.Dnorm2ReferenceIdeal.Value.run m' g')⟩
  obtain ⟨h0, h1, h⟩ := h c
  obtain ⟨e0, e1, e2, e3, e4⟩ := hagree c
  refine ⟨?_, ?_, h⟩
  · refine h0.trans ?_
    rw [Cert.Dnorm2ReferenceIdeal.Read.val_main_v39_eq, e0, e1, e2, e3, e4]
    exact (Cert.Dnorm2Value.arr5 m c).symm
  · refine h1.trans ?_
    rw [Cert.Dnorm2ReferenceIdeal.Read.val_main_v40_eq, e0, e2, e4]
    exact (Cert.Dnorm2Value.arr6 m c).symm

theorem dple : Cert.algebraic_DpleIdeal_DpleReferenceIdeal (hDpleIdeal := Cert.DpleIdeal.Gen.facts)
    (hDpleReferenceIdeal := Cert.DpleReferenceIdeal.Gen.facts) := by
  intro m g m' g' _ hagree
  refine ⟨fun c => (Cert.DpleIdeal.Gen.dats m 0 c).arrAt 6 Cert.DpleIdeal.cfg0.N,
    fun c => (Cert.DpleIdeal.Gen.dats m 0 c).arrAt 7 Cert.DpleIdeal.cfg0.N,
    fun c => (Cert.DpleIdeal.Gen.dats m 0 c).arrAt 8 Cert.DpleIdeal.cfg0.N,
    fun c => (Cert.DpleIdeal.Gen.dats m 0 c).arrAt 9 Cert.DpleIdeal.cfg0.N,
    Cert.DpleIdeal.Value.run_blocks m g,
    (θ_run Cert.DpleReferenceIdeal.defs _ _).mono (fun r h c => ?_) (Cert.DpleReferenceIdeal.Value.run m' g')⟩
  obtain ⟨h0, h1, h2, h3, h⟩ := h c
  obtain ⟨e0, e1, e2, e3, e4⟩ := hagree c
  refine ⟨?_, ?_, ?_, ?_, h⟩
  · refine h0.trans ?_
    rw [Cert.DpleReferenceIdeal.Read.val_main_v82_eq, e0, e1, e2, e3, e4]
    exact (Cert.DpleValue.arr6 m c).symm
  · refine h1.trans ?_
    rw [Cert.DpleReferenceIdeal.Read.val_main_v83_eq, e0, e1, e3, e4]
    exact (Cert.DpleValue.arr7 m c).symm
  · refine h2.trans ?_
    rw [Cert.DpleReferenceIdeal.Read.val_main_v68_eq, e0, e1, e2, e3, e4]
    exact (Cert.DpleValue.arr8 m c).symm
  · refine h3.trans ?_
    rw [Cert.DpleReferenceIdeal.Read.val_main_v84_eq, e0, e1, e2, e3, e4]
    exact (Cert.DpleValue.arr9 m c).symm

theorem dwg : Cert.algebraic_DwgIdeal_DwgReferenceIdeal (hDwgIdeal := Cert.DwgIdeal.Gen.facts)
    (hDwgReferenceIdeal := Cert.DwgReferenceIdeal.Gen.facts) := by
  intro m g m' g' _ hagree
  refine ⟨fun c => (Cert.DwgIdeal.Gen.dats m 0 c).arrAt 2 Cert.DwgIdeal.cfg0.N,
    Cert.DwgIdeal.Value.run_blocks m g,
    (θ_run Cert.DwgReferenceIdeal.defs _ _).mono (fun r h c => ?_) (Cert.DwgReferenceIdeal.Value.run m' g')⟩
  obtain ⟨h0, h⟩ := h c
  obtain ⟨e0, e1, e2, -⟩ := hagree c
  refine ⟨?_, h⟩
  refine h0.trans ?_
  rw [Cert.DwgReferenceIdeal.Read.val_main_v17_eq, e0, e1, e2]
  exact (Cert.DwgValue.arr m c).symm

theorem dwp : Cert.algebraic_DwpIdeal_DwpReferenceIdeal (hDwpIdeal := Cert.DwpIdeal.Gen.facts)
    (hDwpReferenceIdeal := Cert.DwpReferenceIdeal.Gen.facts) := by
  intro m g m' g' _ hagree
  refine ⟨fun c => (Cert.DwpIdeal.Gen.dats m 0 c).arrAt 2 Cert.DwpIdeal.cfg0.N,
    Cert.DwpIdeal.Value.run_blocks m g,
    (θ_run Cert.DwpReferenceIdeal.defs _ _).mono (fun r h c => ?_) (Cert.DwpReferenceIdeal.Value.run m' g')⟩
  obtain ⟨h0, h⟩ := h c
  obtain ⟨e0, e1, -⟩ := hagree c
  refine ⟨?_, h⟩
  refine h0.trans ?_
  rw [Cert.DwpReferenceIdeal.Read.val_main_v13_eq, e0, e1]
  exact (Cert.DwpValue.arr m c).symm

theorem dout : Cert.algebraic_DoutIdeal_DoutReferenceIdeal (hDoutIdeal := Cert.DoutIdeal.Gen.facts)
    (hDoutReferenceIdeal := Cert.DoutReferenceIdeal.Gen.facts) := by
  intro m g m' g' _ hagree
  refine ⟨fun c => (Cert.DoutIdeal.Gen.dats m 0 c).arrAt 2 Cert.DoutIdeal.cfg0.N,
    Cert.DoutIdeal.Value.run_blocks m g,
    (θ_run Cert.DoutReferenceIdeal.defs _ _).mono (fun r h c => ?_) (Cert.DoutReferenceIdeal.Value.run m' g')⟩
  obtain ⟨h0, h⟩ := h c
  obtain ⟨e0, -, e2⟩ := hagree c
  refine ⟨?_, h⟩
  refine h0.trans ?_
  rw [Cert.DoutReferenceIdeal.Read.val_main_v5_eq, e0, e2]
  exact (Cert.DoutValue.arr m c).symm

theorem dwo : Cert.algebraic_DwoIdeal_DwoReferenceIdeal (hDwoIdeal := Cert.DwoIdeal.Gen.facts)
    (hDwoReferenceIdeal := Cert.DwoReferenceIdeal.Gen.facts) := by
  intro m g m' g' _ hagree
  refine ⟨fun c => (Cert.DwoIdeal.Gen.dats m 0 c).arrAt 2 Cert.DwoIdeal.cfg0.N,
    Cert.DwoIdeal.Value.run_blocks m g,
    (θ_run Cert.DwoReferenceIdeal.defs _ _).mono (fun r h c => ?_) (Cert.DwoReferenceIdeal.Value.run m' g')⟩
  obtain ⟨h0, h⟩ := h c
  obtain ⟨e0, e1, -⟩ := hagree c
  refine ⟨?_, h⟩
  refine h0.trans ?_
  rw [Cert.DwoReferenceIdeal.Read.val_main_v6_eq, e0, e1]
  exact (Cert.DwoValue.arr m c).symm

theorem dwi : Cert.algebraic_DwiIdeal_DwiReferenceIdeal (hDwiIdeal := Cert.DwiIdeal.Gen.facts)
    (hDwiReferenceIdeal := Cert.DwiReferenceIdeal.Gen.facts) := by
  intro m g m' g' _ hagree
  refine ⟨fun c => (Cert.DwiIdeal.Gen.dats m 0 c).arrAt 2 Cert.DwiIdeal.cfg0.N,
    Cert.DwiIdeal.Value.run_blocks m g,
    (θ_run Cert.DwiReferenceIdeal.defs _ _).mono (fun r h c => ?_) (Cert.DwiReferenceIdeal.Value.run m' g')⟩
  obtain ⟨h0, h⟩ := h c
  obtain ⟨e0, e1, e2, -⟩ := hagree c
  refine ⟨?_, h⟩
  refine h0.trans ?_
  rw [Cert.DwiReferenceIdeal.Read.val_main_v17_eq, e0, e1, e2]
  exact (Cert.DwiValue.arr m c).symm

theorem dnorm1 : Cert.algebraic_Dnorm1Ideal_Dnorm1ReferenceIdeal (hDnorm1Ideal := Cert.Dnorm1Ideal.Gen.facts)
    (hDnorm1ReferenceIdeal := Cert.Dnorm1ReferenceIdeal.Gen.facts) := by
  intro m g m' g' _ hagree
  refine ⟨fun c => (Cert.Dnorm1Ideal.Gen.dats m 0 c).arrAt 5 Cert.Dnorm1Ideal.cfg0.N,
    fun c => (Cert.Dnorm1Ideal.Gen.dats m 0 c).arrAt 6 Cert.Dnorm1Ideal.cfg0.N,
    Cert.Dnorm1Ideal.Value.run_blocks m g,
    (θ_run Cert.Dnorm1ReferenceIdeal.defs _ _).mono (fun r h c => ?_) (Cert.Dnorm1ReferenceIdeal.Value.run m' g')⟩
  obtain ⟨h0, h1, h⟩ := h c
  obtain ⟨e0, e1, e2, e3, e4⟩ := hagree c
  refine ⟨?_, ?_, h⟩
  · refine h0.trans ?_
    rw [Cert.Dnorm1ReferenceIdeal.Read.val_main_v39_eq, e0, e1, e2, e3, e4]
    exact (Cert.Dnorm1Value.arr5 m c).symm
  · refine h1.trans ?_
    rw [Cert.Dnorm1ReferenceIdeal.Read.val_main_v40_eq, e0, e2, e4]
    exact (Cert.Dnorm1Value.arr6 m c).symm

end Cert.BackwardClaims

end
-- ==== Proof.Ff2Value.lean ====
/- The second half of the squared-ReLU mixer, forward. -/
module

public import proofs.«01_k».proof.Proof.Gen.Ff2Ideal.Value
public import proofs.«01_k».proof.Proof.Gen.Ff2ReferenceIdeal.Run
public import proofs.«01_k».proof.Proof.Gen.Ff2ReferenceIdeal.Read
public import Idealize.ShloMosaic.Lib.Pipeline.ValueKit
public import Idealize.ShloMosaic.Lib.Pointwise

@[expose] public section

set_option maxRecDepth 16384

noncomputable section

namespace Cert.Ff2Value

open Idealize.ShloMosaic Idealize.ShloMosaic.TcCoe Idealize.SL.Sem
open Cert.Ff2Ideal Cert.Ff2Ideal.Gen
open Idealize.ShloMosaic.Pipeline (Dat)

variable (m : (ℓ : Loc nD τ sig) → Buf (Elt Ideal) ℓ)

open Cert.Ff2ReferenceIdeal.Read

/-- The blocks of the call's point `t`: row block `t % 4` and column block `t / 4` of the result. -/
theorem idx : ∀ t : Fin cfg0.N, win0_0.index t = ![t.val % 4, 0] ∧ win0_1.index t = ![0, t.val / 4] ∧
    win0_2.index t = ![t.val % 4, t.val / 4] ∧ win0_3.index t = ![t.val % 4, t.val / 4] := by
  decide +kernel

/-- The array the call leaves is the reference's. -/
theorem arr (c : Dev nD) : (dats m 0 c).arrAt 3 cfg0.N =
    val_main_v4 (F := Ideal) (m ((c.tc : Thread nD τ).loc main_arg0)) (m ((c.tc : Thread nD τ).loc main_arg1))
      (m ((c.tc : Thread nD τ).loc main_arg2)) := by
  refine (dats m 0 c).arrAt_eq_of_covers 3 _ (by decide +kernel) fun t hf y => ?_
  obtain ⟨a, b, rfl⟩ : ∃ (a : Fin 512) (b : Fin 512), y = ix2 a b := ⟨y 0, y 1, eq_ix2 y⟩
  have ht : t.val < 8 := t.isLt
  have he : ((cfg0.win 3).blk t).view.emb (ix2 a b) =
      (ix2 ⟨t.val % 4 * 512 + a.val, by omega⟩ ⟨t.val / 4 * 512 + b.val, by omega⟩ : S2048x1024.Idx) := by blk_ext [idx t]
  blk_simp [idx t]
  rw [after0_3]
  frame_out
  unfold_payloads
  pointwise
  pointwise [val_main_v4, val_main_v3, val_main_v2, val_main_v1, val_main_v0, val_main_call0_v0, val_main_call0_cst]
  blk_point [iblk, V, idx t]

end Cert.Ff2Value
-- ==== Proof.OutValue.lean ====
/- The output projection, forward. -/
module

public import proofs.«01_k».proof.Proof.Gen.OutIdeal.Value
public import proofs.«01_k».proof.Proof.Gen.OutReferenceIdeal.Run
public import proofs.«01_k».proof.Proof.Gen.OutReferenceIdeal.Read
public import Idealize.ShloMosaic.Lib.Pipeline.ValueKit
public import Idealize.ShloMosaic.Lib.Pointwise

@[expose] public section

set_option maxRecDepth 16384

noncomputable section

namespace Cert.OutValue

open Idealize.ShloMosaic Idealize.ShloMosaic.TcCoe Idealize.SL.Sem
open Cert.OutIdeal Cert.OutIdeal.Gen
open Idealize.ShloMosaic.Pipeline (Dat)

variable (m : (ℓ : Loc nD τ sig) → Buf (Elt Ideal) ℓ)

open Cert.OutReferenceIdeal.Read

/-- The blocks of the call's point `t`: column block `t` of the result. -/
theorem idx : ∀ t : Fin cfg0.N, win0_0.index t = ![0, 0] ∧ win0_1.index t = ![0, t.val] ∧
    win0_2.index t = ![0, t.val] ∧ win0_3.index t = ![0, t.val] := by
  decide +kernel

/-- The array the call leaves is the reference's. -/
theorem arr (c : Dev nD) : (dats m 0 c).arrAt 3 cfg0.N =
    val_main_v2 (F := Ideal) (m ((c.tc : Thread nD τ).loc main_arg0)) (m ((c.tc : Thread nD τ).loc main_arg1))
      (m ((c.tc : Thread nD τ).loc main_arg2)) := by
  refine (dats m 0 c).arrAt_eq_of_covers 3 _ (by decide +kernel) fun t hf y => ?_
  obtain ⟨a, b, rfl⟩ : ∃ (a : Fin 2048) (b : Fin 512), y = ix2 a b := ⟨y 0, y 1, eq_ix2 y⟩
  have ht : t.val < 2 := t.isLt
  have he : ((cfg0.win 3).blk t).view.emb (ix2 a b) = (ix2 a ⟨t.val * 512 + b.val, by omega⟩ : S2048x1024.Idx) := by
    blk_ext [idx t]
  blk_simp [idx t]
  rw [after0_3]
  frame_out
  unfold_payloads
  pointwise
  pointwise [val_main_v2, val_main_v1, val_main_v0]
  blk_point [iblk, V, idx t]

end Cert.OutValue
-- ==== Proof.PleValue.lean ====
/- The gated per-layer embedding, forward. -/
module

public import proofs.«01_k».proof.Proof.Gen.PleIdeal.Value
public import proofs.«01_k».proof.Proof.Gen.PleReferenceIdeal.Run
public import proofs.«01_k».proof.Proof.Gen.PleReferenceIdeal.Read
public import Idealize.ShloMosaic.Lib.Pipeline.ValueKit
public import Idealize.ShloMosaic.Lib.Pointwise

@[expose] public section

set_option maxRecDepth 16384

noncomputable section

namespace Cert.PleValue

open Idealize.ShloMosaic Idealize.ShloMosaic.TcCoe Idealize.SL.Sem
open Cert.PleIdeal Cert.PleIdeal.Gen
open Idealize.ShloMosaic.Pipeline (Dat)

variable (m : (ℓ : Loc nD τ sig) → Buf (Elt Ideal) ℓ)

open Cert.PleReferenceIdeal.Read

/-- The blocks of the call's point `t`: the features whole, column block `t` of the weights, of the gate, of the residual stream
    and of the results. -/
theorem idx : ∀ t : Fin cfg0.N, win0_0.index t = ![0, 0] ∧ win0_1.index t = ![t.val, 0, 0] ∧ win0_2.index t = ![0, t.val] ∧
    win0_3.index t = ![0, t.val] ∧ win0_4.index t = ![0, t.val] ∧ win0_5.index t = ![0, t.val] := by
  decide +kernel

/-- The gate's values that enter the call are the reference's. -/
theorem entry (c : Dev nD) (i : S2048x1024.Idx) : V m c main_v14 i =
    val_main_v14 (F := Ideal) (m ((c.tc : Thread nD τ).loc main_arg0)) (m ((c.tc : Thread nD τ).loc main_arg2))
      (m ((c.tc : Thread nD τ).loc main_arg3)) i := by
  entry_read
  rfl

/-- The first array the call leaves is the reference's residual stream. -/
theorem arr4 (c : Dev nD) : (dats m 0 c).arrAt 4 cfg0.N =
    val_main_v22 (F := Ideal) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := by
  refine (dats m 0 c).arrAt_eq_of_covers 4 _ (by decide +kernel) fun t hf y => ?_
  obtain ⟨a, b, rfl⟩ : ∃ (a : Fin 2048) (b : Fin 256), y = ix2 a b := ⟨y 0, y 1, eq_ix2 y⟩
  have ht : t.val < 4 := t.isLt
  have he : ((cfg0.win 4).blk t).view.emb (ix2 a b) = (ix2 a ⟨t.val * 256 + b.val, by omega⟩ : S2048x1024.Idx) := by
    blk_ext [idx t]
  blk_simp [idx t]
  rw [after0_4]
  frame_out
  unfold_payloads
  pointwise
  pointwise [val_main_v22, val_main_v21, val_main_v20, val_main_v19, val_main_v18, val_main_v17, val_main_v16, val_main_v15,
    val_main_v0, val_main_cst_2, val_main_cst_3]
  simp only [← entry]
  simp only [Ideal.logistic]
  blk_point [iblk, V, idx t]

/-- The second array the call leaves is the reference's projection of the features. -/
theorem arr5 (c : Dev nD) : (dats m 0 c).arrAt 5 cfg0.N =
    val_main_v23 (F := Ideal) (m ((c.tc : Thread nD τ).loc main_arg1)) (m ((c.tc : Thread nD τ).loc main_arg4)) := by
  refine (dats m 0 c).arrAt_eq_of_covers 5 _ (by decide +kernel) fun t hf y => ?_
  obtain ⟨a, b, rfl⟩ : ∃ (a : Fin 2048) (b : Fin 256), y = ix2 a b := ⟨y 0, y 1, eq_ix2 y⟩
  have ht : t.val < 4 := t.isLt
  have he : ((cfg0.win 5).blk t).view.emb (ix2 a b) = (ix2 a ⟨t.val * 256 + b.val, by omega⟩ : S2048x1024.Idx) := by
    blk_ext [idx t]
  blk_simp [idx t]
  rw [after0_5]
  frame_out
  unfold_payloads
  pointwise
  pointwise [val_main_v23, val_main_v0]
  blk_point [iblk, V, idx t]

end Cert.PleValue
-- ==== Proof.ForwardClaims.lean ====
/- The forward calls compute what their references compute, in exact arithmetic: each call's arrays are the reference's values. -/
module

public import proofs.«01_k».proof.Defs
public import proofs.«01_k».proof.Proof.Ff2Value
public import proofs.«01_k».proof.Proof.OutValue
public import proofs.«01_k».proof.Proof.PleValue
public import proofs.«01_k».proof.Proof.NormInValue
public import proofs.«01_k».proof.Proof.NormFfValue
public import proofs.«01_k».proof.Proof.NormGateValue

@[expose] public section

noncomputable section

namespace Cert.ForwardClaims

open Idealize.ShloMosaic Idealize.ShloMosaic.TcCoe Idealize.SL.Sem

theorem ff2 : Cert.algebraic_Ff2Ideal_Ff2ReferenceIdeal (hFf2Ideal := Cert.Ff2Ideal.Gen.facts)
    (hFf2ReferenceIdeal := Cert.Ff2ReferenceIdeal.Gen.facts) := by
  intro m g m' g' _ hagree
  refine ⟨fun c => (Cert.Ff2Ideal.Gen.dats m 0 c).arrAt 3 Cert.Ff2Ideal.cfg0.N,
    Cert.Ff2Ideal.Value.run_blocks m g,
    (θ_run Cert.Ff2ReferenceIdeal.defs _ _).mono (fun r h c => ?_) (Cert.Ff2ReferenceIdeal.Value.run m' g')⟩
  obtain ⟨h0, h⟩ := h c
  obtain ⟨e0, e1, e2⟩ := hagree c
  refine ⟨?_, h⟩
  refine h0.trans ?_
  rw [Cert.Ff2ReferenceIdeal.Read.val_main_v4_eq, e0, e1, e2]
  exact (Cert.Ff2Value.arr m c).symm

theorem out : Cert.algebraic_OutIdeal_OutReferenceIdeal (hOutIdeal := Cert.OutIdeal.Gen.facts)
    (hOutReferenceIdeal := Cert.OutReferenceIdeal.Gen.facts) := by
  intro m g m' g' _ hagree
  refine ⟨fun c => (Cert.OutIdeal.Gen.dats m 0 c).arrAt 3 Cert.OutIdeal.cfg0.N,
    Cert.OutIdeal.Value.run_blocks m g,
    (θ_run Cert.OutReferenceIdeal.defs _ _).mono (fun r h c => ?_) (Cert.OutReferenceIdeal.Value.run m' g')⟩
  obtain ⟨h0, h⟩ := h c
  obtain ⟨e0, e1, e2⟩ := hagree c
  refine ⟨?_, h⟩
  refine h0.trans ?_
  rw [Cert.OutReferenceIdeal.Read.val_main_v2_eq, e0, e1, e2]
  exact (Cert.OutValue.arr m c).symm

theorem ple : Cert.algebraic_PleIdeal_PleReferenceIdeal (hPleIdeal := Cert.PleIdeal.Gen.facts)
    (hPleReferenceIdeal := Cert.PleReferenceIdeal.Gen.facts) := by
  intro m g m' g' _ hagree
  refine ⟨fun c => (Cert.PleIdeal.Gen.dats m 0 c).arrAt 4 Cert.PleIdeal.cfg0.N,
    fun c => (Cert.PleIdeal.Gen.dats m 0 c).arrAt 5 Cert.PleIdeal.cfg0.N,
    Cert.PleIdeal.Value.run_blocks m g,
    (θ_run Cert.PleReferenceIdeal.defs _ _).mono (fun r h c => ?_) (Cert.PleReferenceIdeal.Value.run m' g')⟩
  obtain ⟨h0, h1, h⟩ := h c
  obtain ⟨e0, e1, e2, e3, e4⟩ := hagree c
  refine ⟨?_, ?_, h⟩
  · refine h0.trans ?_
    rw [Cert.PleReferenceIdeal.Read.val_main_v22_eq, e0, e1, e2, e3, e4]
    exact (Cert.PleValue.arr4 m c).symm
  · refine h1.trans ?_
    rw [Cert.PleReferenceIdeal.Read.val_main_v23_eq, e1, e4]
    exact (Cert.PleValue.arr5 m c).symm

theorem normIn : Cert.algebraic_NormInIdeal_NormInReferenceIdeal (hNormInIdeal := Cert.NormInIdeal.Gen.facts)
    (hNormInReferenceIdeal := Cert.NormInReferenceIdeal.Gen.facts) := by
  intro m g m' g' _ hagree
  refine ⟨fun c => (Cert.NormInIdeal.Run.dats m 0 c).arrAt 3 Cert.NormInIdeal.cfg0.N,
    fun c => (Cert.NormInIdeal.Run.dats m 0 c).arrAt 4 Cert.NormInIdeal.cfg0.N,
    Cert.NormInIdeal.Run.run_blocks m g,
    (θ_run Cert.NormInReferenceIdeal.defs _ _).mono (fun r h c => ?_) (Cert.NormInReferenceIdeal.Value.run m' g')⟩
  obtain ⟨h0, h1, h⟩ := h c
  obtain ⟨e0, e1, e2⟩ := hagree c
  refine ⟨?_, ?_, h⟩
  · refine h0.trans ?_
    rw [Cert.NormInReferenceIdeal.Read.val_main_v13_eq, e0, e1]
    exact (Cert.NormInValue.arr3 m c).symm
  · refine h1.trans ?_
    rw [Cert.NormInReferenceIdeal.Read.val_main_v15_eq, e0, e1, e2]
    exact (Cert.NormInValue.arr4 m c).symm

theorem normFf : Cert.algebraic_NormFfIdeal_NormFfReferenceIdeal (hNormFfIdeal := Cert.NormFfIdeal.Gen.facts)
    (hNormFfReferenceIdeal := Cert.NormFfReferenceIdeal.Gen.facts) := by
  intro m g m' g' _ hagree
  refine ⟨fun c => (Cert.NormFfIdeal.Run.dats m 0 c).arrAt 3 Cert.NormFfIdeal.cfg0.N,
    fun c => (Cert.NormFfIdeal.Run.dats m 0 c).arrAt 4 Cert.NormFfIdeal.cfg0.N,
    Cert.NormFfIdeal.Run.run_blocks m g,
    (θ_run Cert.NormFfReferenceIdeal.defs _ _).mono (fun r h c => ?_) (Cert.NormFfReferenceIdeal.Value.run m' g')⟩
  obtain ⟨h0, h1, h⟩ := h c
  obtain ⟨e0, e1, e2⟩ := hagree c
  refine ⟨?_, ?_, h⟩
  · refine h0.trans ?_
    rw [Cert.NormFfReferenceIdeal.Read.val_main_v13_eq, e0, e1]
    exact (Cert.NormFfValue.arr3 m c).symm
  · refine h1.trans ?_
    rw [Cert.NormFfReferenceIdeal.Read.val_main_v15_eq, e0, e1, e2]
    exact (Cert.NormFfValue.arr4 m c).symm

theorem normGate : Cert.algebraic_NormGateIdeal_NormGateReferenceIdeal (hNormGateIdeal := Cert.NormGateIdeal.Gen.facts)
    (hNormGateReferenceIdeal := Cert.NormGateReferenceIdeal.Gen.facts) := by
  intro m g m' g' _ hagree
  refine ⟨fun c => (Cert.NormGateIdeal.Run.dats m 0 c).arrAt 3 Cert.NormGateIdeal.cfg0.N,
    fun c => (Cert.NormGateIdeal.Run.dats m 0 c).arrAt 4 Cert.NormGateIdeal.cfg0.N,
    Cert.NormGateIdeal.Run.run_blocks m g,
    (θ_run Cert.NormGateReferenceIdeal.defs _ _).mono (fun r h c => ?_) (Cert.NormGateReferenceIdeal.Value.run m' g')⟩
  obtain ⟨h0, h1, h⟩ := h c
  obtain ⟨e0, e1, e2⟩ := hagree c
  refine ⟨?_, ?_, h⟩
  · refine h0.trans ?_
    rw [Cert.NormGateReferenceIdeal.Read.val_main_v13_eq, e0, e1]
    exact (Cert.NormGateValue.arr3 m c).symm
  · refine h1.trans ?_
    rw [Cert.NormGateReferenceIdeal.Read.val_main_v15_eq, e0, e1, e2]
    exact (Cert.NormGateValue.arr4 m c).symm

end Cert.ForwardClaims

end
-- ==== Proof.LossValue.lean ====
/- The loss and its gradient in the last hidden rows: half the sum over the rows of the mean squared difference. -/
module

public import proofs.«01_k».proof.Proof.Gen.LossIdeal.Value
public import proofs.«01_k».proof.Proof.Gen.LossReferenceIdeal.Run
public import proofs.«01_k».proof.Proof.Gen.LossReferenceIdeal.Read
public import Idealize.ShloMosaic.Lib.Pipeline.ValueKit
public import Idealize.ShloMosaic.Lib.Pointwise

@[expose] public section

set_option maxRecDepth 16384

noncomputable section

namespace Cert.LossValue

open Idealize.ShloMosaic Idealize.ShloMosaic.TcCoe Idealize.SL.Sem
open Cert.LossIdeal Cert.LossIdeal.Gen
open Idealize.ShloMosaic.Pipeline (Dat)

variable (m : (ℓ : Loc nD τ sig) → Buf (Elt Ideal) ℓ)

open Cert.LossReferenceIdeal.Read

/-- The blocks of the call's point `t`: row block `t`; the loss tile whole. -/
theorem idx : ∀ t : Fin cfg0.N, win0_0.index t = ![t.val, 0] ∧ win0_1.index t = ![t.val, 0] ∧ win0_2.index t = ![0, 0] ∧
    win0_3.index t = ![t.val, 0] := by
  decide +kernel

theorem width : Ideal.ofBits .f32 1149239296#32 = ((1024 : ℝ) : EReal) := by
  simp [Ideal.ofBits, Ideal.ieee, -EReal.coe_mul]; norm_num
theorem inverse : Ideal.ofBits .f32 981467136#32 = ((1 / 1024 : ℝ) : EReal) := by
  simp [Ideal.ofBits, Ideal.ieee, -EReal.coe_mul]; norm_num
theorem half : Ideal.ofBits .f32 1056964608#32 = ((1 / 2 : ℝ) : EReal) := by
  simp [Ideal.ofBits, Ideal.ieee, -EReal.coe_mul]; norm_num
theorem two : Ideal.ofBits .f32 1073741824#32 = ((2 : ℝ) : EReal) := by
  simp [Ideal.ofBits, Ideal.ieee, -EReal.coe_mul]; norm_num

/-- One half goes into a sum. -/
theorem half_sum {n : ℕ} (f : Fin n → EReal) : ∑ s, ((1 / 2 : ℝ) : EReal) * f s = ((1 / 2 : ℝ) : EReal) * ∑ s, f s := by
  induction n with
  | zero => simp
  | succ n ih =>
    rw [Fin.sum_univ_castSucc, Fin.sum_univ_castSucc, ih]
    exact (EReal.left_distrib_of_nonneg_of_ne_top (EReal.coe_nonneg.mpr (by norm_num)) (EReal.coe_ne_top _) _ _).symm

section Reference

variable (x0 x1 : (⟨S2048x1024, .f32⟩ : BufTy).Contents (Elt Ideal))

/-- A row's mean squared difference. -/
def part (a : Fin 2048) : EReal :=
  Ideal.div (∑ k : Fin 1024, (x0 (ix2 a k) - x1 (ix2 a k)) * (x0 (ix2 a k) - x1 (ix2 a k))) (Ideal.ofBits .f32 1149239296#32)

/-- The reference's loss, at every place of the tile. -/
theorem loss_at (a : Fin 8) (b : Fin 128) : val_main_v22 (F := Ideal) x0 x1 (ix2 a b) = ((1 / 2 : ℝ) : EReal) * ∑ l : Fin 2048, part x0 x1 l := by
  unfold part
  rw [← half]
  pointwise [val_main_v22, val_main_v6, val_main_v5, val_main_v4, val_main_v3, val_main_v2, val_main_v1, val_main_v0, val_main_cst,
    val_main_cst_0, val_main_cst_1, val_main_cst_2]

/-- The reference's gradient: the derivative of the square, of the mean and of the half. -/
theorem grad_at (a : Fin 2048) (b : Fin 1024) : val_main_v21 (F := Ideal) x0 x1 (ix2 a b) =
    (x0 (ix2 a b) - x1 (ix2 a b)) * Ideal.ofBits .f32 981467136#32 := by
  pointwise [val_main_v21, val_main_v20, val_main_v19, val_main_v18, val_main_v17, val_main_v16, val_main_v10, val_main_v9, val_main_v7,
    val_main_cst_3, val_main_cst_8, val_main_cst_9, val_main_cst_10]
  rw [half, two, width, inverse, Ideal.div_coe (by norm_num), ← mul_assoc, mul_comm _ (x0 _ - x1 _), ← EReal.coe_mul, ← EReal.coe_mul]
  norm_num

end Reference

/-- The gradient the call leaves is the reference's. -/
theorem arr3 (c : Dev nD) : (dats m 0 c).arrAt 3 cfg0.N =
    val_main_v21 (F := Ideal) (m ((c.tc : Thread nD τ).loc main_arg0)) (m ((c.tc : Thread nD τ).loc main_arg1)) := by
  refine (dats m 0 c).arrAt_eq_of_covers 3 _ (by decide +kernel) fun t hf y => ?_
  obtain ⟨a, b, rfl⟩ : ∃ (a : Fin 512) (b : Fin 1024), y = ix2 a b := ⟨y 0, y 1, eq_ix2 y⟩
  have ht : t.val < 4 := t.isLt
  have he : ((cfg0.win 3).blk t).view.emb (ix2 a b) = (ix2 ⟨t.val * 512 + a.val, by omega⟩ b : S2048x1024.Idx) := by
    blk_ext [idx t]
  blk_simp [idx t]
  rw [after0_3]
  by_cases h : t.val % 4 = 0
  · rw [outsAt0_A m c t h (by omega)]
    dsimp only
    frame_out
    unfold_payloads
    pointwise
    change _ = val_main_v21 (F := Ideal) _ _ (((cfg0.win 3).blk t).view.emb (ix2 a b))
    rw [he, grad_at]
    blk_point [iblk, V, idx t]
  · rw [outsAt0_B m c t h (by omega)]
    dsimp only
    frame_out
    unfold_payloads
    pointwise
    change _ = val_main_v21 (F := Ideal) _ _ (((cfg0.win 3).blk t).view.emb (ix2 a b))
    rw [he, grad_at]
    blk_point [iblk, V, idx t]

theorem row (t : Fin cfg0.N) (l : Fin 512) : t.val * 512 + l.val < 2048 := by
  have ht : t.val < 4 := t.isLt
  omega

/-- What the body leaves at the first point and at the others: half the block's rows' means, added up. -/
theorem first (c : Dev nD) (t : Fin cfg0.N) (h : t.val % 4 = 0) (j : S8x128.Idx) :
    ((outsAt0 m c t.val t.isLt).1 j : EReal) =
      0 + ((1 / 2 : ℝ) : EReal) * ∑ l : Fin 512, part (m ((c.tc : Thread nD τ).loc main_arg0)) (m ((c.tc : Thread nD τ).loc main_arg1))
        ⟨t.val * 512 + l.val, row t l⟩ := by
  obtain ⟨a, b, rfl⟩ : ∃ (a : Fin 8) (b : Fin 128), j = ix2 a b := ⟨j 0, j 1, eq_ix2 j⟩
  have ht : t.val < 4 := t.isLt
  rw [outsAt0_A m c t h (by omega)]
  dsimp only
  frame_out
  unfold_payloads
  pointwise
  unfold part
  simp only [half, Finset.univ_unique, Finset.sum_singleton]
  blk_point [iblk, V, idx t]

theorem later (c : Dev nD) (t : Fin cfg0.N) (h : ¬t.val % 4 = 0) (j : S8x128.Idx) :
    ((outsAt0 m c t.val t.isLt).1 j : EReal) =
      (outsAt0 m c (t.val - 1) (Nat.lt_of_le_of_lt (Nat.sub_le _ _) t.isLt)).1 j +
        ((1 / 2 : ℝ) : EReal) * ∑ l : Fin 512, part (m ((c.tc : Thread nD τ).loc main_arg0)) (m ((c.tc : Thread nD τ).loc main_arg1))
          ⟨t.val * 512 + l.val, row t l⟩ := by
  obtain ⟨a, b, rfl⟩ : ∃ (a : Fin 8) (b : Fin 128), j = ix2 a b := ⟨j 0, j 1, eq_ix2 j⟩
  have ht : t.val < 4 := t.isLt
  rw [outsAt0_B m c t h (by omega)]
  dsimp only
  frame_out
  unfold_payloads
  pointwise
  refine congrArg ((outsAt0 m c (t.val - 1) (Nat.lt_of_le_of_lt (Nat.sub_le _ _) t.isLt)).1 (ix2 a b) + · : EReal → EReal) ?_
  unfold part
  simp only [half, Finset.univ_unique, Finset.sum_singleton]
  blk_point [iblk, V, idx t]

/-- The loss the call leaves is the reference's. -/
theorem arr2 (c : Dev nD) : (dats m 0 c).arrAt 2 cfg0.N =
    val_main_v22 (F := Ideal) (m ((c.tc : Thread nD τ).loc main_arg0)) (m ((c.tc : Thread nD τ).loc main_arg1)) := by
  refine (dats m 0 c).arrAt_eq_of_after_last 2 t0_3 (by decide +kernel) _ fun y => ?_
  obtain ⟨a, b, rfl⟩ : ∃ (a : Fin 8) (b : Fin 128), y = ix2 a b := ⟨y 0, y 1, eq_ix2 y⟩
  blk_simp
  rw [after0_2]
  refine (Pipeline.eq_sum_fin_of_reset_step_apply_last (fun n h => (outsAt0 m c n h).1) 4 (fun _ => 0) _ (first m c)
    (later m c) (le_of_eq N_0) t0_3 rfl (ix2 a b)).trans ?_
  rw [zero_add, loss_at]
  refine (half_sum _).trans (congrArg (((1 / 2 : ℝ) : EReal) * ·) ?_)
  exact Fin.sum_mul_add_congr (fun s k hl => rfl)

end Cert.LossValue
-- ==== Proof.AdamNormValue.lean ====
/- The optimiser's step on a small parameter kept as 4 rows of 1024, the scales of the norms. -/
module

public import proofs.«01_k».proof.Proof.Gen.AdamNormIdeal.Value
public import proofs.«01_k».proof.Proof.Gen.AdamNormReferenceIdeal.Run
public import proofs.«01_k».proof.Proof.Gen.AdamNormReferenceIdeal.Read
public import Idealize.ShloMosaic.Lib.Pipeline.ValueKit
public import Idealize.ShloMosaic.Lib.Pointwise

@[expose] public section

set_option maxRecDepth 16384

noncomputable section

namespace Cert.AdamNormValue

open Idealize.ShloMosaic Idealize.ShloMosaic.TcCoe Idealize.SL.Sem
open Cert.AdamNormIdeal Cert.AdamNormIdeal.Gen
open Idealize.ShloMosaic.Pipeline (Dat)

variable (m : (ℓ : Loc nD τ sig) → Buf (Elt Ideal) ℓ)

open Cert.AdamNormReferenceIdeal.Read

/-- The blocks of the call's point `t`. -/
theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] := by
  decide +kernel

/-- The change of the parameter is the reference's, -/
theorem arr4 (c : Dev nD) : (dats m 0 c).arrAt 4 cfg0.N =
    val_main_v23 (F := Ideal) (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  obtain ⟨a, b, rfl⟩ : ∃ (a : Fin 4) (b : Fin 1024), y = ix2 a b := ⟨y 0, y 1, eq_ix2 y⟩
  blk_simp [idx t]
  rw [after0_4]
  frame_out
  unfold_payloads
  pointwise
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2,
    val_main_cst_3, val_main_cst_4, val_main_cst_5, val_main_cst_6, val_main_cst_7]
  blk_point [iblk, V, idx t]

/-- the new first moment, -/
theorem arr5 (c : Dev nD) : (dats m 0 c).arrAt 5 cfg0.N =
    val_main_v4 (F := Ideal) (m ((c.tc : Thread nD τ).loc main_arg1)) (m ((c.tc : Thread nD τ).loc main_arg2)) := by
  refine (dats m 0 c).arrAt_eq_of_covers 5 _ (by decide +kernel) fun t hf y => ?_
  obtain ⟨a, b, rfl⟩ : ∃ (a : Fin 4) (b : Fin 1024), y = ix2 a b := ⟨y 0, y 1, eq_ix2 y⟩
  blk_simp [idx t]
  rw [after0_5]
  frame_out
  unfold_payloads
  pointwise
  pointwise [val_main_v4, val_main_v3, val_main_v2, val_main_v1, val_main_v0, val_main_cst, val_main_cst_0]
  blk_point [iblk, V, idx t]

/-- and the new second moment. -/
theorem arr6 (c : Dev nD) : (dats m 0 c).arrAt 6 cfg0.N =
    val_main_v10 (F := Ideal) (m ((c.tc : Thread nD τ).loc main_arg1)) (m ((c.tc : Thread nD τ).loc main_arg3)) := by
  refine (dats m 0 c).arrAt_eq_of_covers 6 _ (by decide +kernel) fun t hf y => ?_
  obtain ⟨a, b, rfl⟩ : ∃ (a : Fin 4) (b : Fin 1024), y = ix2 a b := ⟨y 0, y 1, eq_ix2 y⟩
  blk_simp [idx t]
  rw [after0_6]
  frame_out
  unfold_payloads
  pointwise
  pointwise [val_main_v10, val_main_v9, val_main_v8, val_main_v7, val_main_v6, val_main_v5, val_main_cst_1, val_main_cst_2]
  blk_point [iblk, V, idx t]

end Cert.AdamNormValue
-- ==== Proof.AdamHeadValue.lean ====
/- The optimiser's step on a small parameter kept as 4 rows of 64, the scales of the heads' norms. -/
module

public import proofs.«01_k».proof.Proof.Gen.AdamHeadIdeal.Value
public import proofs.«01_k».proof.Proof.Gen.AdamHeadReferenceIdeal.Run
public import proofs.«01_k».proof.Proof.Gen.AdamHeadReferenceIdeal.Read
public import Idealize.ShloMosaic.Lib.Pipeline.ValueKit
public import Idealize.ShloMosaic.Lib.Pointwise

@[expose] public section

set_option maxRecDepth 16384

noncomputable section

namespace Cert.AdamHeadValue

open Idealize.ShloMosaic Idealize.ShloMosaic.TcCoe Idealize.SL.Sem
open Cert.AdamHeadIdeal Cert.AdamHeadIdeal.Gen
open Idealize.ShloMosaic.Pipeline (Dat)

variable (m : (ℓ : Loc nD τ sig) → Buf (Elt Ideal) ℓ)

open Cert.AdamHeadReferenceIdeal.Read

/-- The blocks of the call's point `t`. -/
theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] := by
  decide +kernel

/-- The change of the parameter is the reference's, -/
theorem arr4 (c : Dev nD) : (dats m 0 c).arrAt 4 cfg0.N =
    val_main_v23 (F := Ideal) (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  obtain ⟨a, b, rfl⟩ : ∃ (a : Fin 4) (b : Fin 64), y = ix2 a b := ⟨y 0, y 1, eq_ix2 y⟩
  blk_simp [idx t]
  rw [after0_4]
  frame_out
  unfold_payloads
  pointwise
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2,
    val_main_cst_3, val_main_cst_4, val_main_cst_5, val_main_cst_6, val_main_cst_7]
  blk_point [iblk, V, idx t]

/-- the new first moment, -/
theorem arr5 (c : Dev nD) : (dats m 0 c).arrAt 5 cfg0.N =
    val_main_v4 (F := Ideal) (m ((c.tc : Thread nD τ).loc main_arg1)) (m ((c.tc : Thread nD τ).loc main_arg2)) := by
  refine (dats m 0 c).arrAt_eq_of_covers 5 _ (by decide +kernel) fun t hf y => ?_
  obtain ⟨a, b, rfl⟩ : ∃ (a : Fin 4) (b : Fin 64), y = ix2 a b := ⟨y 0, y 1, eq_ix2 y⟩
  blk_simp [idx t]
  rw [after0_5]
  frame_out
  unfold_payloads
  pointwise
  pointwise [val_main_v4, val_main_v3, val_main_v2, val_main_v1, val_main_v0, val_main_cst, val_main_cst_0]
  blk_point [iblk, V, idx t]

/-- and the new second moment. -/
theorem arr6 (c : Dev nD) : (dats m 0 c).arrAt 6 cfg0.N =
    val_main_v10 (F := Ideal) (m ((c.tc : Thread nD τ).loc main_arg1)) (m ((c.tc : Thread nD τ).loc main_arg3)) := by
  refine (dats m 0 c).arrAt_eq_of_covers 6 _ (by decide +kernel) fun t hf y => ?_
  obtain ⟨a, b, rfl⟩ : ∃ (a : Fin 4) (b : Fin 64), y = ix2 a b := ⟨y 0, y 1, eq_ix2 y⟩
  blk_simp [idx t]
  rw [after0_6]
  frame_out
  unfold_payloads
  pointwise
  pointwise [val_main_v10, val_main_v9, val_main_v8, val_main_v7, val_main_v6, val_main_v5, val_main_cst_1, val_main_cst_2]
  blk_point [iblk, V, idx t]

end Cert.AdamHeadValue
-- ==== Proof.AdamSguNormValue.lean ====
/- The optimiser's step on a small parameter kept as 4 rows of 256, the scale of the spatial gate's norm. -/
module

public import proofs.«01_k».proof.Proof.Gen.AdamSguNormIdeal.Value
public import proofs.«01_k».proof.Proof.Gen.AdamSguNormReferenceIdeal.Run
public import proofs.«01_k».proof.Proof.Gen.AdamSguNormReferenceIdeal.Read
public import Idealize.ShloMosaic.Lib.Pipeline.ValueKit
public import Idealize.ShloMosaic.Lib.Pointwise

@[expose] public section

set_option maxRecDepth 16384

noncomputable section

namespace Cert.AdamSguNormValue

open Idealize.ShloMosaic Idealize.ShloMosaic.TcCoe Idealize.SL.Sem
open Cert.AdamSguNormIdeal Cert.AdamSguNormIdeal.Gen
open Idealize.ShloMosaic.Pipeline (Dat)

variable (m : (ℓ : Loc nD τ sig) → Buf (Elt Ideal) ℓ)

open Cert.AdamSguNormReferenceIdeal.Read

/-- The blocks of the call's point `t`. -/
theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] := by
  decide +kernel

/-- The change of the parameter is the reference's, -/
theorem arr4 (c : Dev nD) : (dats m 0 c).arrAt 4 cfg0.N =
    val_main_v23 (F := Ideal) (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  obtain ⟨a, b, rfl⟩ : ∃ (a : Fin 4) (b : Fin 256), y = ix2 a b := ⟨y 0, y 1, eq_ix2 y⟩
  blk_simp [idx t]
  rw [after0_4]
  frame_out
  unfold_payloads
  pointwise
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2,
    val_main_cst_3, val_main_cst_4, val_main_cst_5, val_main_cst_6, val_main_cst_7]
  blk_point [iblk, V, idx t]

/-- the new first moment, -/
theorem arr5 (c : Dev nD) : (dats m 0 c).arrAt 5 cfg0.N =
    val_main_v4 (F := Ideal) (m ((c.tc : Thread nD τ).loc main_arg1)) (m ((c.tc : Thread nD τ).loc main_arg2)) := by
  refine (dats m 0 c).arrAt_eq_of_covers 5 _ (by decide +kernel) fun t hf y => ?_
  obtain ⟨a, b, rfl⟩ : ∃ (a : Fin 4) (b : Fin 256), y = ix2 a b := ⟨y 0, y 1, eq_ix2 y⟩
  blk_simp [idx t]
  rw [after0_5]
  frame_out
  unfold_payloads
  pointwise
  pointwise [val_main_v4, val_main_v3, val_main_v2, val_main_v1, val_main_v0, val_main_cst, val_main_cst_0]
  blk_point [iblk, V, idx t]

/-- and the new second moment. -/
theorem arr6 (c : Dev nD) : (dats m 0 c).arrAt 6 cfg0.N =
    val_main_v10 (F := Ideal) (m ((c.tc : Thread nD τ).loc main_arg1)) (m ((c.tc : Thread nD τ).loc main_arg3)) := by
  refine (dats m 0 c).arrAt_eq_of_covers 6 _ (by decide +kernel) fun t hf y => ?_
  obtain ⟨a, b, rfl⟩ : ∃ (a : Fin 4) (b : Fin 256), y = ix2 a b := ⟨y 0, y 1, eq_ix2 y⟩
  blk_simp [idx t]
  rw [after0_6]
  frame_out
  unfold_payloads
  pointwise
  pointwise [val_main_v10, val_main_v9, val_main_v8, val_main_v7, val_main_v6, val_main_v5, val_main_cst_1, val_main_cst_2]
  blk_point [iblk, V, idx t]

end Cert.AdamSguNormValue
-- ==== Proof.AdamConvValue.lean ====
/- The optimiser's step on a small parameter kept as 12 rows of 64, the short convolution. -/
module

public import proofs.«01_k».proof.Proof.Gen.AdamConvIdeal.Value
public import proofs.«01_k».proof.Proof.Gen.AdamConvReferenceIdeal.Run
public import proofs.«01_k».proof.Proof.Gen.AdamConvReferenceIdeal.Read
public import Idealize.ShloMosaic.Lib.Pipeline.ValueKit
public import Idealize.ShloMosaic.Lib.Pointwise

@[expose] public section

set_option maxRecDepth 16384

noncomputable section

namespace Cert.AdamConvValue

open Idealize.ShloMosaic Idealize.ShloMosaic.TcCoe Idealize.SL.Sem
open Cert.AdamConvIdeal Cert.AdamConvIdeal.Gen
open Idealize.ShloMosaic.Pipeline (Dat)

variable (m : (ℓ : Loc nD τ sig) → Buf (Elt Ideal) ℓ)

open Cert.AdamConvReferenceIdeal.Read

/-- The blocks of the call's point `t`. -/
theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] := by
  decide +kernel

/-- The change of the parameter is the reference's, -/
theorem arr4 (c : Dev nD) : (dats m 0 c).arrAt 4 cfg0.N =
    val_main_v23 (F := Ideal) (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  obtain ⟨a, b, rfl⟩ : ∃ (a : Fin 12) (b : Fin 64), y = ix2 a b := ⟨y 0, y 1, eq_ix2 y⟩
  blk_simp [idx t]
  rw [after0_4]
  frame_out
  unfold_payloads
  pointwise
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2,
    val_main_cst_3, val_main_cst_4, val_main_cst_5, val_main_cst_6, val_main_cst_7]
  blk_point [iblk, V, idx t]

/-- the new first moment, -/
theorem arr5 (c : Dev nD) : (dats m 0 c).arrAt 5 cfg0.N =
    val_main_v4 (F := Ideal) (m ((c.tc : Thread nD τ).loc main_arg1)) (m ((c.tc : Thread nD τ).loc main_arg2)) := by
  refine (dats m 0 c).arrAt_eq_of_covers 5 _ (by decide +kernel) fun t hf y => ?_
  obtain ⟨a, b, rfl⟩ : ∃ (a : Fin 12) (b : Fin 64), y = ix2 a b := ⟨y 0, y 1, eq_ix2 y⟩
  blk_simp [idx t]
  rw [after0_5]
  frame_out
  unfold_payloads
  pointwise
  pointwise [val_main_v4, val_main_v3, val_main_v2, val_main_v1, val_main_v0, val_main_cst, val_main_cst_0]
  blk_point [iblk, V, idx t]

/-- and the new second moment. -/
theorem arr6 (c : Dev nD) : (dats m 0 c).arrAt 6 cfg0.N =
    val_main_v10 (F := Ideal) (m ((c.tc : Thread nD τ).loc main_arg1)) (m ((c.tc : Thread nD τ).loc main_arg3)) := by
  refine (dats m 0 c).arrAt_eq_of_covers 6 _ (by decide +kernel) fun t hf y => ?_
  obtain ⟨a, b, rfl⟩ : ∃ (a : Fin 12) (b : Fin 64), y = ix2 a b := ⟨y 0, y 1, eq_ix2 y⟩
  blk_simp [idx t]
  rw [after0_6]
  frame_out
  unfold_payloads
  pointwise
  pointwise [val_main_v10, val_main_v9, val_main_v8, val_main_v7, val_main_v6, val_main_v5, val_main_cst_1, val_main_cst_2]
  blk_point [iblk, V, idx t]

end Cert.AdamConvValue
-- ==== Proof.AdamSguWValue.lean ====
/- The optimiser's step on a small parameter kept as 2048 rows of 128, the spatial gate's weights. -/
module

public import proofs.«01_k».proof.Proof.Gen.AdamSguWIdeal.Value
public import proofs.«01_k».proof.Proof.Gen.AdamSguWReferenceIdeal.Run
public import proofs.«01_k».proof.Proof.Gen.AdamSguWReferenceIdeal.Read
public import Idealize.ShloMosaic.Lib.Pipeline.ValueKit
public import Idealize.ShloMosaic.Lib.Pointwise

@[expose] public section

set_option maxRecDepth 16384

noncomputable section

namespace Cert.AdamSguWValue

open Idealize.ShloMosaic Idealize.ShloMosaic.TcCoe Idealize.SL.Sem
open Cert.AdamSguWIdeal Cert.AdamSguWIdeal.Gen
open Idealize.ShloMosaic.Pipeline (Dat)

variable (m : (ℓ : Loc nD τ sig) → Buf (Elt Ideal) ℓ)

open Cert.AdamSguWReferenceIdeal.Read

/-- The blocks of the call's point `t`. -/
theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] := by
  decide +kernel

/-- The change of the parameter is the reference's, -/
theorem arr4 (c : Dev nD) : (dats m 0 c).arrAt 4 cfg0.N =
    val_main_v23 (F := Ideal) (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  obtain ⟨a, b, rfl⟩ : ∃ (a : Fin 512) (b : Fin 128), y = ix2 a b := ⟨y 0, y 1, eq_ix2 y⟩
  blk_simp [idx t]
  rw [after0_4]
  frame_out
  unfold_payloads
  pointwise
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2,
    val_main_cst_3, val_main_cst_4, val_main_cst_5, val_main_cst_6, val_main_cst_7]
  blk_point [iblk, V, idx t]

/-- the new first moment, -/
theorem arr5 (c : Dev nD) : (dats m 0 c).arrAt 5 cfg0.N =
    val_main_v4 (F := Ideal) (m ((c.tc : Thread nD τ).loc main_arg1)) (m ((c.tc : Thread nD τ).loc main_arg2)) := by
  refine (dats m 0 c).arrAt_eq_of_covers 5 _ (by decide +kernel) fun t hf y => ?_
  obtain ⟨a, b, rfl⟩ : ∃ (a : Fin 512) (b : Fin 128), y = ix2 a b := ⟨y 0, y 1, eq_ix2 y⟩
  blk_simp [idx t]
  rw [after0_5]
  frame_out
  unfold_payloads
  pointwise
  pointwise [val_main_v4, val_main_v3, val_main_v2, val_main_v1, val_main_v0, val_main_cst, val_main_cst_0]
  blk_point [iblk, V, idx t]

/-- and the new second moment. -/
theorem arr6 (c : Dev nD) : (dats m 0 c).arrAt 6 cfg0.N =
    val_main_v10 (F := Ideal) (m ((c.tc : Thread nD τ).loc main_arg1)) (m ((c.tc : Thread nD τ).loc main_arg3)) := by
  refine (dats m 0 c).arrAt_eq_of_covers 6 _ (by decide +kernel) fun t hf y => ?_
  obtain ⟨a, b, rfl⟩ : ∃ (a : Fin 512) (b : Fin 128), y = ix2 a b := ⟨y 0, y 1, eq_ix2 y⟩
  blk_simp [idx t]
  rw [after0_6]
  frame_out
  unfold_payloads
  pointwise
  pointwise [val_main_v10, val_main_v9, val_main_v8, val_main_v7, val_main_v6, val_main_v5, val_main_cst_1, val_main_cst_2]
  blk_point [iblk, V, idx t]

end Cert.AdamSguWValue
-- ==== Proof.AdamSguBValue.lean ====
/- The optimiser's step on a small parameter kept as 16 rows of 128, the spatial gate's offsets. -/
module

public import proofs.«01_k».proof.Proof.Gen.AdamSguBIdeal.Value
public import proofs.«01_k».proof.Proof.Gen.AdamSguBReferenceIdeal.Run
public import proofs.«01_k».proof.Proof.Gen.AdamSguBReferenceIdeal.Read
public import Idealize.ShloMosaic.Lib.Pipeline.ValueKit
public import Idealize.ShloMosaic.Lib.Pointwise

@[expose] public section

set_option maxRecDepth 16384

noncomputable section

namespace Cert.AdamSguBValue

open Idealize.ShloMosaic Idealize.ShloMosaic.TcCoe Idealize.SL.Sem
open Cert.AdamSguBIdeal Cert.AdamSguBIdeal.Gen
open Idealize.ShloMosaic.Pipeline (Dat)

variable (m : (ℓ : Loc nD τ sig) → Buf (Elt Ideal) ℓ)

open Cert.AdamSguBReferenceIdeal.Read

/-- The blocks of the call's point `t`. -/
theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] := by
  decide +kernel

/-- The change of the parameter is the reference's, -/
theorem arr4 (c : Dev nD) : (dats m 0 c).arrAt 4 cfg0.N =
    val_main_v23 (F := Ideal) (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  obtain ⟨a, b, rfl⟩ : ∃ (a : Fin 16) (b : Fin 128), y = ix2 a b := ⟨y 0, y 1, eq_ix2 y⟩
  blk_simp [idx t]
  rw [after0_4]
  frame_out
  unfold_payloads
  pointwise
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2,
    val_main_cst_3, val_main_cst_4, val_main_cst_5, val_main_cst_6, val_main_cst_7]
  blk_point [iblk, V, idx t]

/-- the new first moment, -/
theorem arr5 (c : Dev nD) : (dats m 0 c).arrAt 5 cfg0.N =
    val_main_v4 (F := Ideal) (m ((c.tc : Thread nD τ).loc main_arg1)) (m ((c.tc : Thread nD τ).loc main_arg2)) := by
  refine (dats m 0 c).arrAt_eq_of_covers 5 _ (by decide +kernel) fun t hf y => ?_
  obtain ⟨a, b, rfl⟩ : ∃ (a : Fin 16) (b : Fin 128), y = ix2 a b := ⟨y 0, y 1, eq_ix2 y⟩
  blk_simp [idx t]
  rw [after0_5]
  frame_out
  unfold_payloads
  pointwise
  pointwise [val_main_v4, val_main_v3, val_main_v2, val_main_v1, val_main_v0, val_main_cst, val_main_cst_0]
  blk_point [iblk, V, idx t]

/-- and the new second moment. -/
theorem arr6 (c : Dev nD) : (dats m 0 c).arrAt 6 cfg0.N =
    val_main_v10 (F := Ideal) (m ((c.tc : Thread nD τ).loc main_arg1)) (m ((c.tc : Thread nD τ).loc main_arg3)) := by
  refine (dats m 0 c).arrAt_eq_of_covers 6 _ (by decide +kernel) fun t hf y => ?_
  obtain ⟨a, b, rfl⟩ : ∃ (a : Fin 16) (b : Fin 128), y = ix2 a b := ⟨y 0, y 1, eq_ix2 y⟩
  blk_simp [idx t]
  rw [after0_6]
  frame_out
  unfold_payloads
  pointwise
  pointwise [val_main_v10, val_main_v9, val_main_v8, val_main_v7, val_main_v6, val_main_v5, val_main_cst_1, val_main_cst_2]
  blk_point [iblk, V, idx t]

end Cert.AdamSguBValue
-- ==== Proof.OptimiserClaims.lean ====
/- The loss and the optimiser's steps compute what their references compute, in exact arithmetic: each call's arrays are the reference's values. -/
module

public import proofs.«01_k».proof.Defs
public import proofs.«01_k».proof.Proof.LossValue
public import proofs.«01_k».proof.Proof.AdamNormValue
public import proofs.«01_k».proof.Proof.AdamHeadValue
public import proofs.«01_k».proof.Proof.AdamSguNormValue
public import proofs.«01_k».proof.Proof.AdamConvValue
public import proofs.«01_k».proof.Proof.AdamSguWValue
public import proofs.«01_k».proof.Proof.AdamSguBValue

@[expose] public section

noncomputable section

namespace Cert.OptimiserClaims

open Idealize.ShloMosaic Idealize.ShloMosaic.TcCoe Idealize.SL.Sem

theorem loss : Cert.algebraic_LossIdeal_LossReferenceIdeal (hLossIdeal := Cert.LossIdeal.Gen.facts)
    (hLossReferenceIdeal := Cert.LossReferenceIdeal.Gen.facts) := by
  intro m g m' g' _ hagree
  refine ⟨fun c => (Cert.LossIdeal.Gen.dats m 0 c).arrAt 2 Cert.LossIdeal.cfg0.N,
    fun c => (Cert.LossIdeal.Gen.dats m 0 c).arrAt 3 Cert.LossIdeal.cfg0.N,
    Cert.LossIdeal.Value.run_blocks m g,
    (θ_run Cert.LossReferenceIdeal.defs _ _).mono (fun r h c => ?_) (Cert.LossReferenceIdeal.Value.run m' g')⟩
  obtain ⟨h0, h1, h⟩ := h c
  obtain ⟨e0, e1⟩ := hagree c
  refine ⟨?_, ?_, h⟩
  · refine h0.trans ?_
    rw [Cert.LossReferenceIdeal.Read.val_main_v22_eq, e0, e1]
    exact (Cert.LossValue.arr2 m c).symm
  · refine h1.trans ?_
    rw [Cert.LossReferenceIdeal.Read.val_main_v21_eq, e0, e1]
    exact (Cert.LossValue.arr3 m c).symm

theorem adamNorm : Cert.algebraic_AdamNormIdeal_AdamNormReferenceIdeal (hAdamNormIdeal := Cert.AdamNormIdeal.Gen.facts)
    (hAdamNormReferenceIdeal := Cert.AdamNormReferenceIdeal.Gen.facts) := by
  intro m g m' g' _ hagree
  refine ⟨fun c => (Cert.AdamNormIdeal.Gen.dats m 0 c).arrAt 4 Cert.AdamNormIdeal.cfg0.N,
    fun c => (Cert.AdamNormIdeal.Gen.dats m 0 c).arrAt 5 Cert.AdamNormIdeal.cfg0.N,
    fun c => (Cert.AdamNormIdeal.Gen.dats m 0 c).arrAt 6 Cert.AdamNormIdeal.cfg0.N,
    Cert.AdamNormIdeal.Value.run_blocks m g,
    (θ_run Cert.AdamNormReferenceIdeal.defs _ _).mono (fun r h c => ?_) (Cert.AdamNormReferenceIdeal.Value.run m' g')⟩
  obtain ⟨h0, h1, h2, h⟩ := h c
  obtain ⟨e0, e1, e2, e3⟩ := hagree c
  refine ⟨?_, ?_, ?_, h⟩
  · refine h0.trans ?_
    rw [Cert.AdamNormReferenceIdeal.Read.val_main_v23_eq, e0, e1, e2, e3]
    exact (Cert.AdamNormValue.arr4 m c).symm
  · refine h1.trans ?_
    rw [Cert.AdamNormReferenceIdeal.Read.val_main_v4_eq, e1, e2]
    exact (Cert.AdamNormValue.arr5 m c).symm
  · refine h2.trans ?_
    rw [Cert.AdamNormReferenceIdeal.Read.val_main_v10_eq, e1, e3]
    exact (Cert.AdamNormValue.arr6 m c).symm

theorem adamHead : Cert.algebraic_AdamHeadIdeal_AdamHeadReferenceIdeal (hAdamHeadIdeal := Cert.AdamHeadIdeal.Gen.facts)
    (hAdamHeadReferenceIdeal := Cert.AdamHeadReferenceIdeal.Gen.facts) := by
  intro m g m' g' _ hagree
  refine ⟨fun c => (Cert.AdamHeadIdeal.Gen.dats m 0 c).arrAt 4 Cert.AdamHeadIdeal.cfg0.N,
    fun c => (Cert.AdamHeadIdeal.Gen.dats m 0 c).arrAt 5 Cert.AdamHeadIdeal.cfg0.N,
    fun c => (Cert.AdamHeadIdeal.Gen.dats m 0 c).arrAt 6 Cert.AdamHeadIdeal.cfg0.N,
    Cert.AdamHeadIdeal.Value.run_blocks m g,
    (θ_run Cert.AdamHeadReferenceIdeal.defs _ _).mono (fun r h c => ?_) (Cert.AdamHeadReferenceIdeal.Value.run m' g')⟩
  obtain ⟨h0, h1, h2, h⟩ := h c
  obtain ⟨e0, e1, e2, e3⟩ := hagree c
  refine ⟨?_, ?_, ?_, h⟩
  · refine h0.trans ?_
    rw [Cert.AdamHeadReferenceIdeal.Read.val_main_v23_eq, e0, e1, e2, e3]
    exact (Cert.AdamHeadValue.arr4 m c).symm
  · refine h1.trans ?_
    rw [Cert.AdamHeadReferenceIdeal.Read.val_main_v4_eq, e1, e2]
    exact (Cert.AdamHeadValue.arr5 m c).symm
  · refine h2.trans ?_
    rw [Cert.AdamHeadReferenceIdeal.Read.val_main_v10_eq, e1, e3]
    exact (Cert.AdamHeadValue.arr6 m c).symm

theorem adamSguNorm : Cert.algebraic_AdamSguNormIdeal_AdamSguNormReferenceIdeal (hAdamSguNormIdeal := Cert.AdamSguNormIdeal.Gen.facts)
    (hAdamSguNormReferenceIdeal := Cert.AdamSguNormReferenceIdeal.Gen.facts) := by
  intro m g m' g' _ hagree
  refine ⟨fun c => (Cert.AdamSguNormIdeal.Gen.dats m 0 c).arrAt 4 Cert.AdamSguNormIdeal.cfg0.N,
    fun c => (Cert.AdamSguNormIdeal.Gen.dats m 0 c).arrAt 5 Cert.AdamSguNormIdeal.cfg0.N,
    fun c => (Cert.AdamSguNormIdeal.Gen.dats m 0 c).arrAt 6 Cert.AdamSguNormIdeal.cfg0.N,
    Cert.AdamSguNormIdeal.Value.run_blocks m g,
    (θ_run Cert.AdamSguNormReferenceIdeal.defs _ _).mono (fun r h c => ?_) (Cert.AdamSguNormReferenceIdeal.Value.run m' g')⟩
  obtain ⟨h0, h1, h2, h⟩ := h c
  obtain ⟨e0, e1, e2, e3⟩ := hagree c
  refine ⟨?_, ?_, ?_, h⟩
  · refine h0.trans ?_
    rw [Cert.AdamSguNormReferenceIdeal.Read.val_main_v23_eq, e0, e1, e2, e3]
    exact (Cert.AdamSguNormValue.arr4 m c).symm
  · refine h1.trans ?_
    rw [Cert.AdamSguNormReferenceIdeal.Read.val_main_v4_eq, e1, e2]
    exact (Cert.AdamSguNormValue.arr5 m c).symm
  · refine h2.trans ?_
    rw [Cert.AdamSguNormReferenceIdeal.Read.val_main_v10_eq, e1, e3]
    exact (Cert.AdamSguNormValue.arr6 m c).symm

theorem adamConv : Cert.algebraic_AdamConvIdeal_AdamConvReferenceIdeal (hAdamConvIdeal := Cert.AdamConvIdeal.Gen.facts)
    (hAdamConvReferenceIdeal := Cert.AdamConvReferenceIdeal.Gen.facts) := by
  intro m g m' g' _ hagree
  refine ⟨fun c => (Cert.AdamConvIdeal.Gen.dats m 0 c).arrAt 4 Cert.AdamConvIdeal.cfg0.N,
    fun c => (Cert.AdamConvIdeal.Gen.dats m 0 c).arrAt 5 Cert.AdamConvIdeal.cfg0.N,
    fun c => (Cert.AdamConvIdeal.Gen.dats m 0 c).arrAt 6 Cert.AdamConvIdeal.cfg0.N,
    Cert.AdamConvIdeal.Value.run_blocks m g,
    (θ_run Cert.AdamConvReferenceIdeal.defs _ _).mono (fun r h c => ?_) (Cert.AdamConvReferenceIdeal.Value.run m' g')⟩
  obtain ⟨h0, h1, h2, h⟩ := h c
  obtain ⟨e0, e1, e2, e3⟩ := hagree c
  refine ⟨?_, ?_, ?_, h⟩
  · refine h0.trans ?_
    rw [Cert.AdamConvReferenceIdeal.Read.val_main_v23_eq, e0, e1, e2, e3]
    exact (Cert.AdamConvValue.arr4 m c).symm
  · refine h1.trans ?_
    rw [Cert.AdamConvReferenceIdeal.Read.val_main_v4_eq, e1, e2]
    exact (Cert.AdamConvValue.arr5 m c).symm
  · refine h2.trans ?_
    rw [Cert.AdamConvReferenceIdeal.Read.val_main_v10_eq, e1, e3]
    exact (Cert.AdamConvValue.arr6 m c).symm

theorem adamSguW : Cert.algebraic_AdamSguWIdeal_AdamSguWReferenceIdeal (hAdamSguWIdeal := Cert.AdamSguWIdeal.Gen.facts)
    (hAdamSguWReferenceIdeal := Cert.AdamSguWReferenceIdeal.Gen.facts) := by
  intro m g m' g' _ hagree
  refine ⟨fun c => (Cert.AdamSguWIdeal.Gen.dats m 0 c).arrAt 4 Cert.AdamSguWIdeal.cfg0.N,
    fun c => (Cert.AdamSguWIdeal.Gen.dats m 0 c).arrAt 5 Cert.AdamSguWIdeal.cfg0.N,
    fun c => (Cert.AdamSguWIdeal.Gen.dats m 0 c).arrAt 6 Cert.AdamSguWIdeal.cfg0.N,
    Cert.AdamSguWIdeal.Value.run_blocks m g,
    (θ_run Cert.AdamSguWReferenceIdeal.defs _ _).mono (fun r h c => ?_) (Cert.AdamSguWReferenceIdeal.Value.run m' g')⟩
  obtain ⟨h0, h1, h2, h⟩ := h c
  obtain ⟨e0, e1, e2, e3⟩ := hagree c
  refine ⟨?_, ?_, ?_, h⟩
  · refine h0.trans ?_
    rw [Cert.AdamSguWReferenceIdeal.Read.val_main_v23_eq, e0, e1, e2, e3]
    exact (Cert.AdamSguWValue.arr4 m c).symm
  · refine h1.trans ?_
    rw [Cert.AdamSguWReferenceIdeal.Read.val_main_v4_eq, e1, e2]
    exact (Cert.AdamSguWValue.arr5 m c).symm
  · refine h2.trans ?_
    rw [Cert.AdamSguWReferenceIdeal.Read.val_main_v10_eq, e1, e3]
    exact (Cert.AdamSguWValue.arr6 m c).symm

theorem adamSguB : Cert.algebraic_AdamSguBIdeal_AdamSguBReferenceIdeal (hAdamSguBIdeal := Cert.AdamSguBIdeal.Gen.facts)
    (hAdamSguBReferenceIdeal := Cert.AdamSguBReferenceIdeal.Gen.facts) := by
  intro m g m' g' _ hagree
  refine ⟨fun c => (Cert.AdamSguBIdeal.Gen.dats m 0 c).arrAt 4 Cert.AdamSguBIdeal.cfg0.N,
    fun c => (Cert.AdamSguBIdeal.Gen.dats m 0 c).arrAt 5 Cert.AdamSguBIdeal.cfg0.N,
    fun c => (Cert.AdamSguBIdeal.Gen.dats m 0 c).arrAt 6 Cert.AdamSguBIdeal.cfg0.N,
    Cert.AdamSguBIdeal.Value.run_blocks m g,
    (θ_run Cert.AdamSguBReferenceIdeal.defs _ _).mono (fun r h c => ?_) (Cert.AdamSguBReferenceIdeal.Value.run m' g')⟩
  obtain ⟨h0, h1, h2, h⟩ := h c
  obtain ⟨e0, e1, e2, e3⟩ := hagree c
  refine ⟨?_, ?_, ?_, h⟩
  · refine h0.trans ?_
    rw [Cert.AdamSguBReferenceIdeal.Read.val_main_v23_eq, e0, e1, e2, e3]
    exact (Cert.AdamSguBValue.arr4 m c).symm
  · refine h1.trans ?_
    rw [Cert.AdamSguBReferenceIdeal.Read.val_main_v4_eq, e1, e2]
    exact (Cert.AdamSguBValue.arr5 m c).symm
  · refine h2.trans ?_
    rw [Cert.AdamSguBReferenceIdeal.Read.val_main_v10_eq, e1, e3]
    exact (Cert.AdamSguBValue.arr6 m c).symm

end Cert.OptimiserClaims

end
-- ==== Proof.NormFrames.lean ====
/- The product fused with the norm: the printed program and its idealization have the same text, so the idealization's run
   is the program's. -/
module

public import proofs.«01_k».proof.Proof.Gen.NormIn
public import proofs.«01_k».proof.Proof.NormInRun
public import proofs.«01_k».proof.Proof.Gen.NormFf
public import proofs.«01_k».proof.Proof.NormFfRun
public import proofs.«01_k».proof.Proof.Gen.NormGate
public import proofs.«01_k».proof.Proof.NormGateRun

@[expose] public section

noncomputable section

namespace Cert.NormFrames

open Idealize.ShloMosaic Idealize.SL.Sem

open Cert.NormInIdeal in
theorem normIn_body (i : grid0.Coords) (arg1 : Memref sig .tc .vmem S2048x1024 .f32) (harg1 : arg1.IsWhole) (arg2 : Memref sig .tc .vmem S1x1024 .f32) (harg2 : arg2.IsWhole)
    (arg3 : Memref sig .tc .vmem S1024x256 .bf16) (harg3 : arg3.IsWhole) (arg4 : Memref sig .tc .vmem S2048x1024 .bf16) (harg4 : arg4.IsWhole)
    (arg5 : Memref sig .tc .vmem S2048x256 .bf16) (harg5 : arg5.IsWhole) :
    Cert.NormIn.cc0_proj (F := Bits) i arg1 harg1 arg2 harg2 arg3 harg3 arg4 harg4 arg5 harg5 =
      Cert.NormInIdeal.cc0_proj (F := Bits) i arg1 harg1 arg2 harg2 arg3 harg3 arg4 harg4 arg5 harg5 := by
  unfold Cert.NormIn.cc0_proj Cert.NormInIdeal.cc0_proj
  rfl

theorem normIn_defs : Cert.NormIn.defs (F := Bits) = Cert.NormInIdeal.defs (F := Bits) := by
  have bodies : Cert.NormIn.defs₀ (F := Bits) = Cert.NormInIdeal.defs₀ (F := Bits) := by
    unfold Cert.NormIn.defs₀ Cert.NormInIdeal.defs₀
    refine congrArg Defs.onTc (funext fun l => funext fun a => ?_)
    match l with
    | 0 => exact normIn_body ..
  unfold Cert.NormIn.defs Cert.NormInIdeal.defs
  rw [bodies]
  rfl

open Cert.NormFfIdeal in
theorem normFf_body (i : grid0.Coords) (arg1 : Memref sig .tc .vmem S2048x1024 .f32) (harg1 : arg1.IsWhole) (arg2 : Memref sig .tc .vmem S1x1024 .f32) (harg2 : arg2.IsWhole)
    (arg3 : Memref sig .tc .vmem S1x1024x1024 .bf16) (harg3 : arg3.IsWhole) (arg4 : Memref sig .tc .vmem S2048x1024 .bf16) (harg4 : arg4.IsWhole)
    (arg5 : Memref sig .tc .vmem S2048x1024 .bf16) (harg5 : arg5.IsWhole) :
    Cert.NormFf.cc0_ff1 (F := Bits) i arg1 harg1 arg2 harg2 arg3 harg3 arg4 harg4 arg5 harg5 =
      Cert.NormFfIdeal.cc0_ff1 (F := Bits) i arg1 harg1 arg2 harg2 arg3 harg3 arg4 harg4 arg5 harg5 := by
  unfold Cert.NormFf.cc0_ff1 Cert.NormFfIdeal.cc0_ff1
  rfl

theorem normFf_defs : Cert.NormFf.defs (F := Bits) = Cert.NormFfIdeal.defs (F := Bits) := by
  have bodies : Cert.NormFf.defs₀ (F := Bits) = Cert.NormFfIdeal.defs₀ (F := Bits) := by
    unfold Cert.NormFf.defs₀ Cert.NormFfIdeal.defs₀
    refine congrArg Defs.onTc (funext fun l => funext fun a => ?_)
    match l with
    | 0 => exact normFf_body ..
  unfold Cert.NormFf.defs Cert.NormFfIdeal.defs
  rw [bodies]
  rfl

open Cert.NormGateIdeal in
theorem normGate_body (i : grid0.Coords) (arg1 : Memref sig .tc .vmem S2048x1024 .f32) (harg1 : arg1.IsWhole) (arg2 : Memref sig .tc .vmem S1x1024 .f32) (harg2 : arg2.IsWhole)
    (arg3 : Memref sig .tc .vmem S1024x512 .bf16) (harg3 : arg3.IsWhole) (arg4 : Memref sig .tc .vmem S2048x1024 .bf16) (harg4 : arg4.IsWhole)
    (arg5 : Memref sig .tc .vmem S2048x512 .bf16) (harg5 : arg5.IsWhole) :
    Cert.NormGate.cc0_gate (F := Bits) i arg1 harg1 arg2 harg2 arg3 harg3 arg4 harg4 arg5 harg5 =
      Cert.NormGateIdeal.cc0_gate (F := Bits) i arg1 harg1 arg2 harg2 arg3 harg3 arg4 harg4 arg5 harg5 := by
  unfold Cert.NormGate.cc0_gate Cert.NormGateIdeal.cc0_gate
  rfl

theorem normGate_defs : Cert.NormGate.defs (F := Bits) = Cert.NormGateIdeal.defs (F := Bits) := by
  have bodies : Cert.NormGate.defs₀ (F := Bits) = Cert.NormGateIdeal.defs₀ (F := Bits) := by
    unfold Cert.NormGate.defs₀ Cert.NormGateIdeal.defs₀
    refine congrArg Defs.onTc (funext fun l => funext fun a => ?_)
    match l with
    | 0 => exact normGate_body ..
  unfold Cert.NormGate.defs Cert.NormGateIdeal.defs
  rw [bodies]
  rfl

end Cert.NormFrames

end
-- ==== Proof.SguSpec.lean ====
/- The gradients of the gated unit that mixes the rows of a chunk, index by index, and the sums that state them. -/
module

public import Idealize.ShloMosaic.Lib.Pointwise
public import Idealize.ShloMosaic.Lib.IdealHost
public import Idealize.ShloMosaic.Lib.Pipeline.ValueKit
public import Idealize.ShloMosaic.PureOps.Ideal.Laws

@[expose] public section

noncomputable section

namespace Cert.SguSpec

open Idealize.ShloMosaic

/-- A value that is a real number. -/
def Real' (x : EReal) : Prop := ∃ r : ℝ, x = r

theorem Real'.mul {x y : EReal} : Real' x → Real' y → Real' (x * y) := by
  rintro ⟨a, rfl⟩ ⟨b, rfl⟩; exact ⟨a * b, (EReal.coe_mul a b).symm⟩

theorem Real'.sub_self {x : EReal} : Real' x → x - x = 0 := by
  rintro ⟨a, rfl⟩; rw [← EReal.coe_sub, _root_.sub_self, EReal.coe_zero]

/-- The product with half and the error function that the unit applies to an entry. -/
def gelu (x : EReal) : EReal :=
  Ideal.ofBits .f32 1056964608#32 * x * (1 + Ideal.erf (x * Ideal.ofBits .f32 1060439283#32))

theorem real_half : Real' (Ideal.ofBits .f32 1056964608#32) :=
  ⟨1 / 2, by simp [Ideal.ofBits, Ideal.ieee, -EReal.coe_mul]; norm_num⟩

theorem real_scale : Real' (Ideal.ofBits .f32 1060439283#32) := by
  simp only [Ideal.ofBits, Ideal.ieee]
  rw [if_neg (by decide), if_neg (by decide)]
  exact ⟨_, rfl⟩

theorem real_gelu {x : EReal} (h : Real' x) : Real' (gelu x) := by
  refine (real_half.mul h).mul ?_
  obtain ⟨r, hr⟩ := h.mul real_scale
  rw [hr, Ideal.erf_coe]
  exact ⟨_, by rw [← EReal.coe_one, ← EReal.coe_add]⟩

/-- A head's width is 64, and its reciprocal is exact. -/
theorem mean (s : EReal) : Ideal.div s (Ideal.ofBits .f32 1115684864#32) = s * Ideal.ofBits .f32 1015021568#32 := by
  rw [show Ideal.ofBits .f32 1115684864#32 = ((64 : ℝ) : EReal) by simp [Ideal.ofBits, Ideal.ieee, -EReal.coe_mul]; norm_num,
    Ideal.div_coe (by norm_num)]
  refine congrArg (s * ·) ?_
  simp [Ideal.ofBits, Ideal.ieee, -EReal.coe_mul]; norm_num

/-- The columns of a head, out of all the columns. -/
theorem sum_head (f : Fin 256 → EReal) (g : Fin 4) :
    (∑ x : Fin 256, if x.val / 64 = g.val then f x else 0) = ∑ e : Fin 64, f ⟨g.val * 64 + e.val, by omega⟩ := by
  rw [← Fin.sum_mul_add_congr (S := 4) (n := 64) (F := fun s e => if s = g then f ⟨s.val * 64 + e.val, by omega⟩ else 0)]
  · rw [Finset.sum_eq_single g (fun s _ hs => by simp [hs]) (by simp)]
    simp
  · intro s k hl
    have : (s.val * 64 + k.val) / 64 = s.val := by omega
    simp only [this, Fin.ext_iff]

section Entries

variable (dy : FVec Ideal (⟨2, ![2048, 1024]⟩ : Shape) .bf16) (proj : FVec Ideal (⟨2, ![2048, 2816]⟩ : Shape) .bf16)
  (gain : FVec Ideal (⟨1, ![256]⟩ : Shape) .f32) (w : FVec Ideal (⟨3, ![4, 128, 128]⟩ : Shape) .f32)

/-- The gradient that reaches the mixed rows. -/
def du (n : Fin 2048) (j : Fin 256) : EReal :=
  dy (ix2 n ⟨768 + j.val, by omega⟩) * gelu (proj (ix2 n ⟨2304 + j.val, by omega⟩))

/-- The entry that the norm takes. -/
def v (n : Fin 2048) (j : Fin 256) : EReal := gelu (proj (ix2 n ⟨2560 + j.val, by omega⟩))

/-- The reciprocal root of a head's mean square. -/
def root (n : Fin 2048) (h : Fin 4) : EReal :=
  Ideal.rsqrt ((∑ e : Fin 64, v proj n ⟨h.val * 64 + e.val, by omega⟩ * v proj n ⟨h.val * 64 + e.val, by omega⟩) *
    Ideal.ofBits .f32 1015021568#32 + Ideal.ofBits .f32 897988541#32)

/-- The normalised entry, and the same times its gain. -/
def normed (n : Fin 2048) (j : Fin 256) : EReal := v proj n j * root proj n ⟨j.val / 64, by omega⟩

def scaled (n : Fin 2048) (j : Fin 256) : EReal := normed proj n j * gain (ix1 j)

/-- A row of a chunk. -/
def row (q : Fin 16) (a : Fin 128) : Fin 2048 := ⟨q.val * 128 + a.val, by omega⟩

/-- A chunk's part of the gradient in a head's weights: rows `a` against rows `b`, over the head's columns. -/
def dwPart (q : Fin 16) (g : Fin 4) (a b : Fin 128) : EReal :=
  ∑ x : Fin 256, if x.val / 64 = g.val then du dy proj (row q a) x * scaled proj gain (row q b) x else 0

/-- A chunk's part of the gradient in the bias. -/
def dbPart (q : Fin 16) (a l : Fin 128) : EReal :=
  ∑ x : Fin 256, if x.val / 64 = l.val then du dy proj (row q a) x else 0

/-- The gradient in the mixed rows' entry, through the weights of its head that lie on or below the diagonal. -/
def dvv (n : Fin 2048) (j : Fin 256) : EReal :=
  ∑ a : Fin 128, if n.val % 128 ≤ a.val then
    w (ix3 ⟨j.val / 64, by omega⟩ a ⟨n.val % 128, by omega⟩) * du dy proj ⟨n.val / 128 * 128 + a.val, by omega⟩ j else 0

/-- A row's part of the gradient in the gain. -/
def dgPart (n : Fin 2048) (j : Fin 256) : EReal := dvv dy proj w n j * normed proj n j

/-- The gated rows of the forward pass: the rows of a chunk mixed by the weights of the head on and below the diagonal, the
    bias added. -/
def gated (bias : FVec Ideal (⟨2, ![4, 128]⟩ : Shape) .f32) (n : Fin 2048) (j : Fin 256) : EReal :=
  gelu (proj (ix2 n ⟨2304 + j.val, by omega⟩)) * (bias (ix2 ⟨j.val / 64, by omega⟩ ⟨n.val % 128, by omega⟩) +
    ∑ b : Fin 128, if b.val ≤ n.val % 128 then
      w (ix3 ⟨j.val / 64, by omega⟩ ⟨n.val % 128, by omega⟩ b) * scaled proj gain (row ⟨n.val / 128, by omega⟩ b) j else 0)

end Entries

end Cert.SguSpec
-- ==== Proof.SguKernel.lean ====
/- What the kernel of the gated unit's gradient computes at a point of its grid, index by index. -/
module

public import proofs.«01_k».proof.Proof.Gen.SguIdeal.Value
public import proofs.«01_k».proof.Proof.SguSpec
public import Idealize.ShloMosaic.Lib.Pipeline.ValueKit
public import Idealize.ShloMosaic.Lib.Pointwise

@[expose] public section

set_option maxRecDepth 16384

noncomputable section

namespace Cert.SguKernel

open Cert.SguIdeal Cert.SguIdeal.Gen Idealize.ShloMosaic Idealize.ShloMosaic.TcCoe Idealize.SL.Sem
open Idealize.ShloMosaic.Pipeline (Dat)
open Cert.SguSpec

/-- A selection by equality of two counters. -/
theorem select_eq {α : Type} (a n : Nat) (ha : a < 2 ^ 31) (hn : n < 2 ^ 31) (u v : α) :
    Scalar.select (IntOp.cmpi .eq (BitVec.ofNat 32 a) (BitVec.ofNat 32 n)) u v = if a = n then u else v := by
  rw [WordCmp.cmpi_eq_ofNat (by omega) (by omega)]
  by_cases h : a = n <;> simp [h, Scalar.select]

/-- A selection by a column's head. -/
theorem select_head {α : Type} (x : Fin 256) (n : Nat) (hn : n < 2 ^ 31) (u v : α) :
    Scalar.select (IntOp.cmpi .eq (BitVec.ofNat 32 (x.val / 64)) (BitVec.ofNat 32 n)) u v = if x.val / 64 = n then u else v :=
  select_eq _ _ (by omega) hn u v

/-- A counter below 256 divided by 64 and rounded down, as the program writes it. -/
theorem floor (a : Fin 256) {s : BitVec 32} (hs : s = 1#32) :
    Scalar.select
      (IntOp.andi
        (IntOp.cmpi .ne
          (IntOp.subi (BitVec.setWidth 32 (IntOp.cmpi .sgt (BitVec.ofNat 32 a.val) 0#32))
            (BitVec.setWidth 32 (IntOp.cmpi .slt (BitVec.ofNat 32 a.val) 0#32))) s)
        (IntOp.cmpi .ne (IntOp.remsi .vector (BitVec.ofNat 32 a.val) 64#32) 0#32))
      (IntOp.subi (IntOp.divsi .vector (BitVec.ofNat 32 a.val) 64#32) 1#32)
      (IntOp.divsi .vector (BitVec.ofNat 32 a.val) 64#32) = BitVec.ofNat 32 (a.val / 64) := by
  subst hs
  revert a
  decide +kernel

/-- A column's head, as the kernel's counter says it. -/
theorem head (a : Fin 128) (b : Fin 256) : k0_pay24 (ix2 a b) = BitVec.ofNat 32 (b.val / 64) := by
  unfold k0_pay24
  pointwise
  exact floor b (by decide)

/-- A comparison of two counters, as a number. -/
theorem flag (a n : Nat) (ha : a < 2 ^ 31) (hn : n < 2 ^ 31) :
    (FloatOps.sitofp (F := Ideal) FTy.f32 (BitVec.setWidth 32 (IntOp.cmpi .eq (BitVec.ofNat 32 a) (BitVec.ofNat 32 n))) : EReal) =
      if a = n then 1 else 0 := by
  rw [WordCmp.cmpi_eq_ofNat (by omega) (by omega)]
  by_cases h : a = n <;> simp [h, FloatOps.sitofp]

/-- A selection by the lower triangle. -/
theorem tri {α : Type} (a b : Fin 128) (u v : α) : Scalar.select (k0_pay25 (ix2 a b)) u v = if b.val ≤ a.val then u else v := by
  unfold k0_pay25
  pointwise
  rw [WordCmp.cmpi_sge_ofNat (by omega) (by omega)]
  by_cases h : b.val ≤ a.val <;> simp [h, Scalar.select]

/-- The columns of a head, marked. -/
theorem mark (a : Fin 256) (b : Fin 128) :
    ((k0_pay30 (F := Ideal) (iota Kind.tc S256x128 32 [0] iota_S256x128_d0_w32) (64#32) k0_pay28 k0_pay29 1#32) (ix2 a b) : EReal) =
      if a.val / 64 = b.val then 1 else 0 := by
  unfold k0_pay30 k0_pay28 k0_pay29
  pointwise
  rw [floor a (by decide), flag _ _ (by omega) (by omega)]

/-- The columns of one head against each other, marked. -/
theorem block (a b : Fin 256) :
    (k0_pay19 (F := Ideal) k0_pay16 (iota Kind.tc S256x256 32 [1] iota_S256x256_d1_w32) (64#32) k0_pay17 k0_pay18 1#32 0#32
      (ix2 a b) : EReal) = if a.val / 64 = b.val / 64 then 1 else 0 := by
  unfold k0_pay19 k0_pay16 k0_pay17 k0_pay18
  pointwise
  rw [floor a (by decide), floor b (by decide), flag _ _ (by omega) (by omega)]

/-- A row of a chunk of a row block. -/
def rowt (s : Fin 4) (a : Fin 128) : Fin 512 := ⟨s.val * 128 + a.val, by omega⟩

section Payloads

variable (U D : FVec Ideal S512x256 .f32) (VV : FVec Ideal S512x256 .bf16)

/-- A row block's part of the gradient in a head's weights. -/
def dwSum (g : Fin 4) (a b : Fin 128) : EReal :=
  ∑ s : Fin 4, ∑ x : Fin 256, if x.val / 64 = g.val then
    D (ix2 (rowt s a) x) * U (ix2 (rowt s a) x) * VV (ix2 (rowt s b) x) else 0

theorem dw_pieces (a b : Fin 128) :
    (k0_pay106 U k0_pay24 VV D (k0_pay84 VV (k0_pay66 k0_pay24 VV (k0_pay48 U k0_pay24 VV D k0_pay31) (k0_pay63 U D))
      (k0_pay83 U k0_pay24 D)) (ix2 a b) : EReal) = dwSum U D VV 0 a b ∧
    (k0_pay109 VV (k0_pay86 k0_pay24 VV (k0_pay69 k0_pay24 VV (k0_pay51 VV k0_pay32 (k0_pay44 U D) (k0_pay49 k0_pay24)
        (FloatOps.ofBits FTy.f32 0#32)) (k0_pay63 U D)) (k0_pay80 U D)) (k0_pay102 U D) (k0_pay107 k0_pay24)
      (FloatOps.ofBits FTy.f32 0#32) (ix2 a b) : EReal) = dwSum U D VV 1 a b ∧
    (k0_pay112 k0_pay24 VV (k0_pay90 (k0_pay71 k0_pay24 VV (k0_pay54 k0_pay24 VV k0_pay33 (k0_pay44 U D)) (k0_pay63 U D) 2#32)
        (k0_pay87 k0_pay24 (k0_pay80 U D)) (k0_pay89 VV) (constant S128x128 FTy.f32 0#32)) (k0_pay102 U D) (ix2 a b) : EReal) =
      dwSum U D VV 2 a b ∧
    (k0_pay115 VV (k0_pay92 k0_pay24 VV (k0_pay73 k0_pay24 VV (k0_pay57 VV k0_pay34 (k0_pay55 k0_pay24 (k0_pay44 U D)))
        (k0_pay63 U D)) (k0_pay80 U D)) (k0_pay113 k0_pay24 (k0_pay102 U D)) (ix2 a b) : EReal) = dwSum U D VV 3 a b := by
  have hd := head
  generalize k0_pay24 = H at hd ⊢
  unfold dwSum
  refine ⟨?_, ?_, ?_, ?_⟩
  all_goals
    unfold_payloads
    pointwise
    simp only [hd, select_head _ _ (by decide : 0 < 2 ^ 31), select_head _ 1 (by decide), select_head _ 2 (by decide), select_head _ 3 (by decide)]
    simp [Fin.sum_univ_four, rowt]

/-- A row block's part of the gradient in the bias, where the products are real numbers. -/
theorem db_piece (hr : ∀ l j, Real' (D (ix2 l j) * U (ix2 l j))) (I : FVec Ideal S256x128 .bf16)
    (a b : Fin 128) :
    (k0_pay103 U D I (k0_pay81 U D I (k0_pay64 I (k0_pay45 U D I k0_pay35) (k0_pay63 U D))) (ix2 a b) : EReal) =
      ∑ s : Fin 4, ∑ x : Fin 256, D (ix2 (rowt s a) x) * U (ix2 (rowt s a) x) * I (ix2 x b) := by
  unfold_payloads
  pointwise
  simp [(hr _ _).sub_self, Fin.sum_univ_four, rowt]

/-- The gradient in a mixed row's entry, a chunk at a time. -/
def dvvSum (W : Fin 4 → FVec Ideal S1x128x128 .f32) (s : Fin 4) (b : Fin 128) (j : Fin 256) : EReal :=
  ∑ a : Fin 128, if b.val ≤ a.val then
    W ⟨j.val / 64, by omega⟩ (ix3 0 a b) * (D (ix2 (rowt s a) j) * U (ix2 (rowt s a) j)) else 0

/-- The gradient in a mixed row's entry, a head at a time and then all the heads. -/
theorem heads (f : Fin 4 → Fin 128 → EReal) (b : Fin 128) (j : Fin 256) :
    (((∑ a : Fin 128, if j.val / 64 = 0 then (if b.val ≤ a.val then f 0 a else 0) else 0) +
        ∑ a : Fin 128, if j.val / 64 = 1 then (if b.val ≤ a.val then f 1 a else 0) else 0) +
        ∑ a : Fin 128, if j.val / 64 = 2 then (if b.val ≤ a.val then f 2 a else 0) else 0) +
        ∑ a : Fin 128, (if j.val / 64 = 3 then (if b.val ≤ a.val then f 3 a else 0) else 0) =
      ∑ a : Fin 128, if b.val ≤ a.val then f ⟨j.val / 64, by omega⟩ a else 0 := by
  rw [← Finset.sum_add_distrib, ← Finset.sum_add_distrib, ← Finset.sum_add_distrib]
  refine Finset.sum_congr rfl fun a _ => ?_
  obtain h | h | h | h : j.val / 64 = 0 ∨ j.val / 64 = 1 ∨ j.val / 64 = 2 ∨ j.val / 64 = 3 := by omega
  all_goals simp [h]

theorem dvv_pieces (W : Fin 4 → FVec Ideal S1x128x128 .f32) (b : Fin 128) (j : Fin 256) :
    (k0_pay58 (k0_pay53 k0_pay24 k0_pay25 (k0_pay44 U D) (k0_pay47 U k0_pay24 k0_pay25 D (W 0)) (k0_pay49 k0_pay24)
        (FloatOps.ofBits FTy.f32 0#32) (W 1) (W 2)) (k0_pay56 k0_pay24 k0_pay25 (k0_pay44 U D) (W 3)) (ix2 b j) : EReal) =
      dvvSum U D W 0 b j ∧
    (k0_pay74 k0_pay24 k0_pay25 (k0_pay63 U D) (k0_pay68 k0_pay24 k0_pay25 (k0_pay63 U D) (W 0) (W 1)) (2#32) (W 2) (W 3)
        (ix2 b j) : EReal) = dvvSum U D W 1 b j ∧
    (k0_pay93 k0_pay24 k0_pay25 (k0_pay80 U D) (k0_pay88 k0_pay24 k0_pay25 (k0_pay80 U D) k0_pay82 (k0_pay83 U k0_pay24 D)
        (W 0) (W 1) (W 2)) (W 3) (ix2 b j) : EReal) = dvvSum U D W 2 b j ∧
    (k0_pay116 (k0_pay111 k0_pay24 k0_pay25 (k0_pay102 U D) (k0_pay105 U k0_pay24 k0_pay25 D (W 0)) (k0_pay107 k0_pay24)
        (FloatOps.ofBits FTy.f32 0#32) (W 1) (W 2)) (k0_pay114 k0_pay24 k0_pay25 (k0_pay102 U D) (W 3)) (ix2 b j) : EReal) =
      dvvSum U D W 3 b j := by
  have hd := head
  have ht := @tri EReal
  generalize k0_pay24 = H at hd ⊢
  generalize k0_pay25 = T at ht ⊢
  refine ⟨(?_ : _ = _).trans (heads (fun g a => W g (ix3 0 a b) * (D (ix2 (rowt 0 a) j) * U (ix2 (rowt 0 a) j))) b j),
    (?_ : _ = _).trans (heads (fun g a => W g (ix3 0 a b) * (D (ix2 (rowt 1 a) j) * U (ix2 (rowt 1 a) j))) b j),
    (?_ : _ = _).trans (heads (fun g a => W g (ix3 0 a b) * (D (ix2 (rowt 2 a) j) * U (ix2 (rowt 2 a) j))) b j),
    (?_ : _ = _).trans (heads (fun g a => W g (ix3 0 a b) * (D (ix2 (rowt 3 a) j) * U (ix2 (rowt 3 a) j))) b j)⟩
  all_goals
    unfold_payloads
    pointwise
    simp only [hd, ht, select_head _ _ (by decide : 0 < 2 ^ 31), select_head _ 1 (by decide), select_head _ 2 (by decide),
      select_head _ 3 (by decide)]
    simp [rowt]

end Payloads

section Blocks

variable (m : (ℓ : Loc nD τ sig) → Buf (Elt Ideal) ℓ)

/-- The blocks of the call's point `t`: row block `t` of the columns it reads, the rest whole. -/
theorem idx : ∀ t : Fin cfg0.N, win0_0.index t = ![t.val, 3] ∧ win0_1.index t = ![t.val, 9] ∧ win0_2.index t = ![t.val, 10] ∧
    win0_3.index t = ![0, 0] ∧ win0_4.index t = ![0, 0, 0] ∧ win0_5.index t = ![0, 0] ∧ win0_8.index t = ![0, 0, 0] ∧
    win0_9.index t = ![0, 0] ∧ win0_10.index t = ![0, 0] := by
  decide +kernel

/-- A row of the point's row block. -/
def at' (t : Fin cfg0.N) (l : Fin 512) : Fin 2048 :=
  ⟨t.val * 512 + l.val, by have ht : t.val < 4 := t.isLt; omega⟩

theorem grad (c : Dev nD) (t : Fin cfg0.N) (l : Fin 512) (j : Fin 256) :
    (k0_pay27 (F := Ideal) (iblk m c 0 t) (ix2 l j) : EReal) =
      m ((c.tc : Thread nD τ).loc main_arg0) (ix2 (at' t l) ⟨768 + j.val, by omega⟩) := by
  unfold k0_pay27 at'
  pointwise
  blk_point [iblk, V, idx t]

theorem left (c : Dev nD) (t : Fin cfg0.N) (l : Fin 512) (j : Fin 256) :
    (k0_pay20 (F := Ideal) (k0_pay14 (iblk m c 1 t)) (ix2 l j) : EReal) =
      gelu (m ((c.tc : Thread nD τ).loc main_arg1) (ix2 (at' t l) ⟨2304 + j.val, by omega⟩)) := by
  unfold k0_pay20 k0_pay14 gelu at'
  pointwise
  simp only [Ideal.erf_def]
  blk_point [iblk, V, idx t]

theorem right (c : Dev nD) (t : Fin cfg0.N) (l : Fin 512) (j : Fin 256) :
    (k0_pay21 (F := Ideal) (k0_pay15 (iblk m c 2 t)) (ix2 l j) : EReal) =
      v (m ((c.tc : Thread nD τ).loc main_arg1)) (at' t l) j := by
  unfold k0_pay21 k0_pay15 v gelu at'
  pointwise
  simp only [Ideal.erf_def]
  blk_point [iblk, V, idx t]

end Blocks

end Cert.SguKernel
-- ==== Proof.SguBlocks.lean ====
/- What the gated unit's backward call adds up at a point, from the arrays the call reads. -/
module

public import proofs.«01_k».proof.Proof.SguKernel

@[expose] public section

set_option maxRecDepth 16384

noncomputable section

namespace Cert.SguBlocks

open Cert.SguIdeal Cert.SguIdeal.Gen Idealize.ShloMosaic Idealize.ShloMosaic.TcCoe Idealize.SL.Sem
open Idealize.ShloMosaic.Pipeline (Dat)
open Cert.SguSpec Cert.SguKernel

/-- The reciprocal root of a head's mean square, where the entries are real numbers. -/
theorem root_of (X : FVec Ideal S512x256 .f32) (hx : ∀ l j, Real' (X (ix2 l j))) (l : Fin 512) (j : Fin 256) :
    (k0_pay22 (F := Ideal) X k0_pay16 (iota Kind.tc S256x256 32 [1] iota_S256x256_d1_w32) 64#32 k0_pay17 k0_pay18 1#32 0#32
      (ix2 l j) : EReal) =
      Ideal.rsqrt ((∑ e : Fin 64, gelu (X (ix2 l ⟨j.val / 64 * 64 + e.val, by omega⟩)) *
        gelu (X (ix2 l ⟨j.val / 64 * 64 + e.val, by omega⟩))) * Ideal.ofBits .f32 1015021568#32 + Ideal.ofBits .f32 897988541#32) := by
  have hm := block
  have hr (x : Fin 256) := ((real_gelu (hx l x)).mul (real_gelu (hx l x))).sub_self
  have hs := sum_head (fun x => gelu (X (ix2 l x)) * gelu (X (ix2 l x))) ⟨j.val / 64, by omega⟩
  unfold k0_pay22 k0_pay21
  generalize k0_pay19 (F := Ideal) _ _ _ _ _ _ _ = M at hm ⊢
  pointwise
  simp only [Ideal.erf_def, hm]
  unfold gelu at hr hs ⊢
  simp only [hr, zero_mul, Finset.sum_const_zero, add_zero, mul_ite, mul_one, mul_zero, ite_self]
  rw [hs]

variable (m : (ℓ : Loc nD τ sig) → Buf (Elt Ideal) ℓ)

/-- The numbers that the gated unit reads are real. -/
def Finite (c : Dev nD) : Prop :=
  (∀ (n : Fin 2048) (j : Fin 256), Real' (m ((c.tc : Thread nD τ).loc main_arg0) (ix2 n ⟨768 + j.val, by omega⟩))) ∧
    (∀ (n : Fin 2048) (j : Fin 256), Real' (m ((c.tc : Thread nD τ).loc main_arg1) (ix2 n ⟨2304 + j.val, by omega⟩))) ∧
    ∀ (n : Fin 2048) (j : Fin 256), Real' (m ((c.tc : Thread nD τ).loc main_arg1) (ix2 n ⟨2560 + j.val, by omega⟩))

theorem pre (c : Dev nD) (t : Fin cfg0.N) (l : Fin 512) (j : Fin 256) :
    (k0_pay15 (F := Ideal) (iblk m c 2 t) (ix2 l j) : EReal) =
      m ((c.tc : Thread nD τ).loc main_arg1) (ix2 (at' t l) ⟨2560 + j.val, by omega⟩) := by
  unfold k0_pay15 at'
  pointwise
  blk_point [iblk, V, idx t]

theorem real_pre {c : Dev nD} (h : Finite m c) (t : Fin cfg0.N) (l : Fin 512) (j : Fin 256) :
    Real' (k0_pay15 (F := Ideal) (iblk m c 2 t) (ix2 l j)) := by
  rw [pre]
  exact h.2.2 (at' t l) j

/-- The gradient that reaches the mixed rows at the point. -/
theorem dus (c : Dev nD) (t : Fin cfg0.N) (l : Fin 512) (j : Fin 256) :
    (k0_pay27 (F := Ideal) (iblk m c 0 t) (ix2 l j) : EReal) * k0_pay20 (F := Ideal) (k0_pay14 (iblk m c 1 t)) (ix2 l j) =
      du (m ((c.tc : Thread nD τ).loc main_arg0)) (m ((c.tc : Thread nD τ).loc main_arg1)) (at' t l) j := by
  rw [grad, left]
  rfl

theorem real_dus {c : Dev nD} (h : Finite m c) (t : Fin cfg0.N) (l : Fin 512) (j : Fin 256) :
    Real' ((k0_pay27 (F := Ideal) (iblk m c 0 t) (ix2 l j) : EReal) *
      k0_pay20 (F := Ideal) (k0_pay14 (iblk m c 1 t)) (ix2 l j)) := by
  rw [grad, left]
  exact (h.1 (at' t l) j).mul (real_gelu (h.2.1 (at' t l) j))

/-- The normalised entry at the point. -/
theorem normeds {c : Dev nD} (h : Finite m c) (t : Fin cfg0.N) (l : Fin 512) (j : Fin 256) :
    (k0_pay21 (F := Ideal) (k0_pay15 (iblk m c 2 t)) (ix2 l j) : EReal) *
      k0_pay22 (F := Ideal) (k0_pay15 (iblk m c 2 t)) k0_pay16 (iota Kind.tc S256x256 32 [1] iota_S256x256_d1_w32) 64#32 k0_pay17
        k0_pay18 1#32 0#32 (ix2 l j) = normed (m ((c.tc : Thread nD τ).loc main_arg1)) (at' t l) j := by
  rw [right, root_of _ (real_pre m h t)]
  simp only [pre]
  rfl

/-- The normalised entry times its gain at the point. -/
theorem scaleds {c : Dev nD} (h : Finite m c) (t : Fin cfg0.N) (l : Fin 512) (j : Fin 256) :
    (k0_pay26 (F := Ideal) (k0_pay23 (k0_pay15 (iblk m c 2 t)) k0_pay16 (iota Kind.tc S256x256 32 [1] iota_S256x256_d1_w32) 64#32
        k0_pay17 k0_pay18 1#32 0#32) (iblk m c 3 t) (ix2 l j) : EReal) =
      scaled (m ((c.tc : Thread nD τ).loc main_arg1)) (m ((c.tc : Thread nD τ).loc main_arg2)) (at' t l) j := by
  unfold scaled
  rw [← normeds m h t l j]
  unfold k0_pay26 k0_pay23
  generalize k0_pay21 (F := Ideal) _ = V'
  generalize k0_pay22 (F := Ideal) _ _ _ _ _ _ _ _ = R
  pointwise
  blk_point [iblk, V, idx t]

/-- A head's weights. -/
theorem weights (c : Dev nD) (t : Fin cfg0.N) (g : Fin 4) (k : Fin 3 → Nat) (hk : k = ![g.val, 0, 0]) (hf) (a b : Fin 128) :
    (View.ld (iblk m c 4 t) (Rect.unit k ![1, 128, 128] hf) (ix3 0 a b) : EReal) =
      m ((c.tc : Thread nD τ).loc main_arg3) (ix3 g a b) := by
  subst hk
  blk_point [View.ld, iblk, V, idx t]
  all_goals simp [LoadRect.idx_apply]

end Cert.SguBlocks
-- ==== Proof.SguValue.lean ====
/- The gradients that the gated unit's backward call leaves, as sums over the chunks. -/
module

public import proofs.«01_k».proof.Proof.SguBlocks

@[expose] public section

set_option maxRecDepth 16384

noncomputable section

namespace Cert.SguValue

open Cert.SguIdeal Cert.SguIdeal.Gen Idealize.ShloMosaic Idealize.ShloMosaic.TcCoe Idealize.SL.Sem
open Idealize.ShloMosaic.Pipeline (Dat)
open Cert.SguSpec Cert.SguKernel Cert.SguBlocks

variable (m : (ℓ : Loc nD τ sig) → Buf (Elt Ideal) ℓ)

/-- A chunk of the point's row block. -/
def chunk (t : Fin cfg0.N) (s : Fin 4) : Fin 16 :=
  ⟨t.val * 4 + s.val, by have ht : t.val < 4 := t.isLt; omega⟩

theorem row_chunk (t : Fin cfg0.N) (s : Fin 4) (a : Fin 128) : at' t (rowt s a) = row (chunk t s) a :=
  Fin.ext (by simp only [at', rowt, row, chunk]; omega)

/-- A point's part of the gradient in the weights. -/
def dwAt (c : Dev nD) (t : Fin cfg0.N) (g : Fin 4) (a b : Fin 128) : EReal :=
  ∑ s : Fin 4, if b.val ≤ a.val then dwPart (m ((c.tc : Thread nD τ).loc main_arg0)) (m ((c.tc : Thread nD τ).loc main_arg1))
    (m ((c.tc : Thread nD τ).loc main_arg2)) (chunk t s) g a b else 0

theorem dw_at {c : Dev nD} (h : Finite m c) (t : Fin cfg0.N) (g : Fin 4) (a b : Fin 128) :
    (if b.val ≤ a.val then dwSum (k0_pay20 (k0_pay14 (iblk m c 1 t))) (k0_pay27 (iblk m c 0 t))
      (k0_pay26 (k0_pay23 (k0_pay15 (iblk m c 2 t)) k0_pay16 (iota Kind.tc S256x256 32 [1] iota_S256x256_d1_w32) 64#32
        k0_pay17 k0_pay18 1#32 0#32) (iblk m c 3 t)) g a b else 0) = dwAt m c t g a b := by
  unfold dwSum dwAt dwPart
  simp only [dus, scaleds m h, row_chunk]
  split <;> simp

/-- What the body stores of a head's part: the part on and below the diagonal, alone or added to what was there. -/
theorem stored (P : FVec Ideal S128x128 .f32) (e : Fin 1) (a b : Fin 128) :
    (k0_pay3 k0_pay25 P (ix3 e a b) : EReal) = (if b.val ≤ a.val then P (ix2 a b) else 0) ∧
    (k0_pay4 k0_pay25 P (ix3 e a b) : EReal) = (if b.val ≤ a.val then P (ix2 a b) else 0) ∧
    (k0_pay5 k0_pay25 P (ix3 e a b) : EReal) = (if b.val ≤ a.val then P (ix2 a b) else 0) ∧
    (k0_pay6 k0_pay25 P (ix3 e a b) : EReal) = if b.val ≤ a.val then P (ix2 a b) else 0 := by
  have ht := @tri EReal
  generalize k0_pay25 = T at ht ⊢
  refine ⟨?_, ?_, ?_, ?_⟩
  all_goals
    unfold_payloads
    pointwise
    simp only [ht]

theorem added (P : FVec Ideal S128x128 .f32) (Q : FVec Ideal S1x128x128 .f32) (e : Fin 1) (a b : Fin 128) :
    (k0_pay10 k0_pay25 P Q (ix3 e a b) : EReal) = Q (ix3 0 a b) + (if b.val ≤ a.val then P (ix2 a b) else 0) ∧
    (k0_pay11 k0_pay25 P Q (ix3 e a b) : EReal) = Q (ix3 0 a b) + (if b.val ≤ a.val then P (ix2 a b) else 0) ∧
    (k0_pay12 k0_pay25 P Q (ix3 e a b) : EReal) = Q (ix3 0 a b) + (if b.val ≤ a.val then P (ix2 a b) else 0) ∧
    (k0_pay7 (k0_pay13 k0_pay25 P Q) (ix3 e a b) : EReal) = Q (ix3 0 a b) + if b.val ≤ a.val then P (ix2 a b) else 0 := by
  have ht := @tri EReal
  generalize k0_pay25 = T at ht ⊢
  refine ⟨?_, ?_, ?_, ?_⟩
  all_goals
    unfold_payloads
    pointwise
    simp only [ht]

/-- A head's slab of the weights' gradient. -/
theorem slab (Q : Vec Ideal S4x128x128 .f32) (g : Fin 4) (k : Fin 3 → Nat) (hk : k = ![g.val, 0, 0]) (hf) (a b : Fin 128) :
    (View.ld Q (Rect.unit k ![1, 128, 128] hf) (ix3 0 a b) : EReal) = Q (ix3 g a b) := by
  subst hk
  refine congrArg Q (funext fun d => Fin.ext ?_)
  match d with
  | 0 => simp [LoadRect.idx_apply]
  | 1 => simp [LoadRect.idx_apply]
  | 2 => simp [LoadRect.idx_apply]

/-- What the body leaves of the gradient in the weights at the first point and at the others. -/
theorem first8 (c : Dev nD) (hc : Finite m c) (t : Fin cfg0.N) (ht0 : t.val % 4 = 0) (j : S4x128x128.Idx) :
    ((outsAt0 m c t.val t.isLt).2.2.1 j : EReal) = 0 + dwAt m c t (j 0) (j 1) (j 2) := by
  obtain ⟨g, a, b, rfl⟩ : ∃ (g : Fin 4) (a : Fin 128) (b : Fin 128), j = ix3 g a b := ⟨j 0, j 1, j 2, eq_ix3 j⟩
  have ht : t.val < 4 := t.isLt
  rw [outsAt0_A m c t ht0 (by omega)]
  dsimp only
  frame_out
  have hd := fun a b => dw_pieces (k0_pay20 (k0_pay14 (iblk m c 1 t))) (k0_pay27 (iblk m c 0 t))
      (k0_pay26 (k0_pay23 (k0_pay15 (iblk m c 2 t)) k0_pay16 (iota Kind.tc S256x256 32 [1] iota_S256x256_d1_w32) 64#32
        k0_pay17 k0_pay18 1#32 0#32) (iblk m c 3 t)) a b
  canon_tiles x h
  all_goals
    obtain ⟨e, a', b', rfl⟩ : ∃ (e : Fin 1) (a' b' : Fin 128), x = ix3 e a' b' := ⟨x 0, x 1, x 2, eq_ix3 x⟩
    obtain rfl : a = a' := Fin.ext h1
    obtain rfl : b = b' := Fin.ext h2
    rw [zero_add]
    replace h0 : g.val = _ := h0
    have he : (ix3 e a b 0 : Nat) = 0 := by have := e.isLt; exact Nat.lt_one_iff.mp this
    rw [he] at h0
  · obtain rfl : g = 3 := Fin.ext h0
    rw [(stored _ _ _ _).2.2.2, (hd a b).2.2.2]
    exact dw_at m hc t 3 a b
  · obtain rfl : g = 2 := Fin.ext h0
    rw [(stored _ _ _ _).2.2.1, (hd a b).2.2.1]
    exact dw_at m hc t 2 a b
  · obtain rfl : g = 1 := Fin.ext h0
    rw [(stored _ _ _ _).2.1, (hd a b).2.1]
    exact dw_at m hc t 1 a b
  · obtain rfl : g = 0 := Fin.ext h0
    rw [(stored _ _ _ _).1, (hd a b).1]
    exact dw_at m hc t 0 a b

theorem later8 (c : Dev nD) (hc : Finite m c) (t : Fin cfg0.N) (ht0 : ¬t.val % 4 = 0) (j : S4x128x128.Idx) :
    ((outsAt0 m c t.val t.isLt).2.2.1 j : EReal) =
      (outsAt0 m c (t.val - 1) (Nat.lt_of_le_of_lt (Nat.sub_le _ _) t.isLt)).2.2.1 j + dwAt m c t (j 0) (j 1) (j 2) := by
  obtain ⟨g, a, b, rfl⟩ : ∃ (g : Fin 4) (a : Fin 128) (b : Fin 128), j = ix3 g a b := ⟨j 0, j 1, j 2, eq_ix3 j⟩
  have ht : t.val < 4 := t.isLt
  rw [outsAt0_B m c t ht0 (by omega)]
  dsimp only
  generalize (outsAt0 m c (t.val - 1) _).2.2.1 = Q
  frame_out
  have hd := fun a b => dw_pieces (k0_pay20 (k0_pay14 (iblk m c 1 t))) (k0_pay27 (iblk m c 0 t))
      (k0_pay26 (k0_pay23 (k0_pay15 (iblk m c 2 t)) k0_pay16 (iota Kind.tc S256x256 32 [1] iota_S256x256_d1_w32) 64#32
        k0_pay17 k0_pay18 1#32 0#32) (iblk m c 3 t)) a b
  canon_tiles x h
  all_goals
    obtain ⟨e, a', b', rfl⟩ : ∃ (e : Fin 1) (a' b' : Fin 128), x = ix3 e a' b' := ⟨x 0, x 1, x 2, eq_ix3 x⟩
    obtain rfl : a = a' := Fin.ext h1
    obtain rfl : b = b' := Fin.ext h2
    replace h0 : g.val = _ := h0
    have he : (ix3 e a b 0 : Nat) = 0 := by have := e.isLt; exact Nat.lt_one_iff.mp this
    rw [he] at h0
  · obtain rfl : g = 3 := Fin.ext h0
    rw [(added _ _ _ _ _).2.2.2, (hd a b).2.2.2]
    exact congrArg₂ (· + · : EReal → EReal → EReal) (slab Q 3 _ rfl _ a b) (dw_at m hc t 3 a b)
  · obtain rfl : g = 2 := Fin.ext h0
    rw [(added _ _ _ _ _).2.2.1, (hd a b).2.2.1]
    exact congrArg₂ (· + · : EReal → EReal → EReal) (slab Q 2 _ rfl _ a b) (dw_at m hc t 2 a b)
  · obtain rfl : g = 1 := Fin.ext h0
    rw [(added _ _ _ _ _).2.1, (hd a b).2.1]
    exact congrArg₂ (· + · : EReal → EReal → EReal) (slab Q 1 _ rfl _ a b) (dw_at m hc t 1 a b)
  · obtain rfl : g = 0 := Fin.ext h0
    rw [(added _ _ _ _ _).1, (hd a b).1]
    exact congrArg₂ (· + · : EReal → EReal → EReal) (slab Q 0 _ rfl _ a b) (dw_at m hc t 0 a b)

/-- A point's part of the gradient in the bias. -/
def dbAt (c : Dev nD) (t : Fin cfg0.N) (a l : Fin 128) : EReal :=
  ∑ s : Fin 4, dbPart (m ((c.tc : Thread nD τ).loc main_arg0)) (m ((c.tc : Thread nD τ).loc main_arg1)) (chunk t s) a l

theorem db_at {c : Dev nD} (h : Finite m c) (t : Fin cfg0.N) (a b : Fin 128) :
    (k0_pay103 (k0_pay20 (k0_pay14 (iblk m c 1 t))) (k0_pay27 (iblk m c 0 t))
        (k0_pay30 (iota Kind.tc S256x128 32 [0] iota_S256x128_d0_w32) 64#32 k0_pay28 k0_pay29 1#32)
      (k0_pay81 (k0_pay20 (k0_pay14 (iblk m c 1 t))) (k0_pay27 (iblk m c 0 t))
        (k0_pay30 (iota Kind.tc S256x128 32 [0] iota_S256x128_d0_w32) 64#32 k0_pay28 k0_pay29 1#32)
        (k0_pay64 (k0_pay30 (iota Kind.tc S256x128 32 [0] iota_S256x128_d0_w32) 64#32 k0_pay28 k0_pay29 1#32)
          (k0_pay45 (k0_pay20 (k0_pay14 (iblk m c 1 t))) (k0_pay27 (iblk m c 0 t))
            (k0_pay30 (iota Kind.tc S256x128 32 [0] iota_S256x128_d0_w32) 64#32 k0_pay28 k0_pay29 1#32) k0_pay35)
          (k0_pay63 (k0_pay20 (k0_pay14 (iblk m c 1 t))) (k0_pay27 (iblk m c 0 t))))) (ix2 a b) : EReal) = dbAt m c t a b := by
  rw [db_piece _ _ (real_dus m h t)]
  unfold dbAt dbPart
  refine Finset.sum_congr rfl fun s _ => Finset.sum_congr rfl fun x _ => ?_
  rw [dus, row_chunk]
  refine (congrArg (_ * · : EReal → EReal) (mark x b)).trans ?_
  rw [mul_ite, mul_one, mul_zero]

theorem first9 (c : Dev nD) (hc : Finite m c) (t : Fin cfg0.N) (ht0 : t.val % 4 = 0) (j : S128x128.Idx) :
    ((outsAt0 m c t.val t.isLt).2.2.2.1 j : EReal) = 0 + dbAt m c t (j 0) (j 1) := by
  obtain ⟨a, b, rfl⟩ : ∃ (a : Fin 128) (b : Fin 128), j = ix2 a b := ⟨j 0, j 1, eq_ix2 j⟩
  have ht : t.val < 4 := t.isLt
  rw [outsAt0_A m c t ht0 (by omega)]
  dsimp only
  frame_out
  rw [zero_add]
  exact db_at m hc t a b

theorem later9 (c : Dev nD) (hc : Finite m c) (t : Fin cfg0.N) (ht0 : ¬t.val % 4 = 0) (j : S128x128.Idx) :
    ((outsAt0 m c t.val t.isLt).2.2.2.1 j : EReal) =
      (outsAt0 m c (t.val - 1) (Nat.lt_of_le_of_lt (Nat.sub_le _ _) t.isLt)).2.2.2.1 j + dbAt m c t (j 0) (j 1) := by
  obtain ⟨a, b, rfl⟩ : ∃ (a : Fin 128) (b : Fin 128), j = ix2 a b := ⟨j 0, j 1, eq_ix2 j⟩
  have ht : t.val < 4 := t.isLt
  rw [outsAt0_B m c t ht0 (by omega)]
  dsimp only
  generalize (outsAt0 m c (t.val - 1) _).2.2.2.1 = Q
  frame_out
  have hd := db_at m hc t a b
  generalize k0_pay103 (F := Ideal) _ _ _ _ = P at hd ⊢
  unfold k0_pay8
  pointwise
  exact congrArg (Q (ix2 a b) + · : EReal → EReal) hd

/-- The gradient in a mixed row's entry at the point. -/
theorem dvv_at (c : Dev nD) (t : Fin cfg0.N) (W : Fin 4 → FVec Ideal S1x128x128 .f32)
    (hW : ∀ g a b, (W g (ix3 0 a b) : EReal) = m ((c.tc : Thread nD τ).loc main_arg3) (ix3 g a b)) (s : Fin 4) (b : Fin 128)
    (j : Fin 256) :
    dvvSum (k0_pay20 (k0_pay14 (iblk m c 1 t))) (k0_pay27 (iblk m c 0 t)) W s b j =
      dvv (m ((c.tc : Thread nD τ).loc main_arg0)) (m ((c.tc : Thread nD τ).loc main_arg1))
        (m ((c.tc : Thread nD τ).loc main_arg3)) (at' t (rowt s b)) j := by
  unfold dvvSum dvv
  simp only [dus, hW]
  have hb : (at' t (rowt s b)).val % 128 = b.val := by simp only [at', rowt]; omega
  have hr (a : Fin 128) (p) : (⟨(at' t (rowt s b)).val / 128 * 128 + a.val, p⟩ : Fin 2048) = at' t (rowt s a) :=
    Fin.ext (by simp only [at', rowt]; omega)
  simp only [hb, hr]

/-- A point's part of the gradient in the gain. -/
def dgAt (c : Dev nD) (t : Fin cfg0.N) (j : Fin 256) : EReal :=
  ∑ l : Fin 512, dgPart (m ((c.tc : Thread nD τ).loc main_arg0)) (m ((c.tc : Thread nD τ).loc main_arg1))
    (m ((c.tc : Thread nD τ).loc main_arg3)) (at' t l) j

/-- What the body leaves in the rows' scratch: a chunk's gradient after the other. -/
def tiles (U D : FVec Ideal S512x256 .f32) (W : Fin 4 → FVec Ideal S1x128x128 .f32) : List (View.Piece (Elt Ideal) S512x256 .f32) :=
  [⟨Rect.unit ![384, 0] ![128, 256] inb_S512x256_S128x256_384_0,
      k0_pay116 (k0_pay111 k0_pay24 k0_pay25 (k0_pay102 U D) (k0_pay105 U k0_pay24 k0_pay25 D (W 0)) (k0_pay107 k0_pay24)
        (FloatOps.ofBits FTy.f32 0#32) (W 1) (W 2)) (k0_pay114 k0_pay24 k0_pay25 (k0_pay102 U D) (W 3))⟩,
    ⟨Rect.unit ![256, 0] ![128, 256] inb_S512x256_S128x256_256_0,
      k0_pay93 k0_pay24 k0_pay25 (k0_pay80 U D) (k0_pay88 k0_pay24 k0_pay25 (k0_pay80 U D) k0_pay82 (k0_pay83 U k0_pay24 D)
        (W 0) (W 1) (W 2)) (W 3)⟩,
    ⟨Rect.unit ![128, 0] ![128, 256] inb_S512x256_S128x256_128_0,
      k0_pay74 k0_pay24 k0_pay25 (k0_pay63 U D) (k0_pay68 k0_pay24 k0_pay25 (k0_pay63 U D) (W 0) (W 1)) 2#32 (W 2) (W 3)⟩,
    ⟨Rect.unit ![0, 0] ![128, 256] inb_S512x256_S128x256_0_0,
      k0_pay58 (k0_pay53 k0_pay24 k0_pay25 (k0_pay44 U D) (k0_pay47 U k0_pay24 k0_pay25 D (W 0)) (k0_pay49 k0_pay24)
        (FloatOps.ofBits FTy.f32 0#32) (W 1) (W 2)) (k0_pay56 k0_pay24 k0_pay25 (k0_pay44 U D) (W 3))⟩]

theorem mixed (U D : FVec Ideal S512x256 .f32) (W : Fin 4 → FVec Ideal S1x128x128 .f32) (f : Fin 512 → EReal) (j : Fin 256)
    (hf : ∀ s b, dvvSum U D W s b j = f (rowt s b)) (l : Fin 512) :
    (View.canon (tiles U D W) (ix2 l j) : EReal) = f l := by
  have hd := fun b => dvv_pieces U D W b j
  unfold tiles
  canon_tiles x h
  all_goals
    obtain ⟨b, j', rfl⟩ : ∃ (b : Fin 128) (j' : Fin 256), x = ix2 b j' := ⟨x 0, x 1, eq_ix2 x⟩
    obtain rfl : j = j' := Fin.ext h1
  · rw [(hd b).2.2.2, hf]; exact congrArg f (Fin.ext h0.symm)
  · rw [(hd b).2.2.1, hf]; exact congrArg f (Fin.ext h0.symm)
  · rw [(hd b).2.1, hf]; exact congrArg f (Fin.ext h0.symm)
  · rw [(hd b).1, hf]; exact congrArg f (Fin.ext (by simp [rowt]; exact h0.symm))

/-- A head's weights, as the body reads them. -/
def slabs (c : Dev nD) (t : Fin cfg0.N) : Fin 4 → FVec Ideal S1x128x128 .f32 := fun g =>
  match g with
  | 0 => View.ld (iblk m c 4 t) (Rect.unit ![0, 0, 0] ![1, 128, 128] inb_S4x128x128_S1x128x128_0_0_0)
  | 1 => View.ld (iblk m c 4 t) (Rect.unit ![1, 0, 0] ![1, 128, 128] inb_S4x128x128_S1x128x128_1_0_0)
  | 2 => View.ld (iblk m c 4 t) (Rect.unit ![2, 0, 0] ![1, 128, 128] inb_S4x128x128_S1x128x128_2_0_0)
  | 3 => View.ld (iblk m c 4 t) (Rect.unit ![3, 0, 0] ![1, 128, 128] inb_S4x128x128_S1x128x128_3_0_0)

theorem mixed_at (c : Dev nD) (t : Fin cfg0.N) (b : Fin 256) (l : Fin 512) :
    (View.canon (tiles (k0_pay20 (k0_pay14 (iblk m c 1 t))) (k0_pay27 (iblk m c 0 t)) (slabs m c t)) (ix2 l b) : EReal) =
      dvv (m ((c.tc : Thread nD τ).loc main_arg0)) (m ((c.tc : Thread nD τ).loc main_arg1))
        (m ((c.tc : Thread nD τ).loc main_arg3)) (at' t l) b :=
  mixed _ _ _ (fun l => dvv (m ((c.tc : Thread nD τ).loc main_arg0)) (m ((c.tc : Thread nD τ).loc main_arg1))
      (m ((c.tc : Thread nD τ).loc main_arg3)) (at' t l) b) b (fun s b' => dvv_at m c t _ (fun g a b'' =>
        match g with
        | 0 => weights m c t 0 _ rfl _ a b''
        | 1 => weights m c t 1 _ rfl _ a b''
        | 2 => weights m c t 2 _ rfl _ a b''
        | 3 => weights m c t 3 _ rfl _ a b'') s b' b) l

theorem whole (l : Fin 512) (b : Fin 256) :
    (Rect.unit ![0, 0] ![512, 256] inb_S512x256_S512x256_0_0).toLoadRect.idx (ix2 l b) = (ix2 l b : S512x256.Idx) :=
  funext fun d => Fin.ext (match d with | 0 => by simp [LoadRect.idx_apply] | 1 => by simp [LoadRect.idx_apply])

theorem dg_at {c : Dev nD} (h : Finite m c) (t : Fin cfg0.N) (e : Fin 1) (b : Fin 256) (X : Vec Ideal S512x256 .f32)
    (hX : ∀ l, (X (ix2 l b) : EReal) = dvv (m ((c.tc : Thread nD τ).loc main_arg0)) (m ((c.tc : Thread nD τ).loc main_arg1))
        (m ((c.tc : Thread nD τ).loc main_arg3)) (at' t l) b) :
    (k0_pay2 (F := Ideal) (k0_pay21 (k0_pay15 (iblk m c 2 t))) (k0_pay22 (k0_pay15 (iblk m c 2 t)) k0_pay16
      (iota Kind.tc S256x256 32 [1] iota_S256x256_d1_w32) 64#32 k0_pay17 k0_pay18 1#32 0#32) X (ix2 e b) : EReal) =
      dgAt m c t b := by
  have hn (l : Fin 512) := normeds m h t l b
  generalize k0_pay22 (F := Ideal) _ _ _ _ _ _ _ _ = R at hn ⊢
  generalize k0_pay21 (F := Ideal) _ = V' at hn ⊢
  unfold k0_pay2
  pointwise
  simp only [hX, hn]
  rfl

theorem first10 (c : Dev nD) (hc : Finite m c) (t : Fin cfg0.N) (ht0 : t.val % 4 = 0) (j : S1x256.Idx) :
    ((outsAt0 m c t.val t.isLt).2.2.2.2 j : EReal) = 0 + dgAt m c t (j 1) := by
  obtain ⟨e, b, rfl⟩ : ∃ (e : Fin 1) (b : Fin 256), j = ix2 e b := ⟨j 0, j 1, eq_ix2 j⟩
  have ht : t.val < 4 := t.isLt
  rw [outsAt0_A m c t ht0 (by omega)]
  dsimp only
  frame_out
  rw [zero_add, View.readCov_eq_canon']
  exact dg_at m hc t e b _ fun l => (congrArg (View.canon _) (whole l b)).trans (mixed_at m c t b l)

theorem later10 (c : Dev nD) (hc : Finite m c) (t : Fin cfg0.N) (ht0 : ¬t.val % 4 = 0) (j : S1x256.Idx) :
    ((outsAt0 m c t.val t.isLt).2.2.2.2 j : EReal) =
      (outsAt0 m c (t.val - 1) (Nat.lt_of_le_of_lt (Nat.sub_le _ _) t.isLt)).2.2.2.2 j + dgAt m c t (j 1) := by
  obtain ⟨e, b, rfl⟩ : ∃ (e : Fin 1) (b : Fin 256), j = ix2 e b := ⟨j 0, j 1, eq_ix2 j⟩
  have ht : t.val < 4 := t.isLt
  rw [outsAt0_B m c t ht0 (by omega)]
  dsimp only
  generalize (outsAt0 m c (t.val - 1) _).2.2.2.2 = Q
  frame_out
  rw [View.readCov_eq_canon']
  unfold k0_pay9
  generalize hP : k0_pay2 (F := Ideal) _ _ _ = P
  pointwise
  refine congrArg (Q (ix2 e b) + · : EReal → EReal) ((congrFun hP.symm (ix2 e b)).trans (dg_at m hc t e b _ fun l => ?_))
  exact (congrArg (View.canon _) (whole l b)).trans (mixed_at m c t b l)

section Arrays

variable (c : Dev nD) (hc : Finite m c)

include hc

/-- The gradient in the weights that the call leaves. -/
theorem arr8 : (dats m 0 c).arrAt 8 cfg0.N = fun y : S4x128x128.Idx => ∑ q : Fin 16, if (y 2).val ≤ (y 1).val then
    dwPart (m ((c.tc : Thread nD τ).loc main_arg0)) (m ((c.tc : Thread nD τ).loc main_arg1))
      (m ((c.tc : Thread nD τ).loc main_arg2)) q (y 0) (y 1) (y 2) else 0 := by
  refine (dats m 0 c).arrAt_eq_of_after_last 8 t0_3 (by decide +kernel) _ fun y => ?_
  obtain ⟨g, a, b, rfl⟩ : ∃ (g : Fin 4) (a : Fin 128) (b : Fin 128), y = ix3 g a b := ⟨y 0, y 1, y 2, eq_ix3 y⟩
  blk_simp
  rw [after0_8]
  refine (Pipeline.eq_sum_fin_of_reset_step_apply_last (fun n h => (outsAt0 m c n h).2.2.1) 4 (fun _ => 0) _ (first8 m c hc)
    (later8 m c hc) (le_of_eq N_0) t0_3 rfl (ix3 g a b)).trans ?_
  rw [zero_add]
  exact Fin.sum_mul_add_congr (fun s k hl => rfl)

/-- The gradient in the bias that the call leaves, a head to a column. -/
theorem arr9 : (dats m 0 c).arrAt 9 cfg0.N = fun y : S128x128.Idx => ∑ q : Fin 16,
    dbPart (m ((c.tc : Thread nD τ).loc main_arg0)) (m ((c.tc : Thread nD τ).loc main_arg1)) q (y 0) (y 1) := by
  refine (dats m 0 c).arrAt_eq_of_after_last 9 t0_3 (by decide +kernel) _ fun y => ?_
  obtain ⟨a, b, rfl⟩ : ∃ (a : Fin 128) (b : Fin 128), y = ix2 a b := ⟨y 0, y 1, eq_ix2 y⟩
  blk_simp
  rw [after0_9]
  refine (Pipeline.eq_sum_fin_of_reset_step_apply_last (fun n h => (outsAt0 m c n h).2.2.2.1) 4 (fun _ => 0) _ (first9 m c hc)
    (later9 m c hc) (le_of_eq N_0) t0_3 rfl (ix2 a b)).trans ?_
  rw [zero_add]
  exact Fin.sum_mul_add_congr (fun s k hl => rfl)

/-- The gradient in the gain that the call leaves. -/
theorem arr10 : (dats m 0 c).arrAt 10 cfg0.N = fun y : S1x256.Idx => ∑ n : Fin 2048,
    dgPart (m ((c.tc : Thread nD τ).loc main_arg0)) (m ((c.tc : Thread nD τ).loc main_arg1))
      (m ((c.tc : Thread nD τ).loc main_arg3)) n (y 1) := by
  refine (dats m 0 c).arrAt_eq_of_after_last 10 t0_3 (by decide +kernel) _ fun y => ?_
  obtain ⟨a, b, rfl⟩ : ∃ (a : Fin 1) (b : Fin 256), y = ix2 a b := ⟨y 0, y 1, eq_ix2 y⟩
  blk_simp
  rw [after0_10]
  refine (Pipeline.eq_sum_fin_of_reset_step_apply_last (fun n h => (outsAt0 m c n h).2.2.2.2) 4 (fun _ => 0) _ (first10 m c hc)
    (later10 m c hc) (le_of_eq N_0) t0_3 rfl (ix2 a b)).trans ?_
  rw [zero_add]
  exact Fin.sum_mul_add_congr (fun s k hl => rfl)

end Arrays

end Cert.SguValue
-- ==== Proof.SguReference.lean ====
/- What the reference computes for the gated unit's gradients, as the same sums. -/
module

public import proofs.«01_k».proof.Proof.Gen.SguReferenceIdeal.Run
public import proofs.«01_k».proof.Proof.Gen.SguReferenceIdeal.Read
public import proofs.«01_k».proof.Proof.SguSpec
public import Idealize.ShloMosaic.Lib.WordCmp

@[expose] public section

set_option maxRecDepth 16384

noncomputable section

namespace Cert.SguReference

open Idealize.ShloMosaic Idealize.ShloMosaic.TcCoe Idealize.SL.Sem
open Cert.SguReferenceIdeal Cert.SguReferenceIdeal.Gen Cert.SguReferenceIdeal.Read
open Cert.SguSpec

variable (x0 : (⟨S2048x1024, .bf16⟩ : BufTy).Contents (Elt Ideal)) (x1 : (⟨S2048x2816, .bf16⟩ : BufTy).Contents (Elt Ideal))
  (x2 : (⟨S256, .f32⟩ : BufTy).Contents (Elt Ideal)) (x3 : (⟨S4x128x128, .f32⟩ : BufTy).Contents (Elt Ideal))

theorem left (n : Fin 2048) (j : Fin 256) :
    (val_main_v12 (F := Ideal) x1 (ix2 n j) : EReal) = gelu (x1 (ix2 n ⟨2304 + j.val, by omega⟩)) := by
  unfold gelu
  pointwise [val_main_v12, val_main_v11, val_main_v10, val_main_v9, val_main_v8, val_main_v7, val_main_v6, val_main_v1,
    val_main_v0, val_main_cst, val_main_cst_0]
  simp only [Ideal.hostUnary_erfc_def, Ideal.hostNegf_def, Ideal.negf_def, neg_mul, Ideal.erfc_neg]

theorem right (n : Fin 2048) (j : Fin 256) : (val_main_v19 (F := Ideal) x1 (ix2 n j) : EReal) = v x1 n j := by
  unfold v gelu
  pointwise [val_main_v19, val_main_v18, val_main_v17, val_main_v16, val_main_v15, val_main_v14, val_main_v13, val_main_v3,
    val_main_v2, val_main_cst_1, val_main_cst_2]
  simp only [Ideal.hostUnary_erfc_def, Ideal.hostNegf_def, Ideal.negf_def, neg_mul, Ideal.erfc_neg]

/-- A head's column. -/
def col (h : Fin 4) (e : Fin 64) : Fin 256 := ⟨h.val * 64 + e.val, by omega⟩

theorem head (n : Fin 2048) (h : Fin 4) (e : Fin 64) : (val_main_v20 (F := Ideal) x1 (ix3 n h e) : EReal) = v x1 n (col h e) := by
  rw [← right, val_main_v20_apply]
  refine congrArg (val_main_v19 (F := Ideal) x1) (funext fun d => Fin.ext ?_)
  match d with
  | 0 => show ((n.val * 4 + h.val) * 64 + e.val) / 256 = n.val; omega
  | 1 => show ((n.val * 4 + h.val) * 64 + e.val) % 256 = h.val * 64 + e.val; omega

/-- The normalised entry, and the same times its gain. -/
theorem norm (n : Fin 2048) (h : Fin 4) (e : Fin 64) :
    (val_main_v31 (F := Ideal) x1 (ix3 n h e) : EReal) = normed x1 n (col h e) := by
  have hv := head x1
  unfold val_main_v31 val_main_v30 val_main_v29 val_main_v28 val_main_v27 val_main_v26 val_main_v25 val_main_v24 val_main_v23
    val_main_v22 val_main_cst_3 val_main_cst_4 val_main_cst_5
  generalize val_main_v20 (F := Ideal) x1 = X at hv ⊢
  pointwise
  simp only [hv, mean]
  have he : (col h e).val / 64 = h.val := by simp only [col]; omega
  unfold normed root
  simp only [he]
  rfl

theorem gained (n : Fin 2048) (h : Fin 4) (e : Fin 64) :
    (val_main_v34 (F := Ideal) x1 x2 (ix3 n h e) : EReal) = scaled x1 x2 n (col h e) := by
  unfold scaled
  rw [← norm]
  unfold val_main_v34
  generalize val_main_v31 (F := Ideal) x1 = X
  pointwise [val_main_v33, val_main_v32]
  rw [val_main_v21_apply]
  refine congrArg (X (ix3 n h e) * x2 · : _ → EReal) (funext fun d => Fin.ext ?_)
  match d with
  | 0 => rfl

theorem chunks (q : Fin 16) (a : Fin 128) (h : Fin 4) (e : Fin 64) :
    (val_main_v35 (F := Ideal) x1 x2 (ix4 q a h e) : EReal) = scaled x1 x2 (row q a) (col h e) := by
  rw [← gained, val_main_v35_apply]
  refine congrArg (val_main_v34 (F := Ideal) x1 x2) (funext fun d => Fin.ext ?_)
  match d with
  | 0 => show (((q.val * 128 + a.val) * 4 + h.val) * 64 + e.val) / 256 = q.val * 128 + a.val; omega
  | 1 => show (((q.val * 128 + a.val) * 4 + h.val) * 64 + e.val) / 64 % 4 = h.val; omega
  | 2 => show (((q.val * 128 + a.val) * 4 + h.val) * 64 + e.val) % 64 = e.val; omega

theorem dchunks (q : Fin 16) (a : Fin 128) (h : Fin 4) (e : Fin 64) :
    (val_main_v51 (F := Ideal) x0 x1 (ix4 q a h e) : EReal) = du x0 x1 (row q a) (col h e) := by
  have hi : idx_main_v51 (ix4 q a h e) = ix2 (row q a) (col h e) := by
    refine funext fun d => Fin.ext ?_
    match d with
    | 0 => show (((q.val * 128 + a.val) * 4 + h.val) * 64 + e.val) / 256 = q.val * 128 + a.val; omega
    | 1 => show (((q.val * 128 + a.val) * 4 + h.val) * 64 + e.val) % 256 = h.val * 64 + e.val; omega
  rw [val_main_v51_apply, hi]
  unfold val_main_v50 du
  rw [← left]
  generalize val_main_v12 (F := Ideal) x1 = X
  pointwise [val_main_v5, val_main_v4]
  exact mul_comm _ _

/-- The weights on and below the diagonal, marked. -/
theorem mask (a b : Fin 128) : (val_main_v38 (F := Ideal) (ix3 0 a b) : EReal) = if b.val ≤ a.val then 1 else 0 := by
  pointwise [val_main_v38, val_main_v37, val_main_v36, val_main_call0_v5, val_main_call0_v4, val_main_call0_v3,
    val_main_call0_v2, val_main_call0_v1, val_main_call0_v0, val_main_call0_c, val_main_call0_cst, val_main_cst_6]
  rw [show IntOp.addi (BitVec.ofNat 32 a.val) 0#32 = BitVec.ofNat 32 a.val from BitVec.add_zero _,
    WordCmp.cmpi_sge_ofNat (by omega) (by omega)]
  by_cases h : b.val ≤ a.val <;> simp [h, Scalar.select]

/-- The reference's gradient in the weights. -/
theorem dw (h : Fin 4) (a b : Fin 128) : (val_main_v63 (F := Ideal) x0 x1 x2 (ix3 h a b) : EReal) =
    ∑ q : Fin 16, if b.val ≤ a.val then dwPart x0 x1 x2 q h a b else 0 := by
  have hm := mask a b
  have hl := dchunks x0 x1
  have hr := chunks x1 x2
  unfold val_main_v63 val_main_v62 val_main_v59 val_main_v58
  generalize val_main_v38 (F := Ideal) = M at hm ⊢
  generalize val_main_v51 (F := Ideal) x0 x1 = L at hl ⊢
  generalize val_main_v35 (F := Ideal) x1 x2 = R at hr ⊢
  pointwise
  simp only [hm, hl, hr]
  unfold dwPart
  simp only [sum_head]
  by_cases hab : b.val ≤ a.val
  · simp only [if_pos hab, mul_one]
    rfl
  · simp only [if_neg hab, mul_zero, Finset.sum_const_zero]

/-- The reference's gradient in the gain. -/
theorem dmixed (n : Fin 2048) (h : Fin 4) (e : Fin 64) :
    (val_main_v64 (F := Ideal) x0 x1 x3 (ix3 n h e) : EReal) = dvv x0 x1 x3 n (col h e) := by
  have hi : idx_main_v64 (ix3 n h e) = ix4 (⟨n.val / 128, by omega⟩ : Fin 16) (⟨n.val % 128, by omega⟩ : Fin 128) h e := by
    refine funext fun d => Fin.ext ?_
    match d with
    | 0 => show ((n.val * 4 + h.val) * 64 + e.val) / 32768 = n.val / 128; omega
    | 1 => show ((n.val * 4 + h.val) * 64 + e.val) / 256 % 128 = n.val % 128; omega
    | 2 => show ((n.val * 4 + h.val) * 64 + e.val) / 64 % 4 = h.val; omega
    | 3 => show ((n.val * 4 + h.val) * 64 + e.val) % 64 = e.val; omega
  rw [val_main_v64_apply, hi]
  have hm := mask
  have hl := dchunks x0 x1
  unfold val_main_v61 val_main_v60 val_main_v58 val_main_v40 val_main_v39
  generalize val_main_v38 (F := Ideal) = M at hm ⊢
  generalize val_main_v51 (F := Ideal) x0 x1 = L at hl ⊢
  pointwise
  simp only [hm, hl]
  have he : (col h e).val / 64 = h.val := by simp only [col]; omega
  unfold dvv
  refine Finset.sum_congr rfl fun a _ => ?_
  simp only [he]
  by_cases ha : n.val % 128 ≤ a.val
  · simp only [if_pos ha, mul_one]
    exact mul_comm _ _
  · simp only [if_neg ha, mul_zero]

theorem dg (n : Fin 1) (j : Fin 256) : (val_main_v72 (F := Ideal) x0 x1 x3 (ix2 n j) : EReal) =
    ∑ n : Fin 2048, dgPart x0 x1 x3 n j := by
  have hn := norm x1
  have hd := dmixed x0 x1 x3
  have hi : idx_main_v69 (idx_main_v72 (ix2 n j)) = ix2 (⟨j.val / 64, by omega⟩ : Fin 4) (⟨j.val % 64, by omega⟩ : Fin 64) := by
    refine funext fun d => Fin.ext ?_
    match d with
    | 0 => show (n.val * 256 + j.val) / 64 = j.val / 64; omega
    | 1 => show (n.val * 256 + j.val) % 64 = j.val % 64; omega
  have hj : col ⟨j.val / 64, by omega⟩ ⟨j.val % 64, by omega⟩ = j := Fin.ext (by simp only [col]; omega)
  rw [val_main_v72_apply, val_main_v69_apply, hi]
  unfold val_main_v68 val_main_v67 val_main_v66 val_main_v65 val_main_cst_10 val_main_cst_11
  generalize val_main_v31 (F := Ideal) x1 = X at hn ⊢
  generalize val_main_v64 (F := Ideal) x0 x1 x3 = Y at hd ⊢
  pointwise
  simp only [hn, hd, hj]
  simp only [Finset.univ_unique, Finset.sum_singleton]
  exact Finset.sum_congr rfl fun l _ => mul_comm _ _

/-- The sum over the first and the last axis of four. -/
theorem sum_outer {n0 n1 n2 n3 : Nat} (h : (⟨4, ![n0, n1, n2, n3]⟩ : Shape).ReducesTo [0, 3] ⟨2, ![n1, n2]⟩)
    (f : (⟨4, ![n0, n1, n2, n3]⟩ : Shape).Idx → EReal) (init : EReal) (a : Fin n1) (b : Fin n2) :
    Ideal.hostReduceAdd h f init (ix2 a b) = init + ∑ q : Fin n0, ∑ e : Fin n3, f (ix4 q a b e) := by
  refine congrArg (init + ·) ?_
  rw [← Fintype.sum_prod_type' (f := fun (q : Fin n0) (e : Fin n3) => f (ix4 q a b e))]
  refine Finset.sum_filter_eq_sum_of_fiber _ (fun k : Fin n0 × Fin n3 => ix4 k.1 a b k.2)
    (fun k k' e => Prod.ext (congrFun e 0) (congrFun e 3)) (fun i => ?_) f
  constructor
  · intro e
    refine ⟨(i 0, i 3), funext fun d => Fin.ext ?_⟩
    match d with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    refine funext fun d => Fin.ext ?_
    match d with
    | ⟨0, _⟩ => rfl
    | ⟨1, _⟩ => rfl

theorem db52 (a : Fin 128) (h : Fin 4) : (val_main_v52 (F := Ideal) x0 x1 (ix2 a h) : EReal) =
    ∑ q : Fin 16, ∑ e : Fin 64, du x0 x1 (row q a) (col h e) := by
  have hl := dchunks x0 x1
  unfold val_main_v52 val_main_cst_7
  generalize val_main_v51 (F := Ideal) x0 x1 = L at hl ⊢
  refine (sum_outer _ L _ a h).trans ?_
  simp only [hl]
  pointwise

theorem db54 (a : Fin 128) (h : Fin 4) : (val_main_v54 (F := Ideal) x0 x1 (ix2 a h) : EReal) =
    ∑ q : Fin 16, ∑ e : Fin 64, du x0 x1 (row q a) (col h e) := by
  have hi : idx_main_v53 (ix4 0 a h 0) = ix2 a h := by
    refine funext fun d => Fin.ext ?_
    match d with
    | 0 => show (((0 * 128 + a.val) * 4 + h.val) * 1 + 0) / 4 = a.val; omega
    | 1 => show (((0 * 128 + a.val) * 4 + h.val) * 1 + 0) % 4 = h.val; omega
  have hl : (val_main_v53 (F := Ideal) x0 x1 (ix4 0 a h 0) : EReal) = _ := (val_main_v53_apply x0 x1 _).trans
    ((congrArg (val_main_v52 (F := Ideal) x0 x1) hi).trans (db52 x0 x1 a h))
  unfold val_main_v54 val_main_cst_8
  generalize val_main_v53 (F := Ideal) x0 x1 = L at hl ⊢
  refine (sum_outer _ L _ a h).trans ?_
  simp only [Finset.univ_unique, Finset.sum_singleton]
  refine (congrArg (_ + · : EReal → EReal) hl).trans ?_
  pointwise

/-- The reference's gradient in the bias, a head to a column. -/
theorem db (a l : Fin 128) : (val_main_v71 (F := Ideal) x0 x1 (ix2 a l) : EReal) = ∑ q : Fin 16, dbPart x0 x1 q a l := by
  have hl := db54 x0 x1
  unfold val_main_v71 val_main_v70 val_main_v57 val_main_v56 val_main_v55 val_main_call1_v0 val_main_c val_main_cst_9
  generalize val_main_v54 (F := Ideal) x0 x1 = L at hl ⊢
  pointwise
  unfold dbPart
  by_cases h : l.val < 4
  · have hs (q : Fin 16) := sum_head (fun x => du x0 x1 (row q a) x) ⟨l.val, h⟩
    simp only [dif_pos h, hl, hs, Finset.univ_unique, Finset.sum_singleton]
    rfl
  · have hx (x : Fin 256) : ¬x.val / 64 = l.val := by omega
    simp [dif_neg h, hx, FloatOps.sitofp]

end Cert.SguReference
-- ==== Proof.SguClaim.lean ====
/- The gated unit's backward call and the derivative it computes: equal values, where the entries are finite. -/
module

public import proofs.«01_k».proof.Defs
public import proofs.«01_k».proof.Proof.Gen.Pre_finite16
public import proofs.«01_k».proof.Proof.Gen.SguIdeal.Value
public import proofs.«01_k».proof.Proof.SguValue
public import proofs.«01_k».proof.Proof.SguReference

@[expose] public section

noncomputable section

namespace Cert.SguClaim

open Idealize.ShloMosaic Idealize.ShloMosaic.TcCoe Idealize.SL.Sem Cert.SguSpec

/-- A number whose absolute value is below the largest is real. -/
theorem real_of_abs {x : EReal} (h : max x (-x) < ⊤) : Real' x := by
  induction x using EReal.rec with
  | bot => simp at h
  | coe r => exact ⟨r, rfl⟩
  | top => simp at h

theorem top_bits : (Ideal.ofBits .bf16 0x7F80#16 : EReal) = ⊤ := by
  simp [Ideal.ofBits, Ideal.ieee]

/-- What the comparison says of one entry. -/
theorem real_of_cmp {x : EReal} (h : Ideal.cmp .olt (max x (-x)) (Ideal.ofBits .bf16 0x7F80#16) = 1#1) : Real' x := by
  rw [top_bits] at h
  refine real_of_abs ?_
  by_contra hn
  simp [Ideal.cmp, hn] at h

theorem finite (m : (ℓ : Loc Cert.SguIdeal.nD Cert.SguIdeal.τ Cert.SguIdeal.sig) → Buf (Elt Ideal) ℓ)
    (h : Cert.Pre_SguIdeal_finite16 (hPre_finite16 := Cert.Pre_finite16.Gen.facts) m) (c : Dev Cert.SguIdeal.nD) :
    Cert.SguBlocks.Finite m c := by
  obtain ⟨h0, h1⟩ := h c
  refine ⟨fun n j => real_of_cmp ?_, fun n j => real_of_cmp ?_, fun n j => real_of_cmp ?_⟩
  · refine Eq.trans ?_ (congrFun h0 (ix2 n j))
    unfold Cert.Pre_finite16.fn
    pointwise
    rfl
  · refine Eq.trans ?_ (congrFun h1 (ix2 n ⟨j.val, by omega⟩))
    unfold Cert.Pre_finite16.fn
    pointwise
    rfl
  · refine Eq.trans ?_ (congrFun h1 (ix2 n ⟨256 + j.val, by omega⟩))
    unfold Cert.Pre_finite16.fn
    pointwise
    simp only [Ideal.absf_def, ← Nat.add_assoc]

theorem algebraic : Cert.algebraic_SguIdeal_SguReferenceIdeal_pre_finite16 (hSguIdeal := Cert.SguIdeal.Gen.facts)
    (hSguReferenceIdeal := Cert.SguReferenceIdeal.Gen.facts) (hPre_finite16 := Cert.Pre_finite16.Gen.facts) := by
  intro m g m' g' hpre hagree
  refine ⟨fun c => (Cert.SguIdeal.Gen.dats m 0 c).arrAt 8 Cert.SguIdeal.cfg0.N,
    fun c => (Cert.SguIdeal.Gen.dats m 0 c).arrAt 9 Cert.SguIdeal.cfg0.N,
    fun c => (Cert.SguIdeal.Gen.dats m 0 c).arrAt 10 Cert.SguIdeal.cfg0.N,
    (θ_run Cert.SguIdeal.defs _ _).mono (fun r h c => (h c).2.2) (Cert.SguIdeal.Value.run_blocks m g),
    (θ_run Cert.SguReferenceIdeal.defs _ _).mono (fun r h c => ?_) (Cert.SguReferenceIdeal.Value.run m' g')⟩
  obtain ⟨h0, h1, h2, h⟩ := h c
  obtain ⟨e0, e1, e2, e3, e4⟩ := hagree c
  have hc := finite m hpre c
  refine ⟨?_, ?_, ?_, h⟩
  · refine h0.trans ?_
    rw [Cert.SguReferenceIdeal.Read.val_main_v63_eq, e0, e1, e2]
    refine Eq.trans (funext fun y => ?_) (Cert.SguValue.arr8 m c hc).symm
    obtain ⟨k, a, b, rfl⟩ : ∃ (k : Fin 4) (a : Fin 128) (b : Fin 128), y = ix3 k a b := ⟨y 0, y 1, y 2, eq_ix3 y⟩
    exact Cert.SguReference.dw _ _ _ k a b
  · refine h1.trans ?_
    rw [Cert.SguReferenceIdeal.Read.val_main_v71_eq, e0, e1]
    refine Eq.trans (funext fun y => ?_) (Cert.SguValue.arr9 m c hc).symm
    obtain ⟨a, b, rfl⟩ : ∃ (a : Fin 128) (b : Fin 128), y = ix2 a b := ⟨y 0, y 1, eq_ix2 y⟩
    exact Cert.SguReference.db _ _ a b
  · refine h2.trans ?_
    rw [Cert.SguReferenceIdeal.Read.val_main_v72_eq, e0, e1, e3]
    refine Eq.trans (funext fun y => ?_) (Cert.SguValue.arr10 m c hc).symm
    obtain ⟨a, b, rfl⟩ : ∃ (a : Fin 1) (b : Fin 256), y = ix2 a b := ⟨y 0, y 1, eq_ix2 y⟩
    exact Cert.SguReference.dg _ _ _ a b

end Cert.SguClaim

end
-- ==== Proof.SguFwdValue.lean ====
/- What the gated unit's forward call computes, index by index. -/
module

public import proofs.«01_k».proof.Proof.Gen.SguFwdIdeal.Value
public import proofs.«01_k».proof.Proof.SguValue

@[expose] public section

set_option maxRecDepth 16384

noncomputable section

namespace Cert.SguFwdValue

open Cert.SguFwdIdeal Cert.SguFwdIdeal.Gen Idealize.ShloMosaic Idealize.ShloMosaic.TcCoe Idealize.SL.Sem
open Idealize.ShloMosaic.Pipeline (Dat)
open Cert.SguSpec
open Cert.SguKernel (select_head rowt heads)

/-- A column's head, as the kernel's counter says it. -/
theorem head (a : Fin 128) (b : Fin 256) : k0_pay9 (ix2 a b) = BitVec.ofNat 32 (b.val / 64) := Cert.SguKernel.head a b

/-- A selection by the lower triangle. -/
theorem tri {α : Type} (a b : Fin 128) (u v : α) : Scalar.select (k0_pay10 (ix2 a b)) u v = if b.val ≤ a.val then u else v :=
  Cert.SguKernel.tri a b u v

/-- A selection by two counters' order. -/
theorem select_ge {α : Type} (a b : Fin 128) (u v : α) :
    Scalar.select (IntOp.cmpi .sge (BitVec.ofNat 32 a.val) (BitVec.ofNat 32 b.val)) u v = if b.val ≤ a.val then u else v := by
  rw [WordCmp.cmpi_sge_ofNat (by omega) (by omega)]
  by_cases h : b.val ≤ a.val <;> simp [h, Scalar.select]

section Payloads

variable (U R : FVec Ideal S512x256 .f32) (G : FVec Ideal S1x256 .f32) (B : FVec Ideal S128x256 .f32)
  (W : Fin 4 → FVec Ideal S1x128x128 .f32)

/-- A row of a row block: the rows of its chunk mixed by the weights of its head on and below the diagonal, and gated. -/
def mixed (s : Fin 4) (a : Fin 128) (j : Fin 256) : EReal :=
  U (ix2 (rowt s a) j) * (B (ix2 a j) + ∑ b : Fin 128, if b.val ≤ a.val then
    W ⟨j.val / 64, by omega⟩ (ix3 0 a b) * (R (ix2 (rowt s b) j) * G (ix2 0 j)) else 0)

/-- The bias, and then a head at a time. -/
theorem heads_bias (f : Fin 4 → Fin 128 → EReal) (z : EReal) (a : Fin 128) (j : Fin 256) :
    (((z + ∑ b : Fin 128, if j.val / 64 = 0 then (if b.val ≤ a.val then f 0 b else 0) else 0) +
        ∑ b : Fin 128, if j.val / 64 = 1 then (if b.val ≤ a.val then f 1 b else 0) else 0) +
        ∑ b : Fin 128, if j.val / 64 = 2 then (if b.val ≤ a.val then f 2 b else 0) else 0) +
        ∑ b : Fin 128, (if j.val / 64 = 3 then (if b.val ≤ a.val then f 3 b else 0) else 0) =
      z + ∑ b : Fin 128, if b.val ≤ a.val then f ⟨j.val / 64, by omega⟩ b else 0 := by
  rw [add_assoc, add_assoc, add_assoc, ← Finset.sum_add_distrib, ← Finset.sum_add_distrib, ← Finset.sum_add_distrib]
  refine congrArg (z + ·) (Finset.sum_congr rfl fun b _ => ?_)
  obtain h | h | h | h : j.val / 64 = 0 ∨ j.val / 64 = 1 ∨ j.val / 64 = 2 ∨ j.val / 64 = 3 := by omega
  all_goals simp [h]

theorem pieces (a : Fin 128) (j : Fin 256) :
    (k0_pay16 U k0_pay9 k0_pay10 (k0_pay12 R G) (k0_pay13 B) k0_pay14 (k0_pay15 R G (W 0)) (FloatOps.ofBits FTy.f32 0#32)
      (W 1) (W 2) (W 3) (ix2 a j) : EReal) = mixed U R G B W 0 a j ∧
    (k0_pay21 U k0_pay9 k0_pay10 (k0_pay17 (k0_pay11 R G)) (k0_pay18 k0_pay9 k0_pay10 (k0_pay11 R G) B (W 0) (W 1))
      (k0_pay19 k0_pay9) (k0_pay20 k0_pay10 (k0_pay11 R G) (W 2)) (FloatOps.ofBits FTy.f32 0#32) (W 3) (ix2 a j) : EReal) =
      mixed U R G B W 1 a j ∧
    (k0_pay25 U k0_pay9 k0_pay10 (k0_pay22 (k0_pay11 R G)) (k0_pay23 k0_pay9 k0_pay10 (k0_pay11 R G) B (W 0))
      (k0_pay24 k0_pay10 (W 1)) (W 2) (W 3) (ix2 a j) : EReal) = mixed U R G B W 2 a j ∧
    (k0_pay1 U k0_pay9 (k0_pay26 (k0_pay11 R G)) (k0_pay28 k0_pay9 k0_pay10 (k0_pay26 (k0_pay11 R G)) (k0_pay27 B) (W 0) (W 1)
      (W 2)) (k0_pay29 k0_pay10 (W 3)) (ix2 a j) : EReal) = mixed U R G B W 3 a j := by
  have hd := head
  have ht := @tri EReal
  have hf := Cert.SguKernel.floor j (s := Scalar.subi (Scalar.extui (Scalar.cmpi .sgt 64#32 0#32))
    (Scalar.extui (Scalar.cmpi .slt 64#32 0#32))) (by decide)
  generalize k0_pay9 = H at hd ⊢
  generalize k0_pay10 = T at ht ⊢
  refine ⟨(?_ : _ = _).trans (congrArg (U (ix2 (rowt 0 a) j) * ·) (heads_bias (fun g b => W g (ix3 0 a b) * (R (ix2 (rowt 0 b) j) * G (ix2 0 j))) (B (ix2 a j)) a j)),
    (?_ : _ = _).trans (congrArg (U (ix2 (rowt 1 a) j) * ·) (heads_bias (fun g b => W g (ix3 0 a b) * (R (ix2 (rowt 1 b) j) * G (ix2 0 j))) (B (ix2 a j)) a j)),
    (?_ : _ = _).trans (congrArg (U (ix2 (rowt 2 a) j) * ·) (heads_bias (fun g b => W g (ix3 0 a b) * (R (ix2 (rowt 2 b) j) * G (ix2 0 j))) (B (ix2 a j)) a j)),
    (?_ : _ = _).trans (congrArg (U (ix2 (rowt 3 a) j) * ·) (heads_bias (fun g b => W g (ix3 0 a b) * (R (ix2 (rowt 3 b) j) * G (ix2 0 j))) (B (ix2 a j)) a j))⟩
  all_goals
    unfold_payloads
    pointwise
    simp only [hd, ht, hf, select_ge, select_head _ _ (by decide : 0 < 2 ^ 31), select_head _ 1 (by decide), select_head _ 2 (by decide),
      select_head _ 3 (by decide)]
    simp [rowt]

end Payloads

section Blocks

variable (m : (ℓ : Loc nD τ sig) → Buf (Elt Ideal) ℓ)

/-- The blocks of the call's point `t`: row block `t` of the columns it reads and writes, the rest whole. -/
theorem idx : ∀ t : Fin cfg0.N, win0_0.index t = ![t.val, 9] ∧ win0_1.index t = ![t.val, 10] ∧ win0_2.index t = ![0, 0] ∧
    win0_3.index t = ![0, 0, 0] ∧ win0_4.index t = ![0, 0] ∧ win0_5.index t = ![t.val, 3] := by
  decide +kernel

theorem flushes : ∀ t : Fin cfg0.N, (cfg0.win 5).flush t = true := by decide +kernel

/-- A row of the point's row block. -/
def at' (t : Fin cfg0.N) (l : Fin 512) : Fin 2048 :=
  ⟨t.val * 512 + l.val, by have ht : t.val < 4 := t.isLt; omega⟩

theorem left (c : Dev nD) (t : Fin cfg0.N) (l : Fin 512) (j : Fin 256) :
    (k0_pay7 (F := Ideal) (k0_pay2 (iblk m c 0 t)) (ix2 l j) : EReal) =
      gelu (m ((c.tc : Thread nD τ).loc main_arg0) (ix2 (at' t l) ⟨2304 + j.val, by omega⟩)) := by
  unfold k0_pay7 k0_pay2 gelu at'
  pointwise
  simp only [Ideal.erf_def]
  blk_point [iblk, V, idx t]

theorem pre (c : Dev nD) (t : Fin cfg0.N) (l : Fin 512) (j : Fin 256) :
    (k0_pay3 (F := Ideal) (iblk m c 1 t) (ix2 l j) : EReal) =
      m ((c.tc : Thread nD τ).loc main_arg0) (ix2 (at' t l) ⟨2560 + j.val, by omega⟩) := by
  unfold k0_pay3 at'
  pointwise
  blk_point [iblk, V, idx t]

theorem gain (c : Dev nD) (t : Fin cfg0.N) (j : Fin 256) :
    (iblk m c 2 t (ix2 0 j) : EReal) = m ((c.tc : Thread nD τ).loc main_arg1) (ix1 j) := by
  blk_point [iblk, V, idx t]

theorem bias (c : Dev nD) (t : Fin cfg0.N) (a : Fin 128) (j : Fin 256) :
    (iblk m c 4 t (ix2 a j) : EReal) = m ((c.tc : Thread nD τ).loc main_arg3) (ix2 ⟨j.val / 64, by omega⟩ a) := by
  blk_point [iblk, V, idx t]

/-- A head's weights, as the body reads them. -/
def slabs (c : Dev nD) (t : Fin cfg0.N) : Fin 4 → FVec Ideal S1x128x128 .f32 := fun g =>
  match g with
  | 0 => View.ld (iblk m c 3 t) (Rect.unit ![0, 0, 0] ![1, 128, 128] inb_S4x128x128_S1x128x128_0_0_0)
  | 1 => View.ld (iblk m c 3 t) (Rect.unit ![1, 0, 0] ![1, 128, 128] inb_S4x128x128_S1x128x128_1_0_0)
  | 2 => View.ld (iblk m c 3 t) (Rect.unit ![2, 0, 0] ![1, 128, 128] inb_S4x128x128_S1x128x128_2_0_0)
  | 3 => View.ld (iblk m c 3 t) (Rect.unit ![3, 0, 0] ![1, 128, 128] inb_S4x128x128_S1x128x128_3_0_0)

theorem weights (c : Dev nD) (t : Fin cfg0.N) (g : Fin 4) (a b : Fin 128) :
    (slabs m c t g (ix3 0 a b) : EReal) = m ((c.tc : Thread nD τ).loc main_arg2) (ix3 g a b) := by
  have hw (g : Fin 4) : (iblk m c 3 t (ix3 g a b) : EReal) = m ((c.tc : Thread nD τ).loc main_arg2) (ix3 g a b) := by
    blk_point [iblk, V, idx t]
  match g with
  | 0 => exact (Cert.SguValue.slab _ 0 _ rfl _ a b).trans (hw 0)
  | 1 => exact (Cert.SguValue.slab _ 1 _ rfl _ a b).trans (hw 1)
  | 2 => exact (Cert.SguValue.slab _ 2 _ rfl _ a b).trans (hw 2)
  | 3 => exact (Cert.SguValue.slab _ 3 _ rfl _ a b).trans (hw 3)

/-- The columns that the norm takes are real numbers. -/
def Finite (c : Dev nD) : Prop :=
  ∀ (n : Fin 2048) (j : Fin 256), Real' (m ((c.tc : Thread nD τ).loc main_arg0) (ix2 n ⟨2560 + j.val, by omega⟩))

/-- The normalised entry at the point. -/
theorem normeds {c : Dev nD} (h : Finite m c) (t : Fin cfg0.N) (l : Fin 512) (j : Fin 256) :
    (k0_pay8 (F := Ideal) (k0_pay3 (iblk m c 1 t)) k0_pay4 (iota Kind.tc S256x256 32 [1] iota_S256x256_d1_w32) 64#32 k0_pay5
        k0_pay6 1#32 0#32 (ix2 l j) : EReal) = normed (m ((c.tc : Thread nD τ).loc main_arg0)) (at' t l) j := by
  have hx (l j) : Real' (k0_pay3 (F := Ideal) (iblk m c 1 t) (ix2 l j)) := by rw [pre]; exact h (at' t l) j
  have hp := pre m c t
  generalize k0_pay3 (F := Ideal) (iblk m c 1 t) = X at hx hp ⊢
  have hv : (Cert.SguIdeal.Gen.k0_pay21 (F := Ideal) X (ix2 l j) : EReal) = gelu (X (ix2 l j)) := by
    unfold Cert.SguIdeal.Gen.k0_pay21 gelu
    pointwise
    simp only [Ideal.erf_def]
  refine (?_ : _ = _).trans ((congrArg₂ (· * · : EReal → EReal → EReal) hv (Cert.SguBlocks.root_of X hx l j)).trans ?_)
  · rfl
  · simp only [hp]
    rfl

/-- What the body mixes at a point, from the arrays the call reads. -/
theorem mixed_at {c : Dev nD} (h : Finite m c) (t : Fin cfg0.N) (s : Fin 4) (a : Fin 128) (j : Fin 256) :
    mixed (k0_pay7 (k0_pay2 (iblk m c 0 t))) (k0_pay8 (k0_pay3 (iblk m c 1 t)) k0_pay4
      (iota Kind.tc S256x256 32 [1] iota_S256x256_d1_w32) 64#32 k0_pay5 k0_pay6 1#32 0#32) (iblk m c 2 t) (iblk m c 4 t)
      (slabs m c t) s a j = gated (m ((c.tc : Thread nD τ).loc main_arg0)) (m ((c.tc : Thread nD τ).loc main_arg1))
      (m ((c.tc : Thread nD τ).loc main_arg2)) (m ((c.tc : Thread nD τ).loc main_arg3)) (at' t (rowt s a)) j := by
  have ht : t.val < 4 := t.isLt
  have hn : (at' t (rowt s a)).val % 128 = a.val := by simp only [at', rowt]; omega
  have hr (b : Fin 128) : row ⟨(at' t (rowt s a)).val / 128, by omega⟩ b = at' t (rowt s b) :=
    Fin.ext (by simp only [at', rowt, row]; omega)
  unfold mixed gated
  simp only [left, bias, gain, weights, normeds m h, hr, hn]
  rfl

/-- The rows that a point leaves. -/
theorem block {c : Dev nD} (h : Finite m c) (t : Fin cfg0.N) (l : Fin 512) (j : Fin 256) :
    (outsAt0 m c t (ix2 l j) : EReal) = gated (m ((c.tc : Thread nD τ).loc main_arg0)) (m ((c.tc : Thread nD τ).loc main_arg1))
      (m ((c.tc : Thread nD τ).loc main_arg2)) (m ((c.tc : Thread nD τ).loc main_arg3)) (at' t l) j := by
  have hm := mixed_at m h t
  have hp := pieces (k0_pay7 (k0_pay2 (iblk m c 0 t))) (k0_pay8 (k0_pay3 (iblk m c 1 t)) k0_pay4
      (iota Kind.tc S256x256 32 [1] iota_S256x256_d1_w32) 64#32 k0_pay5 k0_pay6 1#32 0#32) (iblk m c 2 t) (iblk m c 4 t)
      (slabs m c t)
  unfold outsAt0
  frame_out
  canon_tiles x h
  all_goals
    obtain ⟨a, j', rfl⟩ : ∃ (a : Fin 128) (j' : Fin 256), x = ix2 a j' := ⟨x 0, x 1, eq_ix2 x⟩
    obtain rfl : j = j' := Fin.ext h1
  · refine (hp a j).2.2.2.trans ((hm 3 a j).trans ?_)
    rw [show rowt 3 a = l from Fin.ext h0.symm]
  · refine (hp a j).2.2.1.trans ((hm 2 a j).trans ?_)
    rw [show rowt 2 a = l from Fin.ext h0.symm]
  · refine (hp a j).2.1.trans ((hm 1 a j).trans ?_)
    rw [show rowt 1 a = l from Fin.ext h0.symm]
  · refine (hp a j).1.trans ((hm 0 a j).trans ?_)
    rw [show rowt 0 a = l from Fin.ext (by simp [rowt]; exact h0.symm)]

/-- The array that the call leaves: the gated rows in the last columns, the given array in the others. -/
theorem arr5 {c : Dev nD} (h : Finite m c) (n : Fin 2048) (k : Fin 1024) : ((dats m 0 c).arrAt 5 cfg0.N (ix2 n k) : EReal) =
    if hk : 768 ≤ k.val then gated (m ((c.tc : Thread nD τ).loc main_arg0)) (m ((c.tc : Thread nD τ).loc main_arg1))
      (m ((c.tc : Thread nD τ).loc main_arg2)) (m ((c.tc : Thread nD τ).loc main_arg3)) n ⟨k.val - 768, by omega⟩
    else m ((c.tc : Thread nD τ).loc main_arg4) (ix2 n k) := by
  by_cases hk : 768 ≤ k.val
  · rw [dif_pos hk]
    obtain ⟨t, l, rfl⟩ : ∃ (t : Fin cfg0.N) (l : Fin 512), n = at' t l :=
      ⟨⟨n.val / 512, by show _ < 4; omega⟩, ⟨n.val % 512, by omega⟩, Fin.ext (by simp only [at']; omega)⟩
    obtain ⟨j, hj⟩ : ∃ j : Fin 256, j.val = k.val - 768 := ⟨⟨k.val - 768, by omega⟩, rfl⟩
    have he : ((cfg0.win 5).blk t).view.emb (ix2 l j) = ix2 (at' t l) k := by
      unfold at'
      blk_ext [idx t]
    have hb := congrFun (Cert.SguFwdIdeal.Value.blocks5 m c t (flushes t)) (ix2 l j)
    rw [View.read_apply, he, Cert.SguFwdIdeal.Value.flushed5] at hb
    refine hb.trans ((block m h t l j).trans ?_)
    rw [show j = ⟨k.val - 768, by omega⟩ from Fin.ext hj]
  · rw [dif_neg hk, Cert.SguFwdIdeal.Value.entry5]
    · blk_point [V]
    · intro t _ hm
      mem_blk [idx t] at hm
      have e : (ix2 n k 1).val = k.val := rfl
      omega

end Blocks

end Cert.SguFwdValue
-- ==== Proof.SguFwdReference.lean ====
/- What the reference computes for the gated unit, index by index. -/
module

public import proofs.«01_k».proof.Proof.Gen.SguFwdReferenceIdeal.Run
public import proofs.«01_k».proof.Proof.Gen.SguFwdReferenceIdeal.Read
public import proofs.«01_k».proof.Proof.SguReference

@[expose] public section

set_option maxRecDepth 16384

noncomputable section

namespace Cert.SguFwdReference

open Idealize.ShloMosaic Idealize.ShloMosaic.TcCoe Idealize.SL.Sem
open Cert.SguFwdReferenceIdeal Cert.SguFwdReferenceIdeal.Gen Cert.SguFwdReferenceIdeal.Read
open Cert.SguSpec
open Cert.SguReference (col)

variable (x0 : (⟨S2048x2816, .bf16⟩ : BufTy).Contents (Elt Ideal)) (x1 : (⟨S256, .f32⟩ : BufTy).Contents (Elt Ideal))
  (x2 : (⟨S4x128x128, .f32⟩ : BufTy).Contents (Elt Ideal)) (x3 : (⟨S4x128, .f32⟩ : BufTy).Contents (Elt Ideal))
  (x4 : (⟨S2048x1024, .bf16⟩ : BufTy).Contents (Elt Ideal))

theorem left (n : Fin 2048) (j : Fin 256) :
    (val_main_v11 (F := Ideal) x0 (ix2 n j) : EReal) = gelu (x0 (ix2 n ⟨2304 + j.val, by omega⟩)) :=
  Cert.SguReference.left x0 n j

theorem chunks (q : Fin 16) (a : Fin 128) (h : Fin 4) (e : Fin 64) :
    (val_main_v34 (F := Ideal) x0 x1 (ix4 q a h e) : EReal) = scaled x0 x1 (row q a) (col h e) :=
  Cert.SguReference.chunks x0 x1 q a h e

theorem mask (a b : Fin 128) : (val_main_v37 (F := Ideal) (ix3 0 a b) : EReal) = if b.val ≤ a.val then 1 else 0 :=
  Cert.SguReference.mask a b

theorem mixed (q : Fin 16) (a : Fin 128) (h : Fin 4) (e : Fin 64) :
    (val_main_v46 (F := Ideal) x0 x1 x2 x3 (ix4 q a h e) : EReal) = x3 (ix2 h a) +
      ∑ b : Fin 128, if b.val ≤ a.val then x2 (ix3 h a b) * scaled x0 x1 (row q b) (col h e) else 0 := by
  have hm := mask
  have hl := chunks x0 x1
  unfold val_main_v46 val_main_v45 val_main_v44 val_main_v43 val_main_v42 val_main_v41 val_main_v40 val_main_v39 val_main_v38
  generalize val_main_v37 (F := Ideal) = M at hm ⊢
  generalize val_main_v34 (F := Ideal) x0 x1 = L at hl ⊢
  pointwise
  simp only [hm, hl]
  refine (add_comm _ _).trans (congrArg (x3 (ix2 h a) + ·) (Finset.sum_congr rfl fun b _ => ?_))
  by_cases hb : b.val ≤ a.val
  · simp only [if_pos hb, mul_one]
    exact mul_comm _ _
  · simp only [if_neg hb, mul_zero]

theorem out (n : Fin 2048) (j : Fin 256) : (val_main_v49 (F := Ideal) x0 x1 x2 x3 (ix2 n j) : EReal) = gated x0 x1 x2 x3 n j := by
  have hi : idx_main_v47 (ix2 n j) = ix4 (⟨n.val / 128, by omega⟩ : Fin 16) (⟨n.val % 128, by omega⟩ : Fin 128)
      (⟨j.val / 64, by omega⟩ : Fin 4) (⟨j.val % 64, by omega⟩ : Fin 64) := by
    refine funext fun d => Fin.ext ?_
    match d with
    | 0 => show (n.val * 256 + j.val) / 32768 = n.val / 128; omega
    | 1 => show (n.val * 256 + j.val) / 256 % 128 = n.val % 128; omega
    | 2 => show (n.val * 256 + j.val) / 64 % 4 = j.val / 64; omega
    | 3 => show (n.val * 256 + j.val) % 64 = j.val % 64; omega
  have hj : col ⟨j.val / 64, by omega⟩ ⟨j.val % 64, by omega⟩ = j := Fin.ext (by simp only [col]; omega)
  have hg := (val_main_v47_apply (F := Ideal) x0 x1 x2 x3 (ix2 n j)).trans
    ((congrArg (val_main_v46 (F := Ideal) x0 x1 x2 x3) hi).trans (mixed x0 x1 x2 x3 _ _ _ _))
  have hl := left x0 n j
  unfold val_main_v49 val_main_v48 gated
  generalize val_main_v11 (F := Ideal) x0 = L at hl ⊢
  generalize val_main_v47 (F := Ideal) x0 x1 x2 x3 = M at hg ⊢
  pointwise
  rw [hl, hg, hj]

end Cert.SguFwdReference
-- ==== Proof.SguFwdClaim.lean ====
/- The gated unit's forward call and the unit it computes: equal values, where the columns that the norm takes are finite. -/
module

public import proofs.«01_k».proof.Defs
public import proofs.«01_k».proof.Proof.Gen.Pre_finite27
public import proofs.«01_k».proof.Proof.Gen.SguFwdIdeal.Value
public import proofs.«01_k».proof.Proof.SguClaim
public import proofs.«01_k».proof.Proof.SguFwdValue
public import proofs.«01_k».proof.Proof.SguFwdReference

@[expose] public section

noncomputable section

namespace Cert.SguFwdClaim

open Idealize.ShloMosaic Idealize.ShloMosaic.TcCoe Idealize.SL.Sem Cert.SguSpec

theorem finite (m : (ℓ : Loc Cert.SguFwdIdeal.nD Cert.SguFwdIdeal.τ Cert.SguFwdIdeal.sig) → Buf (Elt Ideal) ℓ)
    (h : Cert.Pre_SguFwdIdeal_finite27 (hPre_finite27 := Cert.Pre_finite27.Gen.facts) m) (c : Dev Cert.SguFwdIdeal.nD) :
    Cert.SguFwdValue.Finite m c := by
  refine fun n j => Cert.SguClaim.real_of_cmp ((?_ : _ = _).trans (congrFun (h c) (ix2 n j)))
  unfold Cert.Pre_finite27.fn
  pointwise
  rfl

/-- The reference's array at an index: the given array's columns, and then the gated rows. -/
theorem joined (x0 : (⟨Cert.SguFwdReferenceIdeal.S2048x2816, .bf16⟩ : BufTy).Contents (Elt Ideal))
    (x1 : (⟨Cert.SguFwdReferenceIdeal.S256, .f32⟩ : BufTy).Contents (Elt Ideal))
    (x2 : (⟨Cert.SguFwdReferenceIdeal.S4x128x128, .f32⟩ : BufTy).Contents (Elt Ideal))
    (x3 : (⟨Cert.SguFwdReferenceIdeal.S4x128, .f32⟩ : BufTy).Contents (Elt Ideal))
    (x4 : (⟨Cert.SguFwdReferenceIdeal.S2048x1024, .bf16⟩ : BufTy).Contents (Elt Ideal)) (n : Fin 2048) (k : Fin 1024) :
    (Cert.SguFwdReferenceIdeal.Read.val_main_v50 (F := Ideal) x0 x1 x2 x3 x4 (ix2 n k) : EReal) =
      if hk : 768 ≤ k.val then gated x0 x1 x2 x3 n ⟨k.val - 768, by omega⟩ else x4 (ix2 n k) := by
  have ho := Cert.SguFwdReference.out x0 x1 x2 x3 n
  unfold Cert.SguFwdReferenceIdeal.Read.val_main_v50
  generalize Cert.SguFwdReferenceIdeal.Read.val_main_v49 (F := Ideal) x0 x1 x2 x3 = G at ho ⊢
  pointwise [Cert.SguFwdReferenceIdeal.Read.val_main_v4]
  by_cases hk : 768 ≤ k.val
  · rw [dif_neg (by omega), dif_pos hk, ho]
  · rw [dif_pos (by omega), dif_neg hk]

theorem algebraic : Cert.algebraic_SguFwdIdeal_SguFwdReferenceIdeal_pre_finite27 (hSguFwdIdeal := Cert.SguFwdIdeal.Gen.facts)
    (hSguFwdReferenceIdeal := Cert.SguFwdReferenceIdeal.Gen.facts) (hPre_finite27 := Cert.Pre_finite27.Gen.facts) := by
  intro m g m' g' hpre hagree
  refine ⟨fun c => (Cert.SguFwdIdeal.Gen.dats m 0 c).arrAt 5 Cert.SguFwdIdeal.cfg0.N, Cert.SguFwdIdeal.Value.run_blocks m g,
    (θ_run Cert.SguFwdReferenceIdeal.defs _ _).mono (fun r h c => ?_) (Cert.SguFwdReferenceIdeal.Value.run m' g')⟩
  obtain ⟨h0, h⟩ := h c
  obtain ⟨e0, e1, e2, e3, e4⟩ := hagree c
  refine ⟨h0.trans ?_, h⟩
  rw [Cert.SguFwdReferenceIdeal.Read.val_main_v50_eq, e0, e1, e2, e3, e4]
  refine funext fun y => ?_
  obtain ⟨n, k, rfl⟩ : ∃ (n : Fin 2048) (k : Fin 1024), y = ix2 n k := ⟨y 0, y 1, eq_ix2 y⟩
  exact (joined _ _ _ _ _ n k).trans (Cert.SguFwdValue.arr5 m (finite m hpre c) n k).symm

end Cert.SguFwdClaim

end
-- ==== Proof.ConvFwdClaim.lean ====
/- The short convolution's forward call: the array it leaves, the reference's, and that they are equal. -/
module

public import proofs.«01_k».proof.Defs
public import proofs.«01_k».proof.Proof.Gen.ConvFwdIdeal.Frame
public import proofs.«01_k».proof.Proof.Gen.ConvFwdReferenceIdeal.Run
public import proofs.«01_k».proof.Proof.Gen.ConvFwdReferenceIdeal.Read
public import proofs.«01_k».proof.Proof.ConvKernel
public import proofs.«01_k».proof.Proof.ConvReference

@[expose] public section

set_option maxRecDepth 16384

noncomputable section

namespace Cert.ConvFwdClaim

open Idealize.ShloMosaic Idealize.ShloMosaic.TcCoe Idealize.SL.Sem Cert.ConvSpec
open Idealize.ShloMosaic.Pipeline (Dat)

section Kernel

open Cert.ConvFwdIdeal Cert.ConvFwdIdeal.Gen
open Cert.ConvKernel (select_sge rotated_later conved_eq)

variable (m : (ℓ : Loc nD τ sig) → Buf (Elt Ideal) ℓ)

/-- The block of the operands that every window stages at the grid's one point. -/
theorem idx : ∀ t : Fin cfg0.N, win0_0.index t = ![0, 0] ∧ win0_1.index t = ![0, 1] ∧ win0_2.index t = ![0, 2]
    ∧ win0_3.index t = ![0, 0] ∧ win0_4.index t = ![0, 0] := by decide +kernel

theorem blk0 (c : Dev nD) (t : Fin cfg0.N) (a : Fin 2048) (b : Fin 256) :
    iblk m c 0 t (ix2 a b) = gate (m ((c.tc : Thread nD τ).loc main_arg0)) b a := by
  unfold gate; blk_ext [iblk, V, idx t]

theorem blk1 (c : Dev nD) (t : Fin cfg0.N) (a : Fin 2048) (b : Fin 256) :
    iblk m c 1 t (ix2 a b) = first (m ((c.tc : Thread nD τ).loc main_arg0)) b a := by
  unfold first; blk_ext [iblk, V, idx t]

theorem blk2 (c : Dev nD) (t : Fin cfg0.N) (a : Fin 2048) (b : Fin 256) :
    iblk m c 2 t (ix2 a b) = second (m ((c.tc : Thread nD τ).loc main_arg0)) b a := by
  unfold second; blk_ext [iblk, V, idx t]

theorem blk3 (c : Dev nD) (t : Fin cfg0.N) (a : Fin 3) (b : Fin 256) :
    iblk m c 3 t (ix2 a b) = m ((c.tc : Thread nD τ).loc main_arg1) (ix2 a b) := by
  blk_ext [iblk, V, idx t]

/-- The gated convolution. -/
def gated (proj : FVec Ideal (⟨2, ![2048, 2816]⟩ : Shape) .bf16) (w : FVec Ideal (⟨2, ![3, 256]⟩ : Shape) .f32) (b : Fin 256)
    (a : Fin 2048) : EReal := gate proj b a * conv proj w b a

/-- What the grid's one point leaves. -/
theorem block (c : Dev nD) (t : Fin cfg0.N) (a : Fin 2048) (b : Fin 256) :
    ((dats m 0 c).after 4 t (ix2 a b) : EReal) =
      gated (m ((c.tc : Thread nD τ).loc main_arg0)) (m ((c.tc : Thread nD τ).loc main_arg1)) b a := by
  rw [after0_4]
  frame_out
  unfold_payloads
  pointwise
  simp only [blk0, blk1, blk2, blk3]
  rw [select_sge _ _ (by omega) (by omega), select_sge _ _ (by omega) (by omega)]
  simp only [conved_eq, rotated_later 2 (by omega) (conved _ b), rotated_later 1 (by omega) (conved _ b)]
  rfl

theorem emb (t : Fin cfg0.N) (a : Fin 2048) (b : Fin 256) :
    ((cfg0.win 4).blk t).view.emb (ix2 a b) = ix2 a (⟨b.val, by omega⟩ : Fin 1024) := by blk_ext [idx t]

/-- The columns that the call writes, in the array that it leaves. -/
theorem arr4 (c : Dev nD) (a : Fin 2048) (b : Fin 256) :
    ((dats m 0 c).arrAt 4 cfg0.N (ix2 a (⟨b.val, by omega⟩ : Fin 1024)) : EReal) =
      gated (m ((c.tc : Thread nD τ).loc main_arg0)) (m ((c.tc : Thread nD τ).loc main_arg1)) b a := by
  refine ((dats m 0 c).arrAt_apply_of_mem 4 (fun i : S2048x1024.Idx => (if h : (i 1).val < 256 then
    gated (m ((c.tc : Thread nD τ).loc main_arg0)) (m ((c.tc : Thread nD τ).loc main_arg1)) ⟨(i 1).val, h⟩ (i 0) else 0 : EReal))
    (fun t _ => funext fun y => ?_) cfg0.N t0_0 _ t0_0.isLt (by decide +kernel) ?_).trans ?_
  · obtain ⟨a, b, rfl⟩ : ∃ (a : Fin 2048) (b : Fin 256), y = ix2 a b := ⟨y 0, y 1, eq_ix2 y⟩
    rw [View.read_apply, emb t a b]
    refine (block m c t a b).trans (?_ : _ = _)
    rw [cast_eq, dif_pos (show (ix2 a (⟨b.val, by omega⟩ : Fin 1024) 1).val < 256 from b.isLt)]
    rfl
  · rw [← emb t0_0 a b]
    exact View.emb_mem_set _ _
  · exact dif_pos b.isLt

/-- The host's line after the call slices the written columns out of that array. -/
theorem tail (c : Dev nD) : Pipeline.afterTail₀ cfgs (dats m) 0 (V0 m) [hostOps1] c main_v1 =
    extractStridedSlice S2048x256 ![0, 0] ((dats m 0 c).arrAt 4 cfg0.N) slices_S2048x1024_S2048x256_0_0 := by
  unfold Pipeline.afterTail₀
  simp only [hostOps1, List.flatten_cons, List.flatten_nil, List.append_nil]
  after_results
  refine congrArg (fun X : (⟨S2048x1024, .bf16⟩ : BufTy).Contents (Elt Ideal) =>
    extractStridedSlice S2048x256 ![0, 0] X slices_S2048x1024_S2048x256_0_0) ?_
  exact Pipeline.withArrays_arr_shared spec0 c (V0 m c) (fun w => (dats m 0 c).arrAt w cfg0.N) (fun w w' hne e =>
    ((dats m 0 c).arrAt_in w (sharedIn0 w w' hne e) _).trans (A_eq m c w)) 4

theorem result (g : Dev nD → PrngReg) : θ_run defs (onTc (τ := τ) (main (F := Ideal))) ⟨m, fun _ => 0, g⟩ fun r => ∀ c : Dev nD,
    r.2.mem ((c.tc : Thread nD τ).loc main_v1) =
      extractStridedSlice S2048x256 ![0, 0] ((dats m 0 c).arrAt 4 cfg0.N) slices_S2048x1024_S2048x256_0_0 :=
  (θ_run defs _ _).mono (fun r h c =>
    ((h c).2 main_v1 (Pipeline.mem_restRefs_of main_v1 (by decide) (by decide))).trans (tail m c)) (run_main m g)

end Kernel

section Reference

open Cert.ConvFwdReferenceIdeal Cert.ConvFwdReferenceIdeal.Read

variable (x0 : (⟨S2048x2816, .bf16⟩ : BufTy).Contents (Elt Ideal)) (x1 : (⟨S3x256, .f32⟩ : BufTy).Contents (Elt Ideal))

theorem reference (a : Fin 2048) (b : Fin 256) : (val_main_v30 (F := Ideal) x0 x1 (ix2 a b) : EReal) = gated x0 x1 b a := by
  have hg : (val_main_v1 (F := Ideal) x0 (ix2 a b) : EReal) = gate x0 b a := Cert.ConvReference.v1 x0 a b
  have hc : (val_main_v28 (F := Ideal) x0 x1 (ix2 a b) : EReal) = conv x0 x1 b a := Cert.ConvReference.v31 x0 x1 a b
  unfold val_main_v30 val_main_v29 gated
  generalize val_main_v1 (F := Ideal) x0 = G at hg ⊢
  generalize val_main_v28 (F := Ideal) x0 x1 = C at hc ⊢
  pointwise
  rw [hg, hc]

end Reference

theorem algebraic : Cert.algebraic_ConvFwdIdeal_ConvFwdReferenceIdeal (hConvFwdIdeal := Cert.ConvFwdIdeal.Gen.facts)
    (hConvFwdReferenceIdeal := Cert.ConvFwdReferenceIdeal.Gen.facts) := by
  intro m g m' g' _ hagree
  refine ⟨fun c => extractStridedSlice Cert.ConvFwdIdeal.S2048x256 ![0, 0] ((Cert.ConvFwdIdeal.Gen.dats m 0 c).arrAt 4 Cert.ConvFwdIdeal.cfg0.N)
      Cert.ConvFwdIdeal.Gen.slices_S2048x1024_S2048x256_0_0,
    θ_run_and (result m g) (Cert.ConvFwdIdeal.Gen.unchanged m g) |> (θ_run _ _ _).mono (fun r h c => ⟨h.1 c, h.2 c⟩),
    (θ_run Cert.ConvFwdReferenceIdeal.defs _ _).mono (fun r h c => ?_) (Cert.ConvFwdReferenceIdeal.Value.run m' g')⟩
  obtain ⟨h0, h⟩ := h c
  obtain ⟨e0, e1⟩ := hagree c
  refine ⟨h0.trans ?_, h⟩
  rw [Cert.ConvFwdReferenceIdeal.Read.val_main_v30_eq, e0, e1]
  refine funext fun y => ?_
  obtain ⟨a, b, rfl⟩ : ∃ (a : Fin 2048) (b : Fin 256), y = ix2 a b := ⟨y 0, y 1, eq_ix2 y⟩
  exact (reference _ _ a b).trans ((arr4 m c a b).symm.trans (by pointwise))

end Cert.ConvFwdClaim

end
-- ==== Proof.lean ====
/- The claims, put together: every call's frames, its idealization's faithfulness and its values. -/
module

public import proofs.«01_k».proof.Defs
public import proofs.«01_k».proof.Proof.Gen.Conv.Frame
public import proofs.«01_k».proof.Proof.Gen.ConvIdeal.Value
public import proofs.«01_k».proof.Proof.Gen.ConvReferenceIdeal.Run
public import proofs.«01_k».proof.Proof.Gen.Dff2.Frame
public import proofs.«01_k».proof.Proof.Gen.Dff2Ideal.Value
public import proofs.«01_k».proof.Proof.Gen.Dff2ReferenceIdeal.Run
public import proofs.«01_k».proof.Proof.Gen.Dw2.Frame
public import proofs.«01_k».proof.Proof.Gen.Dw2Ideal.Value
public import proofs.«01_k».proof.Proof.Gen.Dw2ReferenceIdeal.Run
public import proofs.«01_k».proof.Proof.Gen.Dw1.Frame
public import proofs.«01_k».proof.Proof.Gen.Dw1Ideal.Value
public import proofs.«01_k».proof.Proof.Gen.Dw1ReferenceIdeal.Run
public import proofs.«01_k».proof.Proof.Gen.Dnorm2.Frame
public import proofs.«01_k».proof.Proof.Gen.Dnorm2Ideal.Value
public import proofs.«01_k».proof.Proof.Gen.Dnorm2ReferenceIdeal.Run
public import proofs.«01_k».proof.Proof.Gen.Dple.Frame
public import proofs.«01_k».proof.Proof.Gen.DpleIdeal.Value
public import proofs.«01_k».proof.Proof.Gen.DpleReferenceIdeal.Run
public import proofs.«01_k».proof.Proof.Gen.Dwg.Frame
public import proofs.«01_k».proof.Proof.Gen.DwgIdeal.Value
public import proofs.«01_k».proof.Proof.Gen.DwgReferenceIdeal.Run
public import proofs.«01_k».proof.Proof.Gen.Dwp.Frame
public import proofs.«01_k».proof.Proof.Gen.DwpIdeal.Value
public import proofs.«01_k».proof.Proof.Gen.DwpReferenceIdeal.Run
public import proofs.«01_k».proof.Proof.Gen.Dout.Frame
public import proofs.«01_k».proof.Proof.Gen.DoutIdeal.Value
public import proofs.«01_k».proof.Proof.Gen.DoutReferenceIdeal.Run
public import proofs.«01_k».proof.Proof.Gen.Dwo.Frame
public import proofs.«01_k».proof.Proof.Gen.DwoIdeal.Value
public import proofs.«01_k».proof.Proof.Gen.DwoReferenceIdeal.Run
public import proofs.«01_k».proof.Proof.Gen.Dwi.Frame
public import proofs.«01_k».proof.Proof.Gen.DwiIdeal.Value
public import proofs.«01_k».proof.Proof.Gen.DwiReferenceIdeal.Run
public import proofs.«01_k».proof.Proof.Gen.Dnorm1.Frame
public import proofs.«01_k».proof.Proof.Gen.Dnorm1Ideal.Value
public import proofs.«01_k».proof.Proof.Gen.Dnorm1ReferenceIdeal.Run
public import proofs.«01_k».proof.Proof.Gen.Ff2.Frame
public import proofs.«01_k».proof.Proof.Gen.Ff2Ideal.Value
public import proofs.«01_k».proof.Proof.Gen.Ff2ReferenceIdeal.Run
public import proofs.«01_k».proof.Proof.Gen.Out.Frame
public import proofs.«01_k».proof.Proof.Gen.OutIdeal.Value
public import proofs.«01_k».proof.Proof.Gen.OutReferenceIdeal.Run
public import proofs.«01_k».proof.Proof.Gen.Ple.Frame
public import proofs.«01_k».proof.Proof.Gen.PleIdeal.Value
public import proofs.«01_k».proof.Proof.Gen.PleReferenceIdeal.Run
public import proofs.«01_k».proof.Proof.Gen.Sgu.Frame
public import proofs.«01_k».proof.Proof.Gen.SguIdeal.Value
public import proofs.«01_k».proof.Proof.Gen.SguReferenceIdeal.Run
public import proofs.«01_k».proof.Proof.Gen.NormIn
public import proofs.«01_k».proof.Proof.NormInValue
public import proofs.«01_k».proof.Proof.Gen.NormFf
public import proofs.«01_k».proof.Proof.NormFfValue
public import proofs.«01_k».proof.Proof.Gen.NormGate
public import proofs.«01_k».proof.Proof.NormGateValue
public import proofs.«01_k».proof.Proof.Gen.Loss.Frame
public import proofs.«01_k».proof.Proof.Gen.LossIdeal.Value
public import proofs.«01_k».proof.Proof.Gen.LossReferenceIdeal.Run
public import proofs.«01_k».proof.Proof.Gen.AdamNorm.Frame
public import proofs.«01_k».proof.Proof.Gen.AdamNormIdeal.Value
public import proofs.«01_k».proof.Proof.Gen.AdamNormReferenceIdeal.Run
public import proofs.«01_k».proof.Proof.Gen.AdamHead.Frame
public import proofs.«01_k».proof.Proof.Gen.AdamHeadIdeal.Value
public import proofs.«01_k».proof.Proof.Gen.AdamHeadReferenceIdeal.Run
public import proofs.«01_k».proof.Proof.Gen.AdamSguNorm.Frame
public import proofs.«01_k».proof.Proof.Gen.AdamSguNormIdeal.Value
public import proofs.«01_k».proof.Proof.Gen.AdamSguNormReferenceIdeal.Run
public import proofs.«01_k».proof.Proof.Gen.AdamConv.Frame
public import proofs.«01_k».proof.Proof.Gen.AdamConvIdeal.Value
public import proofs.«01_k».proof.Proof.Gen.AdamConvReferenceIdeal.Run
public import proofs.«01_k».proof.Proof.Gen.AdamSguW.Frame
public import proofs.«01_k».proof.Proof.Gen.AdamSguWIdeal.Value
public import proofs.«01_k».proof.Proof.Gen.AdamSguWReferenceIdeal.Run
public import proofs.«01_k».proof.Proof.Gen.AdamSguB.Frame
public import proofs.«01_k».proof.Proof.Gen.AdamSguBIdeal.Value
public import proofs.«01_k».proof.Proof.Gen.AdamSguBReferenceIdeal.Run
public import proofs.«01_k».proof.Proof.Gen.SguFwd.Frame
public import proofs.«01_k».proof.Proof.Gen.SguFwdIdeal.Value
public import proofs.«01_k».proof.Proof.Gen.SguFwdReferenceIdeal.Run
public import proofs.«01_k».proof.Proof.Gen.ConvFwd.Frame
public import proofs.«01_k».proof.Proof.Gen.ConvFwdIdeal.Frame
public import proofs.«01_k».proof.Proof.Gen.ConvFwdReferenceIdeal.Run
public import proofs.«01_k».proof.Proof.Gen.AdamBig
public import proofs.«01_k».proof.Proof.AdamBigClaim
public import proofs.«01_k».proof.Proof.AdamBigPrinted
public import proofs.«01_k».proof.Proof.ConvClaim
public import proofs.«01_k».proof.Proof.BackwardClaims
public import proofs.«01_k».proof.Proof.ForwardClaims
public import proofs.«01_k».proof.Proof.OptimiserClaims
public import proofs.«01_k».proof.Proof.NormFrames
public import proofs.«01_k».proof.Proof.SguClaim
public import proofs.«01_k».proof.Proof.SguFwdClaim
public import proofs.«01_k».proof.Proof.ConvFwdClaim
public import Idealize.ShloMosaic.Lib.Quiescent

@[expose] public section

noncomputable section

namespace Cert.Proof

open Idealize.ShloMosaic Idealize.SL.Sem

theorem claim : Cert.Claim := ⟨Cert.Conv.Gen.facts,
  Cert.ConvIdeal.Gen.facts,
  Cert.ConvReferenceIdeal.Gen.facts,
  Cert.Dff2.Gen.facts,
  Cert.Dff2Ideal.Gen.facts,
  Cert.Dff2ReferenceIdeal.Gen.facts,
  Cert.Dw2.Gen.facts,
  Cert.Dw2Ideal.Gen.facts,
  Cert.Dw2ReferenceIdeal.Gen.facts,
  Cert.Dw1.Gen.facts,
  Cert.Dw1Ideal.Gen.facts,
  Cert.Dw1ReferenceIdeal.Gen.facts,
  Cert.Dnorm2.Gen.facts,
  Cert.Dnorm2Ideal.Gen.facts,
  Cert.Dnorm2ReferenceIdeal.Gen.facts,
  Cert.Dple.Gen.facts,
  Cert.DpleIdeal.Gen.facts,
  Cert.DpleReferenceIdeal.Gen.facts,
  Cert.Dwg.Gen.facts,
  Cert.DwgIdeal.Gen.facts,
  Cert.DwgReferenceIdeal.Gen.facts,
  Cert.Dwp.Gen.facts,
  Cert.DwpIdeal.Gen.facts,
  Cert.DwpReferenceIdeal.Gen.facts,
  Cert.Dout.Gen.facts,
  Cert.DoutIdeal.Gen.facts,
  Cert.DoutReferenceIdeal.Gen.facts,
  Cert.Dwo.Gen.facts,
  Cert.DwoIdeal.Gen.facts,
  Cert.DwoReferenceIdeal.Gen.facts,
  Cert.Dwi.Gen.facts,
  Cert.DwiIdeal.Gen.facts,
  Cert.DwiReferenceIdeal.Gen.facts,
  Cert.Dnorm1.Gen.facts,
  Cert.Dnorm1Ideal.Gen.facts,
  Cert.Dnorm1ReferenceIdeal.Gen.facts,
  Cert.Ff2.Gen.facts,
  Cert.Ff2Ideal.Gen.facts,
  Cert.Ff2ReferenceIdeal.Gen.facts,
  Cert.Out.Gen.facts,
  Cert.OutIdeal.Gen.facts,
  Cert.OutReferenceIdeal.Gen.facts,
  Cert.Ple.Gen.facts,
  Cert.PleIdeal.Gen.facts,
  Cert.PleReferenceIdeal.Gen.facts,
  Cert.Sgu.Gen.facts,
  Cert.SguIdeal.Gen.facts,
  Cert.SguReferenceIdeal.Gen.facts,
  Cert.NormIn.Gen.facts,
  Cert.NormInIdeal.Gen.facts,
  Cert.NormInReferenceIdeal.Gen.facts,
  Cert.NormFf.Gen.facts,
  Cert.NormFfIdeal.Gen.facts,
  Cert.NormFfReferenceIdeal.Gen.facts,
  Cert.NormGate.Gen.facts,
  Cert.NormGateIdeal.Gen.facts,
  Cert.NormGateReferenceIdeal.Gen.facts,
  Cert.Loss.Gen.facts,
  Cert.LossIdeal.Gen.facts,
  Cert.LossReferenceIdeal.Gen.facts,
  Cert.AdamNorm.Gen.facts,
  Cert.AdamNormIdeal.Gen.facts,
  Cert.AdamNormReferenceIdeal.Gen.facts,
  Cert.AdamHead.Gen.facts,
  Cert.AdamHeadIdeal.Gen.facts,
  Cert.AdamHeadReferenceIdeal.Gen.facts,
  Cert.AdamSguNorm.Gen.facts,
  Cert.AdamSguNormIdeal.Gen.facts,
  Cert.AdamSguNormReferenceIdeal.Gen.facts,
  Cert.AdamConv.Gen.facts,
  Cert.AdamConvIdeal.Gen.facts,
  Cert.AdamConvReferenceIdeal.Gen.facts,
  Cert.AdamSguW.Gen.facts,
  Cert.AdamSguWIdeal.Gen.facts,
  Cert.AdamSguWReferenceIdeal.Gen.facts,
  Cert.AdamSguB.Gen.facts,
  Cert.AdamSguBIdeal.Gen.facts,
  Cert.AdamSguBReferenceIdeal.Gen.facts,
  Cert.SguFwd.Gen.facts,
  Cert.SguFwdIdeal.Gen.facts,
  Cert.SguFwdReferenceIdeal.Gen.facts,
  Cert.ConvFwd.Gen.facts,
  Cert.ConvFwdIdeal.Gen.facts,
  Cert.ConvFwdReferenceIdeal.Gen.facts,
  Cert.AdamBig.Gen.facts,
  Cert.AdamBigIdeal.Gen.facts,
  Cert.AdamBigReferenceIdeal.Gen.facts,
  Cert.Pre_finite16.Gen.facts,
  Cert.Pre_finite27.Gen.facts,
  fun m ρ _ => Cert.Conv.Gen.frame m ρ,
  fun m ρ _ => Cert.ConvIdeal.Gen.frame m ρ,
  fun m ρ _ => (θ_run _ _ _).mono (fun r h => ⟨fun c => (h c).2.2.2.2, sem_eq_zero_of_no_sems rfl r.2⟩)
    (Cert.ConvReferenceIdeal.Value.run m ρ),
  fun m ρ _ => Cert.Dff2.Gen.frame m ρ,
  fun m ρ _ => Cert.Dff2Ideal.Gen.frame m ρ,
  fun m ρ _ => (θ_run _ _ _).mono (fun r h => ⟨fun c => (h c).2, sem_eq_zero_of_no_sems rfl r.2⟩)
    (Cert.Dff2ReferenceIdeal.Value.run m ρ),
  fun m ρ _ => Cert.Dw2.Gen.frame m ρ,
  fun m ρ _ => Cert.Dw2Ideal.Gen.frame m ρ,
  fun m ρ _ => (θ_run _ _ _).mono (fun r h => ⟨fun c => (h c).2, sem_eq_zero_of_no_sems rfl r.2⟩)
    (Cert.Dw2ReferenceIdeal.Value.run m ρ),
  fun m ρ _ => Cert.Dw1.Gen.frame m ρ,
  fun m ρ _ => Cert.Dw1Ideal.Gen.frame m ρ,
  fun m ρ _ => (θ_run _ _ _).mono (fun r h => ⟨fun c => (h c).2, sem_eq_zero_of_no_sems rfl r.2⟩)
    (Cert.Dw1ReferenceIdeal.Value.run m ρ),
  fun m ρ _ => Cert.Dnorm2.Gen.frame m ρ,
  fun m ρ _ => Cert.Dnorm2Ideal.Gen.frame m ρ,
  fun m ρ _ => (θ_run _ _ _).mono (fun r h => ⟨fun c => (h c).2.2, sem_eq_zero_of_no_sems rfl r.2⟩)
    (Cert.Dnorm2ReferenceIdeal.Value.run m ρ),
  fun m ρ _ => Cert.Dple.Gen.frame m ρ,
  fun m ρ _ => Cert.DpleIdeal.Gen.frame m ρ,
  fun m ρ _ => (θ_run _ _ _).mono (fun r h => ⟨fun c => (h c).2.2.2.2, sem_eq_zero_of_no_sems rfl r.2⟩)
    (Cert.DpleReferenceIdeal.Value.run m ρ),
  fun m ρ _ => Cert.Dwg.Gen.frame m ρ,
  fun m ρ _ => Cert.DwgIdeal.Gen.frame m ρ,
  fun m ρ _ => (θ_run _ _ _).mono (fun r h => ⟨fun c => (h c).2, sem_eq_zero_of_no_sems rfl r.2⟩)
    (Cert.DwgReferenceIdeal.Value.run m ρ),
  fun m ρ _ => Cert.Dwp.Gen.frame m ρ,
  fun m ρ _ => Cert.DwpIdeal.Gen.frame m ρ,
  fun m ρ _ => (θ_run _ _ _).mono (fun r h => ⟨fun c => (h c).2, sem_eq_zero_of_no_sems rfl r.2⟩)
    (Cert.DwpReferenceIdeal.Value.run m ρ),
  fun m ρ _ => Cert.Dout.Gen.frame m ρ,
  fun m ρ _ => Cert.DoutIdeal.Gen.frame m ρ,
  fun m ρ _ => (θ_run _ _ _).mono (fun r h => ⟨fun c => (h c).2, sem_eq_zero_of_no_sems rfl r.2⟩)
    (Cert.DoutReferenceIdeal.Value.run m ρ),
  fun m ρ _ => Cert.Dwo.Gen.frame m ρ,
  fun m ρ _ => Cert.DwoIdeal.Gen.frame m ρ,
  fun m ρ _ => (θ_run _ _ _).mono (fun r h => ⟨fun c => (h c).2, sem_eq_zero_of_no_sems rfl r.2⟩)
    (Cert.DwoReferenceIdeal.Value.run m ρ),
  fun m ρ _ => Cert.Dwi.Gen.frame m ρ,
  fun m ρ _ => Cert.DwiIdeal.Gen.frame m ρ,
  fun m ρ _ => (θ_run _ _ _).mono (fun r h => ⟨fun c => (h c).2, sem_eq_zero_of_no_sems rfl r.2⟩)
    (Cert.DwiReferenceIdeal.Value.run m ρ),
  fun m ρ _ => Cert.Dnorm1.Gen.frame m ρ,
  fun m ρ _ => Cert.Dnorm1Ideal.Gen.frame m ρ,
  fun m ρ _ => (θ_run _ _ _).mono (fun r h => ⟨fun c => (h c).2.2, sem_eq_zero_of_no_sems rfl r.2⟩)
    (Cert.Dnorm1ReferenceIdeal.Value.run m ρ),
  fun m ρ _ => Cert.Ff2.Gen.frame m ρ,
  fun m ρ _ => Cert.Ff2Ideal.Gen.frame m ρ,
  fun m ρ _ => (θ_run _ _ _).mono (fun r h => ⟨fun c => (h c).2, sem_eq_zero_of_no_sems rfl r.2⟩)
    (Cert.Ff2ReferenceIdeal.Value.run m ρ),
  fun m ρ _ => Cert.Out.Gen.frame m ρ,
  fun m ρ _ => Cert.OutIdeal.Gen.frame m ρ,
  fun m ρ _ => (θ_run _ _ _).mono (fun r h => ⟨fun c => (h c).2, sem_eq_zero_of_no_sems rfl r.2⟩)
    (Cert.OutReferenceIdeal.Value.run m ρ),
  fun m ρ _ => Cert.Ple.Gen.frame m ρ,
  fun m ρ _ => Cert.PleIdeal.Gen.frame m ρ,
  fun m ρ _ => (θ_run _ _ _).mono (fun r h => ⟨fun c => (h c).2.2, sem_eq_zero_of_no_sems rfl r.2⟩)
    (Cert.PleReferenceIdeal.Value.run m ρ),
  fun m ρ _ => Cert.Sgu.Gen.frame m ρ,
  fun m ρ _ => Cert.SguIdeal.Gen.frame m ρ,
  fun m ρ _ => Cert.SguIdeal.Gen.frame m ρ,
  fun m ρ _ => (θ_run _ _ _).mono (fun r h => ⟨fun c => (h c).2.2.2, sem_eq_zero_of_no_sems rfl r.2⟩)
    (Cert.SguReferenceIdeal.Value.run m ρ),
  fun m ρ _ => (θ_run _ _ _).mono (fun r h => ⟨fun c => (h c).2.2.2, sem_eq_zero_of_no_sems rfl r.2⟩)
    (Cert.SguReferenceIdeal.Value.run m ρ),
  fun m ρ _ => by
    rw [Cert.NormFrames.normIn_defs]
    exact Cert.NormInIdeal.Run.frame (F := Bits) m ρ,
  fun m ρ _ => Cert.NormInIdeal.Run.frame m ρ,
  fun m ρ _ => (θ_run _ _ _).mono (fun r h => ⟨fun c => (h c).2.2, sem_eq_zero_of_no_sems rfl r.2⟩)
    (Cert.NormInReferenceIdeal.Value.run m ρ),
  fun m ρ _ => by
    rw [Cert.NormFrames.normFf_defs]
    exact Cert.NormFfIdeal.Run.frame (F := Bits) m ρ,
  fun m ρ _ => Cert.NormFfIdeal.Run.frame m ρ,
  fun m ρ _ => (θ_run _ _ _).mono (fun r h => ⟨fun c => (h c).2.2, sem_eq_zero_of_no_sems rfl r.2⟩)
    (Cert.NormFfReferenceIdeal.Value.run m ρ),
  fun m ρ _ => by
    rw [Cert.NormFrames.normGate_defs]
    exact Cert.NormGateIdeal.Run.frame (F := Bits) m ρ,
  fun m ρ _ => Cert.NormGateIdeal.Run.frame m ρ,
  fun m ρ _ => (θ_run _ _ _).mono (fun r h => ⟨fun c => (h c).2.2, sem_eq_zero_of_no_sems rfl r.2⟩)
    (Cert.NormGateReferenceIdeal.Value.run m ρ),
  fun m ρ _ => Cert.Loss.Gen.frame m ρ,
  fun m ρ _ => Cert.LossIdeal.Gen.frame m ρ,
  fun m ρ _ => (θ_run _ _ _).mono (fun r h => ⟨fun c => (h c).2.2, sem_eq_zero_of_no_sems rfl r.2⟩)
    (Cert.LossReferenceIdeal.Value.run m ρ),
  fun m ρ _ => Cert.AdamNorm.Gen.frame m ρ,
  fun m ρ _ => Cert.AdamNormIdeal.Gen.frame m ρ,
  fun m ρ _ => (θ_run _ _ _).mono (fun r h => ⟨fun c => (h c).2.2.2, sem_eq_zero_of_no_sems rfl r.2⟩)
    (Cert.AdamNormReferenceIdeal.Value.run m ρ),
  fun m ρ _ => Cert.AdamHead.Gen.frame m ρ,
  fun m ρ _ => Cert.AdamHeadIdeal.Gen.frame m ρ,
  fun m ρ _ => (θ_run _ _ _).mono (fun r h => ⟨fun c => (h c).2.2.2, sem_eq_zero_of_no_sems rfl r.2⟩)
    (Cert.AdamHeadReferenceIdeal.Value.run m ρ),
  fun m ρ _ => Cert.AdamSguNorm.Gen.frame m ρ,
  fun m ρ _ => Cert.AdamSguNormIdeal.Gen.frame m ρ,
  fun m ρ _ => (θ_run _ _ _).mono (fun r h => ⟨fun c => (h c).2.2.2, sem_eq_zero_of_no_sems rfl r.2⟩)
    (Cert.AdamSguNormReferenceIdeal.Value.run m ρ),
  fun m ρ _ => Cert.AdamConv.Gen.frame m ρ,
  fun m ρ _ => Cert.AdamConvIdeal.Gen.frame m ρ,
  fun m ρ _ => (θ_run _ _ _).mono (fun r h => ⟨fun c => (h c).2.2.2, sem_eq_zero_of_no_sems rfl r.2⟩)
    (Cert.AdamConvReferenceIdeal.Value.run m ρ),
  fun m ρ _ => Cert.AdamSguW.Gen.frame m ρ,
  fun m ρ _ => Cert.AdamSguWIdeal.Gen.frame m ρ,
  fun m ρ _ => (θ_run _ _ _).mono (fun r h => ⟨fun c => (h c).2.2.2, sem_eq_zero_of_no_sems rfl r.2⟩)
    (Cert.AdamSguWReferenceIdeal.Value.run m ρ),
  fun m ρ _ => Cert.AdamSguB.Gen.frame m ρ,
  fun m ρ _ => Cert.AdamSguBIdeal.Gen.frame m ρ,
  fun m ρ _ => (θ_run _ _ _).mono (fun r h => ⟨fun c => (h c).2.2.2, sem_eq_zero_of_no_sems rfl r.2⟩)
    (Cert.AdamSguBReferenceIdeal.Value.run m ρ),
  fun m ρ _ => Cert.SguFwd.Gen.frame m ρ,
  fun m ρ _ => Cert.SguFwdIdeal.Gen.frame m ρ,
  fun m ρ _ => Cert.SguFwdIdeal.Gen.frame m ρ,
  fun m ρ _ => (θ_run _ _ _).mono (fun r h => ⟨fun c => (h c).2, sem_eq_zero_of_no_sems rfl r.2⟩)
    (Cert.SguFwdReferenceIdeal.Value.run m ρ),
  fun m ρ _ => (θ_run _ _ _).mono (fun r h => ⟨fun c => (h c).2, sem_eq_zero_of_no_sems rfl r.2⟩)
    (Cert.SguFwdReferenceIdeal.Value.run m ρ),
  fun m ρ _ => Cert.ConvFwd.Gen.frame m ρ,
  fun m ρ _ => Cert.ConvFwdIdeal.Gen.frame m ρ,
  fun m ρ _ => (θ_run _ _ _).mono (fun r h => ⟨fun c => (h c).2, sem_eq_zero_of_no_sems rfl r.2⟩)
    (Cert.ConvFwdReferenceIdeal.Value.run m ρ),
  Cert.AdamBigPrinted.frame,
  fun m ρ _ => Cert.AdamBigIdeal.Run.frame m ρ,
  fun m ρ _ => (θ_run _ _ _).mono (fun r h => ⟨fun c => (h c).2.2.2.2.2.2.2.2.2.2.2.2.2.2.2.2.2.2.2.2.2.2.2.2, sem_eq_zero_of_no_sems rfl r.2⟩)
    (Cert.AdamBigReferenceIdeal.Value.run m ρ),
  trivial,
  Cert.ConvClaim.algebraic,
  trivial,
  Cert.BackwardClaims.dff2,
  trivial,
  Cert.BackwardClaims.dw2,
  trivial,
  Cert.BackwardClaims.dw1,
  trivial,
  Cert.BackwardClaims.dnorm2,
  trivial,
  Cert.BackwardClaims.dple,
  trivial,
  Cert.BackwardClaims.dwg,
  trivial,
  Cert.BackwardClaims.dwp,
  trivial,
  Cert.BackwardClaims.dout,
  trivial,
  Cert.BackwardClaims.dwo,
  trivial,
  Cert.BackwardClaims.dwi,
  trivial,
  Cert.BackwardClaims.dnorm1,
  trivial,
  Cert.ForwardClaims.ff2,
  trivial,
  Cert.ForwardClaims.out,
  trivial,
  Cert.ForwardClaims.ple,
  trivial,
  Cert.SguClaim.algebraic,
  trivial,
  Cert.ForwardClaims.normIn,
  trivial,
  Cert.ForwardClaims.normFf,
  trivial,
  Cert.ForwardClaims.normGate,
  trivial,
  Cert.OptimiserClaims.loss,
  trivial,
  Cert.OptimiserClaims.adamNorm,
  trivial,
  Cert.OptimiserClaims.adamHead,
  trivial,
  Cert.OptimiserClaims.adamSguNorm,
  trivial,
  Cert.OptimiserClaims.adamConv,
  trivial,
  Cert.OptimiserClaims.adamSguW,
  trivial,
  Cert.OptimiserClaims.adamSguB,
  trivial,
  Cert.SguFwdClaim.algebraic,
  trivial,
  Cert.ConvFwdClaim.algebraic,
  trivial,
  Cert.AdamBigClaim.algebraic⟩

end Cert.Proof

end
